-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_Entry (m : (ℓ : Loc Cert.Entry.nD Cert.Entry.τ Cert.Entry.sig) → Buf (Elt Bits) ℓ) : Prop :=
  True

def Pre_EntryIdeal (m : (ℓ : Loc Cert.EntryIdeal.nD Cert.EntryIdeal.τ Cert.EntryIdeal.sig) → Buf (Elt Ideal) ℓ) : Prop :=
  True

def Pre_EntryReferenceIdeal (m : (ℓ : Loc Cert.EntryReferenceIdeal.nD Cert.EntryReferenceIdeal.τ Cert.EntryReferenceIdeal.sig) → Buf (Elt Ideal) ℓ) : Prop :=
  True

def Pre_Exit (m : (ℓ : Loc Cert.Exit.nD Cert.Exit.τ Cert.Exit.sig) → Buf (Elt Bits) ℓ) : Prop :=
  True

def Pre_ExitIdeal (m : (ℓ : Loc Cert.ExitIdeal.nD Cert.ExitIdeal.τ Cert.ExitIdeal.sig) → Buf (Elt Ideal) ℓ) : Prop :=
  True

def Pre_ExitReferenceIdeal (m : (ℓ : Loc Cert.ExitReferenceIdeal.nD Cert.ExitReferenceIdeal.τ Cert.ExitReferenceIdeal.sig) → Buf (Elt Ideal) ℓ) : Prop :=
  True

def Pre_Attended (m : (ℓ : Loc Cert.Attended.nD Cert.Attended.τ Cert.Attended.sig) → Buf (Elt Bits) ℓ) : Prop :=
  True

def Pre_AttendedIdeal (m : (ℓ : Loc Cert.AttendedIdeal.nD Cert.AttendedIdeal.τ Cert.AttendedIdeal.sig) → Buf (Elt Ideal) ℓ) : Prop :=
  True

def Pre_AttendedReferenceIdeal (m : (ℓ : Loc Cert.AttendedReferenceIdeal.nD Cert.AttendedReferenceIdeal.τ Cert.AttendedReferenceIdeal.sig) → Buf (Elt Ideal) ℓ) : Prop :=
  True

def Pre_KeyValue (m : (ℓ : Loc Cert.KeyValue.nD Cert.KeyValue.τ Cert.KeyValue.sig) → Buf (Elt Bits) ℓ) : Prop :=
  True

def Pre_KeyValueIdeal (m : (ℓ : Loc Cert.KeyValueIdeal.nD Cert.KeyValueIdeal.τ Cert.KeyValueIdeal.sig) → Buf (Elt Ideal) ℓ) : Prop :=
  True

def Pre_KeyValueReferenceIdeal (m : (ℓ : Loc Cert.KeyValueReferenceIdeal.nD Cert.KeyValueReferenceIdeal.τ Cert.KeyValueReferenceIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryReferenceIdeal (m : (ℓ : Loc Cert.QueryReferenceIdeal.nD Cert.QueryReferenceIdeal.τ Cert.QueryReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2))
      ∧ r.2.sem = fun _ => 0)

def quiescent_Entry [hEntry : Cert.Entry.Facts] : Prop :=
  ∀ (m : (ℓ : Loc Cert.Entry.nD Cert.Entry.τ Cert.Entry.sig) → Buf (Elt Bits) ℓ) (g : Dev Cert.Entry.nD → PrngReg), Pre_Entry m →
    θ_run (Cert.Entry.defs (F := Bits)) (onTc (τ := Cert.Entry.τ) (Cert.Entry.main (F := Bits))) ⟨m, fun _ => 0, g⟩ (fun r => (∀ c : Dev Cert.Entry.nD,
      r.2.mem ((c.tc : Thread Cert.Entry.nD Cert.Entry.τ).loc Cert.Entry.main_arg0) = m ((c.tc : Thread Cert.Entry.nD Cert.Entry.τ).loc Cert.Entry.main_arg0)
      ∧ r.2.mem ((c.tc : Thread Cert.Entry.nD Cert.Entry.τ).loc Cert.Entry.main_arg1) = m ((c.tc : Thread Cert.Entry.nD Cert.Entry.τ).loc Cert.Entry.main_arg1)
      ∧ r.2.mem ((c.tc : Thread Cert.Entry.nD Cert.Entry.τ).loc Cert.Entry.main_arg2) = m ((c.tc : Thread Cert.Entry.nD Cert.Entry.τ).loc Cert.Entry.main_arg2))
      ∧ r.2.sem = fun _ => 0)

def quiescent_EntryIdeal [hEntryIdeal : Cert.EntryIdeal.Facts] : Prop :=
  ∀ (m : (ℓ : Loc Cert.EntryIdeal.nD Cert.EntryIdeal.τ Cert.EntryIdeal.sig) → Buf (Elt Ideal) ℓ) (g : Dev Cert.EntryIdeal.nD → PrngReg), Pre_EntryIdeal m →
    θ_run (Cert.EntryIdeal.defs (F := Ideal)) (onTc (τ := Cert.EntryIdeal.τ) (Cert.EntryIdeal.main (F := Ideal))) ⟨m, fun _ => 0, g⟩ (fun r => (∀ c : Dev Cert.EntryIdeal.nD,
      r.2.mem ((c.tc : Thread Cert.EntryIdeal.nD Cert.EntryIdeal.τ).loc Cert.EntryIdeal.main_arg0) = m ((c.tc : Thread Cert.EntryIdeal.nD Cert.EntryIdeal.τ).loc Cert.EntryIdeal.main_arg0)
      ∧ r.2.mem ((c.tc : Thread Cert.EntryIdeal.nD Cert.EntryIdeal.τ).loc Cert.EntryIdeal.main_arg1) = m ((c.tc : Thread Cert.EntryIdeal.nD Cert.EntryIdeal.τ).loc Cert.EntryIdeal.main_arg1)
      ∧ r.2.mem ((c.tc : Thread Cert.EntryIdeal.nD Cert.EntryIdeal.τ).loc Cert.EntryIdeal.main_arg2) = m ((c.tc : Thread Cert.EntryIdeal.nD Cert.EntryIdeal.τ).loc Cert.EntryIdeal.main_arg2))
      ∧ r.2.sem = fun _ => 0)

def quiescent_EntryReferenceIdeal [hEntryReferenceIdeal : Cert.EntryReferenceIdeal.Facts] : Prop :=
  ∀ (m : (ℓ : Loc Cert.EntryReferenceIdeal.nD Cert.EntryReferenceIdeal.τ Cert.EntryReferenceIdeal.sig) → Buf (Elt Ideal) ℓ) (g : Dev Cert.EntryReferenceIdeal.nD → PrngReg), Pre_EntryReferenceIdeal m →
    θ_run (Cert.EntryReferenceIdeal.defs (F := Ideal)) (onTc (τ := Cert.EntryReferenceIdeal.τ) (Cert.EntryReferenceIdeal.main (F := Ideal))) ⟨m, fun _ => 0, g⟩ (fun r => (∀ c : Dev Cert.EntryReferenceIdeal.nD,
      r.2.mem ((c.tc : Thread Cert.EntryReferenceIdeal.nD Cert.EntryReferenceIdeal.τ).loc Cert.EntryReferenceIdeal.main_arg0) = m ((c.tc : Thread Cert.EntryReferenceIdeal.nD Cert.EntryReferenceIdeal.τ).loc Cert.EntryReferenceIdeal.main_arg0)
      ∧ r.2.mem ((c.tc : Thread Cert.EntryReferenceIdeal.nD Cert.EntryReferenceIdeal.τ).loc Cert.EntryReferenceIdeal.main_arg1) = m ((c.tc : Thread Cert.EntryReferenceIdeal.nD Cert.EntryReferenceIdeal.τ).loc Cert.EntryReferenceIdeal.main_arg1)
      ∧ r.2.mem ((c.tc : Thread Cert.EntryReferenceIdeal.nD Cert.EntryReferenceIdeal.τ).loc Cert.EntryReferenceIdeal.main_arg2) = m ((c.tc : Thread Cert.EntryReferenceIdeal.nD Cert.EntryReferenceIdeal.τ).loc Cert.EntryReferenceIdeal.main_arg2))
      ∧ r.2.sem = fun _ => 0)

def quiescent_Exit [hExit : Cert.Exit.Facts] : Prop :=
  ∀ (m : (ℓ : Loc Cert.Exit.nD Cert.Exit.τ Cert.Exit.sig) → Buf (Elt Bits) ℓ) (g : Dev Cert.Exit.nD → PrngReg), Pre_Exit m →
    θ_run (Cert.Exit.defs (F := Bits)) (onTc (τ := Cert.Exit.τ) (Cert.Exit.main (F := Bits))) ⟨m, fun _ => 0, g⟩ (fun r => (∀ c : Dev Cert.Exit.nD,
      r.2.mem ((c.tc : Thread Cert.Exit.nD Cert.Exit.τ).loc Cert.Exit.main_arg0) = m ((c.tc : Thread Cert.Exit.nD Cert.Exit.τ).loc Cert.Exit.main_arg0)
      ∧ r.2.mem ((c.tc : Thread Cert.Exit.nD Cert.Exit.τ).loc Cert.Exit.main_arg1) = m ((c.tc : Thread Cert.Exit.nD Cert.Exit.τ).loc Cert.Exit.main_arg1)
      ∧ r.2.mem ((c.tc : Thread Cert.Exit.nD Cert.Exit.τ).loc Cert.Exit.main_arg2) = m ((c.tc : Thread Cert.Exit.nD Cert.Exit.τ).loc Cert.Exit.main_arg2))
      ∧ r.2.sem = fun _ => 0)

def quiescent_ExitIdeal [hExitIdeal : Cert.ExitIdeal.Facts] : Prop :=
  ∀ (m : (ℓ : Loc Cert.ExitIdeal.nD Cert.ExitIdeal.τ Cert.ExitIdeal.sig) → Buf (Elt Ideal) ℓ) (g : Dev Cert.ExitIdeal.nD → PrngReg), Pre_ExitIdeal m →
    θ_run (Cert.ExitIdeal.defs (F := Ideal)) (onTc (τ := Cert.ExitIdeal.τ) (Cert.ExitIdeal.main (F := Ideal))) ⟨m, fun _ => 0, g⟩ (fun r => (∀ c : Dev Cert.ExitIdeal.nD,
      r.2.mem ((c.tc : Thread Cert.ExitIdeal.nD Cert.ExitIdeal.τ).loc Cert.ExitIdeal.main_arg0) = m ((c.tc : Thread Cert.ExitIdeal.nD Cert.ExitIdeal.τ).loc Cert.ExitIdeal.main_arg0)
      ∧ r.2.mem ((c.tc : Thread Cert.ExitIdeal.nD Cert.ExitIdeal.τ).loc Cert.ExitIdeal.main_arg1) = m ((c.tc : Thread Cert.ExitIdeal.nD Cert.ExitIdeal.τ).loc Cert.ExitIdeal.main_arg1)
      ∧ r.2.mem ((c.tc : Thread Cert.ExitIdeal.nD Cert.ExitIdeal.τ).loc Cert.ExitIdeal.main_arg2) = m ((c.tc : Thread Cert.ExitIdeal.nD Cert.ExitIdeal.τ).loc Cert.ExitIdeal.main_arg2))
      ∧ r.2.sem = fun _ => 0)

def quiescent_ExitReferenceIdeal [hExitReferenceIdeal : Cert.ExitReferenceIdeal.Facts] : Prop :=
  ∀ (m : (ℓ : Loc Cert.ExitReferenceIdeal.nD Cert.ExitReferenceIdeal.τ Cert.ExitReferenceIdeal.sig) → Buf (Elt Ideal) ℓ) (g : Dev Cert.ExitReferenceIdeal.nD → PrngReg), Pre_ExitReferenceIdeal m →
    θ_run (Cert.ExitReferenceIdeal.defs (F := Ideal)) (onTc (τ := Cert.ExitReferenceIdeal.τ) (Cert.ExitReferenceIdeal.main (F := Ideal))) ⟨m, fun _ => 0, g⟩ (fun r => (∀ c : Dev Cert.ExitReferenceIdeal.nD,
      r.2.mem ((c.tc : Thread Cert.ExitReferenceIdeal.nD Cert.ExitReferenceIdeal.τ).loc Cert.ExitReferenceIdeal.main_arg0) = m ((c.tc : Thread Cert.ExitReferenceIdeal.nD Cert.ExitReferenceIdeal.τ).loc Cert.ExitReferenceIdeal.main_arg0)
      ∧ r.2.mem ((c.tc : Thread Cert.ExitReferenceIdeal.nD Cert.ExitReferenceIdeal.τ).loc Cert.ExitReferenceIdeal.main_arg1) = m ((c.tc : Thread Cert.ExitReferenceIdeal.nD Cert.ExitReferenceIdeal.τ).loc Cert.ExitReferenceIdeal.main_arg1)
      ∧ r.2.mem ((c.tc : Thread Cert.ExitReferenceIdeal.nD Cert.ExitReferenceIdeal.τ).loc Cert.ExitReferenceIdeal.main_arg2) = m ((c.tc : Thread Cert.ExitReferenceIdeal.nD Cert.ExitReferenceIdeal.τ).loc Cert.ExitReferenceIdeal.main_arg2))
      ∧ r.2.sem = fun _ => 0)

def quiescent_Attended [hAttended : Cert.Attended.Facts] : Prop :=
  ∀ (m : (ℓ : Loc Cert.Attended.nD Cert.Attended.τ Cert.Attended.sig) → Buf (Elt Bits) ℓ) (g : Dev Cert.Attended.nD → PrngReg), Pre_Attended m →
    θ_run (Cert.Attended.defs (F := Bits)) (onTc (τ := Cert.Attended.τ) (Cert.Attended.main (F := Bits))) ⟨m, fun _ => 0, g⟩ (fun r => (∀ c : Dev Cert.Attended.nD,
      r.2.mem ((c.tc : Thread Cert.Attended.nD Cert.Attended.τ).loc Cert.Attended.main_arg0) = m ((c.tc : Thread Cert.Attended.nD Cert.Attended.τ).loc Cert.Attended.main_arg0)
      ∧ r.2.mem ((c.tc : Thread Cert.Attended.nD Cert.Attended.τ).loc Cert.Attended.main_arg1) = m ((c.tc : Thread Cert.Attended.nD Cert.Attended.τ).loc Cert.Attended.main_arg1)
      ∧ r.2.mem ((c.tc : Thread Cert.Attended.nD Cert.Attended.τ).loc Cert.Attended.main_arg2) = m ((c.tc : Thread Cert.Attended.nD Cert.Attended.τ).loc Cert.Attended.main_arg2))
      ∧ r.2.sem = fun _ => 0)

def quiescent_AttendedIdeal [hAttendedIdeal : Cert.AttendedIdeal.Facts] : Prop :=
  ∀ (m : (ℓ : Loc Cert.AttendedIdeal.nD Cert.AttendedIdeal.τ Cert.AttendedIdeal.sig) → Buf (Elt Ideal) ℓ) (g : Dev Cert.AttendedIdeal.nD → PrngReg), Pre_AttendedIdeal m →
    θ_run (Cert.AttendedIdeal.defs (F := Ideal)) (onTc (τ := Cert.AttendedIdeal.τ) (Cert.AttendedIdeal.main (F := Ideal))) ⟨m, fun _ => 0, g⟩ (fun r => (∀ c : Dev Cert.AttendedIdeal.nD,
      r.2.mem ((c.tc : Thread Cert.AttendedIdeal.nD Cert.AttendedIdeal.τ).loc Cert.AttendedIdeal.main_arg0) = m ((c.tc : Thread Cert.AttendedIdeal.nD Cert.AttendedIdeal.τ).loc Cert.AttendedIdeal.main_arg0)
      ∧ r.2.mem ((c.tc : Thread Cert.AttendedIdeal.nD Cert.AttendedIdeal.τ).loc Cert.AttendedIdeal.main_arg1) = m ((c.tc : Thread Cert.AttendedIdeal.nD Cert.AttendedIdeal.τ).loc Cert.AttendedIdeal.main_arg1)
      ∧ r.2.mem ((c.tc : Thread Cert.AttendedIdeal.nD Cert.AttendedIdeal.τ).loc Cert.AttendedIdeal.main_arg2) = m ((c.tc : Thread Cert.AttendedIdeal.nD Cert.AttendedIdeal.τ).loc Cert.AttendedIdeal.main_arg2))
      ∧ r.2.sem = fun _ => 0)

def quiescent_AttendedReferenceIdeal [hAttendedReferenceIdeal : Cert.AttendedReferenceIdeal.Facts] : Prop :=
  ∀ (m : (ℓ : Loc Cert.AttendedReferenceIdeal.nD Cert.AttendedReferenceIdeal.τ Cert.AttendedReferenceIdeal.sig) → Buf (Elt Ideal) ℓ) (g : Dev Cert.AttendedReferenceIdeal.nD → PrngReg), Pre_AttendedReferenceIdeal m →
    θ_run (Cert.AttendedReferenceIdeal.defs (F := Ideal)) (onTc (τ := Cert.AttendedReferenceIdeal.τ) (Cert.AttendedReferenceIdeal.main (F := Ideal))) ⟨m, fun _ => 0, g⟩ (fun r => (∀ c : Dev Cert.AttendedReferenceIdeal.nD,
      r.2.mem ((c.tc : Thread Cert.AttendedReferenceIdeal.nD Cert.AttendedReferenceIdeal.τ).loc Cert.AttendedReferenceIdeal.main_arg0) = m ((c.tc : Thread Cert.AttendedReferenceIdeal.nD Cert.AttendedReferenceIdeal.τ).loc Cert.AttendedReferenceIdeal.main_arg0)
      ∧ r.2.mem ((c.tc : Thread Cert.AttendedReferenceIdeal.nD Cert.AttendedReferenceIdeal.τ).loc Cert.AttendedReferenceIdeal.main_arg1) = m ((c.tc : Thread Cert.AttendedReferenceIdeal.nD Cert.AttendedReferenceIdeal.τ).loc Cert.AttendedReferenceIdeal.main_arg1)
      ∧ r.2.mem ((c.tc : Thread Cert.AttendedReferenceIdeal.nD Cert.AttendedReferenceIdeal.τ).loc Cert.AttendedReferenceIdeal.main_arg2) = m ((c.tc : Thread Cert.AttendedReferenceIdeal.nD Cert.AttendedReferenceIdeal.τ).loc Cert.AttendedReferenceIdeal.main_arg2))
      ∧ r.2.sem = fun _ => 0)

def quiescent_KeyValue [hKeyValue : Cert.KeyValue.Facts] : Prop :=
  ∀ (m : (ℓ : Loc Cert.KeyValue.nD Cert.KeyValue.τ Cert.KeyValue.sig) → Buf (Elt Bits) ℓ) (g : Dev Cert.KeyValue.nD → PrngReg), Pre_KeyValue m →
    θ_run (Cert.KeyValue.defs (F := Bits)) (onTc (τ := Cert.KeyValue.τ) (Cert.KeyValue.main (F := Bits))) ⟨m, fun _ => 0, g⟩ (fun r => (∀ c : Dev Cert.KeyValue.nD,
      r.2.mem ((c.tc : Thread Cert.KeyValue.nD Cert.KeyValue.τ).loc Cert.KeyValue.main_arg0) = m ((c.tc : Thread Cert.KeyValue.nD Cert.KeyValue.τ).loc Cert.KeyValue.main_arg0)
      ∧ r.2.mem ((c.tc : Thread Cert.KeyValue.nD Cert.KeyValue.τ).loc Cert.KeyValue.main_arg1) = m ((c.tc : Thread Cert.KeyValue.nD Cert.KeyValue.τ).loc Cert.KeyValue.main_arg1)
      ∧ r.2.mem ((c.tc : Thread Cert.KeyValue.nD Cert.KeyValue.τ).loc Cert.KeyValue.main_arg2) = m ((c.tc : Thread Cert.KeyValue.nD Cert.KeyValue.τ).loc Cert.KeyValue.main_arg2))
      ∧ r.2.sem = fun _ => 0)

def quiescent_KeyValueIdeal [hKeyValueIdeal : Cert.KeyValueIdeal.Facts] : Prop :=
  ∀ (m : (ℓ : Loc Cert.KeyValueIdeal.nD Cert.KeyValueIdeal.τ Cert.KeyValueIdeal.sig) → Buf (Elt Ideal) ℓ) (g : Dev Cert.KeyValueIdeal.nD → PrngReg), Pre_KeyValueIdeal m →
    θ_run (Cert.KeyValueIdeal.defs (F := Ideal)) (onTc (τ := Cert.KeyValueIdeal.τ) (Cert.KeyValueIdeal.main (F := Ideal))) ⟨m, fun _ => 0, g⟩ (fun r => (∀ c : Dev Cert.KeyValueIdeal.nD,
      r.2.mem ((c.tc : Thread Cert.KeyValueIdeal.nD Cert.KeyValueIdeal.τ).loc Cert.KeyValueIdeal.main_arg0) = m ((c.tc : Thread Cert.KeyValueIdeal.nD Cert.KeyValueIdeal.τ).loc Cert.KeyValueIdeal.main_arg0)
      ∧ r.2.mem ((c.tc : Thread Cert.KeyValueIdeal.nD Cert.KeyValueIdeal.τ).loc Cert.KeyValueIdeal.main_arg1) = m ((c.tc : Thread Cert.KeyValueIdeal.nD Cert.KeyValueIdeal.τ).loc Cert.KeyValueIdeal.main_arg1)
      ∧ r.2.mem ((c.tc : Thread Cert.KeyValueIdeal.nD Cert.KeyValueIdeal.τ).loc Cert.KeyValueIdeal.main_arg2) = m ((c.tc : Thread Cert.KeyValueIdeal.nD Cert.KeyValueIdeal.τ).loc Cert.KeyValueIdeal.main_arg2))
      ∧ r.2.sem = fun _ => 0)

def quiescent_KeyValueReferenceIdeal [hKeyValueReferenceIdeal : Cert.KeyValueReferenceIdeal.Facts] : Prop :=
  ∀ (m : (ℓ : Loc Cert.KeyValueReferenceIdeal.nD Cert.KeyValueReferenceIdeal.τ Cert.KeyValueReferenceIdeal.sig) → Buf (Elt Ideal) ℓ) (g : Dev Cert.KeyValueReferenceIdeal.nD → PrngReg), Pre_KeyValueReferenceIdeal m →
    θ_run (Cert.KeyValueReferenceIdeal.defs (F := Ideal)) (onTc (τ := Cert.KeyValueReferenceIdeal.τ) (Cert.KeyValueReferenceIdeal.main (F := Ideal))) ⟨m, fun _ => 0, g⟩ (fun r => (∀ c : Dev Cert.KeyValueReferenceIdeal.nD,
      r.2.mem ((c.tc : Thread Cert.KeyValueReferenceIdeal.nD Cert.KeyValueReferenceIdeal.τ).loc Cert.KeyValueReferenceIdeal.main_arg0) = m ((c.tc : Thread Cert.KeyValueReferenceIdeal.nD Cert.KeyValueReferenceIdeal.τ).loc Cert.KeyValueReferenceIdeal.main_arg0)
      ∧ r.2.mem ((c.tc : Thread Cert.KeyValueReferenceIdeal.nD Cert.KeyValueReferenceIdeal.τ).loc Cert.KeyValueReferenceIdeal.main_arg1) = m ((c.tc : Thread Cert.KeyValueReferenceIdeal.nD Cert.KeyValueReferenceIdeal.τ).loc Cert.KeyValueReferenceIdeal.main_arg1)
      ∧ r.2.mem ((c.tc : Thread Cert.KeyValueReferenceIdeal.nD Cert.KeyValueReferenceIdeal.τ).loc Cert.KeyValueReferenceIdeal.main_arg2) = m ((c.tc : Thread Cert.KeyValueReferenceIdeal.nD Cert.KeyValueReferenceIdeal.τ).loc Cert.KeyValueReferenceIdeal.main_arg2))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ r.2.sem = fun _ => 0)

def quiescent_QueryReferenceIdeal [hQueryReferenceIdeal : Cert.QueryReferenceIdeal.Facts] : Prop :=
  ∀ (m : (ℓ : Loc Cert.QueryReferenceIdeal.nD Cert.QueryReferenceIdeal.τ Cert.QueryReferenceIdeal.sig) → Buf (Elt Ideal) ℓ) (g : Dev Cert.QueryReferenceIdeal.nD → PrngReg), Pre_QueryReferenceIdeal m →
    θ_run (Cert.QueryReferenceIdeal.defs (F := Ideal)) (onTc (τ := Cert.QueryReferenceIdeal.τ) (Cert.QueryReferenceIdeal.main (F := Ideal))) ⟨m, fun _ => 0, g⟩ (fun r => (∀ c : Dev Cert.QueryReferenceIdeal.nD,
      r.2.mem ((c.tc : Thread Cert.QueryReferenceIdeal.nD Cert.QueryReferenceIdeal.τ).loc Cert.QueryReferenceIdeal.main_arg0) = m ((c.tc : Thread Cert.QueryReferenceIdeal.nD Cert.QueryReferenceIdeal.τ).loc Cert.QueryReferenceIdeal.main_arg0)
      ∧ r.2.mem ((c.tc : Thread Cert.QueryReferenceIdeal.nD Cert.QueryReferenceIdeal.τ).loc Cert.QueryReferenceIdeal.main_arg1) = m ((c.tc : Thread Cert.QueryReferenceIdeal.nD Cert.QueryReferenceIdeal.τ).loc Cert.QueryReferenceIdeal.main_arg1)
      ∧ r.2.mem ((c.tc : Thread Cert.QueryReferenceIdeal.nD Cert.QueryReferenceIdeal.τ).loc Cert.QueryReferenceIdeal.main_arg2) = m ((c.tc : Thread Cert.QueryReferenceIdeal.nD Cert.QueryReferenceIdeal.τ).loc Cert.QueryReferenceIdeal.main_arg2))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v1)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v1) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v21) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3))

def preserves_Last_LastIdeal : Prop :=
  True

def algebraic_LastIdeal_LastReferenceIdeal [hLastIdeal : Cert.LastIdeal.Facts] [hLastReferenceIdeal : Cert.LastReferenceIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastIdeal m →
    (∀ c : Dev Cert.LastIdeal.nD,
      m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)
      ∧ m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2)
      ∧ m' ((c.tc : Thread Cert.LastReferenceIdeal.nD Cert.LastReferenceIdeal.τ).loc Cert.LastReferenceIdeal.main_arg3) = m ((c.tc : Thread Cert.LastIdeal.nD Cert.LastIdeal.τ).loc Cert.LastIdeal.main_arg3)
      ∧ m' ((c.tc : Thread Cert.LastReferenceIdeal.nD Cert.LastReferenceIdeal.τ).loc Cert.LastReferenceIdeal.main_arg4) = m ((c.tc : Thread Cert.LastIdeal.nD Cert.LastIdeal.τ).loc Cert.LastIdeal.main_arg4)) →
    ∃ (v0 : (c : Dev Cert.LastIdeal.nD) → Buf (Elt Ideal) ((c.tc : Thread Cert.LastIdeal.nD Cert.LastIdeal.τ).loc Cert.LastIdeal.main_v2)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v2) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v37) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3)
          ∧ r.2.mem ((c.tc : Thread Cert.LastReferenceIdeal.nD Cert.LastReferenceIdeal.τ).loc Cert.LastReferenceIdeal.main_arg4) = m' ((c.tc : Thread Cert.LastReferenceIdeal.nD Cert.LastReferenceIdeal.τ).loc Cert.LastReferenceIdeal.main_arg4))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v30) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2))

def preserves_Entry_EntryIdeal : Prop :=
  True

def algebraic_EntryIdeal_EntryReferenceIdeal [hEntryIdeal : Cert.EntryIdeal.Facts] [hEntryReferenceIdeal : Cert.EntryReferenceIdeal.Facts] : Prop :=
  ∀ (m : (ℓ : Loc Cert.EntryIdeal.nD Cert.EntryIdeal.τ Cert.EntryIdeal.sig) → Buf (Elt Ideal) ℓ) (g : Dev Cert.EntryIdeal.nD → PrngReg)
    (m' : (ℓ : Loc Cert.EntryReferenceIdeal.nD Cert.EntryReferenceIdeal.τ Cert.EntryReferenceIdeal.sig) → Buf (Elt Ideal) ℓ) (g' : Dev Cert.EntryReferenceIdeal.nD → PrngReg), Pre_EntryIdeal m →
    (∀ c : Dev Cert.EntryIdeal.nD,
      m' ((c.tc : Thread Cert.EntryReferenceIdeal.nD Cert.EntryReferenceIdeal.τ).loc Cert.EntryReferenceIdeal.main_arg0) = m ((c.tc : Thread Cert.EntryIdeal.nD Cert.EntryIdeal.τ).loc Cert.EntryIdeal.main_arg0)
      ∧ m' ((c.tc : Thread Cert.EntryReferenceIdeal.nD Cert.EntryReferenceIdeal.τ).loc Cert.EntryReferenceIdeal.main_arg1) = m ((c.tc : Thread Cert.EntryIdeal.nD Cert.EntryIdeal.τ).loc Cert.EntryIdeal.main_arg1)
      ∧ m' ((c.tc : Thread Cert.EntryReferenceIdeal.nD Cert.EntryReferenceIdeal.τ).loc Cert.EntryReferenceIdeal.main_arg2) = m ((c.tc : Thread Cert.EntryIdeal.nD Cert.EntryIdeal.τ).loc Cert.EntryIdeal.main_arg2)) →
    ∃ (v0 : (c : Dev Cert.EntryIdeal.nD) → Buf (Elt Ideal) ((c.tc : Thread Cert.EntryIdeal.nD Cert.EntryIdeal.τ).loc Cert.EntryIdeal.main_v2)),
      θ_run (Cert.EntryIdeal.defs (F := Ideal)) (onTc (τ := Cert.EntryIdeal.τ) (Cert.EntryIdeal.main (F := Ideal))) ⟨m, fun _ => 0, g⟩ (fun r => ∀ c : Dev Cert.EntryIdeal.nD,
          r.2.mem ((c.tc : Thread Cert.EntryIdeal.nD Cert.EntryIdeal.τ).loc Cert.EntryIdeal.main_v2) = v0 c
          ∧ r.2.mem ((c.tc : Thread Cert.EntryIdeal.nD Cert.EntryIdeal.τ).loc Cert.EntryIdeal.main_arg0) = m ((c.tc : Thread Cert.EntryIdeal.nD Cert.EntryIdeal.τ).loc Cert.EntryIdeal.main_arg0)
          ∧ r.2.mem ((c.tc : Thread Cert.EntryIdeal.nD Cert.EntryIdeal.τ).loc Cert.EntryIdeal.main_arg1) = m ((c.tc : Thread Cert.EntryIdeal.nD Cert.EntryIdeal.τ).loc Cert.EntryIdeal.main_arg1)
          ∧ r.2.mem ((c.tc : Thread Cert.EntryIdeal.nD Cert.EntryIdeal.τ).loc Cert.EntryIdeal.main_arg2) = m ((c.tc : Thread Cert.EntryIdeal.nD Cert.EntryIdeal.τ).loc Cert.EntryIdeal.main_arg2))
      ∧ θ_run (Cert.EntryReferenceIdeal.defs (F := Ideal)) (onTc (τ := Cert.EntryReferenceIdeal.τ) (Cert.EntryReferenceIdeal.main (F := Ideal))) ⟨m', fun _ => 0, g'⟩ (fun r => ∀ c : Dev Cert.EntryReferenceIdeal.nD,
          r.2.mem ((c.tc : Thread Cert.EntryReferenceIdeal.nD Cert.EntryReferenceIdeal.τ).loc Cert.EntryReferenceIdeal.main_v16) = v0 c
          ∧ r.2.mem ((c.tc : Thread Cert.EntryReferenceIdeal.nD Cert.EntryReferenceIdeal.τ).loc Cert.EntryReferenceIdeal.main_arg0) = m' ((c.tc : Thread Cert.EntryReferenceIdeal.nD Cert.EntryReferenceIdeal.τ).loc Cert.EntryReferenceIdeal.main_arg0)
          ∧ r.2.mem ((c.tc : Thread Cert.EntryReferenceIdeal.nD Cert.EntryReferenceIdeal.τ).loc Cert.EntryReferenceIdeal.main_arg1) = m' ((c.tc : Thread Cert.EntryReferenceIdeal.nD Cert.EntryReferenceIdeal.τ).loc Cert.EntryReferenceIdeal.main_arg1)
          ∧ r.2.mem ((c.tc : Thread Cert.EntryReferenceIdeal.nD Cert.EntryReferenceIdeal.τ).loc Cert.EntryReferenceIdeal.main_arg2) = m' ((c.tc : Thread Cert.EntryReferenceIdeal.nD Cert.EntryReferenceIdeal.τ).loc Cert.EntryReferenceIdeal.main_arg2))

def preserves_Exit_ExitIdeal : Prop :=
  True

def algebraic_ExitIdeal_ExitReferenceIdeal [hExitIdeal : Cert.ExitIdeal.Facts] [hExitReferenceIdeal : Cert.ExitReferenceIdeal.Facts] : Prop :=
  ∀ (m : (ℓ : Loc Cert.ExitIdeal.nD Cert.ExitIdeal.τ Cert.ExitIdeal.sig) → Buf (Elt Ideal) ℓ) (g : Dev Cert.ExitIdeal.nD → PrngReg)
    (m' : (ℓ : Loc Cert.ExitReferenceIdeal.nD Cert.ExitReferenceIdeal.τ Cert.ExitReferenceIdeal.sig) → Buf (Elt Ideal) ℓ) (g' : Dev Cert.ExitReferenceIdeal.nD → PrngReg), Pre_ExitIdeal m →
    (∀ c : Dev Cert.ExitIdeal.nD,
      m' ((c.tc : Thread Cert.ExitReferenceIdeal.nD Cert.ExitReferenceIdeal.τ).loc Cert.ExitReferenceIdeal.main_arg0) = m ((c.tc : Thread Cert.ExitIdeal.nD Cert.ExitIdeal.τ).loc Cert.ExitIdeal.main_arg0)
      ∧ m' ((c.tc : Thread Cert.ExitReferenceIdeal.nD Cert.ExitReferenceIdeal.τ).loc Cert.ExitReferenceIdeal.main_arg1) = m ((c.tc : Thread Cert.ExitIdeal.nD Cert.ExitIdeal.τ).loc Cert.ExitIdeal.main_arg1)
      ∧ m' ((c.tc : Thread Cert.ExitReferenceIdeal.nD Cert.ExitReferenceIdeal.τ).loc Cert.ExitReferenceIdeal.main_arg2) = m ((c.tc : Thread Cert.ExitIdeal.nD Cert.ExitIdeal.τ).loc Cert.ExitIdeal.main_arg2)) →
    ∃ (v0 : (c : Dev Cert.ExitIdeal.nD) → Buf (Elt Ideal) ((c.tc : Thread Cert.ExitIdeal.nD Cert.ExitIdeal.τ).loc Cert.ExitIdeal.main_v2)),
      θ_run (Cert.ExitIdeal.defs (F := Ideal)) (onTc (τ := Cert.ExitIdeal.τ) (Cert.ExitIdeal.main (F := Ideal))) ⟨m, fun _ => 0, g⟩ (fun r => ∀ c : Dev Cert.ExitIdeal.nD,
          r.2.mem ((c.tc : Thread Cert.ExitIdeal.nD Cert.ExitIdeal.τ).loc Cert.ExitIdeal.main_v2) = v0 c
          ∧ r.2.mem ((c.tc : Thread Cert.ExitIdeal.nD Cert.ExitIdeal.τ).loc Cert.ExitIdeal.main_arg0) = m ((c.tc : Thread Cert.ExitIdeal.nD Cert.ExitIdeal.τ).loc Cert.ExitIdeal.main_arg0)
          ∧ r.2.mem ((c.tc : Thread Cert.ExitIdeal.nD Cert.ExitIdeal.τ).loc Cert.ExitIdeal.main_arg1) = m ((c.tc : Thread Cert.ExitIdeal.nD Cert.ExitIdeal.τ).loc Cert.ExitIdeal.main_arg1)
          ∧ r.2.mem ((c.tc : Thread Cert.ExitIdeal.nD Cert.ExitIdeal.τ).loc Cert.ExitIdeal.main_arg2) = m ((c.tc : Thread Cert.ExitIdeal.nD Cert.ExitIdeal.τ).loc Cert.ExitIdeal.main_arg2))
      ∧ θ_run (Cert.ExitReferenceIdeal.defs (F := Ideal)) (onTc (τ := Cert.ExitReferenceIdeal.τ) (Cert.ExitReferenceIdeal.main (F := Ideal))) ⟨m', fun _ => 0, g'⟩ (fun r => ∀ c : Dev Cert.ExitReferenceIdeal.nD,
          r.2.mem ((c.tc : Thread Cert.ExitReferenceIdeal.nD Cert.ExitReferenceIdeal.τ).loc Cert.ExitReferenceIdeal.main_v3) = v0 c
          ∧ r.2.mem ((c.tc : Thread Cert.ExitReferenceIdeal.nD Cert.ExitReferenceIdeal.τ).loc Cert.ExitReferenceIdeal.main_arg0) = m' ((c.tc : Thread Cert.ExitReferenceIdeal.nD Cert.ExitReferenceIdeal.τ).loc Cert.ExitReferenceIdeal.main_arg0)
          ∧ r.2.mem ((c.tc : Thread Cert.ExitReferenceIdeal.nD Cert.ExitReferenceIdeal.τ).loc Cert.ExitReferenceIdeal.main_arg1) = m' ((c.tc : Thread Cert.ExitReferenceIdeal.nD Cert.ExitReferenceIdeal.τ).loc Cert.ExitReferenceIdeal.main_arg1)
          ∧ r.2.mem ((c.tc : Thread Cert.ExitReferenceIdeal.nD Cert.ExitReferenceIdeal.τ).loc Cert.ExitReferenceIdeal.main_arg2) = m' ((c.tc : Thread Cert.ExitReferenceIdeal.nD Cert.ExitReferenceIdeal.τ).loc Cert.ExitReferenceIdeal.main_arg2))

def preserves_Attended_AttendedIdeal : Prop :=
  True

def algebraic_AttendedIdeal_AttendedReferenceIdeal [hAttendedIdeal : Cert.AttendedIdeal.Facts] [hAttendedReferenceIdeal : Cert.AttendedReferenceIdeal.Facts] : Prop :=
  ∀ (m : (ℓ : Loc Cert.AttendedIdeal.nD Cert.AttendedIdeal.τ Cert.AttendedIdeal.sig) → Buf (Elt Ideal) ℓ) (g : Dev Cert.AttendedIdeal.nD → PrngReg)
    (m' : (ℓ : Loc Cert.AttendedReferenceIdeal.nD Cert.AttendedReferenceIdeal.τ Cert.AttendedReferenceIdeal.sig) → Buf (Elt Ideal) ℓ) (g' : Dev Cert.AttendedReferenceIdeal.nD → PrngReg), Pre_AttendedIdeal m →
    (∀ c : Dev Cert.AttendedIdeal.nD,
      m' ((c.tc : Thread Cert.AttendedReferenceIdeal.nD Cert.AttendedReferenceIdeal.τ).loc Cert.AttendedReferenceIdeal.main_arg0) = m ((c.tc : Thread Cert.AttendedIdeal.nD Cert.AttendedIdeal.τ).loc Cert.AttendedIdeal.main_arg0)
      ∧ m' ((c.tc : Thread Cert.AttendedReferenceIdeal.nD Cert.AttendedReferenceIdeal.τ).loc Cert.AttendedReferenceIdeal.main_arg1) = m ((c.tc : Thread Cert.AttendedIdeal.nD Cert.AttendedIdeal.τ).loc Cert.AttendedIdeal.main_arg1)
      ∧ m' ((c.tc : Thread Cert.AttendedReferenceIdeal.nD Cert.AttendedReferenceIdeal.τ).loc Cert.AttendedReferenceIdeal.main_arg2) = m ((c.tc : Thread Cert.AttendedIdeal.nD Cert.AttendedIdeal.τ).loc Cert.AttendedIdeal.main_arg2)) →
    ∃ (v0 : (c : Dev Cert.AttendedIdeal.nD) → Buf (Elt Ideal) ((c.tc : Thread Cert.AttendedIdeal.nD Cert.AttendedIdeal.τ).loc Cert.AttendedIdeal.main_v2)),
      θ_run (Cert.AttendedIdeal.defs (F := Ideal)) (onTc (τ := Cert.AttendedIdeal.τ) (Cert.AttendedIdeal.main (F := Ideal))) ⟨m, fun _ => 0, g⟩ (fun r => ∀ c : Dev Cert.AttendedIdeal.nD,
          r.2.mem ((c.tc : Thread Cert.AttendedIdeal.nD Cert.AttendedIdeal.τ).loc Cert.AttendedIdeal.main_v2) = v0 c
          ∧ r.2.mem ((c.tc : Thread Cert.AttendedIdeal.nD Cert.AttendedIdeal.τ).loc Cert.AttendedIdeal.main_arg0) = m ((c.tc : Thread Cert.AttendedIdeal.nD Cert.AttendedIdeal.τ).loc Cert.AttendedIdeal.main_arg0)
          ∧ r.2.mem ((c.tc : Thread Cert.AttendedIdeal.nD Cert.AttendedIdeal.τ).loc Cert.AttendedIdeal.main_arg1) = m ((c.tc : Thread Cert.AttendedIdeal.nD Cert.AttendedIdeal.τ).loc Cert.AttendedIdeal.main_arg1)
          ∧ r.2.mem ((c.tc : Thread Cert.AttendedIdeal.nD Cert.AttendedIdeal.τ).loc Cert.AttendedIdeal.main_arg2) = m ((c.tc : Thread Cert.AttendedIdeal.nD Cert.AttendedIdeal.τ).loc Cert.AttendedIdeal.main_arg2))
      ∧ θ_run (Cert.AttendedReferenceIdeal.defs (F := Ideal)) (onTc (τ := Cert.AttendedReferenceIdeal.τ) (Cert.AttendedReferenceIdeal.main (F := Ideal))) ⟨m', fun _ => 0, g'⟩ (fun r => ∀ c : Dev Cert.AttendedReferenceIdeal.nD,
          r.2.mem ((c.tc : Thread Cert.AttendedReferenceIdeal.nD Cert.AttendedReferenceIdeal.τ).loc Cert.AttendedReferenceIdeal.main_v3) = v0 c
          ∧ r.2.mem ((c.tc : Thread Cert.AttendedReferenceIdeal.nD Cert.AttendedReferenceIdeal.τ).loc Cert.AttendedReferenceIdeal.main_arg0) = m' ((c.tc : Thread Cert.AttendedReferenceIdeal.nD Cert.AttendedReferenceIdeal.τ).loc Cert.AttendedReferenceIdeal.main_arg0)
          ∧ r.2.mem ((c.tc : Thread Cert.AttendedReferenceIdeal.nD Cert.AttendedReferenceIdeal.τ).loc Cert.AttendedReferenceIdeal.main_arg1) = m' ((c.tc : Thread Cert.AttendedReferenceIdeal.nD Cert.AttendedReferenceIdeal.τ).loc Cert.AttendedReferenceIdeal.main_arg1)
          ∧ r.2.mem ((c.tc : Thread Cert.AttendedReferenceIdeal.nD Cert.AttendedReferenceIdeal.τ).loc Cert.AttendedReferenceIdeal.main_arg2) = m' ((c.tc : Thread Cert.AttendedReferenceIdeal.nD Cert.AttendedReferenceIdeal.τ).loc Cert.AttendedReferenceIdeal.main_arg2))

def preserves_KeyValue_KeyValueIdeal : Prop :=
  True

def algebraic_KeyValueIdeal_KeyValueReferenceIdeal [hKeyValueIdeal : Cert.KeyValueIdeal.Facts] [hKeyValueReferenceIdeal : Cert.KeyValueReferenceIdeal.Facts] : Prop :=
  ∀ (m : (ℓ : Loc Cert.KeyValueIdeal.nD Cert.KeyValueIdeal.τ Cert.KeyValueIdeal.sig) → Buf (Elt Ideal) ℓ) (g : Dev Cert.KeyValueIdeal.nD → PrngReg)
    (m' : (ℓ : Loc Cert.KeyValueReferenceIdeal.nD Cert.KeyValueReferenceIdeal.τ Cert.KeyValueReferenceIdeal.sig) → Buf (Elt Ideal) ℓ) (g' : Dev Cert.KeyValueReferenceIdeal.nD → PrngReg), Pre_KeyValueIdeal m →
    (∀ c : Dev Cert.KeyValueIdeal.nD,
      m' ((c.tc : Thread Cert.KeyValueReferenceIdeal.nD Cert.KeyValueReferenceIdeal.τ).loc Cert.KeyValueReferenceIdeal.main_arg0) = m ((c.tc : Thread Cert.KeyValueIdeal.nD Cert.KeyValueIdeal.τ).loc Cert.KeyValueIdeal.main_arg0)
      ∧ m' ((c.tc : Thread Cert.KeyValueReferenceIdeal.nD Cert.KeyValueReferenceIdeal.τ).loc Cert.KeyValueReferenceIdeal.main_arg1) = m ((c.tc : Thread Cert.KeyValueIdeal.nD Cert.KeyValueIdeal.τ).loc Cert.KeyValueIdeal.main_arg1)
      ∧ m' ((c.tc : Thread Cert.KeyValueReferenceIdeal.nD Cert.KeyValueReferenceIdeal.τ).loc Cert.KeyValueReferenceIdeal.main_arg2) = m ((c.tc : Thread Cert.KeyValueIdeal.nD Cert.KeyValueIdeal.τ).loc Cert.KeyValueIdeal.main_arg2)) →
    ∃ (v0 : (c : Dev Cert.KeyValueIdeal.nD) → Buf (Elt Ideal) ((c.tc : Thread Cert.KeyValueIdeal.nD Cert.KeyValueIdeal.τ).loc Cert.KeyValueIdeal.main_v30_0)) (v1 : (c : Dev Cert.KeyValueIdeal.nD) → Buf (Elt Ideal) ((c.tc : Thread Cert.KeyValueIdeal.nD Cert.KeyValueIdeal.τ).loc Cert.KeyValueIdeal.main_v30_1)),
      θ_run (Cert.KeyValueIdeal.defs (F := Ideal)) (onTc (τ := Cert.KeyValueIdeal.τ) (Cert.KeyValueIdeal.main (F := Ideal))) ⟨m, fun _ => 0, g⟩ (fun r => ∀ c : Dev Cert.KeyValueIdeal.nD,
          r.2.mem ((c.tc : Thread Cert.KeyValueIdeal.nD Cert.KeyValueIdeal.τ).loc Cert.KeyValueIdeal.main_v30_0) = v0 c
          ∧ r.2.mem ((c.tc : Thread Cert.KeyValueIdeal.nD Cert.KeyValueIdeal.τ).loc Cert.KeyValueIdeal.main_v30_1) = v1 c
          ∧ r.2.mem ((c.tc : Thread Cert.KeyValueIdeal.nD Cert.KeyValueIdeal.τ).loc Cert.KeyValueIdeal.main_arg0) = m ((c.tc : Thread Cert.KeyValueIdeal.nD Cert.KeyValueIdeal.τ).loc Cert.KeyValueIdeal.main_arg0)
          ∧ r.2.mem ((c.tc : Thread Cert.KeyValueIdeal.nD Cert.KeyValueIdeal.τ).loc Cert.KeyValueIdeal.main_arg1) = m ((c.tc : Thread Cert.KeyValueIdeal.nD Cert.KeyValueIdeal.τ).loc Cert.KeyValueIdeal.main_arg1)
          ∧ r.2.mem ((c.tc : Thread Cert.KeyValueIdeal.nD Cert.KeyValueIdeal.τ).loc Cert.KeyValueIdeal.main_arg2) = m ((c.tc : Thread Cert.KeyValueIdeal.nD Cert.KeyValueIdeal.τ).loc Cert.KeyValueIdeal.main_arg2))
      ∧ θ_run (Cert.KeyValueReferenceIdeal.defs (F := Ideal)) (onTc (τ := Cert.KeyValueReferenceIdeal.τ) (Cert.KeyValueReferenceIdeal.main (F := Ideal))) ⟨m', fun _ => 0, g'⟩ (fun r => ∀ c : Dev Cert.KeyValueReferenceIdeal.nD,
          r.2.mem ((c.tc : Thread Cert.KeyValueReferenceIdeal.nD Cert.KeyValueReferenceIdeal.τ).loc Cert.KeyValueReferenceIdeal.main_v51) = v0 c
          ∧ r.2.mem ((c.tc : Thread Cert.KeyValueReferenceIdeal.nD Cert.KeyValueReferenceIdeal.τ).loc Cert.KeyValueReferenceIdeal.main_v53) = v1 c
          ∧ r.2.mem ((c.tc : Thread Cert.KeyValueReferenceIdeal.nD Cert.KeyValueReferenceIdeal.τ).loc Cert.KeyValueReferenceIdeal.main_arg0) = m' ((c.tc : Thread Cert.KeyValueReferenceIdeal.nD Cert.KeyValueReferenceIdeal.τ).loc Cert.KeyValueReferenceIdeal.main_arg0)
          ∧ r.2.mem ((c.tc : Thread Cert.KeyValueReferenceIdeal.nD Cert.KeyValueReferenceIdeal.τ).loc Cert.KeyValueReferenceIdeal.main_arg1) = m' ((c.tc : Thread Cert.KeyValueReferenceIdeal.nD Cert.KeyValueReferenceIdeal.τ).loc Cert.KeyValueReferenceIdeal.main_arg1)
          ∧ r.2.mem ((c.tc : Thread Cert.KeyValueReferenceIdeal.nD Cert.KeyValueReferenceIdeal.τ).loc Cert.KeyValueReferenceIdeal.main_arg2) = m' ((c.tc : Thread Cert.KeyValueReferenceIdeal.nD Cert.KeyValueReferenceIdeal.τ).loc Cert.KeyValueReferenceIdeal.main_arg2))

def preserves_Query_QueryIdeal : Prop :=
  True

def algebraic_QueryIdeal_QueryReferenceIdeal [hQueryIdeal : Cert.QueryIdeal.Facts] [hQueryReferenceIdeal : Cert.QueryReferenceIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryReferenceIdeal.nD Cert.QueryReferenceIdeal.τ Cert.QueryReferenceIdeal.sig) → Buf (Elt Ideal) ℓ) (g' : Dev Cert.QueryReferenceIdeal.nD → PrngReg), Pre_QueryIdeal m →
    (∀ c : Dev Cert.QueryIdeal.nD,
      m' ((c.tc : Thread Cert.QueryReferenceIdeal.nD Cert.QueryReferenceIdeal.τ).loc Cert.QueryReferenceIdeal.main_arg0) = m ((c.tc : Thread Cert.QueryIdeal.nD Cert.QueryIdeal.τ).loc Cert.QueryIdeal.main_arg0)
      ∧ m' ((c.tc : Thread Cert.QueryReferenceIdeal.nD Cert.QueryReferenceIdeal.τ).loc Cert.QueryReferenceIdeal.main_arg1) = m ((c.tc : Thread Cert.QueryIdeal.nD Cert.QueryIdeal.τ).loc Cert.QueryIdeal.main_arg1)
      ∧ m' ((c.tc : Thread Cert.QueryReferenceIdeal.nD Cert.QueryReferenceIdeal.τ).loc Cert.QueryReferenceIdeal.main_arg2) = m ((c.tc : Thread Cert.QueryIdeal.nD Cert.QueryIdeal.τ).loc Cert.QueryIdeal.main_arg2)) →
    ∃ (v0 : (c : Dev Cert.QueryIdeal.nD) → Buf (Elt Ideal) ((c.tc : Thread Cert.QueryIdeal.nD Cert.QueryIdeal.τ).loc Cert.QueryIdeal.main_v30)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v30) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ θ_run (Cert.QueryReferenceIdeal.defs (F := Ideal)) (onTc (τ := Cert.QueryReferenceIdeal.τ) (Cert.QueryReferenceIdeal.main (F := Ideal))) ⟨m', fun _ => 0, g'⟩ (fun r => ∀ c : Dev Cert.QueryReferenceIdeal.nD,
          r.2.mem ((c.tc : Thread Cert.QueryReferenceIdeal.nD Cert.QueryReferenceIdeal.τ).loc Cert.QueryReferenceIdeal.main_v54) = v0 c
          ∧ r.2.mem ((c.tc : Thread Cert.QueryReferenceIdeal.nD Cert.QueryReferenceIdeal.τ).loc Cert.QueryReferenceIdeal.main_arg0) = m' ((c.tc : Thread Cert.QueryReferenceIdeal.nD Cert.QueryReferenceIdeal.τ).loc Cert.QueryReferenceIdeal.main_arg0)
          ∧ r.2.mem ((c.tc : Thread Cert.QueryReferenceIdeal.nD Cert.QueryReferenceIdeal.τ).loc Cert.QueryReferenceIdeal.main_arg1) = m' ((c.tc : Thread Cert.QueryReferenceIdeal.nD Cert.QueryReferenceIdeal.τ).loc Cert.QueryReferenceIdeal.main_arg1)
          ∧ r.2.mem ((c.tc : Thread Cert.QueryReferenceIdeal.nD Cert.QueryReferenceIdeal.τ).loc Cert.QueryReferenceIdeal.main_arg2) = m' ((c.tc : Thread Cert.QueryReferenceIdeal.nD Cert.QueryReferenceIdeal.τ).loc Cert.QueryReferenceIdeal.main_arg2))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hLast : Cert.Last.Facts) (hLastIdeal : Cert.LastIdeal.Facts) (hLastReferenceIdeal : Cert.LastReferenceIdeal.Facts) (hGate : Cert.Gate.Facts) (hGateIdeal : Cert.GateIdeal.Facts) (hGateReferenceIdeal : Cert.GateReferenceIdeal.Facts) (hEntry : Cert.Entry.Facts) (hEntryIdeal : Cert.EntryIdeal.Facts) (hEntryReferenceIdeal : Cert.EntryReferenceIdeal.Facts) (hExit : Cert.Exit.Facts) (hExitIdeal : Cert.ExitIdeal.Facts) (hExitReferenceIdeal : Cert.ExitReferenceIdeal.Facts) (hAttended : Cert.Attended.Facts) (hAttendedIdeal : Cert.AttendedIdeal.Facts) (hAttendedReferenceIdeal : Cert.AttendedReferenceIdeal.Facts) (hKeyValue : Cert.KeyValue.Facts) (hKeyValueIdeal : Cert.KeyValueIdeal.Facts) (hKeyValueReferenceIdeal : Cert.KeyValueReferenceIdeal.Facts) (hQuery : Cert.Query.Facts) (hQueryIdeal : Cert.QueryIdeal.Facts) (hQueryReferenceIdeal : Cert.QueryReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Last (hLast := hLast)
    ∧ quiescent_LastIdeal (hLastIdeal := hLastIdeal)
    ∧ quiescent_LastReferenceIdeal (hLastReferenceIdeal := hLastReferenceIdeal)
    ∧ quiescent_Gate (hGate := hGate)
    ∧ quiescent_GateIdeal (hGateIdeal := hGateIdeal)
    ∧ quiescent_GateReferenceIdeal (hGateReferenceIdeal := hGateReferenceIdeal)
    ∧ quiescent_Entry (hEntry := hEntry)
    ∧ quiescent_EntryIdeal (hEntryIdeal := hEntryIdeal)
    ∧ quiescent_EntryReferenceIdeal (hEntryReferenceIdeal := hEntryReferenceIdeal)
    ∧ quiescent_Exit (hExit := hExit)
    ∧ quiescent_ExitIdeal (hExitIdeal := hExitIdeal)
    ∧ quiescent_ExitReferenceIdeal (hExitReferenceIdeal := hExitReferenceIdeal)
    ∧ quiescent_Attended (hAttended := hAttended)
    ∧ quiescent_AttendedIdeal (hAttendedIdeal := hAttendedIdeal)
    ∧ quiescent_AttendedReferenceIdeal (hAttendedReferenceIdeal := hAttendedReferenceIdeal)
    ∧ quiescent_KeyValue (hKeyValue := hKeyValue)
    ∧ quiescent_KeyValueIdeal (hKeyValueIdeal := hKeyValueIdeal)
    ∧ quiescent_KeyValueReferenceIdeal (hKeyValueReferenceIdeal := hKeyValueReferenceIdeal)
    ∧ quiescent_Query (hQuery := hQuery)
    ∧ quiescent_QueryIdeal (hQueryIdeal := hQueryIdeal)
    ∧ quiescent_QueryReferenceIdeal (hQueryReferenceIdeal := hQueryReferenceIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Mlp_MlpIdeal
    ∧ algebraic_MlpIdeal_MlpReferenceIdeal (hMlpIdeal := hMlpIdeal) (hMlpReferenceIdeal := hMlpReferenceIdeal)
    ∧ preserves_Last_LastIdeal
    ∧ algebraic_LastIdeal_LastReferenceIdeal (hLastIdeal := hLastIdeal) (hLastReferenceIdeal := hLastReferenceIdeal)
    ∧ preserves_Gate_GateIdeal
    ∧ algebraic_GateIdeal_GateReferenceIdeal (hGateIdeal := hGateIdeal) (hGateReferenceIdeal := hGateReferenceIdeal)
    ∧ preserves_Entry_EntryIdeal
    ∧ algebraic_EntryIdeal_EntryReferenceIdeal (hEntryIdeal := hEntryIdeal) (hEntryReferenceIdeal := hEntryReferenceIdeal)
    ∧ preserves_Exit_ExitIdeal
    ∧ algebraic_ExitIdeal_ExitReferenceIdeal (hExitIdeal := hExitIdeal) (hExitReferenceIdeal := hExitReferenceIdeal)
    ∧ preserves_Attended_AttendedIdeal
    ∧ algebraic_AttendedIdeal_AttendedReferenceIdeal (hAttendedIdeal := hAttendedIdeal) (hAttendedReferenceIdeal := hAttendedReferenceIdeal)
    ∧ preserves_KeyValue_KeyValueIdeal
    ∧ algebraic_KeyValueIdeal_KeyValueReferenceIdeal (hKeyValueIdeal := hKeyValueIdeal) (hKeyValueReferenceIdeal := hKeyValueReferenceIdeal)
    ∧ preserves_Query_QueryIdeal
    ∧ algebraic_QueryIdeal_QueryReferenceIdeal (hQueryIdeal := hQueryIdeal) (hQueryReferenceIdeal := hQueryReferenceIdeal)
-- ==== Pre_finite_inputs.lean ====
abbrev S2x4112x8x2x128 : Shape := ⟨5, ![2, 4112, 8, 2, 128]⟩
abbrev S2x4112x8x256 : Shape := ⟨4, ![2, 4112, 8, 256]⟩
abbrev S4x128 : Shape := ⟨2, ![4, 128]⟩
abbrev S256 : Shape := ⟨1, ![256]⟩
abbrev S_ : Shape := ⟨0, ![]⟩

class Facts : Prop where
  bcast_S_S2x4112x8x2x128 : S_.BroadcastsInDim S2x4112x8x2x128 (![] : Fin 0 → Fin S2x4112x8x2x128.rank)
  reducesTo_S2x4112x8x2x128_S_d0_1_2_3_4 : S2x4112x8x2x128.ReducesTo [0, 1, 2, 3, 4] S_
  h_S_ : 0 < S_.numel
  bcast_S_S2x4112x8x256 : S_.BroadcastsInDim S2x4112x8x256 (![] : Fin 0 → Fin S2x4112x8x256.rank)
  reducesTo_S2x4112x8x256_S_d0_1_2_3 : S2x4112x8x256.ReducesTo [0, 1, 2, 3] S_
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  main_v18

def fn {F : FTy → Type} [FloatOps F] (main_arg0 : FVec F S2x4112x8x2x128 .f32) (main_arg1 : FVec F S2x4112x8x2x128 .f32) (main_arg2 : FVec F S2x4112x8x256 .f32) (main_arg3 : FVec F S4x128 .f32) (main_arg4 : FVec F S256 .f32) : IVec S_ 1 :=
  let main_v0 : FVec F S2x4112x8x2x128 .f32 := Host.absf main_arg0
  let main_cst : FVec F S_ .f32 := constant S_ .f32 0x7F800000#32
  let main_v1 : FVec F S2x4112x8x2x128 .f32 := broadcastInDim S2x4112x8x2x128 ![] bcast_S_S2x4112x8x2x128 main_cst
  let main_v2 : IVec S2x4112x8x2x128 1 := cmpf .olt main_v0 main_v1
  let main_c : IVec S_ 1 := constantI S_ 1 1#1
  let main_v3 : IVec S_ 1 := (fun x v => Host.reduce IntOp.andi x v reducesTo_S2x4112x8x2x128_S_d0_1_2_3_4 h_S_) main_v2 main_c
  let main_v4 : FVec F S2x4112x8x2x128 .f32 := Host.absf main_arg1
  let main_cst_0 : FVec F S_ .f32 := constant S_ .f32 0x7F800000#32
  let main_v5 : FVec F S2x4112x8x2x128 .f32 := broadcastInDim S2x4112x8x2x128 ![] bcast_S_S2x4112x8x2x128 main_cst_0
  let main_v6 : IVec S2x4112x8x2x128 1 := cmpf .olt main_v4 main_v5
  let main_c_1 : IVec S_ 1 := constantI S_ 1 1#1
  let main_v7 : IVec S_ 1 := (fun x v => Host.reduce IntOp.andi x v reducesTo_S2x4112x8x2x128_S_d0_1_2_3_4 h_S_) main_v6 main_c_1
  let main_v8 : IVec S_ 1 := andi main_v3 main_v7
  let main_v9 : FVec F S2x4112x8x256 .f32 := Host.absf main_arg2
  let main_cst_2 : FVec F S_ .f32 := constant S_ .f32 0x7F800000#32
  let main_v10 : FVec F S2x4112x8x256 .f32 := broadcastInDim S2x4112x8x256 ![] bcast_S_S2x4112x8x256 main_cst_2
  let main_v11 : IVec S2x4112x8x256 1 := cmpf .olt main_v9 main_v10
  let main_c_3 : IVec S_ 1 := constantI S_ 1 1#1
  let main_v12 : IVec S_ 1 := (fun x v => Host.reduce IntOp.andi x v reducesTo_S2x4112x8x256_S_d0_1_2_3 h_S_) main_v11 main_c_3
  let main_v13 : IVec S_ 1 := andi main_v8 main_v12
  let main_v14 : FVec F S4x128 .f32 := Host.absf main_arg3
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_v13 main_v16
-- ==== Kernel.lean ====
abbrev S2x4112x8x2x128 : Shape := ⟨5, ![2, 4112, 8, 2, 128]⟩
abbrev S2x4112x8x256 : Shape := ⟨4, ![2, 4112, 8, 256]⟩
abbrev S4x128 : Shape := ⟨2, ![4, 128]⟩
abbrev S256 : Shape := ⟨1, ![256]⟩
abbrev S_ : Shape := ⟨0, ![]⟩
abbrev S2x4112x2048 : Shape := ⟨3, ![2, 4112, 2048]⟩
abbrev S2x112x2048 : Shape := ⟨3, ![2, 112, 2048]⟩
abbrev S2x4224x2048 : Shape := ⟨3, ![2, 4224, 2048]⟩
abbrev S1x4x128 : Shape := ⟨3, ![1, 4, 128]⟩
abbrev S1x256 : Shape := ⟨2, ![1, 256]⟩
abbrev S1x384x512 : Shape := ⟨3, ![1, 384, 512]⟩
abbrev S1x4224x512 : Shape := ⟨3, ![1, 4224, 512]⟩
abbrev S4x384x256 : Shape := ⟨3, ![4, 384, 256]⟩
abbrev S384x512 : Shape := ⟨2, ![384, 512]⟩
abbrev S384x128 : Shape := ⟨2, ![384, 128]⟩
abbrev S384x1 : Shape := ⟨2, ![384, 1]⟩
abbrev S1x768x512 : Shape := ⟨3, ![1, 768, 512]⟩
abbrev S768x512 : Shape := ⟨2, ![768, 512]⟩
abbrev S768x128 : Shape := ⟨2, ![768, 128]⟩
abbrev S384x768 : Shape := ⟨2, ![384, 768]⟩
abbrev S384 : Shape := ⟨1, ![384]⟩
abbrev S768x256 : Shape := ⟨2, ![768, 256]⟩
abbrev S384x256 : Shape := ⟨2, ![384, 256]⟩
abbrev S1x384x256 : Shape := ⟨3, ![1, 384, 256]⟩
abbrev S384x384 : Shape := ⟨2, ![384, 384]⟩
abbrev S1x128 : Shape := ⟨2, ![1, 128]⟩
abbrev S1 : Shape := ⟨1, ![1]⟩
abbrev S1x1 : Shape := ⟨2, ![1, 1]⟩

abbrev nBuf : Space → Nat
  | .hbm => 33
  | .vmem => 11
  | .smem => 0
  | _ => 0

abbrev bufTy : (tb : Table) → Fin (tcTables nBuf tb) → BufTy
  | .hbm, ⟨0, _⟩ => ⟨S2x4112x8x2x128, .f32⟩
  | .hbm, ⟨1, _⟩ => ⟨S2x4112x8x2x128, .f32⟩
  | .hbm, ⟨2, _⟩ => ⟨S2x4112x8x256, .f32⟩
  | .hbm, ⟨3, _⟩ => ⟨S4x128, .f32⟩
  | .hbm, ⟨4, _⟩ => ⟨S256, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2x4112x8x2x128, .f32⟩
  | .hbm, ⟨13, _⟩ => ⟨S2x4112x8x2x128, .f32⟩
  | .hbm, ⟨14, _⟩ => ⟨S2x4112x2048, .f32⟩
  | .hbm, ⟨15, _⟩ => ⟨S_, .f32⟩
  | .hbm, ⟨16, _⟩ => ⟨S2x112x2048, .f32⟩
  | .hbm, ⟨17, _⟩ => ⟨S2x4224x2048, .f32⟩
  | .hbm, ⟨18, _⟩ => ⟨S2x4224x2048, .bf16⟩
  | .hbm, ⟨19, _⟩ => ⟨S2x4112x2048, .f32⟩
  | .hbm, ⟨20, _⟩ => ⟨S_, .f32⟩
  | .hbm, ⟨21, _⟩ => ⟨S2x112x2048, .f32⟩
  | .hbm, ⟨22, _⟩ => ⟨S2x4224x2048, .f32⟩
  | .hbm, ⟨23, _⟩ => ⟨S2x4224x2048, .bf16⟩
  | .hbm, ⟨24, _⟩ => ⟨S2x4112x2048, .f32⟩
  | .hbm, ⟨25, _⟩ => ⟨S_, .f32⟩
  | .hbm, ⟨26, _⟩ => ⟨S2x112x2048, .f32⟩
  | .hbm, ⟨27, _⟩ => ⟨S2x4224x2048, .f32⟩
  | .hbm, ⟨28, _⟩ => ⟨S2x4224x2048, .bf16⟩
  | .hbm, ⟨29, _⟩ => ⟨S1x4x128, .f32⟩
  | .hbm, ⟨30, _⟩ => ⟨S1x256, .f32⟩
  | .hbm, ⟨31, _⟩ => ⟨S2x4224x2048, .bf16⟩
  | .hbm, ⟨32, _⟩ => ⟨S2x4112x2048, .bf16⟩
  | .local _ .vmem, ⟨0, _⟩ => ⟨S1x4x128, .f32⟩
  | .local _ .vmem, ⟨1, _⟩ => ⟨S1x256, .f32⟩
  | .local _ .vmem, ⟨2, _⟩ => ⟨S1x384x512, .bf16⟩
  | .local _ .vmem, ⟨3, _⟩ => ⟨S1x384x512, .bf16⟩
  | .local _ .vmem, ⟨4, _⟩ => ⟨S1x4224x512, .bf16⟩
  | .local _ .vmem, ⟨5, _⟩ => ⟨S1x4224x512, .bf16⟩
  | .local _ .vmem, ⟨6, _⟩ => ⟨S1x4224x512, .bf16⟩
  | .local _ .vmem, ⟨7, _⟩ => ⟨S1x4224x512, .bf16⟩
  | .local _ .vmem, ⟨8, _⟩ => ⟨S1x384x512, .bf16⟩
  | .local _ .vmem, ⟨9, _⟩ => ⟨S1x384x512, .bf16⟩
  | .local _ .vmem, ⟨10, _⟩ => ⟨S4x384x256, .f32⟩
  | _, _ => ⟨S2x4112x8x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 4, 11], ![false, false, false]⟩

@[reducible] def k0_t1_loop (i : grid0.Coords) : Scf.Loop 32 :=
  let c0_i32_18 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_7 : BitVec 32 := 0#32
  let v15 : BitVec 1 := Scalar.cmpi .slt arg2 c0_i32_7
  let v16 : BitVec 32 := Scalar.extui v15
  let v17 : BitVec 32 := Scalar.subi v14 v16
  let c2_i32 : BitVec 32 := 2#32
  let c0_i32_8 : BitVec 32 := 0#32
  let v18 : BitVec 1 := Scalar.cmpi .sgt c2_i32 c0_i32_8
  let v19 : BitVec 32 := Scalar.extui v18
  let c0_i32_9 : BitVec 32 := 0#32
  let v20 : BitVec 1 := Scalar.cmpi .slt c2_i32 c0_i32_9
  let v21 : BitVec 32 := Scalar.extui v20
  let v22 : BitVec 32 := Scalar.subi v19 v21
  let v23 : BitVec 1 := Scalar.cmpi .ne v17 v22
  let v24 : BitVec 32 := Scalar.remsi arg2 c2_i32
  let c0_i32_10 : BitVec 32 := 0#32
  let v25 : BitVec 1 := Scalar.cmpi .ne v24 c0_i32_10
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c2_i32_11 : BitVec 32 := 2#32
  let c0_i32_14 : BitVec 32 := 0#32
  let v35 : BitVec 1 := Scalar.cmpi .sgt c2_i32_11 c0_i32_14
  let v36 : BitVec 32 := Scalar.extui v35
  let c0_i32_15 : BitVec 32 := 0#32
  let v37 : BitVec 1 := Scalar.cmpi .slt c2_i32_11 c0_i32_15
  let v38 : BitVec 32 := Scalar.extui v37
  let v39 : BitVec 32 := Scalar.subi v36 v38
  let v40 : BitVec 1 := Scalar.cmpi .ne v34 v39
  let v41 : BitVec 32 := Scalar.remsi v28 c2_i32_11
  let c0_i32_16 : BitVec 32 := 0#32
  let v42 : BitVec 1 := Scalar.cmpi .ne v41 c0_i32_16
  let v43 : BitVec 1 := Scalar.andi v40 v42
  let v29 : BitVec 32 := Scalar.divsi v28 c2_i32_11
  let c1_i32_17 : BitVec 32 := 1#32
  let v44 : BitVec 32 := Scalar.subi v29 c1_i32_17
  let v45 : BitVec 32 := Scalar.select v43 v44 v29
  let v46 : BitVec 32 := Scalar.subi v45 c0_i32_18
  let c1_i32_19 : BitVec 32 := 1#32
  let v48 : BitVec 32 := Scalar.divsi v46 c1_i32_19
  let v49 : BitVec 32 := Scalar.muli v48 c1_i32_19
  let v50 : BitVec 32 := Scalar.addi c0_i32_18 v49
  let c1_i32_20 : BitVec 32 := 1#32
  ⟨c0_i32_18, v50, c1_i32_20⟩
def k0_mult1 (i : grid0.Coords) (k0_t1 : Fin (k0_t1_loop i).trips) : BitVec 32 :=
  let c2_i32_73 : BitVec 32 := 2#32
  let c0_i32_18 : BitVec 32 := 0#32
  let c1_i32_20 : BitVec 32 := 1#32
  let arg10 : BitVec 32 := Scf.iv c0_i32_18 c1_i32_20 k0_t1
  let v161 : BitVec 32 := Scalar.muli c2_i32_73 arg10
  let c2_i32_74 : BitVec 32 := 2#32
  let v162 : BitVec 32 := Scalar.muli v161 c2_i32_74
  let c384_i32 : BitVec 32 := 384#32
  let v163 : BitVec 32 := Scalar.muli v162 c384_i32
  v163
def k0_off1 (i : grid0.Coords) (k0_t1 : Fin (k0_t1_loop i).trips) : Fin 3 → Nat :=
  let c0_75 : Index := 0#32
  let c2_i32_73 : BitVec 32 := 2#32
  let c0_i32_18 : BitVec 32 := 0#32
  let c1_i32_20 : BitVec 32 := 1#32
  let arg10 : BitVec 32 := Scf.iv c0_i32_18 c1_i32_20 k0_t1
  let v161 : BitVec 32 := Scalar.muli c2_i32_73 arg10
  let c2_i32_74 : BitVec 32 := 2#32
  let v162 : BitVec 32 := Scalar.muli v161 c2_i32_74
  let c384_i32 : BitVec 32 := 384#32
  let v163 : BitVec 32 := Scalar.muli v162 c384_i32
  let v164 : BitVec 32 := v163
  let v165 : Index := Scalar.indexCast v164
  let c0_76 : Index := 0#32
  ![0, v165.toNat, 0]
def k0_mult2 (i : grid0.Coords) (k0_t1 : Fin (k0_t1_loop i).trips) : BitVec 32 :=
  let c2_i32_70 : BitVec 32 := 2#32
  let c0_i32_18 : BitVec 32 := 0#32
  let c1_i32_20 : BitVec 32 := 1#32
  let arg10 : BitVec 32 := Scf.iv c0_i32_18 c1_i32_20 k0_t1
  let v158 : BitVec 32 := Scalar.muli c2_i32_70 arg10
  let c1_i32_71 : BitVec 32 := 1#32
  let v159 : BitVec 32 := Scalar.addi v158 c1_i32_71
  let c2_i32_72 : BitVec 32 := 2#32
  let v160 : BitVec 32 := Scalar.muli v159 c2_i32_72
  let c384_i32_119 : BitVec 32 := 384#32
  let v271 : BitVec 32 := Scalar.muli v160 c384_i32_119
  v271
def k0_off2 (i : grid0.Coords) (k0_t1 : Fin (k0_t1_loop i).trips) : Fin 3 → Nat :=
  let c0_120 : Index := 0#32
  let c2_i32_70 : BitVec 32 := 2#32
  let c0_i32_18 : BitVec 32 := 0#32
  let c1_i32_20 : BitVec 32 := 1#32
  let arg10 : BitVec 32 := Scf.iv c0_i32_18 c1_i32_20 k0_t1
  let v158 : BitVec 32 := Scalar.muli c2_i32_70 arg10
  let c1_i32_71 : BitVec 32 := 1#32
  let v159 : BitVec 32 := Scalar.addi v158 c1_i32_71
  let c2_i32_72 : BitVec 32 := 2#32
  let v160 : BitVec 32 := Scalar.muli v159 c2_i32_72
  let c384_i32_119 : BitVec 32 := 384#32
  let v271 : BitVec 32 := Scalar.muli v160 c384_i32_119
  let v272 : BitVec 32 := v271
  let v273 : Index := Scalar.indexCast v272
  let c0_121 : Index := 0#32
  ![0, v273.toNat, 0]
@[reducible] def k0_t2_loop (i : grid0.Coords) : Scf.Loop 32 :=
  let c0_i32_18 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_7 : BitVec 32 := 0#32
  let v15 : BitVec 1 := Scalar.cmpi .slt arg2 c0_i32_7
  let v16 : BitVec 32 := Scalar.extui v15
  let v17 : BitVec 32 := Scalar.subi v14 v16
  let c2_i32 : BitVec 32 := 2#32
  let c0_i32_8 : BitVec 32 := 0#32
  let v18 : BitVec 1 := Scalar.cmpi .sgt c2_i32 c0_i32_8
  let v19 : BitVec 32 := Scalar.extui v18
  let c0_i32_9 : BitVec 32 := 0#32
  let v20 : BitVec 1 := Scalar.cmpi .slt c2_i32 c0_i32_9
  let v21 : BitVec 32 := Scalar.extui v20
  let v22 : BitVec 32 := Scalar.subi v19 v21
  let v23 : BitVec 1 := Scalar.cmpi .ne v17 v22
  let v24 : BitVec 32 := Scalar.remsi arg2 c2_i32
  let c0_i32_10 : BitVec 32 := 0#32
  let v25 : BitVec 1 := Scalar.cmpi .ne v24 c0_i32_10
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c2_i32_11 : BitVec 32 := 2#32
  let c0_i32_14 : BitVec 32 := 0#32
  let v35 : BitVec 1 := Scalar.cmpi .sgt c2_i32_11 c0_i32_14
  let v36 : BitVec 32 := Scalar.extui v35
  let c0_i32_15 : BitVec 32 := 0#32
  let v37 : BitVec 1 := Scalar.cmpi .slt c2_i32_11 c0_i32_15
  let v38 : BitVec 32 := Scalar.extui v37
  let v39 : BitVec 32 := Scalar.subi v36 v38
  let v40 : BitVec 1 := Scalar.cmpi .ne v34 v39
  let v41 : BitVec 32 := Scalar.remsi v28 c2_i32_11
  let c0_i32_16 : BitVec 32 := 0#32
  let v42 : BitVec 1 := Scalar.cmpi .ne v41 c0_i32_16
  let v43 : BitVec 1 := Scalar.andi v40 v42
  let v29 : BitVec 32 := Scalar.divsi v28 c2_i32_11
  let c1_i32_17 : BitVec 32 := 1#32
  let v44 : BitVec 32 := Scalar.subi v29 c1_i32_17
  let v45 : BitVec 32 := Scalar.select v43 v44 v29
  let v46 : BitVec 32 := Scalar.subi v45 c0_i32_18
  let c1_i32_19 : BitVec 32 := 1#32
  let v48 : BitVec 32 := Scalar.divsi v46 c1_i32_19
  let v49 : BitVec 32 := Scalar.muli v48 c1_i32_19
  let v50 : BitVec 32 := Scalar.addi c0_i32_18 v49
  let v47 : BitVec 32 := Scalar.addi c0_i32_18 v46
  let c1_i32_21 : BitVec 32 := 1#32
  ⟨v50, v47, c1_i32_21⟩
def k0_mult3 (i : grid0.Coords) (k0_t2 : Fin (k0_t2_loop i).trips) : BitVec 32 :=
  let c2_i32_73 : BitVec 32 := 2#32
  let c0_i32_18 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_7 : BitVec 32 := 0#32
  let v15 : BitVec 1 := Scalar.cmpi .slt arg2 c0_i32_7
  let v16 : BitVec 32 := Scalar.extui v15
  let v17 : BitVec 32 := Scalar.subi v14 v16
  let c2_i32 : BitVec 32 := 2#32
  let c0_i32_8 : BitVec 32 := 0#32
  let v18 : BitVec 1 := Scalar.cmpi .sgt c2_i32 c0_i32_8
  let v19 : BitVec 32 := Scalar.extui v18
  let c0_i32_9 : BitVec 32 := 0#32
  let v20 : BitVec 1 := Scalar.cmpi .slt c2_i32 c0_i32_9
  let v21 : BitVec 32 := Scalar.extui v20
  let v22 : BitVec 32 := Scalar.subi v19 v21
  let v23 : BitVec 1 := Scalar.cmpi .ne v17 v22
  let v24 : BitVec 32 := Scalar.remsi arg2 c2_i32
  let c0_i32_10 : BitVec 32 := 0#32
  let v25 : BitVec 1 := Scalar.cmpi .ne v24 c0_i32_10
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c2_i32_11 : BitVec 32 := 2#32
  let c0_i32_14 : BitVec 32 := 0#32
  let v35 : BitVec 1 := Scalar.cmpi .sgt c2_i32_11 c0_i32_14
  let v36 : BitVec 32 := Scalar.extui v35
  let c0_i32_15 : BitVec 32 := 0#32
  let v37 : BitVec 1 := Scalar.cmpi .slt c2_i32_11 c0_i32_15
  let v38 : BitVec 32 := Scalar.extui v37
  let v39 : BitVec 32 := Scalar.subi v36 v38
  let v40 : BitVec 1 := Scalar.cmpi .ne v34 v39
  let v41 : BitVec 32 := Scalar.remsi v28 c2_i32_11
  let c0_i32_16 : BitVec 32 := 0#32
  let v42 : BitVec 1 := Scalar.cmpi .ne v41 c0_i32_16
  let v43 : BitVec 1 := Scalar.andi v40 v42
  let v29 : BitVec 32 := Scalar.divsi v28 c2_i32_11
  let c1_i32_17 : BitVec 32 := 1#32
  let v44 : BitVec 32 := Scalar.subi v29 c1_i32_17
  let v45 : BitVec 32 := Scalar.select v43 v44 v29
  let v46 : BitVec 32 := Scalar.subi v45 c0_i32_18
  let c1_i32_19 : BitVec 32 := 1#32
  let v48 : BitVec 32 := Scalar.divsi v46 c1_i32_19
  let v49 : BitVec 32 := Scalar.muli v48 c1_i32_19
  let v50 : BitVec 32 := Scalar.addi c0_i32_18 v49
  let c1_i32_21 : BitVec 32 := 1#32
  let arg10 : BitVec 32 := Scf.iv v50 c1_i32_21 k0_t2
  let v161 : BitVec 32 := Scalar.muli c2_i32_73 arg10
  let c2_i32_74 : BitVec 32 := 2#32
  let v162 : BitVec 32 := Scalar.muli v161 c2_i32_74
  let c384_i32 : BitVec 32 := 384#32
  let v163 : BitVec 32 := Scalar.muli v162 c384_i32
  v163
def k0_off3 (i : grid0.Coords) (k0_t2 : Fin (k0_t2_loop i).trips) : Fin 3 → Nat :=
  let c0_75 : Index := 0#32
  let c2_i32_73 : BitVec 32 := 2#32
  let c0_i32_18 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_7 : BitVec 32 := 0#32
  let v15 : BitVec 1 := Scalar.cmpi .slt arg2 c0_i32_7
  let v16 : BitVec 32 := Scalar.extui v15
  let v17 : BitVec 32 := Scalar.subi v14 v16
  let c2_i32 : BitVec 32 := 2#32
  let c0_i32_8 : BitVec 32 := 0#32
  let v18 : BitVec 1 := Scalar.cmpi .sgt c2_i32 c0_i32_8
  let v19 : BitVec 32 := Scalar.extui v18
  let c0_i32_9 : BitVec 32 := 0#32
  let v20 : BitVec 1 := Scalar.cmpi .slt c2_i32 c0_i32_9
  let v21 : BitVec 32 := Scalar.extui v20
  let v22 : BitVec 32 := Scalar.subi v19 v21
  let v23 : BitVec 1 := Scalar.cmpi .ne v17 v22
  let v24 : BitVec 32 := Scalar.remsi arg2 c2_i32
  let c0_i32_10 : BitVec 32 := 0#32
  let v25 : BitVec 1 := Scalar.cmpi .ne v24 c0_i32_10
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c2_i32_11 : BitVec 32 := 2#32
  let c0_i32_14 : BitVec 32 := 0#32
  let v35 : BitVec 1 := Scalar.cmpi .sgt c2_i32_11 c0_i32_14
  let v36 : BitVec 32 := Scalar.extui v35
  let c0_i32_15 : BitVec 32 := 0#32
  let v37 : BitVec 1 := Scalar.cmpi .slt c2_i32_11 c0_i32_15
  let v38 : BitVec 32 := Scalar.extui v37
  let v39 : BitVec 32 := Scalar.subi v36 v38
  let v40 : BitVec 1 := Scalar.cmpi .ne v34 v39
  let v41 : BitVec 32 := Scalar.remsi v28 c2_i32_11
  let c0_i32_16 : BitVec 32 := 0#32
  let v42 : BitVec 1 := Scalar.cmpi .ne v41 c0_i32_16
  let v43 : BitVec 1 := Scalar.andi v40 v42
  let v29 : BitVec 32 := Scalar.divsi v28 c2_i32_11
  let c1_i32_17 : BitVec 32 := 1#32
  let v44 : BitVec 32 := Scalar.subi v29 c1_i32_17
  let v45 : BitVec 32 := Scalar.select v43 v44 v29
  let v46 : BitVec 32 := Scalar.subi v45 c0_i32_18
  let c1_i32_19 : BitVec 32 := 1#32
  let v48 : BitVec 32 := Scalar.divsi v46 c1_i32_19
  let v49 : BitVec 32 := Scalar.muli v48 c1_i32_19
  let v50 : BitVec 32 := Scalar.addi c0_i32_18 v49
  let c1_i32_21 : BitVec 32 := 1#32
  let arg10 : BitVec 32 := Scf.iv v50 c1_i32_21 k0_t2
  let v161 : BitVec 32 := Scalar.muli c2_i32_73 arg10
  let c2_i32_74 : BitVec 32 := 2#32
  let v162 : BitVec 32 := Scalar.muli v161 c2_i32_74
  let c384_i32 : BitVec 32 := 384#32
  let v163 : BitVec 32 := Scalar.muli v162 c384_i32
  let v164 : BitVec 32 := v163
  let v165 : Index := Scalar.indexCast v164
  let c0_76 : Index := 0#32
  ![0, v165.toNat, 0]
def k0_mult4 (i : grid0.Coords) (k0_t2 : Fin (k0_t2_loop i).trips) : BitVec 32 :=
  let c2_i32_70 : BitVec 32 := 2#32
  let c0_i32_18 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_7 : BitVec 32 := 0#32
  let v15 : BitVec 1 := Scalar.cmpi .slt arg2 c0_i32_7
  let v16 : BitVec 32 := Scalar.extui v15
  let v17 : BitVec 32 := Scalar.subi v14 v16
  let c2_i32 : BitVec 32 := 2#32
  let c0_i32_8 : BitVec 32 := 0#32
  let v18 : BitVec 1 := Scalar.cmpi .sgt c2_i32 c0_i32_8
  let v19 : BitVec 32 := Scalar.extui v18
  let c0_i32_9 : BitVec 32 := 0#32
  let v20 : BitVec 1 := Scalar.cmpi .slt c2_i32 c0_i32_9
  let v21 : BitVec 32 := Scalar.extui v20
  let v22 : BitVec 32 := Scalar.subi v19 v21
  let v23 : BitVec 1 := Scalar.cmpi .ne v17 v22
  let v24 : BitVec 32 := Scalar.remsi arg2 c2_i32
  let c0_i32_10 : BitVec 32 := 0#32
  let v25 : BitVec 1 := Scalar.cmpi .ne v24 c0_i32_10
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c2_i32_11 : BitVec 32 := 2#32
  let c0_i32_14 : BitVec 32 := 0#32
  let v35 : BitVec 1 := Scalar.cmpi .sgt c2_i32_11 c0_i32_14
  let v36 : BitVec 32 := Scalar.extui v35
  let c0_i32_15 : BitVec 32 := 0#32
  let v37 : BitVec 1 := Scalar.cmpi .slt c2_i32_11 c0_i32_15
  let v38 : BitVec 32 := Scalar.extui v37
  let v39 : BitVec 32 := Scalar.subi v36 v38
  let v40 : BitVec 1 := Scalar.cmpi .ne v34 v39
  let v41 : BitVec 32 := Scalar.remsi v28 c2_i32_11
  let c0_i32_16 : BitVec 32 := 0#32
  let v42 : BitVec 1 := Scalar.cmpi .ne v41 c0_i32_16
  let v43 : BitVec 1 := Scalar.andi v40 v42
  let v29 : BitVec 32 := Scalar.divsi v28 c2_i32_11
  let c1_i32_17 : BitVec 32 := 1#32
  let v44 : BitVec 32 := Scalar.subi v29 c1_i32_17
  let v45 : BitVec 32 := Scalar.select v43 v44 v29
  let v46 : BitVec 32 := Scalar.subi v45 c0_i32_18
  let c1_i32_19 : BitVec 32 := 1#32
  let v48 : BitVec 32 := Scalar.divsi v46 c1_i32_19
  let v49 : BitVec 32 := Scalar.muli v48 c1_i32_19
  let v50 : BitVec 32 := Scalar.addi c0_i32_18 v49
  let c1_i32_21 : BitVec 32 := 1#32
  let arg10 : BitVec 32 := Scf.iv v50 c1_i32_21 k0_t2
  let v158 : BitVec 32 := Scalar.muli c2_i32_70 arg10
  let c1_i32_71 : BitVec 32 := 1#32
  let v159 : BitVec 32 := Scalar.addi v158 c1_i32_71
  let c2_i32_72 : BitVec 32 := 2#32
  let v160 : BitVec 32 := Scalar.muli v159 c2_i32_72
  let c384_i32_119 : BitVec 32 := 384#32
  let v271 : BitVec 32 := Scalar.muli v160 c384_i32_119
  v271
def k0_off4 (i : grid0.Coords) (k0_t2 : Fin (k0_t2_loop i).trips) : Fin 3 → Nat :=
  let c0_120 : Index := 0#32
  let c2_i32_70 : BitVec 32 := 2#32
  let c0_i32_18 : BitVec 32 := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_7 : BitVec 32 := 0#32
  let v15 : BitVec 1 := Scalar.cmpi .slt arg2 c0_i32_7
  let v16 : BitVec 32 := Scalar.extui v15
  let v17 : BitVec 32 := Scalar.subi v14 v16
  let c2_i32 : BitVec 32 := 2#32
  let c0_i32_8 : BitVec 32 := 0#32
  let v18 : BitVec 1 := Scalar.cmpi .sgt c2_i32 c0_i32_8
  let v19 : BitVec 32 := Scalar.extui v18
  let c0_i32_9 : BitVec 32 := 0#32
  let v20 : BitVec 1 := Scalar.cmpi .slt c2_i32 c0_i32_9
  let v21 : BitVec 32 := Scalar.extui v20
  let v22 : BitVec 32 := Scalar.subi v19 v21
  let v23 : BitVec 1 := Scalar.cmpi .ne v17 v22
  let v24 : BitVec 32 := Scalar.remsi arg2 c2_i32
  let c0_i32_10 : BitVec 32 := 0#32
  let v25 : BitVec 1 := Scalar.cmpi .ne v24 c0_i32_10
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c2_i32_11 : BitVec 32 := 2#32
  let c0_i32_14 : BitVec 32 := 0#32
  let v35 : BitVec 1 := Scalar.cmpi .sgt c2_i32_11 c0_i32_14
  let v36 : BitVec 32 := Scalar.extui v35
  let c0_i32_15 : BitVec 32 := 0#32
  let v37 : BitVec 1 := Scalar.cmpi .slt c2_i32_11 c0_i32_15
  let v38 : BitVec 32 := Scalar.extui v37
  let v39 : BitVec 32 := Scalar.subi v36 v38
  let v40 : BitVec 1 := Scalar.cmpi .ne v34 v39
  let v41 : BitVec 32 := Scalar.remsi v28 c2_i32_11
  let c0_i32_16 : BitVec 32 := 0#32
  let v42 : BitVec 1 := Scalar.cmpi .ne v41 c0_i32_16
  let v43 : BitVec 1 := Scalar.andi v40 v42
  let v29 : BitVec 32 := Scalar.divsi v28 c2_i32_11
  let c1_i32_17 : BitVec 32 := 1#32
  let v44 : BitVec 32 := Scalar.subi v29 c1_i32_17
  let v45 : BitVec 32 := Scalar.select v43 v44 v29
  let v46 : BitVec 32 := Scalar.subi v45 c0_i32_18
  let c1_i32_19 : BitVec 32 := 1#32
  let v48 : BitVec 32 := Scalar.divsi v46 c1_i32_19
  let v49 : BitVec 32 := Scalar.muli v48 c1_i32_19
  let v50 : BitVec 32 := Scalar.addi c0_i32_18 v49
  let c1_i32_21 : BitVec 32 := 1#32
  let arg10 : BitVec 32 := Scf.iv v50 c1_i32_21 k0_t2
  let v158 : BitVec 32 := Scalar.muli c2_i32_70 arg10
  let c1_i32_71 : BitVec 32 := 1#32
  let v159 : BitVec 32 := Scalar.addi v158 c1_i32_71
  let c2_i32_72 : BitVec 32 := 2#32
  let v160 : BitVec 32 := Scalar.muli v159 c2_i32_72
  let c384_i32_119 : BitVec 32 := 384#32
  let v271 : BitVec 32 := Scalar.muli v160 c384_i32_119
  let v272 : BitVec 32 := v271
  let v273 : Index := Scalar.indexCast v272
  let c0_121 : Index := 0#32
  ![0, v273.toNat, 0]
def k0_cond1 (i : grid0.Coords) : BitVec 1 :=
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_7 : BitVec 32 := 0#32
  let v15 : BitVec 1 := Scalar.cmpi .slt arg2 c0_i32_7
  let v16 : BitVec 32 := Scalar.extui v15
  let v17 : BitVec 32 := Scalar.subi v14 v16
  let c2_i32 : BitVec 32 := 2#32
  let c0_i32_8 : BitVec 32 := 0#32
  let v18 : BitVec 1 := Scalar.cmpi .sgt c2_i32 c0_i32_8
  let v19 : BitVec 32 := Scalar.extui v18
  let c0_i32_9 : BitVec 32 := 0#32
  let v20 : BitVec 1 := Scalar.cmpi .slt c2_i32 c0_i32_9
  let v21 : BitVec 32 := Scalar.extui v20
  let v22 : BitVec 32 := Scalar.subi v19 v21
  let v23 : BitVec 1 := Scalar.cmpi .ne v17 v22
  let v24 : BitVec 32 := Scalar.remsi arg2 c2_i32
  let c0_i32_10 : BitVec 32 := 0#32
  let v25 : BitVec 1 := Scalar.cmpi .ne v24 c0_i32_10
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let c2_i32_22 : BitVec 32 := 2#32
  let c0_i32_23 : BitVec 32 := 0#32
  let v53 : BitVec 1 := Scalar.cmpi .eq c2_i32_22 c0_i32_23
  let c1_i32_24 : BitVec 32 := 1#32
  let v54 : BitVec 32 := Scalar.select v53 c1_i32_24 c2_i32_22
  let v55 : BitVec 32 := Scalar.remsi v28 v54
  let c0_i32_26 : BitVec 32 := 0#32
  let v57 : BitVec 1 := Scalar.cmpi .slt v55 c0_i32_26
  let c0_i32_27 : BitVec 32 := 0#32
  let v58 : BitVec 1 := Scalar.cmpi .slt v54 c0_i32_27
  let v59 : BitVec 1 := Scalar.xori v57 v58
  let c0_i32_25 : BitVec 32 := 0#32
  let v56 : BitVec 1 := Scalar.cmpi .ne v55 c0_i32_25
  let v60 : BitVec 1 := Scalar.andi v59 v56
  let v61 : BitVec 32 := Scalar.addi v55 v54
  let v62 : BitVec 32 := Scalar.select v60 v61 v55
  let c1_i32_28 : BitVec 32 := 1#32
  let v63 : BitVec 1 := Scalar.cmpi .eq v62 c1_i32_28
  let v64 : BitVec 32 := Scalar.extui v63
  let c0_i32_29 : BitVec 32 := 0#32
  let v65 : BitVec 1 := Scalar.cmpi .ne v64 c0_i32_29
  v65

def k0_mult5 (i : grid0.Coords) : BitVec 32 :=
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_7 : BitVec 32 := 0#32
  let v15 : BitVec 1 := Scalar.cmpi .slt arg2 c0_i32_7
  let v16 : BitVec 32 := Scalar.extui v15
  let v17 : BitVec 32 := Scalar.subi v14 v16
  let c2_i32 : BitVec 32 := 2#32
  let c0_i32_8 : BitVec 32 := 0#32
  let v18 : BitVec 1 := Scalar.cmpi .sgt c2_i32 c0_i32_8
  let v19 : BitVec 32 := Scalar.extui v18
  let c0_i32_9 : BitVec 32 := 0#32
  let v20 : BitVec 1 := Scalar.cmpi .slt c2_i32 c0_i32_9
  let v21 : BitVec 32 := Scalar.extui v20
  let v22 : BitVec 32 := Scalar.subi v19 v21
  let v23 : BitVec 1 := Scalar.cmpi .ne v17 v22
  let v24 : BitVec 32 := Scalar.remsi arg2 c2_i32
  let c0_i32_10 : BitVec 32 := 0#32
  let v25 : BitVec 1 := Scalar.cmpi .ne v24 c0_i32_10
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let c1_i32_70 : BitVec 32 := 1#32
  let v158 : BitVec 32 := Scalar.subi v28 c1_i32_70
  let c2_i32_71 : BitVec 32 := 2#32
  let v159 : BitVec 32 := Scalar.muli v158 c2_i32_71
  let c384_i32 : BitVec 32 := 384#32
  let v160 : BitVec 32 := Scalar.muli v159 c384_i32
  v160
def k0_off5 (i : grid0.Coords) : Fin 3 → Nat :=
  let c0_72 : Index := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_7 : BitVec 32 := 0#32
  let v15 : BitVec 1 := Scalar.cmpi .slt arg2 c0_i32_7
  let v16 : BitVec 32 := Scalar.extui v15
  let v17 : BitVec 32 := Scalar.subi v14 v16
  let c2_i32 : BitVec 32 := 2#32
  let c0_i32_8 : BitVec 32 := 0#32
  let v18 : BitVec 1 := Scalar.cmpi .sgt c2_i32 c0_i32_8
  let v19 : BitVec 32 := Scalar.extui v18
  let c0_i32_9 : BitVec 32 := 0#32
  let v20 : BitVec 1 := Scalar.cmpi .slt c2_i32 c0_i32_9
  let v21 : BitVec 32 := Scalar.extui v20
  let v22 : BitVec 32 := Scalar.subi v19 v21
  let v23 : BitVec 1 := Scalar.cmpi .ne v17 v22
  let v24 : BitVec 32 := Scalar.remsi arg2 c2_i32
  let c0_i32_10 : BitVec 32 := 0#32
  let v25 : BitVec 1 := Scalar.cmpi .ne v24 c0_i32_10
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let c1_i32_70 : BitVec 32 := 1#32
  let v158 : BitVec 32 := Scalar.subi v28 c1_i32_70
  let c2_i32_71 : BitVec 32 := 2#32
  let v159 : BitVec 32 := Scalar.muli v158 c2_i32_71
  let c384_i32 : BitVec 32 := 384#32
  let v160 : BitVec 32 := Scalar.muli v159 c384_i32
  let v161 : BitVec 32 := v160
  let v162 : Index := Scalar.indexCast v161
  let c0_73 : Index := 0#32
  ![0, v162.toNat, 0]
def k0_cond2 (i : grid0.Coords) : BitVec 1 :=
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_7 : BitVec 32 := 0#32
  let v15 : BitVec 1 := Scalar.cmpi .slt arg2 c0_i32_7
  let v16 : BitVec 32 := Scalar.extui v15
  let v17 : BitVec 32 := Scalar.subi v14 v16
  let c2_i32 : BitVec 32 := 2#32
  let c0_i32_8 : BitVec 32 := 0#32
  let v18 : BitVec 1 := Scalar.cmpi .sgt c2_i32 c0_i32_8
  let v19 : BitVec 32 := Scalar.extui v18
  let c0_i32_9 : BitVec 32 := 0#32
  let v20 : BitVec 1 := Scalar.cmpi .slt c2_i32 c0_i32_9
  let v21 : BitVec 32 := Scalar.extui v20
  let v22 : BitVec 32 := Scalar.subi v19 v21
  let v23 : BitVec 1 := Scalar.cmpi .ne v17 v22
  let v24 : BitVec 32 := Scalar.remsi arg2 c2_i32
  let c0_i32_10 : BitVec 32 := 0#32
  let v25 : BitVec 1 := Scalar.cmpi .ne v24 c0_i32_10
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let c2_i32_30 : BitVec 32 := 2#32
  let v67 : BitVec 32 := Scalar.muli v28 c2_i32_30
  let v68 : BitVec 32 := Scalar.subi arg2 v67
  let c0_i32_33 : BitVec 32 := 0#32
  let v71 : BitVec 32 := Scalar.maxsi v68 c0_i32_33
  let c1_i32_34 : BitVec 32 := 1#32
  let v72 : BitVec 32 := Scalar.minsi v71 c1_i32_34
  let c0_i32_35 : BitVec 32 := 0#32
  let v73 : BitVec 1 := Scalar.cmpi .ne v72 c0_i32_35
  v73

def k0_mult6 (i : grid0.Coords) : BitVec 32 :=
  let arg2 : BitVec 32 := BitVec.ofNat 32 (i 2).val
  let c1_i32_32 : BitVec 32 := 1#32
  let v70 : BitVec 32 := Scalar.subi arg2 c1_i32_32
  let c384_i32 : BitVec 32 := 384#32
  let v158 : BitVec 32 := Scalar.muli v70 c384_i32
  v158
def k0_off6 (i : grid0.Coords) : Fin 3 → Nat :=
  let c0_70 : Index := 0#32
  let arg2 : BitVec 32 := BitVec.ofNat 32 (i 2).val
  let c1_i32_32 : BitVec 32 := 1#32
  let v70 : BitVec 32 := Scalar.subi arg2 c1_i32_32
  let c384_i32 : BitVec 32 := 384#32
  let v158 : BitVec 32 := Scalar.muli v70 c384_i32
  let v159 : BitVec 32 := v158
  let v160 : Index := Scalar.indexCast v159
  let c0_71 : Index := 0#32
  ![0, v160.toNat, 0]
def k0_mult7 (i : grid0.Coords) : BitVec 32 :=
  let arg2 : BitVec 32 := BitVec.ofNat 32 (i 2).val
  let c0_i32_31 : BitVec 32 := 0#32
  let v69 : BitVec 32 := Scalar.subi arg2 c0_i32_31
  let c384_i32 : BitVec 32 := 384#32
  let v158 : BitVec 32 := Scalar.muli v69 c384_i32
  v158
def k0_off7 (i : grid0.Coords) : Fin 3 → Nat :=
  let c0_70 : Index := 0#32
  let arg2 : BitVec 32 := BitVec.ofNat 32 (i 2).val
  let c0_i32_31 : BitVec 32 := 0#32
  let v69 : BitVec 32 := Scalar.subi arg2 c0_i32_31
  let c384_i32 : BitVec 32 := 384#32
  let v158 : BitVec 32 := Scalar.muli v69 c384_i32
  let v159 : BitVec 32 := v158
  let v160 : Index := Scalar.indexCast v159
  let c0_71 : Index := 0#32
  ![0, v160.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S1x4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x384x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4224x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4224x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x384x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S2x4112x8x2x128 : Shape := ⟨5, ![2, 4112, 8, 2, 128]⟩
abbrev S2x4112x8x256 : Shape := ⟨4, ![2, 4112, 8, 256]⟩
abbrev S4x128 : Shape := ⟨2, ![4, 128]⟩
abbrev S256 : Shape := ⟨1, ![256]⟩
abbrev S_ : Shape := ⟨0, ![]⟩
abbrev S1x128 : Shape := ⟨2, ![1, 128]⟩
abbrev S128 : Shape := ⟨1, ![128]⟩
abbrev S2x8x2x4112x4112 : Shape := ⟨5, ![2, 8, 2, 4112, 4112]⟩
abbrev S4112 : Shape := ⟨1, ![4112]⟩
abbrev S1x4112 : Shape := ⟨2, ![1, 4112]⟩
abbrev S4112x1 : Shape := ⟨2, ![4112, 1]⟩
abbrev S4112x4112 : Shape := ⟨2, ![4112, 4112]⟩
abbrev S2x8x2x4112 : Shape := ⟨4, ![2, 8, 2, 4112]⟩
abbrev S2x8x2x4112x1 : Shape := ⟨5, ![2, 8, 2, 4112, 1]⟩
abbrev S2x8x1x4112x4112 : Shape := ⟨5, ![2, 8, 1, 4112, 4112]⟩
abbrev S2x8x4112x4112 : Shape := ⟨4, ![2, 8, 4112, 4112]⟩
abbrev S2x8x256x4112 : Shape := ⟨4, ![2, 8, 256, 4112]⟩
abbrev S2x4112x8 : Shape := ⟨3, ![2, 4112, 8]⟩
abbrev S2x4112x8x1 : Shape := ⟨4, ![2, 4112, 8, 1]⟩
abbrev S1x1x1x256 : Shape := ⟨4, ![1, 1, 1, 256]⟩
abbrev S2x4112x2048 : Shape := ⟨3, ![2, 4112, 2048]⟩

abbrev nBuf : Space → Nat
  | .hbm => 87
  | .vmem => 0
  | .smem => 0
  | _ => 0

abbrev bufTy : (tb : Table) → Fin (tcTables nBuf tb) → BufTy
  | .hbm, ⟨0, _⟩ => ⟨S2x4112x8x2x128, .f32⟩
  | .hbm, ⟨1, _⟩ => ⟨S2x4112x8x2x128, .f32⟩
  | .hbm, ⟨2, _⟩ => ⟨S2x4112x8x256, .f32⟩
  | .hbm, ⟨3, _⟩ => ⟨S4x128, .f32⟩
  | .hbm, ⟨4, _⟩ => ⟨S256, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1x128, .f32⟩
  | .hbm, ⟨10, _⟩ => ⟨S128, .f32⟩
  | .hbm, ⟨11, _⟩ => ⟨S1x128, .f32⟩
  | .hbm, ⟨12, _⟩ => ⟨S128, .f32⟩
  | .hbm, ⟨13, _⟩ => ⟨S128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x128, .f32⟩
  | .hbm, ⟨18, _⟩ => ⟨S128, .f32⟩
  | .hbm, ⟨19, _⟩ => ⟨S1x128, .f32⟩
  | .hbm, ⟨20, _⟩ => ⟨S128, .f32⟩
  | .hbm, ⟨21, _⟩ => ⟨S128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S2x8x2x4112x4112, .f32⟩
  | .hbm, ⟨29, _⟩ => ⟨S2x8x2x4112x4112, .f32⟩
  | .hbm, ⟨30, _⟩ => ⟨S2x8x2x4112x4112, .f32⟩
  | .hbm, ⟨31, _⟩ => ⟨S4112, .i32⟩
  | .hbm, ⟨32, _⟩ => ⟨S1x4112, .i32⟩
  | .hbm, ⟨33, _⟩ => ⟨S4112, .i32⟩
  | .hbm, ⟨34, _⟩ => ⟨S4112x1, .i32⟩
  | .hbm, ⟨35, _⟩ => ⟨S4112x4112, .i32⟩
  | .hbm, ⟨36, _⟩ => ⟨S4112x4112, .i32⟩
  | .hbm, ⟨37, _⟩ => ⟨S4112x4112, .i1⟩
  | .hbm, ⟨38, _⟩ => ⟨S_, .f32⟩
  | .hbm, ⟨39, _⟩ => ⟨S_, .f32⟩
  | .hbm, ⟨40, _⟩ => ⟨S2x8x2x4112x4112, .i1⟩
  | .hbm, ⟨41, _⟩ => ⟨S2x8x2x4112x4112, .f32⟩
  | .hbm, ⟨42, _⟩ => ⟨S2x8x2x4112x4112, .f32⟩
  | .hbm, ⟨43, _⟩ => ⟨S_, .f32⟩
  | .hbm, ⟨44, _⟩ => ⟨S2x8x2x4112, .f32⟩
  | .hbm, ⟨45, _⟩ => ⟨S_, .f32⟩
  | .hbm, ⟨46, _⟩ => ⟨S2x8x2x4112, .f32⟩
  | .hbm, ⟨47, _⟩ => ⟨S2x8x2x4112, .f32⟩
  | .hbm, ⟨48, _⟩ => ⟨S2x8x2x4112x1, .f32⟩
  | .hbm, ⟨49, _⟩ => ⟨S2x8x2x4112x4112, .f32⟩
  | .hbm, ⟨50, _⟩ => ⟨S2x8x2x4112x4112, .f32⟩
  | .hbm, ⟨51, _⟩ => ⟨S2x8x2x4112x4112, .f32⟩
  | .hbm, ⟨52, _⟩ => ⟨S_, .f32⟩
  | .hbm, ⟨53, _⟩ => ⟨S2x8x2x4112, .f32⟩
  | .hbm, ⟨54, _⟩ => ⟨S2x8x2x4112x1, .f32⟩
  | .hbm, ⟨55, _⟩ => ⟨S2x8x2x4112x4112, .f32⟩
  | .hbm, ⟨56, _⟩ => ⟨S2x8x2x4112x4112, .f32⟩
  | .hbm, ⟨57, _⟩ => ⟨S2x8x1x4112x4112, .f32⟩
  | .hbm, ⟨58, _⟩ => ⟨S2x8x4112x4112, .f32⟩
  | .hbm, ⟨59, _⟩ => ⟨S2x8x1x4112x4112, .f32⟩
  | .hbm, ⟨60, _⟩ => ⟨S2x8x4112x4112, .f32⟩
  | .hbm, ⟨61, _⟩ => ⟨S2x8x4112x4112, .f32⟩
  | .hbm, ⟨62, _⟩ => ⟨S2x8x4112x4112, .f32⟩
  | .hbm, ⟨63, _⟩ => ⟨S2x8x4112x4112, .f32⟩
  | .hbm, ⟨64, _⟩ => ⟨S2x8x256x4112, .f32⟩
  | .hbm, ⟨65, _⟩ => ⟨S2x4112x8x256, .f32⟩
  | .hbm, ⟨66, _⟩ => ⟨S2x4112x8x256, .f32⟩
  | .hbm, ⟨67, _⟩ => ⟨S_, .f32⟩
  | .hbm, ⟨68, _⟩ => ⟨S2x4112x8, .f32⟩
  | .hbm, ⟨69, _⟩ => ⟨S2x4112x8x1, .f32⟩
  | .hbm, ⟨70, _⟩ => ⟨S_, .f32⟩
  | .hbm, ⟨71, _⟩ => ⟨S2x4112x8x1, .f32⟩
  | .hbm, ⟨72, _⟩ => ⟨S2x4112x8x1, .f32⟩
  | .hbm, ⟨73, _⟩ => ⟨S_, .f32⟩
  | .hbm, ⟨74, _⟩ => ⟨S2x4112x8x1, .f32⟩
  | .hbm, ⟨75, _⟩ => ⟨S2x4112x8x1, .f32⟩
  | .hbm, ⟨76, _⟩ => ⟨S2x4112x8x1, .f32⟩
  | .hbm, ⟨77, _⟩ => ⟨S2x4112x8x256, .f32⟩
  | .hbm, ⟨78, _⟩ => ⟨S2x4112x8x256, .f32⟩
  | .hbm, ⟨79, _⟩ => ⟨S1x1x1x256, .f32⟩
  | .hbm, ⟨80, _⟩ => ⟨S2x4112x8x256, .f32⟩
  | .hbm, ⟨81, _⟩ => ⟨S2x4112x8x256, .f32⟩
  | .hbm, ⟨82, _⟩ => ⟨S_, .f32⟩
  | .hbm, ⟨83, _⟩ => ⟨S2x4112x8x256, .f32⟩
  | .hbm, ⟨84, _⟩ => ⟨S2x4112x8x256, .f32⟩
  | .hbm, ⟨85, _⟩ => ⟨S2x4112x2048, .f32⟩
  | .hbm, ⟨86, _⟩ => ⟨S2x4112x2048, .bf16⟩
  | _, _ => ⟨S2x4112x8x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_11 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩

abbrev nD : Nat := 1
abbrev τ : Topo := Topo.v7x

variable {F : FTy → Type} [FloatOps F]
-- ==== Mlp.lean ====
abbrev S8448x2048 : Shape := ⟨2, ![8448, 2048]⟩
abbrev S2048 : Shape := ⟨1, ![2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S1x2048x512 : Shape := ⟨3, ![1, 2048, 512]⟩
abbrev S1x512x2048 : Shape := ⟨3, ![1, 512, 2048]⟩
abbrev S1056x2048 : Shape := ⟨2, ![1056, 2048]⟩
abbrev S1 : Shape := ⟨1, ![1]⟩
abbrev S_ : Shape := ⟨0, ![]⟩
abbrev S1056 : Shape := ⟨1, ![1056]⟩
abbrev S1056x1 : Shape := ⟨2, ![1056, 1]⟩
abbrev S2048x512 : Shape := ⟨2, ![2048, 512]⟩
abbrev S1056x512 : Shape := ⟨2, ![1056, 512]⟩
abbrev S512x2048 : Shape := ⟨2, ![512, 2048]⟩

abbrev nBuf : Space → Nat
  | .hbm => 6
  | .vmem => 9
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S4x2048x8192, .f32⟩
  | .hbm, ⟨3, _⟩ => ⟨S4x8192x2048, .f32⟩
  | .hbm, ⟨4, _⟩ => ⟨S1x2048, .f32⟩
  | .hbm, ⟨5, _⟩ => ⟨S8448x2048, .f32⟩
  | .local _ .vmem, ⟨0, _⟩ => ⟨S1x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x512x2048, .f32⟩
  | .local _ .vmem, ⟨4, _⟩ => ⟨S1x512x2048, .f32⟩
  | .local _ .vmem, ⟨5, _⟩ => ⟨S1056x2048, .f32⟩
  | .local _ .vmem, ⟨6, _⟩ => ⟨S1056x2048, .f32⟩
  | .local _ .vmem, ⟨7, _⟩ => ⟨S1056x2048, .bf16⟩
  | .local _ .vmem, ⟨8, _⟩ => ⟨S1056x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 : BitVec 32 :=
  let c0_i32_19 : BitVec 32 := 0#32
  c0_i32_19
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_mult2 (i : grid0.Coords) : BitVec 32 :=
  let arg0 : BitVec 32 := BitVec.ofNat 32 (i 0).val
  let c1056_i32 : BitVec 32 := 1056#32
  let v31 : BitVec 32 := Scalar.muli arg0 c1056_i32
  v31
def k0_off1 (i : grid0.Coords) : Fin 2 → Nat :=
  let arg0 : BitVec 32 := BitVec.ofNat 32 (i 0).val
  let c1056_i32 : BitVec 32 := 1056#32
  let v31 : BitVec 32 := Scalar.muli arg0 c1056_i32
  let v32 : BitVec 32 := v31
  let c0_i32_20 : BitVec 32 := 0#32
  ![v32.toNat, 0]
def k0_cond3 (i : grid0.Coords) : BitVec 1 :=
  let arg1 : BitVec 32 := BitVec.ofNat 32 (i 1).val
  let c1_i32 : BitVec 32 := 1#32
  let v8 : BitVec 1 := Scalar.cmpi .eq arg1 c1_i32
  let arg0 : BitVec 32 := BitVec.ofNat 32 (i 0).val
  let c1_i32_4 : BitVec 32 := 1#32
  let v9 : BitVec 32 := Scalar.addi arg0 c1_i32_4
  let c8_i32 : BitVec 32 := 8#32
  let v10 : BitVec 1 := Scalar.cmpi .slt v9 c8_i32
  let v11 : BitVec 1 := Scalar.andi v8 v10
  let v12 : BitVec 32 := Scalar.extui v11
  let c0_i32_5 : BitVec 32 := 0#32
  let v13 : BitVec 1 := Scalar.cmpi .ne v12 c0_i32_5
  v13

def k0_mult3 (i : grid0.Coords) : BitVec 32 :=
  let arg0 : BitVec 32 := BitVec.ofNat 32 (i 0).val
  let c1_i32_19 : BitVec 32 := 1#32
  let v31 : BitVec 32 := Scalar.addi arg0 c1_i32_19
  let c1056_i32 : BitVec 32 := 1056#32
  let v32 : BitVec 32 := Scalar.muli v31 c1056_i32
  v32
def k0_off2 (i : grid0.Coords) : Fin 2 → Nat :=
  let arg0 : BitVec 32 := BitVec.ofNat 32 (i 0).val
  let c1_i32_19 : BitVec 32 := 1#32
  let v31 : BitVec 32 := Scalar.addi arg0 c1_i32_19
  let c1056_i32 : BitVec 32 := 1056#32
  let v32 : BitVec 32 := Scalar.muli v31 c1056_i32
  let v33 : BitVec 32 := v32
  let c0_i32_21 : BitVec 32 := 0#32
  ![v33.toNat, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1056x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== MlpReferenceIdeal.lean ====
abbrev S8448x2048 : Shape := ⟨2, ![8448, 2048]⟩
abbrev S2048 : Shape := ⟨1, ![2048]⟩
abbrev S4x2048x8192 : Shape := ⟨3, ![4, 2048, 8192]⟩
abbrev S4x8192x2048 : Shape := ⟨3, ![4, 8192, 2048]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S1x2048x8192 : Shape := ⟨3, ![1, 2048, 8192]⟩
abbrev S2048x8192 : Shape := ⟨2, ![2048, 8192]⟩
abbrev S8448x8192 : Shape := ⟨2, ![8448, 8192]⟩
abbrev S1x8192x2048 : Shape := ⟨3, ![1, 8192, 2048]⟩
abbrev S8192x2048 : Shape := ⟨2, ![8192, 2048]⟩

abbrev nBuf : Space → Nat
  | .hbm => 31
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S4x2048x8192, .f32⟩
  | .hbm, ⟨3, _⟩ => ⟨S4x8192x2048, .f32⟩
  | .hbm, ⟨4, _⟩ => ⟨S8448x2048, .f32⟩
  | .hbm, ⟨5, _⟩ => ⟨S_, .f32⟩
  | .hbm, ⟨6, _⟩ => ⟨S8448, .f32⟩
  | .hbm, ⟨7, _⟩ => ⟨S8448x1, .f32⟩
  | .hbm, ⟨8, _⟩ => ⟨S_, .f32⟩
  | .hbm, ⟨9, _⟩ => ⟨S8448x1, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S8448x1, .f32⟩
  | .hbm, ⟨15, _⟩ => ⟨S8448x2048, .f32⟩
  | .hbm, ⟨16, _⟩ => ⟨S8448x2048, .f32⟩
  | .hbm, ⟨17, _⟩ => ⟨S1x2048, .f32⟩
  | .hbm, ⟨18, _⟩ => ⟨S8448x2048, .f32⟩
  | .hbm, ⟨19, _⟩ => ⟨S8448x2048, .f32⟩
  | .hbm, ⟨20, _⟩ => ⟨S1x2048x8192, .f32⟩
  | .hbm, ⟨21, _⟩ => ⟨S2048x8192, .f32⟩
  | .hbm, ⟨22, _⟩ => ⟨S8448x8192, .f32⟩
  | .hbm, ⟨23, _⟩ => ⟨S_, .f32⟩
  | .hbm, ⟨24, _⟩ => ⟨S8448x8192, .f32⟩
  | .hbm, ⟨25, _⟩ => ⟨S8448x8192, .f32⟩
  | .hbm, ⟨26, _⟩ => ⟨S8448x8192, .f32⟩
  | .hbm, ⟨27, _⟩ => ⟨S1x8192x2048, .f32⟩
  | .hbm, ⟨28, _⟩ => ⟨S8192x2048, .f32⟩
  | .hbm, ⟨29, _⟩ => ⟨S8448x2048, .f32⟩
  | .hbm, ⟨30, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Last.lean ====
abbrev S8448x2048 : Shape := ⟨2, ![8448, 2048]⟩
abbrev S2048 : Shape := ⟨1, ![2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S8192x2048 : Shape := ⟨2, ![8192, 2048]⟩
abbrev S1x2048x512 : Shape := ⟨3, ![1, 2048, 512]⟩
abbrev S1x512x2048 : Shape := ⟨3, ![1, 512, 2048]⟩
abbrev S1056x2048 : Shape := ⟨2, ![1056, 2048]⟩
abbrev S1 : Shape := ⟨1, ![1]⟩
abbrev S_ : Shape := ⟨0, ![]⟩
abbrev S1056 : Shape := ⟨1, ![1056]⟩
abbrev S1056x1 : Shape := ⟨2, ![1056, 1]⟩
abbrev S2048x512 : Shape := ⟨2, ![2048, 512]⟩
abbrev S1056x512 : Shape := ⟨2, ![1056, 512]⟩
abbrev S512x2048 : Shape := ⟨2, ![512, 2048]⟩
abbrev S1040x2048 : Shape := ⟨2, ![1040, 2048]⟩
abbrev S944x2048 : Shape := ⟨2, ![944, 2048]⟩

abbrev nBuf : Space → Nat
  | .hbm => 8
  | .vmem => 10
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S8192x2048, .f32⟩
  | .local _ .vmem, ⟨0, _⟩ => ⟨S1x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x512x2048, .f32⟩
  | .local _ .vmem, ⟨4, _⟩ => ⟨S1x512x2048, .f32⟩
  | .local _ .vmem, ⟨5, _⟩ => ⟨S1x2048, .f32⟩
  | .local _ .vmem, ⟨6, _⟩ => ⟨S1056x2048, .bf16⟩
  | .local _ .vmem, ⟨7, _⟩ => ⟨S1056x2048, .f32⟩
  | .local _ .vmem, ⟨8, _⟩ => ⟨S1056x2048, .f32⟩
  | .local _ .vmem, ⟨9, _⟩ => ⟨S1056x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 : BitVec 32 :=
  let c0_i32_20 : BitVec 32 := 0#32
  c0_i32_20
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_mult2 (i : grid0.Coords) : BitVec 32 :=
  let arg0 : BitVec 32 := BitVec.ofNat 32 (i 0).val
  let c1056_i32 : BitVec 32 := 1056#32
  let v35 : BitVec 32 := Scalar.muli arg0 c1056_i32
  v35
def k0_off1 (i : grid0.Coords) : Fin 2 → Nat :=
  let arg0 : BitVec 32 := BitVec.ofNat 32 (i 0).val
  let c1056_i32 : BitVec 32 := 1056#32
  let v35 : BitVec 32 := Scalar.muli arg0 c1056_i32
  let v36 : BitVec 32 := v35
  let c0_i32_21 : BitVec 32 := 0#32
  ![v36.toNat, 0]
def k0_cond3 (i : grid0.Coords) : BitVec 1 :=
  let arg1 : BitVec 32 := BitVec.ofNat 32 (i 1).val
  let c1_i32 : BitVec 32 := 1#32
  let v8 : BitVec 1 := Scalar.cmpi .eq arg1 c1_i32
  let arg0 : BitVec 32 := BitVec.ofNat 32 (i 0).val
  let c1_i32_4 : BitVec 32 := 1#32
  let v9 : BitVec 32 := Scalar.addi arg0 c1_i32_4
  let c8_i32 : BitVec 32 := 8#32
  let v10 : BitVec 1 := Scalar.cmpi .slt v9 c8_i32
  let v11 : BitVec 1 := Scalar.andi v8 v10
  let v12 : BitVec 32 := Scalar.extui v11
  let c0_i32_5 : BitVec 32 := 0#32
  let v13 : BitVec 1 := Scalar.cmpi .ne v12 c0_i32_5
  v13

def k0_mult3 (i : grid0.Coords) : BitVec 32 :=
  let arg0 : BitVec 32 := BitVec.ofNat 32 (i 0).val
  let c1_i32_20 : BitVec 32 := 1#32
  let v35 : BitVec 32 := Scalar.addi arg0 c1_i32_20
  let c1056_i32 : BitVec 32 := 1056#32
  let v36 : BitVec 32 := Scalar.muli v35 c1056_i32
  v36
def k0_off2 (i : grid0.Coords) : Fin 2 → Nat :=
  let arg0 : BitVec 32 := BitVec.ofNat 32 (i 0).val
  let c1_i32_20 : BitVec 32 := 1#32
  let v35 : BitVec 32 := Scalar.addi arg0 c1_i32_20
  let c1056_i32 : BitVec 32 := 1056#32
  let v36 : BitVec 32 := Scalar.muli v35 c1056_i32
  let v37 : BitVec 32 := v36
  let c0_i32_22 : BitVec 32 := 0#32
  ![v37.toNat, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== LastReferenceIdeal.lean ====
abbrev S8448x2048 : Shape := ⟨2, ![8448, 2048]⟩
abbrev S2048 : Shape := ⟨1, ![2048]⟩
abbrev S4x2048x8192 : Shape := ⟨3, ![4, 2048, 8192]⟩
abbrev S4x8192x2048 : Shape := ⟨3, ![4, 8192, 2048]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S1x2048x8192 : Shape := ⟨3, ![1, 2048, 8192]⟩
abbrev S2048x8192 : Shape := ⟨2, ![2048, 8192]⟩
abbrev S8448x8192 : Shape := ⟨2, ![8448, 8192]⟩
abbrev S1x8192x2048 : Shape := ⟨3, ![1, 8192, 2048]⟩
abbrev S8192x2048 : Shape := ⟨2, ![8192, 2048]⟩
abbrev S2x4224x2048 : Shape := ⟨3, ![2, 4224, 2048]⟩
abbrev S2x4096x2048 : Shape := ⟨3, ![2, 4096, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S8448x2048, .f32⟩
  | .hbm, ⟨6, _⟩ => ⟨S_, .f32⟩
  | .hbm, ⟨7, _⟩ => ⟨S8448, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S_, .f32⟩
  | .hbm, ⟨13, _⟩ => ⟨S8448x1, .f32⟩
  | .hbm, ⟨14, _⟩ => ⟨S8448x1, .f32⟩
  | .hbm, ⟨15, _⟩ => ⟨S8448x1, .f32⟩
  | .hbm, ⟨16, _⟩ => ⟨S8448x2048, .f32⟩
  | .hbm, ⟨17, _⟩ => ⟨S8448x2048, .f32⟩
  | .hbm, ⟨18, _⟩ => ⟨S1x2048, .f32⟩
  | .hbm, ⟨19, _⟩ => ⟨S8448x2048, .f32⟩
  | .hbm, ⟨20, _⟩ => ⟨S8448x2048, .f32⟩
  | .hbm, ⟨21, _⟩ => ⟨S1x2048x8192, .f32⟩
  | .hbm, ⟨22, _⟩ => ⟨S2048x8192, .f32⟩
  | .hbm, ⟨23, _⟩ => ⟨S8448x8192, .f32⟩
  | .hbm, ⟨24, _⟩ => ⟨S_, .f32⟩
  | .hbm, ⟨25, _⟩ => ⟨S8448x8192, .f32⟩
  | .hbm, ⟨26, _⟩ => ⟨S8448x8192, .f32⟩
  | .hbm, ⟨27, _⟩ => ⟨S8448x8192, .f32⟩
  | .hbm, ⟨28, _⟩ => ⟨S1x8192x2048, .f32⟩
  | .hbm, ⟨29, _⟩ => ⟨S8192x2048, .f32⟩
  | .hbm, ⟨30, _⟩ => ⟨S8448x2048, .f32⟩
  | .hbm, ⟨31, _⟩ => ⟨S8448x2048, .f32⟩
  | .hbm, ⟨32, _⟩ => ⟨S8448x2048, .f32⟩
  | .hbm, ⟨33, _⟩ => ⟨S_, .f32⟩
  | .hbm, ⟨34, _⟩ => ⟨S8448, .f32⟩
  | .hbm, ⟨35, _⟩ => ⟨S8448x1, .f32⟩
  | .hbm, ⟨36, _⟩ => ⟨S_, .f32⟩
  | .hbm, ⟨37, _⟩ => ⟨S8448x1, .f32⟩
  | .hbm, ⟨38, _⟩ => ⟨S8448x1, .f32⟩
  | .hbm, ⟨39, _⟩ => ⟨S_, .f32⟩
  | .hbm, ⟨40, _⟩ => ⟨S8448x1, .f32⟩
  | .hbm, ⟨41, _⟩ => ⟨S8448x1, .f32⟩
  | .hbm, ⟨42, _⟩ => ⟨S8448x1, .f32⟩
  | .hbm, ⟨43, _⟩ => ⟨S8448x2048, .f32⟩
  | .hbm, ⟨44, _⟩ => ⟨S8448x2048, .f32⟩
  | .hbm, ⟨45, _⟩ => ⟨S1x2048, .f32⟩
  | .hbm, ⟨46, _⟩ => ⟨S8448x2048, .f32⟩
  | .hbm, ⟨47, _⟩ => ⟨S8448x2048, .f32⟩
  | .hbm, ⟨48, _⟩ => ⟨S2x4224x2048, .f32⟩
  | .hbm, ⟨49, _⟩ => ⟨S2x4096x2048, .f32⟩
  | .hbm, ⟨50, _⟩ => ⟨S8192x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Gate.lean ====
abbrev S8448x2048 : Shape := ⟨2, ![8448, 2048]⟩
abbrev S2048 : Shape := ⟨1, ![2048]⟩
abbrev S2x2048x5120 : Shape := ⟨3, ![2, 2048, 5120]⟩
abbrev S1x2048 : Shape := ⟨2, ![1, 2048]⟩
abbrev S8448x2560 : Shape := ⟨2, ![8448, 2560]⟩
abbrev S768x2048 : Shape := ⟨2, ![768, 2048]⟩
abbrev S1x2048x2560 : Shape := ⟨3, ![1, 2048, 2560]⟩
abbrev S768x2560 : Shape := ⟨2, ![768, 2560]⟩
abbrev S768 : Shape := ⟨1, ![768]⟩
abbrev S768x1 : Shape := ⟨2, ![768, 1]⟩
abbrev S2048x2560 : Shape := ⟨2, ![2048, 2560]⟩

abbrev nBuf : Space → Nat
  | .hbm => 6
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2x2048x5120, .f32⟩
  | .hbm, ⟨3, _⟩ => ⟨S2x2048x5120, .bf16⟩
  | .hbm, ⟨4, _⟩ => ⟨S1x2048, .f32⟩
  | .hbm, ⟨5, _⟩ => ⟨S8448x2560, .bf16⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S1x2048x2560, .bf16⟩
  | .local _ .vmem, ⟨4, _⟩ => ⟨S768x2560, .bf16⟩
  | .local _ .vmem, ⟨5, _⟩ => ⟨S768x2560, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S768x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GateReferenceIdeal.lean ====
abbrev S8448x2048 : Shape := ⟨2, ![8448, 2048]⟩
abbrev S2048 : Shape := ⟨1, ![2048]⟩
abbrev S2x2048x5120 : Shape := ⟨3, ![2, 2048, 5120]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S1x2048x5120 : Shape := ⟨3, ![1, 2048, 5120]⟩
abbrev S2048x5120 : Shape := ⟨2, ![2048, 5120]⟩
abbrev S8448x5120 : Shape := ⟨2, ![8448, 5120]⟩
abbrev S8448x2560 : Shape := ⟨2, ![8448, 2560]⟩

abbrev nBuf : Space → Nat
  | .hbm => 41
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2x2048x5120, .f32⟩
  | .hbm, ⟨3, _⟩ => ⟨S8448x2048, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x2048, .f32⟩
  | .hbm, ⟨15, _⟩ => ⟨S8448x2048, .f32⟩
  | .hbm, ⟨16, _⟩ => ⟨S1x2048, .f32⟩
  | .hbm, ⟨17, _⟩ => ⟨S8448x2048, .f32⟩
  | .hbm, ⟨18, _⟩ => ⟨S8448x2048, .f32⟩
  | .hbm, ⟨19, _⟩ => ⟨S1x2048x5120, .f32⟩
  | .hbm, ⟨20, _⟩ => ⟨S2048x5120, .f32⟩
  | .hbm, ⟨21, _⟩ => ⟨S8448x5120, .f32⟩
  | .hbm, ⟨22, _⟩ => ⟨S8448x2560, .f32⟩
  | .hbm, ⟨23, _⟩ => ⟨S8448x2560, .f32⟩
  | .hbm, ⟨24, _⟩ => ⟨S8448x2560, .f32⟩
  | .hbm, ⟨25, _⟩ => ⟨S_, .f32⟩
  | .hbm, ⟨26, _⟩ => ⟨S8448x2560, .f32⟩
  | .hbm, ⟨27, _⟩ => ⟨S8448x2560, .f32⟩
  | .hbm, ⟨28, _⟩ => ⟨S8448x2560, .f32⟩
  | .hbm, ⟨29, _⟩ => ⟨S_, .f32⟩
  | .hbm, ⟨30, _⟩ => ⟨S8448x2560, .f32⟩
  | .hbm, ⟨31, _⟩ => ⟨S8448x2560, .f32⟩
  | .hbm, ⟨32, _⟩ => ⟨S8448x2560, .f32⟩
  | .hbm, ⟨33, _⟩ => ⟨S_, .f32⟩
  | .hbm, ⟨34, _⟩ => ⟨S8448x2560, .f32⟩
  | .hbm, ⟨35, _⟩ => ⟨S8448x2560, .f32⟩
  | .hbm, ⟨36, _⟩ => ⟨S_, .f32⟩
  | .hbm, ⟨37, _⟩ => ⟨S8448x2560, .f32⟩
  | .hbm, ⟨38, _⟩ => ⟨S8448x2560, .f32⟩
  | .hbm, ⟨39, _⟩ => ⟨S8448x2560, .f32⟩
  | .hbm, ⟨40, _⟩ => ⟨S8448x2560, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Entry.lean ====
abbrev S8448x2048 : Shape := ⟨2, ![8448, 2048]⟩
abbrev S2048 : Shape := ⟨1, ![2048]⟩
abbrev S2x2048x5120 : Shape := ⟨3, ![2, 2048, 5120]⟩
abbrev S1x2048 : Shape := ⟨2, ![1, 2048]⟩
abbrev S8448x2560 : Shape := ⟨2, ![8448, 2560]⟩
abbrev S768x2048 : Shape := ⟨2, ![768, 2048]⟩
abbrev S1x2048x2560 : Shape := ⟨3, ![1, 2048, 2560]⟩
abbrev S768x2560 : Shape := ⟨2, ![768, 2560]⟩
abbrev S768 : Shape := ⟨1, ![768]⟩
abbrev S768x1 : Shape := ⟨2, ![768, 1]⟩
abbrev S2048x2560 : Shape := ⟨2, ![2048, 2560]⟩

abbrev nBuf : Space → Nat
  | .hbm => 6
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2x2048x5120, .f32⟩
  | .hbm, ⟨3, _⟩ => ⟨S2x2048x5120, .bf16⟩
  | .hbm, ⟨4, _⟩ => ⟨S1x2048, .f32⟩
  | .hbm, ⟨5, _⟩ => ⟨S8448x2560, .f32⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S1x2048x2560, .bf16⟩
  | .local _ .vmem, ⟨4, _⟩ => ⟨S768x2560, .f32⟩
  | .local _ .vmem, ⟨5, _⟩ => ⟨S768x2560, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c1_i32_0 : BitVec 32 := 1#32
  let c0_i32_1 : BitVec 32 := 0#32
  ![c1_i32.toNat, c0_i32.toNat, c1_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S768x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== EntryReferenceIdeal.lean ====
abbrev S8448x2048 : Shape := ⟨2, ![8448, 2048]⟩
abbrev S2048 : Shape := ⟨1, ![2048]⟩
abbrev S2x2048x5120 : Shape := ⟨3, ![2, 2048, 5120]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S1x2048x5120 : Shape := ⟨3, ![1, 2048, 5120]⟩
abbrev S2048x5120 : Shape := ⟨2, ![2048, 5120]⟩
abbrev S8448x5120 : Shape := ⟨2, ![8448, 5120]⟩
abbrev S8448x2560 : Shape := ⟨2, ![8448, 2560]⟩

abbrev nBuf : Space → Nat
  | .hbm => 23
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2x2048x5120, .f32⟩
  | .hbm, ⟨3, _⟩ => ⟨S8448x2048, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x2048, .f32⟩
  | .hbm, ⟨15, _⟩ => ⟨S8448x2048, .f32⟩
  | .hbm, ⟨16, _⟩ => ⟨S1x2048, .f32⟩
  | .hbm, ⟨17, _⟩ => ⟨S8448x2048, .f32⟩
  | .hbm, ⟨18, _⟩ => ⟨S8448x2048, .f32⟩
  | .hbm, ⟨19, _⟩ => ⟨S1x2048x5120, .f32⟩
  | .hbm, ⟨20, _⟩ => ⟨S2048x5120, .f32⟩
  | .hbm, ⟨21, _⟩ => ⟨S8448x5120, .f32⟩
  | .hbm, ⟨22, _⟩ => ⟨S8448x2560, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Exit.lean ====
abbrev S8448x2560 : Shape := ⟨2, ![8448, 2560]⟩
abbrev S2x2560x2048 : Shape := ⟨3, ![2, 2560, 2048]⟩
abbrev S8448x2048 : Shape := ⟨2, ![8448, 2048]⟩
abbrev S768x2560 : Shape := ⟨2, ![768, 2560]⟩
abbrev S1x2560x2048 : Shape := ⟨3, ![1, 2560, 2048]⟩
abbrev S768x2048 : Shape := ⟨2, ![768, 2048]⟩
abbrev S2560x2048 : Shape := ⟨2, ![2560, 2048]⟩

abbrev nBuf : Space → Nat
  | .hbm => 6
  | .vmem => 7
  | .smem => 0
  | _ => 0

abbrev bufTy : (tb : Table) → Fin (tcTables nBuf tb) → BufTy
  | .hbm, ⟨0, _⟩ => ⟨S8448x2560, .f32⟩
  | .hbm, ⟨1, _⟩ => ⟨S2x2560x2048, .f32⟩
  | .hbm, ⟨2, _⟩ => ⟨S8448x2048, .f32⟩
  | .hbm, ⟨3, _⟩ => ⟨S8448x2560, .bf16⟩
  | .hbm, ⟨4, _⟩ => ⟨S2x2560x2048, .bf16⟩
  | .hbm, ⟨5, _⟩ => ⟨S8448x2048, .f32⟩
  | .local _ .vmem, ⟨0, _⟩ => ⟨S768x2560, .bf16⟩
  | .local _ .vmem, ⟨1, _⟩ => ⟨S768x2560, .bf16⟩
  | .local _ .vmem, ⟨2, _⟩ => ⟨S1x2560x2048, .bf16⟩
  | .local _ .vmem, ⟨3, _⟩ => ⟨S768x2048, .f32⟩
  | .local _ .vmem, ⟨4, _⟩ => ⟨S768x2048, .f32⟩
  | .local _ .vmem, ⟨5, _⟩ => ⟨S768x2048, .f32⟩
  | .local _ .vmem, ⟨6, _⟩ => ⟨S768x2048, .f32⟩
  | _, _ => ⟨S8448x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2560x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ExitReferenceIdeal.lean ====
abbrev S8448x2560 : Shape := ⟨2, ![8448, 2560]⟩
abbrev S2x2560x2048 : Shape := ⟨3, ![2, 2560, 2048]⟩
abbrev S8448x2048 : Shape := ⟨2, ![8448, 2048]⟩
abbrev S1x2560x2048 : Shape := ⟨3, ![1, 2560, 2048]⟩
abbrev S2560x2048 : Shape := ⟨2, ![2560, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8448x2560, .f32⟩
  | .hbm, ⟨1, _⟩ => ⟨S2x2560x2048, .f32⟩
  | .hbm, ⟨2, _⟩ => ⟨S8448x2048, .f32⟩
  | .hbm, ⟨3, _⟩ => ⟨S1x2560x2048, .f32⟩
  | .hbm, ⟨4, _⟩ => ⟨S2560x2048, .f32⟩
  | .hbm, ⟨5, _⟩ => ⟨S8448x2048, .f32⟩
  | .hbm, ⟨6, _⟩ => ⟨S8448x2048, .f32⟩
  | _, _ => ⟨S8448x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Attended.lean ====
abbrev S8448x2048 : Shape := ⟨2, ![8448, 2048]⟩
abbrev S2x2048x2048 : Shape := ⟨3, ![2, 2048, 2048]⟩
abbrev S768x2048 : Shape := ⟨2, ![768, 2048]⟩
abbrev S1x2048x2048 : Shape := ⟨3, ![1, 2048, 2048]⟩
abbrev S2048x2048 : Shape := ⟨2, ![2048, 2048]⟩

abbrev nBuf : Space → Nat
  | .hbm => 6
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S2x2048x2048, .f32⟩
  | .hbm, ⟨2, _⟩ => ⟨S8448x2048, .f32⟩
  | .hbm, ⟨3, _⟩ => ⟨S8448x2048, .bf16⟩
  | .hbm, ⟨4, _⟩ => ⟨S2x2048x2048, .bf16⟩
  | .hbm, ⟨5, _⟩ => ⟨S8448x2048, .f32⟩
  | .local _ .vmem, ⟨0, _⟩ => ⟨S768x2048, .bf16⟩
  | .local _ .vmem, ⟨1, _⟩ => ⟨S768x2048, .bf16⟩
  | .local _ .vmem, ⟨2, _⟩ => ⟨S1x2048x2048, .bf16⟩
  | .local _ .vmem, ⟨3, _⟩ => ⟨S768x2048, .f32⟩
  | .local _ .vmem, ⟨4, _⟩ => ⟨S768x2048, .f32⟩
  | .local _ .vmem, ⟨5, _⟩ => ⟨S768x2048, .f32⟩
  | .local _ .vmem, ⟨6, _⟩ => ⟨S768x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttendedReferenceIdeal.lean ====
abbrev S8448x2048 : Shape := ⟨2, ![8448, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2x2048x2048, .f32⟩
  | .hbm, ⟨2, _⟩ => ⟨S8448x2048, .f32⟩
  | .hbm, ⟨3, _⟩ => ⟨S1x2048x2048, .f32⟩
  | .hbm, ⟨4, _⟩ => ⟨S2048x2048, .f32⟩
  | .hbm, ⟨5, _⟩ => ⟨S8448x2048, .f32⟩
  | .hbm, ⟨6, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KeyValue.lean ====
abbrev S8448x2048 : Shape := ⟨2, ![8448, 2048]⟩
abbrev S2048 : Shape := ⟨1, ![2048]⟩
abbrev S2048x4096 : Shape := ⟨2, ![2048, 4096]⟩
abbrev S64 : Shape := ⟨1, ![64]⟩
abbrev S_ : Shape := ⟨0, ![]⟩
abbrev S4224 : Shape := ⟨1, ![4224]⟩
abbrev S4224x1 : Shape := ⟨2, ![4224, 1]⟩
abbrev S1x64 : Shape := ⟨2, ![1, 64]⟩
abbrev S4224x64 : Shape := ⟨2, ![4224, 64]⟩
abbrev S4224x128 : Shape := ⟨2, ![4224, 128]⟩
abbrev S1x4224x1x128 : Shape := ⟨4, ![1, 4224, 1, 128]⟩
abbrev S2x4224x1x128 : Shape := ⟨4, ![2, 4224, 1, 128]⟩
abbrev S8448x128 : Shape := ⟨2, ![8448, 128]⟩
abbrev S1x2048 : Shape := ⟨2, ![1, 2048]⟩
abbrev S768x2048 : Shape := ⟨2, ![768, 2048]⟩
abbrev S768x128 : Shape := ⟨2, ![768, 128]⟩
abbrev S768 : Shape := ⟨1, ![768]⟩
abbrev S768x1 : Shape := ⟨2, ![768, 1]⟩
abbrev S2048x2048 : Shape := ⟨2, ![2048, 2048]⟩

abbrev nBuf : Space → Nat
  | .hbm => 40
  | .vmem => 12
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x4096, .f32⟩
  | .hbm, ⟨3, _⟩ => ⟨S2048x4096, .bf16⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S4224, .f32⟩
  | .hbm, ⟨21, _⟩ => ⟨S4224x1, .f32⟩
  | .hbm, ⟨22, _⟩ => ⟨S1x64, .f32⟩
  | .hbm, ⟨23, _⟩ => ⟨S4224x64, .f32⟩
  | .hbm, ⟨24, _⟩ => ⟨S4224x64, .f32⟩
  | .hbm, ⟨25, _⟩ => ⟨S4224x64, .f32⟩
  | .hbm, ⟨26, _⟩ => ⟨S4224x64, .f32⟩
  | .hbm, ⟨27, _⟩ => ⟨S4224x64, .f32⟩
  | .hbm, ⟨28, _⟩ => ⟨S4224x128, .f32⟩
  | .hbm, ⟨29, _⟩ => ⟨S4224x64, .f32⟩
  | .hbm, ⟨30, _⟩ => ⟨S4224x128, .f32⟩
  | .hbm, ⟨31, _⟩ => ⟨S1x4224x1x128, .f32⟩
  | .hbm, ⟨32, _⟩ => ⟨S2x4224x1x128, .f32⟩
  | .hbm, ⟨33, _⟩ => ⟨S8448x128, .f32⟩
  | .hbm, ⟨34, _⟩ => ⟨S1x4224x1x128, .f32⟩
  | .hbm, ⟨35, _⟩ => ⟨S2x4224x1x128, .f32⟩
  | .hbm, ⟨36, _⟩ => ⟨S8448x128, .f32⟩
  | .hbm, ⟨37, _⟩ => ⟨S1x2048, .f32⟩
  | .hbm, ⟨38, _⟩ => ⟨S8448x2048, .bf16⟩
  | .hbm, ⟨39, _⟩ => ⟨S8448x2048, .bf16⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S2048x4096, .bf16⟩
  | .local _ .vmem, ⟨4, _⟩ => ⟨S768x128, .f32⟩
  | .local _ .vmem, ⟨5, _⟩ => ⟨S768x128, .f32⟩
  | .local _ .vmem, ⟨6, _⟩ => ⟨S768x128, .f32⟩
  | .local _ .vmem, ⟨7, _⟩ => ⟨S768x128, .f32⟩
  | .local _ .vmem, ⟨8, _⟩ => ⟨S768x2048, .bf16⟩
  | .local _ .vmem, ⟨9, _⟩ => ⟨S768x2048, .bf16⟩
  | .local _ .vmem, ⟨10, _⟩ => ⟨S768x2048, .bf16⟩
  | .local _ .vmem, ⟨11, _⟩ => ⟨S768x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30_0 : Ref sig .tc := ⟨.hbm, 38, rfl⟩
abbrev main_v30_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S768x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S768x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KeyValueReferenceIdeal.lean ====
abbrev S8448x2048 : Shape := ⟨2, ![8448, 2048]⟩
abbrev S2048 : Shape := ⟨1, ![2048]⟩
abbrev S2048x4096 : Shape := ⟨2, ![2048, 4096]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S8448x4096 : Shape := ⟨2, ![8448, 4096]⟩
abbrev S64 : Shape := ⟨1, ![64]⟩
abbrev S4224 : Shape := ⟨1, ![4224]⟩
abbrev S4224x1 : Shape := ⟨2, ![4224, 1]⟩
abbrev S1x64 : Shape := ⟨2, ![1, 64]⟩
abbrev S4224x64 : Shape := ⟨2, ![4224, 64]⟩
abbrev S2x4224x8x2x128 : Shape := ⟨5, ![2, 4224, 8, 2, 128]⟩
abbrev S1x4224x1x1x64 : Shape := ⟨5, ![1, 4224, 1, 1, 64]⟩
abbrev S2x4224x8x2x64 : Shape := ⟨5, ![2, 4224, 8, 2, 64]⟩

abbrev nBuf : Space → Nat
  | .hbm => 65
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x4096, .f32⟩
  | .hbm, ⟨3, _⟩ => ⟨S8448x2048, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x2048, .f32⟩
  | .hbm, ⟨15, _⟩ => ⟨S8448x2048, .f32⟩
  | .hbm, ⟨16, _⟩ => ⟨S1x2048, .f32⟩
  | .hbm, ⟨17, _⟩ => ⟨S8448x2048, .f32⟩
  | .hbm, ⟨18, _⟩ => ⟨S8448x2048, .f32⟩
  | .hbm, ⟨19, _⟩ => ⟨S8448x4096, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S4224, .f32⟩
  | .hbm, ⟨37, _⟩ => ⟨S4224x1, .f32⟩
  | .hbm, ⟨38, _⟩ => ⟨S1x64, .f32⟩
  | .hbm, ⟨39, _⟩ => ⟨S4224x64, .f32⟩
  | .hbm, ⟨40, _⟩ => ⟨S4224x64, .f32⟩
  | .hbm, ⟨41, _⟩ => ⟨S4224x64, .f32⟩
  | .hbm, ⟨42, _⟩ => ⟨S4224x64, .f32⟩
  | .hbm, ⟨43, _⟩ => ⟨S4224x64, .f32⟩
  | .hbm, ⟨44, _⟩ => ⟨S8448x2048, .f32⟩
  | .hbm, ⟨45, _⟩ => ⟨S2x4224x8x2x128, .f32⟩
  | .hbm, ⟨46, _⟩ => ⟨S1x4224x1x1x64, .f32⟩
  | .hbm, ⟨47, _⟩ => ⟨S1x4224x1x1x64, .f32⟩
  | .hbm, ⟨48, _⟩ => ⟨S2x4224x8x2x64, .f32⟩
  | .hbm, ⟨49, _⟩ => ⟨S2x4224x8x2x64, .f32⟩
  | .hbm, ⟨50, _⟩ => ⟨S2x4224x8x2x64, .f32⟩
  | .hbm, ⟨51, _⟩ => ⟨S2x4224x8x2x64, .f32⟩
  | .hbm, ⟨52, _⟩ => ⟨S2x4224x8x2x64, .f32⟩
  | .hbm, ⟨53, _⟩ => ⟨S2x4224x8x2x64, .f32⟩
  | .hbm, ⟨54, _⟩ => ⟨S2x4224x8x2x64, .f32⟩
  | .hbm, ⟨55, _⟩ => ⟨S2x4224x8x2x64, .f32⟩
  | .hbm, ⟨56, _⟩ => ⟨S2x4224x8x2x64, .f32⟩
  | .hbm, ⟨57, _⟩ => ⟨S2x4224x8x2x64, .f32⟩
  | .hbm, ⟨58, _⟩ => ⟨S2x4224x8x2x64, .f32⟩
  | .hbm, ⟨59, _⟩ => ⟨S2x4224x8x2x64, .f32⟩
  | .hbm, ⟨60, _⟩ => ⟨S2x4224x8x2x128, .f32⟩
  | .hbm, ⟨61, _⟩ => ⟨S8448x2048, .f32⟩
  | .hbm, ⟨62, _⟩ => ⟨S8448x2048, .bf16⟩
  | .hbm, ⟨63, _⟩ => ⟨S8448x2048, .f32⟩
  | .hbm, ⟨64, _⟩ => ⟨S8448x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩

abbrev nD : Nat := 1
abbrev τ : Topo := Topo.v7x

variable {F : FTy → Type} [FloatOps F]
-- ==== Query.lean ====
abbrev S8448x2048 : Shape := ⟨2, ![8448, 2048]⟩
abbrev S2048 : Shape := ⟨1, ![2048]⟩
abbrev S2x2048x2048 : Shape := ⟨3, ![2, 2048, 2048]⟩
abbrev S64 : Shape := ⟨1, ![64]⟩
abbrev S_ : Shape := ⟨0, ![]⟩
abbrev S4224 : Shape := ⟨1, ![4224]⟩
abbrev S4224x1 : Shape := ⟨2, ![4224, 1]⟩
abbrev S1x64 : Shape := ⟨2, ![1, 64]⟩
abbrev S4224x64 : Shape := ⟨2, ![4224, 64]⟩
abbrev S4224x128 : Shape := ⟨2, ![4224, 128]⟩
abbrev S1x4224x1x128 : Shape := ⟨4, ![1, 4224, 1, 128]⟩
abbrev S2x4224x1x128 : Shape := ⟨4, ![2, 4224, 1, 128]⟩
abbrev S8448x128 : Shape := ⟨2, ![8448, 128]⟩
abbrev S1x2048 : Shape := ⟨2, ![1, 2048]⟩
abbrev S768x2048 : Shape := ⟨2, ![768, 2048]⟩
abbrev S1x2048x2048 : Shape := ⟨3, ![1, 2048, 2048]⟩
abbrev S768x128 : Shape := ⟨2, ![768, 128]⟩
abbrev S768 : Shape := ⟨1, ![768]⟩
abbrev S768x1 : Shape := ⟨2, ![768, 1]⟩
abbrev S2048x2048 : Shape := ⟨2, ![2048, 2048]⟩

abbrev nBuf : Space → Nat
  | .hbm => 39
  | .vmem => 10
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2x2048x2048, .f32⟩
  | .hbm, ⟨3, _⟩ => ⟨S2x2048x2048, .bf16⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S4224, .f32⟩
  | .hbm, ⟨21, _⟩ => ⟨S4224x1, .f32⟩
  | .hbm, ⟨22, _⟩ => ⟨S1x64, .f32⟩
  | .hbm, ⟨23, _⟩ => ⟨S4224x64, .f32⟩
  | .hbm, ⟨24, _⟩ => ⟨S4224x64, .f32⟩
  | .hbm, ⟨25, _⟩ => ⟨S4224x64, .f32⟩
  | .hbm, ⟨26, _⟩ => ⟨S4224x64, .f32⟩
  | .hbm, ⟨27, _⟩ => ⟨S4224x64, .f32⟩
  | .hbm, ⟨28, _⟩ => ⟨S4224x128, .f32⟩
  | .hbm, ⟨29, _⟩ => ⟨S4224x64, .f32⟩
  | .hbm, ⟨30, _⟩ => ⟨S4224x128, .f32⟩
  | .hbm, ⟨31, _⟩ => ⟨S1x4224x1x128, .f32⟩
  | .hbm, ⟨32, _⟩ => ⟨S2x4224x1x128, .f32⟩
  | .hbm, ⟨33, _⟩ => ⟨S8448x128, .f32⟩
  | .hbm, ⟨34, _⟩ => ⟨S1x4224x1x128, .f32⟩
  | .hbm, ⟨35, _⟩ => ⟨S2x4224x1x128, .f32⟩
  | .hbm, ⟨36, _⟩ => ⟨S8448x128, .f32⟩
  | .hbm, ⟨37, _⟩ => ⟨S1x2048, .f32⟩
  | .hbm, ⟨38, _⟩ => ⟨S8448x2048, .bf16⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S1x2048x2048, .bf16⟩
  | .local _ .vmem, ⟨4, _⟩ => ⟨S768x128, .f32⟩
  | .local _ .vmem, ⟨5, _⟩ => ⟨S768x128, .f32⟩
  | .local _ .vmem, ⟨6, _⟩ => ⟨S768x128, .f32⟩
  | .local _ .vmem, ⟨7, _⟩ => ⟨S768x128, .f32⟩
  | .local _ .vmem, ⟨8, _⟩ => ⟨S768x2048, .bf16⟩
  | .local _ .vmem, ⟨9, _⟩ => ⟨S768x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S768x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QueryReferenceIdeal.lean ====
abbrev S8448x2048 : Shape := ⟨2, ![8448, 2048]⟩
abbrev S2048 : Shape := ⟨1, ![2048]⟩
abbrev S2x2048x2048 : Shape := ⟨3, ![2, 2048, 2048]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S64 : Shape := ⟨1, ![64]⟩
abbrev S4224 : Shape := ⟨1, ![4224]⟩
abbrev S4224x1 : Shape := ⟨2, ![4224, 1]⟩
abbrev S1x64 : Shape := ⟨2, ![1, 64]⟩
abbrev S4224x64 : Shape := ⟨2, ![4224, 64]⟩
abbrev S1x2048x2048 : Shape := ⟨3, ![1, 2048, 2048]⟩
abbrev S2048x2048 : Shape := ⟨2, ![2048, 2048]⟩
abbrev S2x4224x8x2x128 : Shape := ⟨5, ![2, 4224, 8, 2, 128]⟩
abbrev S1x4224x1x1x64 : Shape := ⟨5, ![1, 4224, 1, 1, 64]⟩
abbrev S2x4224x8x2x64 : Shape := ⟨5, ![2, 4224, 8, 2, 64]⟩

abbrev nBuf : Space → Nat
  | .hbm => 67
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2x2048x2048, .f32⟩
  | .hbm, ⟨3, _⟩ => ⟨S8448x2048, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x2048, .f32⟩
  | .hbm, ⟨15, _⟩ => ⟨S8448x2048, .f32⟩
  | .hbm, ⟨16, _⟩ => ⟨S1x2048, .f32⟩
  | .hbm, ⟨17, _⟩ => ⟨S8448x2048, .f32⟩
  | .hbm, ⟨18, _⟩ => ⟨S8448x2048, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S4224, .f32⟩
  | .hbm, ⟨36, _⟩ => ⟨S4224x1, .f32⟩
  | .hbm, ⟨37, _⟩ => ⟨S1x64, .f32⟩
  | .hbm, ⟨38, _⟩ => ⟨S4224x64, .f32⟩
  | .hbm, ⟨39, _⟩ => ⟨S4224x64, .f32⟩
  | .hbm, ⟨40, _⟩ => ⟨S4224x64, .f32⟩
  | .hbm, ⟨41, _⟩ => ⟨S4224x64, .f32⟩
  | .hbm, ⟨42, _⟩ => ⟨S4224x64, .f32⟩
  | .hbm, ⟨43, _⟩ => ⟨S1x2048x2048, .f32⟩
  | .hbm, ⟨44, _⟩ => ⟨S2048x2048, .f32⟩
  | .hbm, ⟨45, _⟩ => ⟨S8448x2048, .f32⟩
  | .hbm, ⟨46, _⟩ => ⟨S2x4224x8x2x128, .f32⟩
  | .hbm, ⟨47, _⟩ => ⟨S1x4224x1x1x64, .f32⟩
  | .hbm, ⟨48, _⟩ => ⟨S1x4224x1x1x64, .f32⟩
  | .hbm, ⟨49, _⟩ => ⟨S2x4224x8x2x64, .f32⟩
  | .hbm, ⟨50, _⟩ => ⟨S2x4224x8x2x64, .f32⟩
  | .hbm, ⟨51, _⟩ => ⟨S2x4224x8x2x64, .f32⟩
  | .hbm, ⟨52, _⟩ => ⟨S2x4224x8x2x64, .f32⟩
  | .hbm, ⟨53, _⟩ => ⟨S2x4224x8x2x64, .f32⟩
  | .hbm, ⟨54, _⟩ => ⟨S2x4224x8x2x64, .f32⟩
  | .hbm, ⟨55, _⟩ => ⟨S2x4224x8x2x64, .f32⟩
  | .hbm, ⟨56, _⟩ => ⟨S2x4224x8x2x64, .f32⟩
  | .hbm, ⟨57, _⟩ => ⟨S2x4224x8x2x64, .f32⟩
  | .hbm, ⟨58, _⟩ => ⟨S2x4224x8x2x64, .f32⟩
  | .hbm, ⟨59, _⟩ => ⟨S2x4224x8x2x64, .f32⟩
  | .hbm, ⟨60, _⟩ => ⟨S2x4224x8x2x64, .f32⟩
  | .hbm, ⟨61, _⟩ => ⟨S2x4224x8x2x128, .f32⟩
  | .hbm, ⟨62, _⟩ => ⟨S8448x2048, .f32⟩
  | .hbm, ⟨63, _⟩ => ⟨S_, .f32⟩
  | .hbm, ⟨64, _⟩ => ⟨S8448x2048, .f32⟩
  | .hbm, ⟨65, _⟩ => ⟨S8448x2048, .f32⟩
  | .hbm, ⟨66, _⟩ => ⟨S8448x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_7 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩

abbrev nD : Nat := 1
abbrev τ : Topo := Topo.v7x

variable {F : FTy → Type} [FloatOps F]
-- ==== Proof.FfRef.lean ====
/- The feed-forward reference, read at an index. -/
module

public import proofs.«01_k».proof.Proof.Gen.MlpReferenceIdeal.Run
public import Idealize.ShloMosaic.Lib.Pointwise
public import Idealize.ShloMosaic.Lib.Tactic.CleanTypes

@[expose] public section

set_option maxRecDepth 16384

noncomputable section

namespace Cert.MlpReferenceIdeal.Ff

open Cert.MlpReferenceIdeal Cert.MlpReferenceIdeal.Gen Cert.MlpReferenceIdeal.Value
open Idealize.ShloMosaic Idealize.ShloMosaic.TcCoe Idealize.SL.Sem

/-! ## One row in the extended reals -/

/-- Feature `d` of a row, normed and scaled by the gain. -/
def unit (x g : Fin 2048 → EReal) (d : Fin 2048) : EReal :=
  x d * Ideal.rsqrt (Ideal.div (∑ e : Fin 2048, x e * x e) (Ideal.ofBits FTy.f32 1157627904#32) + Ideal.ofBits FTy.f32 897988541#32) * g d
/-- A hidden unit with weights `w`: the square of its positive part. -/
def hid (x g w : Fin 2048 → EReal) : EReal :=
  max (∑ d : Fin 2048, unit x g d * w d) 0 * max (∑ d : Fin 2048, unit x g d * w d) 0

/-! ## The reference -/

variable {F : FTy → Type} [FloatOps F]

/-- The normed rows. -/
def normed (x : FVec F S8448x2048 .f32) (g : FVec F S2048 .f32) : FVec F S8448x2048 .f32 :=
  mulf (mulf x (broadcastInDim S8448x2048 ![0, 1] bcast_S8448x1_S8448x2048_0_1 (Host.rsqrt (addf
      (Host.divf (broadcastInDim S8448x1 ![0] bcast_S8448_S8448x1_0 (Host.reduceAdd (mulf x x) (constant S_ .f32 0x00000000#32) reducesTo_S8448x2048_S8448_d1 h_S_))
        (broadcastInDim S8448x1 ![] bcast_S_S8448x1 (constant S_ .f32 0x45000000#32)))
      (broadcastInDim S8448x1 ![] bcast_S_S8448x1 (constant S_ .f32 0x358637BD#32))))))
    (broadcastInDim S8448x2048 ![0, 1] bcast_S1x2048_S8448x2048_0_1 (broadcastInDim S1x2048 ![1] bcast_S2048_S1x2048_1 g))

/-- The positive part of what enters the hidden units. -/
def entering (u : FVec F S8448x2048 .f32) (w1 : FVec F S4x2048x8192 .f32) : FVec F S8448x8192 .f32 :=
  maximumf (Host.dotGeneral dot_S8448x2048_S2048x8192_S8448x8192_1_0_0_1_n_n none u
      (shapeCast S2048x8192 (extractStridedSlice S1x2048x8192 ![2, 0, 0] w1 slices_S4x2048x8192_S1x2048x8192_2_0_0) shapeCasts_S1x2048x8192_S2048x8192))
    (broadcastInDim S8448x8192 ![] bcast_S_S8448x8192 (constant S_ .f32 0x00000000#32))

def result (x : FVec F S8448x2048 .f32) (g : FVec F S2048 .f32) (w1 : FVec F S4x2048x8192 .f32) (w2 : FVec F S4x8192x2048 .f32) : FVec F S8448x2048 .f32 :=
  addf x (Host.dotGeneral dot_S8448x8192_S8192x2048_S8448x2048_1_0_0_1_n_n none (mulf (entering (normed x g) w1) (entering (normed x g) w1))
    (shapeCast S8192x2048 (extractStridedSlice S1x8192x2048 ![2, 0, 0] w2 slices_S4x8192x2048_S1x8192x2048_2_0_0) shapeCasts_S1x8192x2048_S8192x2048))

variable (x : FVec Ideal S8448x2048 .f32) (g : FVec Ideal S2048 .f32) (w1 : FVec Ideal S4x2048x8192 .f32) (w2 : FVec Ideal S4x8192x2048 .f32)

theorem normed_apply (r : Fin 8448) (d : Fin 2048) :
    (normed x g (ix2 r d) : EReal) = unit (fun e => (x (ix2 r e) : EReal)) (fun e => (g (ix1 e) : EReal)) d := by
  pointwise [normed]
  rfl

theorem entering_apply (u : FVec Ideal S8448x2048 .f32) (r : Fin 8448) (f : Fin 8192) :
    (entering u w1 (ix2 r f) : EReal) = max (∑ d : Fin 2048, (u (ix2 r d) : EReal) * (w1 (ix3 2 d f) : EReal)) 0 := by
  pointwise [entering]

/-- An entry of the result: the residual stream's and the hidden units' contributions. -/
theorem result_apply (r : Fin 8448) (e : Fin 2048) :
    (result x g w1 w2 (ix2 r e) : EReal)
      = (x (ix2 r e) : EReal) + ∑ f : Fin 8192, hid (fun e => (x (ix2 r e) : EReal)) (fun e => (g (ix1 e) : EReal)) (fun d => (w1 (ix3 2 d f) : EReal)) * (w2 (ix3 2 f e) : EReal) := by
  refine Eq.trans (b := (x (ix2 r e) : EReal) + ∑ f : Fin 8192, ((entering (normed x g) w1 (ix2 r f) : EReal) * (entering (normed x g) w1 (ix2 r f) : EReal)) * (w2 (ix3 2 f e) : EReal)) (by pointwise [result]) ?_
  simp only [entering_apply, normed_apply]
  rfl

/-- The run: the result at `result` of the arguments, the arguments as they were. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21) = result (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.MlpReferenceIdeal.Value.run m ρ

end Cert.MlpReferenceIdeal.Ff

end
-- ==== Proof.Turn.lean ====
/- The rotation of one row of queries or keys. -/
module

public import Idealize.ShloMosaic.Lib.Pointwise
public import Idealize.ShloMosaic.Lib.Pipeline.ValueKit

@[expose] public section

noncomputable section

namespace Cert.Turn

open Idealize.ShloMosaic

/-- Entry `d` of the segment of a row that starts at `o`, rotated: the two halves of a segment are the coordinates that turn. -/
def turn (p : Fin 2048 → EReal) (C S : Fin 64 → EReal) (o : Nat) (ho : o + 128 ≤ 2048) (d : Fin 128) : EReal :=
  if h : d.val < 64 then p ⟨o + d.val, by omega⟩ * C ⟨d.val, h⟩ - p ⟨o + (64 + d.val), by omega⟩ * S ⟨d.val, h⟩
  else p ⟨o + (64 + (d.val - 64)), by omega⟩ * C ⟨d.val - 64, by omega⟩ + p ⟨o + (d.val - 64), by omega⟩ * S ⟨d.val - 64, by omega⟩

/-- The same with one table per coordinate and the segment moved around by half its length. -/
theorem turn_eq (p : Fin 2048 → EReal) (C S : Fin 64 → EReal) (o : Nat) (ho : o + 128 ≤ 2048) (d : Fin 128) (c s : EReal)
    (hc : c = if h : d.val < 64 then C ⟨d.val, h⟩ else C ⟨d.val - 64, by omega⟩)
    (hs : s = if h : d.val < 64 then -S ⟨d.val, h⟩ else S ⟨d.val - 64, by omega⟩) :
    p ⟨o + d.val, by omega⟩ * c + p ⟨o + (d.val + 128 - 64) % 128, by omega⟩ * s = turn p C S o ho d := by
  have e : ∀ a b : Fin 2048, a.val = b.val → p a = p b := fun a b h => congrArg p (Fin.ext h)
  unfold turn
  subst hc hs
  by_cases h : d.val < 64
  · rw [dif_pos h, dif_pos h, dif_pos h, mul_neg, ← sub_eq_add_neg, e ⟨o + (d.val + 128 - 64) % 128, by omega⟩ ⟨o + (64 + d.val), by omega⟩ (by dsimp only; omega)]
  · rw [dif_neg h, dif_neg h, dif_neg h, e ⟨o + (d.val + 128 - 64) % 128, by omega⟩ ⟨o + (d.val - 64), by omega⟩ (by dsimp only; omega),
      e ⟨o + d.val, by omega⟩ ⟨o + (64 + (d.val - 64)), by omega⟩ (by dsimp only; omega)]

end Cert.Turn

end
-- ==== Proof.KeyValueRef.lean ====
/- The keys and values of the attention layers: the reference, entry by entry. -/
module

public import proofs.«01_k».proof.Proof.Gen.KeyValueReferenceIdeal.Run
public import proofs.«01_k».proof.Proof.FfRef
public import proofs.«01_k».proof.Proof.Turn
public import Idealize.ShloMosaic.Lib.Claim
public import Idealize.ShloMosaic.Lib.Pointwise
public import Idealize.ShloMosaic.Lib.Tactic.CleanTypes

@[expose] public section

set_option maxRecDepth 16384

noncomputable section

namespace Cert.KeyValueReferenceIdeal.Part

open Cert.KeyValueReferenceIdeal Cert.KeyValueReferenceIdeal.Gen
open Idealize.ShloMosaic Idealize.ShloMosaic.TcCoe Idealize.SL.Sem
open Cert.MlpReferenceIdeal.Ff (unit)
open Cert.Turn (turn)

variable {F : FTy → Type} [FloatOps F]

/-- The normed rows. -/
def normed (x : FVec F S8448x2048 .f32) (g : FVec F S2048 .f32) : FVec F S8448x2048 .f32 :=
  mulf (mulf x (broadcastInDim S8448x2048 ![0, 1] bcast_S8448x1_S8448x2048_0_1 (Host.rsqrt (addf
      (Host.divf (broadcastInDim S8448x1 ![0] bcast_S8448_S8448x1_0 (Host.reduceAdd (mulf x x) (constant S_ .f32 0x00000000#32) reducesTo_S8448x2048_S8448_d1 h_S_))
        (broadcastInDim S8448x1 ![] bcast_S_S8448x1 (constant S_ .f32 0x45000000#32)))
      (broadcastInDim S8448x1 ![] bcast_S_S8448x1 (constant S_ .f32 0x358637BD#32))))))
    (broadcastInDim S8448x2048 ![0, 1] bcast_S1x2048_S8448x2048_0_1 (broadcastInDim S1x2048 ![1] bcast_S2048_S1x2048_1 g))

/-- The angle of each position and coordinate. -/
def angles : FVec F S4224x64 .f32 :=
  mulf (broadcastInDim S4224x64 ![0, 1] bcast_S4224x1_S4224x64_0_1 (broadcastInDim S4224x1 ![0] bcast_S4224_S4224x1_0 (sitofp .f32 (iotaInDim S4224 32 0))))
    (broadcastInDim S4224x64 ![0, 1] bcast_S1x64_S4224x64_0_1 (broadcastInDim S1x64 ![1] bcast_S64_S1x64_1
      (Host.divf (broadcastInDim S64 ![] bcast_S_S64 (constant S_ .f32 0x3F800000#32))
        (Host.powf (broadcastInDim S64 ![] bcast_S_S64 (constant S_ .f32 0x461C4000#32))
          (Host.divf (addf (broadcastInDim S64 ![] bcast_S_S64 (constant S_ .f32 0x00000000#32))
              (mulf (broadcastInDim S64 ![] bcast_S_S64 (constant S_ .f32 0x40000000#32)) (sitofp .f32 (iotaInDim S64 32 0))))
            (broadcastInDim S64 ![] bcast_S_S64 (constant S_ .f32 0x43000000#32)))))))

/-- A table, for each sequence, head and component. -/
def spread (a : FVec F S4224x64 .f32) : FVec F S2x4224x8x2x64 .f32 :=
  broadcastInDim S2x4224x8x2x64 ![0, 1, 2, 3, 4] bcast_S1x4224x1x1x64_S2x4224x8x2x64_0_1_2_3_4
    (broadcastInDim S1x4224x1x1x64 ![1, 4] bcast_S4224x64_S1x4224x1x1x64_1_4 a)
/-- The first half of each segment, -/
def lower (p : FVec F S8448x2048 .f32) : FVec F S2x4224x8x2x64 .f32 :=
  extractStridedSlice S2x4224x8x2x64 ![0, 0, 0, 0, 0] (shapeCast S2x4224x8x2x128 p shapeCasts_S8448x2048_S2x4224x8x2x128) slices_S2x4224x8x2x128_S2x4224x8x2x64_0_0_0_0_0
/-- and the second. -/
def upper (p : FVec F S8448x2048 .f32) : FVec F S2x4224x8x2x64 .f32 :=
  extractStridedSlice S2x4224x8x2x64 ![0, 0, 0, 0, 64] (shapeCast S2x4224x8x2x128 p shapeCasts_S8448x2048_S2x4224x8x2x128) slices_S2x4224x8x2x128_S2x4224x8x2x64_0_0_0_0_64
/-- The rotated rows. -/
def turned (p : FVec F S8448x2048 .f32) : FVec F S8448x2048 .f32 :=
  shapeCast S8448x2048 (concatenate S2x4224x8x2x128 4
    [⟨S2x4224x8x2x64, subf (mulf (lower p) (spread (Host.cos angles))) (mulf (upper p) (spread (Host.sin angles)))⟩,
     ⟨S2x4224x8x2x64, addf (mulf (upper p) (spread (Host.cos angles))) (mulf (lower p) (spread (Host.sin angles)))⟩]
    concatenates_S2x4224x8x2x64_S2x4224x8x2x64_S2x4224x8x2x128_d4) shapeCasts_S2x4224x8x2x128_S8448x2048

/-- The projected rows, keys and values. -/
def proj (u : FVec F S8448x2048 .f32) (w : FVec F S2048x4096 .f32) : FVec F S8448x4096 .f32 :=
  Host.dotGeneral dot_S8448x2048_S2048x4096_S8448x4096_1_0_0_1_n_n none u w

/-- The keys, rotated, -/
def keys (x : FVec F S8448x2048 .f32) (g : FVec F S2048 .f32) (w : FVec F S2048x4096 .f32) : FVec F S8448x2048 .bf16 :=
  truncf .bf16 (turned (extractStridedSlice S8448x2048 ![0, 0] (proj (normed x g) w) slices_S8448x4096_S8448x2048_0_0)) bitsLt_bf16_f32
/-- and the values. -/
def values (x : FVec F S8448x2048 .f32) (g : FVec F S2048 .f32) (w : FVec F S2048x4096 .f32) : FVec F S8448x2048 .bf16 :=
  truncf .bf16 (extractStridedSlice S8448x2048 ![0, 2048] (proj (normed x g) w) slices_S8448x4096_S8448x2048_0_2048) bitsLt_bf16_f32

variable (x : FVec Ideal S8448x2048 .f32) (g : FVec Ideal S2048 .f32) (w : FVec Ideal S2048x4096 .f32)

theorem normed_apply (r : Fin 8448) (d : Fin 2048) :
    (normed x g (ix2 r d) : EReal) = unit (fun e => (x (ix2 r e) : EReal)) (fun e => (g (ix1 e) : EReal)) d := by
  pointwise [normed]
  rfl

/-- An entry of the projection. -/
def entry (r : Fin 8448) (e : Fin 4096) : EReal :=
  ∑ d : Fin 2048, unit (fun e => (x (ix2 r e) : EReal)) (fun e => (g (ix1 e) : EReal)) d * (w (ix2 d e) : EReal)

theorem proj_apply (r : Fin 8448) (e : Fin 4096) : (proj (normed x g) w (ix2 r e) : EReal) = entry x g w r e := by
  refine Eq.trans (b := ∑ d : Fin 2048, (normed x g (ix2 r d) : EReal) * (w (ix2 d e) : EReal)) (by pointwise [proj]) ?_
  simp only [normed_apply]
  rfl

/-- The tables. -/
def cosAt (t : Fin 4224) (d : Fin 64) : EReal := (Host.cos (F := Ideal) angles (ix2 t d) : EReal)
def sinAt (t : Fin 4224) (d : Fin 64) : EReal := (Host.sin (F := Ideal) angles (ix2 t d) : EReal)

theorem spread_apply (a : FVec Ideal S4224x64 .f32) (b : Fin 2) (t : Fin 4224) (h : Fin 8) (c : Fin 2) (d : Fin 64) :
    (spread a (ix5 b t h c d) : EReal) = (a (ix2 t d) : EReal) := by
  pointwise [spread]
theorem lower_apply (p : FVec Ideal S8448x2048 .f32) (b : Fin 2) (t : Fin 4224) (h : Fin 8) (c : Fin 2) (d : Fin 64) :
    (lower p (ix5 b t h c d) : EReal) = (p (ix2 ⟨b.val * 4224 + t.val, by omega⟩ ⟨h.val * 256 + c.val * 128 + d.val, by omega⟩) : EReal) := by
  pointwise [lower]
theorem upper_apply (p : FVec Ideal S8448x2048 .f32) (b : Fin 2) (t : Fin 4224) (h : Fin 8) (c : Fin 2) (d : Fin 64) :
    (upper p (ix5 b t h c d) : EReal) = (p (ix2 ⟨b.val * 4224 + t.val, by omega⟩ ⟨h.val * 256 + c.val * 128 + (64 + d.val), by omega⟩) : EReal) := by
  pointwise [upper]

theorem turned_apply (p : FVec Ideal S8448x2048 .f32) (b : Fin 2) (t : Fin 4224) (h : Fin 8) (c : Fin 2) (d : Fin 128) :
    (turned p (ix2 ⟨b.val * 4224 + t.val, by omega⟩ ⟨h.val * 256 + c.val * 128 + d.val, by omega⟩) : EReal)
      = turn (fun e => (p (ix2 ⟨b.val * 4224 + t.val, by omega⟩ e) : EReal)) (cosAt t) (sinAt t) (h.val * 256 + c.val * 128) (by omega) d := by
  pointwise [turned]
  simp only [lower_apply, upper_apply, spread_apply]
  rfl

theorem keys_apply (b : Fin 2) (t : Fin 4224) (h : Fin 8) (c : Fin 2) (d : Fin 128) :
    (keys x g w (ix2 ⟨b.val * 4224 + t.val, by omega⟩ ⟨h.val * 256 + c.val * 128 + d.val, by omega⟩) : EReal)
      = turn (fun e => entry x g w ⟨b.val * 4224 + t.val, by omega⟩ ⟨e.val, by omega⟩) (cosAt t) (sinAt t) (h.val * 256 + c.val * 128) (by omega) d := by
  refine Eq.trans (b := (turned (extractStridedSlice S8448x2048 ![0, 0] (proj (normed x g) w) slices_S8448x4096_S8448x2048_0_0)
    (ix2 ⟨b.val * 4224 + t.val, by omega⟩ ⟨h.val * 256 + c.val * 128 + d.val, by omega⟩) : EReal)) (by pointwise [keys]) ?_
  rw [turned_apply]
  have e : ∀ (r : Fin 8448) (e : Fin 2048), (extractStridedSlice S8448x2048 ![0, 0] (proj (normed x g) w) slices_S8448x4096_S8448x2048_0_0 (ix2 r e) : EReal)
      = entry x g w r ⟨e.val, by omega⟩ := fun r e => by
    rw [← proj_apply]
    pointwise []
  simp only [e]

theorem values_apply (r : Fin 8448) (e : Fin 2048) : (values x g w (ix2 r e) : EReal) = entry x g w r ⟨2048 + e.val, by omega⟩ := by
  rw [← proj_apply]
  pointwise [values]

/-- The run: the results at `keys` and `values` of the arguments, the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51) = keys (m ((c.tc : Thread nD τ).loc main_arg0)) (m ((c.tc : Thread nD τ).loc main_arg1)) (m ((c.tc : Thread nD τ).loc main_arg2))
      ∧ r.2.mem ((c.tc : Thread nD τ).loc main_v53) = values (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.KeyValueReferenceIdeal.Value.run m ρ

end Cert.KeyValueReferenceIdeal.Part

end
-- ==== Proof.KeyValue.lean ====
/- The keys and values of the attention layers: the kernel, entry by entry. -/
module

public import proofs.«01_k».proof.Proof.Gen.KeyValueIdeal.Value
public import proofs.«01_k».proof.Proof.KeyValueRef
public import Idealize.ShloMosaic.Lib.Claim
public import Idealize.ShloMosaic.Lib.Pointwise
public import Idealize.ShloMosaic.Lib.Pipeline.ValueKit
public import Idealize.ShloMosaic.Lib.Tactic.CleanTypes

@[expose] public section

set_option maxRecDepth 16384

noncomputable section

namespace Cert.KeyValueIdeal.Part

open Cert.KeyValueIdeal Cert.KeyValueIdeal.Gen
open Idealize.ShloMosaic Idealize.ShloMosaic.TcCoe Idealize.ShloMosaic.Tactic Idealize.SL.Sem
open Cert.MlpReferenceIdeal.Ff (unit)
open Cert.Turn (turn turn_eq)
open Cert.KeyValueReferenceIdeal.Part (keys values entry cosAt sinAt angles)

/-- One block's rows, normed. -/
def normed {F : FTy → Type} [FloatOps F] (x : Vec F S768x2048 .f32) (g : Vec F S1x2048 .f32) : FVec F S768x2048 .bf16 :=
  truncf .bf16 (mulf (mulf x (broadcastTo S768x2048
      (rsqrt (addf (divf (shapeCast S768x1 (multiReduction .add [1] S768 (mulf x x) 0x00000000#32 reduces_S768x2048_S768 (.inl rfl) rfl) shapeCasts_S768_S768x1)
          (broadcast S768x1 (Scalar.ofBits .f32 0x45000000#32))) (broadcast S768x1 (Scalar.ofBits .f32 0x358637BD#32))))
      broadcasts_S768x1_S768x2048)) (broadcastTo S768x2048 (shapeCast S1x2048 g shapeCasts_S1x2048_S1x2048) broadcasts_S1x2048_S768x2048)) bitsLt_bf16_f32

/-- One block's rows, projected. -/
def projected {F : FTy → Type} [FloatOps F] (u : FVec F S768x2048 .bf16) (w : Vec F S2048x2048 .bf16) : FVec F S768x2048 .f32 :=
  matmul dot_S768x2048_S2048x2048_S768x2048_1_0_0_1_n_n none u (shapeCast S2048x2048 w shapeCasts_S2048x2048_S2048x2048) (constant S768x2048 .f32 0x00000000#32)
/-- One segment of a block's rows, rotated. -/
def segment {F : FTy → Type} [FloatOps F] (o : Nat) (ho : S768x2048.Slices ![0, o] S768x128) (p : FVec F S768x2048 .f32) (c s : Vec F S768x128 .f32) : FVec F S768x128 .f32 :=
  addf (mulf (extractStridedSlice S768x128 ![0, o] p ho) (shapeCast S768x128 c shapeCasts_S768x128_S768x128))
    (mulf (dynamicRotate 1 64#32 none (extractStridedSlice S768x128 ![0, o] p ho) rotates_S768x128_d1) (shapeCast S768x128 s shapeCasts_S768x128_S768x128))

theorem normed_apply (x : Vec Ideal S768x2048 .f32) (g : Vec Ideal S1x2048 .f32) (r : Fin 768) (d : Fin 2048) :
    (normed x g (ix2 r d) : EReal) = unit (fun e => (x (ix2 r e) : EReal)) (fun e => (g (ix2 0 e) : EReal)) d := by
  pointwise [normed]
  rfl
theorem projected_apply (u : FVec Ideal S768x2048 .bf16) (w : Vec Ideal S2048x2048 .bf16) (r : Fin 768) (f : Fin 2048) :
    (projected u w (ix2 r f) : EReal) = ∑ d : Fin 2048, (u (ix2 r d) : EReal) * (w (ix2 d f) : EReal) := by
  pointwise [projected]
theorem segment_apply (o : Nat) (hs : S768x2048.Slices ![0, o] S768x128) (ho : o + 128 ≤ 2048) (p : FVec Ideal S768x2048 .f32) (c s : Vec Ideal S768x128 .f32) (r : Fin 768) (d : Fin 128) :
    (segment o hs p c s (ix2 r d) : EReal) = (p (ix2 r ⟨o + d.val, by omega⟩) : EReal) * (c (ix2 r d) : EReal)
      + (p (ix2 r ⟨o + (d.val + 128 - 64) % 128, by omega⟩) : EReal) * (s (ix2 r d) : EReal) := by
  pointwise [segment]
theorem slices (n : Fin 16) : S768x2048.Slices ![0, 128 * n.val] S768x128 := by
  revert n; decide

/-- The rotated rows of a block: an entry, -/
def rotated (p : FVec Ideal S768x2048 .f32) (c s : Vec Ideal S768x128 .f32) (r : Fin 768) (n : Fin 16) (d : Fin 128) : EReal :=
  (p (ix2 r ⟨128 * n.val + d.val, by omega⟩) : EReal) * (c (ix2 r d) : EReal)
    + (p (ix2 r ⟨128 * n.val + (d.val + 128 - 64) % 128, by omega⟩) : EReal) * (s (ix2 r d) : EReal)
/-- and the whole. -/
def whole (p : FVec Ideal S768x2048 .f32) (c s : Vec Ideal S768x128 .f32) : Vec Ideal S768x2048 .bf16 :=
  fun i => rotated p c s (i 0) ⟨(i 1).val / 128, by have : (i 1).val < 2048 := (i 1).isLt; omega⟩ ⟨(i 1).val % 128, Nat.mod_lt _ (by omega)⟩

theorem whole_apply (p : FVec Ideal S768x2048 .f32) (c s : Vec Ideal S768x128 .f32) (r : Fin 768) (n : Fin 16) (d : Fin 128) :
    (whole p c s (ix2 r ⟨128 * n.val + d.val, by omega⟩) : EReal) = rotated p c s r n d := by
  show rotated p c s r ⟨(128 * n.val + d.val) / 128, _⟩ ⟨(128 * n.val + d.val) % 128, _⟩ = _
  congr 1
  · exact Fin.ext (by dsimp only; omega)
  · exact Fin.ext (by dsimp only; omega)

/-- One stored segment is its part of the whole. -/
theorem segment_whole (p : FVec Ideal S768x2048 .f32) (c s : Vec Ideal S768x128 .f32) (n : Fin 16)
    (inb : ∀ a, (![0, 128 * n.val] : Fin 2 → Nat) a + S768x128.size a ≤ S768x2048.size a) (i : S768x128.Idx) :
    (truncf .bf16 (segment (128 * n.val) (slices n) p c s) bitsLt_bf16_f32 i : EReal)
      = whole p c s ((Rect.unit (s := S768x2048) ![0, 128 * n.val] S768x128.size inb).emb i) := by
  obtain ⟨r, d, rfl⟩ : ∃ (r : Fin 768) (d : Fin 128), i = ix2 r d := ⟨i 0, i 1, eq_ix2 i⟩
  have e : (Rect.unit (s := S768x2048) ![0, 128 * n.val] S768x128.size inb).emb (ix2 r d) = (ix2 r ⟨128 * n.val + d.val, by omega⟩ : S768x2048.Idx) := by
    funext a
    fin_cases a
    · exact Fin.ext (by show 0 + 1 * r.val = r.val; omega)
    · exact Fin.ext (by show 128 * n.val + 1 * d.val = 128 * n.val + d.val; omega)
  rw [e, whole_apply]
  exact segment_apply (128 * n.val) (slices n) (by omega) p c s r d

/-- What one block of rows leaves of the keys, -/
theorem keys_block (x : Vec Ideal S768x2048 .f32) (g : Vec Ideal S1x2048 .f32) (w : Vec Ideal S2048x4096 .bf16) (c s : Vec Ideal S768x128 .f32) :
    out0_5 (F := Ideal) x g w c s = whole (projected (normed x g) (View.ld w r0_3)) c s := by
  have z2 : (![0, 0] : Fin 2 → Nat) = fun _ => 0 := funext fun a => by fin_cases a <;> rfl
  funext y
  unfold out0_5 k0_pay25 k0_pay26 k0_pay27
  rw [View.ld_unit_zero (S := S768x2048) z2, View.ld_unit_zero (S := S1x2048) z2, View.ld_unit_zero (S := S768x128) z2, View.ld_unit_zero (S := S768x128) z2]
  refine View.canon_apply_of_pieces (whole (projected (normed x g) (View.ld w r0_3)) c s) _ ?_ y (cover0_5 _ _ _ _ _ _ _ _ _ _ _ _ _ _ _ _ y)
  simp only [List.forall_mem_cons, List.not_mem_nil, false_implies, implies_true, and_true]
  have sw := segment_whole (projected (normed x g) (View.ld w r0_3)) c s
  exact ⟨fun i => sw 15 _ i, fun i => sw 14 _ i, fun i => sw 13 _ i, fun i => sw 12 _ i,
    fun i => sw 11 _ i, fun i => sw 10 _ i, fun i => sw 9 _ i, fun i => sw 8 _ i,
    fun i => sw 7 _ i, fun i => sw 6 _ i, fun i => sw 5 _ i, fun i => sw 4 _ i,
    fun i => sw 3 _ i, fun i => sw 2 _ i, fun i => sw 1 _ i, fun i => sw 0 _ i⟩

/-- and of the values. -/
theorem values_block (x : Vec Ideal S768x2048 .f32) (g : Vec Ideal S1x2048 .f32) (w : Vec Ideal S2048x4096 .bf16) (c s : Vec Ideal S768x128 .f32) (r : Fin 768) (e : Fin 2048) :
    (out0_6 (F := Ideal) x g w c s (ix2 r e) : EReal) = (projected (normed x g) (View.ld w r0_20) (ix2 r e) : EReal) := by
  have z2 : (![0, 0] : Fin 2 → Nat) = fun _ => 0 := funext fun a => by fin_cases a <;> rfl
  have h : out0_6 (F := Ideal) x g w c s = truncf .bf16 (projected (normed x g) (View.ld w r0_20)) bitsLt_bf16_f32 := by
    unfold out0_6
    rw [View.canon_unit_zero (S := S768x2048) z2, View.ld_unit_zero (S := S768x2048) z2, View.ld_unit_zero (S := S1x2048) z2]
    rfl
  rw [h]
  rfl

variable (m : (ℓ : Loc nD τ sig) → Buf (Elt Ideal) ℓ) (c : Dev nD)
  (x : FVec Ideal S8448x2048 .f32) (g : FVec Ideal S2048 .f32) (w : FVec Ideal S2048x4096 .f32)
  (hx : m ((c.tc : Thread nD τ).loc main_arg0) = x) (hg : m ((c.tc : Thread nD τ).loc main_arg1) = g) (hw : m ((c.tc : Thread nD τ).loc main_arg2) = w)

/-- A table of positions, for each row of the flat array. -/
def table {F : FTy → Type} [FloatOps F] (a : FVec F S4224x128 .f32) : FVec F S8448x128 .f32 :=
  shapeCast S8448x128 (broadcastInDim S2x4224x1x128 ![0, 1, 2, 3] bcast_S1x4224x1x128_S2x4224x1x128_0_1_2_3
    (shapeCast S1x4224x1x128 a shapeCasts_S4224x128_S1x4224x1x128)) shapeCasts_S2x4224x1x128_S8448x128
/-- Two tables, for the two halves of a segment. -/
def halves {F : FTy → Type} [FloatOps F] (a b : FVec F S4224x64 .f32) : FVec F S4224x128 .f32 :=
  concatenate S4224x128 1 [⟨S4224x64, a⟩, ⟨S4224x64, b⟩] concatenates_S4224x64_S4224x64_S4224x128_d1

theorem halves_apply (a b : FVec Ideal S4224x64 .f32) (t : Fin 4224) (d : Fin 128) :
    (halves a b (ix2 t d) : EReal) = if h : d.val < 64 then (a (ix2 t ⟨d.val, h⟩) : EReal) else (b (ix2 t ⟨d.val - 64, by omega⟩) : EReal) := by
  pointwise [halves]
theorem table_apply (a : FVec Ideal S4224x128 .f32) (b : Fin 2) (t : Fin 4224) (d : Fin 128) :
    (table a (ix2 ⟨b.val * 4224 + t.val, by omega⟩ d) : EReal) = (a (ix2 t d) : EReal) := by
  pointwise [table]

/-- The windows' index maps. -/
theorem idx : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![t.val, 0] ∧ win0_6.index t = ![t.val, 0] :=
  (by decide +kernel : ∀ t : Fin grid0.N, _)

theorem v0_eq (hw : m ((c.tc : Thread nD τ).loc main_arg2) = w) : V m c main_v0 = truncf .bf16 w bitsLt_bf16_f32 := by
  subst hw; entry_read; rfl
theorem v29_eq (hg : m ((c.tc : Thread nD τ).loc main_arg1) = g) : V m c main_v29 = shapeCast S1x2048 g shapeCasts_S2048_S1x2048 := by
  subst hg; entry_read; rfl
theorem v25_eq : V m c main_v25 = table (halves (Host.cos (F := Ideal) angles) (Host.cos (F := Ideal) angles)) := by
  entry_read; rfl
theorem v28_eq : V m c main_v28 = table (halves (Host.negf (Host.sin (F := Ideal) angles)) (Host.sin (F := Ideal) angles)) := by
  entry_read; rfl

theorem rows_apply (hx : m ((c.tc : Thread nD τ).loc main_arg0) = x) (t : Fin cfg0.N) (r : Fin 768) (d : Fin 2048) :
    (iblk m c 0 t (ix2 r d) : EReal) = (x (ix2 ⟨768 * t.val + r.val, by have : t.val < 11 := t.isLt; omega⟩ d) : EReal) := by
  have e : ∀ X : Vec Ideal S8448x2048 .f32, X ((win0_0.blk t).view.emb (ix2 r d)) = X (ix2 ⟨768 * t.val + r.val, by have : t.val < 11 := t.isLt; omega⟩ d) := fun X => by
    blk_ext [idx t]
  blk_simp [iblk, idx t]
  rw [show V m c main_arg0 = x from (V_main_arg0 m c).trans hx]
  exact e _

theorem gain_apply (hg : m ((c.tc : Thread nD τ).loc main_arg1) = g) (t : Fin cfg0.N) (d : Fin 2048) :
    (iblk m c 1 t (ix2 0 d) : EReal) = (g (ix1 d) : EReal) := by
  have e : ∀ X : Vec Ideal S1x2048 .f32, X ((win0_1.blk t).view.emb (ix2 0 d)) = X (ix2 0 d) := fun X => by blk_ext [idx t]
  blk_simp [iblk, idx t]
  rw [v29_eq m c g hg]
  refine (e _).trans ?_
  pointwise []

theorem cos_apply (t : Fin cfg0.N) (r : Fin 768) (d : Fin 128) (b : Fin 2) (p : Fin 4224) (hp : 768 * t.val + r.val = b.val * 4224 + p.val) :
    (iblk m c 3 t (ix2 r d) : EReal) = if h : d.val < 64 then cosAt p ⟨d.val, h⟩ else cosAt p ⟨d.val - 64, by omega⟩ := by
  have e : ∀ X : Vec Ideal S8448x128 .f32, X ((win0_3.blk t).view.emb (ix2 r d)) = X (ix2 ⟨768 * t.val + r.val, by have : t.val < 11 := t.isLt; omega⟩ d) := fun X => by
    blk_ext [idx t]
  blk_simp [iblk, idx t]
  rw [v25_eq m c]
  refine (e _).trans ?_
  rw [show (⟨768 * t.val + r.val, by have : t.val < 11 := t.isLt; omega⟩ : Fin 8448) = ⟨b.val * 4224 + p.val, by omega⟩ from Fin.ext hp]
  refine (table_apply _ b p d).trans ((halves_apply _ _ p d).trans rfl)

theorem sin_apply (t : Fin cfg0.N) (r : Fin 768) (d : Fin 128) (b : Fin 2) (p : Fin 4224) (hp : 768 * t.val + r.val = b.val * 4224 + p.val) :
    (iblk m c 4 t (ix2 r d) : EReal) = if h : d.val < 64 then -sinAt p ⟨d.val, h⟩ else sinAt p ⟨d.val - 64, by omega⟩ := by
  have e : ∀ X : Vec Ideal S8448x128 .f32, X ((win0_4.blk t).view.emb (ix2 r d)) = X (ix2 ⟨768 * t.val + r.val, by have : t.val < 11 := t.isLt; omega⟩ d) := fun X => by
    blk_ext [idx t]
  blk_simp [iblk, idx t]
  rw [v28_eq m c]
  refine (e _).trans ?_
  rw [show (⟨768 * t.val + r.val, by have : t.val < 11 := t.isLt; omega⟩ : Fin 8448) = ⟨b.val * 4224 + p.val, by omega⟩ from Fin.ext hp]
  refine (table_apply _ b p d).trans ((halves_apply _ _ p d).trans rfl)

theorem weight_apply (hw : m ((c.tc : Thread nD τ).loc main_arg2) = w) (t : Fin cfg0.N) (d : Fin 2048) (f : Fin 4096) :
    (iblk m c 2 t (ix2 d f) : EReal) = (w (ix2 d f) : EReal) := by
  have e : ∀ X : Vec Ideal S2048x4096 .bf16, X ((win0_2.blk t).view.emb (ix2 d f)) = X (ix2 d f) := fun X => by
    blk_ext [idx t]
  blk_simp [iblk, idx t]
  rw [v0_eq m c w hw]
  refine (e _).trans ?_
  pointwise []

/-- The two halves of the weights' columns. -/
theorem ld_left (W : Vec Ideal S2048x4096 .bf16) (d f : Fin 2048) : View.ld W r0_3 (ix2 d f) = W (ix2 d ⟨f.val, by omega⟩) := by
  refine congrArg W (funext fun a => ?_)
  fin_cases a
  · exact Fin.ext (by show 0 + 1 * d.val = d.val; omega)
  · exact Fin.ext (by show 0 + 1 * f.val = f.val; omega)
theorem ld_right (W : Vec Ideal S2048x4096 .bf16) (d f : Fin 2048) : View.ld W r0_20 (ix2 d f) = W (ix2 d ⟨2048 + f.val, by omega⟩) := by
  refine congrArg W (funext fun a => ?_)
  fin_cases a
  · exact Fin.ext (by show 0 + 1 * d.val = d.val; omega)
  · exact Fin.ext (by show 2048 + 1 * f.val = 2048 + f.val; omega)

include hx hg hw

/-- An entry of a block's projection: the columns of the keys, -/
theorem left_entry (t : Fin cfg0.N) (r : Fin 768) (f : Fin 2048) :
    (projected (normed (iblk m c 0 t) (iblk m c 1 t)) (View.ld (iblk m c 2 t : Vec Ideal S2048x4096 .bf16) r0_3) (ix2 r f) : EReal)
      = entry x g w ⟨768 * t.val + r.val, by have : t.val < 11 := t.isLt; omega⟩ ⟨f.val, by omega⟩ := by
  refine (projected_apply _ _ r f).trans ?_
  unfold entry
  refine Finset.sum_congr rfl fun d _ => congrArg₂ (· * ·) ((normed_apply _ _ r d).trans ?_) ((ld_left _ d f).trans (weight_apply m c w hw t d _))
  simp only [rows_apply m c x hx, gain_apply m c g hg]
/-- and of the values. -/
theorem right_entry (t : Fin cfg0.N) (r : Fin 768) (f : Fin 2048) :
    (projected (normed (iblk m c 0 t) (iblk m c 1 t)) (View.ld (iblk m c 2 t : Vec Ideal S2048x4096 .bf16) r0_20) (ix2 r f) : EReal)
      = entry x g w ⟨768 * t.val + r.val, by have : t.val < 11 := t.isLt; omega⟩ ⟨2048 + f.val, by omega⟩ := by
  refine (projected_apply _ _ r f).trans ?_
  unfold entry
  refine Finset.sum_congr rfl fun d _ => congrArg₂ (· * ·) ((normed_apply _ _ r d).trans ?_) ((ld_right _ d f).trans (weight_apply m c w hw t d _))
  simp only [rows_apply m c x hx, gain_apply m c g hg]

/-- An entry of the keys, -/
theorem keys_entry (i : S8448x2048.Idx) : ((dats m 0 c).arrAt 5 cfg0.N i : EReal) = keys x g w i := by
  refine (dats m 0 c).arrAt_forall_of_covers 5 (fun (i : S8448x2048.Idx) (v : EReal) => v = keys x g w i) (by decide +kernel) (fun t hf y => ?_) i
  have e : ∀ (X : Vec Ideal S8448x2048 .bf16) (r : Fin 768) (f : Fin 2048),
      X ((win0_5.blk t).view.emb (ix2 r f)) = X (ix2 ⟨768 * t.val + r.val, by have : t.val < 11 := t.isLt; omega⟩ f) := fun X r f => by
    blk_ext [idx t]
  blk_simp
  rw [after0_5]
  obtain ⟨r, f, rfl⟩ : ∃ (r : Fin 768) (f : Fin 2048), y = ix2 r f := ⟨y 0, y 1, eq_ix2 y⟩
  refine Eq.trans ?_ (e _ r f).symm
  have ht : t.val < 11 := t.isLt
  obtain ⟨b, p, hp⟩ : ∃ (b : Fin 2) (p : Fin 4224), 768 * t.val + r.val = b.val * 4224 + p.val :=
    ⟨⟨(768 * t.val + r.val) / 4224, by omega⟩, ⟨(768 * t.val + r.val) % 4224, by omega⟩, by dsimp only; omega⟩
  obtain ⟨h, k, d, hd⟩ : ∃ (h : Fin 8) (k : Fin 2) (d : Fin 128), f.val = h.val * 256 + k.val * 128 + d.val :=
    ⟨⟨f.val / 256, by omega⟩, ⟨f.val % 256 / 128, by omega⟩, ⟨f.val % 128, by omega⟩, by dsimp only; omega⟩
  have en := left_entry m c x g w hx hg hw t r
  rw [show (⟨768 * t.val + r.val, by omega⟩ : Fin 8448) = ⟨b.val * 4224 + p.val, by omega⟩ from Fin.ext hp] at en ⊢
  obtain ⟨n, hn⟩ : ∃ n : Fin 16, h.val * 256 + k.val * 128 = 128 * n.val := ⟨⟨2 * h.val + k.val, by omega⟩, by dsimp only; omega⟩
  have tt : ∀ (o : Nat) (ho : o + 128 ≤ 2048), o = 128 * n.val →
      turn (fun e => entry x g w ⟨b.val * 4224 + p.val, by omega⟩ ⟨e.val, by omega⟩) (cosAt p) (sinAt p) o ho d
      = turn (fun e => entry x g w ⟨b.val * 4224 + p.val, by omega⟩ ⟨e.val, by omega⟩) (cosAt p) (sinAt p) (128 * n.val) (by omega) d := fun o ho ho' => by subst ho'; rfl
  rw [show f = ⟨h.val * 256 + k.val * 128 + d.val, by omega⟩ from Fin.ext hd]
  refine Eq.trans ?_ (Cert.KeyValueReferenceIdeal.Part.keys_apply x g w b p h k d).symm
  rw [tt _ _ hn, show (⟨h.val * 256 + k.val * 128 + d.val, by omega⟩ : Fin 2048) = ⟨128 * n.val + d.val, by omega⟩ from Fin.ext (by dsimp only; omega)]
  refine (congrFun (keys_block _ _ _ _ _) _).trans ((whole_apply _ _ _ r n d).trans ?_)
  unfold rotated
  refine (congrArg₂ (· + ·) (congrArg (· * _) (en _)) (congrArg (· * _) (en _))).trans ?_
  exact turn_eq (fun e => entry x g w ⟨b.val * 4224 + p.val, by omega⟩ ⟨e.val, by omega⟩) (cosAt p) (sinAt p) (128 * n.val) (by omega) d _ _ (cos_apply m c t r d b p hp) (sin_apply m c t r d b p hp)

/-- and of the values. -/
theorem values_entry (i : S8448x2048.Idx) : ((dats m 0 c).arrAt 6 cfg0.N i : EReal) = values x g w i := by
  refine (dats m 0 c).arrAt_forall_of_covers 6 (fun (i : S8448x2048.Idx) (v : EReal) => v = values x g w i) (by decide +kernel) (fun t hf y => ?_) i
  have e : ∀ (X : Vec Ideal S8448x2048 .bf16) (r : Fin 768) (f : Fin 2048),
      X ((win0_6.blk t).view.emb (ix2 r f)) = X (ix2 ⟨768 * t.val + r.val, by have : t.val < 11 := t.isLt; omega⟩ f) := fun X r f => by
    blk_ext [idx t]
  blk_simp
  rw [after0_6]
  obtain ⟨r, f, rfl⟩ : ∃ (r : Fin 768) (f : Fin 2048), y = ix2 r f := ⟨y 0, y 1, eq_ix2 y⟩
  refine Eq.trans ?_ (e _ r f).symm
  refine Eq.trans ?_ (Cert.KeyValueReferenceIdeal.Part.values_apply x g w _ f).symm
  exact (values_block _ _ _ _ _ r f).trans (right_entry m c x g w hx hg hw t r f)

omit hx hg hw
variable (ρ : Dev nD → PrngReg)

/-- The run: the results at the reference's, the arguments as they were. -/
theorem run : θ_run defs (onTc (τ := τ) (main (F := Ideal))) ⟨m, fun _ => 0, ρ⟩ fun r => ∀ c : Dev nD,
      r.2.mem ((c.tc : Thread nD τ).loc main_v30_0) = keys (F := Ideal) (m ((c.tc : Thread nD τ).loc main_arg0)) (m ((c.tc : Thread nD τ).loc main_arg1)) (m ((c.tc : Thread nD τ).loc main_arg2))
      ∧ r.2.mem ((c.tc : Thread nD τ).loc main_v30_1) = values (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (funext fun i => keys_entry m c _ _ _ rfl rfl rfl i),
    (h c).2.1.trans (funext fun i => values_entry m c _ _ _ rfl rfl rfl i), (h c).2.2⟩) (Cert.KeyValueIdeal.Value.run_blocks m ρ)

end Cert.KeyValueIdeal.Part

end
-- ==== Proof.QueryRef.lean ====
/- An attention layer's queries: the reference, entry by entry. -/
module

public import proofs.«01_k».proof.Proof.Gen.QueryReferenceIdeal.Run
public import proofs.«01_k».proof.Proof.FfRef
public import proofs.«01_k».proof.Proof.Turn
public import Idealize.ShloMosaic.Lib.Claim
public import Idealize.ShloMosaic.Lib.Pointwise
public import Idealize.ShloMosaic.Lib.Tactic.CleanTypes

@[expose] public section

set_option maxRecDepth 16384

noncomputable section

namespace Cert.QueryReferenceIdeal.Part

open Cert.QueryReferenceIdeal Cert.QueryReferenceIdeal.Gen
open Idealize.ShloMosaic Idealize.ShloMosaic.TcCoe Idealize.SL.Sem
open Cert.MlpReferenceIdeal.Ff (unit)
open Cert.Turn (turn)

variable {F : FTy → Type} [FloatOps F]

/-- The normed rows. -/
def normed (x : FVec F S8448x2048 .f32) (g : FVec F S2048 .f32) : FVec F S8448x2048 .f32 :=
  mulf (mulf x (broadcastInDim S8448x2048 ![0, 1] bcast_S8448x1_S8448x2048_0_1 (Host.rsqrt (addf
      (Host.divf (broadcastInDim S8448x1 ![0] bcast_S8448_S8448x1_0 (Host.reduceAdd (mulf x x) (constant S_ .f32 0x00000000#32) reducesTo_S8448x2048_S8448_d1 h_S_))
        (broadcastInDim S8448x1 ![] bcast_S_S8448x1 (constant S_ .f32 0x45000000#32)))
      (broadcastInDim S8448x1 ![] bcast_S_S8448x1 (constant S_ .f32 0x358637BD#32))))))
    (broadcastInDim S8448x2048 ![0, 1] bcast_S1x2048_S8448x2048_0_1 (broadcastInDim S1x2048 ![1] bcast_S2048_S1x2048_1 g))

/-- The angle of each position and coordinate. -/
def angles : FVec F S4224x64 .f32 :=
  mulf (broadcastInDim S4224x64 ![0, 1] bcast_S4224x1_S4224x64_0_1 (broadcastInDim S4224x1 ![0] bcast_S4224_S4224x1_0 (sitofp .f32 (iotaInDim S4224 32 0))))
    (broadcastInDim S4224x64 ![0, 1] bcast_S1x64_S4224x64_0_1 (broadcastInDim S1x64 ![1] bcast_S64_S1x64_1
      (Host.divf (broadcastInDim S64 ![] bcast_S_S64 (constant S_ .f32 0x3F800000#32))
        (Host.powf (broadcastInDim S64 ![] bcast_S_S64 (constant S_ .f32 0x461C4000#32))
          (Host.divf (addf (broadcastInDim S64 ![] bcast_S_S64 (constant S_ .f32 0x00000000#32))
              (mulf (broadcastInDim S64 ![] bcast_S_S64 (constant S_ .f32 0x40000000#32)) (sitofp .f32 (iotaInDim S64 32 0))))
            (broadcastInDim S64 ![] bcast_S_S64 (constant S_ .f32 0x43000000#32)))))))

/-- A table, for each sequence, head and component. -/
def spread (a : FVec F S4224x64 .f32) : FVec F S2x4224x8x2x64 .f32 :=
  broadcastInDim S2x4224x8x2x64 ![0, 1, 2, 3, 4] bcast_S1x4224x1x1x64_S2x4224x8x2x64_0_1_2_3_4
    (broadcastInDim S1x4224x1x1x64 ![1, 4] bcast_S4224x64_S1x4224x1x1x64_1_4 a)
/-- The first half of each segment, -/
def lower (p : FVec F S8448x2048 .f32) : FVec F S2x4224x8x2x64 .f32 :=
  extractStridedSlice S2x4224x8x2x64 ![0, 0, 0, 0, 0] (shapeCast S2x4224x8x2x128 p shapeCasts_S8448x2048_S2x4224x8x2x128) slices_S2x4224x8x2x128_S2x4224x8x2x64_0_0_0_0_0
/-- and the second. -/
def upper (p : FVec F S8448x2048 .f32) : FVec F S2x4224x8x2x64 .f32 :=
  extractStridedSlice S2x4224x8x2x64 ![0, 0, 0, 0, 64] (shapeCast S2x4224x8x2x128 p shapeCasts_S8448x2048_S2x4224x8x2x128) slices_S2x4224x8x2x128_S2x4224x8x2x64_0_0_0_0_64
/-- The rotated rows. -/
def turned (p : FVec F S8448x2048 .f32) : FVec F S8448x2048 .f32 :=
  shapeCast S8448x2048 (concatenate S2x4224x8x2x128 4
    [⟨S2x4224x8x2x64, subf (mulf (lower p) (spread (Host.cos angles))) (mulf (upper p) (spread (Host.sin angles)))⟩,
     ⟨S2x4224x8x2x64, addf (mulf (upper p) (spread (Host.cos angles))) (mulf (lower p) (spread (Host.sin angles)))⟩]
    concatenates_S2x4224x8x2x64_S2x4224x8x2x64_S2x4224x8x2x128_d4) shapeCasts_S2x4224x8x2x128_S8448x2048

/-- The projected rows. -/
def proj (u : FVec F S8448x2048 .f32) (w : FVec F S2x2048x2048 .f32) : FVec F S8448x2048 .f32 :=
  Host.dotGeneral dot_S8448x2048_S2048x2048_S8448x2048_1_0_0_1_n_n none u
    (shapeCast S2048x2048 (extractStridedSlice S1x2048x2048 ![1, 0, 0] w slices_S2x2048x2048_S1x2048x2048_1_0_0) shapeCasts_S1x2048x2048_S2048x2048)

/-- The queries, rotated and scaled. -/
def result (x : FVec F S8448x2048 .f32) (g : FVec F S2048 .f32) (w : FVec F S2x2048x2048 .f32) : FVec F S8448x2048 .bf16 :=
  truncf .bf16 (mulf (turned (proj (normed x g) w)) (broadcastInDim S8448x2048 ![] bcast_S_S8448x2048 (constant S_ .f32 0x3E0293EE#32))) bitsLt_bf16_f32

variable (x : FVec Ideal S8448x2048 .f32) (g : FVec Ideal S2048 .f32) (w : FVec Ideal S2x2048x2048 .f32)

theorem normed_apply (r : Fin 8448) (d : Fin 2048) :
    (normed x g (ix2 r d) : EReal) = unit (fun e => (x (ix2 r e) : EReal)) (fun e => (g (ix1 e) : EReal)) d := by
  pointwise [normed]
  rfl

/-- An entry of the projection. -/
def entry (r : Fin 8448) (e : Fin 2048) : EReal :=
  ∑ d : Fin 2048, unit (fun e => (x (ix2 r e) : EReal)) (fun e => (g (ix1 e) : EReal)) d * (w (ix3 1 d e) : EReal)

theorem proj_apply (r : Fin 8448) (e : Fin 2048) : (proj (normed x g) w (ix2 r e) : EReal) = entry x g w r e := by
  refine Eq.trans (b := ∑ d : Fin 2048, (normed x g (ix2 r d) : EReal) * (w (ix3 1 d e) : EReal)) (by pointwise [proj]) ?_
  simp only [normed_apply]
  rfl

/-- The tables. -/
def cosAt (t : Fin 4224) (d : Fin 64) : EReal := (Host.cos (F := Ideal) angles (ix2 t d) : EReal)
def sinAt (t : Fin 4224) (d : Fin 64) : EReal := (Host.sin (F := Ideal) angles (ix2 t d) : EReal)

theorem spread_apply (a : FVec Ideal S4224x64 .f32) (b : Fin 2) (t : Fin 4224) (h : Fin 8) (c : Fin 2) (d : Fin 64) :
    (spread a (ix5 b t h c d) : EReal) = (a (ix2 t d) : EReal) := by
  pointwise [spread]
theorem lower_apply (p : FVec Ideal S8448x2048 .f32) (b : Fin 2) (t : Fin 4224) (h : Fin 8) (c : Fin 2) (d : Fin 64) :
    (lower p (ix5 b t h c d) : EReal) = (p (ix2 ⟨b.val * 4224 + t.val, by omega⟩ ⟨h.val * 256 + c.val * 128 + d.val, by omega⟩) : EReal) := by
  pointwise [lower]
theorem upper_apply (p : FVec Ideal S8448x2048 .f32) (b : Fin 2) (t : Fin 4224) (h : Fin 8) (c : Fin 2) (d : Fin 64) :
    (upper p (ix5 b t h c d) : EReal) = (p (ix2 ⟨b.val * 4224 + t.val, by omega⟩ ⟨h.val * 256 + c.val * 128 + (64 + d.val), by omega⟩) : EReal) := by
  pointwise [upper]

theorem turned_apply (p : FVec Ideal S8448x2048 .f32) (b : Fin 2) (t : Fin 4224) (h : Fin 8) (c : Fin 2) (d : Fin 128) :
    (turned p (ix2 ⟨b.val * 4224 + t.val, by omega⟩ ⟨h.val * 256 + c.val * 128 + d.val, by omega⟩) : EReal)
      = turn (fun e => (p (ix2 ⟨b.val * 4224 + t.val, by omega⟩ e) : EReal)) (cosAt t) (sinAt t) (h.val * 256 + c.val * 128) (by omega) d := by
  pointwise [turned]
  simp only [lower_apply, upper_apply, spread_apply]
  rfl

theorem result_apply (b : Fin 2) (t : Fin 4224) (h : Fin 8) (c : Fin 2) (d : Fin 128) :
    (result x g w (ix2 ⟨b.val * 4224 + t.val, by omega⟩ ⟨h.val * 256 + c.val * 128 + d.val, by omega⟩) : EReal)
      = turn (entry x g w ⟨b.val * 4224 + t.val, by omega⟩) (cosAt t) (sinAt t) (h.val * 256 + c.val * 128) (by omega) d * Ideal.ofBits FTy.f32 0x3E0293EE#32 := by
  refine Eq.trans (b := (turned (proj (normed x g) w) (ix2 ⟨b.val * 4224 + t.val, by omega⟩ ⟨h.val * 256 + c.val * 128 + d.val, by omega⟩) : EReal)
    * Ideal.ofBits FTy.f32 0x3E0293EE#32) (by pointwise [result]) ?_
  rw [turned_apply]
  simp only [proj_apply]

/-- The run: the results at `result` of the arguments, the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v54) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.QueryReferenceIdeal.Value.run m ρ

end Cert.QueryReferenceIdeal.Part

end
-- ==== Proof.Query.lean ====
/- An attention layer's queries: the kernel, entry by entry. -/
module

public import proofs.«01_k».proof.Proof.Gen.QueryIdeal.Value
public import proofs.«01_k».proof.Proof.QueryRef
public import Idealize.ShloMosaic.Lib.Claim
public import Idealize.ShloMosaic.Lib.Pointwise
public import Idealize.ShloMosaic.Lib.Pipeline.ValueKit
public import Idealize.ShloMosaic.Lib.Tactic.CleanTypes

@[expose] public section

set_option maxRecDepth 16384

noncomputable section

namespace Cert.QueryIdeal.Part

open Cert.QueryIdeal Cert.QueryIdeal.Gen
open Idealize.ShloMosaic Idealize.ShloMosaic.TcCoe Idealize.ShloMosaic.Tactic Idealize.SL.Sem
open Cert.MlpReferenceIdeal.Ff (unit)
open Cert.Turn (turn turn_eq)
open Cert.QueryReferenceIdeal.Part (result entry cosAt sinAt angles)

/-- One block's rows, normed. -/
def normed {F : FTy → Type} [FloatOps F] (x : Vec F S768x2048 .f32) (g : Vec F S1x2048 .f32) : FVec F S768x2048 .bf16 :=
  truncf .bf16 (mulf (mulf x (broadcastTo S768x2048
      (rsqrt (addf (divf (shapeCast S768x1 (multiReduction .add [1] S768 (mulf x x) 0x00000000#32 reduces_S768x2048_S768 (.inl rfl) rfl) shapeCasts_S768_S768x1)
          (broadcast S768x1 (Scalar.ofBits .f32 0x45000000#32))) (broadcast S768x1 (Scalar.ofBits .f32 0x358637BD#32))))
      broadcasts_S768x1_S768x2048)) (broadcastTo S768x2048 (shapeCast S1x2048 g shapeCasts_S1x2048_S1x2048) broadcasts_S1x2048_S768x2048)) bitsLt_bf16_f32

/-- One block's rows, projected. -/
def projected {F : FTy → Type} [FloatOps F] (u : FVec F S768x2048 .bf16) (w : Vec F S1x2048x2048 .bf16) : FVec F S768x2048 .f32 :=
  matmul dot_S768x2048_S2048x2048_S768x2048_1_0_0_1_n_n none u (shapeCast S2048x2048 w shapeCasts_S1x2048x2048_S2048x2048) (constant S768x2048 .f32 0x00000000#32)
/-- One segment of a block's rows, rotated. -/
def segment {F : FTy → Type} [FloatOps F] (o : Nat) (ho : S768x2048.Slices ![0, o] S768x128) (p : FVec F S768x2048 .f32) (c s : Vec F S768x128 .f32) : FVec F S768x128 .f32 :=
  addf (mulf (extractStridedSlice S768x128 ![0, o] p ho) (shapeCast S768x128 c shapeCasts_S768x128_S768x128))
    (mulf (dynamicRotate 1 64#32 none (extractStridedSlice S768x128 ![0, o] p ho) rotates_S768x128_d1) (shapeCast S768x128 s shapeCasts_S768x128_S768x128))

theorem normed_apply (x : Vec Ideal S768x2048 .f32) (g : Vec Ideal S1x2048 .f32) (r : Fin 768) (d : Fin 2048) :
    (normed x g (ix2 r d) : EReal) = unit (fun e => (x (ix2 r e) : EReal)) (fun e => (g (ix2 0 e) : EReal)) d := by
  pointwise [normed]
  rfl
theorem projected_apply (u : FVec Ideal S768x2048 .bf16) (w : Vec Ideal S1x2048x2048 .bf16) (r : Fin 768) (f : Fin 2048) :
    (projected u w (ix2 r f) : EReal) = ∑ d : Fin 2048, (u (ix2 r d) : EReal) * (w (ix3 0 d f) : EReal) := by
  pointwise [projected]
theorem segment_apply (o : Nat) (hs : S768x2048.Slices ![0, o] S768x128) (ho : o + 128 ≤ 2048) (p : FVec Ideal S768x2048 .f32) (c s : Vec Ideal S768x128 .f32) (r : Fin 768) (d : Fin 128) :
    (segment o hs p c s (ix2 r d) : EReal) = (p (ix2 r ⟨o + d.val, by omega⟩) : EReal) * (c (ix2 r d) : EReal)
      + (p (ix2 r ⟨o + (d.val + 128 - 64) % 128, by omega⟩) : EReal) * (s (ix2 r d) : EReal) := by
  pointwise [segment]
theorem slices (n : Fin 16) : S768x2048.Slices ![0, 128 * n.val] S768x128 := by
  revert n; decide

/-- The segments side by side, scaled. -/
def joined {F : FTy → Type} [FloatOps F] (p : FVec F S768x2048 .f32) (c s : Vec F S768x128 .f32)
    (h : Shape.Concatenates ((List.ofFn fun n : Fin 16 => (⟨S768x128, segment (128 * n.val) (slices n) p c s⟩ : (s : Shape) × (s.Idx → F .f32))).map (·.1)) S768x2048 1) : FVec F S768x2048 .bf16 :=
  truncf .bf16 (mulf (concatenate S768x2048 1 (List.ofFn fun n : Fin 16 => (⟨S768x128, segment (128 * n.val) (slices n) p c s⟩ : (s : Shape) × (s.Idx → F .f32))) h)
    (broadcast S768x2048 (Scalar.ofBits .f32 0x3E0293EE#32))) bitsLt_bf16_f32

theorem joined_apply (p : FVec Ideal S768x2048 .f32) (c s : Vec Ideal S768x128 .f32) (h) (r : Fin 768) (n : Fin 16) (d : Fin 128) :
    (joined p c s h (ix2 r ⟨128 * n.val + d.val, by omega⟩) : EReal)
      = ((p (ix2 r ⟨128 * n.val + d.val, by omega⟩) : EReal) * (c (ix2 r d) : EReal)
        + (p (ix2 r ⟨128 * n.val + (d.val + 128 - 64) % 128, by omega⟩) : EReal) * (s (ix2 r d) : EReal)) * Ideal.ofBits FTy.f32 0x3E0293EE#32 := by
  rw [← segment_apply (128 * n.val) (slices n) (by omega) p c s r d]
  show (concatenate S768x2048 1 (List.ofFn fun n : Fin 16 => (⟨S768x128, segment (128 * n.val) (slices n) p c s⟩ : (s : Shape) × (s.Idx → EReal))) h
    (ix2 r ⟨128 * n.val + d.val, by omega⟩) : EReal) * Ideal.ofBits FTy.f32 0x3E0293EE#32 = _
  congr 1
  refine concatenate_ofFn_apply 1 (fun n : Fin 16 => (segment (128 * n.val) (slices n) p c s : S768x128.Idx → EReal)) h rfl 128 rfl _ n ?_ (ix2 r d) ?_ ?_
  · show (128 * n.val + d.val) / 128 = n.val
    omega
  · show d.val = (128 * n.val + d.val) % 128
    omega
  · intro b hb
    fin_cases b
    · rfl
    · exact absurd rfl hb

/-- What one block of rows leaves. -/
theorem block_apply (x : Vec Ideal S768x2048 .f32) (g : Vec Ideal S1x2048 .f32) (w : Vec Ideal S1x2048x2048 .bf16) (c s : Vec Ideal S768x128 .f32) (r : Fin 768) (n : Fin 16) (d : Fin 128) :
    (out0_5 (F := Ideal) x g w c s (ix2 r ⟨128 * n.val + d.val, by omega⟩) : EReal)
      = ((projected (normed x g) w (ix2 r ⟨128 * n.val + d.val, by omega⟩) : EReal) * (c (ix2 r d) : EReal)
        + (projected (normed x g) w (ix2 r ⟨128 * n.val + (d.val + 128 - 64) % 128, by omega⟩) : EReal) * (s (ix2 r d) : EReal)) * Ideal.ofBits FTy.f32 0x3E0293EE#32 := by
  have z2 : (![0, 0] : Fin 2 → Nat) = fun _ => 0 := funext fun a => by fin_cases a <;> rfl
  have z3 : (![0, 0, 0] : Fin 3 → Nat) = fun _ => 0 := funext fun a => by fin_cases a <;> rfl
  have e : out0_5 (F := Ideal) x g w c s = joined (projected (normed x g) w) c s concatenates_S768x128_S768x128_S768x128_S768x128_S768x128_S768x128_S768x128_S768x128_S768x128_S768x128_S768x128_S768x128_S768x128_S768x128_S768x128_S768x128_S768x2048_d1 := by
    unfold out0_5 k0_pay25 k0_pay26 k0_pay27
    rw [View.canon_unit_zero (S := S768x2048) z2, View.ld_unit_zero (S := S768x2048) z2, View.ld_unit_zero (S := S1x2048) z2, View.ld_unit_zero (S := S1x2048x2048) z3,
      View.ld_unit_zero (S := S768x128) z2, View.ld_unit_zero (S := S768x128) z2]
    rfl
  exact (congrFun e _).trans (joined_apply _ c s _ r n d)

variable (m : (ℓ : Loc nD τ sig) → Buf (Elt Ideal) ℓ) (c : Dev nD)
  (x : FVec Ideal S8448x2048 .f32) (g : FVec Ideal S2048 .f32) (w : FVec Ideal S2x2048x2048 .f32)
  (hx : m ((c.tc : Thread nD τ).loc main_arg0) = x) (hg : m ((c.tc : Thread nD τ).loc main_arg1) = g) (hw : m ((c.tc : Thread nD τ).loc main_arg2) = w)

/-- A table of positions, for each row of the flat array. -/
def table {F : FTy → Type} [FloatOps F] (a : FVec F S4224x128 .f32) : FVec F S8448x128 .f32 :=
  shapeCast S8448x128 (broadcastInDim S2x4224x1x128 ![0, 1, 2, 3] bcast_S1x4224x1x128_S2x4224x1x128_0_1_2_3
    (shapeCast S1x4224x1x128 a shapeCasts_S4224x128_S1x4224x1x128)) shapeCasts_S2x4224x1x128_S8448x128
/-- Two tables, for the two halves of a segment. -/
def halves {F : FTy → Type} [FloatOps F] (a b : FVec F S4224x64 .f32) : FVec F S4224x128 .f32 :=
  concatenate S4224x128 1 [⟨S4224x64, a⟩, ⟨S4224x64, b⟩] concatenates_S4224x64_S4224x64_S4224x128_d1

theorem halves_apply (a b : FVec Ideal S4224x64 .f32) (t : Fin 4224) (d : Fin 128) :
    (halves a b (ix2 t d) : EReal) = if h : d.val < 64 then (a (ix2 t ⟨d.val, h⟩) : EReal) else (b (ix2 t ⟨d.val - 64, by omega⟩) : EReal) := by
  pointwise [halves]
theorem table_apply (a : FVec Ideal S4224x128 .f32) (b : Fin 2) (t : Fin 4224) (d : Fin 128) :
    (table a (ix2 ⟨b.val * 4224 + t.val, by omega⟩ d) : EReal) = (a (ix2 t d) : EReal) := by
  pointwise [table]

/-- The windows' index maps. -/
theorem idx : ∀ t : Fin cfg0.N, win0_0.index t = ![t.val, 0] ∧ win0_1.index t = ![0, 0] ∧ win0_2.index t = ![1, 0, 0] ∧ win0_3.index t = ![t.val, 0]
    ∧ win0_4.index t = ![t.val, 0] ∧ win0_5.index t = ![t.val, 0] :=
  (by decide +kernel : ∀ t : Fin grid0.N, _)

theorem v0_eq (hw : m ((c.tc : Thread nD τ).loc main_arg2) = w) : V m c main_v0 = truncf .bf16 w bitsLt_bf16_f32 := by
  subst hw; entry_read; rfl
theorem v29_eq (hg : m ((c.tc : Thread nD τ).loc main_arg1) = g) : V m c main_v29 = shapeCast S1x2048 g shapeCasts_S2048_S1x2048 := by
  subst hg; entry_read; rfl
theorem v25_eq : V m c main_v25 = table (halves (Host.cos (F := Ideal) angles) (Host.cos (F := Ideal) angles)) := by
  entry_read; rfl
theorem v28_eq : V m c main_v28 = table (halves (Host.negf (Host.sin (F := Ideal) angles)) (Host.sin (F := Ideal) angles)) := by
  entry_read; rfl

theorem rows_apply (hx : m ((c.tc : Thread nD τ).loc main_arg0) = x) (t : Fin cfg0.N) (r : Fin 768) (d : Fin 2048) :
    (iblk m c 0 t (ix2 r d) : EReal) = (x (ix2 ⟨768 * t.val + r.val, by have : t.val < 11 := t.isLt; omega⟩ d) : EReal) := by
  have e : ∀ X : Vec Ideal S8448x2048 .f32, X ((win0_0.blk t).view.emb (ix2 r d)) = X (ix2 ⟨768 * t.val + r.val, by have : t.val < 11 := t.isLt; omega⟩ d) := fun X => by
    blk_ext [idx t]
  blk_simp [iblk, idx t]
  rw [show V m c main_arg0 = x from (V_main_arg0 m c).trans hx]
  exact e _

theorem gain_apply (hg : m ((c.tc : Thread nD τ).loc main_arg1) = g) (t : Fin cfg0.N) (d : Fin 2048) :
    (iblk m c 1 t (ix2 0 d) : EReal) = (g (ix1 d) : EReal) := by
  have e : ∀ X : Vec Ideal S1x2048 .f32, X ((win0_1.blk t).view.emb (ix2 0 d)) = X (ix2 0 d) := fun X => by blk_ext [idx t]
  blk_simp [iblk, idx t]
  rw [v29_eq m c g hg]
  refine (e _).trans ?_
  pointwise []

theorem cos_apply (t : Fin cfg0.N) (r : Fin 768) (d : Fin 128) (b : Fin 2) (p : Fin 4224) (hp : 768 * t.val + r.val = b.val * 4224 + p.val) :
    (iblk m c 3 t (ix2 r d) : EReal) = if h : d.val < 64 then cosAt p ⟨d.val, h⟩ else cosAt p ⟨d.val - 64, by omega⟩ := by
  have e : ∀ X : Vec Ideal S8448x128 .f32, X ((win0_3.blk t).view.emb (ix2 r d)) = X (ix2 ⟨768 * t.val + r.val, by have : t.val < 11 := t.isLt; omega⟩ d) := fun X => by
    blk_ext [idx t]
  blk_simp [iblk, idx t]
  rw [v25_eq m c]
  refine (e _).trans ?_
  rw [show (⟨768 * t.val + r.val, by have : t.val < 11 := t.isLt; omega⟩ : Fin 8448) = ⟨b.val * 4224 + p.val, by omega⟩ from Fin.ext hp]
  refine (table_apply _ b p d).trans ((halves_apply _ _ p d).trans rfl)

theorem sin_apply (t : Fin cfg0.N) (r : Fin 768) (d : Fin 128) (b : Fin 2) (p : Fin 4224) (hp : 768 * t.val + r.val = b.val * 4224 + p.val) :
    (iblk m c 4 t (ix2 r d) : EReal) = if h : d.val < 64 then -sinAt p ⟨d.val, h⟩ else sinAt p ⟨d.val - 64, by omega⟩ := by
  have e : ∀ X : Vec Ideal S8448x128 .f32, X ((win0_4.blk t).view.emb (ix2 r d)) = X (ix2 ⟨768 * t.val + r.val, by have : t.val < 11 := t.isLt; omega⟩ d) := fun X => by
    blk_ext [idx t]
  blk_simp [iblk, idx t]
  rw [v28_eq m c]
  refine (e _).trans ?_
  rw [show (⟨768 * t.val + r.val, by have : t.val < 11 := t.isLt; omega⟩ : Fin 8448) = ⟨b.val * 4224 + p.val, by omega⟩ from Fin.ext hp]
  refine (table_apply _ b p d).trans ((halves_apply _ _ p d).trans rfl)

theorem weight_apply (hw : m ((c.tc : Thread nD τ).loc main_arg2) = w) (t : Fin cfg0.N) (d : Fin 2048) (f : Fin 2048) :
    (iblk m c 2 t (ix3 0 d f) : EReal) = (w (ix3 1 d f) : EReal) := by
  have e : ∀ X : Vec Ideal S2x2048x2048 .bf16, X ((win0_2.blk t).view.emb (ix3 0 d f)) = X (ix3 1 d f) := fun X => by
    blk_ext [idx t]
  blk_simp [iblk, idx t]
  rw [v0_eq m c w hw]
  refine (e _).trans ?_
  pointwise []

include hx hg hw

/-- An entry of a block's projection. -/
theorem projected_entry (t : Fin cfg0.N) (r : Fin 768) (f : Fin 2048) :
    (projected (normed (iblk m c 0 t) (iblk m c 1 t)) (iblk m c 2 t) (ix2 r f) : EReal)
      = entry x g w ⟨768 * t.val + r.val, by have : t.val < 11 := t.isLt; omega⟩ f := by
  refine (projected_apply _ _ r f).trans ?_
  unfold entry
  refine Finset.sum_congr rfl fun d _ => congrArg₂ (· * ·) ((normed_apply _ _ r d).trans ?_) (weight_apply m c w hw t d f)
  simp only [rows_apply m c x hx, gain_apply m c g hg]

/-- An entry of the result array. -/
theorem final_entry (i : S8448x2048.Idx) : ((dats m 0 c).arrAt 5 cfg0.N i : EReal) = result x g w i := by
  refine (dats m 0 c).arrAt_forall_of_covers 5 (fun (i : S8448x2048.Idx) (v : EReal) => v = result x g w i) (by decide +kernel) (fun t hf y => ?_) i
  have e : ∀ (X : Vec Ideal S8448x2048 .bf16) (r : Fin 768) (f : Fin 2048),
      X ((win0_5.blk t).view.emb (ix2 r f)) = X (ix2 ⟨768 * t.val + r.val, by have : t.val < 11 := t.isLt; omega⟩ f) := fun X r f => by
    blk_ext [idx t]
  blk_simp
  rw [after0_5]
  obtain ⟨r, f, rfl⟩ : ∃ (r : Fin 768) (f : Fin 2048), y = ix2 r f := ⟨y 0, y 1, eq_ix2 y⟩
  refine Eq.trans ?_ (e _ r f).symm
  have ht : t.val < 11 := t.isLt
  obtain ⟨b, p, hp⟩ : ∃ (b : Fin 2) (p : Fin 4224), 768 * t.val + r.val = b.val * 4224 + p.val :=
    ⟨⟨(768 * t.val + r.val) / 4224, by omega⟩, ⟨(768 * t.val + r.val) % 4224, by omega⟩, by dsimp only; omega⟩
  obtain ⟨h, k, d, hd⟩ : ∃ (h : Fin 8) (k : Fin 2) (d : Fin 128), f.val = h.val * 256 + k.val * 128 + d.val :=
    ⟨⟨f.val / 256, by omega⟩, ⟨f.val % 256 / 128, by omega⟩, ⟨f.val % 128, by omega⟩, by dsimp only; omega⟩
  have en := projected_entry m c x g w hx hg hw t r
  rw [show (⟨768 * t.val + r.val, by omega⟩ : Fin 8448) = ⟨b.val * 4224 + p.val, by omega⟩ from Fin.ext hp] at en ⊢
  obtain ⟨n, hn⟩ : ∃ n : Fin 16, h.val * 256 + k.val * 128 = 128 * n.val := ⟨⟨2 * h.val + k.val, by omega⟩, by dsimp only; omega⟩
  have tt : ∀ (o : Nat) (ho : o + 128 ≤ 2048), o = 128 * n.val → turn (entry x g w ⟨b.val * 4224 + p.val, by omega⟩) (cosAt p) (sinAt p) o ho d
      = turn (entry x g w ⟨b.val * 4224 + p.val, by omega⟩) (cosAt p) (sinAt p) (128 * n.val) (by omega) d := fun o ho ho' => by subst ho'; rfl
  rw [show f = ⟨h.val * 256 + k.val * 128 + d.val, by omega⟩ from Fin.ext hd]
  refine Eq.trans ?_ (Cert.QueryReferenceIdeal.Part.result_apply x g w b p h k d).symm
  rw [tt _ _ hn, show (⟨h.val * 256 + k.val * 128 + d.val, by omega⟩ : Fin 2048) = ⟨128 * n.val + d.val, by omega⟩ from Fin.ext (by dsimp only; omega)]
  refine (block_apply _ _ _ _ _ r n d).trans (congrArg (· * Ideal.ofBits FTy.f32 0x3E0293EE#32) ?_)
  refine (congrArg₂ (· + ·) (congrArg (· * _) (en _)) (congrArg (· * _) (en _))).trans ?_
  exact turn_eq (entry x g w ⟨b.val * 4224 + p.val, by omega⟩) (cosAt p) (sinAt p) (128 * n.val) (by omega) d _ _ (cos_apply m c t r d b p hp) (sin_apply m c t r d b p hp)

omit hx hg hw
variable (ρ : Dev nD → PrngReg)

/-- The run: the result at the reference's, the arguments as they were. -/
theorem run : θ_run defs (onTc (τ := τ) (main (F := Ideal))) ⟨m, fun _ => 0, ρ⟩ fun r => ∀ c : Dev nD,
      r.2.mem ((c.tc : Thread nD τ).loc main_v30) = result (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (funext fun i => final_entry m c _ _ _ rfl rfl rfl i), (h c).2⟩) (Cert.QueryIdeal.Value.run_blocks m ρ)

end Cert.QueryIdeal.Part

end
-- ==== Proof.Steps.lean ====
/- The blocked online softmax of the attention kernel as plain functions, over any float values: one chain's scores
   against a block of keys, its step of (running maximum, running sum, accumulator), and the four chains together. -/
module

public import proofs.«01_k».proof.Proof.Gen.KernelIdeal
public import Idealize.ShloMosaic.Lib.VecWindow
public import Idealize.ShloMosaic.Lib.WritesUnit
public import Idealize.ShloMosaic.Lib.ValueIdxCore

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A column: one value per query row. -/
abbrev Col (F : FTy → Type) := FVec F S384x1 .f32
/-- A chain's accumulator, as the scratch holds it. -/
abbrev Slab (F : FTy → Type) := Vec F S1x384x256 .f32
/-- A chain's state: running maximum, running sum, accumulator. -/
abbrev Chain (F : FTy → Type) := Col F × Col F × Slab F
/-- The eight columns a loop carries: maximum and sum of each of the four chains. -/
abbrev Carry (F : FTy → Type) := Col F × Col F × Col F × Col F × Col F × Col F × Col F × Col F

/-- What the old sum and accumulator are scaled by when the maximum moves from `m` to `m'`. -/
def decay (m m' : Col F) : Col F := exp2 (subf m m')

/-- The accumulator scaled by `a`, plus the block's contribution `pv`. -/
def accNext (a : Col F) (acc : Slab F) (pv : FVec F S384x256 .f32) : Slab F :=
  shapeCast S1x384x256 (addf (mulf (broadcastTo S384x256 a broadcasts_S384x1_S384x256)
    (shapeCast S384x256 acc shapeCasts_S1x384x256_S384x256)) pv) shapeCasts_S384x256_S1x384x256

theorem accNext_congr {a a' : Col F} {acc acc' : Slab F} {pv pv' : FVec F S384x256 .f32} (h1 : a = a') (h2 : acc = acc') (h3 : pv = pv') :
    accNext a acc pv = accNext a' acc' pv' := by
  subst h1 h2 h3; rfl

/-- Any spelling of `accNext`'s value, piece by piece. -/
theorem accNext_of {a a' : Col F} {acc' : Slab F} {acc : FVec F S384x256 .f32} {pv pv' : FVec F S384x256 .f32}
    (h1 : a = a') (h2 : acc = shapeCast S384x256 acc' shapeCasts_S1x384x256_S384x256) (h3 : pv = pv') :
    shapeCast S1x384x256 (addf (mulf (broadcastTo S384x256 a broadcasts_S384x1_S384x256) acc) pv) shapeCasts_S384x256_S1x384x256
      = accNext a' acc' pv' := by
  subst h1 h2 h3; rfl

/-! ## Blocks of 768 keys -/

/-- The columns of chain `c` in a block of keys. -/
def kcol768 (kb : Vec F S1x768x512 .bf16) (c : Fin 4) : FVec F S768x128 .bf16 :=
  let k2 : FVec F S768x512 .bf16 := shapeCast S768x512 kb shapeCasts_S1x768x512_S768x512
  match c with
  | 0 => extractStridedSlice S768x128 ![0, 0] k2 slices_S768x512_o0_0_S768x128
  | 1 => extractStridedSlice S768x128 ![0, 128] k2 slices_S768x512_o0_128_S768x128
  | 2 => extractStridedSlice S768x128 ![0, 256] k2 slices_S768x512_o0_256_S768x128
  | 3 => extractStridedSlice S768x128 ![0, 384] k2 slices_S768x512_o0_384_S768x128

/-- The columns of chain `c`'s head in a block of values. -/
def vcol768 (vb : Vec F S1x768x512 .bf16) (c : Fin 4) : FVec F S768x256 .bf16 :=
  let v2 : FVec F S768x512 .bf16 := shapeCast S768x512 vb shapeCasts_S1x768x512_S768x512
  match c with
  | 0 => extractStridedSlice S768x256 ![0, 0] v2 slices_S768x512_o0_0_S768x256
  | 1 => extractStridedSlice S768x256 ![0, 0] v2 slices_S768x512_o0_0_S768x256
  | 2 => extractStridedSlice S768x256 ![0, 256] v2 slices_S768x512_o0_256_S768x256
  | 3 => extractStridedSlice S768x256 ![0, 256] v2 slices_S768x512_o0_256_S768x256

/-- Queries against keys. -/
def score768 (q : FVec F S384x128 .bf16) (k : FVec F S768x128 .bf16) : FVec F S384x768 .f32 :=
  matmul dot_S384x128_S768x128_S384x768_1_1_0_0_n_n none q k (constant S384x768 .f32 0x00000000#32)

/-- The scores with those of keys beyond the query's own position at minus infinity: the block's last 384 keys are at
    the queries' own rows. -/
def mask768 (s : FVec F S384x768 .f32) : FVec F S384x768 .f32 :=
  select (cmpi .sle (subi (iota .tc S384x768 32 [1] iota_S384x768_d1_w32) (broadcast S384x768 384#32))
      (iota .tc S384x768 32 [0] iota_S384x768_d0_w32)) s
    (broadcast S384x768 (Scalar.ofBits .f32 0xFF800000#32))

def max768 (s : FVec F S384x768 .f32) (m : Col F) : Col F :=
  maximumf m (shapeCast S384x1 (multiReduction .maximumf [1] S384 s 0xFF800000#32 reduces_S384x768_S384 (.inl rfl) rfl)
    shapeCasts_S384_S384x1)

def prob768 (s : FVec F S384x768 .f32) (m : Col F) : FVec F S384x768 .f32 :=
  exp2 (subf s (broadcastTo S384x768 m broadcasts_S384x1_S384x768))

def sum768 (p : FVec F S384x768 .f32) (a l : Col F) : Col F :=
  addf (mulf a l) (shapeCast S384x1 (multiReduction .add [1] S384 p 0x00000000#32 reduces_S384x768_S384 (.inl rfl) rfl)
    shapeCasts_S384_S384x1)

def pv768 (p : FVec F S384x768 .f32) (v : FVec F S768x256 .bf16) : FVec F S384x256 .f32 :=
  matmul dot_S384x768_S768x256_S384x256_1_0_0_1_n_n none (truncf .bf16 p bitsLt_bf16_f32) v (constant S384x256 .f32 0x00000000#32)

/-- One chain's step by a block whose scores are `s` and values `v`. -/
def step768 (s : FVec F S384x768 .f32) (v : FVec F S768x256 .bf16) (x : Chain F) : Chain F :=
  (max768 s x.1, sum768 (prob768 s (max768 s x.1)) (decay x.1 (max768 s x.1)) x.2.1,
    accNext (decay x.1 (max768 s x.1)) x.2.2 (pv768 (prob768 s (max768 s x.1)) v))

/-- The accumulator of a step, from an accumulator read as `acc`. -/
theorem step768_acc (s : FVec F S384x768 .f32) (v : FVec F S768x256 .bf16) (x : Chain F) (acc : Slab F) (h : acc = x.2.2) :
    accNext (decay x.1 (max768 s x.1)) acc (pv768 (prob768 s (max768 s x.1)) v) = (step768 s v x).2.2 := by
  subst h; rfl

/-- Every chain's step by a block of keys and values, all of it visible. -/
def wide (q : Fin 4 → FVec F S384x128 .bf16) (kb vb : Vec F S1x768x512 .bf16) (X : Fin 4 → Chain F) : Fin 4 → Chain F :=
  fun c => step768 (score768 (q c) (kcol768 kb c)) (vcol768 vb c) (X c)

/-- Every chain's step by the last block, masked. -/
def tail768 (q : Fin 4 → FVec F S384x128 .bf16) (kb vb : Vec F S1x768x512 .bf16) (X : Fin 4 → Chain F) : Fin 4 → Chain F :=
  fun c => step768 (mask768 (score768 (q c) (kcol768 kb c))) (vcol768 vb c) (X c)

/-! ## Blocks of 384 keys: the same, masked -/

def kcol384 (kb : Vec F S1x384x512 .bf16) (c : Fin 4) : FVec F S384x128 .bf16 :=
  let k2 : FVec F S384x512 .bf16 := shapeCast S384x512 kb shapeCasts_S1x384x512_S384x512
  match c with
  | 0 => extractStridedSlice S384x128 ![0, 0] k2 slices_S384x512_o0_0_S384x128
  | 1 => extractStridedSlice S384x128 ![0, 128] k2 slices_S384x512_o0_128_S384x128
  | 2 => extractStridedSlice S384x128 ![0, 256] k2 slices_S384x512_o0_256_S384x128
  | 3 => extractStridedSlice S384x128 ![0, 384] k2 slices_S384x512_o0_384_S384x128

def vcol384 (vb : Vec F S1x384x512 .bf16) (c : Fin 4) : FVec F S384x256 .bf16 :=
  let v2 : FVec F S384x512 .bf16 := shapeCast S384x512 vb shapeCasts_S1x384x512_S384x512
  match c with
  | 0 => extractStridedSlice S384x256 ![0, 0] v2 slices_S384x512_o0_0_S384x256
  | 1 => extractStridedSlice S384x256 ![0, 0] v2 slices_S384x512_o0_0_S384x256
  | 2 => extractStridedSlice S384x256 ![0, 256] v2 slices_S384x512_o0_256_S384x256
  | 3 => extractStridedSlice S384x256 ![0, 256] v2 slices_S384x512_o0_256_S384x256

def score384 (q k : FVec F S384x128 .bf16) : FVec F S384x384 .f32 :=
  matmul dot_S384x128_S384x128_S384x384_1_1_0_0_n_n none q k (constant S384x384 .f32 0x00000000#32)

def mask384 (s : FVec F S384x384 .f32) : FVec F S384x384 .f32 :=
  select (cmpi .sle (subi (iota .tc S384x384 32 [1] iota_S384x384_d1_w32) (broadcast S384x384 0#32))
      (iota .tc S384x384 32 [0] iota_S384x384_d0_w32)) s
    (broadcast S384x384 (Scalar.ofBits .f32 0xFF800000#32))

def max384 (s : FVec F S384x384 .f32) (m : Col F) : Col F :=
  maximumf m (shapeCast S384x1 (multiReduction .maximumf [1] S384 s 0xFF800000#32 reduces_S384x384_S384 (.inl rfl) rfl)
    shapeCasts_S384_S384x1)

def prob384 (s : FVec F S384x384 .f32) (m : Col F) : FVec F S384x384 .f32 :=
  exp2 (subf s (broadcastTo S384x384 m broadcasts_S384x1_S384x384))

def sum384 (p : FVec F S384x384 .f32) (a l : Col F) : Col F :=
  addf (mulf a l) (shapeCast S384x1 (multiReduction .add [1] S384 p 0x00000000#32 reduces_S384x384_S384 (.inl rfl) rfl)
    shapeCasts_S384_S384x1)

def pv384 (p : FVec F S384x384 .f32) (v : FVec F S384x256 .bf16) : FVec F S384x256 .f32 :=
  matmul dot_S384x384_S384x256_S384x256_1_0_0_1_n_n none (truncf .bf16 p bitsLt_bf16_f32) v (constant S384x256 .f32 0x00000000#32)

def step384 (s : FVec F S384x384 .f32) (v : FVec F S384x256 .bf16) (x : Chain F) : Chain F :=
  (max384 s x.1, sum384 (prob384 s (max384 s x.1)) (decay x.1 (max384 s x.1)) x.2.1,
    accNext (decay x.1 (max384 s x.1)) x.2.2 (pv384 (prob384 s (max384 s x.1)) v))

theorem step384_acc (s : FVec F S384x384 .f32) (v : FVec F S384x256 .bf16) (x : Chain F) (acc : Slab F) (h : acc = x.2.2) :
    accNext (decay x.1 (max384 s x.1)) acc (pv384 (prob384 s (max384 s x.1)) v) = (step384 s v x).2.2 := by
  subst h; rfl

def tail384 (q : Fin 4 → FVec F S384x128 .bf16) (kb vb : Vec F S1x384x512 .bf16) (X : Fin 4 → Chain F) : Fin 4 → Chain F :=
  fun c => step384 (mask384 (score384 (q c) (kcol384 kb c))) (vcol384 vb c) (X c)

/-! ## The scratch: one slab a chain -/

/-- The whole scratch, from its four slabs. -/
def glue (A : Fin 4 → Slab F) : Vec F S4x384x256 .f32 := fun y => A (y 0) (ValueIdx.ix3 0 (y 1) (y 2))

/-- The columns a loop carries. -/
def carry (X : Fin 4 → Chain F) : Carry F :=
  ((X 0).1, (X 0).2.1, (X 1).1, (X 1).2.1, (X 2).1, (X 2).2.1, (X 3).1, (X 3).2.1)

/-- The chains' states from carried columns and slabs. -/
def chains (r : Carry F) (A : Fin 4 → Slab F) : Fin 4 → Chain F := fun c =>
  match c with
  | 0 => (r.1, r.2.1, A 0)
  | 1 => (r.2.2.1, r.2.2.2.1, A 1)
  | 2 => (r.2.2.2.2.1, r.2.2.2.2.2.1, A 2)
  | 3 => (r.2.2.2.2.2.2.1, r.2.2.2.2.2.2.2, A 3)

theorem chains_carry (X : Fin 4 → Chain F) : chains (carry X) (fun c => (X c).2.2) = X := by
  funext c
  match c with
  | 0 | 1 | 2 | 3 => rfl

variable {sig : RefSig} {κ : Kind} {sp : Space}

/-- The scratch after a store of every slab reads as the slabs glued, whatever was there. -/
theorem read_slabs (v : View sig κ sp S4x384x256 .f32) (f : v.ty.Contents (Elt F)) (L : List (View.Piece (Elt F) S4x384x256 .f32))
    (w0 w1 w2 w3 : Slab F) (A : Fin 4 → Slab F) (h0 : w0 = A 0) (h1 : w1 = A 1) (h2 : w2 = A 2) (h3 : w3 = A 3) :
    v.read (Elt F) (v.writes (Elt F) f
      (⟨Rect.unit (s := S4x384x256) ![3, 0, 0] S1x384x256.size inb_S4x384x256_S1x384x256_3_0_0, w3⟩ ::
       ⟨Rect.unit (s := S4x384x256) ![2, 0, 0] S1x384x256.size inb_S4x384x256_S1x384x256_2_0_0, w2⟩ ::
       ⟨Rect.unit (s := S4x384x256) ![1, 0, 0] S1x384x256.size inb_S4x384x256_S1x384x256_1_0_0, w1⟩ ::
       ⟨Rect.unit (s := S4x384x256) ![0, 0, 0] S1x384x256.size inb_S4x384x256_S1x384x256_0_0_0, w0⟩ :: L)) = glue A := by
  subst h0 h1 h2 h3
  funext y
  have hy := ValueIdx.eq_ix3 y
  obtain ⟨c, r, e, hc⟩ : ∃ (c : Fin 4) (r : Fin 384) (e : Fin 256), y = ValueIdx.ix3 c r e := ⟨y 0, y 1, y 2, hy⟩
  subst hc
  have hg : ∀ c' : Fin 4, c = c' → glue A (ValueIdx.ix3 c r e) = A c' (ValueIdx.ix3 0 r e) := by rintro _ rfl; rfl
  have hx : ∀ (n : ℕ) (a : Fin 3), c.val = n → ((ValueIdx.ix3 c r e : S4x384x256.Idx) a).val
      = (![n, 0, 0] : Fin 3 → ℕ) a + ((ValueIdx.ix3 (0 : Fin 1) r e : S1x384x256.Idx) a).val := by
    intro n a hn
    match a with
    | ⟨0, _⟩ => simpa using hn
    | ⟨1, _⟩ => simp
    | ⟨2, _⟩ => simp
  match c with
  | 3 =>
    rw [hg 3 rfl]
    exact View.read_writes_cons_unit_of_mem v f _ _ _ _ (ValueIdx.ix3 (0 : Fin 1) r e : S1x384x256.Idx) rfl (fun a => hx 3 a rfl)
  | 2 =>
    rw [hg 2 rfl, View.read_writes_cons_unit_of_not_mem v f _ _ _ _ rfl 0 (.inl (show (2 : ℕ) < 3 by decide))]
    exact View.read_writes_cons_unit_of_mem v f _ _ _ _ (ValueIdx.ix3 (0 : Fin 1) r e : S1x384x256.Idx) rfl (fun a => hx 2 a rfl)
  | 1 =>
    rw [hg 1 rfl, View.read_writes_cons_unit_of_not_mem v f _ _ _ _ rfl 0 (.inl (show (1 : ℕ) < 3 by decide)),
      View.read_writes_cons_unit_of_not_mem v f _ _ _ _ rfl 0 (.inl (show (1 : ℕ) < 2 by decide))]
    exact View.read_writes_cons_unit_of_mem v f _ _ _ _ (ValueIdx.ix3 (0 : Fin 1) r e : S1x384x256.Idx) rfl (fun a => hx 1 a rfl)
  | 0 =>
    rw [hg 0 rfl, View.read_writes_cons_unit_of_not_mem v f _ _ _ _ rfl 0 (.inl (show (0 : ℕ) < 3 by decide)),
      View.read_writes_cons_unit_of_not_mem v f _ _ _ _ rfl 0 (.inl (show (0 : ℕ) < 2 by decide)),
      View.read_writes_cons_unit_of_not_mem v f _ _ _ _ rfl 0 (.inl (show (0 : ℕ) < 1 by decide))]
    exact View.read_writes_cons_unit_of_mem v f _ _ _ _ (ValueIdx.ix3 (0 : Fin 1) r e : S1x384x256.Idx) rfl (fun a => hx 0 a rfl)

/-- A load of one slab of the glued scratch. -/
theorem load_slab (v : View sig κ sp S4x384x256 .f32) (A : Fin 4 → Slab F) (c : Fin 4) {off : Fin 3 → ℕ}
    (inb : ∀ a, off a + S1x384x256.size a ≤ S4x384x256.size a) (h : off = ![c.val, 0, 0]) :
    v.readAt (Elt F) (Rect.unit (s := S4x384x256) off S1x384x256.size inb).toLoadRect (v.rep (glue A)) = A c := by
  subst h
  funext z
  rw [View.readAt_rep]
  have hz : z = ValueIdx.ix3 (z 0) (z 1) (z 2) := ValueIdx.eq_ix3 z
  show A _ _ = A c z
  have e0 : ((Rect.unit (s := S4x384x256) ![c.val, 0, 0] S1x384x256.size inb).toLoadRect.idx z) 0 = c := Fin.ext (by
    show c.val + 1 * (z 0).val = c.val
    have : (z 0).val < 1 := (z 0).isLt
    omega)
  rw [e0]
  refine congrArg (A c) (funext fun a => Fin.ext ?_)
  match a with
  | ⟨0, _⟩ => have : (z 0).val < 1 := (z 0).isLt; show 0 = (z 0).val; omega
  | ⟨1, _⟩ => show 0 + 1 * (z 1).val = (z 1).val; omega
  | ⟨2, _⟩ => show 0 + 1 * (z 2).val = (z 2).val; omega

/-- A load of the slab stored last reads what was stored. -/
theorem cov_hit (v : View sig κ sp S4x384x256 .f32) (L : List (View.Piece (Elt F) S4x384x256 .f32)) {off : Fin 3 → ℕ}
    (inb inb' : ∀ a, off a + S1x384x256.size a ≤ S4x384x256.size a) (w : Slab F) :
    v.readCov (⟨Rect.unit (s := S4x384x256) off S1x384x256.size inb, w⟩ :: L)
      (Rect.unit (s := S4x384x256) off S1x384x256.size inb').toLoadRect = w := by
  funext z
  exact View.read_writes_cons_unit_of_mem v v.junk inb w L ((Rect.unit (s := S4x384x256) off S1x384x256.size inb').toLoadRect.idx z) z rfl
    (fun a => by show off a + 1 * (z a).val = off a + (z a).val; omega)

/-- A load of a slab skips a store of another. -/
theorem cov_skip (v : View sig κ sp S4x384x256 .f32) (L : List (View.Piece (Elt F) S4x384x256 .f32)) (c d : ℕ) (h : c < d)
    (inb : ∀ a, (![d, 0, 0] : Fin 3 → ℕ) a + S1x384x256.size a ≤ S4x384x256.size a)
    (inb' : ∀ a, (![c, 0, 0] : Fin 3 → ℕ) a + S1x384x256.size a ≤ S4x384x256.size a) (w : Slab F) :
    v.readCov (⟨Rect.unit (s := S4x384x256) ![d, 0, 0] S1x384x256.size inb, w⟩ :: L)
      (Rect.unit (s := S4x384x256) ![c, 0, 0] S1x384x256.size inb').toLoadRect
    = v.readCov L (Rect.unit (s := S4x384x256) ![c, 0, 0] S1x384x256.size inb').toLoadRect := by
  funext z
  exact View.read_writes_cons_unit_of_not_mem v v.junk inb w L ((Rect.unit (s := S4x384x256) ![c, 0, 0] S1x384x256.size inb').toLoadRect.idx z)
    rfl 0 (.inl (by
      show c + 1 * (z 0).val < d
      have : (z 0).val < 1 := (z 0).isLt
      omega))

/-- The same, of a slab before. -/
theorem cov_skip' (v : View sig κ sp S4x384x256 .f32) (L : List (View.Piece (Elt F) S4x384x256 .f32)) (c d : ℕ) (h : d < c)
    (inb : ∀ a, (![d, 0, 0] : Fin 3 → ℕ) a + S1x384x256.size a ≤ S4x384x256.size a)
    (inb' : ∀ a, (![c, 0, 0] : Fin 3 → ℕ) a + S1x384x256.size a ≤ S4x384x256.size a) (w : Slab F) :
    v.readCov (⟨Rect.unit (s := S4x384x256) ![d, 0, 0] S1x384x256.size inb, w⟩ :: L)
      (Rect.unit (s := S4x384x256) ![c, 0, 0] S1x384x256.size inb').toLoadRect
    = v.readCov L (Rect.unit (s := S4x384x256) ![c, 0, 0] S1x384x256.size inb').toLoadRect := by
  funext z
  exact View.read_writes_cons_unit_of_not_mem v v.junk inb w L ((Rect.unit (s := S4x384x256) ![c, 0, 0] S1x384x256.size inb').toLoadRect.idx z)
    rfl 0 (.inr (by
      show d + 1 ≤ c + 1 * (z 0).val
      have : (z 0).val < 1 := (z 0).isLt
      omega))

/-! ## Blocks of a head pair's keys or values -/

/-- The 768 rows from row `r` on. -/
def rows768 (K : Vec F S1x4224x512 .bf16) (r : ℕ) : Vec F S1x768x512 .bf16 :=
  fun y => if h : r + (y 1).val < 4224 then K (ValueIdx.ix3 0 ⟨r + (y 1).val, h⟩ (y 2)) else K (ValueIdx.ix3 0 0 0)

/-- The 384 rows from row `r` on. -/
def rows384 (K : Vec F S1x4224x512 .bf16) (r : ℕ) : Vec F S1x384x512 .bf16 :=
  fun y => if h : r + (y 1).val < 4224 then K (ValueIdx.ix3 0 ⟨r + (y 1).val, h⟩ (y 2)) else K (ValueIdx.ix3 0 0 0)

theorem load_rows768 (v : View sig κ sp S1x4224x512 .bf16) (f : v.ty.Contents (Elt F)) {off : Fin 3 → ℕ}
    (inb : ∀ a, off a + S1x768x512.size a ≤ S1x4224x512.size a) (r : ℕ) (h : off = ![0, r, 0]) :
    v.readAt (Elt F) (Rect.unit (s := S1x4224x512) off S1x768x512.size inb).toLoadRect f = rows768 (v.read (Elt F) f) r := by
  subst h
  funext z
  have hb : r + (z 1).val < 4224 := by
    have h1 : r + 768 ≤ 4224 := inb 1
    have h2 : (z 1).val < 768 := (z 1).isLt
    omega
  unfold rows768
  rw [dif_pos hb]
  refine congrArg (v.read (Elt F) f) (funext fun a => Fin.ext ?_)
  match a with
  | ⟨0, _⟩ => have : (z 0).val < 1 := (z 0).isLt; show 0 + 1 * (z 0).val = 0; omega
  | ⟨1, _⟩ => show r + 1 * (z 1).val = r + (z 1).val; omega
  | ⟨2, _⟩ => show 0 + 1 * (z 2).val = (z 2).val; omega

theorem load_rows384 (v : View sig κ sp S1x4224x512 .bf16) (f : v.ty.Contents (Elt F)) {off : Fin 3 → ℕ}
    (inb : ∀ a, off a + S1x384x512.size a ≤ S1x4224x512.size a) (r : ℕ) (h : off = ![0, r, 0]) :
    v.readAt (Elt F) (Rect.unit (s := S1x4224x512) off S1x384x512.size inb).toLoadRect f = rows384 (v.read (Elt F) f) r := by
  subst h
  funext z
  have hb : r + (z 1).val < 4224 := by
    have h1 : r + 384 ≤ 4224 := inb 1
    have h2 : (z 1).val < 384 := (z 1).isLt
    omega
  unfold rows384
  rw [dif_pos hb]
  refine congrArg (v.read (Elt F) f) (funext fun a => Fin.ext ?_)
  match a with
  | ⟨0, _⟩ => have : (z 0).val < 1 := (z 0).isLt; show 0 + 1 * (z 0).val = 0; omega
  | ⟨1, _⟩ => show r + 1 * (z 1).val = r + (z 1).val; omega
  | ⟨2, _⟩ => show 0 + 1 * (z 2).val = (z 2).val; omega

/-- The chains after the first `n` blocks of 768 keys. -/
def wides (q : Fin 4 → FVec F S384x128 .bf16) (K V : Vec F S1x4224x512 .bf16) (X : Fin 4 → Chain F) : ℕ → Fin 4 → Chain F
  | 0 => X
  | n + 1 => wide q (rows768 K (768 * n)) (rows768 V (768 * n)) (wides q K V X n)

/-- Where the chains start: nothing seen. -/
def start : Fin 4 → Chain F := fun _ =>
  (broadcast S384x1 (Scalar.ofBits .f32 0xFF800000#32), broadcast S384x1 (Scalar.ofBits .f32 0x00000000#32),
    broadcast S1x384x256 (Scalar.ofBits .f32 0x00000000#32))

/-- The chains after every key visible to query block `qi`: pairs of blocks whole, then the masked tail. -/
def chainsAt (q : Fin 4 → FVec F S384x128 .bf16) (K V : Vec F S1x4224x512 .bf16) (qi : ℕ) : Fin 4 → Chain F :=
  if qi % 2 = 1 then tail768 q (rows768 K (384 * (qi - 1))) (rows768 V (384 * (qi - 1))) (wides q K V start (qi / 2))
  else tail384 q (rows384 K (384 * qi)) (rows384 V (384 * qi)) (wides q K V start (qi / 2))

end Cert.KernelIdeal.Attn

end
-- ==== Proof.Trip.lean ====
/- One trip of the kernel's main loop: two blocks of 768 keys for the four chains, the accumulators in the scratch. -/
module

public import proofs.«01_k».proof.Proof.Gen.KernelIdeal.Loops
public import proofs.«01_k».proof.Proof.Steps

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ

/-- The four chains' query columns. -/
abbrev qs (v2 v3 v4 v5 : FVec F S384x128 .bf16) : Fin 4 → FVec F S384x128 .bf16 := ![v2, v3, v4, v5]

/-- The memrefs a trip touches: keys, values, and the scratch at `f`. -/
abbrev Held (c : Dev nD) (arg6 arg7 : Memref sig .tc .vmem S1x4224x512 .bf16) (arg9 : Memref sig .tc .vmem S4x384x256 .f32)
    (X6 : BufTy.Contents (Elt F) arg6.view.ty) (X7 : BufTy.Contents (Elt F) arg7.view.ty) (f : BufTy.Contents (Elt F) arg9.view.ty) : sProp 𝕄G :=
  iprop((arg6.view.loc (c : Thread nD τ) ↦[arg6.view.set]{fullShare} X6) ∗ (arg7.view.loc (c : Thread nD τ) ↦[arg7.view.set]{fullShare} X7)
    ∗ (arg9.view.loc (c : Thread nD τ) ↦[arg9.view.set]{fullShare} f))

/-- Two blocks from where the chains stand. -/
abbrev twice (q : Fin 4 → FVec F S384x128 .bf16) (k1 v1 k2 v2 : Vec F S1x768x512 .bf16) (X : Fin 4 → Chain F) : Fin 4 → Chain F :=
  wide q k2 v2 (wide q k1 v1 X)

/-- What a trip loads: the first and the second block's rows of the keys or the values. -/
abbrev blkA (arg6 : Memref sig .tc .vmem S1x4224x512 .bf16) (X6 : BufTy.Contents (Elt F) arg6.view.ty) (i : grid0.Coords) (k : Fin (k0_t1_loop i).trips) :
    Vec F S1x768x512 .bf16 :=
  arg6.view.readAt (Elt F) (Rect.unit (s := S1x4224x512) (k0_off1 i k) S1x768x512.size (k0_off1_inb i k)).toLoadRect X6
abbrev blkB (arg6 : Memref sig .tc .vmem S1x4224x512 .bf16) (X6 : BufTy.Contents (Elt F) arg6.view.ty) (i : grid0.Coords) (k : Fin (k0_t1_loop i).trips) :
    Vec F S1x768x512 .bf16 :=
  arg6.view.readAt (Elt F) (Rect.unit (s := S1x4224x512) (k0_off2 i k) S1x768x512.size (k0_off2_inb i k)).toLoadRect X6

set_option maxHeartbeats 400000 in
/-- A trip at any carried columns and any slabs. -/
theorem trip1 (𝒱 : Variants) (c : Dev nD) (bd : Option 𝒱.V) (i : grid0.Coords) (arg3 : Memref sig .tc .vmem S1x4x128 .f32) (harg3 : arg3.IsWhole) (arg4 : Memref sig .tc .vmem S1x256 .f32) (harg4 : arg4.IsWhole) (arg5 : Memref sig .tc .vmem S1x384x512 .bf16) (harg5 : arg5.IsWhole) (arg6 : Memref sig .tc .vmem S1x4224x512 .bf16) (harg6 : arg6.IsWhole) (arg7 : Memref sig .tc .vmem S1x4224x512 .bf16) (harg7 : arg7.IsWhole) (arg8 : Memref sig .tc .vmem S1x384x512 .bf16) (harg8 : arg8.IsWhole) (arg9 : Memref sig .tc .vmem S4x384x256 .f32) (harg9 : arg9.IsWhole) (arg2 : BitVec 32) (v2 v3 v4 v5 : FVec F S384x128 .bf16) (v10 v11 : Col F) (v28 : BitVec 32) (c2 : BitVec 32) (v29 : BitVec 32) (v34 : BitVec 32) (v35 : BitVec 1)
    (X6 : BufTy.Contents (Elt F) arg6.view.ty) (X7 : BufTy.Contents (Elt F) arg7.view.ty) (k : Fin (k0_t1_loop i).trips) (E : Set ℕ)
    (X : Fin 4 → Chain F) :
    Held (F := F) c arg6 arg7 arg9 X6 X7 (arg9.view.rep (glue fun d => (X d).2.2))
    ⊢ wp frame (wpE (defs₀ (F := F)) 𝒱 (c : Thread nD τ) bd) E (k0_t1_body (F := F) i arg3 harg3 arg4 harg4 arg5 harg5 arg6 harg6 arg7 harg7 arg8 harg8 arg9 harg9 arg2 v2 v3 v4 v5 v10 v11 v28 c2 v29 v34 v35 k (carry X))
        (fun yld => iprop(⌜yld = carry (twice (qs v2 v3 v4 v5) (blkA arg6 X6 i k) (blkA arg7 X7 i k) (blkB arg6 X6 i k) (blkB arg7 X7 i k) X)⌝
          ∗ Held (F := F) c arg6 arg7 arg9 X6 X7 (arg9.view.rep (glue fun d => (twice (qs v2 v3 v4 v5) (blkA arg6 X6 i k) (blkA arg7 X7 i k) (blkB arg6 X6 i k) (blkB arg7 X7 i k) X d).2.2)))) := by
  have l0 := load_slab arg9.view (fun d => (X d).2.2) 0 inb_S4x384x256_S1x384x256_0_0_0 rfl
  have l1 := load_slab arg9.view (fun d => (X d).2.2) 1 inb_S4x384x256_S1x384x256_1_0_0 rfl
  have l2 := load_slab arg9.view (fun d => (X d).2.2) 2 inb_S4x384x256_S1x384x256_2_0_0 rfl
  have l3 := load_slab arg9.view (fun d => (X d).2.2) 3 inb_S4x384x256_S1x384x256_3_0_0 rfl
  unfold k0_t1_body
  iintro ⟨HR_arg6, HR_arg7, HW_arg9⟩
  sl_exec
  sl_step
  isplitr
  · ipureintro
    rfl
  isplitl [HR_arg6]; · iexact HR_arg6
  isplitl [HR_arg7]; · iexact HR_arg7
  iapply (pointsTo_rep_of_read (c : Thread nD τ) arg9 _ fullShare (glue fun d => (twice (qs v2 v3 v4 v5) (blkA arg6 X6 i k) (blkA arg7 X7 i k) (blkB arg6 X6 i k) (blkB arg7 X7 i k) X d).2.2) ?_) $$ HW_arg9
  refine read_slabs _ _ _ _ _ _ _ (fun d => (twice (qs v2 v3 v4 v5) (blkA arg6 X6 i k) (blkA arg7 X7 i k) (blkB arg6 X6 i k) (blkB arg7 X7 i k) X d).2.2) ?_ ?_ ?_ ?_
  · refine accNext_of ?_ ?_ ?_
    · rfl
    · refine congrArg (fun z => shapeCast S384x256 z shapeCasts_S1x384x256_S384x256) (a₂ := (wide (qs v2 v3 v4 v5) (blkA arg6 X6 i k) (blkA arg7 X7 i k) X 0).2.2) ?_
      refine (cov_skip arg9.view _ 0 3 (by decide) _ _ _).trans ?_
      refine (cov_skip arg9.view _ 0 2 (by decide) _ _ _).trans ?_
      refine (cov_skip arg9.view _ 0 1 (by decide) _ _ _).trans ?_
      refine (cov_hit arg9.view _ _ _ _).trans ?_
      refine accNext_of ?_ ?_ ?_
      · rfl
      · rfl
      · rfl
    · rfl
  · refine accNext_of ?_ ?_ ?_
    · rfl
    · refine congrArg (fun z => shapeCast S384x256 z shapeCasts_S1x384x256_S384x256) (a₂ := (wide (qs v2 v3 v4 v5) (blkA arg6 X6 i k) (blkA arg7 X7 i k) X 1).2.2) ?_
      refine (cov_skip' arg9.view _ 1 0 (by decide) _ _ _).trans ?_
      refine (cov_skip arg9.view _ 1 3 (by decide) _ _ _).trans ?_
      refine (cov_skip arg9.view _ 1 2 (by decide) _ _ _).trans ?_
      refine (cov_hit arg9.view _ _ _ _).trans ?_
      refine accNext_of ?_ ?_ ?_
      · rfl
      · rfl
      · rfl
    · rfl
  · refine accNext_of ?_ ?_ ?_
    · rfl
    · refine congrArg k0_pay60 (a₁ := trip1.sl.v363 i arg6 arg7 arg9 v2 v3 v4 v5 X6 X7 k X) (a₂ := (wide (qs v2 v3 v4 v5) (blkA arg6 X6 i k) (blkA arg7 X7 i k) X 2).2.2) ?_
      refine (cov_skip' arg9.view _ 2 1 (by decide) _ _ _).trans ?_
      refine (cov_skip' arg9.view _ 2 0 (by decide) _ _ _).trans ?_
      refine (cov_skip arg9.view _ 2 3 (by decide) _ _ _).trans ?_
      refine (cov_hit arg9.view _ _ _ _).trans ?_
      refine accNext_of ?_ ?_ ?_
      · rfl
      · rfl
      · rfl
    · rfl
  · refine accNext_of ?_ ?_ ?_
    · rfl
    · refine congrArg (fun z => shapeCast S384x256 z shapeCasts_S1x384x256_S384x256) (a₂ := (wide (qs v2 v3 v4 v5) (blkA arg6 X6 i k) (blkA arg7 X7 i k) X 3).2.2) ?_
      refine (cov_skip' arg9.view _ 3 2 (by decide) _ _ _).trans ?_
      refine (cov_skip' arg9.view _ 3 1 (by decide) _ _ _).trans ?_
      refine (cov_skip' arg9.view _ 3 0 (by decide) _ _ _).trans ?_
      refine (cov_hit arg9.view _ _ _ _).trans ?_
      refine accNext_of ?_ ?_ ?_
      · rfl
      · rfl
      · rfl
    · rfl

end Cert.KernelIdeal.Attn

end
-- ==== Proof.Words.lean ====
/- The integer words of the kernel at a grid point, as plain numbers: the loops' trips, the branch conditions and the rows
   the loads start at, all of them set by the query block `i 2`. -/
module

public import proofs.«01_k».proof.Proof.Gen.KernelIdeal.Skeleton

@[expose] public section

set_option maxRecDepth 16384

namespace Cert.KernelIdeal.Attn

open Cert.KernelIdeal Cert.KernelIdeal.Gen
open Idealize.ShloMosaic

/-- Pairs of wide blocks before the query block. -/
theorem trips1 : ∀ i : grid0.Coords, (k0_t1_loop i).trips = (i 2).val / 2 / 2 := by decide +kernel

theorem trips2 : ∀ i : grid0.Coords, (k0_t2_loop i).trips = 0 := by decide +kernel

/-- A wide block is left over when the number of wide blocks is odd. -/
theorem cond1_iff : ∀ i : grid0.Coords, k0_cond1 i = 1#1 ↔ (i 2).val / 2 % 2 = 1 := by decide +kernel

/-- The last block is wide at the odd query blocks. -/
theorem cond2_iff : ∀ i : grid0.Coords, k0_cond2 i = 1#1 ↔ (i 2).val % 2 = 1 := by decide +kernel

theorem off1_eq : ∀ (i : grid0.Coords) (k : Fin (k0_t1_loop i).trips), k0_off1 i k = ![0, 768 * (2 * k.val), 0] := by decide +kernel

theorem off2_eq : ∀ (i : grid0.Coords) (k : Fin (k0_t1_loop i).trips), k0_off2 i k = ![0, 768 * (2 * k.val + 1), 0] := by decide +kernel

theorem off5_eq : ∀ i : grid0.Coords, k0_cond1 i = 1#1 → k0_off5 i = ![0, 768 * ((i 2).val / 2 - 1), 0] := by decide +kernel

theorem off6_eq : ∀ i : grid0.Coords, k0_cond2 i = 1#1 → k0_off6 i = ![0, 384 * ((i 2).val - 1), 0] := by decide +kernel

theorem off7_eq : ∀ i : grid0.Coords, k0_off7 i = ![0, 384 * (i 2).val, 0] := by decide +kernel

end Cert.KernelIdeal.Attn
-- ==== Proof.Part18.lean ====
/- The kernel's sweep over the keys: the main loop, the left-over wide block and the masked last block, in each of the
   four cases of the two branches. -/
module

public import proofs.«01_k».proof.Proof.Trip
public import proofs.«01_k».proof.Proof.Words
public import Idealize.ShloMosaic.Lib.Pipeline.TableIdle

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ

/-- The loop's invariant: after `k` trips the chains have seen `2 k` wide blocks. -/
def inv1 (c : Dev nD) (arg6 arg7 : Memref sig .tc .vmem S1x4224x512 .bf16) (arg9 : Memref sig .tc .vmem S4x384x256 .f32)
    (X6 : BufTy.Contents (Elt F) arg6.view.ty) (X7 : BufTy.Contents (Elt F) arg7.view.ty) (q : Fin 4 → FVec F S384x128 .bf16)
    (k : ℕ) (acc : Carry F) : sProp 𝕄G :=
  iprop(⌜acc = carry (wides q (arg6.view.read (Elt F) X6) (arg7.view.read (Elt F) X7) start (2 * k))⌝
    ∗ Held (F := F) c arg6 arg7 arg9 X6 X7
        (arg9.view.rep (glue fun d => (wides q (arg6.view.read (Elt F) X6) (arg7.view.read (Elt F) X7) start (2 * k) d).2.2)))

theorem step_inv1 (𝒱 : Variants) (c : Dev nD) (bd : Option 𝒱.V) (i : grid0.Coords) (arg3 : Memref sig .tc .vmem S1x4x128 .f32) (harg3 : arg3.IsWhole) (arg4 : Memref sig .tc .vmem S1x256 .f32) (harg4 : arg4.IsWhole) (arg5 : Memref sig .tc .vmem S1x384x512 .bf16) (harg5 : arg5.IsWhole) (arg6 : Memref sig .tc .vmem S1x4224x512 .bf16) (harg6 : arg6.IsWhole) (arg7 : Memref sig .tc .vmem S1x4224x512 .bf16) (harg7 : arg7.IsWhole) (arg8 : Memref sig .tc .vmem S1x384x512 .bf16) (harg8 : arg8.IsWhole) (arg9 : Memref sig .tc .vmem S4x384x256 .f32) (harg9 : arg9.IsWhole) (arg2 : BitVec 32) (v2 v3 v4 v5 : FVec F S384x128 .bf16) (v10 v11 : Col F) (v28 : BitVec 32) (c2 : BitVec 32) (v29 : BitVec 32) (v34 : BitVec 32) (v35 : BitVec 1)
    (X6 : BufTy.Contents (Elt F) arg6.view.ty) (X7 : BufTy.Contents (Elt F) arg7.view.ty) (E : Set ℕ) (k : Fin (k0_t1_loop i).trips)
    (acc : Carry F) :
    inv1 (F := F) c arg6 arg7 arg9 X6 X7 (qs v2 v3 v4 v5) k.val acc
    ⊢ wp frame (wpE (defs₀ (F := F)) 𝒱 (c : Thread nD τ) bd) E (k0_t1_body (F := F) i arg3 harg3 arg4 harg4 arg5 harg5 arg6 harg6 arg7 harg7 arg8 harg8 arg9 harg9 arg2 v2 v3 v4 v5 v10 v11 v28 c2 v29 v34 v35 k acc)
        (inv1 (F := F) c arg6 arg7 arg9 X6 X7 (qs v2 v3 v4 v5) (k.val + 1)) := by
  have e : ∀ X, twice (qs v2 v3 v4 v5) (blkA arg6 X6 i k) (blkA arg7 X7 i k) (blkB arg6 X6 i k) (blkB arg7 X7 i k) X
      = wide (qs v2 v3 v4 v5) (rows768 (arg6.view.read (Elt F) X6) (768 * (2 * k.val + 1))) (rows768 (arg7.view.read (Elt F) X7) (768 * (2 * k.val + 1)))
          (wide (qs v2 v3 v4 v5) (rows768 (arg6.view.read (Elt F) X6) (768 * (2 * k.val))) (rows768 (arg7.view.read (Elt F) X7) (768 * (2 * k.val))) X) := fun X => by
    unfold twice blkA blkB
    rw [load_rows768 arg6.view X6 _ _ (off1_eq i k), load_rows768 arg7.view X7 _ _ (off1_eq i k),
      load_rows768 arg6.view X6 _ _ (off2_eq i k), load_rows768 arg7.view X7 _ _ (off2_eq i k)]
  unfold inv1
  iintro ⟨%h, H⟩
  subst h
  iapply (wp_wand_r Idealize.ShloMosaic.frame (wpE (defs₀ (F := F)) 𝒱 (c : Thread nD τ) bd) E)
  isplitl [H]
  · iapply (trip1 (F := F) 𝒱 c bd i arg3 harg3 arg4 harg4 arg5 harg5 arg6 harg6 arg7 harg7 arg8 harg8 arg9 harg9 arg2 v2 v3 v4 v5 v10 v11 v28 c2 v29 v34 v35 X6 X7 k E _)
    iexact H
  · iintro %yld ⟨%h, H⟩
    subst h
    rw [e]
    isplitr
    · ipureintro; rfl
    · iexact H

set_option maxHeartbeats 1000000 in
/-- A wide block left over, the last block wide. -/
theorem sweep_wide_wide (𝒱 : Variants) (c : Dev nD) (bd : Option 𝒱.V) (i : grid0.Coords) (arg3 : Memref sig .tc .vmem S1x4x128 .f32) (harg3 : arg3.IsWhole) (arg4 : Memref sig .tc .vmem S1x256 .f32) (harg4 : arg4.IsWhole) (arg5 : Memref sig .tc .vmem S1x384x512 .bf16) (harg5 : arg5.IsWhole) (arg6 : Memref sig .tc .vmem S1x4224x512 .bf16) (harg6 : arg6.IsWhole) (arg7 : Memref sig .tc .vmem S1x4224x512 .bf16) (harg7 : arg7.IsWhole) (arg8 : Memref sig .tc .vmem S1x384x512 .bf16) (harg8 : arg8.IsWhole) (arg9 : Memref sig .tc .vmem S4x384x256 .f32) (harg9 : arg9.IsWhole) (arg2 : BitVec 32) (v2 v3 v4 v5 : FVec F S384x128 .bf16) (v10 v11 : Col F) (v28 : BitVec 32) (c2 : BitVec 32) (v29 : BitVec 32) (v34 : BitVec 32) (v35 : BitVec 1)
    (X6 : BufTy.Contents (Elt F) arg6.view.ty) (X7 : BufTy.Contents (Elt F) arg7.view.ty) (E : Set ℕ)
    (h10 : v10 = (start (F := F) 0).1) (h11 : v11 = (start (F := F) 0).2.1)
    (h1 : k0_cond1 i = 1#1) (h2 : k0_cond2 i = 1#1) :
    Held (F := F) c arg6 arg7 arg9 X6 X7 (arg9.view.rep (glue fun d => (start (F := F) d).2.2))
    ⊢ wp frame (wpE (defs₀ (F := F)) 𝒱 (c : Thread nD τ) bd) E (k0_part18 (F := F) i arg3 harg3 arg4 harg4 arg5 harg5 arg6 harg6 arg7 harg7 arg8 harg8 arg9 harg9 arg2 v2 v3 v4 v5 v10 v11 v28 c2 v29 v34 v35)
        (fun y => iprop(⌜y = ⟨(chainsAt (qs v2 v3 v4 v5) (arg6.view.read (Elt F) X6) (arg7.view.read (Elt F) X7) (i 2).val 0).2.1,
            (chainsAt (qs v2 v3 v4 v5) (arg6.view.read (Elt F) X6) (arg7.view.read (Elt F) X7) (i 2).val 1).2.1,
            (chainsAt (qs v2 v3 v4 v5) (arg6.view.read (Elt F) X6) (arg7.view.read (Elt F) X7) (i 2).val 2).2.1,
            (chainsAt (qs v2 v3 v4 v5) (arg6.view.read (Elt F) X6) (arg7.view.read (Elt F) X7) (i 2).val 3).2.1⟩⌝
          ∗ Held (F := F) c arg6 arg7 arg9 X6 X7
              (arg9.view.rep (glue fun d => (chainsAt (qs v2 v3 v4 v5) (arg6.view.read (Elt F) X6) (arg7.view.read (Elt F) X7) (i 2).val d).2.2)))) := by
  have htr := trips2 i
  rw [k0_part18_eq_skeleton]
  unfold k0_part18_skel
  simp only [Scf.for_trips0_bind (k0_t2_loop i) (k0_t2_ok i) htr]
  have hinit : (v10, v11, v10, v11, v10, v11, v10, v11)
      = carry (wides (qs v2 v3 v4 v5) (arg6.view.read (Elt F) X6) (arg7.view.read (Elt F) X7) start (2 * 0)) := by
    subst h10 h11; rfl
  iintro H
  ihave H0 : (inv1 (F := F) c arg6 arg7 arg9 X6 X7 (qs v2 v3 v4 v5) 0 (v10, v11, v10, v11, v10, v11, v10, v11)) $$ [H]
  · unfold inv1
    isplitr
    · ipureintro; exact hinit
    · iexact H
  iapply (Scf.wp_for_bind frame (wpE (defs₀ (F := F)) 𝒱 (c : Thread nD τ) bd) E (k0_t1_loop i).lb (k0_t1_loop i).ub (k0_t1_loop i).st (k0_t1_ok i)
    (v10, v11, v10, v11, v10, v11, v10, v11)
    (k0_t1_body (F := F) i arg3 harg3 arg4 harg4 arg5 harg5 arg6 harg6 arg7 harg7 arg8 harg8 arg9 harg9 arg2 v2 v3 v4 v5 v10 v11 v28 c2 v29 v34 v35)
    (inv1 (F := F) c arg6 arg7 arg9 X6 X7 (qs v2 v3 v4 v5))
    (fun k acc => step_inv1 (F := F) 𝒱 c bd i arg3 harg3 arg4 harg4 arg5 harg5 arg6 harg6 arg7 harg7 arg8 harg8 arg9 harg9 arg2 v2 v3 v4 v5 v10 v11 v28 c2 v29 v34 v35 X6 X7 E k acc)) $$ H0
  iintro %acc H
  unfold inv1
  icases H with ⟨%hacc, H⟩
  subst hacc
  rw [show Scf.trips (k0_t1_loop i).lb (k0_t1_loop i).ub (k0_t1_loop i).st = (i 2).val / 2 / 2 from trips1 i]
  generalize hX : wides (qs v2 v3 v4 v5) (arg6.view.read (Elt F) X6) (arg7.view.read (Elt F) X7) start (2 * ((i 2).val / 2 / 2)) = X
  have l0 := load_slab arg9.view (fun d => (X d).2.2) 0 inb_S4x384x256_S1x384x256_0_0_0 rfl
  have l1 := load_slab arg9.view (fun d => (X d).2.2) 1 inb_S4x384x256_S1x384x256_1_0_0 rfl
  have l2 := load_slab arg9.view (fun d => (X d).2.2) 2 inb_S4x384x256_S1x384x256_2_0_0 rfl
  have l3 := load_slab arg9.view (fun d => (X d).2.2) 3 inb_S4x384x256_S1x384x256_3_0_0 rfl
  icases H with ⟨HR_arg6, HR_arg7, HW_arg9⟩
  have hC : chainsAt (qs v2 v3 v4 v5) (arg6.view.read (Elt F) X6) (arg7.view.read (Elt F) X7) (i 2).val
      = (tail768 (qs v2 v3 v4 v5) (arg6.view.readAt (Elt F) (Rect.unit (s := S1x4224x512) (k0_off6 i) S1x768x512.size (k0_off6_inb i h2)).toLoadRect X6) (arg7.view.readAt (Elt F) (Rect.unit (s := S1x4224x512) (k0_off6 i) S1x768x512.size (k0_off6_inb i h2)).toLoadRect X7) (wide (qs v2 v3 v4 v5) (arg6.view.readAt (Elt F) (Rect.unit (s := S1x4224x512) (k0_off5 i) S1x768x512.size (k0_off5_inb i h1)).toLoadRect X6) (arg7.view.readAt (Elt F) (Rect.unit (s := S1x4224x512) (k0_off5 i) S1x768x512.size (k0_off5_inb i h1)).toLoadRect X7) X)) := by
    unfold chainsAt
    rw [if_pos ((cond2_iff i).1 h2)]
    rw [load_rows768 arg6.view X6 _ _ (off6_eq i h2), load_rows768 arg7.view X7 _ _ (off6_eq i h2)]
    rw [load_rows768 arg6.view X6 _ _ (off5_eq i h1), load_rows768 arg7.view X7 _ _ (off5_eq i h1)]
    have e : (i 2).val / 2 = (2 * ((i 2).val / 2 / 2)) + 1 := by have := (cond1_iff i).1 h1; omega
    have e' : (i 2).val / 2 - 1 = 2 * ((i 2).val / 2 / 2) := by omega
    rw [e', ← hX]
    conv_lhs => rw [e]
    rfl
  rw [hC]
  clear hC
  sl_exec
  sl_step
  isplitr
  · ipureintro
    rfl
  isplitl [HR_arg6]; · iexact HR_arg6
  isplitl [HR_arg7]; · iexact HR_arg7
  iapply (pointsTo_rep_of_read (c : Thread nD τ) arg9 _ fullShare (glue fun d => ((tail768 (qs v2 v3 v4 v5) (arg6.view.readAt (Elt F) (Rect.unit (s := S1x4224x512) (k0_off6 i) S1x768x512.size (k0_off6_inb i h2)).toLoadRect X6) (arg7.view.readAt (Elt F) (Rect.unit (s := S1x4224x512) (k0_off6 i) S1x768x512.size (k0_off6_inb i h2)).toLoadRect X7) (wide (qs v2 v3 v4 v5) (arg6.view.readAt (Elt F) (Rect.unit (s := S1x4224x512) (k0_off5 i) S1x768x512.size (k0_off5_inb i h1)).toLoadRect X6) (arg7.view.readAt (Elt F) (Rect.unit (s := S1x4224x512) (k0_off5 i) S1x768x512.size (k0_off5_inb i h1)).toLoadRect X7) X)) d).2.2) ?_) $$ HW_arg9
  refine read_slabs _ _ _ _ _ _ _ (fun d => ((tail768 (qs v2 v3 v4 v5) (arg6.view.readAt (Elt F) (Rect.unit (s := S1x4224x512) (k0_off6 i) S1x768x512.size (k0_off6_inb i h2)).toLoadRect X6) (arg7.view.readAt (Elt F) (Rect.unit (s := S1x4224x512) (k0_off6 i) S1x768x512.size (k0_off6_inb i h2)).toLoadRect X7) (wide (qs v2 v3 v4 v5) (arg6.view.readAt (Elt F) (Rect.unit (s := S1x4224x512) (k0_off5 i) S1x768x512.size (k0_off5_inb i h1)).toLoadRect X6) (arg7.view.readAt (Elt F) (Rect.unit (s := S1x4224x512) (k0_off5 i) S1x768x512.size (k0_off5_inb i h1)).toLoadRect X7) X)) d).2.2) ?_ ?_ ?_ ?_
  · refine accNext_of ?_ ?_ ?_
    · rfl
    · show k0_pay175 _ = k0_pay175 ((wide (qs v2 v3 v4 v5) (arg6.view.readAt (Elt F) (Rect.unit (s := S1x4224x512) (k0_off5 i) S1x768x512.size (k0_off5_inb i h1)).toLoadRect X6) (arg7.view.readAt (Elt F) (Rect.unit (s := S1x4224x512) (k0_off5 i) S1x768x512.size (k0_off5_inb i h1)).toLoadRect X7) X) 0).2.2
      refine congrArg k0_pay175 ?_
      refine (cov_skip arg9.view _ 0 3 (by decide) _ _ _).trans ?_
      refine (cov_skip arg9.view _ 0 2 (by decide) _ _ _).trans ?_
      refine (cov_skip arg9.view _ 0 1 (by decide) _ _ _).trans ?_
      refine (cov_hit arg9.view _ _ _ _).trans ?_
      refine accNext_of ?_ ?_ ?_
      · rfl
      · rfl
      · rfl
    · rfl
  · refine accNext_of ?_ ?_ ?_
    · rfl
    · refine congrArg (fun z => shapeCast S384x256 z shapeCasts_S1x384x256_S384x256) (a₂ := ((wide (qs v2 v3 v4 v5) (arg6.view.readAt (Elt F) (Rect.unit (s := S1x4224x512) (k0_off5 i) S1x768x512.size (k0_off5_inb i h1)).toLoadRect X6) (arg7.view.readAt (Elt F) (Rect.unit (s := S1x4224x512) (k0_off5 i) S1x768x512.size (k0_off5_inb i h1)).toLoadRect X7) X) 1).2.2) ?_
      refine (cov_skip' arg9.view _ 1 0 (by decide) _ _ _).trans ?_
      refine (cov_skip arg9.view _ 1 3 (by decide) _ _ _).trans ?_
      refine (cov_skip arg9.view _ 1 2 (by decide) _ _ _).trans ?_
      refine (cov_hit arg9.view _ _ _ _).trans ?_
      refine accNext_of ?_ ?_ ?_
      · rfl
      · rfl
      · rfl
    · rfl
  · refine accNext_of ?_ ?_ ?_
    · rfl
    · refine congrArg (fun z => shapeCast S384x256 z shapeCasts_S1x384x256_S384x256) (a₂ := ((wide (qs v2 v3 v4 v5) (arg6.view.readAt (Elt F) (Rect.unit (s := S1x4224x512) (k0_off5 i) S1x768x512.size (k0_off5_inb i h1)).toLoadRect X6) (arg7.view.readAt (Elt F) (Rect.unit (s := S1x4224x512) (k0_off5 i) S1x768x512.size (k0_off5_inb i h1)).toLoadRect X7) X) 2).2.2) ?_
      refine (cov_skip' arg9.view _ 2 1 (by decide) _ _ _).trans ?_
      refine (cov_skip' arg9.view _ 2 0 (by decide) _ _ _).trans ?_
      refine (cov_skip arg9.view _ 2 3 (by decide) _ _ _).trans ?_
      refine (cov_hit arg9.view _ _ _ _).trans ?_
      refine accNext_of ?_ ?_ ?_
      · rfl
      · rfl
      · rfl
    · rfl
  · refine accNext_of ?_ ?_ ?_
    · rfl
    · refine congrArg (fun z => shapeCast S384x256 z shapeCasts_S1x384x256_S384x256) (a₂ := ((wide (qs v2 v3 v4 v5) (arg6.view.readAt (Elt F) (Rect.unit (s := S1x4224x512) (k0_off5 i) S1x768x512.size (k0_off5_inb i h1)).toLoadRect X6) (arg7.view.readAt (Elt F) (Rect.unit (s := S1x4224x512) (k0_off5 i) S1x768x512.size (k0_off5_inb i h1)).toLoadRect X7) X) 3).2.2) ?_
      refine (cov_skip' arg9.view _ 3 2 (by decide) _ _ _).trans ?_
      refine (cov_skip' arg9.view _ 3 1 (by decide) _ _ _).trans ?_
      refine (cov_skip' arg9.view _ 3 0 (by decide) _ _ _).trans ?_
      refine (cov_hit arg9.view _ _ _ _).trans ?_
      refine accNext_of ?_ ?_ ?_
      · rfl
      · rfl
      · rfl
    · rfl

set_option maxHeartbeats 1000000 in
/-- A wide block left over, the last block narrow. -/
theorem sweep_wide_narrow (𝒱 : Variants) (c : Dev nD) (bd : Option 𝒱.V) (i : grid0.Coords) (arg3 : Memref sig .tc .vmem S1x4x128 .f32) (harg3 : arg3.IsWhole) (arg4 : Memref sig .tc .vmem S1x256 .f32) (harg4 : arg4.IsWhole) (arg5 : Memref sig .tc .vmem S1x384x512 .bf16) (harg5 : arg5.IsWhole) (arg6 : Memref sig .tc .vmem S1x4224x512 .bf16) (harg6 : arg6.IsWhole) (arg7 : Memref sig .tc .vmem S1x4224x512 .bf16) (harg7 : arg7.IsWhole) (arg8 : Memref sig .tc .vmem S1x384x512 .bf16) (harg8 : arg8.IsWhole) (arg9 : Memref sig .tc .vmem S4x384x256 .f32) (harg9 : arg9.IsWhole) (arg2 : BitVec 32) (v2 v3 v4 v5 : FVec F S384x128 .bf16) (v10 v11 : Col F) (v28 : BitVec 32) (c2 : BitVec 32) (v29 : BitVec 32) (v34 : BitVec 32) (v35 : BitVec 1)
    (X6 : BufTy.Contents (Elt F) arg6.view.ty) (X7 : BufTy.Contents (Elt F) arg7.view.ty) (E : Set ℕ)
    (h10 : v10 = (start (F := F) 0).1) (h11 : v11 = (start (F := F) 0).2.1)
    (h1 : k0_cond1 i = 1#1) (h2 : ¬ k0_cond2 i = 1#1) :
    Held (F := F) c arg6 arg7 arg9 X6 X7 (arg9.view.rep (glue fun d => (start (F := F) d).2.2))
    ⊢ wp frame (wpE (defs₀ (F := F)) 𝒱 (c : Thread nD τ) bd) E (k0_part18 (F := F) i arg3 harg3 arg4 harg4 arg5 harg5 arg6 harg6 arg7 harg7 arg8 harg8 arg9 harg9 arg2 v2 v3 v4 v5 v10 v11 v28 c2 v29 v34 v35)
        (fun y => iprop(⌜y = ⟨(chainsAt (qs v2 v3 v4 v5) (arg6.view.read (Elt F) X6) (arg7.view.read (Elt F) X7) (i 2).val 0).2.1,
            (chainsAt (qs v2 v3 v4 v5) (arg6.view.read (Elt F) X6) (arg7.view.read (Elt F) X7) (i 2).val 1).2.1,
            (chainsAt (qs v2 v3 v4 v5) (arg6.view.read (Elt F) X6) (arg7.view.read (Elt F) X7) (i 2).val 2).2.1,
            (chainsAt (qs v2 v3 v4 v5) (arg6.view.read (Elt F) X6) (arg7.view.read (Elt F) X7) (i 2).val 3).2.1⟩⌝
          ∗ Held (F := F) c arg6 arg7 arg9 X6 X7
              (arg9.view.rep (glue fun d => (chainsAt (qs v2 v3 v4 v5) (arg6.view.read (Elt F) X6) (arg7.view.read (Elt F) X7) (i 2).val d).2.2)))) := by
  have htr := trips2 i
  rw [k0_part18_eq_skeleton]
  unfold k0_part18_skel
  simp only [Scf.for_trips0_bind (k0_t2_loop i) (k0_t2_ok i) htr]
  have hinit : (v10, v11, v10, v11, v10, v11, v10, v11)
      = carry (wides (qs v2 v3 v4 v5) (arg6.view.read (Elt F) X6) (arg7.view.read (Elt F) X7) start (2 * 0)) := by
    subst h10 h11; rfl
  iintro H
  ihave H0 : (inv1 (F := F) c arg6 arg7 arg9 X6 X7 (qs v2 v3 v4 v5) 0 (v10, v11, v10, v11, v10, v11, v10, v11)) $$ [H]
  · unfold inv1
    isplitr
    · ipureintro; exact hinit
    · iexact H
  iapply (Scf.wp_for_bind frame (wpE (defs₀ (F := F)) 𝒱 (c : Thread nD τ) bd) E (k0_t1_loop i).lb (k0_t1_loop i).ub (k0_t1_loop i).st (k0_t1_ok i)
    (v10, v11, v10, v11, v10, v11, v10, v11)
    (k0_t1_body (F := F) i arg3 harg3 arg4 harg4 arg5 harg5 arg6 harg6 arg7 harg7 arg8 harg8 arg9 harg9 arg2 v2 v3 v4 v5 v10 v11 v28 c2 v29 v34 v35)
    (inv1 (F := F) c arg6 arg7 arg9 X6 X7 (qs v2 v3 v4 v5))
    (fun k acc => step_inv1 (F := F) 𝒱 c bd i arg3 harg3 arg4 harg4 arg5 harg5 arg6 harg6 arg7 harg7 arg8 harg8 arg9 harg9 arg2 v2 v3 v4 v5 v10 v11 v28 c2 v29 v34 v35 X6 X7 E k acc)) $$ H0
  iintro %acc H
  unfold inv1
  icases H with ⟨%hacc, H⟩
  subst hacc
  rw [show Scf.trips (k0_t1_loop i).lb (k0_t1_loop i).ub (k0_t1_loop i).st = (i 2).val / 2 / 2 from trips1 i]
  generalize hX : wides (qs v2 v3 v4 v5) (arg6.view.read (Elt F) X6) (arg7.view.read (Elt F) X7) start (2 * ((i 2).val / 2 / 2)) = X
  have l0 := load_slab arg9.view (fun d => (X d).2.2) 0 inb_S4x384x256_S1x384x256_0_0_0 rfl
  have l1 := load_slab arg9.view (fun d => (X d).2.2) 1 inb_S4x384x256_S1x384x256_1_0_0 rfl
  have l2 := load_slab arg9.view (fun d => (X d).2.2) 2 inb_S4x384x256_S1x384x256_2_0_0 rfl
  have l3 := load_slab arg9.view (fun d => (X d).2.2) 3 inb_S4x384x256_S1x384x256_3_0_0 rfl
  icases H with ⟨HR_arg6, HR_arg7, HW_arg9⟩
  have hC : chainsAt (qs v2 v3 v4 v5) (arg6.view.read (Elt F) X6) (arg7.view.read (Elt F) X7) (i 2).val
      = (tail384 (qs v2 v3 v4 v5) (arg6.view.readAt (Elt F) (Rect.unit (s := S1x4224x512) (k0_off7 i) S1x384x512.size (k0_off7_inb i h2)).toLoadRect X6) (arg7.view.readAt (Elt F) (Rect.unit (s := S1x4224x512) (k0_off7 i) S1x384x512.size (k0_off7_inb i h2)).toLoadRect X7) (wide (qs v2 v3 v4 v5) (arg6.view.readAt (Elt F) (Rect.unit (s := S1x4224x512) (k0_off5 i) S1x768x512.size (k0_off5_inb i h1)).toLoadRect X6) (arg7.view.readAt (Elt F) (Rect.unit (s := S1x4224x512) (k0_off5 i) S1x768x512.size (k0_off5_inb i h1)).toLoadRect X7) X)) := by
    unfold chainsAt
    rw [if_neg (fun h => h2 ((cond2_iff i).2 h))]
    rw [load_rows384 arg6.view X6 _ _ (off7_eq i), load_rows384 arg7.view X7 _ _ (off7_eq i)]
    rw [load_rows768 arg6.view X6 _ _ (off5_eq i h1), load_rows768 arg7.view X7 _ _ (off5_eq i h1)]
    have e : (i 2).val / 2 = (2 * ((i 2).val / 2 / 2)) + 1 := by have := (cond1_iff i).1 h1; omega
    have e' : (i 2).val / 2 - 1 = 2 * ((i 2).val / 2 / 2) := by omega
    rw [e', ← hX]
    conv_lhs => rw [e]
    rfl
  rw [hC]
  clear hC
  sl_exec
  sl_step
  isplitr
  · ipureintro
    rfl
  isplitl [HR_arg6]; · iexact HR_arg6
  isplitl [HR_arg7]; · iexact HR_arg7
  iapply (pointsTo_rep_of_read (c : Thread nD τ) arg9 _ fullShare (glue fun d => ((tail384 (qs v2 v3 v4 v5) (arg6.view.readAt (Elt F) (Rect.unit (s := S1x4224x512) (k0_off7 i) S1x384x512.size (k0_off7_inb i h2)).toLoadRect X6) (arg7.view.readAt (Elt F) (Rect.unit (s := S1x4224x512) (k0_off7 i) S1x384x512.size (k0_off7_inb i h2)).toLoadRect X7) (wide (qs v2 v3 v4 v5) (arg6.view.readAt (Elt F) (Rect.unit (s := S1x4224x512) (k0_off5 i) S1x768x512.size (k0_off5_inb i h1)).toLoadRect X6) (arg7.view.readAt (Elt F) (Rect.unit (s := S1x4224x512) (k0_off5 i) S1x768x512.size (k0_off5_inb i h1)).toLoadRect X7) X)) d).2.2) ?_) $$ HW_arg9
  refine read_slabs _ _ _ _ _ _ _ (fun d => ((tail384 (qs v2 v3 v4 v5) (arg6.view.readAt (Elt F) (Rect.unit (s := S1x4224x512) (k0_off7 i) S1x384x512.size (k0_off7_inb i h2)).toLoadRect X6) (arg7.view.readAt (Elt F) (Rect.unit (s := S1x4224x512) (k0_off7 i) S1x384x512.size (k0_off7_inb i h2)).toLoadRect X7) (wide (qs v2 v3 v4 v5) (arg6.view.readAt (Elt F) (Rect.unit (s := S1x4224x512) (k0_off5 i) S1x768x512.size (k0_off5_inb i h1)).toLoadRect X6) (arg7.view.readAt (Elt F) (Rect.unit (s := S1x4224x512) (k0_off5 i) S1x768x512.size (k0_off5_inb i h1)).toLoadRect X7) X)) d).2.2) ?_ ?_ ?_ ?_
  · refine accNext_of ?_ ?_ ?_
    · rfl
    · show k0_pay204 _ = k0_pay204 ((wide (qs v2 v3 v4 v5) (arg6.view.readAt (Elt F) (Rect.unit (s := S1x4224x512) (k0_off5 i) S1x768x512.size (k0_off5_inb i h1)).toLoadRect X6) (arg7.view.readAt (Elt F) (Rect.unit (s := S1x4224x512) (k0_off5 i) S1x768x512.size (k0_off5_inb i h1)).toLoadRect X7) X) 0).2.2
      refine congrArg k0_pay204 ?_
      refine (cov_skip arg9.view _ 0 3 (by decide) _ _ _).trans ?_
      refine (cov_skip arg9.view _ 0 2 (by decide) _ _ _).trans ?_
      refine (cov_skip arg9.view _ 0 1 (by decide) _ _ _).trans ?_
      refine (cov_hit arg9.view _ _ _ _).trans ?_
      refine accNext_of ?_ ?_ ?_
      · rfl
      · rfl
      · rfl
    · rfl
  · refine accNext_of ?_ ?_ ?_
    · rfl
    · refine congrArg (fun z => shapeCast S384x256 z shapeCasts_S1x384x256_S384x256) (a₂ := ((wide (qs v2 v3 v4 v5) (arg6.view.readAt (Elt F) (Rect.unit (s := S1x4224x512) (k0_off5 i) S1x768x512.size (k0_off5_inb i h1)).toLoadRect X6) (arg7.view.readAt (Elt F) (Rect.unit (s := S1x4224x512) (k0_off5 i) S1x768x512.size (k0_off5_inb i h1)).toLoadRect X7) X) 1).2.2) ?_
      refine (cov_skip' arg9.view _ 1 0 (by decide) _ _ _).trans ?_
      refine (cov_skip arg9.view _ 1 3 (by decide) _ _ _).trans ?_
      refine (cov_skip arg9.view _ 1 2 (by decide) _ _ _).trans ?_
      refine (cov_hit arg9.view _ _ _ _).trans ?_
      refine accNext_of ?_ ?_ ?_
      · rfl
      · rfl
      · rfl
    · rfl
  · refine accNext_of ?_ ?_ ?_
    · rfl
    · refine congrArg (fun z => shapeCast S384x256 z shapeCasts_S1x384x256_S384x256) (a₂ := ((wide (qs v2 v3 v4 v5) (arg6.view.readAt (Elt F) (Rect.unit (s := S1x4224x512) (k0_off5 i) S1x768x512.size (k0_off5_inb i h1)).toLoadRect X6) (arg7.view.readAt (Elt F) (Rect.unit (s := S1x4224x512) (k0_off5 i) S1x768x512.size (k0_off5_inb i h1)).toLoadRect X7) X) 2).2.2) ?_
      refine (cov_skip' arg9.view _ 2 1 (by decide) _ _ _).trans ?_
      refine (cov_skip' arg9.view _ 2 0 (by decide) _ _ _).trans ?_
      refine (cov_skip arg9.view _ 2 3 (by decide) _ _ _).trans ?_
      refine (cov_hit arg9.view _ _ _ _).trans ?_
      refine accNext_of ?_ ?_ ?_
      · rfl
      · rfl
      · rfl
    · rfl
  · refine accNext_of ?_ ?_ ?_
    · rfl
    · refine congrArg (fun z => shapeCast S384x256 z shapeCasts_S1x384x256_S384x256) (a₂ := ((wide (qs v2 v3 v4 v5) (arg6.view.readAt (Elt F) (Rect.unit (s := S1x4224x512) (k0_off5 i) S1x768x512.size (k0_off5_inb i h1)).toLoadRect X6) (arg7.view.readAt (Elt F) (Rect.unit (s := S1x4224x512) (k0_off5 i) S1x768x512.size (k0_off5_inb i h1)).toLoadRect X7) X) 3).2.2) ?_
      refine (cov_skip' arg9.view _ 3 2 (by decide) _ _ _).trans ?_
      refine (cov_skip' arg9.view _ 3 1 (by decide) _ _ _).trans ?_
      refine (cov_skip' arg9.view _ 3 0 (by decide) _ _ _).trans ?_
      refine (cov_hit arg9.view _ _ _ _).trans ?_
      refine accNext_of ?_ ?_ ?_
      · rfl
      · rfl
      · rfl
    · rfl

set_option maxHeartbeats 1000000 in
/-- No block left over, the last block wide. -/
theorem sweep_none_wide (𝒱 : Variants) (c : Dev nD) (bd : Option 𝒱.V) (i : grid0.Coords) (arg3 : Memref sig .tc .vmem S1x4x128 .f32) (harg3 : arg3.IsWhole) (arg4 : Memref sig .tc .vmem S1x256 .f32) (harg4 : arg4.IsWhole) (arg5 : Memref sig .tc .vmem S1x384x512 .bf16) (harg5 : arg5.IsWhole) (arg6 : Memref sig .tc .vmem S1x4224x512 .bf16) (harg6 : arg6.IsWhole) (arg7 : Memref sig .tc .vmem S1x4224x512 .bf16) (harg7 : arg7.IsWhole) (arg8 : Memref sig .tc .vmem S1x384x512 .bf16) (harg8 : arg8.IsWhole) (arg9 : Memref sig .tc .vmem S4x384x256 .f32) (harg9 : arg9.IsWhole) (arg2 : BitVec 32) (v2 v3 v4 v5 : FVec F S384x128 .bf16) (v10 v11 : Col F) (v28 : BitVec 32) (c2 : BitVec 32) (v29 : BitVec 32) (v34 : BitVec 32) (v35 : BitVec 1)
    (X6 : BufTy.Contents (Elt F) arg6.view.ty) (X7 : BufTy.Contents (Elt F) arg7.view.ty) (E : Set ℕ)
    (h10 : v10 = (start (F := F) 0).1) (h11 : v11 = (start (F := F) 0).2.1)
    (h1 : ¬ k0_cond1 i = 1#1) (h2 : k0_cond2 i = 1#1) :
    Held (F := F) c arg6 arg7 arg9 X6 X7 (arg9.view.rep (glue fun d => (start (F := F) d).2.2))
    ⊢ wp frame (wpE (defs₀ (F := F)) 𝒱 (c : Thread nD τ) bd) E (k0_part18 (F := F) i arg3 harg3 arg4 harg4 arg5 harg5 arg6 harg6 arg7 harg7 arg8 harg8 arg9 harg9 arg2 v2 v3 v4 v5 v10 v11 v28 c2 v29 v34 v35)
        (fun y => iprop(⌜y = ⟨(chainsAt (qs v2 v3 v4 v5) (arg6.view.read (Elt F) X6) (arg7.view.read (Elt F) X7) (i 2).val 0).2.1,
            (chainsAt (qs v2 v3 v4 v5) (arg6.view.read (Elt F) X6) (arg7.view.read (Elt F) X7) (i 2).val 1).2.1,
            (chainsAt (qs v2 v3 v4 v5) (arg6.view.read (Elt F) X6) (arg7.view.read (Elt F) X7) (i 2).val 2).2.1,
            (chainsAt (qs v2 v3 v4 v5) (arg6.view.read (Elt F) X6) (arg7.view.read (Elt F) X7) (i 2).val 3).2.1⟩⌝
          ∗ Held (F := F) c arg6 arg7 arg9 X6 X7
              (arg9.view.rep (glue fun d => (chainsAt (qs v2 v3 v4 v5) (arg6.view.read (Elt F) X6) (arg7.view.read (Elt F) X7) (i 2).val d).2.2)))) := by
  have htr := trips2 i
  rw [k0_part18_eq_skeleton]
  unfold k0_part18_skel
  simp only [Scf.for_trips0_bind (k0_t2_loop i) (k0_t2_ok i) htr]
  have hinit : (v10, v11, v10, v11, v10, v11, v10, v11)
      = carry (wides (qs v2 v3 v4 v5) (arg6.view.read (Elt F) X6) (arg7.view.read (Elt F) X7) start (2 * 0)) := by
    subst h10 h11; rfl
  iintro H
  ihave H0 : (inv1 (F := F) c arg6 arg7 arg9 X6 X7 (qs v2 v3 v4 v5) 0 (v10, v11, v10, v11, v10, v11, v10, v11)) $$ [H]
  · unfold inv1
    isplitr
    · ipureintro; exact hinit
    · iexact H
  iapply (Scf.wp_for_bind frame (wpE (defs₀ (F := F)) 𝒱 (c : Thread nD τ) bd) E (k0_t1_loop i).lb (k0_t1_loop i).ub (k0_t1_loop i).st (k0_t1_ok i)
    (v10, v11, v10, v11, v10, v11, v10, v11)
    (k0_t1_body (F := F) i arg3 harg3 arg4 harg4 arg5 harg5 arg6 harg6 arg7 harg7 arg8 harg8 arg9 harg9 arg2 v2 v3 v4 v5 v10 v11 v28 c2 v29 v34 v35)
    (inv1 (F := F) c arg6 arg7 arg9 X6 X7 (qs v2 v3 v4 v5))
    (fun k acc => step_inv1 (F := F) 𝒱 c bd i arg3 harg3 arg4 harg4 arg5 harg5 arg6 harg6 arg7 harg7 arg8 harg8 arg9 harg9 arg2 v2 v3 v4 v5 v10 v11 v28 c2 v29 v34 v35 X6 X7 E k acc)) $$ H0
  iintro %acc H
  unfold inv1
  icases H with ⟨%hacc, H⟩
  subst hacc
  rw [show Scf.trips (k0_t1_loop i).lb (k0_t1_loop i).ub (k0_t1_loop i).st = (i 2).val / 2 / 2 from trips1 i]
  generalize hX : wides (qs v2 v3 v4 v5) (arg6.view.read (Elt F) X6) (arg7.view.read (Elt F) X7) start (2 * ((i 2).val / 2 / 2)) = X
  have l0 := load_slab arg9.view (fun d => (X d).2.2) 0 inb_S4x384x256_S1x384x256_0_0_0 rfl
  have l1 := load_slab arg9.view (fun d => (X d).2.2) 1 inb_S4x384x256_S1x384x256_1_0_0 rfl
  have l2 := load_slab arg9.view (fun d => (X d).2.2) 2 inb_S4x384x256_S1x384x256_2_0_0 rfl
  have l3 := load_slab arg9.view (fun d => (X d).2.2) 3 inb_S4x384x256_S1x384x256_3_0_0 rfl
  icases H with ⟨HR_arg6, HR_arg7, HW_arg9⟩
  have hC : chainsAt (qs v2 v3 v4 v5) (arg6.view.read (Elt F) X6) (arg7.view.read (Elt F) X7) (i 2).val
      = (tail768 (qs v2 v3 v4 v5) (arg6.view.readAt (Elt F) (Rect.unit (s := S1x4224x512) (k0_off6 i) S1x768x512.size (k0_off6_inb i h2)).toLoadRect X6) (arg7.view.readAt (Elt F) (Rect.unit (s := S1x4224x512) (k0_off6 i) S1x768x512.size (k0_off6_inb i h2)).toLoadRect X7) X) := by
    unfold chainsAt
    rw [if_pos ((cond2_iff i).1 h2)]
    rw [load_rows768 arg6.view X6 _ _ (off6_eq i h2), load_rows768 arg7.view X7 _ _ (off6_eq i h2)]
    have e : (i 2).val / 2 = 2 * ((i 2).val / 2 / 2) := by have h : ¬ (i 2).val / 2 % 2 = 1 := fun h => h1 ((cond1_iff i).2 h); omega
    rw [← hX]
    conv_lhs => rw [e]
  rw [hC]
  clear hC
  sl_exec
  sl_step
  isplitr
  · ipureintro
    rfl
  isplitl [HR_arg6]; · iexact HR_arg6
  isplitl [HR_arg7]; · iexact HR_arg7
  iapply (pointsTo_rep_of_read (c : Thread nD τ) arg9 _ fullShare (glue fun d => ((tail768 (qs v2 v3 v4 v5) (arg6.view.readAt (Elt F) (Rect.unit (s := S1x4224x512) (k0_off6 i) S1x768x512.size (k0_off6_inb i h2)).toLoadRect X6) (arg7.view.readAt (Elt F) (Rect.unit (s := S1x4224x512) (k0_off6 i) S1x768x512.size (k0_off6_inb i h2)).toLoadRect X7) X) d).2.2) ?_) $$ HW_arg9
  refine read_slabs _ _ _ _ _ _ _ (fun d => ((tail768 (qs v2 v3 v4 v5) (arg6.view.readAt (Elt F) (Rect.unit (s := S1x4224x512) (k0_off6 i) S1x768x512.size (k0_off6_inb i h2)).toLoadRect X6) (arg7.view.readAt (Elt F) (Rect.unit (s := S1x4224x512) (k0_off6 i) S1x768x512.size (k0_off6_inb i h2)).toLoadRect X7) X) d).2.2) ?_ ?_ ?_ ?_
  · refine accNext_of ?_ ?_ ?_
    · rfl
    · rfl
    · rfl
  · refine accNext_of ?_ ?_ ?_
    · rfl
    · rfl
    · rfl
  · refine accNext_of ?_ ?_ ?_
    · rfl
    · rfl
    · rfl
  · refine accNext_of ?_ ?_ ?_
    · rfl
    · rfl
    · rfl

set_option maxHeartbeats 1000000 in
/-- No block left over, the last block narrow. -/
theorem sweep_none_narrow (𝒱 : Variants) (c : Dev nD) (bd : Option 𝒱.V) (i : grid0.Coords) (arg3 : Memref sig .tc .vmem S1x4x128 .f32) (harg3 : arg3.IsWhole) (arg4 : Memref sig .tc .vmem S1x256 .f32) (harg4 : arg4.IsWhole) (arg5 : Memref sig .tc .vmem S1x384x512 .bf16) (harg5 : arg5.IsWhole) (arg6 : Memref sig .tc .vmem S1x4224x512 .bf16) (harg6 : arg6.IsWhole) (arg7 : Memref sig .tc .vmem S1x4224x512 .bf16) (harg7 : arg7.IsWhole) (arg8 : Memref sig .tc .vmem S1x384x512 .bf16) (harg8 : arg8.IsWhole) (arg9 : Memref sig .tc .vmem S4x384x256 .f32) (harg9 : arg9.IsWhole) (arg2 : BitVec 32) (v2 v3 v4 v5 : FVec F S384x128 .bf16) (v10 v11 : Col F) (v28 : BitVec 32) (c2 : BitVec 32) (v29 : BitVec 32) (v34 : BitVec 32) (v35 : BitVec 1)
    (X6 : BufTy.Contents (Elt F) arg6.view.ty) (X7 : BufTy.Contents (Elt F) arg7.view.ty) (E : Set ℕ)
    (h10 : v10 = (start (F := F) 0).1) (h11 : v11 = (start (F := F) 0).2.1)
    (h1 : ¬ k0_cond1 i = 1#1) (h2 : ¬ k0_cond2 i = 1#1) :
    Held (F := F) c arg6 arg7 arg9 X6 X7 (arg9.view.rep (glue fun d => (start (F := F) d).2.2))
    ⊢ wp frame (wpE (defs₀ (F := F)) 𝒱 (c : Thread nD τ) bd) E (k0_part18 (F := F) i arg3 harg3 arg4 harg4 arg5 harg5 arg6 harg6 arg7 harg7 arg8 harg8 arg9 harg9 arg2 v2 v3 v4 v5 v10 v11 v28 c2 v29 v34 v35)
        (fun y => iprop(⌜y = ⟨(chainsAt (qs v2 v3 v4 v5) (arg6.view.read (Elt F) X6) (arg7.view.read (Elt F) X7) (i 2).val 0).2.1,
            (chainsAt (qs v2 v3 v4 v5) (arg6.view.read (Elt F) X6) (arg7.view.read (Elt F) X7) (i 2).val 1).2.1,
            (chainsAt (qs v2 v3 v4 v5) (arg6.view.read (Elt F) X6) (arg7.view.read (Elt F) X7) (i 2).val 2).2.1,
            (chainsAt (qs v2 v3 v4 v5) (arg6.view.read (Elt F) X6) (arg7.view.read (Elt F) X7) (i 2).val 3).2.1⟩⌝
          ∗ Held (F := F) c arg6 arg7 arg9 X6 X7
              (arg9.view.rep (glue fun d => (chainsAt (qs v2 v3 v4 v5) (arg6.view.read (Elt F) X6) (arg7.view.read (Elt F) X7) (i 2).val d).2.2)))) := by
  have htr := trips2 i
  rw [k0_part18_eq_skeleton]
  unfold k0_part18_skel
  simp only [Scf.for_trips0_bind (k0_t2_loop i) (k0_t2_ok i) htr]
  have hinit : (v10, v11, v10, v11, v10, v11, v10, v11)
      = carry (wides (qs v2 v3 v4 v5) (arg6.view.read (Elt F) X6) (arg7.view.read (Elt F) X7) start (2 * 0)) := by
    subst h10 h11; rfl
  iintro H
  ihave H0 : (inv1 (F := F) c arg6 arg7 arg9 X6 X7 (qs v2 v3 v4 v5) 0 (v10, v11, v10, v11, v10, v11, v10, v11)) $$ [H]
  · unfold inv1
    isplitr
    · ipureintro; exact hinit
    · iexact H
  iapply (Scf.wp_for_bind frame (wpE (defs₀ (F := F)) 𝒱 (c : Thread nD τ) bd) E (k0_t1_loop i).lb (k0_t1_loop i).ub (k0_t1_loop i).st (k0_t1_ok i)
    (v10, v11, v10, v11, v10, v11, v10, v11)
    (k0_t1_body (F := F) i arg3 harg3 arg4 harg4 arg5 harg5 arg6 harg6 arg7 harg7 arg8 harg8 arg9 harg9 arg2 v2 v3 v4 v5 v10 v11 v28 c2 v29 v34 v35)
    (inv1 (F := F) c arg6 arg7 arg9 X6 X7 (qs v2 v3 v4 v5))
    (fun k acc => step_inv1 (F := F) 𝒱 c bd i arg3 harg3 arg4 harg4 arg5 harg5 arg6 harg6 arg7 harg7 arg8 harg8 arg9 harg9 arg2 v2 v3 v4 v5 v10 v11 v28 c2 v29 v34 v35 X6 X7 E k acc)) $$ H0
  iintro %acc H
  unfold inv1
  icases H with ⟨%hacc, H⟩
  subst hacc
  rw [show Scf.trips (k0_t1_loop i).lb (k0_t1_loop i).ub (k0_t1_loop i).st = (i 2).val / 2 / 2 from trips1 i]
  generalize hX : wides (qs v2 v3 v4 v5) (arg6.view.read (Elt F) X6) (arg7.view.read (Elt F) X7) start (2 * ((i 2).val / 2 / 2)) = X
  have l0 := load_slab arg9.view (fun d => (X d).2.2) 0 inb_S4x384x256_S1x384x256_0_0_0 rfl
  have l1 := load_slab arg9.view (fun d => (X d).2.2) 1 inb_S4x384x256_S1x384x256_1_0_0 rfl
  have l2 := load_slab arg9.view (fun d => (X d).2.2) 2 inb_S4x384x256_S1x384x256_2_0_0 rfl
  have l3 := load_slab arg9.view (fun d => (X d).2.2) 3 inb_S4x384x256_S1x384x256_3_0_0 rfl
  icases H with ⟨HR_arg6, HR_arg7, HW_arg9⟩
  have hC : chainsAt (qs v2 v3 v4 v5) (arg6.view.read (Elt F) X6) (arg7.view.read (Elt F) X7) (i 2).val
      = (tail384 (qs v2 v3 v4 v5) (arg6.view.readAt (Elt F) (Rect.unit (s := S1x4224x512) (k0_off7 i) S1x384x512.size (k0_off7_inb i h2)).toLoadRect X6) (arg7.view.readAt (Elt F) (Rect.unit (s := S1x4224x512) (k0_off7 i) S1x384x512.size (k0_off7_inb i h2)).toLoadRect X7) X) := by
    unfold chainsAt
    rw [if_neg (fun h => h2 ((cond2_iff i).2 h))]
    rw [load_rows384 arg6.view X6 _ _ (off7_eq i), load_rows384 arg7.view X7 _ _ (off7_eq i)]
    have e : (i 2).val / 2 = 2 * ((i 2).val / 2 / 2) := by have h : ¬ (i 2).val / 2 % 2 = 1 := fun h => h1 ((cond1_iff i).2 h); omega
    rw [← hX]
    conv_lhs => rw [e]
  rw [hC]
  clear hC
  sl_exec
  sl_step
  isplitr
  · ipureintro
    rfl
  isplitl [HR_arg6]; · iexact HR_arg6
  isplitl [HR_arg7]; · iexact HR_arg7
  iapply (pointsTo_rep_of_read (c : Thread nD τ) arg9 _ fullShare (glue fun d => ((tail384 (qs v2 v3 v4 v5) (arg6.view.readAt (Elt F) (Rect.unit (s := S1x4224x512) (k0_off7 i) S1x384x512.size (k0_off7_inb i h2)).toLoadRect X6) (arg7.view.readAt (Elt F) (Rect.unit (s := S1x4224x512) (k0_off7 i) S1x384x512.size (k0_off7_inb i h2)).toLoadRect X7) X) d).2.2) ?_) $$ HW_arg9
  refine read_slabs _ _ _ _ _ _ _ (fun d => ((tail384 (qs v2 v3 v4 v5) (arg6.view.readAt (Elt F) (Rect.unit (s := S1x4224x512) (k0_off7 i) S1x384x512.size (k0_off7_inb i h2)).toLoadRect X6) (arg7.view.readAt (Elt F) (Rect.unit (s := S1x4224x512) (k0_off7 i) S1x384x512.size (k0_off7_inb i h2)).toLoadRect X7) X) d).2.2) ?_ ?_ ?_ ?_
  · refine accNext_of ?_ ?_ ?_
    · rfl
    · rfl
    · rfl
  · refine accNext_of ?_ ?_ ?_
    · rfl
    · rfl
    · rfl
  · refine accNext_of ?_ ?_ ?_
    · rfl
    · rfl
    · rfl
  · refine accNext_of ?_ ?_ ?_
    · rfl
    · rfl
    · rfl

/-- The sweep: after it the sums and the scratch are those of the chains that have seen every visible key. -/
theorem sweep (𝒱 : Variants) (c : Dev nD) (bd : Option 𝒱.V) (i : grid0.Coords) (arg3 : Memref sig .tc .vmem S1x4x128 .f32) (harg3 : arg3.IsWhole) (arg4 : Memref sig .tc .vmem S1x256 .f32) (harg4 : arg4.IsWhole) (arg5 : Memref sig .tc .vmem S1x384x512 .bf16) (harg5 : arg5.IsWhole) (arg6 : Memref sig .tc .vmem S1x4224x512 .bf16) (harg6 : arg6.IsWhole) (arg7 : Memref sig .tc .vmem S1x4224x512 .bf16) (harg7 : arg7.IsWhole) (arg8 : Memref sig .tc .vmem S1x384x512 .bf16) (harg8 : arg8.IsWhole) (arg9 : Memref sig .tc .vmem S4x384x256 .f32) (harg9 : arg9.IsWhole) (arg2 : BitVec 32) (v2 v3 v4 v5 : FVec F S384x128 .bf16) (v10 v11 : Col F) (v28 : BitVec 32) (c2 : BitVec 32) (v29 : BitVec 32) (v34 : BitVec 32) (v35 : BitVec 1)
    (X6 : BufTy.Contents (Elt F) arg6.view.ty) (X7 : BufTy.Contents (Elt F) arg7.view.ty) (E : Set ℕ)
    (h10 : v10 = (start (F := F) 0).1) (h11 : v11 = (start (F := F) 0).2.1) :
    Held (F := F) c arg6 arg7 arg9 X6 X7 (arg9.view.rep (glue fun d => (start (F := F) d).2.2))
    ⊢ wp frame (wpE (defs₀ (F := F)) 𝒱 (c : Thread nD τ) bd) E (k0_part18 (F := F) i arg3 harg3 arg4 harg4 arg5 harg5 arg6 harg6 arg7 harg7 arg8 harg8 arg9 harg9 arg2 v2 v3 v4 v5 v10 v11 v28 c2 v29 v34 v35)
        (fun y => iprop(⌜y = ⟨(chainsAt (qs v2 v3 v4 v5) (arg6.view.read (Elt F) X6) (arg7.view.read (Elt F) X7) (i 2).val 0).2.1,
            (chainsAt (qs v2 v3 v4 v5) (arg6.view.read (Elt F) X6) (arg7.view.read (Elt F) X7) (i 2).val 1).2.1,
            (chainsAt (qs v2 v3 v4 v5) (arg6.view.read (Elt F) X6) (arg7.view.read (Elt F) X7) (i 2).val 2).2.1,
            (chainsAt (qs v2 v3 v4 v5) (arg6.view.read (Elt F) X6) (arg7.view.read (Elt F) X7) (i 2).val 3).2.1⟩⌝
          ∗ Held (F := F) c arg6 arg7 arg9 X6 X7
              (arg9.view.rep (glue fun d => (chainsAt (qs v2 v3 v4 v5) (arg6.view.read (Elt F) X6) (arg7.view.read (Elt F) X7) (i 2).val d).2.2)))) := by
  by_cases h1 : k0_cond1 i = 1#1
  · by_cases h2 : k0_cond2 i = 1#1
    · exact sweep_wide_wide (F := F) 𝒱 c bd i arg3 harg3 arg4 harg4 arg5 harg5 arg6 harg6 arg7 harg7 arg8 harg8 arg9 harg9 arg2 v2 v3 v4 v5 v10 v11 v28 c2 v29 v34 v35 X6 X7 E h10 h11 h1 h2
    · exact sweep_wide_narrow (F := F) 𝒱 c bd i arg3 harg3 arg4 harg4 arg5 harg5 arg6 harg6 arg7 harg7 arg8 harg8 arg9 harg9 arg2 v2 v3 v4 v5 v10 v11 v28 c2 v29 v34 v35 X6 X7 E h10 h11 h1 h2
  · by_cases h2 : k0_cond2 i = 1#1
    · exact sweep_none_wide (F := F) 𝒱 c bd i arg3 harg3 arg4 harg4 arg5 harg5 arg6 harg6 arg7 harg7 arg8 harg8 arg9 harg9 arg2 v2 v3 v4 v5 v10 v11 v28 c2 v29 v34 v35 X6 X7 E h10 h11 h1 h2
    · exact sweep_none_narrow (F := F) 𝒱 c bd i arg3 harg3 arg4 harg4 arg5 harg5 arg6 harg6 arg7 harg7 arg8 harg8 arg9 harg9 arg2 v2 v3 v4 v5 v10 v11 v28 c2 v29 v34 v35 X6 X7 E h10 h11 h1 h2

end Cert.KernelIdeal.Attn

end
-- ==== Proof.Body.lean ====
/- One grid point of the kernel: the opening, the sweep over the keys, the close. -/
module

public import proofs.«01_k».proof.Proof.Part18

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ

/-- The query columns of the four chains, cut from a query block. -/
def cols (q : Vec F S1x384x512 .bf16) : Fin 4 → FVec F S384x128 .bf16 :=
  qs (k0_pay206 q) (k0_pay207 q) (k0_pay208 q) (k0_pay209 q)

/-- One head's output: the difference of its two chains, normalised and weighed. -/
def head (lam : Vec F S1x4x128 .f32) (g : Vec F S1x256 .f32) (x y : Chain F) : FVec F S1x384x256 .bf16 :=
  k0_pay231 (k0_pay229 x.2.1 y.2.1 lam x.2.2 y.2.2) (k0_pay230 g)

theorem head_second (lam : Vec F S1x4x128 .f32) (g : Vec F S1x256 .f32) (x y : Chain F) :
    k0_pay1 (k0_pay232 x.2.1 y.2.1 (k0_pay228 lam) x.2.2 y.2.2 g) = head lam g x y := rfl

/-- Two heads side by side. -/
def beside (a b : FVec F S1x384x256 .bf16) : Vec F S1x384x512 .bf16 := fun y =>
  if h : (y 2).val < 256 then a (ValueIdx.ix3 0 (y 1) ⟨(y 2).val, h⟩)
  else b (ValueIdx.ix3 0 (y 1) ⟨(y 2).val - 256, by have h2 : (y 2).val < 512 := (y 2).isLt; show _ < 256; omega⟩)

/-- The output block of one grid point: two heads. -/
def outBlk (lam : Vec F S1x4x128 .f32) (g : Vec F S1x256 .f32) (q : Vec F S1x384x512 .bf16) (K V : Vec F S1x4224x512 .bf16) (qi : ℕ) :
    Vec F S1x384x512 .bf16 :=
  beside (head lam g (chainsAt (cols q) K V qi 0) (chainsAt (cols q) K V qi 1))
    (head lam g (chainsAt (cols q) K V qi 2) (chainsAt (cols q) K V qi 3))

/-- A block stored half by half is the two halves side by side. -/
theorem read_halves {κ : Kind} {sp : Space} (v : View sig κ sp S1x384x512 .bf16) (f : v.ty.Contents (Elt F)) (L : List (View.Piece (Elt F) S1x384x512 .bf16))
    (a b : FVec F S1x384x256 .bf16) :
    v.read (Elt F) (v.writes (Elt F) f
      (⟨Rect.unit (s := S1x384x512) ![0, 0, 256] S1x384x256.size inb_S1x384x512_S1x384x256_0_0_256, b⟩ ::
       ⟨Rect.unit (s := S1x384x512) ![0, 0, 0] S1x384x256.size inb_S1x384x512_S1x384x256_0_0_0, a⟩ :: L)) = beside a b := by
  funext y
  have y0 : (y 0).val < 1 := (y 0).isLt
  have y2 : (y 2).val < 512 := (y 2).isLt
  unfold beside
  by_cases h : (y 2).val < 256
  · rw [dif_pos h]
    refine (View.read_writes_cons_unit_of_not_mem (size := S1x384x256.size) v f inb_S1x384x512_S1x384x256_0_0_256 b _ y rfl 2 (.inl (show (y 2).val < 256 from h))).trans ?_
    refine View.read_writes_cons_unit_of_mem v f _ a _ y _ rfl fun d => ?_
    match d with
    | ⟨0, _⟩ => show (y 0).val = 0 + 0; omega
    | ⟨1, _⟩ => exact (Nat.zero_add _).symm
    | ⟨2, _⟩ => exact (Nat.zero_add _).symm
  · rw [dif_neg h]
    refine View.read_writes_cons_unit_of_mem v f _ b _ y _ rfl fun d => ?_
    match d with
    | ⟨0, _⟩ => show (y 0).val = 0 + 0; omega
    | ⟨1, _⟩ => exact (Nat.zero_add _).symm
    | ⟨2, _⟩ => show (y 2).val = 256 + ((y 2).val - 256); omega

/-- The opening: the query columns, and the scratch cleared. -/
theorem opening (𝒱 : Variants) (c : Dev nD) (bd : Option 𝒱.V) (i : grid0.Coords) (arg3 : Memref sig .tc .vmem S1x4x128 .f32) (harg3 : arg3.IsWhole) (arg4 : Memref sig .tc .vmem S1x256 .f32) (harg4 : arg4.IsWhole) (arg5 : Memref sig .tc .vmem S1x384x512 .bf16) (harg5 : arg5.IsWhole) (arg6 : Memref sig .tc .vmem S1x4224x512 .bf16) (harg6 : arg6.IsWhole) (arg7 : Memref sig .tc .vmem S1x4224x512 .bf16) (harg7 : arg7.IsWhole) (arg8 : Memref sig .tc .vmem S1x384x512 .bf16) (harg8 : arg8.IsWhole) (arg9 : Memref sig .tc .vmem S4x384x256 .f32) (harg9 : arg9.IsWhole)
    (X5 : BufTy.Contents (Elt F) arg5.view.ty) (X9 : BufTy.Contents (Elt F) arg9.view.ty) (E : Set ℕ) :
    (iprop((arg5.view.loc (c : Thread nD τ) ↦[arg5.view.set]{fullShare} X5) ∗ (arg9.view.loc (c : Thread nD τ) ↦[arg9.view.set]{fullShare} X9)) : sProp 𝕄G)
    ⊢ wp frame (wpE (defs₀ (F := F)) 𝒱 (c : Thread nD τ) bd) E (k0_part17 (F := F) i arg3 harg3 arg4 harg4 arg5 harg5 arg6 harg6 arg7 harg7 arg8 harg8 arg9 harg9)
        (fun y => iprop(∃ (w2 w28 wc w29 w34 : BitVec 32) (w35 : BitVec 1), ⌜y = ⟨w2, k0_pay206 (arg5.view.read (Elt F) X5), k0_pay207 (arg5.view.read (Elt F) X5),
            k0_pay208 (arg5.view.read (Elt F) X5), k0_pay209 (arg5.view.read (Elt F) X5), (start (F := F) 0).1, (start (F := F) 0).2.1, w28, wc, w29, w34, w35⟩⌝
          ∗ (arg5.view.loc (c : Thread nD τ) ↦[arg5.view.set]{fullShare} X5) ∗ (arg9.view.loc (c : Thread nD τ) ↦[arg9.view.set]{fullShare} arg9.view.rep (glue fun d => (start (F := F) d).2.2)))) := by
  have l5 : arg5.view.readAt (Elt F) (Rect.unit (s := S1x384x512) ![0, 0, 0] S1x384x512.size inb_S1x384x512_S1x384x512_0_0_0).toLoadRect X5
      = arg5.view.read (Elt F) X5 := View.readAt_full _ _ _
  rw [k0_part17_eq_skeleton]
  unfold k0_part17_skel
  iintro ⟨H5, H9⟩
  sl_exec
  sl_step
  iexists _, _, _, _, _, _
  isplitr
  · ipureintro
    rfl
  isplitl [H5]
  · iexact H5
  iapply (pointsTo_rep_of_read (c : Thread nD τ) arg9 _ fullShare (glue fun d => (start (F := F) d).2.2) ?_) $$ H9
  exact View.read_writes_full _ _ _ _ _

/-- The close: both heads written from the chains. -/
theorem closing (𝒱 : Variants) (c : Dev nD) (bd : Option 𝒱.V) (i : grid0.Coords) (arg3 : Memref sig .tc .vmem S1x4x128 .f32) (harg3 : arg3.IsWhole) (arg4 : Memref sig .tc .vmem S1x256 .f32) (harg4 : arg4.IsWhole) (arg5 : Memref sig .tc .vmem S1x384x512 .bf16) (harg5 : arg5.IsWhole) (arg6 : Memref sig .tc .vmem S1x4224x512 .bf16) (harg6 : arg6.IsWhole) (arg7 : Memref sig .tc .vmem S1x4224x512 .bf16) (harg7 : arg7.IsWhole) (arg8 : Memref sig .tc .vmem S1x384x512 .bf16) (harg8 : arg8.IsWhole) (arg9 : Memref sig .tc .vmem S4x384x256 .f32) (harg9 : arg9.IsWhole)
    (X3 : BufTy.Contents (Elt F) arg3.view.ty) (X4 : BufTy.Contents (Elt F) arg4.view.ty) (X8 : BufTy.Contents (Elt F) arg8.view.ty)
    (X : Fin 4 → Chain F) (E : Set ℕ) :
    (iprop((arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8) ∗ (arg9.view.loc (c : Thread nD τ) ↦[arg9.view.set]{fullShare} arg9.view.rep (glue fun d => (X d).2.2))) : sProp 𝕄G)
    ⊢ wp frame (wpE (defs₀ (F := F)) 𝒱 (c : Thread nD τ) bd) E ((do
        let ⟨v91, v114, v116⟩ : Σ' (v91 : FVec F S1x1 .f32) (v114 : FVec F S384x256 .f32), FVec F S1x256 .f32 ← k0_part19 (F := F) i arg3 harg3 arg4 harg4 arg5 harg5 arg6 harg6 arg7 harg7 arg8 harg8 arg9 harg9 (X 0).2.1 (X 1).2.1
        let ⟨v154, v155⟩ : Σ' (v154 : FVec F S384x256 .bf16), Vec F S1x384x256 .bf16 ← k0_part20 (F := F) i arg3 harg3 arg4 harg4 arg5 harg5 arg6 harg6 arg7 harg7 arg8 harg8 arg9 harg9 (X 2).2.1 (X 3).2.1 v91 v114 v116
        Prog.lift (.store arg8 (Rect.unit (s := S1x384x512) ![0, 0, 256] S1x384x256.size inb_S1x384x512_S1x384x256_0_0_256) (k0_pay1 v154) Finset.univ (View.stores_vmem h_S1x384x256 (harg8.storeExact_slice rfl _ packedbf16_S1x384x512_S1x384x256_0_0_256) (fun _ => rfl)) (.inl rfl))
        pure ⟨⟩ : Prog (TpuEff nD τ sig (Elt F) Λ₀ .tc) PUnit))
        (fun _ => iprop((arg3.view.loc (c : Thread nD τ) ↦[arg3.view.set]{fullShare} X3) ∗ (arg4.view.loc (c : Thread nD τ) ↦[arg4.view.set]{fullShare} X4)
          ∗ (arg8.view.loc (c : Thread nD τ) ↦[arg8.view.set]{fullShare} arg8.view.rep (beside (head (arg3.view.read (Elt F) X3) (arg4.view.read (Elt F) X4) (X 0) (X 1))
              (head (arg3.view.read (Elt F) X3) (arg4.view.read (Elt F) X4) (X 2) (X 3))))
          ∗ (arg9.view.loc (c : Thread nD τ) ↦[arg9.view.set]{fullShare} arg9.view.rep (glue fun d => (X d).2.2)))) := by
  have l3 : arg3.view.readAt (Elt F) (Rect.unit (s := S1x4x128) ![0, 0, 0] S1x4x128.size inb_S1x4x128_S1x4x128_0_0_0).toLoadRect X3
      = arg3.view.read (Elt F) X3 := View.readAt_full _ _ _
  have l4 : arg4.view.readAt (Elt F) (Rect.unit (s := S1x256) ![0, 0] S1x256.size inb_S1x256_S1x256_0_0).toLoadRect X4
      = arg4.view.read (Elt F) X4 := View.readAt_full _ _ _
  have l0 := load_slab arg9.view (fun d => (X d).2.2) 0 inb_S4x384x256_S1x384x256_0_0_0 rfl
  have l1 := load_slab arg9.view (fun d => (X d).2.2) 1 inb_S4x384x256_S1x384x256_1_0_0 rfl
  have l2 := load_slab arg9.view (fun d => (X d).2.2) 2 inb_S4x384x256_S1x384x256_2_0_0 rfl
  have l3' := load_slab arg9.view (fun d => (X d).2.2) 3 inb_S4x384x256_S1x384x256_3_0_0 rfl
  iintro ⟨H3, H4, H8, H9⟩
  sl_exec
  sl_step
  isplitl [H3]
  · iexact H3
  isplitl [H4]
  · iexact H4
  isplitl [H8]
  · iapply (pointsTo_rep_of_read (c : Thread nD τ) arg8 _ fullShare (beside (head (arg3.view.read (Elt F) X3) (arg4.view.read (Elt F) X4) (X 0) (X 1))
        (head (arg3.view.read (Elt F) X3) (arg4.view.read (Elt F) X4) (X 2) (X 3))) ?_) $$ H8
    exact read_halves _ _ _ _ _
  iexact H9

end Cert.KernelIdeal.Attn

end
-- ==== Proof.Row.lean ====
/-
One query row's running softmax over the extended reals. A row holds a running maximum `m`, a running sum `l` and
running weighted sums `a`; with real scores below it, `Good m l a W A` says that, but for one common power of two, `l` is
the plain sum `W` of the powers of two of the scores seen and `a` the plain weighted sums `A`. A step by a block of scores
keeps this, and at the end the power of two cancels. Which real the running maximum is does not matter.
-/
module

public import Idealize.ShloMosaic.PureOps.Ideal
public import Idealize.ShloMosaic.PureOps.Ideal.Laws
public import Mathlib.Analysis.SpecialFunctions.Pow.Real
public import Mathlib.Analysis.SpecialFunctions.Log.Basic

@[expose] public section

noncomputable section

namespace Cert.KernelIdeal.Row

open Idealize.ShloMosaic

/-- Two to the power of a score; zero at minus infinity. -/
def e2 (x : EReal) : ℝ := if x = ⊥ then 0 else (2 : ℝ) ^ x.toReal

@[simp] theorem e2_bot : e2 ⊥ = 0 := if_pos rfl
@[simp] theorem e2_coe (x : ℝ) : e2 (x : EReal) = (2 : ℝ) ^ x := by simp [e2]

theorem e2_nonneg (x : EReal) : 0 ≤ e2 x := by
  unfold e2; split
  · exact le_rfl
  · positivity

/-- A sum of reals, taken in the extended reals. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A score that is not plus infinity, less a real maximum, as a power of two. -/
theorem exp2_sub {x : EReal} (hx : x ≠ ⊤) (M : ℝ) : Ideal.exp2 (x - (M : EReal)) = ((e2 x * (2 : ℝ) ^ (-M) : ℝ) : EReal) := by
  induction x using EReal.rec with
  | bot => simp
  | coe r =>
    rw [← EReal.coe_sub, Ideal.exp2_coe, e2_coe, ← Real.rpow_add two_pos, sub_eq_add_neg]; rfl
  | top => exact absurd rfl hx

/-- The maximum of finitely many scores. -/
def top {N : ℕ} (sc : Fin N → EReal) : EReal := (Finset.univ : Finset (Fin N)).fold max ⊥ sc

theorem top_ne_top {N : ℕ} {sc : Fin N → EReal} (h : ∀ j, sc j ≠ ⊤) : top sc ≠ ⊤ := by
  unfold top
  have : (Finset.univ : Finset (Fin N)).fold max ⊥ sc < ⊤ := by
    rw [Finset.fold_max_lt]
    exact ⟨bot_lt_top, fun j _ => lt_top_iff_ne_top.mpr (h j)⟩
  exact this.ne

theorem top_ne_bot {N : ℕ} {sc : Fin N → EReal} (h : ∃ j, sc j ≠ ⊥) : top sc ≠ ⊥ := by
  obtain ⟨j, hj⟩ := h
  have : sc j ≤ top sc := by
    unfold top
    rw [Finset.le_fold_max]
    exact .inr ⟨j, Finset.mem_univ _, le_rfl⟩
  exact fun h => hj (le_bot_iff.mp (h ▸ this))

/-- A row's running values against the plain sums. -/
def Good {D : Type} (m l : EReal) (a : D → EReal) (W : ℝ) (A : D → ℝ) : Prop :=
  (m = ⊥ ∧ l = 0 ∧ (∀ d, a d = 0) ∧ W = 0 ∧ ∀ d, A d = 0) ∨
    ∃ M : ℝ, m = (M : EReal) ∧ l = (((2 : ℝ) ^ (-M) * W : ℝ) : EReal) ∧ ∀ d, a d = (((2 : ℝ) ^ (-M) * A d : ℝ) : EReal)

theorem Good.start {D : Type} : Good (D := D) ⊥ 0 (fun _ => 0) 0 (fun _ => 0) := .inl ⟨rfl, rfl, fun _ => rfl, rfl, fun _ => rfl⟩

theorem Good.congr {D : Type} {m m' l l' : EReal} {a a' : D → EReal} {W W' : ℝ} {A A' : D → ℝ} (h : Good m l a W A)
    (hm : m' = m) (hl : l' = l) (ha : ∀ d, a' d = a d) (hW : W' = W) (hA : ∀ d, A' d = A d) : Good m' l' a' W' A' := by
  obtain rfl := hm; obtain rfl := hl; obtain rfl := funext ha; obtain rfl := hW; obtain rfl := funext hA; exact h

/-- A step by a block of scores, some of them real and none of them plus infinity. -/
theorem Good.step {D : Type} {N : ℕ} {m l : EReal} {a : D → EReal} {W : ℝ} {A : D → ℝ} (h : Good m l a W A)
    (sc : Fin N → EReal) (hT : ∀ j, sc j ≠ ⊤) (hB : ∃ j, sc j ≠ ⊥) (v : Fin N → D → EReal) (vr : Fin N → D → ℝ)
    (hv : ∀ j d, v j d = (vr j d : EReal)) :
    Good (max m (top sc)) (Ideal.exp2 (m - max m (top sc)) * l + ∑ j, Ideal.exp2 (sc j - max m (top sc)))
      (fun d => Ideal.exp2 (m - max m (top sc)) * a d + ∑ j, Ideal.exp2 (sc j - max m (top sc)) * v j d)
      (W + ∑ j, e2 (sc j)) (fun d => A d + ∑ j, e2 (sc j) * vr j d) := by
  have hm : m ≠ ⊤ := by
    rcases h with ⟨h, -⟩ | ⟨M, h, -⟩ <;> rw [h] <;> simp
  obtain ⟨M', hM'⟩ : ∃ M' : ℝ, max m (top sc) = (M' : EReal) := by
    have h1 : max m (top sc) ≠ ⊤ := by
      rcases max_choice m (top sc) with e | e <;> rw [e]
      · exact hm
      · exact top_ne_top hT
    have h2 : max m (top sc) ≠ ⊥ := fun e => top_ne_bot hB (le_bot_iff.mp (e ▸ le_max_right _ _))
    exact ⟨_, (EReal.coe_toReal h1 h2).symm⟩
  rw [hM']
  have hs : (∑ j, Ideal.exp2 (sc j - (M' : EReal))) = (((2 : ℝ) ^ (-M') * ∑ j, e2 (sc j) : ℝ) : EReal) := by
    rw [Finset.mul_sum, ← coe_sum]
    exact Finset.sum_congr rfl fun j _ => by rw [exp2_sub (hT j), mul_comm]
  have hsv : ∀ d, (∑ j, Ideal.exp2 (sc j - (M' : EReal)) * v j d) = (((2 : ℝ) ^ (-M') * ∑ j, e2 (sc j) * vr j d : ℝ) : EReal) := by
    intro d
    rw [Finset.mul_sum, ← coe_sum]
    exact Finset.sum_congr rfl fun j _ => by
      rw [exp2_sub (hT j), hv, ← EReal.coe_mul]; congr 1; ring
  have hd : Ideal.exp2 (m - (M' : EReal)) = ((e2 m * (2 : ℝ) ^ (-M') : ℝ) : EReal) := exp2_sub hm M'
  refine .inr ⟨M', rfl, ?_, ?_⟩
  · rw [hs, hd]
    rcases h with ⟨h, hl, -, hW, -⟩ | ⟨M, h, hl, -⟩
    · rw [hl, hW, mul_zero, zero_add, zero_add]
    · rw [hl, h, e2_coe, ← EReal.coe_mul, ← EReal.coe_add]
      congr 1
      have : (2 : ℝ) ^ M * (2 : ℝ) ^ (-M) = 1 := by rw [← Real.rpow_add two_pos]; simp
      linear_combination (2 : ℝ) ^ (-M') * W * this
  · intro d
    beta_reduce
    rw [hsv, hd]
    rcases h with ⟨h, -, ha, -, hA⟩ | ⟨M, h, -, ha⟩
    · rw [ha, hA, mul_zero, zero_add, zero_add]
    · rw [ha, h, e2_coe, ← EReal.coe_mul, ← EReal.coe_add]
      congr 1
      have : (2 : ℝ) ^ M * (2 : ℝ) ^ (-M) = 1 := by rw [← Real.rpow_add two_pos]; simp
      linear_combination (2 : ℝ) ^ (-M') * A d * this

/-- A real divided by a real that is not zero. -/
theorem div_coe (x : ℝ) {y : ℝ} (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The normalised output of a row whose sum is positive: the power of two cancels. -/
theorem Good.ratio {D : Type} {m l : EReal} {a : D → EReal} {W : ℝ} {A : D → ℝ} (h : Good m l a W A) (hW : 0 < W) (c : ℝ) (d : D) :
    a d * Ideal.div (c : EReal) l = ((A d * (c / W) : ℝ) : EReal) := by
  rcases h with ⟨-, -, -, h0, -⟩ | ⟨M, -, hl, ha⟩
  · exact absurd h0 hW.ne'
  · have hp : (0 : ℝ) < (2 : ℝ) ^ (-M) := by positivity
    rw [hl, ha, div_coe _ (mul_pos hp hW).ne', ← EReal.coe_mul]
    congr 1
    field_simp

end Cert.KernelIdeal.Row
-- ==== Proof.Block.lean ====
/-
What the sweep over the keys leaves in each row of a query block, at the extended reals: from real queries, keys and
values, a row's running sum and weighted sums are, but for a common power of two, the plain sums over the keys up to the
row's own position.
-/
module

public import proofs.«01_k».proof.Proof.Body
public import proofs.«01_k».proof.Proof.Row
public import Idealize.ShloMosaic.Lib.Pointwise

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Row

/-! ## The pieces at an index -/

/-- The column of a head pair's 512 that chain `c` reads as its `x`-th. -/
def kc (c : Fin 4) (x : Fin 128) : Fin 512 := ⟨128 * c.val + x.val, by omega⟩
/-- The column of a head pair's 512 that chain `c` reads as its `d`-th value. -/
def vc (c : Fin 4) (d : Fin 256) : Fin 512 := ⟨256 * (c.val / 2) + d.val, by omega⟩

theorem ix3_congr {n0 n1 n2 : ℕ} (a : Fin n0) (b : Fin n1) {c d : Fin n2} (h : c.val = d.val) : ix3 a b c = ix3 a b d := by
  rw [Fin.ext h]

theorem cols_apply (q : Vec Ideal S1x384x512 .bf16) (c : Fin 4) (i : Fin 384) (x : Fin 128) :
    cols q c (ix2 i x) = q (ix3 0 i (kc c x)) := by
  match c with
  | 0 => pointwise [cols, qs, k0_pay206, k0_pay205]; exact congrArg q (ix3_congr _ _ (by simp [kc]))
  | 1 => pointwise [cols, qs, k0_pay207, k0_pay205]; exact congrArg q (ix3_congr _ _ (by simp [kc]))
  | 2 => pointwise [cols, qs, k0_pay208, k0_pay205]; exact congrArg q (ix3_congr _ _ (by simp [kc]))
  | 3 => pointwise [cols, qs, k0_pay209, k0_pay205]; exact congrArg q (ix3_congr _ _ (by simp [kc]))

theorem kcol768_apply (kb : Vec Ideal S1x768x512 .bf16) (c : Fin 4) (j : Fin 768) (x : Fin 128) :
    kcol768 kb c (ix2 j x) = kb (ix3 0 j (kc c x)) := by
  match c with
  | 0 | 1 | 2 | 3 => pointwise [kcol768]; exact congrArg kb (ix3_congr _ _ (by simp [kc]))

theorem vcol768_apply (vb : Vec Ideal S1x768x512 .bf16) (c : Fin 4) (j : Fin 768) (d : Fin 256) :
    vcol768 vb c (ix2 j d) = vb (ix3 0 j (vc c d)) := by
  match c with
  | 0 | 1 | 2 | 3 => pointwise [vcol768]; exact congrArg vb (ix3_congr _ _ (by simp [vc]))

theorem score768_apply (q : FVec Ideal S384x128 .bf16) (k : FVec Ideal S768x128 .bf16) (i : Fin 384) (j : Fin 768) :
    score768 q k (ix2 i j) = ∑ x : Fin 128, (q (ix2 i x) : EReal) * k (ix2 j x) := by
  pointwise [score768]

theorem mask768_apply (s : FVec Ideal S384x768 .f32) (i : Fin 384) (j : Fin 768) :
    (mask768 s (ix2 i j) : EReal) = if j.val ≤ 384 + i.val then s (ix2 i j) else ⊥ := by
  refine Eq.trans (b := (Scalar.select (IntOp.cmpi CmpIPredicate.sle (IntOp.subi (BitVec.ofNat 32 j.val) 384#32) (BitVec.ofNat 32 i.val))
    (s (ix2 i j) : EReal) (Ideal.ofBits FTy.f32 4286578688#32))) (by pointwise [mask768]) ?_
  have hb : (Ideal.ofBits FTy.f32 4286578688#32 : EReal) = ⊥ := by simp [Ideal.ofBits, Ideal.ieee]
  rw [hb]
  have hc : IntOp.cmpi CmpIPredicate.sle (IntOp.subi (BitVec.ofNat 32 j.val) 384#32) (BitVec.ofNat 32 i.val)
      = BitVec.ofBool (decide (j.val ≤ 384 + i.val)) := by
    have hj := j.isLt
    have hi := i.isLt
    show BitVec.ofBool ((BitVec.ofNat 32 j.val - 384#32).sle (BitVec.ofNat 32 i.val)) = _
    congr 1
    rw [BitVec.sle_eq_decide]
    congr 1
    apply propext
    simp only [BitVec.toInt_eq_toNat_bmod, BitVec.toNat_sub, BitVec.toNat_ofNat, Int.bmod_def]
    omega
  rw [hc]
  by_cases h : j.val ≤ 384 + i.val
  · rw [if_pos h, decide_eq_true h]; rfl
  · rw [if_neg h, decide_eq_false h]; rfl

theorem step768_max (s : FVec Ideal S384x768 .f32) (v : FVec Ideal S768x256 .bf16) (x : Chain Ideal) (i : Fin 384) :
    ((step768 s v x).1 (ix2 i 0) : EReal) = max (x.1 (ix2 i 0) : EReal) (top fun j => (s (ix2 i j) : EReal)) := by
  pointwise [step768, max768]
  have hb : (Ideal.ofBits FTy.f32 4286578688#32 : EReal) = ⊥ := by simp [Ideal.ofBits, Ideal.ieee]
  rw [hb]; rfl

theorem step768_sum (s : FVec Ideal S384x768 .f32) (v : FVec Ideal S768x256 .bf16) (x : Chain Ideal) (i : Fin 384) :
    ((step768 s v x).2.1 (ix2 i 0) : EReal)
      = Ideal.exp2 ((x.1 (ix2 i 0) : EReal) - (step768 s v x).1 (ix2 i 0)) * x.2.1 (ix2 i 0)
        + ∑ j : Fin 768, Ideal.exp2 ((s (ix2 i j) : EReal) - (step768 s v x).1 (ix2 i 0)) := by
  pointwise [step768, sum768, prob768, decay]
  rfl

theorem step768_weighted (s : FVec Ideal S384x768 .f32) (v : FVec Ideal S768x256 .bf16) (x : Chain Ideal) (i : Fin 384) (d : Fin 256) :
    ((step768 s v x).2.2 (ix3 0 i d) : EReal)
      = Ideal.exp2 ((x.1 (ix2 i 0) : EReal) - (step768 s v x).1 (ix2 i 0)) * x.2.2 (ix3 0 i d)
        + ∑ j : Fin 768, Ideal.exp2 ((s (ix2 i j) : EReal) - (step768 s v x).1 (ix2 i 0)) * v (ix2 j d) := by
  pointwise [step768, pv768, prob768, decay, accNext]
  rfl

theorem rows768_apply (K : Vec Ideal S1x4224x512 .bf16) (r : ℕ) (j : Fin 768) (e : Fin 512) (h : r + j.val < 4224) :
    rows768 K r (ix3 0 j e) = K (ix3 0 ⟨r + j.val, h⟩ e) := by
  unfold rows768
  rw [dif_pos (show r + ((ix3 0 j e : S1x768x512.Idx) 1).val < 4224 from h)]
  rfl

theorem kcol384_apply (kb : Vec Ideal S1x384x512 .bf16) (c : Fin 4) (j : Fin 384) (x : Fin 128) :
    kcol384 kb c (ix2 j x) = kb (ix3 0 j (kc c x)) := by
  match c with
  | 0 | 1 | 2 | 3 => pointwise [kcol384]; exact congrArg kb (ix3_congr _ _ (by simp [kc]))

theorem vcol384_apply (vb : Vec Ideal S1x384x512 .bf16) (c : Fin 4) (j : Fin 384) (d : Fin 256) :
    vcol384 vb c (ix2 j d) = vb (ix3 0 j (vc c d)) := by
  match c with
  | 0 | 1 | 2 | 3 => pointwise [vcol384]; exact congrArg vb (ix3_congr _ _ (by simp [vc]))

theorem score384_apply (q : FVec Ideal S384x128 .bf16) (k : FVec Ideal S384x128 .bf16) (i : Fin 384) (j : Fin 384) :
    score384 q k (ix2 i j) = ∑ x : Fin 128, (q (ix2 i x) : EReal) * k (ix2 j x) := by
  pointwise [score384]

theorem mask384_apply (s : FVec Ideal S384x384 .f32) (i : Fin 384) (j : Fin 384) :
    (mask384 s (ix2 i j) : EReal) = if j.val ≤ 0 + i.val then s (ix2 i j) else ⊥ := by
  refine Eq.trans (b := (Scalar.select (IntOp.cmpi CmpIPredicate.sle (IntOp.subi (BitVec.ofNat 32 j.val) 0#32) (BitVec.ofNat 32 i.val))
    (s (ix2 i j) : EReal) (Ideal.ofBits FTy.f32 4286578688#32))) (by pointwise [mask384]) ?_
  have hb : (Ideal.ofBits FTy.f32 4286578688#32 : EReal) = ⊥ := by simp [Ideal.ofBits, Ideal.ieee]
  rw [hb]
  have hc : IntOp.cmpi CmpIPredicate.sle (IntOp.subi (BitVec.ofNat 32 j.val) 0#32) (BitVec.ofNat 32 i.val)
      = BitVec.ofBool (decide (j.val ≤ 0 + i.val)) := by
    have hj := j.isLt
    have hi := i.isLt
    show BitVec.ofBool ((BitVec.ofNat 32 j.val - 0#32).sle (BitVec.ofNat 32 i.val)) = _
    congr 1
    rw [BitVec.sle_eq_decide]
    congr 1
    apply propext
    simp only [BitVec.toInt_eq_toNat_bmod, BitVec.toNat_sub, BitVec.toNat_ofNat, Int.bmod_def]
    omega
  rw [hc]
  by_cases h : j.val ≤ 0 + i.val
  · rw [if_pos h, decide_eq_true h]; rfl
  · rw [if_neg h, decide_eq_false h]; rfl

theorem step384_max (s : FVec Ideal S384x384 .f32) (v : FVec Ideal S384x256 .bf16) (x : Chain Ideal) (i : Fin 384) :
    ((step384 s v x).1 (ix2 i 0) : EReal) = max (x.1 (ix2 i 0) : EReal) (top fun j => (s (ix2 i j) : EReal)) := by
  pointwise [step384, max384]
  have hb : (Ideal.ofBits FTy.f32 4286578688#32 : EReal) = ⊥ := by simp [Ideal.ofBits, Ideal.ieee]
  rw [hb]; rfl

theorem step384_sum (s : FVec Ideal S384x384 .f32) (v : FVec Ideal S384x256 .bf16) (x : Chain Ideal) (i : Fin 384) :
    ((step384 s v x).2.1 (ix2 i 0) : EReal)
      = Ideal.exp2 ((x.1 (ix2 i 0) : EReal) - (step384 s v x).1 (ix2 i 0)) * x.2.1 (ix2 i 0)
        + ∑ j : Fin 384, Ideal.exp2 ((s (ix2 i j) : EReal) - (step384 s v x).1 (ix2 i 0)) := by
  pointwise [step384, sum384, prob384, decay]
  rfl

theorem step384_weighted (s : FVec Ideal S384x384 .f32) (v : FVec Ideal S384x256 .bf16) (x : Chain Ideal) (i : Fin 384) (d : Fin 256) :
    ((step384 s v x).2.2 (ix3 0 i d) : EReal)
      = Ideal.exp2 ((x.1 (ix2 i 0) : EReal) - (step384 s v x).1 (ix2 i 0)) * x.2.2 (ix3 0 i d)
        + ∑ j : Fin 384, Ideal.exp2 ((s (ix2 i j) : EReal) - (step384 s v x).1 (ix2 i 0)) * v (ix2 j d) := by
  pointwise [step384, pv384, prob384, decay, accNext]
  rfl

theorem rows384_apply (K : Vec Ideal S1x4224x512 .bf16) (r : ℕ) (j : Fin 384) (e : Fin 512) (h : r + j.val < 4224) :
    rows384 K r (ix3 0 j e) = K (ix3 0 ⟨r + j.val, h⟩ e) := by
  unfold rows384
  rw [dif_pos (show r + ((ix3 0 j e : S1x384x512.Idx) 1).val < 4224 from h)]
  rfl

/-! ## A row of a chain -/

/-- Row `i` of a chain's state against plain sums. -/
def GoodRow (x : Chain Ideal) (i : Fin 384) (W : ℝ) (A : Fin 256 → ℝ) : Prop :=
  Good (x.1 (ix2 i 0) : EReal) (x.2.1 (ix2 i 0) : EReal) (fun d : Fin 256 => (x.2.2 (ix3 0 i d) : EReal)) W A

theorem goodRow_start (c : Fin 4) (i : Fin 384) : GoodRow (start c) i 0 fun _ => 0 := by
  refine Good.start.congr ?_ ?_ (fun d => ?_) rfl fun _ => rfl
  · show (Ideal.ofBits FTy.f32 4286578688#32 : EReal) = ⊥
    simp [Ideal.ofBits, Ideal.ieee]
  · show (Ideal.ofBits FTy.f32 0#32 : EReal) = 0
    exact Ideal.ofBits_zero_f32
  · show (Ideal.ofBits FTy.f32 0#32 : EReal) = 0
    exact Ideal.ofBits_zero_f32

theorem GoodRow.step768 {x : Chain Ideal} {i : Fin 384} {W : ℝ} {A : Fin 256 → ℝ} (h : GoodRow x i W A)
    (s : FVec Ideal S384x768 .f32) (v : FVec Ideal S768x256 .bf16) (hT : ∀ j, (s (ix2 i j) : EReal) ≠ ⊤)
    (hB : ∃ j, (s (ix2 i j) : EReal) ≠ ⊥) (vr : Fin 768 → Fin 256 → ℝ) (hv : ∀ j d, (v (ix2 j d) : EReal) = (vr j d : EReal)) :
    GoodRow (step768 s v x) i (W + ∑ j : Fin 768, e2 (s (ix2 i j))) (fun d => A d + ∑ j : Fin 768, e2 (s (ix2 i j)) * vr j d) := by
  refine (Good.step h (fun j => (s (ix2 i j) : EReal)) hT hB (fun j d => (v (ix2 j d) : EReal)) vr hv).congr
    (step768_max s v x i) ?_ (fun d => ?_) rfl fun _ => rfl
  · rw [step768_sum, step768_max]
  · rw [step768_weighted, step768_max]

theorem GoodRow.step384 {x : Chain Ideal} {i : Fin 384} {W : ℝ} {A : Fin 256 → ℝ} (h : GoodRow x i W A)
    (s : FVec Ideal S384x384 .f32) (v : FVec Ideal S384x256 .bf16) (hT : ∀ j, (s (ix2 i j) : EReal) ≠ ⊤)
    (hB : ∃ j, (s (ix2 i j) : EReal) ≠ ⊥) (vr : Fin 384 → Fin 256 → ℝ) (hv : ∀ j d, (v (ix2 j d) : EReal) = (vr j d : EReal)) :
    GoodRow (step384 s v x) i (W + ∑ j : Fin 384, e2 (s (ix2 i j))) (fun d => A d + ∑ j : Fin 384, e2 (s (ix2 i j)) * vr j d) := by
  refine (Good.step h (fun j => (s (ix2 i j) : EReal)) hT hB (fun j d => (v (ix2 j d) : EReal)) vr hv).congr
    (step384_max s v x i) ?_ (fun d => ?_) rfl fun _ => rfl
  · rw [step384_sum, step384_max]
  · rw [step384_weighted, step384_max]

/-! ## The whole sweep -/

/-- A masked tail completes a sum up to the row's position. -/
theorem sum_tail (f : ℕ → ℝ) (r N P : ℕ) (h1 : r ≤ P + 1) (h2 : P + 1 ≤ r + N) :
    (∑ n ∈ Finset.range r, f n) + ∑ j : Fin N, (if r + j.val ≤ P then f (r + j.val) else 0) = ∑ n ∈ Finset.range (P + 1), f n := by
  obtain ⟨a, ha⟩ : ∃ a, P + 1 = r + a := ⟨P + 1 - r, by omega⟩
  obtain ⟨b, rfl⟩ : ∃ b, N = a + b := ⟨N - a, by omega⟩
  rw [ha, Finset.sum_range_add, ← Finset.sum_range (fun j => if r + j ≤ P then f (r + j) else 0), Finset.sum_range_add]
  congr 1
  rw [Finset.sum_congr rfl (g := fun j => f (r + j)) fun j hj => if_pos (by have := Finset.mem_range.mp hj; omega),
    Finset.sum_eq_zero (s := Finset.range b) fun j hj => if_neg (by omega), add_zero]

section
variable (q : Vec Ideal S1x384x512 .bf16) (K V : Vec Ideal S1x4224x512 .bf16)
  (qr : Fin 384 → Fin 512 → ℝ) (kr vr : ℕ → Fin 512 → ℝ)

/-- The score of row `i` of the query block against key `n`, chain `c`. -/
def sc (qr : Fin 384 → Fin 512 → ℝ) (kr : ℕ → Fin 512 → ℝ) (c : Fin 4) (i : Fin 384) (n : ℕ) : ℝ :=
  ∑ x : Fin 128, qr i (kc c x) * kr n (kc c x)

variable (hq : ∀ i e, (q (ix3 0 i e) : EReal) = (qr i e : EReal))
  (hK : ∀ (n : ℕ) (h : n < 4224) e, (K (ix3 0 ⟨n, h⟩ e) : EReal) = (kr n e : EReal))
  (hV : ∀ (n : ℕ) (h : n < 4224) e, (V (ix3 0 ⟨n, h⟩ e) : EReal) = (vr n e : EReal))
include hq hK

theorem score768_real (c : Fin 4) (i : Fin 384) (r : ℕ) (hr : r + 768 ≤ 4224) (j : Fin 768) :
    (score768 (cols q c) (kcol768 (rows768 K r) c) (ix2 i j) : EReal) = (sc qr kr c i (r + j.val) : EReal) := by
  have hj := j.isLt
  rw [score768_apply]
  unfold sc
  rw [← coe_sum]
  refine Finset.sum_congr rfl fun x _ => ?_
  rw [cols_apply, kcol768_apply, rows768_apply K r j _ (by omega), hq, hK, ← EReal.coe_mul]

theorem score384_real (c : Fin 4) (i : Fin 384) (r : ℕ) (hr : r + 384 ≤ 4224) (j : Fin 384) :
    (score384 (cols q c) (kcol384 (rows384 K r) c) (ix2 i j) : EReal) = (sc qr kr c i (r + j.val) : EReal) := by
  have hj := j.isLt
  rw [score384_apply]
  unfold sc
  rw [← coe_sum]
  refine Finset.sum_congr rfl fun x _ => ?_
  rw [cols_apply, kcol384_apply, rows384_apply K r j _ (by omega), hq, hK, ← EReal.coe_mul]

include hV

theorem wides_good (c : Fin 4) (i : Fin 384) (n : ℕ) (hn : 768 * n ≤ 4224) :
    GoodRow (wides (cols q) K V start n c) i (∑ j ∈ Finset.range (768 * n), (2 : ℝ) ^ sc qr kr c i j)
      fun d => ∑ j ∈ Finset.range (768 * n), (2 : ℝ) ^ sc qr kr c i j * vr j (vc c d) := by
  induction n with
  | zero => exact (goodRow_start c i).congr rfl rfl (fun _ => rfl) (by simp) (fun _ => by simp)
  | succ n ih =>
    have hr : 768 * n + 768 ≤ 4224 := by omega
    have hs := score768_real q K qr kr hq hK c i (768 * n) hr
    refine (GoodRow.step768 (ih (by omega)) (score768 (cols q c) (kcol768 (rows768 K (768 * n)) c))
      (vcol768 (rows768 V (768 * n)) c) (fun j => by rw [hs]; exact EReal.coe_ne_top _) ⟨0, by rw [hs]; exact EReal.coe_ne_bot _⟩
      (fun j d => vr (768 * n + j.val) (vc c d))
      (fun j d => by rw [vcol768_apply, rows768_apply V _ j _ (by omega), hV])).congr rfl rfl (fun _ => rfl) ?_ fun d => ?_
    · rw [show 768 * (n + 1) = 768 * n + 768 by ring, Finset.sum_range_add, Finset.sum_range (fun x => (2 : ℝ) ^ sc qr kr c i (768 * n + x))]
      congr 1
      exact Finset.sum_congr rfl fun j _ => by rw [hs, e2_coe]
    · rw [show 768 * (n + 1) = 768 * n + 768 by ring, Finset.sum_range_add,
        Finset.sum_range (fun x => (2 : ℝ) ^ sc qr kr c i (768 * n + x) * vr (768 * n + x) (vc c d))]
      congr 1
      exact Finset.sum_congr rfl fun j _ => by rw [hs, e2_coe]

theorem tail768_good (c : Fin 4) (i : Fin 384) (r : ℕ) (hr : r + 768 ≤ 4224) (X : Fin 4 → Chain Ideal)
    (h : GoodRow (X c) i (∑ j ∈ Finset.range r, (2 : ℝ) ^ sc qr kr c i j)
      fun d => ∑ j ∈ Finset.range r, (2 : ℝ) ^ sc qr kr c i j * vr j (vc c d)) :
    GoodRow (tail768 (cols q) (rows768 K r) (rows768 V r) X c) i
      (∑ j ∈ Finset.range (r + 384 + i.val + 1), (2 : ℝ) ^ sc qr kr c i j)
      fun d => ∑ j ∈ Finset.range (r + 384 + i.val + 1), (2 : ℝ) ^ sc qr kr c i j * vr j (vc c d) := by
  have hi := i.isLt
  have hs : ∀ j : Fin 768, (mask768 (score768 (cols q c) (kcol768 (rows768 K r) c)) (ix2 i j) : EReal)
      = if j.val ≤ 384 + i.val then (sc qr kr c i (r + j.val) : EReal) else ⊥ := fun j => by
    rw [mask768_apply, score768_real q K qr kr hq hK c i r hr]
  have he : ∀ j : Fin 768, e2 (mask768 (score768 (cols q c) (kcol768 (rows768 K r) c)) (ix2 i j))
      = if r + j.val ≤ r + 384 + i.val then (2 : ℝ) ^ sc qr kr c i (r + j.val) else 0 := fun j => by
    rw [hs]
    by_cases hj : j.val ≤ 384 + i.val
    · rw [if_pos hj, if_pos (by omega), e2_coe]
    · rw [if_neg hj, if_neg (by omega), e2_bot]
  refine (GoodRow.step768 h (mask768 (score768 (cols q c) (kcol768 (rows768 K r) c)))
    (vcol768 (rows768 V r) c) (fun j => ?_) ⟨0, ?_⟩ (fun j d => vr (r + j.val) (vc c d))
    (fun j d => by rw [vcol768_apply, rows768_apply V _ j _ (by omega), hV])).congr rfl rfl (fun _ => rfl) ?_ fun d => ?_
  · rw [hs]; split
    · exact EReal.coe_ne_top _
    · exact bot_ne_top
  · rw [hs]; split
    · exact EReal.coe_ne_bot _
    · next h0 => exact absurd (Nat.zero_le _) h0
  · rw [← sum_tail _ r 768 (r + 384 + i.val) (by omega) (by omega)]
    congr 1
    exact Finset.sum_congr rfl fun j _ => (he j).symm
  · rw [← sum_tail _ r 768 (r + 384 + i.val) (by omega) (by omega)]
    congr 1
    exact Finset.sum_congr rfl fun j _ => by rw [he, ite_mul, zero_mul]

theorem tail384_good (c : Fin 4) (i : Fin 384) (r : ℕ) (hr : r + 384 ≤ 4224) (X : Fin 4 → Chain Ideal)
    (h : GoodRow (X c) i (∑ j ∈ Finset.range r, (2 : ℝ) ^ sc qr kr c i j)
      fun d => ∑ j ∈ Finset.range r, (2 : ℝ) ^ sc qr kr c i j * vr j (vc c d)) :
    GoodRow (tail384 (cols q) (rows384 K r) (rows384 V r) X c) i
      (∑ j ∈ Finset.range (r + 0 + i.val + 1), (2 : ℝ) ^ sc qr kr c i j)
      fun d => ∑ j ∈ Finset.range (r + 0 + i.val + 1), (2 : ℝ) ^ sc qr kr c i j * vr j (vc c d) := by
  have hi := i.isLt
  have hs : ∀ j : Fin 384, (mask384 (score384 (cols q c) (kcol384 (rows384 K r) c)) (ix2 i j) : EReal)
      = if j.val ≤ 0 + i.val then (sc qr kr c i (r + j.val) : EReal) else ⊥ := fun j => by
    rw [mask384_apply, score384_real q K qr kr hq hK c i r hr]
  have he : ∀ j : Fin 384, e2 (mask384 (score384 (cols q c) (kcol384 (rows384 K r) c)) (ix2 i j))
      = if r + j.val ≤ r + 0 + i.val then (2 : ℝ) ^ sc qr kr c i (r + j.val) else 0 := fun j => by
    rw [hs]
    by_cases hj : j.val ≤ 0 + i.val
    · rw [if_pos hj, if_pos (by omega), e2_coe]
    · rw [if_neg hj, if_neg (by omega), e2_bot]
  refine (GoodRow.step384 h (mask384 (score384 (cols q c) (kcol384 (rows384 K r) c)))
    (vcol384 (rows384 V r) c) (fun j => ?_) ⟨0, ?_⟩ (fun j d => vr (r + j.val) (vc c d))
    (fun j d => by rw [vcol384_apply, rows384_apply V _ j _ (by omega), hV])).congr rfl rfl (fun _ => rfl) ?_ fun d => ?_
  · rw [hs]; split
    · exact EReal.coe_ne_top _
    · exact bot_ne_top
  · rw [hs]; split
    · exact EReal.coe_ne_bot _
    · next h0 => exact absurd (Nat.zero_le _) h0
  · rw [← sum_tail _ r 384 (r + 0 + i.val) (by omega) (by omega)]
    congr 1
    exact Finset.sum_congr rfl fun j _ => (he j).symm
  · rw [← sum_tail _ r 384 (r + 0 + i.val) (by omega) (by omega)]
    congr 1
    exact Finset.sum_congr rfl fun j _ => by rw [he, ite_mul, zero_mul]

/-- After query block `qi`'s sweep, row `i` holds the sums over the keys up to its own position. -/
theorem chainsAt_good (c : Fin 4) (i : Fin 384) (qi : ℕ) (hqi : qi < 11) :
    GoodRow (chainsAt (cols q) K V qi c) i (∑ j ∈ Finset.range (384 * qi + i.val + 1), (2 : ℝ) ^ sc qr kr c i j)
      fun d => ∑ j ∈ Finset.range (384 * qi + i.val + 1), (2 : ℝ) ^ sc qr kr c i j * vr j (vc c d) := by
  unfold chainsAt
  have hw := wides_good q K V qr kr vr hq hK hV c i (qi / 2) (by omega)
  by_cases h : qi % 2 = 1
  · rw [if_pos h]
    rw [show 768 * (qi / 2) = 384 * (qi - 1) by omega] at hw
    have := tail768_good q K V qr kr vr hq hK hV c i (384 * (qi - 1)) (by omega) _ hw
    rwa [show 384 * (qi - 1) + 384 + i.val + 1 = 384 * qi + i.val + 1 by omega] at this
  · rw [if_neg h]
    rw [show 768 * (qi / 2) = 384 * qi by omega] at hw
    exact tail384_good q K V qr kr vr hq hK hV c i (384 * qi) (by omega) _ hw

end

end Cert.KernelIdeal.Attn
-- ==== Proof.Ref.lean ====
/- The reference's attention, piece by piece, each read at an index. -/
module

public import proofs.«01_k».proof.Proof.Gen.ReferenceIdeal.Run
public import proofs.«01_k».proof.Proof.Row
public import Idealize.ShloMosaic.Lib.Pointwise
public import Idealize.ShloMosaic.Lib.Tactic.CleanTypes

@[expose] public section

set_option maxRecDepth 16384

noncomputable section

namespace Cert.ReferenceIdeal.Attn

open Cert.ReferenceIdeal Cert.ReferenceIdeal.Gen Cert.ReferenceIdeal.Value
open Idealize.ShloMosaic Idealize.ShloMosaic.TcCoe
open Cert.KernelIdeal.Row

variable {F : FTy → Type} [FloatOps F]

/-- The scores, scaled, those of later keys at minus infinity. -/
def masked (q k : FVec F S2x4112x8x2x128 .f32) : FVec F S2x8x2x4112x4112 .f32 :=
  select (broadcastInDim S2x8x2x4112x4112 ![3, 4] bcast_S4112x4112_S2x8x2x4112x4112_3_4 (cmpi .sle
      (broadcastInDim S4112x4112 ![0, 1] bcast_S1x4112_S4112x4112_0_1 (broadcastInDim S1x4112 ![1] bcast_S4112_S1x4112_1 (iotaInDim S4112 32 0)))
      (broadcastInDim S4112x4112 ![0, 1] bcast_S4112x1_S4112x4112_0_1 (broadcastInDim S4112x1 ![0] bcast_S4112_S4112x1_0 (iotaInDim S4112 32 0)))))
    (mulf (Host.dotGeneral dot_S2x4112x8x2x128_S2x4112x8x2x128_S2x8x2x4112x4112_4_4_1_1_023_023 none q k)
      (broadcastInDim S2x8x2x4112x4112 ![] bcast_S_S2x8x2x4112x4112 (Host.divf (constant S_ .f32 0x3F800000#32) (Host.sqrt (constant S_ .f32 0x43000000#32)))))
    (broadcastInDim S2x8x2x4112x4112 ![] bcast_S_S2x8x2x4112x4112 (id (constant S_ .f32 0xFF800000#32)))

/-- Each row's maximum. -/
def rowMax (x : FVec F S2x8x2x4112x4112 .f32) : FVec F S2x8x2x4112 .f32 :=
  Host.reduce FloatOps.maximumf x (constant S_ .f32 0xFF800000#32) reducesTo_S2x8x2x4112x4112_S2x8x2x4112_d4 h_S_

/-- One value per row, along the row. -/
def along (y : FVec F S2x8x2x4112 .f32) : FVec F S2x8x2x4112x4112 .f32 :=
  broadcastInDim S2x8x2x4112x4112 ![0, 1, 2, 3, 4] bcast_S2x8x2x4112x1_S2x8x2x4112x4112_0_1_2_3_4
    (broadcastInDim S2x8x2x4112x1 ![0, 1, 2, 3] bcast_S2x8x2x4112_S2x8x2x4112x1_0_1_2_3 y)

/-- Each row's maximum, along the row. -/
def tops (x : FVec F S2x8x2x4112x4112 .f32) : FVec F S2x8x2x4112x4112 .f32 :=
  along (maximumf (broadcastInDim S2x8x2x4112 ![] bcast_S_S2x8x2x4112 (constant S_ .f32 0xFF800000#32)) (rowMax x))

/-- The exponentials. -/
def probs (x : FVec F S2x8x2x4112x4112 .f32) : FVec F S2x8x2x4112x4112 .f32 := Host.exp (subf x (tops x))

/-- Each row divided by its sum. -/
def weights (p : FVec F S2x8x2x4112x4112 .f32) : FVec F S2x8x2x4112x4112 .f32 :=
  Host.divf p (broadcastInDim S2x8x2x4112x4112 ![0, 1, 2, 3, 4] bcast_S2x8x2x4112x1_S2x8x2x4112x4112_0_1_2_3_4
    (broadcastInDim S2x8x2x4112x1 ![0, 1, 2, 3] bcast_S2x8x2x4112_S2x8x2x4112x1_0_1_2_3
      (Host.reduceAdd p (constant S_ .f32 0x00000000#32) reducesTo_S2x8x2x4112x4112_S2x8x2x4112_d4 h_S_)))

/-- The coefficient of the second softmax. -/
def lambda (l : FVec F S4x128 .f32) : FVec F S_ .f32 :=
  addf (subf
      (Host.exp (Host.reduceAdd (mulf (shapeCast _ (extractStridedSlice S1x128 ![0, 0] l slices_S4x128_S1x128_0_0) shapeCasts_S1x128_S128)
        (shapeCast _ (extractStridedSlice S1x128 ![1, 0] l slices_S4x128_S1x128_1_0) shapeCasts_S1x128_S128)) (constant S_ .f32 0x00000000#32) reducesTo_S128_S_d0 h_S_))
      (Host.exp (Host.reduceAdd (mulf (shapeCast _ (extractStridedSlice S1x128 ![2, 0] l slices_S4x128_S1x128_2_0) shapeCasts_S1x128_S128)
        (shapeCast _ (extractStridedSlice S1x128 ![3, 0] l slices_S4x128_S1x128_3_0) shapeCasts_S1x128_S128)) (constant S_ .f32 0x00000000#32) reducesTo_S128_S_d0 h_S_)))
    (constant S_ .f32 0x3EF1014C#32)

/-- The difference of the two softmaxes. -/
def diff (w : FVec F S2x8x2x4112x4112 .f32) (l : FVec F S_ .f32) : FVec F S2x8x4112x4112 .f32 :=
  subf (shapeCast _ (extractStridedSlice S2x8x1x4112x4112 ![0, 0, 0, 0, 0] w slices_S2x8x2x4112x4112_S2x8x1x4112x4112_0_0_0_0_0) shapeCasts_S2x8x1x4112x4112_S2x8x4112x4112)
    (mulf (broadcastInDim S2x8x4112x4112 ![] bcast_S_S2x8x4112x4112 l)
      (shapeCast _ (extractStridedSlice S2x8x1x4112x4112 ![0, 0, 1, 0, 0] w slices_S2x8x2x4112x4112_S2x8x1x4112x4112_0_0_1_0_0) shapeCasts_S2x8x1x4112x4112_S2x8x4112x4112))

/-- The heads' outputs. -/
def heads (v : FVec F S2x4112x8x256 .f32) (a : FVec F S2x8x4112x4112 .f32) : FVec F S2x4112x8x256 .f32 :=
  transpose S2x4112x8x256 [0, 3, 1, 2] (Host.dotGeneral dot_S2x4112x8x256_S2x8x4112x4112_S2x8x256x4112_1_3_3_2_02_01 none v a) transposes_S2x8x256x4112_S2x4112x8x256_0_3_1_2

/-- The norm of each head's output, and the cast. -/
def normed (o : FVec F S2x4112x8x256 .f32) (g : FVec F S256 .f32) : FVec F S2x4112x2048 .bf16 :=
  truncf .bf16 (shapeCast _ (mulf (mulf (mulf o (broadcastInDim S2x4112x8x256 ![0, 1, 2, 3] bcast_S2x4112x8x1_S2x4112x8x256_0_1_2_3
      (Host.rsqrt (addf (Host.divf (broadcastInDim S2x4112x8x1 ![0, 1, 2] bcast_S2x4112x8_S2x4112x8x1_0_1_2
          (Host.reduceAdd (mulf o o) (constant S_ .f32 0x00000000#32) reducesTo_S2x4112x8x256_S2x4112x8_d3 h_S_))
        (broadcastInDim S2x4112x8x1 ![] bcast_S_S2x4112x8x1 (constant S_ .f32 0x43800000#32)))
        (broadcastInDim S2x4112x8x1 ![] bcast_S_S2x4112x8x1 (constant S_ .f32 0x3727C5AC#32))))))
      (broadcastInDim S2x4112x8x256 ![0, 1, 2, 3] bcast_S1x1x1x256_S2x4112x8x256_0_1_2_3 (broadcastInDim S1x1x1x256 ![3] bcast_S256_S1x1x1x256_3 g)))
      (broadcastInDim S2x4112x8x256 ![] bcast_S_S2x4112x8x256 (constant S_ .f32 0x3F077F5A#32))) shapeCasts_S2x4112x8x256_S2x4112x2048) bitsLt_bf16_f32

/-- The reference's result, of its five arguments. -/
def result (q k : FVec F S2x4112x8x2x128 .f32) (v : FVec F S2x4112x8x256 .f32) (l : FVec F S4x128 .f32) (g : FVec F S256 .f32) :
    FVec F S2x4112x2048 .bf16 :=
  normed (heads v (diff (weights (probs (masked q k))) (lambda l))) g

theorem res_eq (m : (ℓ : Loc nD τ sig) → Buf (Elt F) ℓ) (c : Dev nD) :
    res_main_v65 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold res_main_v65 result normed heads diff weights probs tops along rowMax masked lambda
  rfl

/-! ## Scalars -/

theorem ofBits_ninf : (Ideal.ofBits FTy.f32 4286578688#32 : EReal) = ⊥ := by simp [Ideal.ofBits, Ideal.ieee]

theorem ofBits_128 : (Ideal.ofBits FTy.f32 1124073472#32 : EReal) = ((128 : ℝ) : EReal) := by
  simp [Ideal.ofBits, Ideal.ieee, -EReal.coe_mul]; norm_num

/-- The constant added to the second softmax's coefficient is a real. -/
theorem ofBits_init : ∃ r : ℝ, (Ideal.ofBits FTy.f32 1055981900#32 : EReal) = (r : EReal) := by
  simp [Ideal.ofBits, Ideal.ieee, -EReal.coe_mul]

/-- The scores' scale. -/
def scale : ℝ := 1 / Real.sqrt 128

theorem scale_eq : Ideal.div 1 (Ideal.sqrt (Ideal.ofBits FTy.f32 1124073472#32)) = (scale : EReal) := by
  rw [ofBits_128]
  have h : Ideal.sqrt ((128 : ℝ) : EReal) = ((Real.sqrt 128 : ℝ) : EReal) := by
    show (if (128 : ℝ) < 0 then ⊥ else ((Real.sqrt 128 : ℝ) : EReal)) = _
    rw [if_neg (by norm_num)]
  rw [h, show (1 : EReal) = ((1 : ℝ) : EReal) by norm_cast, div_coe _ (by positivity)]
  rfl

/-- The exponential of a score; zero at minus infinity. -/
def e1 (x : EReal) : ℝ := if x = ⊥ then 0 else Real.exp x.toReal

theorem exp_sub {x : EReal} (hx : x ≠ ⊤) (M : ℝ) : Ideal.exp (x - (M : EReal)) = ((e1 x * Real.exp (-M) : ℝ) : EReal) := by
  induction x using EReal.rec with
  | bot => simp [e1]
  | coe r =>
    rw [← EReal.coe_sub, Ideal.exp_coe]
    simp [e1, ← Real.exp_add, sub_eq_add_neg]
  | top => exact absurd rfl hx

/-! ## The rows -/

theorem masked_apply (q k : FVec Ideal S2x4112x8x2x128 .f32) (b : Fin 2) (h : Fin 8) (c : Fin 2) (t n : Fin 4112) :
    (masked q k (ix5 b h c t n) : EReal)
      = if n.val ≤ t.val then (∑ x : Fin 128, (q (ix5 b t h c x) : EReal) * k (ix5 b n h c x)) * (scale : EReal) else ⊥ := by
  refine Eq.trans (b := (Scalar.select (IntOp.cmpi CmpIPredicate.sle (BitVec.ofNat 32 n.val) (BitVec.ofNat 32 t.val))
    ((∑ x : Fin 128, (q (ix5 b t h c x) : EReal) * k (ix5 b n h c x)) * Ideal.div 1 (Ideal.sqrt (Ideal.ofBits FTy.f32 1124073472#32)))
    (Ideal.ofBits FTy.f32 4286578688#32 : EReal))) (by pointwise [masked]; rfl) ?_
  rw [ofBits_ninf, scale_eq]
  have hc : IntOp.cmpi CmpIPredicate.sle (BitVec.ofNat 32 n.val) (BitVec.ofNat 32 t.val) = BitVec.ofBool (decide (n.val ≤ t.val)) := by
    have hn := n.isLt
    have ht := t.isLt
    show BitVec.ofBool ((BitVec.ofNat 32 n.val).sle (BitVec.ofNat 32 t.val)) = _
    congr 1
    rw [BitVec.sle_eq_decide]
    congr 1
    apply propext
    simp only [BitVec.toInt_eq_toNat_bmod, BitVec.toNat_ofNat, Int.bmod_def]
    omega
  rw [hc]
  by_cases h : n.val ≤ t.val
  · rw [if_pos h, decide_eq_true h]; rfl
  · rw [if_neg h, decide_eq_false h]; rfl

theorem rowMax_real (x : FVec Ideal S2x8x2x4112x4112 .f32) (hT : ∀ i, (x i : EReal) ≠ ⊤)
    (hB : ∀ b h c t, (x (ix5 b h c t 0) : EReal) ≠ ⊥) (j : S2x8x2x4112.Idx) : ∃ M : ℝ, (rowMax x j : EReal) = (M : EReal) := by
  have e : (rowMax x j : EReal) = (Finset.univ.filter fun i => reducesTo_S2x8x2x4112x4112_S2x8x2x4112_d4.drop i = j).fold max ⊥ (fun i => (x i : EReal)) := by
    unfold rowMax
    rw [Host.reduce_eq_fold]
    rw [← ofBits_ninf]
    rfl
  have h1 : (rowMax x j : EReal) < ⊤ := by
    rw [e, Finset.fold_max_lt]
    exact ⟨bot_lt_top, fun i _ => lt_top_iff_ne_top.mpr (hT i)⟩
  have h2 : (rowMax x j : EReal) ≠ ⊥ := by
    obtain ⟨b, h, c, t, rfl⟩ : ∃ (b : Fin 2) (h : Fin 8) (c : Fin 2) (t : Fin 4112), j = ix4 b h c t := ⟨j 0, j 1, j 2, j 3, eq_ix4 j⟩
    have : (x (ix5 b h c t 0) : EReal) ≤ rowMax x (ix4 b h c t) := by
      rw [e, Finset.le_fold_max]
      refine .inr ⟨ix5 b h c t 0, Finset.mem_filter.mpr ⟨Finset.mem_univ _, ?_⟩, le_rfl⟩
      funext a
      match a with
      | ⟨0, _⟩ | ⟨1, _⟩ | ⟨2, _⟩ | ⟨3, _⟩ => rfl
    exact fun h0 => hB b h c t (le_bot_iff.mp (h0 ▸ this))
  exact ⟨_, (EReal.coe_toReal h1.ne h2).symm⟩

theorem along_apply (y : FVec Ideal S2x8x2x4112 .f32) (b : Fin 2) (h : Fin 8) (c : Fin 2) (t n : Fin 4112) :
    along y (ix5 b h c t n) = y (ix4 b h c t) := by
  pointwise [along]

theorem max_apply (y z : FVec Ideal S2x8x2x4112 .f32) (j : S2x8x2x4112.Idx) : (maximumf y z j : EReal) = max (y j : EReal) (z j) := rfl

theorem exp_sub_apply (y z : FVec Ideal S2x8x2x4112x4112 .f32) (j : S2x8x2x4112x4112.Idx) :
    (Host.exp (subf y z) j : EReal) = Ideal.exp ((y j : EReal) - z j) := rfl

theorem probs_apply (x : FVec Ideal S2x8x2x4112x4112 .f32) (b : Fin 2) (h : Fin 8) (c : Fin 2) (t n : Fin 4112) :
    (probs x (ix5 b h c t n) : EReal) = Ideal.exp ((x (ix5 b h c t n) : EReal) - max ⊥ (rowMax x (ix4 b h c t) : EReal)) := by
  rw [← ofBits_ninf]
  unfold probs tops
  rw [exp_sub_apply, along_apply, max_apply]
  rfl

theorem weights_apply (p : FVec Ideal S2x8x2x4112x4112 .f32) (b : Fin 2) (h : Fin 8) (c : Fin 2) (t n : Fin 4112) :
    (weights p (ix5 b h c t n) : EReal) = Ideal.div (p (ix5 b h c t n)) (∑ n' : Fin 4112, (p (ix5 b h c t n') : EReal)) := by
  pointwise [weights]

theorem lambda_apply (l : FVec Ideal S4x128 .f32) :
    (lambda l ix0 : EReal) = Ideal.exp (∑ x : Fin 128, (l (ix2 0 x) : EReal) * l (ix2 1 x)) - Ideal.exp (∑ x : Fin 128, (l (ix2 2 x) : EReal) * l (ix2 3 x))
      + Ideal.ofBits FTy.f32 1055981900#32 := by
  pointwise [lambda]

theorem diff_apply (w : FVec Ideal S2x8x2x4112x4112 .f32) (l : FVec Ideal S_ .f32) (b : Fin 2) (h : Fin 8) (t n : Fin 4112) :
    (diff w l (ix4 b h t n) : EReal) = (w (ix5 b h 0 t n) : EReal) - (l ix0 : EReal) * w (ix5 b h 1 t n) := by
  pointwise [diff]

theorem heads_apply (v : FVec Ideal S2x4112x8x256 .f32) (a : FVec Ideal S2x8x4112x4112 .f32) (b : Fin 2) (h : Fin 8) (t : Fin 4112) (d : Fin 256) :
    (heads v a (ix4 b t h d) : EReal) = ∑ n : Fin 4112, (v (ix4 b n h d) : EReal) * a (ix4 b h t n) := by
  pointwise [heads]

/-- The norm of one head's output `o` at its `d`-th place, with gain `g`. -/
def norm1 (o : Fin 256 → EReal) (g : EReal) (d : Fin 256) : EReal :=
  o d * Ideal.rsqrt (Ideal.div (∑ x : Fin 256, o x * o x) (Ideal.ofBits FTy.f32 1132462080#32) + Ideal.ofBits FTy.f32 925353388#32)
    * g * Ideal.ofBits FTy.f32 1057455962#32

theorem normed_apply (o : FVec Ideal S2x4112x8x256 .f32) (g : FVec Ideal S256 .f32) (b : Fin 2) (t : Fin 4112) (h : Fin 8) (d : Fin 256) :
    (normed o g (ix3 b t ⟨256 * h.val + d.val, by omega⟩) : EReal) = norm1 (fun x => (o (ix4 b t h x) : EReal)) (g (ix1 d)) d := by
  pointwise [normed]
  rfl

/-! ## The whole, of real arguments -/

section
variable (q k : FVec Ideal S2x4112x8x2x128 .f32) (v : FVec Ideal S2x4112x8x256 .f32) (l : FVec Ideal S4x128 .f32) (g : FVec Ideal S256 .f32)
  (qr kr : Fin 2 → Fin 4112 → Fin 8 → Fin 2 → Fin 128 → ℝ) (vr : Fin 2 → Fin 4112 → Fin 8 → Fin 256 → ℝ) (lr : Fin 4 → Fin 128 → ℝ)

/-- The scaled score of a query against a key. -/
def score (qr kr : Fin 2 → Fin 4112 → Fin 8 → Fin 2 → Fin 128 → ℝ) (b : Fin 2) (h : Fin 8) (c : Fin 2) (t n : Fin 4112) : ℝ :=
  (∑ x : Fin 128, qr b t h c x * kr b n h c x) * scale

/-- The exponential of a score where the key is not later than the query, zero elsewhere. -/
def weight (qr kr : Fin 2 → Fin 4112 → Fin 8 → Fin 2 → Fin 128 → ℝ) (b : Fin 2) (h : Fin 8) (c : Fin 2) (t n : Fin 4112) : ℝ :=
  if n.val ≤ t.val then Real.exp (score qr kr b h c t n) else 0

theorem sum_weight_pos (b : Fin 2) (h : Fin 8) (c : Fin 2) (t : Fin 4112) : 0 < ∑ n : Fin 4112, weight qr kr b h c t n := by
  refine Finset.sum_pos' (fun n _ => ?_) ⟨t, Finset.mem_univ _, ?_⟩
  · unfold weight; split
    · positivity
    · exact le_rfl
  · unfold weight; rw [if_pos le_rfl]; positivity

/-- The second softmax's coefficient. -/
def coeff (lr : Fin 4 → Fin 128 → ℝ) : ℝ :=
  Real.exp (∑ x : Fin 128, lr 0 x * lr 1 x) - Real.exp (∑ x : Fin 128, lr 2 x * lr 3 x) + ofBits_init.choose

theorem coeff_eq (l : Fin 4 → Fin 128 → EReal) (hl : ∀ r x, l r x = (lr r x : EReal)) :
    Ideal.exp (∑ x : Fin 128, l 0 x * l 1 x) - Ideal.exp (∑ x : Fin 128, l 2 x * l 3 x) + Ideal.ofBits FTy.f32 1055981900#32
      = (coeff lr : EReal) := by
  have hs : ∀ a b : Fin 4, (∑ x : Fin 128, l a x * l b x) = ((∑ x : Fin 128, lr a x * lr b x : ℝ) : EReal) := fun a b => by
    rw [← coe_sum]; exact Finset.sum_congr rfl fun x _ => by rw [hl, hl, ← EReal.coe_mul]
  rw [hs, hs, Ideal.exp_coe, Ideal.exp_coe, ofBits_init.choose_spec, ← EReal.coe_sub, ← EReal.coe_add]
  rfl

/-- A head's output: the values weighted by the difference of the two softmaxes. -/
def head (qr kr : Fin 2 → Fin 4112 → Fin 8 → Fin 2 → Fin 128 → ℝ) (vr : Fin 2 → Fin 4112 → Fin 8 → Fin 256 → ℝ)
    (lr : Fin 4 → Fin 128 → ℝ) (b : Fin 2) (h : Fin 8) (t : Fin 4112) (d : Fin 256) : ℝ :=
  (∑ n : Fin 4112, weight qr kr b h 0 t n * vr b n h d) * (1 / ∑ n : Fin 4112, weight qr kr b h 0 t n)
    - (∑ n : Fin 4112, weight qr kr b h 1 t n * vr b n h d) * (coeff lr / ∑ n : Fin 4112, weight qr kr b h 1 t n)

variable (hq : ∀ b t h c x, (q (ix5 b t h c x) : EReal) = (qr b t h c x : EReal))
  (hk : ∀ b t h c x, (k (ix5 b t h c x) : EReal) = (kr b t h c x : EReal))
include hq hk

theorem masked_real (b : Fin 2) (h : Fin 8) (c : Fin 2) (t n : Fin 4112) :
    (masked q k (ix5 b h c t n) : EReal) = if n.val ≤ t.val then (score qr kr b h c t n : EReal) else ⊥ := by
  rw [masked_apply]
  congr 1
  unfold score
  rw [EReal.coe_mul, ← coe_sum]
  congr 1
  exact Finset.sum_congr rfl fun x _ => by rw [hq, hk, ← EReal.coe_mul]

theorem weights_real (b : Fin 2) (h : Fin 8) (c : Fin 2) (t n : Fin 4112) :
    (weights (probs (masked q k)) (ix5 b h c t n) : EReal)
      = ((weight qr kr b h c t n / ∑ n' : Fin 4112, weight qr kr b h c t n' : ℝ) : EReal) := by
  have hT : ∀ i, (masked q k i : EReal) ≠ ⊤ := fun i => by
    obtain ⟨b, h, c, t, n, rfl⟩ : ∃ (b : Fin 2) (h : Fin 8) (c : Fin 2) (t n : Fin 4112), i = ix5 b h c t n := ⟨i 0, i 1, i 2, i 3, i 4, eq_ix5 i⟩
    rw [masked_real q k qr kr hq hk]; split
    · exact EReal.coe_ne_top _
    · exact bot_ne_top
  obtain ⟨M, hM⟩ := rowMax_real (masked q k) hT (fun b h c t => by
    rw [masked_real q k qr kr hq hk]; split
    · exact EReal.coe_ne_bot _
    · next h0 => exact absurd (Nat.zero_le _) h0) (ix4 b h c t)
  have hp : ∀ n : Fin 4112, (probs (masked q k) (ix5 b h c t n) : EReal) = ((weight qr kr b h c t n * Real.exp (-M) : ℝ) : EReal) := fun n => by
    rw [probs_apply, hM, max_eq_right bot_le, exp_sub (hT _), masked_real q k qr kr hq hk]
    unfold weight e1
    by_cases hn : n.val ≤ t.val
    · simp [hn]
    · simp [hn]
  rw [weights_apply, hp, Finset.sum_congr rfl fun n' _ => hp n', coe_sum, ← Finset.sum_mul,
    div_coe _ (mul_pos (sum_weight_pos qr kr b h c t) (Real.exp_pos _)).ne', mul_div_mul_right _ _ (Real.exp_pos _).ne']

variable (hv : ∀ b t h d, (v (ix4 b t h d) : EReal) = (vr b t h d : EReal)) (hl : ∀ r x, (l (ix2 r x) : EReal) = (lr r x : EReal))
include hv hl

theorem heads_real (b : Fin 2) (h : Fin 8) (t : Fin 4112) (d : Fin 256) :
    (heads v (diff (weights (probs (masked q k))) (lambda l)) (ix4 b t h d) : EReal) = (head qr kr vr lr b h t d : EReal) := by
  have hlam : (lambda l ix0 : EReal) = (coeff lr : EReal) := by
    rw [lambda_apply]; exact coeff_eq lr (fun r x => (l (ix2 r x) : EReal)) hl
  rw [heads_apply]
  refine (Finset.sum_congr rfl (g := fun n => ((vr b n h d * (weight qr kr b h 0 t n / (∑ n' : Fin 4112, weight qr kr b h 0 t n')
    - coeff lr * (weight qr kr b h 1 t n / ∑ n' : Fin 4112, weight qr kr b h 1 t n')) : ℝ) : EReal)) fun n _ => ?_).trans ?_
  · rw [diff_apply, hv, hlam, weights_real q k qr kr hq hk, weights_real q k qr kr hq hk, ← EReal.coe_mul, ← EReal.coe_sub, ← EReal.coe_mul]
  · rw [coe_sum]
    congr 1
    unfold head
    rw [Finset.sum_mul, Finset.sum_mul, ← Finset.sum_sub_distrib]
    exact Finset.sum_congr rfl fun n _ => by ring

/-- The reference's result at a place. -/
theorem result_real (b : Fin 2) (t : Fin 4112) (h : Fin 8) (d : Fin 256) :
    (result q k v l g (ix3 b t ⟨256 * h.val + d.val, by omega⟩) : EReal)
      = norm1 (fun x => (head qr kr vr lr b h t x : EReal)) (g (ix1 d)) d := by
  unfold result
  rw [normed_apply]
  congr 1
  funext x
  exact heads_real q k v l qr kr vr lr hq hk hv hl b h t x

end

end Cert.ReferenceIdeal.Attn
-- ==== Proof.Head.lean ====
/- One grid point's output block as the reference's heads: the entry of the block at row `i` of query block `qi` and at place `d` of
   one of its two heads is the norm of that head's real output at token `384 qi + i`. -/
module

public import proofs.«01_k».proof.Proof.Block
public import proofs.«01_k».proof.Proof.Ref

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Row
open Cert.ReferenceIdeal.Attn (norm1 score weight coeff coeff_eq scale sum_weight_pos)

/-! ## The block, entry by entry -/

theorem normed_row (l0 l1 : FVec Ideal S384x1 .f32) (lam : Vec Ideal S1x4x128 .f32) (a0 a1 : Vec Ideal S1x384x256 .f32)
    (g : Vec Ideal S1x256 .f32) (i : Fin 384) (d : Fin 256) :
    (k0_pay231 (k0_pay229 l0 l1 lam a0 a1) (k0_pay230 g) (ix3 0 i d) : EReal)
      = norm1 (fun e => (a0 (ix3 0 i e) : EReal) * Ideal.div 1 (l0 (ix2 i 0)) - (a1 (ix3 0 i e) : EReal) * Ideal.div
          (Ideal.exp (∑ x : Fin 128, (lam (ix3 0 0 x) : EReal) * lam (ix3 0 1 x)) - Ideal.exp (∑ x : Fin 128, (lam (ix3 0 2 x) : EReal) * lam (ix3 0 3 x))
            + Ideal.ofBits FTy.f32 1055981900#32) (l1 (ix2 i 0))) (g (ix2 0 d)) d := by
  pointwise [k0_pay231, k0_pay230, k0_pay229, k0_pay228]
  rfl

variable (lam : Vec Ideal S1x4x128 .f32) (g : Vec Ideal S1x256 .f32) (q : Vec Ideal S1x384x512 .bf16) (K V : Vec Ideal S1x4224x512 .bf16)

/-- The two chains of the block's head `s`. -/
abbrev first (s : Fin 2) : Fin 4 := ⟨2 * s.val, by omega⟩
abbrev second (s : Fin 2) : Fin 4 := ⟨2 * s.val + 1, by omega⟩

theorem outBlk_apply (qi : ℕ) (s : Fin 2) (i : Fin 384) (d : Fin 256) :
    outBlk lam g q K V qi (ix3 0 i ⟨256 * s.val + d.val, by omega⟩)
      = head lam g (chainsAt (cols q) K V qi (first s)) (chainsAt (cols q) K V qi (second s)) (ix3 0 i d) := by
  unfold outBlk beside
  match s with
  | ⟨0, _⟩ =>
    have h : ((ix3 0 i ⟨256 * 0 + d.val, by omega⟩ : S1x384x512.Idx) 2).val < 256 := by show 256 * 0 + d.val < 256; omega
    rw [dif_pos h]
    refine congrArg _ (funext fun a => ?_)
    match a with
    | ⟨0, _⟩ => rfl
    | ⟨1, _⟩ => rfl
    | ⟨2, _⟩ => exact Fin.ext (by show 256 * 0 + d.val = d.val; omega)
  | ⟨1, _⟩ =>
    have h : ¬((ix3 0 i ⟨256 * 1 + d.val, by omega⟩ : S1x384x512.Idx) 2).val < 256 := by show ¬(256 * 1 + d.val < 256); omega
    rw [dif_neg h]
    refine congrArg _ (funext fun a => ?_)
    match a with
    | ⟨0, _⟩ => rfl
    | ⟨1, _⟩ => rfl
    | ⟨2, _⟩ => exact Fin.ext (by show 256 * 1 + d.val - 256 = d.val; omega)

/-! ## The padded arrays -/

/-- Queries or keys laid out flat, a token's heads and softmaxes one after another, zero past the last token. -/
def flat (x : Fin 2 → Fin 4112 → Fin 8 → Fin 2 → Fin 128 → ℝ) (b : Fin 2) (n e : ℕ) : ℝ :=
  if h : n < 4112 then x b ⟨n, h⟩ ⟨e / 256 % 8, by omega⟩ ⟨e / 128 % 2, by omega⟩ ⟨e % 128, by omega⟩ else 0

/-- Values laid out flat, likewise. -/
def flatV (x : Fin 2 → Fin 4112 → Fin 8 → Fin 256 → ℝ) (b : Fin 2) (n e : ℕ) : ℝ :=
  if h : n < 4112 then x b ⟨n, h⟩ ⟨e / 256 % 8, by omega⟩ ⟨e % 256, by omega⟩ else 0

/-- The factor the queries come in with. -/
def kappa : ℝ := 1 / (Real.log 2 * Real.sqrt 128)

theorem kappa_scale (x : ℝ) : (2 : ℝ) ^ (x * kappa) = Real.exp (x * scale) := by
  have h2 : Real.log 2 ≠ 0 := (Real.log_pos (by norm_num)).ne'
  have h128 : Real.sqrt 128 ≠ 0 := by positivity
  rw [Real.rpow_def_of_pos (by norm_num)]
  unfold kappa scale
  congr 1
  field_simp

/-- A sum over the tokens not later than `t`, as a sum over all tokens of terms that vanish later. -/
theorem sum_upto (t : ℕ) (ht : t < 4112) (f : ℕ → ℝ) (w : Fin 4112 → ℝ) (h1 : ∀ n : Fin 4112, n.val ≤ t → w n = f n.val)
    (h2 : ∀ n : Fin 4112, ¬n.val ≤ t → w n = 0) : ∑ j ∈ Finset.range (t + 1), f j = ∑ n : Fin 4112, w n := by
  have e : ∀ n : Fin 4112, w n = (fun j : ℕ => if j ≤ t then f j else 0) n.val := fun n => by
    by_cases h : n.val ≤ t
    · simp [h, h1 n h]
    · simp [h, h2 n h]
  rw [Finset.sum_congr rfl fun n _ => e n, Fin.sum_univ_eq_sum_range (fun j : ℕ => if j ≤ t then f j else 0) 4112]
  refine Finset.sum_subset_zero_on_sdiff (fun j hj => ?_) (fun j hj => ?_) (fun j hj => ?_)
  · rw [Finset.mem_range] at hj ⊢; omega
  · rw [Finset.mem_sdiff, Finset.mem_range, Finset.mem_range] at hj
    exact if_neg (by omega)
  · rw [Finset.mem_range] at hj
    exact (if_pos (by omega)).symm

section
variable (qr kr : Fin 2 → Fin 4112 → Fin 8 → Fin 2 → Fin 128 → ℝ) (vr : Fin 2 → Fin 4112 → Fin 8 → Fin 256 → ℝ) (lr : Fin 4 → Fin 128 → ℝ)
  (b : Fin 2) (hp : Fin 4) (qi : ℕ)

/-- The block's queries, keys and values. -/
def qB (i : Fin 384) (e : Fin 512) : ℝ := flat qr b (384 * qi + i.val) (512 * hp.val + e.val) * kappa
def kB (n : ℕ) (e : Fin 512) : ℝ := flat kr b n (512 * hp.val + e.val)
def vB (n : ℕ) (e : Fin 512) : ℝ := flatV vr b n (512 * hp.val + e.val)

/-- The head that a grid point's head `s` is. -/
abbrev hd (s : Fin 2) : Fin 8 := ⟨2 * hp.val + s.val, by omega⟩

theorem flat_kc (x : Fin 2 → Fin 4112 → Fin 8 → Fin 2 → Fin 128 → ℝ) (s r : Fin 2) (c : Fin 4) (hc : c.val = 2 * s.val + r.val) (n : ℕ)
    (hn : n < 4112) (y : Fin 128) : flat x b n (512 * hp.val + (kc c y).val) = x b ⟨n, hn⟩ (hd hp s) r y := by
  unfold flat
  rw [dif_pos hn]
  have e : (kc c y).val = 128 * c.val + y.val := rfl
  have a1 : (⟨(512 * hp.val + (kc c y).val) / 256 % 8, by omega⟩ : Fin 8) = hd hp s :=
    Fin.ext (by show (512 * hp.val + (kc c y).val) / 256 % 8 = 2 * hp.val + s.val; omega)
  have a2 : (⟨(512 * hp.val + (kc c y).val) / 128 % 2, by omega⟩ : Fin 2) = r :=
    Fin.ext (by show (512 * hp.val + (kc c y).val) / 128 % 2 = r.val; omega)
  have a3 : (⟨(512 * hp.val + (kc c y).val) % 128, by omega⟩ : Fin 128) = y :=
    Fin.ext (by show (512 * hp.val + (kc c y).val) % 128 = y.val; omega)
  rw [a1, a2, a3]

theorem flat_vc (s r : Fin 2) (c : Fin 4) (hc : c.val = 2 * s.val + r.val) (n : ℕ) (hn : n < 4112) (d : Fin 256) :
    vB vr b hp n (vc c d) = vr b ⟨n, hn⟩ (hd hp s) d := by
  unfold vB flatV
  rw [dif_pos hn]
  have e : (vc c d).val = 256 * (c.val / 2) + d.val := rfl
  have a1 : (⟨(512 * hp.val + (vc c d).val) / 256 % 8, by omega⟩ : Fin 8) = hd hp s :=
    Fin.ext (by show (512 * hp.val + (vc c d).val) / 256 % 8 = 2 * hp.val + s.val; omega)
  have a2 : (⟨(512 * hp.val + (vc c d).val) % 256, by omega⟩ : Fin 256) = d :=
    Fin.ext (by show (512 * hp.val + (vc c d).val) % 256 = d.val; omega)
  rw [a1, a2]

/-- Two to a chain's score is the weight. -/
theorem two_pow_sc (s r : Fin 2) (c : Fin 4) (hc : c.val = 2 * s.val + r.val) (i : Fin 384) (t : Fin 4112) (ht : t.val = 384 * qi + i.val)
    (n : Fin 4112) (hn : n.val ≤ t.val) :
    weight qr kr b (hd hp s) r t n = (2 : ℝ) ^ sc (qB qr b hp qi) (kB kr b hp) c i n.val := by
  have e : sc (qB qr b hp qi) (kB kr b hp) c i n.val = (∑ x : Fin 128, qr b t (hd hp s) r x * kr b n (hd hp s) r x) * kappa := by
    unfold sc qB kB
    rw [Finset.sum_mul]
    refine Finset.sum_congr rfl fun x _ => ?_
    rw [flat_kc b hp qr s r c hc _ (by omega) x, flat_kc b hp kr s r c hc _ n.isLt x]
    have et : (⟨384 * qi + i.val, by omega⟩ : Fin 4112) = t := Fin.ext ht.symm
    rw [et]
    ring
  rw [e, kappa_scale]
  unfold weight score
  rw [if_pos hn]

theorem weight_late (h : Fin 8) (r : Fin 2) (t n : Fin 4112) (hn : ¬n.val ≤ t.val) : weight qr kr b h r t n = 0 := by
  unfold weight; rw [if_neg hn]

variable (hqi : qi < 11)
  (hq : ∀ i e, (q (ix3 0 i e) : EReal) = (qB qr b hp qi i e : EReal))
  (hK : ∀ (n : ℕ) (h : n < 4224) e, (K (ix3 0 ⟨n, h⟩ e) : EReal) = (kB kr b hp n e : EReal))
  (hV : ∀ (n : ℕ) (h : n < 4224) e, (V (ix3 0 ⟨n, h⟩ e) : EReal) = (vB vr b hp n e : EReal))
include hqi hq hK hV

/-- A chain's row: its weights are the reference's. -/
theorem chain_row (s r : Fin 2) (c : Fin 4) (hc : c.val = 2 * s.val + r.val) (i : Fin 384) (t : Fin 4112) (ht : t.val = 384 * qi + i.val) :
    GoodRow (chainsAt (cols q) K V qi c) i (∑ n : Fin 4112, weight qr kr b (hd hp s) r t n)
      fun d => ∑ n : Fin 4112, weight qr kr b (hd hp s) r t n * vr b n (hd hp s) d := by
  have h := chainsAt_good q K V _ _ _ hq hK hV c i qi hqi
  have e1 : 384 * qi + i.val + 1 = t.val + 1 := by omega
  have hW := sum_upto t.val t.isLt (fun j => (2 : ℝ) ^ sc (qB qr b hp qi) (kB kr b hp) c i j) (weight qr kr b (hd hp s) r t)
    (fun n hn => two_pow_sc qr kr b hp qi s r c hc i t ht n hn) (fun n hn => weight_late qr kr b _ r t n hn)
  have hA : ∀ d, _ = _ := fun d => sum_upto t.val t.isLt (fun j => (2 : ℝ) ^ sc (qB qr b hp qi) (kB kr b hp) c i j * vB vr b hp j (vc c d))
    (fun n => weight qr kr b (hd hp s) r t n * vr b n (hd hp s) d)
    (fun n hn => by rw [two_pow_sc qr kr b hp qi s r c hc i t ht n hn, flat_vc vr b hp s r c hc n.val n.isLt d])
    (fun n hn => by rw [weight_late qr kr b _ r t n hn, zero_mul])
  rw [e1, hW, funext hA] at h
  exact h

/-- The block's entry. -/
theorem outBlk_real (hl : ∀ r x, (lam (ix3 0 r x) : EReal) = (lr r x : EReal)) (s : Fin 2) (i : Fin 384) (t : Fin 4112)
    (ht : t.val = 384 * qi + i.val) (d : Fin 256) :
    (outBlk lam g q K V qi (ix3 0 i ⟨256 * s.val + d.val, by omega⟩) : EReal)
      = norm1 (fun x => (Cert.ReferenceIdeal.Attn.head qr kr vr lr b (hd hp s) t x : EReal)) (g (ix2 0 d)) d := by
  rw [outBlk_apply]
  unfold head
  rw [normed_row, coeff_eq lr (fun r x => (lam (ix3 0 r x) : EReal)) hl]
  congr 1
  funext e
  have h0 := chain_row q K V qr kr vr b hp qi hqi hq hK hV s 0 (first s) rfl i t ht
  have h1 := chain_row q K V qr kr vr b hp qi hqi hq hK hV s 1 (second s) rfl i t ht
  have r0 := Good.ratio h0 (sum_weight_pos qr kr b (hd hp s) 0 t) 1 e
  have r1 := Good.ratio h1 (sum_weight_pos qr kr b (hd hp s) 1 t) (coeff lr) e
  have c1 : ((1 : ℝ) : EReal) = 1 := EReal.coe_one
  rw [c1] at r0
  refine (congrArg₂ (fun a b : EReal => a - b) r0 r1).trans ?_
  rw [← EReal.coe_sub]
  rfl

end

end Cert.KernelIdeal.Attn

end
-- ==== Proof.Run.lean ====
/- The kernel on one grid point, and the run of the whole program: every window's array at what the points leave. -/
module

public import proofs.«01_k».proof.Proof.Body
public import proofs.«01_k».proof.Proof.Gen.KernelIdeal.Frame
public import Idealize.ShloMosaic.Lib.Pipeline.Quiescent

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg BodyObligation)
open Idealize.SL.BI.BIBase Idealize.SL.BI.Laws Idealize.SL.ProofMode Idealize.SL.Sem

variable {F : FTy → Type} [FloatOps F]
local notation "𝕄G" => MT nD τ sig Unit (Elt F) ℕ (UR sig nD τ) ℕ

/-- The kernel on one grid point: the inputs kept, the output block written, the scratch at anything. -/
theorem kernel_triple (𝒱 : Variants) (c : Dev nD) (bd : Option 𝒱.V) (i : grid0.Coords) (arg3 : Memref sig .tc .vmem S1x4x128 .f32) (harg3 : arg3.IsWhole) (arg4 : Memref sig .tc .vmem S1x256 .f32) (harg4 : arg4.IsWhole) (arg5 : Memref sig .tc .vmem S1x384x512 .bf16) (harg5 : arg5.IsWhole) (arg6 : Memref sig .tc .vmem S1x4224x512 .bf16) (harg6 : arg6.IsWhole) (arg7 : Memref sig .tc .vmem S1x4224x512 .bf16) (harg7 : arg7.IsWhole) (arg8 : Memref sig .tc .vmem S1x384x512 .bf16) (harg8 : arg8.IsWhole) (arg9 : Memref sig .tc .vmem S4x384x256 .f32) (harg9 : arg9.IsWhole)
    (lam : Vec F S1x4x128 .f32) (g : Vec F S1x256 .f32) (q : Vec F S1x384x512 .bf16) (K V : Vec F S1x4224x512 .bf16) (E : Set ℕ) :
    (iprop(owns (c : Thread nD τ) arg3 fullShare lam ∗ owns (c : Thread nD τ) arg4 fullShare g ∗ owns (c : Thread nD τ) arg5 fullShare q ∗ owns (c : Thread nD τ) arg6 fullShare K ∗ owns (c : Thread nD τ) arg7 fullShare V ∗ (∃ d, owns (c : Thread nD τ) arg8 fullShare d) ∗ (∃ d, owns (c : Thread nD τ) arg9 fullShare d)) : sProp 𝕄G)
    ⊢ wp frame (wpE (defs₀ (F := F)) 𝒱 (c : Thread nD τ) bd) E (cc0__attn_kernel (F := F) i arg3 harg3 arg4 harg4 arg5 harg5 arg6 harg6 arg7 harg7 arg8 harg8 arg9 harg9)
        (fun _ => iprop(owns (c : Thread nD τ) arg3 fullShare lam ∗ owns (c : Thread nD τ) arg4 fullShare g ∗ owns (c : Thread nD τ) arg5 fullShare q ∗ owns (c : Thread nD τ) arg6 fullShare K ∗ owns (c : Thread nD τ) arg7 fullShare V ∗ owns (c : Thread nD τ) arg8 fullShare (outBlk lam g q K V (i 2).val) ∗ (∃ d, owns (c : Thread nD τ) arg9 fullShare d))) := by
  unfold owns
  iintro ⟨⟨%X3, %h3, H3⟩, ⟨%X4, %h4, H4⟩, ⟨%X5, %h5, H5⟩, ⟨%X6, %h6, H6⟩, ⟨%X7, %h7, H7⟩, ⟨%d8, %X8, %h8, H8⟩, ⟨%d9, %X9, %h9, H9⟩⟩
  subst h3 h4 h5 h6 h7 h8 h9
  rw [cc0__attn_kernel_eq_skeleton]
  unfold cc0__attn_kernel_skel
  iapply (exec_cut _ _ _ (opening (F := F) 𝒱 c bd i arg3 harg3 arg4 harg4 arg5 harg5 arg6 harg6 arg7 harg7 arg8 harg8 arg9 harg9 X5 X9 E)) $$ [H5 H9]
  · isplitl [H5]
    · iexact H5
    iexact H9
  iintro %r ⟨%w2, %w28, %wc, %w29, %w34, %w35, %hr, H5, H9⟩
  subst hr
  iapply (exec_cut _ _ _ (sweep (F := F) 𝒱 c bd i arg3 harg3 arg4 harg4 arg5 harg5 arg6 harg6 arg7 harg7 arg8 harg8 arg9 harg9 w2 (k0_pay206 (arg5.view.read (Elt F) X5)) (k0_pay207 (arg5.view.read (Elt F) X5)) (k0_pay208 (arg5.view.read (Elt F) X5)) (k0_pay209 (arg5.view.read (Elt F) X5))
    (start (F := F) 0).1 (start (F := F) 0).2.1 w28 wc w29 w34 w35 X6 X7 E rfl rfl)) $$ [H6 H7 H9]
  · isplitl [H6]
    · iexact H6
    isplitl [H7]
    · iexact H7
    iexact H9
  iintro %r ⟨%hr, H6, H7, H9⟩
  subst hr
  iapply (exec_cut_last _ _ _ (closing (F := F) 𝒱 c bd i arg3 harg3 arg4 harg4 arg5 harg5 arg6 harg6 arg7 harg7 arg8 harg8 arg9 harg9 X3 X4 X8
    (chainsAt (cols (arg5.view.read (Elt F) X5)) (arg6.view.read (Elt F) X6) (arg7.view.read (Elt F) X7) (i 2).val) E)) $$ [H3 H4 H8 H9]
  · isplitl [H3]
    · iexact H3
    isplitl [H4]
    · iexact H4
    isplitl [H8]
    · iexact H8
    iexact H9
  iintro %r ⟨H3, H4, H8, H9⟩
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; exact View.read_rep _ _
  iexists _; iexists _; isplitr; swap; · iexact H9
  ipureintro; rfl

variable (m : (ℓ : Loc nD τ sig) → Buf (Elt F) ℓ) (ρ : Dev nD → PrngReg)

/-- What grid point `t` leaves in the output's block: both heads of its pair, computed from the point's blocks. -/
def outAt (c : Dev nD) (t : Fin cfg0.N) : Vec F S1x384x512 .bf16 :=
  outBlk (iblk m c 0 t) (iblk m c 1 t) (iblk m c 2 t) (iblk m c 3 t) (iblk m c 4 t) (grid0.coords t 2).val

/-- The proof data: the arrays as the region finds them; after a point each input's buffer at its block and the output's at
    `outAt`; the scratch at anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem PhiA_eq (c : Dev nD) : (Pipeline.ΦA spec0 c : sProp 𝕄G)
    = iprop((∃ f, owns (c : Thread nD τ) (Memref.whole cc0_scratch0) fullShare f) ∗ ∃ r, prngReg c r) := by
  unfold Pipeline.ΦA
  rw [scopedRest0_eq]
  simp only [owns_whole]
  try rfl

def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)))
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl, after0_0, after0_1, after0_2, after0_3, after0_4, after0_5]
  rw [show (dats m 0 c).Φ t.castSucc = Pipeline.ΦA spec0 c from rfl, PhiA_eq]
  iintro ⟨⟨HS, Hg⟩, Ho, ⟨%d0, H0⟩, ⟨%d1, H1⟩, ⟨%d2, H2⟩, ⟨%d3, H3⟩, ⟨%d4, H4⟩, ⟨%d5, H5⟩⟩
  iapply (exec_cut_last _ _ _ (kernel_triple (F := F) Variants.none c none (grid0.coords t) _ _ _ _ _ _ _ _ _ _ _ _ _ _
    (iblk m c 0 t) (iblk m c 1 t) (iblk m c 2 t) (iblk m c 3 t) (iblk m c 4 t) Set.univ)) $$ [HS H0 H1 H2 H3 H4 H5]
  · isplitl [H0]; · iexact H0
    isplitl [H1]; · iexact H1
    isplitl [H2]; · iexact H2
    isplitl [H3]; · iexact H3
    isplitl [H4]; · iexact H4
    isplitl [H5]; · iexists _; iexact H5
    iexact HS
  iintro %r ⟨H0, H1, H2, H3, H4, H5, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program, from any memory with zero counters, over any float values: it ends, with every array at what the points
    leave and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The arguments are left as they were and every counter is zero at the end. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) (A_eq m)) (run_main m ρ)

end Cert.KernelIdeal.Attn

end
-- ==== Proof.Arrays.lean ====
/- The arrays the windows are cut from — the queries, keys and values laid flat and padded with zero rows — and each block's entries
   as real numbers. -/
module

public import proofs.«01_k».proof.Proof.Head
public import proofs.«01_k».proof.Proof.Run
public import Idealize.ShloMosaic.Lib.Claim
public import Idealize.ShloMosaic.Lib.Pipeline.ValueKit
public import Idealize.ShloMosaic.Lib.Pointwise

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Row
open Cert.ReferenceIdeal.Attn (ofBits_128)

/-- The windows' index maps. -/
theorem idx : ∀ t : Fin cfg0.N, win0_0.index t = ![0, 0, 0] ∧ win0_1.index t = ![0, 0]
    ∧ win0_2.index t = ![(grid0.coords t 0).val, (grid0.coords t 2).val, (grid0.coords t 1).val]
    ∧ win0_3.index t = ![(grid0.coords t 0).val, 0, (grid0.coords t 1).val]
    ∧ win0_4.index t = ![(grid0.coords t 0).val, 0, (grid0.coords t 1).val]
    ∧ win0_5.index t = ![(grid0.coords t 0).val, (grid0.coords t 2).val, (grid0.coords t 1).val] :=
  (by decide +kernel : ∀ t : Fin grid0.N, _)

/-! ## Scaled and padded -/

/-- Padded with zero rows and cast. -/
def padded (x : Vec Ideal S2x4112x2048 .f32) : Vec Ideal S2x4224x2048 .bf16 :=
  truncf .bf16 (concatenate S2x4224x2048 1 [⟨S2x4112x2048, x⟩, ⟨S2x112x2048, broadcastInDim S2x112x2048 ![] bcast_S_S2x112x2048
    (constant (F := Ideal) S_ .f32 0x00000000#32)⟩] concatenates_S2x4112x2048_S2x112x2048_S2x4224x2048_d1) bitsLt_bf16_f32

/-- The scaled queries. -/
def scaled (q : FVec Ideal S2x4112x8x2x128 .f32) : FVec Ideal S2x4112x8x2x128 .f32 :=
  mulf q (broadcastInDim S2x4112x8x2x128 ![] bcast_S_S2x4112x8x2x128 (Host.divf (constant (F := Ideal) S_ .f32 0x3F800000#32)
    (mulf (Host.log (constant (F := Ideal) S_ .f32 0x40000000#32)) (Host.sqrt (constant (F := Ideal) S_ .f32 0x43000000#32)))))

theorem padded_apply (x : Vec Ideal S2x4112x2048 .f32) (b : Fin 2) (n : Fin 4224) (e : Fin 2048) :
    (padded x (ix3 b n e) : EReal) = if h : n.val < 4112 then (x (ix3 b ⟨n.val, h⟩ e) : EReal) else 0 := by
  pointwise [padded]

theorem flat_apply (x : Vec Ideal S2x4112x8x2x128 .f32) (xr : Fin 2 → Fin 4112 → Fin 8 → Fin 2 → Fin 128 → ℝ)
    (hx : ∀ b t h c y, (x (ix5 b t h c y) : EReal) = (xr b t h c y : EReal)) (b : Fin 2) (n : Fin 4224) (e : Fin 2048) :
    (padded (shapeCast S2x4112x2048 x shapeCasts_S2x4112x8x2x128_S2x4112x2048) (ix3 b n e) : EReal) = (flat xr b n.val e.val : EReal) := by
  rw [padded_apply]
  unfold flat
  by_cases h : n.val < 4112
  · rw [dif_pos h, dif_pos h, ← hx]
    have he : e.val / 256 % 8 = e.val / 256 := by omega
    refine Eq.trans (b := (x (ix5 b ⟨n.val, h⟩ ⟨e.val / 256, by omega⟩ ⟨e.val / 128 % 2, by omega⟩ ⟨e.val % 128, by omega⟩) : EReal)) (by pointwise []) ?_
    congr 2
    exact Fin.ext he.symm
  · rw [dif_neg h, dif_neg h]; rfl

theorem flatV_apply (x : Vec Ideal S2x4112x8x256 .f32) (xr : Fin 2 → Fin 4112 → Fin 8 → Fin 256 → ℝ)
    (hx : ∀ b t h y, (x (ix4 b t h y) : EReal) = (xr b t h y : EReal)) (b : Fin 2) (n : Fin 4224) (e : Fin 2048) :
    (padded (shapeCast S2x4112x2048 x shapeCasts_S2x4112x8x256_S2x4112x2048) (ix3 b n e) : EReal) = (flatV xr b n.val e.val : EReal) := by
  rw [padded_apply]
  unfold flatV
  by_cases h : n.val < 4112
  · rw [dif_pos h, dif_pos h, ← hx]
    have he : e.val / 256 % 8 = e.val / 256 := by omega
    refine Eq.trans (b := (x (ix4 b ⟨n.val, h⟩ ⟨e.val / 256, by omega⟩ ⟨e.val % 256, by omega⟩) : EReal)) (by pointwise []) ?_
    congr 2
    exact Fin.ext he.symm
  · rw [dif_neg h, dif_neg h]; rfl

theorem ofBits_2 : Ideal.ofBits FTy.f32 1073741824#32 = ((2 : ℝ) : EReal) := by
  simp [Ideal.ofBits, Ideal.ieee, -EReal.coe_mul]; norm_num

theorem kappa_eq : Ideal.div 1 (Ideal.log (Ideal.ofBits FTy.f32 1073741824#32) * Ideal.sqrt (Ideal.ofBits FTy.f32 1124073472#32)) = (kappa : EReal) := by
  rw [ofBits_128, ofBits_2]
  have h : Ideal.sqrt ((128 : ℝ) : EReal) = ((Real.sqrt 128 : ℝ) : EReal) := by
    show (if (128 : ℝ) < 0 then ⊥ else ((Real.sqrt 128 : ℝ) : EReal)) = _
    rw [if_neg (by norm_num)]
  have h2 : Ideal.log ((2 : ℝ) : EReal) = ((Real.log 2 : ℝ) : EReal) := by
    show (if (2 : ℝ) ≤ 0 then ⊥ else ((Real.log 2 : ℝ) : EReal)) = _
    rw [if_neg (by norm_num)]
  have hl : Real.log 2 ≠ 0 := (Real.log_pos (by norm_num)).ne'
  rw [h, h2, ← EReal.coe_mul, show (1 : EReal) = ((1 : ℝ) : EReal) by norm_cast, div_coe _ (by positivity)]
  rfl

theorem scaled_apply (q : FVec Ideal S2x4112x8x2x128 .f32) (qr : Fin 2 → Fin 4112 → Fin 8 → Fin 2 → Fin 128 → ℝ)
    (hq : ∀ b t h c y, (q (ix5 b t h c y) : EReal) = (qr b t h c y : EReal)) (b : Fin 2) (t : Fin 4112) (h : Fin 8) (r : Fin 2) (y : Fin 128) :
    (scaled q (ix5 b t h r y) : EReal) = ((qr b t h r y * kappa : ℝ) : EReal) := by
  refine Eq.trans (b := (q (ix5 b t h r y) : EReal) * Ideal.div 1 (Ideal.log (Ideal.ofBits FTy.f32 1073741824#32) * Ideal.sqrt (Ideal.ofBits FTy.f32 1124073472#32)))
    (by pointwise [scaled]) ?_
  rw [kappa_eq, hq, ← EReal.coe_mul]

theorem flat_mul (x : Fin 2 → Fin 4112 → Fin 8 → Fin 2 → Fin 128 → ℝ) (a : ℝ) (b : Fin 2) (n e : ℕ) :
    flat (fun b t h c y => x b t h c y * a) b n e = flat x b n e * a := by
  unfold flat
  split
  · rfl
  · rw [zero_mul]

/-! ## The blocks -/

variable (m : (ℓ : Loc nD τ sig) → Buf (Elt Ideal) ℓ) (c : Dev nD)
  (q k : FVec Ideal S2x4112x8x2x128 .f32) (v : FVec Ideal S2x4112x8x256 .f32) (l : FVec Ideal S4x128 .f32) (g : FVec Ideal S256 .f32)

theorem v9_eq (hq : m ((c.tc : Thread nD τ).loc main_arg0) = q) :
    V m c main_v9 = padded (shapeCast S2x4112x2048 (scaled q) shapeCasts_S2x4112x8x2x128_S2x4112x2048) := by
  subst hq; entry_read; rfl
theorem v13_eq (hk : m ((c.tc : Thread nD τ).loc main_arg1) = k) :
    V m c main_v13 = padded (shapeCast S2x4112x2048 k shapeCasts_S2x4112x8x2x128_S2x4112x2048) := by
  subst hk; entry_read; rfl
theorem v17_eq (hv : m ((c.tc : Thread nD τ).loc main_arg2) = v) :
    V m c main_v17 = padded (shapeCast S2x4112x2048 v shapeCasts_S2x4112x8x256_S2x4112x2048) := by
  subst hv; entry_read; rfl
theorem v18_eq (hl : m ((c.tc : Thread nD τ).loc main_arg3) = l) : V m c main_v18 = shapeCast S1x4x128 l shapeCasts_S4x128_S1x4x128 := by
  subst hl; entry_read; rfl
theorem v19_eq (hg : m ((c.tc : Thread nD τ).loc main_arg4) = g) : V m c main_v19 = shapeCast S1x256 g shapeCasts_S256_S1x256 := by
  subst hg; entry_read; rfl

/-- A grid point's batch, head pair and block of queries. -/
abbrev tb (t : Fin cfg0.N) : Fin 2 := ⟨(grid0.coords t 0).val, (grid0.coords t 0).isLt⟩
abbrev thp (t : Fin cfg0.N) : Fin 4 := ⟨(grid0.coords t 1).val, (grid0.coords t 1).isLt⟩
abbrev tqi (t : Fin cfg0.N) : ℕ := (grid0.coords t 2).val
theorem tqi_lt (t : Fin cfg0.N) : tqi t < 11 := (grid0.coords t 2).isLt

theorem iblk0_apply (hl : m ((c.tc : Thread nD τ).loc main_arg3) = l) (t : Fin cfg0.N) (r : Fin 4) (x : Fin 128) :
    (iblk m c 0 t (ix3 0 r x) : EReal) = (l (ix2 r x) : EReal) := by
  have e : ∀ X : Vec Ideal S1x4x128 .f32, X ((win0_0.blk t).view.emb (ix3 0 r x)) = X (ix3 0 r x) := fun X => by blk_ext [idx t]
  blk_simp [iblk, idx t]
  rw [v18_eq m c l hl]
  refine (e _).trans ?_
  pointwise []

theorem iblk1_apply (hg : m ((c.tc : Thread nD τ).loc main_arg4) = g) (t : Fin cfg0.N) (d : Fin 256) :
    (iblk m c 1 t (ix2 0 d) : EReal) = (g (ix1 d) : EReal) := by
  have e : ∀ X : Vec Ideal S1x256 .f32, X ((win0_1.blk t).view.emb (ix2 0 d)) = X (ix2 0 d) := fun X => by blk_ext [idx t]
  blk_simp [iblk, idx t]
  rw [v19_eq m c g hg]
  refine (e _).trans ?_
  pointwise []

theorem iblk2_apply (hq : m ((c.tc : Thread nD τ).loc main_arg0) = q) (qr : Fin 2 → Fin 4112 → Fin 8 → Fin 2 → Fin 128 → ℝ)
    (hqr : ∀ b t h c y, (q (ix5 b t h c y) : EReal) = (qr b t h c y : EReal)) (t : Fin cfg0.N) (i : Fin 384) (e : Fin 512) :
    (iblk m c 2 t (ix3 0 i e) : EReal) = (qB qr (tb t) (thp t) (tqi t) i e : EReal) := by
  have h1 := tqi_lt t
  have h2 := (thp t).isLt
  have h : ∀ X : Vec Ideal S2x4224x2048 .bf16, X ((win0_2.blk t).view.emb (ix3 0 i e))
      = X (ix3 (tb t) ⟨384 * tqi t + i.val, by omega⟩ ⟨512 * (thp t).val + e.val, by omega⟩) := fun X => by
    blk_ext [idx t]
    show (grid0.coords t 2).val * 384 + i.val = 384 * (grid0.coords t 2).val + i.val
    omega
  blk_simp [iblk, idx t]
  rw [v9_eq m c q hq]
  refine (h _).trans ?_
  rw [flat_apply _ _ (scaled_apply q qr hqr), flat_mul]
  rfl

theorem iblk3_apply (hk : m ((c.tc : Thread nD τ).loc main_arg1) = k) (kr : Fin 2 → Fin 4112 → Fin 8 → Fin 2 → Fin 128 → ℝ)
    (hkr : ∀ b t h c y, (k (ix5 b t h c y) : EReal) = (kr b t h c y : EReal)) (t : Fin cfg0.N) (n : ℕ) (hn : n < 4224) (e : Fin 512) :
    (iblk m c 3 t (ix3 0 ⟨n, hn⟩ e) : EReal) = (kB kr (tb t) (thp t) n e : EReal) := by
  have h2 := (thp t).isLt
  have h : ∀ X : Vec Ideal S2x4224x2048 .bf16, X ((win0_3.blk t).view.emb (ix3 0 ⟨n, hn⟩ e))
      = X (ix3 (tb t) ⟨n, hn⟩ ⟨512 * (thp t).val + e.val, by omega⟩) := fun X => by blk_ext [idx t]
  blk_simp [iblk, idx t]
  rw [v13_eq m c k hk]
  refine (h _).trans ?_
  rw [flat_apply _ _ hkr]
  rfl

theorem iblk4_apply (hv : m ((c.tc : Thread nD τ).loc main_arg2) = v) (vr : Fin 2 → Fin 4112 → Fin 8 → Fin 256 → ℝ)
    (hvr : ∀ b t h y, (v (ix4 b t h y) : EReal) = (vr b t h y : EReal)) (t : Fin cfg0.N) (n : ℕ) (hn : n < 4224) (e : Fin 512) :
    (iblk m c 4 t (ix3 0 ⟨n, hn⟩ e) : EReal) = (vB vr (tb t) (thp t) n e : EReal) := by
  have h2 := (thp t).isLt
  have h : ∀ X : Vec Ideal S2x4224x2048 .bf16, X ((win0_4.blk t).view.emb (ix3 0 ⟨n, hn⟩ e))
      = X (ix3 (tb t) ⟨n, hn⟩ ⟨512 * (thp t).val + e.val, by omega⟩) := fun X => by blk_ext [idx t]
  blk_simp [iblk, idx t]
  rw [v17_eq m c v hv]
  refine (h _).trans ?_
  rw [flatV_apply _ _ hvr]
  rfl

end Cert.KernelIdeal.Attn

end
-- ==== Proof.Value.lean ====
/- The idealized kernel's result array, entry by entry, and its run: for real arguments every entry is the reference's. -/
module

public import proofs.«01_k».proof.Proof.Arrays

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Row
open Cert.ReferenceIdeal.Attn (norm1)

variable (m : (ℓ : Loc nD τ sig) → Buf (Elt Ideal) ℓ) (c : Dev nD)
  (q k : FVec Ideal S2x4112x8x2x128 .f32) (v : FVec Ideal S2x4112x8x256 .f32) (l : FVec Ideal S4x128 .f32) (g : FVec Ideal S256 .f32)
  (qr kr : Fin 2 → Fin 4112 → Fin 8 → Fin 2 → Fin 128 → ℝ) (vr : Fin 2 → Fin 4112 → Fin 8 → Fin 256 → ℝ) (lr : Fin 4 → Fin 128 → ℝ)
  (hq : m ((c.tc : Thread nD τ).loc main_arg0) = q) (hk : m ((c.tc : Thread nD τ).loc main_arg1) = k)
  (hv : m ((c.tc : Thread nD τ).loc main_arg2) = v) (hl : m ((c.tc : Thread nD τ).loc main_arg3) = l)
  (hg : m ((c.tc : Thread nD τ).loc main_arg4) = g)
  (hqr : ∀ b t h c y, (q (ix5 b t h c y) : EReal) = (qr b t h c y : EReal)) (hkr : ∀ b t h c y, (k (ix5 b t h c y) : EReal) = (kr b t h c y : EReal))
  (hvr : ∀ b t h y, (v (ix4 b t h y) : EReal) = (vr b t h y : EReal)) (hlr : ∀ r x, (l (ix2 r x) : EReal) = (lr r x : EReal))

/-- What an entry of the padded result array is to hold: at a token, the reference's entry. -/
def Holds (i : S2x4224x2048.Idx) (x : EReal) : Prop :=
  ∀ (b : Fin 2) (n : Fin 4112) (h : Fin 8) (d : Fin 256), (i 0).val = b.val → (i 1).val = n.val → (i 2).val = 256 * h.val + d.val →
    x = norm1 (fun y => (Cert.ReferenceIdeal.Attn.head qr kr vr lr b h n y : EReal)) (g (ix1 d)) d

include hq hk hv hl hg hqr hkr hvr hlr

theorem out_entry (t : Fin cfg0.N) (y : S1x384x512.Idx) (b : Fin 2) (n : Fin 4112) (h : Fin 8) (d : Fin 256)
    (h0 : (grid0.coords t 0).val = b.val) (h1 : (grid0.coords t 2).val * 384 + (y 1).val = n.val)
    (h2 : (grid0.coords t 1).val * 512 + (y 2).val = 256 * h.val + d.val) :
    (outAt m c t y : EReal) = norm1 (fun y => (Cert.ReferenceIdeal.Attn.head qr kr vr lr b h n y : EReal)) (g (ix1 d)) d := by
  have y0 : (y 0).val < 1 := (y 0).isLt
  have y1 : (y 1).val < 384 := (y 1).isLt
  have y2 : (y 2).val < 512 := (y 2).isLt
  have t1 : (grid0.coords t 1).val < 4 := (grid0.coords t 1).isLt
  have ey : y = ix3 0 (y 1) ⟨256 * (h.val % 2) + d.val, by omega⟩ := by
    funext a
    match a with
    | ⟨0, _⟩ => exact Fin.ext (by show (y 0).val = 0; omega)
    | ⟨1, _⟩ => rfl
    | ⟨2, _⟩ => exact Fin.ext (by show (y 2).val = 256 * (h.val % 2) + d.val; omega)
  have eb : tb t = b := Fin.ext h0
  have eh : hd (thp t) ⟨h.val % 2, by omega⟩ = h := Fin.ext (by show 2 * (grid0.coords t 1).val + h.val % 2 = h.val; omega)
  have key := outBlk_real (iblk m c 0 t) (iblk m c 1 t) (iblk m c 2 t) (iblk m c 3 t) (iblk m c 4 t) qr kr vr lr (tb t) (thp t) (tqi t) (tqi_lt t)
    (iblk2_apply m c q hq qr hqr t) (iblk3_apply m c k hk kr hkr t) (iblk4_apply m c v hv vr hvr t)
    (fun r x => (iblk0_apply m c l hl t r x).trans (hlr r x)) ⟨h.val % 2, by omega⟩ (y 1) n (by show n.val = 384 * (grid0.coords t 2).val + (y 1).val; omega) d
  rw [iblk1_apply m c g hg t d, eb, eh] at key
  rw [ey]
  exact key

theorem final_holds (i : S2x4224x2048.Idx) : Holds g qr kr vr lr i ((dats m 0 c).arrAt 5 (cfgs 0).N i) := by
  refine (dats m 0 c).arrAt_forall_of_covers 5 (fun i x => Holds g qr kr vr lr i x) (by decide +kernel) (fun t _ y => ?_) i
  intro b n h d e0 e1 e2
  blk_simp [idx t] at e0 e1 e2
  blk_simp
  rw [after0_5]
  exact out_entry m c q k v l g qr kr vr lr hq hk hv hl hg hqr hkr hvr hlr t y b n h d e0 e1 e2

omit hq hk hv hl hg hqr hkr hvr hlr

/-- The result: the tokens' rows of the call's array. -/
def out : FVec Ideal S2x4112x2048 .bf16 :=
  extractStridedSlice S2x4112x2048 ![0, 0, 0] ((dats m 0 c).arrAt 5 (cfgs 0).N : FVec Ideal S2x4224x2048 .bf16) slices_S2x4224x2048_S2x4112x2048_0_0_0

theorem tail_eq : Pipeline.afterTail₀ cfgs (dats m) 0 (V0 m) [hostOps1] c main_v21 = out m c := by
  unfold Pipeline.afterTail₀ out
  simp only [hostOps1, List.flatten_cons, List.flatten_nil, List.append_nil]
  after_results_simp
  rw [show Pipeline.withArrays (cfgs 0).spec c (V0 m c) (fun w => (dats m 0 c).arrAt w (cfgs 0).N) (Proc.tc.devRef main_v20)
    = (dats m 0 c).arrAt 5 (cfgs 0).N from Pipeline.withArrays_arr spec0 (by decide) c (V0 m c) (fun w => (dats m 0 c).arrAt w (cfgs 0).N) 5]

include hq hk hv hl hg hqr hkr hvr hlr
/-- Every entry of the result is the reference's. -/
theorem out_real (b : Fin 2) (n : Fin 4112) (h : Fin 8) (d : Fin 256) :
    (out m c (ix3 b n ⟨256 * h.val + d.val, by omega⟩) : EReal)
      = norm1 (fun y => (Cert.ReferenceIdeal.Attn.head qr kr vr lr b h n y : EReal)) (g (ix1 d)) d := by
  have e : ∀ X : FVec Ideal S2x4224x2048 .bf16,
      extractStridedSlice S2x4112x2048 ![0, 0, 0] X slices_S2x4224x2048_S2x4112x2048_0_0_0 (ix3 b n ⟨256 * h.val + d.val, by omega⟩)
        = X (ix3 b ⟨n.val, by omega⟩ ⟨256 * h.val + d.val, by omega⟩) := fun X => by pointwise []
  unfold out
  refine (e _).trans ?_
  exact final_holds m c q k v l g qr kr vr lr hq hk hv hl hg hqr hkr hvr hlr _ b n h d rfl rfl rfl

omit hq hk hv hl hg hqr hkr hvr hlr
variable (ρ : Dev nD → PrngReg)

/-- The run: the result at `out`, the arguments as they were. -/
theorem run : θ_run defs (onTc (τ := τ) (main (F := Ideal))) ⟨m, fun _ => 0, ρ⟩ fun r => ∀ c : Dev nD,
      r.2.mem ((c.tc : Thread nD τ).loc main_v21) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have h1 := (θ_run defs _ _).mono (fun r h => fun c => ((h.1 c).2 main_v21 (Pipeline.mem_restRefs_of main_v21 (by decide) (by decide))).trans (tail_eq m c))
    (run_main m ρ)
  have h2 := frame_all m ρ
  exact ⟨fun t ht hf c => ⟨h1.post t ht hf c, (h2.post t ht hf).1 c⟩, h1.progress, h1.fair⟩

end Cert.KernelIdeal.Attn

end
-- ==== Proof.Finite.lean ====
/- The precondition read: every entry of the queries, keys, values and second-softmax vectors is a real number. -/
module

public import proofs.«01_k».proof.Proof.Gen.Pre_finite_inputs
public import Idealize.ShloMosaic.Lib.ReduceAll
public import Idealize.ShloMosaic.Lib.Pointwise
public import Idealize.ShloMosaic.Lib.IdealHost

@[expose] public section

set_option maxRecDepth 16384

noncomputable section

namespace Cert.Pre_finite_inputs.Attn

open Cert.Pre_finite_inputs Cert.Pre_finite_inputs.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem ofBits_inf : (Ideal.ofBits FTy.f32 0x7F800000#32 : EReal) = ⊤ := by
  simp [Ideal.ofBits, Ideal.ieee]

/-- A value whose magnitude is below infinity is a real. -/
theorem real_of_lt {s : Shape} (x : FVec Ideal s .f32) (y : FVec Ideal s .f32) (i : s.Idx) (hy : (y i : EReal) = ⊤)
    (h : cmpf .olt (Host.absf x) y i = 1#1) : ∃ r : ℝ, (x i : EReal) = (r : EReal) := by
  have h1 : BitVec.ofBool (decide (max (x i : EReal) (-(x i : EReal)) < (y i : EReal))) = 1#1 := h
  rw [hy] at h1
  have h2 : max (x i : EReal) (-(x i : EReal)) < ⊤ := by
    by_contra hn
    rw [decide_eq_false hn] at h1
    exact absurd h1 (by decide)
  obtain ⟨h3, h4⟩ := max_lt_iff.mp h2
  generalize (x i : EReal) = z at h3 h4
  induction z using EReal.rec with
  | bot => exact absurd h4 (by simp)
  | coe r => exact ⟨r, rfl⟩
  | top => exact absurd h3 (lt_irrefl _)

instance : Subsingleton S_.Idx := ⟨fun a b => funext fun i => i.elim0⟩

theorem reals (q k : FVec Ideal S2x4112x8x2x128 .f32) (v : FVec Ideal S2x4112x8x256 .f32) (l : FVec Ideal S4x128 .f32) (g : FVec Ideal S256 .f32)
    (h : fn (F := Ideal) q k v l g = fun _ => 1#1) : (∀ i, ∃ r : ℝ, (q i : EReal) = (r : EReal)) ∧ (∀ i, ∃ r : ℝ, (k i : EReal) = (r : EReal))
      ∧ (∀ i, ∃ r : ℝ, (v i : EReal) = (r : EReal)) ∧ (∀ i, ∃ r : ℝ, (l i : EReal) = (r : EReal)) := by
  have h0 := congrFun h ix0
  unfold fn fn_part1 at h0
  obtain ⟨h012, h3⟩ := IntOp.andi_eq_one.1 h0
  obtain ⟨h01, h2⟩ := IntOp.andi_eq_one.1 h012
  obtain ⟨h00, h1⟩ := IntOp.andi_eq_one.1 h01
  exact ⟨fun i => real_of_lt q _ i ofBits_inf (Host.reduce_andi_all _ _ _ _ _ h00 i), fun i => real_of_lt k _ i ofBits_inf (Host.reduce_andi_all _ _ _ _ _ h1 i),
    fun i => real_of_lt v _ i ofBits_inf (Host.reduce_andi_all _ _ _ _ _ h2 i), fun i => real_of_lt l _ i ofBits_inf (Host.reduce_andi_all _ _ _ _ _ h3 i)⟩

end Cert.Pre_finite_inputs.Attn

end
-- ==== Proof.FfBody.lean ====
/- The feed-forward kernel on one grid point, in its four cases: the row tile's copy started and awaited at once, a copy
   started earlier awaited, the next tile's copy started and left in flight, and no copy at all. -/
module

public import proofs.«01_k».proof.Proof.Gen.MlpIdeal.Frame
public import Idealize.ShloMosaic.Lib.VecWindow

@[expose] public section

set_option maxRecDepth 16384

noncomputable section

namespace Cert.MlpIdeal.Ff

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄D" => MT nD τ sig Unit (Elt F) ℕ (Pipeline.UD sig nD τ) ℕ

/-! ## The values -/

/-- A row tile normed and scaled, as the scratch holds it. -/
def normed (x : Vec F S1056x2048 .f32) (g : Vec F S1x2048 .f32) : FVec F S1056x2048 .bf16 :=
  shapeCast S1056x2048 (truncf .bf16 (mulf (mulf x (broadcastTo S1056x2048
      (rsqrt (addf (divf (shapeCast S1056x1 (multiReduction .add [1] S1056 (mulf x x) 0x00000000#32 reduces_S1056x2048_S1056 (.inl rfl) rfl) shapeCasts_S1056_S1056x1)
          (broadcast S1056x1 (Scalar.ofBits .f32 0x45000000#32))) (broadcast S1056x1 (Scalar.ofBits .f32 0x358637BD#32))))
      broadcasts_S1056x1_S1056x2048))
    (broadcastTo S1056x2048 (shapeCast S1x2048 g shapeCasts_S1x2048_S1x2048) broadcasts_S1x2048_S1056x2048)) bitsLt_bf16_f32) shapeCasts_S1056x2048_S1056x2048

/-- One block of 512 hidden units: the squared positive part of what enters it. -/
def hidden (xn : FVec F S1056x2048 .bf16) (w1 : Vec F S1x2048x512 .f32) : FVec F S1056x512 .bf16 :=
  let u : FVec F S1056x512 .f32 := maximumf (matmul dot_S1056x2048_S2048x512_S1056x512_1_0_0_1_n_n none xn
    (truncf .bf16 (shapeCast S2048x512 w1 shapeCasts_S1x2048x512_S2048x512) bitsLt_bf16_f32) (constant S1056x512 .f32 0x00000000#32))
    (broadcast S1056x512 (Scalar.ofBits .f32 0x00000000#32))
  truncf .bf16 (mulf u u) bitsLt_bf16_f32

/-- The output tile with one block's contribution added. -/
def step (xn : FVec F S1056x2048 .bf16) (w1 : Vec F S1x2048x512 .f32) (w2 : Vec F S1x512x2048 .f32) (o : Vec F S1056x2048 .f32) : FVec F S1056x2048 .f32 :=
  addf (shapeCast S1056x2048 o shapeCasts_S1056x2048_S1056x2048) (matmul dot_S1056x512_S512x2048_S1056x2048_1_0_0_1_n_n none (hidden xn w1)
    (truncf .bf16 (shapeCast S512x2048 w2 shapeCasts_S1x512x2048_S512x2048) bitsLt_bf16_f32) (constant S1056x2048 .f32 0x00000000#32))

/-! ## The kernel's own operands -/

/-- The residual stream, left where it lies; the normed tile; the landing tile. -/
abbrev hbM : Memref sig .tc .hbm S8448x2048 .f32 := Memref.whole main_arg0
abbrev xnM : Memref sig .tc .vmem S1056x2048 .bf16 := Memref.whole cc0_scratch0
abbrev xM : Memref sig .tc .vmem S1056x2048 .f32 := Memref.whole cc0_scratch1
/-- The tile of rows at offset `o`. -/
abbrev tile (o : Fin 2 → ℕ) (h : ∀ a, o a + S1056x2048.size a ≤ S8448x2048.size a) : Memref sig .tc .hbm S1056x2048 .f32 :=
  hbM.slice (Rect.unit (s := S8448x2048) o S1056x2048.size h) (fun _ => rfl)

abbrev tileP (c : Dev nD) (o : Fin 2 → ℕ) (h : ∀ a, o a + S1056x2048.size a ≤ S8448x2048.size a) (XA : Buf (Elt F) (hbM.view.loc (c : Thread nD τ))) : sProp 𝕄D :=
  (tile o h).view.loc (c : Thread nD τ) ↦[(tile o h).view.set]{fullShare} XA
abbrev xnP (c : Dev nD) (f : Buf (Elt F) (xnM.view.loc (c : Thread nD τ))) : sProp 𝕄D := xnM.view.loc (c : Thread nD τ) ↦[xnM.view.set]{fullShare} f
abbrev xP (c : Dev nD) (f : Buf (Elt F) (xM.view.loc (c : Thread nD τ))) : sProp 𝕄D := xM.view.loc (c : Thread nD τ) ↦[xM.view.set]{fullShare} f
abbrev cellP (c : Dev nD) : sProp 𝕄D := semVal ((c : Thread nD τ), SemLoc.dma 7) 0
/-- What the tile at `o` leaves in the landing tile. -/
abbrev landed (c : Dev nD) (o : Fin 2 → ℕ) (h : ∀ a, o a + S1056x2048.size a ≤ S8448x2048.size a) (XA : Buf (Elt F) (hbM.view.loc (c : Thread nD τ)))
    (f : Buf (Elt F) (xM.view.loc (c : Thread nD τ))) : Buf (Elt F) (xM.view.loc (c : Thread nD τ)) :=
  xM.view.writes (Elt F) f [⟨Rect.whole S1056x2048, ReadAs.same.apply ((tile o h).view.read (Elt F) XA)⟩]
/-- The tile at `o` in flight to the landing tile, over `f`. -/
abbrev flightP (c : Dev nD) (o : Fin 2 → ℕ) (h : ∀ a, o a + S1056x2048.size a ≤ S8448x2048.size a) (XA : Buf (Elt F) (hbM.view.loc (c : Thread nD τ)))
    (f : Buf (Elt F) (xM.view.loc (c : Thread nD τ))) : sProp 𝕄D :=
  Transfers.Flight countersEmb (c : Thread nD τ) (SemLoc.dma 7) () (xM.view.amount (SemLoc.dma (sig := sig) 7)) iprop(xP c (landed c o h XA f) ∗ tileP c o h XA)

/-- A load of a whole tile after a copy has filled it reads the copy. -/
theorem load_of_copied {e : EltTy} (v : View sig .tc .vmem S1056x2048 e) (y : S1056x2048.Idx → Elt F e) (hb : ∀ a, (![0, 0] : Fin 2 → ℕ) a + S1056x2048.size a ≤ S1056x2048.size a) :
    v.readCov (Val := Elt F) [⟨Rect.whole S1056x2048, y⟩] (Rect.unit (s := S1056x2048) ![0, 0] S1056x2048.size hb).toLoadRect = y :=
  (View.readAt_full _ _ _).trans (View.read_writes_whole _ _ _)

/-- A load of a whole tile after a store of all of it reads the store. -/
theorem load_of_stored {e : EltTy} (v : View sig .tc .vmem S1056x2048 e) (hb hb' : ∀ a, (![0, 0] : Fin 2 → ℕ) a + S1056x2048.size a ≤ S1056x2048.size a)
    (y : (Rect.unit (s := S1056x2048) ![0, 0] S1056x2048.size hb').shape.Idx → Elt F e) (L : List (View.Piece (Elt F) S1056x2048 e)) :
    v.readCov (Val := Elt F) (⟨Rect.unit (s := S1056x2048) ![0, 0] S1056x2048.size hb', y⟩ :: L) (Rect.unit (s := S1056x2048) ![0, 0] S1056x2048.size hb).toLoadRect = y :=
  (View.readAt_full _ _ _).trans (View.read_writes_full _ _ _ _ _)

/-! ## The four cases -/

/-- No copy: one block added. -/
theorem plain (𝒱 : Variants) (c : Dev nD) (bd : Option 𝒱.V) (i : grid0.Coords) (arg3 : Memref sig .tc .vmem S1x2048 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1056x2048 .f32) (harg6 : arg6.IsWhole)
    (X3 : BufTy.Contents (Elt F) arg3.view.ty) (X4 : BufTy.Contents (Elt F) arg4.view.ty) (X5 : BufTy.Contents (Elt F) arg5.view.ty) (X6 : BufTy.Contents (Elt F) arg6.view.ty) (Xn : Buf (Elt F) (xnM.view.loc (c : Thread nD τ)))
    (h1 : ¬ k0_cond1 i = 1#1) (h2 : ¬ k0_cond2 i = 1#1) (h3 : ¬ k0_cond3 i = 1#1) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ xnP c Xn) : sProp 𝕄D)
    ⊢ wp frame (wpE (defs₀ (F := F)) 𝒱 (c : Thread nD τ) bd) Set.univ (cc0__mlp_kernel (F := F) i hbM (Memref.isWhole_whole _) arg3 harg3 arg4 harg4 arg5 harg5 arg6 harg6 xnM (Memref.isWhole_whole _) xM (Memref.isWhole_whole _) cc0_scratch2)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5)
          ∗ (arg6.view.loc (c : Thread nD τ) ↦[arg6.view.set]{fullShare} arg6.view.rep (step (xnM.view.read (Elt F) Xn) (arg4.view.read (Elt F) X4) (arg5.view.read (Elt F) X5) (arg6.view.read (Elt F) X6))) ∗ xnP c Xn)) := by
  have l3 : arg3.view.readAt (Elt F) (Rect.unit (s := S1x2048) ![0, 0] S1x2048.size inb_S1x2048_S1x2048_0_0).toLoadRect X3 = arg3.view.read (Elt F) X3 := View.readAt_full _ _ _
  have l4 : arg4.view.readAt (Elt F) (Rect.unit (s := S1x2048x512) ![0, 0, 0] S1x2048x512.size inb_S1x2048x512_S1x2048x512_0_0_0).toLoadRect X4 = arg4.view.read (Elt F) X4 := View.readAt_full _ _ _
  have l5 : arg5.view.readAt (Elt F) (Rect.unit (s := S1x512x2048) ![0, 0, 0] S1x512x2048.size inb_S1x512x2048_S1x512x2048_0_0_0).toLoadRect X5 = arg5.view.read (Elt F) X5 := View.readAt_full _ _ _
  have l6 : arg6.view.readAt (Elt F) (Rect.unit (s := S1056x2048) ![0, 0] S1056x2048.size inb_S1056x2048_S1056x2048_0_0).toLoadRect X6 = arg6.view.read (Elt F) X6 := View.readAt_full _ _ _
  have ln : xnM.view.readAt (Elt F) (Rect.unit (s := S1056x2048) ![0, 0] S1056x2048.size inb_S1056x2048_S1056x2048_0_0).toLoadRect Xn = xnM.view.read (Elt F) Xn := View.readAt_full _ _ _
  iintro ⟨H3, H4, H5, H6, Hn⟩
  unfold cc0__mlp_kernel
  sl_exec
  sl_step
  isplitl [H3]; · iexact H3
  isplitl [H4]; · iexact H4
  isplitl [H5]; · iexact H5
  isplitl [H6]
  · iapply (pointsTo_rep_of_read (c : Thread nD τ) arg6 _ fullShare (step (xnM.view.read (Elt F) Xn) (arg4.view.read (Elt F) X4) (arg5.view.read (Elt F) X5) (arg6.view.read (Elt F) X6)) ?_) $$ H6
    exact View.read_writes_full _ _ _ _ _
  iexact Hn

/-- The next tile's copy started, and one block added. -/
theorem start (𝒱 : Variants) (c : Dev nD) (bd : Option 𝒱.V) (i : grid0.Coords) (arg3 : Memref sig .tc .vmem S1x2048 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1056x2048 .f32) (harg6 : arg6.IsWhole)
    (X3 : BufTy.Contents (Elt F) arg3.view.ty) (X4 : BufTy.Contents (Elt F) arg4.view.ty) (X5 : BufTy.Contents (Elt F) arg5.view.ty) (X6 : BufTy.Contents (Elt F) arg6.view.ty) (Xn : Buf (Elt F) (xnM.view.loc (c : Thread nD τ))) (Xx : Buf (Elt F) (xM.view.loc (c : Thread nD τ))) (XA : Buf (Elt F) (hbM.view.loc (c : Thread nD τ)))
    (h1 : ¬ k0_cond1 i = 1#1) (h2 : ¬ k0_cond2 i = 1#1) (h3 : k0_cond3 i = 1#1) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ xnP c Xn ∗ xP c Xx ∗ tileP c (k0_off2 i) (k0_off2_inb i h3) XA ∗ cellP c) : sProp 𝕄D)
    ⊢ wp frame (wpE (defs₀ (F := F)) 𝒱 (c : Thread nD τ) bd) Set.univ (cc0__mlp_kernel (F := F) i hbM (Memref.isWhole_whole _) arg3 harg3 arg4 harg4 arg5 harg5 arg6 harg6 xnM (Memref.isWhole_whole _) xM (Memref.isWhole_whole _) cc0_scratch2)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5)
          ∗ (arg6.view.loc (c : Thread nD τ) ↦[arg6.view.set]{fullShare} arg6.view.rep (step (xnM.view.read (Elt F) Xn) (arg4.view.read (Elt F) X4) (arg5.view.read (Elt F) X5) (arg6.view.read (Elt F) X6))) ∗ xnP c Xn ∗ (∃ f, flightP c (k0_off2 i) (k0_off2_inb i h3) XA f))) := by
  have l3 : arg3.view.readAt (Elt F) (Rect.unit (s := S1x2048) ![0, 0] S1x2048.size inb_S1x2048_S1x2048_0_0).toLoadRect X3 = arg3.view.read (Elt F) X3 := View.readAt_full _ _ _
  have l4 : arg4.view.readAt (Elt F) (Rect.unit (s := S1x2048x512) ![0, 0, 0] S1x2048x512.size inb_S1x2048x512_S1x2048x512_0_0_0).toLoadRect X4 = arg4.view.read (Elt F) X4 := View.readAt_full _ _ _
  have l5 : arg5.view.readAt (Elt F) (Rect.unit (s := S1x512x2048) ![0, 0, 0] S1x512x2048.size inb_S1x512x2048_S1x512x2048_0_0_0).toLoadRect X5 = arg5.view.read (Elt F) X5 := View.readAt_full _ _ _
  have l6 : arg6.view.readAt (Elt F) (Rect.unit (s := S1056x2048) ![0, 0] S1056x2048.size inb_S1056x2048_S1056x2048_0_0).toLoadRect X6 = arg6.view.read (Elt F) X6 := View.readAt_full _ _ _
  have ln : xnM.view.readAt (Elt F) (Rect.unit (s := S1056x2048) ![0, 0] S1056x2048.size inb_S1056x2048_S1056x2048_0_0).toLoadRect Xn = xnM.view.read (Elt F) Xn := View.readAt_full _ _ _
  iintro ⟨H3, H4, H5, H6, Hn, Hx, Ht, Hc⟩
  unfold cc0__mlp_kernel
  sl_exec
  sl_step
  isplitl [H3]; · iexact H3
  isplitl [H4]; · iexact H4
  isplitl [H5]; · iexact H5
  isplitl [H6]
  · iapply (pointsTo_rep_of_read (c : Thread nD τ) arg6 _ fullShare (step (xnM.view.read (Elt F) Xn) (arg4.view.read (Elt F) X4) (arg5.view.read (Elt F) X5) (arg6.view.read (Elt F) X6)) ?_) $$ H6
    exact View.read_writes_full _ _ _ _ _
  isplitl [Hn]; · iexact Hn
  iexists Xx
  iexact Hc

/-- The tile's copy awaited, the tile normed, and one block added to it. -/
theorem await (𝒱 : Variants) (c : Dev nD) (bd : Option 𝒱.V) (i : grid0.Coords) (arg3 : Memref sig .tc .vmem S1x2048 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1056x2048 .f32) (harg6 : arg6.IsWhole)
    (X3 : BufTy.Contents (Elt F) arg3.view.ty) (X4 : BufTy.Contents (Elt F) arg4.view.ty) (X5 : BufTy.Contents (Elt F) arg5.view.ty) (X6 : BufTy.Contents (Elt F) arg6.view.ty) (Xn : Buf (Elt F) (xnM.view.loc (c : Thread nD τ))) (Xx : Buf (Elt F) (xM.view.loc (c : Thread nD τ))) (XA : Buf (Elt F) (hbM.view.loc (c : Thread nD τ))) (W : Waits sig Unit)
    (h1 : ¬ k0_cond1 i = 1#1) (h2 : k0_cond2 i = 1#1) (h3 : ¬ k0_cond3 i = 1#1) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ xnP c Xn ∗ flightP c (k0_off1 i) (k0_off1_inb i h2) XA Xx ∗ owes (c : Thread nD τ) 0 W) : sProp 𝕄D)
    ⊢ wp frame (wpE (defs₀ (F := F)) 𝒱 (c : Thread nD τ) bd) Set.univ (cc0__mlp_kernel (F := F) i hbM (Memref.isWhole_whole _) arg3 harg3 arg4 harg4 arg5 harg5 arg6 harg6 xnM (Memref.isWhole_whole _) xM (Memref.isWhole_whole _) cc0_scratch2)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5)
          ∗ (arg6.view.loc (c : Thread nD τ) ↦[arg6.view.set]{fullShare} arg6.view.rep (step (normed ((tile (k0_off1 i) (k0_off1_inb i h2)).view.read (Elt F) XA) (arg3.view.read (Elt F) X3)) (arg4.view.read (Elt F) X4) (arg5.view.read (Elt F) X5) ((tile (k0_off1 i) (k0_off1_inb i h2)).view.read (Elt F) XA))) ∗ xnP c (xnM.view.rep (normed ((tile (k0_off1 i) (k0_off1_inb i h2)).view.read (Elt F) XA) (arg3.view.read (Elt F) X3))) ∗ (∃ f, xP c f) ∗ tileP c (k0_off1 i) (k0_off1_inb i h2) XA ∗ cellP c ∗ ∃ W, owes (c : Thread nD τ) 0 W)) := by
  have l3 : arg3.view.readAt (Elt F) (Rect.unit (s := S1x2048) ![0, 0] S1x2048.size inb_S1x2048_S1x2048_0_0).toLoadRect X3 = arg3.view.read (Elt F) X3 := View.readAt_full _ _ _
  have l4 : arg4.view.readAt (Elt F) (Rect.unit (s := S1x2048x512) ![0, 0, 0] S1x2048x512.size inb_S1x2048x512_S1x2048x512_0_0_0).toLoadRect X4 = arg4.view.read (Elt F) X4 := View.readAt_full _ _ _
  have l5 : arg5.view.readAt (Elt F) (Rect.unit (s := S1x512x2048) ![0, 0, 0] S1x512x2048.size inb_S1x512x2048_S1x512x2048_0_0_0).toLoadRect X5 = arg5.view.read (Elt F) X5 := View.readAt_full _ _ _
  have l6 : arg6.view.readAt (Elt F) (Rect.unit (s := S1056x2048) ![0, 0] S1056x2048.size inb_S1056x2048_S1056x2048_0_0).toLoadRect X6 = arg6.view.read (Elt F) X6 := View.readAt_full _ _ _
  iintro ⟨H3, H4, H5, H6, Hn, Hf, HO⟩
  unfold cc0__mlp_kernel
  sl_exec
  sl_step
  isplitl [H3]; · iexact H3
  isplitl [H4]; · iexact H4
  isplitl [H5]; · iexact H5
  isplitl [H6]
  · iapply (pointsTo_rep_of_read (c : Thread nD τ) arg6 _ fullShare (step (normed ((tile (k0_off1 i) (k0_off1_inb i h2)).view.read (Elt F) XA) (arg3.view.read (Elt F) X3)) (arg4.view.read (Elt F) X4) (arg5.view.read (Elt F) X5) ((tile (k0_off1 i) (k0_off1_inb i h2)).view.read (Elt F) XA)) ?_) $$ H6
    refine (View.read_writes_full _ _ _ _ _).trans ?_
    unfold await.sl.v29 await.sl.v28 await.sl.v27 await.sl.v26 await.sl.v24 await.sl.v23 await.sl.v22 await.sl.v21 await.sl.v20 await.sl.v19 await.sl.v18 await.sl.v17 await.sl.v16 await.sl.v14 await.sl.H6_1 await.sl.Hn_1 await.sl.v54 await.sl.v51 await.sl.v50 await.sl.v49 await.sl.v48 await.sl.v46 await.sl.v45 await.sl.v44 await.sl.v43 await.sl.v42 await.sl.v41 await.sl.v40 await.sl.v39 await.sl.v38 await.sl.v37 await.sl.v36
    rw [load_of_copied, load_of_stored, load_of_stored]
    rfl
  isplitl [Hn]
  · iapply (pointsTo_rep_of_read (c : Thread nD τ) xnM _ fullShare (normed ((tile (k0_off1 i) (k0_off1_inb i h2)).view.read (Elt F) XA) (arg3.view.read (Elt F) X3)) ?_) $$ Hn
    refine (View.read_writes_full _ _ _ _ _).trans ?_
    unfold await.sl.v54 await.sl.v51 await.sl.v50 await.sl.v49 await.sl.v48 await.sl.v46 await.sl.v45 await.sl.v44 await.sl.v43 await.sl.v42 await.sl.v41 await.sl.v40 await.sl.v39 await.sl.v38 await.sl.v37 await.sl.v36
    rw [load_of_copied]
    rfl
  isplitl [Hf_dst]; · iexists _; iexact Hf_dst
  isplitl [Hf_src]; · iexact Hf_src
  isplitl [Hf]; · iexact Hf
  iexists _; iexact HO

/-- The first tile's copy started and awaited at once, the tile normed, and one block added to it. -/
theorem fresh (𝒱 : Variants) (c : Dev nD) (bd : Option 𝒱.V) (i : grid0.Coords) (arg3 : Memref sig .tc .vmem S1x2048 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1056x2048 .f32) (harg6 : arg6.IsWhole)
    (X3 : BufTy.Contents (Elt F) arg3.view.ty) (X4 : BufTy.Contents (Elt F) arg4.view.ty) (X5 : BufTy.Contents (Elt F) arg5.view.ty) (X6 : BufTy.Contents (Elt F) arg6.view.ty) (Xn : Buf (Elt F) (xnM.view.loc (c : Thread nD τ))) (Xx : Buf (Elt F) (xM.view.loc (c : Thread nD τ))) (XA : Buf (Elt F) (hbM.view.loc (c : Thread nD τ))) (W : Waits sig Unit)
    (h1 : k0_cond1 i = 1#1) (h2 : k0_cond2 i = 1#1) (h3 : ¬ k0_cond3 i = 1#1) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ xnP c Xn ∗ xP c Xx ∗ tileP c ![0, 0] inb_S8448x2048_S1056x2048_0_0 XA ∗ cellP c ∗ owes (c : Thread nD τ) 0 W) : sProp 𝕄D)
    ⊢ wp frame (wpE (defs₀ (F := F)) 𝒱 (c : Thread nD τ) bd) Set.univ (cc0__mlp_kernel (F := F) i hbM (Memref.isWhole_whole _) arg3 harg3 arg4 harg4 arg5 harg5 arg6 harg6 xnM (Memref.isWhole_whole _) xM (Memref.isWhole_whole _) cc0_scratch2)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5)
          ∗ (arg6.view.loc (c : Thread nD τ) ↦[arg6.view.set]{fullShare} arg6.view.rep (step (normed ((tile ![0, 0] inb_S8448x2048_S1056x2048_0_0).view.read (Elt F) XA) (arg3.view.read (Elt F) X3)) (arg4.view.read (Elt F) X4) (arg5.view.read (Elt F) X5) ((tile ![0, 0] inb_S8448x2048_S1056x2048_0_0).view.read (Elt F) XA))) ∗ xnP c (xnM.view.rep (normed ((tile ![0, 0] inb_S8448x2048_S1056x2048_0_0).view.read (Elt F) XA) (arg3.view.read (Elt F) X3))) ∗ (∃ f, xP c f) ∗ tileP c ![0, 0] inb_S8448x2048_S1056x2048_0_0 XA ∗ cellP c ∗ ∃ W, owes (c : Thread nD τ) 0 W)) := by
  have l3 : arg3.view.readAt (Elt F) (Rect.unit (s := S1x2048) ![0, 0] S1x2048.size inb_S1x2048_S1x2048_0_0).toLoadRect X3 = arg3.view.read (Elt F) X3 := View.readAt_full _ _ _
  have l4 : arg4.view.readAt (Elt F) (Rect.unit (s := S1x2048x512) ![0, 0, 0] S1x2048x512.size inb_S1x2048x512_S1x2048x512_0_0_0).toLoadRect X4 = arg4.view.read (Elt F) X4 := View.readAt_full _ _ _
  have l5 : arg5.view.readAt (Elt F) (Rect.unit (s := S1x512x2048) ![0, 0, 0] S1x512x2048.size inb_S1x512x2048_S1x512x2048_0_0_0).toLoadRect X5 = arg5.view.read (Elt F) X5 := View.readAt_full _ _ _
  have l6 : arg6.view.readAt (Elt F) (Rect.unit (s := S1056x2048) ![0, 0] S1056x2048.size inb_S1056x2048_S1056x2048_0_0).toLoadRect X6 = arg6.view.read (Elt F) X6 := View.readAt_full _ _ _
  iintro ⟨H3, H4, H5, H6, Hn, Hx, Ht, Hc, HO⟩
  unfold cc0__mlp_kernel
  sl_exec
  sl_step
  isplitl [H3]; · iexact H3
  isplitl [H4]; · iexact H4
  isplitl [H5]; · iexact H5
  isplitl [H6]
  · iapply (pointsTo_rep_of_read (c : Thread nD τ) arg6 _ fullShare (step (normed ((tile ![0, 0] inb_S8448x2048_S1056x2048_0_0).view.read (Elt F) XA) (arg3.view.read (Elt F) X3)) (arg4.view.read (Elt F) X4) (arg5.view.read (Elt F) X5) ((tile ![0, 0] inb_S8448x2048_S1056x2048_0_0).view.read (Elt F) XA)) ?_) $$ H6
    refine (View.read_writes_full _ _ _ _ _).trans ?_
    unfold fresh.sl.v29 fresh.sl.v28 fresh.sl.v27 fresh.sl.v26 fresh.sl.v24 fresh.sl.v23 fresh.sl.v22 fresh.sl.v21 fresh.sl.v20 fresh.sl.v19 fresh.sl.v18 fresh.sl.v17 fresh.sl.v16 fresh.sl.v14 fresh.sl.H6_1 fresh.sl.Hn_1 fresh.sl.v54 fresh.sl.v51 fresh.sl.v50 fresh.sl.v49 fresh.sl.v48 fresh.sl.v46 fresh.sl.v45 fresh.sl.v44 fresh.sl.v43 fresh.sl.v42 fresh.sl.v41 fresh.sl.v40 fresh.sl.v39 fresh.sl.v38 fresh.sl.v37 fresh.sl.v36
    rw [load_of_copied, load_of_stored, load_of_stored]
    rfl
  isplitl [Hn]
  · iapply (pointsTo_rep_of_read (c : Thread nD τ) xnM _ fullShare (normed ((tile ![0, 0] inb_S8448x2048_S1056x2048_0_0).view.read (Elt F) XA) (arg3.view.read (Elt F) X3)) ?_) $$ Hn
    refine (View.read_writes_full _ _ _ _ _).trans ?_
    unfold fresh.sl.v54 fresh.sl.v51 fresh.sl.v50 fresh.sl.v49 fresh.sl.v48 fresh.sl.v46 fresh.sl.v45 fresh.sl.v44 fresh.sl.v43 fresh.sl.v42 fresh.sl.v41 fresh.sl.v40 fresh.sl.v39 fresh.sl.v38 fresh.sl.v37 fresh.sl.v36
    rw [load_of_copied]
    rfl
  isplitl [Hx]; · iexists _; iexact Hx
  isplitl [Ht]; · iexact Ht
  isplitl [Hc]; · iexact Hc
  iexists _; iexact HO

end Cert.MlpIdeal.Ff

end
-- ==== Proof.FfRun.lean ====
/- The feed-forward kernel over the whole grid: what is in flight between points, what each point leaves, and the run. -/
module

public import proofs.«01_k».proof.Proof.FfBody
public import Idealize.ShloMosaic.Lib.Pipeline.Quiescent

@[expose] public section

set_option maxRecDepth 16384

noncomputable section

namespace Cert.MlpIdeal.Ff

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg BodyObligation)

variable {F : FTy → Type} [FloatOps F]
local notation "𝕄D" => MT nD τ sig Unit (Elt F) ℕ (Pipeline.UD sig nD τ) ℕ

variable (m : (ℓ : Loc nD τ sig) → Buf (Elt F) ℓ) (ρ : Dev nD → PrngReg)

/-! ## The grid: point `t` is block `t % 16` of row tile `t / 16` -/

/-- Row tile `n`. -/
def row (n : ℕ) : Fin 8 := ⟨n % 8, Nat.mod_lt _ (by decide)⟩
/-- Where row tile `n` starts. -/
def rowOff (n : Fin 8) : Fin 2 → ℕ := ![1056 * n.val, 0]
theorem rowOff_inb : ∀ (n : Fin 8) (a), rowOff n a + S1056x2048.size a ≤ S8448x2048.size a := by decide
/-- The tile whose copy is in flight before point `k`. -/
def carried (k : ℕ) : Option (Fin 8) :=
  if k % 16 = 0 ∧ 0 < k ∧ k < 128 then some (row (k / 16)) else if 2 ≤ k % 16 ∧ k / 16 + 1 < 8 then some (row (k / 16 + 1)) else none

theorem cond1_iff : ∀ t : Fin grid0.N, k0_cond1 (grid0.coords t) = 1#1 ↔ t.val = 0 := by decide +kernel
theorem cond2_iff : ∀ t : Fin grid0.N, k0_cond2 (grid0.coords t) = 1#1 ↔ t.val % 16 = 0 := by decide +kernel
theorem cond3_iff : ∀ t : Fin grid0.N, k0_cond3 (grid0.coords t) = 1#1 ↔ t.val % 16 = 1 ∧ t.val / 16 + 1 < 8 := by decide +kernel
theorem off1_eq : ∀ t : Fin grid0.N, k0_off1 (grid0.coords t) = rowOff (row (t.val / 16)) := by decide +kernel
theorem off2_eq : ∀ t : Fin grid0.N, t.val / 16 + 1 < 8 → k0_off2 (grid0.coords t) = rowOff (row (t.val / 16 + 1)) := by decide +kernel
theorem off0_eq : (![0, 0] : Fin 2 → ℕ) = rowOff (row (0 / 16)) := by decide +kernel
theorem carried_first : ∀ t : Fin grid0.N, t.val % 16 = 0 → 0 < t.val → carried t.val = some (row (t.val / 16)) ∧ carried (t.val + 1) = none := by decide +kernel
theorem carried_start : ∀ t : Fin grid0.N, t.val % 16 = 1 → t.val / 16 + 1 < 8 → carried t.val = none ∧ carried (t.val + 1) = some (row (t.val / 16 + 1)) := by decide +kernel
theorem carried_plain : ∀ t : Fin grid0.N, ¬ t.val % 16 = 0 → ¬ (t.val % 16 = 1 ∧ t.val / 16 + 1 < 8) → carried (t.val + 1) = carried t.val := by decide +kernel
theorem row_succ : ∀ t : Fin grid0.N, ¬ (t.val + 1) % 16 = 0 → row ((t.val + 1) / 16) = row (t.val / 16) := by decide +kernel

/-! ## The values -/

/-- Point `16 n + j`. -/
def pt (n : Fin 8) (j : ℕ) : Fin cfg0.N := ⟨(16 * n.val + j) % 128, Nat.mod_lt _ (by decide)⟩
theorem pt_eq : ∀ t : Fin grid0.N, pt (row (t.val / 16)) (t.val % 16) = t := by decide +kernel
/-- Row tile `n` of the residual stream. -/
def xAt (c : Dev nD) (n : Fin 8) : Vec F S1056x2048 .f32 := (tile (rowOff n) (rowOff_inb n)).view.read (Elt F) (V m c main_arg0)
/-- Row tile `n`, normed. -/
def xnAt (c : Dev nD) (n : Fin 8) : FVec F S1056x2048 .bf16 := normed (xAt m c n) (iblk m c 0 (pt n 0))
/-- What block `j` leaves in row tile `n` of the output. -/
def accAt (c : Dev nD) (n : Fin 8) : ℕ → FVec F S1056x2048 .f32
  | 0 => step (xnAt m c n) (iblk m c 1 (pt n 0)) (iblk m c 2 (pt n 0)) (xAt m c n)
  | j + 1 => step (xnAt m c n) (iblk m c 1 (pt n (j + 1))) (iblk m c 2 (pt n (j + 1))) (accAt c n j)
/-- What point `t` leaves in the output tile. -/
def outAt (c : Dev nD) (t : Fin cfg0.N) : Vec F S1056x2048 .f32 := accAt m c (row (t.val / 16)) (t.val % 16)

theorem outAt_first (c : Dev nD) (t : Fin cfg0.N) (h : t.val % 16 = 0) :
    outAt m c t = step (normed (xAt m c (row (t.val / 16))) (iblk m c 0 t)) (iblk m c 1 t) (iblk m c 2 t) (xAt m c (row (t.val / 16))) := by
  have e := pt_eq t
  rw [h] at e
  unfold outAt; rw [h]
  show step (normed _ (iblk m c 0 (pt _ 0))) _ _ _ = _
  rw [e]
theorem outAt_next (c : Dev nD) (t t' : Fin cfg0.N) (ht : t.val = t'.val + 1) (h : ¬ t.val % 16 = 0) :
    outAt m c t = step (xnAt m c (row (t.val / 16))) (iblk m c 1 t) (iblk m c 2 t) (outAt m c t') := by
  have e := pt_eq t
  have e1 : t.val % 16 = t'.val % 16 + 1 := by omega
  have e2 : t.val / 16 = t'.val / 16 := by omega
  rw [e1] at e
  unfold outAt
  rw [e1, ← e2]
  show step _ (iblk m c 1 (pt _ _)) (iblk m c 2 (pt _ _)) _ = _
  rw [e]

/-! ## What is held between points -/

/-- The elements of the residual stream outside the tile at `o`. -/
abbrev restP (c : Dev nD) (o : Fin 2 → ℕ) (h : ∀ a, o a + S1056x2048.size a ≤ S8448x2048.size a) (XA : Buf (Elt F) (hbM.view.loc (c : Thread nD τ))) : sProp 𝕄D :=
  hbM.view.loc (c : Thread nD τ) ↦[Finset.univ \ (tile o h).view.set]{fullShare} XA
/-- The residual stream, whole. -/
abbrev allP (c : Dev nD) (XA : Buf (Elt F) (hbM.view.loc (c : Thread nD τ))) : sProp 𝕄D := hbM.view.loc (c : Thread nD τ) ↦{fullShare} XA

theorem all_split (c : Dev nD) (o : Fin 2 → ℕ) (h : ∀ a, o a + S1056x2048.size a ≤ S8448x2048.size a) (XA : Buf (Elt F) (hbM.view.loc (c : Thread nD τ))) :
    allP c XA ⊣⊢ iprop(tileP c o h XA ∗ restP c o h XA) := pointsTo_split_subset (Finset.subset_univ _)

/-- Nothing in flight: the residual stream whole, the landing tile at anything, the cell at zero. -/
def idle (c : Dev nD) : sProp 𝕄D := iprop(allP c (V m c main_arg0) ∗ (∃ f, xP c f) ∗ cellP c)
/-- Tile `n` in flight, the rest of the residual stream at hand. -/
def flying (c : Dev nD) (n : Fin 8) : sProp 𝕄D :=
  iprop((∃ f, flightP c (rowOff n) (rowOff_inb n) (V m c main_arg0) f) ∗ restP c (rowOff n) (rowOff_inb n) (V m c main_arg0))
def copySt (c : Dev nD) : Option (Fin 8) → sProp 𝕄D
  | none => idle m c
  | some n => flying m c n
/-- The normed tile: named inside a row, at anything between rows. -/
def normSt (c : Dev nD) (k : ℕ) : sProp 𝕄D := if k % 16 = 0 then iprop(∃ f, xnP c f) else xnP c (xnM.view.rep (xnAt m c (row (k / 16))))
/-- What is held before point `k`. -/
def held (c : Dev nD) (k : ℕ) : sProp 𝕄D := iprop(normSt m c k ∗ copySt m c (carried k) ∗ (∃ r, prngReg c r))

theorem normSt_first (c : Dev nD) (k : ℕ) (h : k % 16 = 0) : normSt m c k = iprop(∃ f, xnP (F := F) c f) := if_pos h
theorem normSt_named (c : Dev nD) (k : ℕ) (h : ¬ k % 16 = 0) : normSt m c k = xnP c (xnM.view.rep (xnAt m c (row (k / 16)))) := if_neg h
/-- A named normed tile is a normed tile. -/
theorem normSt_succ (c : Dev nD) (t : Fin cfg0.N) : xnP c (xnM.view.rep (xnAt m c (row (t.val / 16)))) ⊢ normSt m c (t.val + 1) := by
  by_cases h : (t.val + 1) % 16 = 0
  · rw [normSt_first _ _ _ h]
    iintro H; iexists _; iexact H
  · rw [normSt_named _ _ _ h, row_succ t h]

/-! ## The proof data -/

/-- The arrays as the region finds them; after a point each input's buffer at its block and the output's at `outAt`; between
    points what `held` says; nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ k := held m c k.val
  q _ := fullShare
  owed _ := 0

theorem A_eq (c : Dev nD) (w : Fin cfg0.W) : (dats m 0 c).A w = V m c (Pipeline.arrRef spec0 w) := rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]
theorem before_0 (c : Dev nD) (t : Fin cfg0.N) (d) : (dats m 0 c).before 0 t d = iblk m c 0 t :=
  (Dat.before_in_eq_fetched _ 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  (Dat.before_in_eq_fetched _ 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  (Dat.before_in_eq_fetched _ 2 rfl (fun _ => rfl) (fun _ _ _ => rfl) (fun t => by rw [after_2]; unfold Dat.blockOf iblk; rw [A_eq]; try rfl) t d).trans
    (by unfold Dat.fetched Dat.blockOf iblk; rw [A_eq]; try rfl)
/-- Inside a row the output tile still holds what the previous block left. -/
theorem before_3 (c : Dev nD) (t : Fin cfg0.N) (h : ¬ t.val % 16 = 0) (d) :
    (dats m 0 c).before 3 t d = outAt m c ⟨t.val - 1, by omega⟩ :=
  ((dats m 0 c).before_out_kept 3 rfl t (by omega) (by
    rw [Bool.eq_false_iff]
    intro hf
    have : (t.val - 1) % 16 = 15 := (flush0_3 _).mp hf
    omega) (fun _ => rfl) (fun _ _ => rfl) d).trans (after_3 m c _)

def bodyPre (c : Dev nD) (t : Fin cfg0.N) : sProp 𝕄D :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)))
def bodyPost (c : Dev nD) (t : Fin cfg0.N) : sProp 𝕄D :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t))

/-! ## Tiles at equal offsets -/

section
variable (c : Dev nD) {o o' : Fin 2 → ℕ} (e : o = o') (h : ∀ a, o a + S1056x2048.size a ≤ S8448x2048.size a)
  (h' : ∀ a, o' a + S1056x2048.size a ≤ S8448x2048.size a) (XA : Buf (Elt F) (hbM.view.loc (c : Thread nD τ)))
include e
theorem tile_at {XA : hbM.view.ty.Contents (Elt F)} : (tile o h).view.read (Elt F) XA = (tile o' h').view.read (Elt F) XA := by subst e; rfl
theorem flight_at : iprop(∃ f, flightP c o h XA f) ⊢ (iprop(∃ f, flightP c o' h' XA f) : sProp 𝕄D) := by subst e; exact .rfl
theorem flight_back : iprop(∃ f, flightP c o' h' XA f) ⊢ (iprop(∃ f, flightP c o h XA f) : sProp 𝕄D) := by subst e; exact .rfl
theorem rest_at : restP c o h XA ⊢ (restP c o' h' XA : sProp 𝕄D) := by subst e; exact .rfl
theorem rest_back : restP c o' h' XA ⊢ (restP c o h XA : sProp 𝕄D) := by subst e; exact .rfl
end
theorem norm_first (c : Dev nD) (t : Fin cfg0.N) (h : t.val % 16 = 0) :
    xnAt m c (row (t.val / 16)) = normed ((tile (rowOff (row (t.val / 16))) (rowOff_inb _)).view.read (Elt F) (V m c main_arg0)) (iblk m c 0 t) := by
  have e := pt_eq t
  rw [h] at e
  unfold xnAt xAt
  rw [e]

/-! ## The kernel on a grid point -/

/-- A point with no copy. -/
theorem body_plain (c : Dev nD) (t : Fin cfg0.N) (hj : ¬ t.val % 16 = 0) (hs : ¬ (t.val % 16 = 1 ∧ t.val / 16 + 1 < 8)) :
    bodyPre m c t ⊢ wp frame (wpE (defs₀ (F := F)) Variants.none c none) Set.univ (bodyAt0 t) (fun _ => bodyPost m c t) := by
  unfold bodyPre bodyPost bodyAt0 owns
  rw [show (dats m 0 c).Φ t.castSucc = held m c t.val from rfl, show (dats m 0 c).Φ t.succ = held m c (t.val + 1) from rfl,
    show (dats m 0 c).owesAt () t.succ = (dats m 0 c).owesAt () t.castSucc from rfl, after_0, after_1, after_2, after_3]
  simp only [before_0, before_1, before_2, before_3 m c t hj]
  unfold held
  rw [normSt_named _ _ _ hj, carried_plain t hj hs]
  iintro ⟨⟨Hn, Hd, Hg⟩, Ho, ⟨%d0, %X0, %h0, H0⟩, ⟨%d1, %X1, %h1, H1⟩, ⟨%d2, %X2, %h2, H2⟩, ⟨%d3, %X3, %h3, H3⟩⟩
  iapply (exec_cut_last _ _ _ (plain (F := F) Variants.none c none (grid0.coords t) _ _ _ _ _ _ _ _ X0 X1 X2 X3 _ (fun h => hj (by rw [(cond1_iff t).mp h])) (fun h => hj ((cond2_iff t).mp h)) (fun h => hs ((cond3_iff t).mp h)))) $$ [H0 H1 H2 H3 Hn]
  · isplitl [H0]; · iexact H0
    isplitl [H1]; · iexact H1
    isplitl [H2]; · iexact H2
    isplitl [H3]; · iexact H3
    iexact Hn
  iintro %r ⟨H0, H1, H2, H3, Hn⟩
  isplitl [Hn Hd Hg]
  · isplitl [Hn]; · iapply (normSt_succ m c t) $$ Hn
    isplitl [Hd]; · iexact Hd
    iexact Hg
  isplitl [Ho]; · iexact Ho
  isplitl [H0]
  · iexists _; isplitr; swap; · iexact H0
    ipureintro; exact h0
  isplitl [H1]
  · iexists _; isplitr; swap; · iexact H1
    ipureintro; exact h1
  isplitl [H2]
  · iexists _; isplitr; swap; · iexact H2
    ipureintro; exact h2
  iexists _; isplitr; swap; · iexact H3
  ipureintro; refine (View.read_rep _ _).trans ?_
  rw [h1, h2, outAt_next m c t ⟨t.val - 1, by omega⟩ (by show t.val = t.val - 1 + 1; omega) hj, View.read_rep, h3]

/-- A point that starts the next tile's copy. -/
theorem body_start (c : Dev nD) (t : Fin cfg0.N) (hj : t.val % 16 = 1) (hi : t.val / 16 + 1 < 8) :
    bodyPre m c t ⊢ wp frame (wpE (defs₀ (F := F)) Variants.none c none) Set.univ (bodyAt0 t) (fun _ => bodyPost m c t) := by
  have hj' : ¬ t.val % 16 = 0 := by omega
  unfold bodyPre bodyPost bodyAt0 owns
  rw [show (dats m 0 c).Φ t.castSucc = held m c t.val from rfl, show (dats m 0 c).Φ t.succ = held m c (t.val + 1) from rfl,
    show (dats m 0 c).owesAt () t.succ = (dats m 0 c).owesAt () t.castSucc from rfl, after_0, after_1, after_2, after_3]
  simp only [before_0, before_1, before_2, before_3 m c t hj']
  unfold held
  rw [normSt_named _ _ _ hj', (carried_start t hj hi).1, (carried_start t hj hi).2]
  unfold copySt idle flying
  iintro ⟨⟨Hn, ⟨Hx, ⟨%fx, Hl⟩, Hc⟩, Hg⟩, Ho, ⟨%d0, %X0, %h0, H0⟩, ⟨%d1, %X1, %h1, H1⟩, ⟨%d2, %X2, %h2, H2⟩, ⟨%d3, %X3, %h3, H3⟩⟩
  have hc3 : k0_cond3 (grid0.coords t) = 1#1 := (cond3_iff t).mpr ⟨hj, hi⟩
  ihave Hx' := (all_split c (k0_off2 (grid0.coords t)) (k0_off2_inb _ hc3) (V m c main_arg0)).1 $$ Hx
  icases Hx' with ⟨Ht, Hr⟩
  iapply (exec_cut_last _ _ _ (start (F := F) Variants.none c none (grid0.coords t) _ _ _ _ _ _ _ _ X0 X1 X2 X3 _ fx (V m c main_arg0) (fun h => hj' (by rw [(cond1_iff t).mp h])) (fun h => hj' ((cond2_iff t).mp h)) hc3)) $$ [H0 H1 H2 H3 Hn Hl Ht Hc]
  · isplitl [H0]; · iexact H0
    isplitl [H1]; · iexact H1
    isplitl [H2]; · iexact H2
    isplitl [H3]; · iexact H3
    isplitl [Hn]; · iexact Hn
    isplitl [Hl]; · iexact Hl
    isplitl [Ht]; · iexact Ht
    iexact Hc
  iintro %r ⟨H0, H1, H2, H3, Hn, Hf⟩
  isplitl [Hn Hf Hr Hg]
  · isplitl [Hn]; · iapply (normSt_succ m c t) $$ Hn
    isplitl [Hf Hr]
    · isplitl [Hf]
      · iapply (flight_at c (off2_eq t hi) _ (rowOff_inb _) _) $$ Hf
      iapply (rest_at c (off2_eq t hi) _ (rowOff_inb _) _) $$ Hr
    iexact Hg
  isplitl [Ho]; · iexact Ho
  isplitl [H0]
  · iexists _; isplitr; swap; · iexact H0
    ipureintro; exact h0
  isplitl [H1]
  · iexists _; isplitr; swap; · iexact H1
    ipureintro; exact h1
  isplitl [H2]
  · iexists _; isplitr; swap; · iexact H2
    ipureintro; exact h2
  iexists _; isplitr; swap; · iexact H3
  ipureintro; refine (View.read_rep _ _).trans ?_
  rw [h1, h2, outAt_next m c t ⟨t.val - 1, by omega⟩ (by show t.val = t.val - 1 + 1; omega) hj', View.read_rep, h3]

/-- The first point of a later row: the tile's copy awaited. -/
theorem body_await (c : Dev nD) (t : Fin cfg0.N) (hj : t.val % 16 = 0) (h0 : 0 < t.val) :
    bodyPre m c t ⊢ wp frame (wpE (defs₀ (F := F)) Variants.none c none) Set.univ (bodyAt0 t) (fun _ => bodyPost m c t) := by
  have hp := h0
  clear h0
  unfold bodyPre bodyPost bodyAt0 owns
  rw [show (dats m 0 c).Φ t.castSucc = held m c t.val from rfl, show (dats m 0 c).Φ t.succ = held m c (t.val + 1) from rfl,
    show (dats m 0 c).owesAt () t.succ = (dats m 0 c).owesAt () t.castSucc from rfl, after_0, after_1, after_2, after_3]
  simp only [before_0, before_1, before_2]
  unfold held
  have hc2 : k0_cond2 (grid0.coords t) = 1#1 := (cond2_iff t).mpr hj
  rw [normSt_first _ _ _ hj, (carried_first t hj hp).1, (carried_first t hj hp).2]
  unfold copySt idle flying
  unfold Dat.owesAt Pipeline.owesWithin
  rw [show (dats m 0 c).owed t.castSucc = 0 from rfl]
  iintro ⟨⟨⟨%fn, Hn⟩, ⟨Hf, Hr⟩, Hg⟩, ⟨%W, %hW, HO⟩, ⟨%d0, %X0, %h0, H0⟩, ⟨%d1, %X1, %h1, H1⟩, ⟨%d2, %X2, %h2, H2⟩, ⟨%d3, %X3, %h3, H3⟩⟩
  ihave Hf' := (flight_back c (off1_eq t) (k0_off1_inb _ hc2) (rowOff_inb _) _) $$ Hf
  icases Hf' with ⟨%fx, Hf⟩
  iapply (exec_cut_last _ _ _ (await (F := F) Variants.none c none (grid0.coords t) _ _ _ _ _ _ _ _ X0 X1 X2 X3 fn fx (V m c main_arg0) W (fun h => by have := (cond1_iff t).mp h; omega) hc2 (fun h => by have := (cond3_iff t).mp h; omega))) $$ [H0 H1 H2 H3 Hn Hf HO]
  · isplitl [H0]; · iexact H0
    isplitl [H1]; · iexact H1
    isplitl [H2]; · iexact H2
    isplitl [H3]; · iexact H3
    isplitl [Hn]; · iexact Hn
    isplitl [Hf]; · iexact Hf
    iexact HO
  iintro %r ⟨H0, H1, H2, H3, Hn, Hl, Ht, Hc, ⟨%W', HO⟩⟩
  ihave Hr' := (rest_back c (off1_eq t) (k0_off1_inb _ hc2) (rowOff_inb _) _) $$ Hr
  isplitl [Hn Hl Ht Hc Hr' Hg]
  · isplitl [Hn]
    · rw [h0, tile_at (off1_eq t) _ (rowOff_inb _), ← norm_first m c t hj]
      iapply (normSt_succ m c t) $$ Hn
    isplitl [Hl Ht Hc Hr']
    · isplitl [Ht Hr']
      · iapply (all_split c (k0_off1 (grid0.coords t)) (k0_off1_inb _ hc2) (V m c main_arg0)).2
        isplitl [Ht]; · iexact Ht
        iexact Hr'
      isplitl [Hl]; · iexact Hl
      iexact Hc
    iexact Hg
  isplitl [HO]
  · iexists W'; isplitr; · ipureintro; exact fun _ _ => Or.inl trivial
    iexact HO
  isplitl [H0]
  · iexists _; isplitr; swap; · iexact H0
    ipureintro; exact h0
  isplitl [H1]
  · iexists _; isplitr; swap; · iexact H1
    ipureintro; exact h1
  isplitl [H2]
  · iexists _; isplitr; swap; · iexact H2
    ipureintro; exact h2
  iexists _; isplitr; swap; · iexact H3
  ipureintro; refine (View.read_rep _ _).trans ?_
  rw [h0, h1, h2, outAt_first m c t hj]; unfold xAt; rw [tile_at (off1_eq t) _ (rowOff_inb _)]

/-- The first point: the first tile's copy started and awaited. -/
theorem body_fresh (c : Dev nD) (t : Fin cfg0.N) (hp : t.val = 0) :
    bodyPre m c t ⊢ wp frame (wpE (defs₀ (F := F)) Variants.none c none) Set.univ (bodyAt0 t) (fun _ => bodyPost m c t) := by
  have hj : t.val % 16 = 0 := by rw [hp]
  have hz : (![0, 0] : Fin 2 → ℕ) = rowOff (row (t.val / 16)) := by rw [hp]; exact off0_eq
  unfold bodyPre bodyPost bodyAt0 owns
  rw [show (dats m 0 c).Φ t.castSucc = held m c t.val from rfl, show (dats m 0 c).Φ t.succ = held m c (t.val + 1) from rfl,
    show (dats m 0 c).owesAt () t.succ = (dats m 0 c).owesAt () t.castSucc from rfl, after_0, after_1, after_2, after_3]
  simp only [before_0, before_1, before_2]
  unfold held
  rw [normSt_first _ _ _ hj, show carried t.val = none by rw [hp]; rfl, show carried (t.val + 1) = none by rw [hp]; rfl]
  unfold copySt idle
  unfold Dat.owesAt Pipeline.owesWithin
  rw [show (dats m 0 c).owed t.castSucc = 0 from rfl]
  iintro ⟨⟨⟨%fn, Hn⟩, ⟨Hx, ⟨%fx, Hl⟩, Hc⟩, Hg⟩, ⟨%W, %hW, HO⟩, ⟨%d0, %X0, %h0, H0⟩, ⟨%d1, %X1, %h1, H1⟩, ⟨%d2, %X2, %h2, H2⟩, ⟨%d3, %X3, %h3, H3⟩⟩
  ihave Hx' := (all_split c ![0, 0] inb_S8448x2048_S1056x2048_0_0 (V m c main_arg0)).1 $$ Hx
  icases Hx' with ⟨Ht, Hr⟩
  iapply (exec_cut_last _ _ _ (fresh (F := F) Variants.none c none (grid0.coords t) _ _ _ _ _ _ _ _ X0 X1 X2 X3 fn fx (V m c main_arg0) W ((cond1_iff t).mpr hp) ((cond2_iff t).mpr hj) (fun h => by have := (cond3_iff t).mp h; omega))) $$ [H0 H1 H2 H3 Hn Hl Ht Hc HO]
  · isplitl [H0]; · iexact H0
    isplitl [H1]; · iexact H1
    isplitl [H2]; · iexact H2
    isplitl [H3]; · iexact H3
    isplitl [Hn]; · iexact Hn
    isplitl [Hl]; · iexact Hl
    isplitl [Ht]; · iexact Ht
    isplitl [Hc]; · iexact Hc
    iexact HO
  iintro %r ⟨H0, H1, H2, H3, Hn, Hl, Ht, Hc, ⟨%W', HO⟩⟩
  isplitl [Hn Hl Ht Hc Hr Hg]
  · isplitl [Hn]
    · rw [h0, tile_at hz _ (rowOff_inb _), ← norm_first m c t hj]
      iapply (normSt_succ m c t) $$ Hn
    isplitl [Hl Ht Hc Hr]
    · isplitl [Ht Hr]
      · iapply (all_split c ![0, 0] inb_S8448x2048_S1056x2048_0_0 (V m c main_arg0)).2
        isplitl [Ht]; · iexact Ht
        iexact Hr
      isplitl [Hl]; · iexact Hl
      iexact Hc
    iexact Hg
  isplitl [HO]
  · iexists W'; isplitr; · ipureintro; exact fun _ _ => Or.inl trivial
    iexact HO
  isplitl [H0]
  · iexists _; isplitr; swap; · iexact H0
    ipureintro; exact h0
  isplitl [H1]
  · iexists _; isplitr; swap; · iexact H1
    ipureintro; exact h1
  isplitl [H2]
  · iexists _; isplitr; swap; · iexact H2
    ipureintro; exact h2
  iexists _; isplitr; swap; · iexact H3
  ipureintro; refine (View.read_rep _ _).trans ?_
  rw [h0, h1, h2, outAt_first m c t hj]; unfold xAt; rw [tile_at hz _ (rowOff_inb _)]

theorem sound_body (c : Dev nD) (t : Fin cfg0.N) :
    bodyPre m c t ⊢ wp frame (wpE (defs₀ (F := F)) Variants.none c none) Set.univ (bodyAt0 t) (fun _ => bodyPost m c t) := by
  by_cases hj : t.val % 16 = 0
  · by_cases hp : t.val = 0
    · exact body_fresh m c t hp
    · exact body_await m c t hj (Nat.pos_of_ne_zero hp)
  · by_cases hs : t.val % 16 = 1 ∧ t.val / 16 + 1 < 8
    · exact body_start m c t hs.1 hs.2
    · exact body_plain m c t hj hs

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The kernel's own semaphore cell. -/
abbrev ownCell : Fin 1 → SemLoc sig := fun j => (![SemLoc.dma 7] : Fin 1 → SemLoc sig) j
theorem ownCell_facts : Pipeline.OwnSemFacts spec0 ownCell := by decide
/-- The residual stream, which no window stages. -/
def unstaged : Finset (Ref sig .tc) := {main_arg0}
theorem unstaged_sub : unstaged ⊆ Pipeline.restRefs sig spec0 := by decide

/-- What the run starts from and ends with: both scratch tiles at anything, the cell at zero, the residual stream whole. -/
theorem ends_eq (c : Dev nD) :
    (Pipeline.ΦD ownCell spec0 unstaged (V m) c : sProp 𝕄D)
      = iprop(iprop((∃ f, xnP c f) ∗ (∃ f, xP c f)) ∗ (∃ r, prngReg c r) ∗ cellP c ∗ allP c (V m c main_arg0)) := by
  rw [Pipeline.ΦD_eq, scopedRest0_eq, Pipeline.ownSems0_eq_of_list c ownCell [0] (by decide) (by decide)]
  unfold unstaged
  rw [BI.bigSep_eq_bigSepL_of_eq [main_arg0] (by decide) (by decide)]
  unfold xnP xP
  rw [show (xnM.view.set : Finset _) = Finset.univ from View.set_whole _, show (xM.view.set : Finset _) = Finset.univ from View.set_whole _]
  rfl

theorem held_first (c : Dev nD) : Pipeline.ΦD ownCell spec0 unstaged (V m) c ⊢ (held m c 0 : sProp 𝕄D) := by
  rw [ends_eq]
  unfold held
  rw [normSt_first _ _ _ rfl, show carried 0 = none from rfl]
  unfold copySt idle
  iintro ⟨⟨Hn, Hl⟩, Hg, Hc, Hx⟩
  isplitl [Hn]; · iexact Hn
  isplitl [Hx Hl Hc]
  · isplitl [Hx]; · iexact Hx
    isplitl [Hl]; · iexact Hl
    iexact Hc
  iexact Hg
theorem held_last (c : Dev nD) : (held m c 128 : sProp 𝕄D) ⊢ Pipeline.ΦD ownCell spec0 unstaged (V m) c := by
  rw [ends_eq]
  unfold held
  rw [normSt_first _ _ _ rfl, show carried 128 = none from rfl]
  unfold copySt idle
  iintro ⟨Hn, ⟨Hx, Hl, Hc⟩, Hg⟩
  isplitl [Hn Hl]
  · isplitl [Hn]; · iexact Hn
    iexact Hl
  isplitl [Hg]; · iexact Hg
  isplitl [Hc]; · iexact Hc
  iexact Hx

theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The whole program, from any memory with zero counters, over any float values: it ends, with every array at what the points
    leave and every counter at zero. -/
theorem run_main : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 ownCell defs₀ Variants.none ownCell_facts unstaged unstaged_sub m ρ main
    (hbody := fun c => (body_obligation m c).loose) (hshare := fun c => (dats m 0 c).share_full fun _ => rfl)
    (howed := fun _ _ => rfl) (V := V m) (hmain := hmainD m Variants.none) (hA := A_eq m)
    (hin := held_first m) (hout := held_last m)

variable {m} in
/-- The arguments are left as they were. -/
theorem args_kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 1).trans (((dats m 0 c).arrAt_in 1 rfl _).trans ((A_eq m c 1).trans (V_main_arg2 m c))),
    ((h c).1 2).trans (((dats m 0 c).arrAt_in 2 rfl _).trans ((A_eq m c 2).trans (V_main_arg3 m c)))⟩

/-- The arguments are left as they were and every counter is zero at the end. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨args_kept h.1, h.2⟩) (run_main m ρ)

end Cert.MlpIdeal.Ff

end
-- ==== Proof.FfValue.lean ====
/- The feed-forward kernel's result array, entry by entry: the residual stream and the sixteen blocks' contributions summed. -/
module

public import proofs.«01_k».proof.Proof.FfRun
public import proofs.«01_k».proof.Proof.FfRef
public import Idealize.ShloMosaic.Lib.Claim
public import Idealize.ShloMosaic.Lib.Pipeline.ValueKit

@[expose] public section

set_option maxRecDepth 16384

noncomputable section

namespace Cert.MlpIdeal.Ff

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MlpReferenceIdeal.Ff (unit hid)

/-! ## One point's values -/

theorem normed_apply (x : Vec Ideal S1056x2048 .f32) (g : Vec Ideal S1x2048 .f32) (r : Fin 1056) (d : Fin 2048) :
    (normed x g (ix2 r d) : EReal) = unit (fun e => (x (ix2 r e) : EReal)) (fun e => (g (ix2 0 e) : EReal)) d := by
  pointwise [normed]
  rfl

theorem hidden_apply (xn : FVec Ideal S1056x2048 .bf16) (w1 : Vec Ideal S1x2048x512 .f32) (r : Fin 1056) (f : Fin 512) :
    (hidden xn w1 (ix2 r f) : EReal) = max (∑ d : Fin 2048, (xn (ix2 r d) : EReal) * (w1 (ix3 0 d f) : EReal)) 0
      * max (∑ d : Fin 2048, (xn (ix2 r d) : EReal) * (w1 (ix3 0 d f) : EReal)) 0 := by
  pointwise [hidden]

theorem step_apply (xn : FVec Ideal S1056x2048 .bf16) (w1 : Vec Ideal S1x2048x512 .f32) (w2 : Vec Ideal S1x512x2048 .f32) (o : Vec Ideal S1056x2048 .f32)
    (r : Fin 1056) (e : Fin 2048) :
    (step xn w1 w2 o (ix2 r e) : EReal) = (o (ix2 r e) : EReal) + ∑ f : Fin 512, (hidden xn w1 (ix2 r f) : EReal) * (w2 (ix3 0 f e) : EReal) := by
  pointwise [step]

/-! ## The blocks, cut from the arguments -/

/-- The windows' index maps. -/
theorem idx : ∀ t : Fin cfg0.N, win0_0.index t = ![0, 0] ∧ win0_1.index t = ![2, 0, t.val % 16]
    ∧ win0_2.index t = ![2, t.val % 16, 0] ∧ win0_3.index t = ![t.val / 16, 0] :=
  (by decide +kernel : ∀ t : Fin grid0.N, _)

variable (m : (ℓ : Loc nD τ sig) → Buf (Elt Ideal) ℓ) (c : Dev nD)
  (x : FVec Ideal S8448x2048 .f32) (g : FVec Ideal S2048 .f32) (w1 : FVec Ideal S4x2048x8192 .f32) (w2 : FVec Ideal S4x8192x2048 .f32)
  (hx : m ((c.tc : Thread nD τ).loc main_arg0) = x) (hg : m ((c.tc : Thread nD τ).loc main_arg1) = g)
  (hw1 : m ((c.tc : Thread nD τ).loc main_arg2) = w1) (hw2 : m ((c.tc : Thread nD τ).loc main_arg3) = w2)

theorem v0_eq (hg : m ((c.tc : Thread nD τ).loc main_arg1) = g) : V m c main_v0 = shapeCast S1x2048 g shapeCasts_S2048_S1x2048 := by
  subst hg; entry_read; rfl

theorem gain_apply (hg : m ((c.tc : Thread nD τ).loc main_arg1) = g) (t : Fin cfg0.N) (d : Fin 2048) :
    (iblk m c 0 t (ix2 0 d) : EReal) = (g (ix1 d) : EReal) := by
  have e : ∀ X : Vec Ideal S1x2048 .f32, X ((win0_0.blk t).view.emb (ix2 0 d)) = X (ix2 0 d) := fun X => by blk_ext [idx t]
  blk_simp [iblk, idx t]
  rw [v0_eq m c g hg]
  refine (e _).trans ?_
  pointwise []

theorem up_apply (hw1 : m ((c.tc : Thread nD τ).loc main_arg2) = w1) (t : Fin cfg0.N) (d : Fin 2048) (f : Fin 512) :
    (iblk m c 1 t (ix3 0 d f) : EReal) = (w1 (ix3 2 d ⟨512 * (t.val % 16) + f.val, by omega⟩) : EReal) := by
  have e : ∀ X : Vec Ideal S4x2048x8192 .f32, X ((win0_1.blk t).view.emb (ix3 0 d f)) = X (ix3 2 d ⟨512 * (t.val % 16) + f.val, by omega⟩) := fun X => by
    blk_ext [idx t]
  blk_simp [iblk, idx t]
  rw [show V m c main_arg2 = w1 from (V_main_arg2 m c).trans hw1]
  exact e _

theorem down_apply (hw2 : m ((c.tc : Thread nD τ).loc main_arg3) = w2) (t : Fin cfg0.N) (f : Fin 512) (d : Fin 2048) :
    (iblk m c 2 t (ix3 0 f d) : EReal) = (w2 (ix3 2 ⟨512 * (t.val % 16) + f.val, by omega⟩ d) : EReal) := by
  have e : ∀ X : Vec Ideal S4x8192x2048 .f32, X ((win0_2.blk t).view.emb (ix3 0 f d)) = X (ix3 2 ⟨512 * (t.val % 16) + f.val, by omega⟩ d) := fun X => by
    blk_ext [idx t]
  blk_simp [iblk, idx t]
  rw [show V m c main_arg3 = w2 from (V_main_arg3 m c).trans hw2]
  exact e _

theorem rows_apply (hx : m ((c.tc : Thread nD τ).loc main_arg0) = x) (n : Fin 8) (r : Fin 1056) (d : Fin 2048) :
    (xAt m c n (ix2 r d) : EReal) = (x (ix2 ⟨1056 * n.val + r.val, by omega⟩ d) : EReal) := by
  have e : ∀ X : Vec Ideal S8448x2048 .f32, X ((tile (rowOff n) (rowOff_inb n)).view.emb (ix2 r d)) = X (ix2 ⟨1056 * n.val + r.val, by omega⟩ d) := fun X => by
    congr 1
    funext a
    match a with
    | ⟨0, _⟩ => exact Fin.ext (by show 1056 * n.val + 1 * r.val = 1056 * n.val + r.val; omega)
    | ⟨1, _⟩ => exact Fin.ext (by show 0 + 1 * d.val = d.val; omega)
  unfold xAt
  rw [show V m c main_arg0 = x from (V_main_arg0 m c).trans hx]
  exact e _

/-! ## The accumulated tile -/

/-- Hidden unit `f`'s contribution to entry (`r`, `e`). -/
def term (r : Fin 8448) (e : Fin 2048) (f : Fin 8192) : EReal :=
  hid (fun e => (x (ix2 r e) : EReal)) (fun e => (g (ix1 e) : EReal)) (fun d => (w1 (ix3 2 d f) : EReal)) * (w2 (ix3 2 f e) : EReal)
/-- The same, over all naturals. -/
def termN (r : Fin 8448) (e : Fin 2048) (f : ℕ) : EReal := term x g w1 w2 r e ⟨f % 8192, Nat.mod_lt _ (by decide)⟩

include hx hg hw1 hw2

/-- What one block adds. -/
theorem block_sum (n : Fin 8) (j : ℕ) (hj : j < 16) (r : Fin 1056) (e : Fin 2048) :
    (∑ f : Fin 512, (hidden (xnAt m c n) (iblk m c 1 (pt n j)) (ix2 r f) : EReal) * (iblk m c 2 (pt n j) (ix3 0 f e) : EReal))
      = ∑ f ∈ Finset.range 512, termN x g w1 w2 ⟨1056 * n.val + r.val, by omega⟩ e (512 * j + f) := by
  rw [Finset.sum_range]
  refine Finset.sum_congr rfl fun f _ => ?_
  have hp : (pt n j).val % 16 = j := by show (16 * n.val + j) % 128 % 16 = j; omega
  have hm : (512 * j + f.val) % 8192 = 512 * j + f.val := Nat.mod_eq_of_lt (by omega)
  rw [hidden_apply, down_apply m c w2 hw2]
  unfold xnAt termN term hid
  simp only [normed_apply, up_apply m c w1 hw1, gain_apply m c g hg, rows_apply m c x hx, hp, hm]

/-- After block `j`: the residual stream and the first `512 (j + 1)` hidden units' contributions. -/
theorem acc_apply (n : Fin 8) (r : Fin 1056) (e : Fin 2048) (j : ℕ) (hj : j < 16) :
    (accAt m c n j (ix2 r e) : EReal) = (x (ix2 ⟨1056 * n.val + r.val, by omega⟩ e) : EReal)
      + ∑ f ∈ Finset.range (512 * (j + 1)), termN x g w1 w2 ⟨1056 * n.val + r.val, by omega⟩ e f := by
  induction j with
  | zero =>
    show (step (F := Ideal) _ _ _ _ (ix2 r e) : EReal) = _
    rw [step_apply, block_sum m c x g w1 w2 hx hg hw1 hw2 n 0 hj, rows_apply m c x hx]
    simp only [Nat.mul_zero, Nat.zero_add, Nat.mul_one]
  | succ j ih =>
    show (step (F := Ideal) _ _ _ (accAt m c n j) (ix2 r e) : EReal) = _
    rw [step_apply, block_sum m c x g w1 w2 hx hg hw1 hw2 n (j + 1) hj, ih (by omega), add_assoc, ← Finset.sum_range_add]
    rfl

/-! ## The result -/

/-- What the last block of a row tile leaves: the reference's entries. -/
theorem out_entry (t : Fin cfg0.N) (hj : t.val % 16 = 15) (r : Fin 1056) (e : Fin 2048) : (outAt m c t (ix2 r e) : EReal)
    = Cert.MlpReferenceIdeal.Ff.result x g w1 w2 (ix2 ⟨1056 * (row (t.val / 16)).val + r.val, by omega⟩ e) := by
  rw [Cert.MlpReferenceIdeal.Ff.result_apply]
  have key := acc_apply m c x g w1 w2 hx hg hw1 hw2 (row (t.val / 16)) r e 15 (by omega)
  rw [Finset.sum_range] at key
  unfold outAt
  rw [hj]
  refine key.trans (congrArg (_ + ·) (Finset.sum_congr rfl fun f _ => ?_))
  unfold termN term
  rw [show (⟨f.val % 8192, Nat.mod_lt _ (by decide)⟩ : Fin 8192) = f from Fin.ext (Nat.mod_eq_of_lt f.isLt)]

/-- An entry of the result array. -/
theorem final_entry (i : S8448x2048.Idx) : ((dats m 0 c).arrAt 3 (cfgs 0).N i : EReal)
    = Cert.MlpReferenceIdeal.Ff.result x g w1 w2 i := by
  refine (dats m 0 c).arrAt_forall_of_covers 3 (fun (i : S8448x2048.Idx) (y : EReal) => y = Cert.MlpReferenceIdeal.Ff.result x g w1 w2 i) (by decide +kernel) (fun t hf y => ?_) i
  have t8 : t.val / 16 < 8 := by have : t.val < 128 := t.isLt; omega
  have hr : (row (t.val / 16)).val = t.val / 16 := Nat.mod_eq_of_lt t8
  have e : ∀ (X : Vec Ideal S8448x2048 .f32) (r : Fin 1056) (d : Fin 2048),
      X ((win0_3.blk t).view.emb (ix2 r d)) = X (ix2 ⟨1056 * (row (t.val / 16)).val + r.val, by omega⟩ d) := fun X r d => by
    blk_ext [idx t]
  blk_simp
  rw [after_3]
  obtain ⟨r, d, rfl⟩ : ∃ (r : Fin 1056) (d : Fin 2048), y = ix2 r d := ⟨y 0, y 1, eq_ix2 y⟩
  exact (out_entry m c x g w1 w2 hx hg hw1 hw2 t ((flush0_3 t).mp hf) r d).trans (e _ r d).symm

omit hx hg hw1 hw2
variable (ρ : Dev nD → PrngReg)

/-- The run: the result at the reference's, the arguments as they were. -/
theorem run : θ_run defs (onTc (τ := τ) (main (F := Ideal))) ⟨m, fun _ => 0, ρ⟩ fun r => ∀ c : Dev nD,
      r.2.mem ((c.tc : Thread nD τ).loc main_v1) = Cert.MlpReferenceIdeal.Ff.result (F := Ideal) (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 3).trans (funext fun i => final_entry m c _ _ _ _ rfl rfl rfl rfl i), args_kept h.1 c⟩) (run_main m ρ)

end Cert.MlpIdeal.Ff

end
-- ==== Proof.EndBody.lean ====
/- The last layer's feed-forward kernel on one grid point: the four cases of the feed-forward kernel, and the last block of a row
   tile, which also norms the finished tile and starts its copy to the result. -/
module

public import proofs.«01_k».proof.Proof.Gen.LastIdeal.Frame
public import proofs.«01_k».proof.Proof.Gen.Last
public import proofs.«01_k».proof.Proof.Gen.LastReferenceIdeal.Run
public import Idealize.ShloMosaic.Lib.VecWindow

@[expose] public section

set_option maxRecDepth 16384

noncomputable section

namespace Cert.LastIdeal.End

open Cert.LastIdeal Cert.LastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄D" => MT nD τ sig Unit (Elt F) ℕ (Pipeline.UD sig nD τ) ℕ

/-! ## The values -/

/-- A row tile over the root of its rows' mean squares. -/
def unit (x : Vec F S1056x2048 .f32) : FVec F S1056x2048 .f32 :=
  mulf x (broadcastTo S1056x2048
      (rsqrt (addf (divf (shapeCast S1056x1 (multiReduction .add [1] S1056 (mulf x x) 0x00000000#32 reduces_S1056x2048_S1056 (.inl rfl) rfl) shapeCasts_S1056_S1056x1)
          (broadcast S1056x1 (Scalar.ofBits .f32 0x45000000#32))) (broadcast S1056x1 (Scalar.ofBits .f32 0x358637BD#32))))
      broadcasts_S1056x1_S1056x2048)

/-- A row tile normed and scaled by the gain. -/
def scaled (x : Vec F S1056x2048 .f32) (g : Vec F S1x2048 .f32) : FVec F S1056x2048 .f32 :=
  mulf (unit x) (broadcastTo S1056x2048 (shapeCast S1x2048 g shapeCasts_S1x2048_S1x2048) broadcasts_S1x2048_S1056x2048)

/-- A row tile normed and scaled, as the scratch holds it. -/
def normed (x : Vec F S1056x2048 .f32) (g : Vec F S1x2048 .f32) : FVec F S1056x2048 .bf16 :=
  shapeCast S1056x2048 (truncf .bf16 (scaled x g) bitsLt_bf16_f32) shapeCasts_S1056x2048_S1056x2048

/-- A finished row tile normed and scaled, as it is copied out. -/
def finished (y : Vec F S1056x2048 .f32) (g : Vec F S1x2048 .f32) : FVec F S1056x2048 .f32 :=
  shapeCast S1056x2048 (scaled y g) shapeCasts_S1056x2048_S1056x2048

/-- One block of 512 hidden units: the squared positive part of what enters it. -/
def hidden (xn : FVec F S1056x2048 .bf16) (w1 : Vec F S1x2048x512 .f32) : FVec F S1056x512 .bf16 :=
  let u : FVec F S1056x512 .f32 := maximumf (matmul dot_S1056x2048_S2048x512_S1056x512_1_0_0_1_n_n none xn
    (truncf .bf16 (shapeCast S2048x512 w1 shapeCasts_S1x2048x512_S2048x512) bitsLt_bf16_f32) (constant S1056x512 .f32 0x00000000#32))
    (broadcast S1056x512 (Scalar.ofBits .f32 0x00000000#32))
  truncf .bf16 (mulf u u) bitsLt_bf16_f32

/-- The output tile with one block's contribution added. -/
def step (xn : FVec F S1056x2048 .bf16) (w1 : Vec F S1x2048x512 .f32) (w2 : Vec F S1x512x2048 .f32) (o : Vec F S1056x2048 .f32) : FVec F S1056x2048 .f32 :=
  shapeCast S1056x2048 (addf o (matmul dot_S1056x512_S512x2048_S1056x2048_1_0_0_1_n_n none (hidden xn w1)
    (truncf .bf16 (shapeCast S512x2048 w2 shapeCasts_S1x512x2048_S512x2048) bitsLt_bf16_f32) (constant S1056x2048 .f32 0x00000000#32))) shapeCasts_S1056x2048_S1056x2048

/-! ## The kernel's own operands -/

/-- The residual stream and the result, left where they lie; the normed tile; the landing tile; the tile being summed; the tile
    being copied out. -/
abbrev hbM : Memref sig .tc .hbm S8448x2048 .f32 := Memref.whole main_arg0
abbrev outM : Memref sig .tc .hbm S8192x2048 .f32 := Memref.whole main_v2
abbrev xnM : Memref sig .tc .vmem S1056x2048 .bf16 := Memref.whole cc0_scratch0
abbrev xM : Memref sig .tc .vmem S1056x2048 .f32 := Memref.whole cc0_scratch1
abbrev oM : Memref sig .tc .vmem S1056x2048 .f32 := Memref.whole cc0_scratch3
abbrev sgM : Memref sig .tc .vmem S1056x2048 .f32 := Memref.whole cc0_scratch4
/-- The tile of rows at offset `o`. -/
abbrev tile (o : Fin 2 → ℕ) (h : ∀ a, o a + S1056x2048.size a ≤ S8448x2048.size a) : Memref sig .tc .hbm S1056x2048 .f32 :=
  hbM.slice (Rect.unit (s := S8448x2048) o S1056x2048.size h) (fun _ => rfl)
/-- `k` rows of the result from row `d`; `k` rows of the tile being copied out from row `r`. -/
abbrev seg (d k : ℕ) (h : ∀ a, (![d, 0] : Fin 2 → ℕ) a + (⟨2, ![k, 2048]⟩ : Shape).size a ≤ S8192x2048.size a) : Memref sig .tc .hbm ⟨2, ![k, 2048]⟩ .f32 :=
  outM.slice (Rect.unit (s := S8192x2048) ![d, 0] (⟨2, ![k, 2048]⟩ : Shape).size h) (fun _ => rfl)
abbrev part (r k : ℕ) (h : ∀ a, (![r, 0] : Fin 2 → ℕ) a + (⟨2, ![k, 2048]⟩ : Shape).size a ≤ S1056x2048.size a) : Memref sig .tc .vmem ⟨2, ![k, 2048]⟩ .f32 :=
  sgM.slice (Rect.unit (s := S1056x2048) ![r, 0] (⟨2, ![k, 2048]⟩ : Shape).size h) (fun _ => rfl)

abbrev tileP (c : Dev nD) (o : Fin 2 → ℕ) (h : ∀ a, o a + S1056x2048.size a ≤ S8448x2048.size a) (XA : Buf (Elt F) (hbM.view.loc (c : Thread nD τ))) : sProp 𝕄D :=
  (tile o h).view.loc (c : Thread nD τ) ↦[(tile o h).view.set]{fullShare} XA
abbrev xnP (c : Dev nD) (f : Buf (Elt F) (xnM.view.loc (c : Thread nD τ))) : sProp 𝕄D := xnM.view.loc (c : Thread nD τ) ↦[xnM.view.set]{fullShare} f
abbrev xP (c : Dev nD) (f : Buf (Elt F) (xM.view.loc (c : Thread nD τ))) : sProp 𝕄D := xM.view.loc (c : Thread nD τ) ↦[xM.view.set]{fullShare} f
abbrev oP (c : Dev nD) (f : Buf (Elt F) (oM.view.loc (c : Thread nD τ))) : sProp 𝕄D := oM.view.loc (c : Thread nD τ) ↦[oM.view.set]{fullShare} f
abbrev sgP (c : Dev nD) (f : Buf (Elt F) (sgM.view.loc (c : Thread nD τ))) : sProp 𝕄D := sgM.view.loc (c : Thread nD τ) ↦[sgM.view.set]{fullShare} f
abbrev segP (c : Dev nD) (d k : ℕ) (h : ∀ a, (![d, 0] : Fin 2 → ℕ) a + (⟨2, ![k, 2048]⟩ : Shape).size a ≤ S8192x2048.size a) (f : Buf (Elt F) (outM.view.loc (c : Thread nD τ))) : sProp 𝕄D :=
  (seg d k h).view.loc (c : Thread nD τ) ↦[(seg d k h).view.set]{fullShare} f
abbrev cellP (c : Dev nD) : sProp 𝕄D := semVal ((c : Thread nD τ), SemLoc.dma 6) 0
abbrev outCellP (c : Dev nD) : sProp 𝕄D := semVal ((c : Thread nD τ), SemLoc.dma 7) 0
/-- What the tile at `o` leaves in the landing tile. -/
abbrev landed (c : Dev nD) (o : Fin 2 → ℕ) (h : ∀ a, o a + S1056x2048.size a ≤ S8448x2048.size a) (XA : Buf (Elt F) (hbM.view.loc (c : Thread nD τ)))
    (f : Buf (Elt F) (xM.view.loc (c : Thread nD τ))) : Buf (Elt F) (xM.view.loc (c : Thread nD τ)) :=
  xM.view.writes (Elt F) f [⟨Rect.whole S1056x2048, ReadAs.same.apply ((tile o h).view.read (Elt F) XA)⟩]
/-- The tile at `o` in flight to the landing tile, over `f`. -/
abbrev flightP (c : Dev nD) (o : Fin 2 → ℕ) (h : ∀ a, o a + S1056x2048.size a ≤ S8448x2048.size a) (XA : Buf (Elt F) (hbM.view.loc (c : Thread nD τ)))
    (f : Buf (Elt F) (xM.view.loc (c : Thread nD τ))) : sProp 𝕄D :=
  Transfers.Flight countersEmb (c : Thread nD τ) (SemLoc.dma 6) () (xM.view.amount (SemLoc.dma (sig := sig) 6)) iprop(xP c (landed c o h XA f) ∗ tileP c o h XA)
/-- What `k` rows from row `r` of the tile being copied out leave in the result's rows from row `d`. -/
abbrev placed (c : Dev nD) (d r k : ℕ) (h : ∀ a, (![d, 0] : Fin 2 → ℕ) a + (⟨2, ![k, 2048]⟩ : Shape).size a ≤ S8192x2048.size a)
    (h' : ∀ a, (![r, 0] : Fin 2 → ℕ) a + (⟨2, ![k, 2048]⟩ : Shape).size a ≤ S1056x2048.size a) (f : Buf (Elt F) (outM.view.loc (c : Thread nD τ)))
    (g : Buf (Elt F) (sgM.view.loc (c : Thread nD τ))) : Buf (Elt F) (outM.view.loc (c : Thread nD τ)) :=
  (seg d k h).view.writes (Elt F) f [⟨Rect.whole (⟨2, ![k, 2048]⟩ : Shape), ReadAs.same.apply ((part r k h').view.read (Elt F) g)⟩]
/-- Those rows in flight to the result; the whole tile comes back with them. -/
abbrev leaving (c : Dev nD) (d r k : ℕ) (h : ∀ a, (![d, 0] : Fin 2 → ℕ) a + (⟨2, ![k, 2048]⟩ : Shape).size a ≤ S8192x2048.size a)
    (h' : ∀ a, (![r, 0] : Fin 2 → ℕ) a + (⟨2, ![k, 2048]⟩ : Shape).size a ≤ S1056x2048.size a) (f : Buf (Elt F) (outM.view.loc (c : Thread nD τ)))
    (g : Buf (Elt F) (sgM.view.loc (c : Thread nD τ))) : sProp 𝕄D :=
  Transfers.Flight countersEmb (c : Thread nD τ) (SemLoc.dma 7) () ((seg d k h).view.amount (SemLoc.dma (sig := sig) 7)) iprop(segP c d k h (placed c d r k h h' f g) ∗ sgP c g)

/-- The last block of a row tile; row tile `n`: the kernel's conditions on the point's coordinates. -/
abbrev atEnd (i : grid0.Coords) : BitVec 1 := Scalar.cmpi .ne (Scalar.extui (Scalar.cmpi .eq (BitVec.ofNat 32 (i 1).val) 15#32) : BitVec 32) 0#32
abbrev onTile (i : grid0.Coords) (n : BitVec 32) : BitVec 1 := Scalar.cmpi .ne (Scalar.extui (Scalar.cmpi .eq (BitVec.ofNat 32 (i 0).val) n) : BitVec 32) 0#32

/-- A load of a whole tile after a copy has filled it reads the copy. -/
theorem load_of_copied {e : EltTy} (v : View sig .tc .vmem S1056x2048 e) (y : S1056x2048.Idx → Elt F e) (hb : ∀ a, (![0, 0] : Fin 2 → ℕ) a + S1056x2048.size a ≤ S1056x2048.size a) :
    v.readCov (Val := Elt F) [⟨Rect.whole S1056x2048, y⟩] (Rect.unit (s := S1056x2048) ![0, 0] S1056x2048.size hb).toLoadRect = y :=
  (View.readAt_full _ _ _).trans (View.read_writes_whole _ _ _)

/-- A load of a whole tile after a store of all of it reads the store. -/
theorem load_of_stored {e : EltTy} (v : View sig .tc .vmem S1056x2048 e) (hb hb' : ∀ a, (![0, 0] : Fin 2 → ℕ) a + S1056x2048.size a ≤ S1056x2048.size a)
    (y : (Rect.unit (s := S1056x2048) ![0, 0] S1056x2048.size hb').shape.Idx → Elt F e) (L : List (View.Piece (Elt F) S1056x2048 e)) :
    v.readCov (Val := Elt F) (⟨Rect.unit (s := S1056x2048) ![0, 0] S1056x2048.size hb', y⟩ :: L) (Rect.unit (s := S1056x2048) ![0, 0] S1056x2048.size hb).toLoadRect = y :=
  (View.readAt_full _ _ _).trans (View.read_writes_full _ _ _ _ _)

/-- A transfer in flight may carry more along with what it delivers. -/
theorem flight_with (c : Thread nD τ) (sm : SemLoc sig) (N : ℕ) (D P : sProp 𝕄D) :
    iprop(Transfers.Flight countersEmb c sm () N D ∗ P) ⊢ (Transfers.Flight countersEmb c sm () N iprop(D ∗ P) : sProp 𝕄D) := by
  unfold Transfers.Flight
  iintro ⟨⟨⟨%R, HR, %hcap, %hpeek⟩, Hcred⟩, HP⟩
  isplitl [HR HP]
  · iexists iprop(R ∗ P)
    isplitl [HR HP]
    · isplitl [HR]; · iexact HR
      iexact HP
    isplit
    · ipureintro
      intro K
      refine BIBase.Entails.trans ?_ (hcap K)
      iintro ⟨⟨HR, HP⟩, HK⟩
      isplitl [HR]; · iexact HR
      iintro ⟨Hv, HD⟩
      iapply HK
      isplitl [Hv]; · iexact Hv
      isplitl [HD]; · iexact HD
      iexact HP
    · ipureintro
      intro K
      refine BIBase.Entails.trans ?_ (hpeek K)
      iintro ⟨⟨HR, HP⟩, HK⟩
      isplitl [HR]; · iexact HR
      iintro HR
      iapply HK
      isplitl [HR]; · iexact HR
      iexact HP
  · iexact Hcred

/-- A copy of part of the tile, with the rest of the tile at hand, is a copy that gives the whole tile back. -/
theorem leaving_of (c : Dev nD) (d r k : ℕ) (h : ∀ a, (![d, 0] : Fin 2 → ℕ) a + (⟨2, ![k, 2048]⟩ : Shape).size a ≤ S8192x2048.size a)
    (h' : ∀ a, (![r, 0] : Fin 2 → ℕ) a + (⟨2, ![k, 2048]⟩ : Shape).size a ≤ S1056x2048.size a) (f : Buf (Elt F) (outM.view.loc (c : Thread nD τ)))
    (g : Buf (Elt F) (sgM.view.loc (c : Thread nD τ))) :
    iprop(Transfers.Flight countersEmb (c : Thread nD τ) (SemLoc.dma 7) () ((seg d k h).view.amount (SemLoc.dma (sig := sig) 7))
        iprop(segP c d k h (placed c d r k h h' f g) ∗ (sgM.view.loc (c : Thread nD τ) ↦[(part r k h').view.set]{fullShare} g))
      ∗ (sgM.view.loc (c : Thread nD τ) ↦[sgM.view.set \ (part r k h').view.set]{fullShare} g))
    ⊢ (leaving c d r k h h' f g : sProp 𝕄D) := by
  refine (flight_with _ _ _ _ _).trans (Transfers.Flight_mono countersEmb _ ?_)
  iintro ⟨⟨Hd, Hp⟩, Hr⟩
  isplitl [Hd]; · iexact Hd
  iapply (pointsTo_split_subset (show (part r k h').view.set ⊆ sgM.view.set from View.set_slice_subset _ _)).2
  isplitl [Hp]; · iexact Hp
  iexact Hr

/-! ## The cases -/

/-- No copy: one block added. -/
theorem plain (𝒱 : Variants) (c : Dev nD) (bd : Option 𝒱.V) (i : grid0.Coords) (arg3 : Memref sig .tc .vmem S1x2048 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x2048 .f32) (harg6 : arg6.IsWhole)
    (X3 : BufTy.Contents (Elt F) arg3.view.ty) (X4 : BufTy.Contents (Elt F) arg4.view.ty) (X5 : BufTy.Contents (Elt F) arg5.view.ty) (X6 : BufTy.Contents (Elt F) arg6.view.ty) (Xo : Buf (Elt F) (oM.view.loc (c : Thread nD τ))) (Xn : Buf (Elt F) (xnM.view.loc (c : Thread nD τ)))
    (h1 : ¬ k0_cond1 i = 1#1) (h2 : ¬ k0_cond2 i = 1#1) (h3 : ¬ k0_cond3 i = 1#1) (h4 : ¬ atEnd i = 1#1) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ oP c Xo ∗ xnP c Xn) : sProp 𝕄D)
    ⊢ wp frame (wpE (defs₀ (F := F)) 𝒱 (c : Thread nD τ) bd) Set.univ (cc0__mlp_kernel (F := F) i hbM (Memref.isWhole_whole _) arg3 harg3 arg4 harg4 arg5 harg5 arg6 harg6 outM (Memref.isWhole_whole _) xnM (Memref.isWhole_whole _) xM (Memref.isWhole_whole _) cc0_scratch2 oM (Memref.isWhole_whole _) sgM (Memref.isWhole_whole _) cc0_scratch5)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
          ∗ oP c (oM.view.rep (step (xnM.view.read (Elt F) Xn) (arg4.view.read (Elt F) X4) (arg5.view.read (Elt F) X5) (oM.view.read (Elt F) Xo))) ∗ xnP c Xn)) := by
  have l3 : arg3.view.readAt (Elt F) (Rect.unit (s := S1x2048) ![0, 0] S1x2048.size inb_S1x2048_S1x2048_0_0).toLoadRect X3 = arg3.view.read (Elt F) X3 := View.readAt_full _ _ _
  have l4 : arg4.view.readAt (Elt F) (Rect.unit (s := S1x2048x512) ![0, 0, 0] S1x2048x512.size inb_S1x2048x512_S1x2048x512_0_0_0).toLoadRect X4 = arg4.view.read (Elt F) X4 := View.readAt_full _ _ _
  have l5 : arg5.view.readAt (Elt F) (Rect.unit (s := S1x512x2048) ![0, 0, 0] S1x512x2048.size inb_S1x512x2048_S1x512x2048_0_0_0).toLoadRect X5 = arg5.view.read (Elt F) X5 := View.readAt_full _ _ _
  have l6 : arg6.view.readAt (Elt F) (Rect.unit (s := S1x2048) ![0, 0] S1x2048.size inb_S1x2048_S1x2048_0_0).toLoadRect X6 = arg6.view.read (Elt F) X6 := View.readAt_full _ _ _
  have lo : oM.view.readAt (Elt F) (Rect.unit (s := S1056x2048) ![0, 0] S1056x2048.size inb_S1056x2048_S1056x2048_0_0).toLoadRect Xo = oM.view.read (Elt F) Xo := View.readAt_full _ _ _
  have ln : xnM.view.readAt (Elt F) (Rect.unit (s := S1056x2048) ![0, 0] S1056x2048.size inb_S1056x2048_S1056x2048_0_0).toLoadRect Xn = xnM.view.read (Elt F) Xn := View.readAt_full _ _ _
  iintro ⟨H3, H4, H5, H6, Ho, Hn⟩
  unfold cc0__mlp_kernel
  sl_exec
  sl_step
  isplitl [H3]; · iexact H3
  isplitl [H4]; · iexact H4
  isplitl [H5]; · iexact H5
  isplitl [H6]; · iexact H6
  isplitl [Ho]
  · iapply (pointsTo_rep_of_read (c : Thread nD τ) oM _ fullShare (step (xnM.view.read (Elt F) Xn) (arg4.view.read (Elt F) X4) (arg5.view.read (Elt F) X5) (oM.view.read (Elt F) Xo)) ?_) $$ Ho
    exact View.read_writes_full _ _ _ _ _
  iexact Hn

/-- The next tile's copy started, and one block added. -/
theorem start (𝒱 : Variants) (c : Dev nD) (bd : Option 𝒱.V) (i : grid0.Coords) (arg3 : Memref sig .tc .vmem S1x2048 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x2048 .f32) (harg6 : arg6.IsWhole)
    (X3 : BufTy.Contents (Elt F) arg3.view.ty) (X4 : BufTy.Contents (Elt F) arg4.view.ty) (X5 : BufTy.Contents (Elt F) arg5.view.ty) (X6 : BufTy.Contents (Elt F) arg6.view.ty) (Xo : Buf (Elt F) (oM.view.loc (c : Thread nD τ))) (Xn : Buf (Elt F) (xnM.view.loc (c : Thread nD τ))) (Xx : Buf (Elt F) (xM.view.loc (c : Thread nD τ))) (XA : Buf (Elt F) (hbM.view.loc (c : Thread nD τ)))
    (h1 : ¬ k0_cond1 i = 1#1) (h2 : ¬ k0_cond2 i = 1#1) (h3 : k0_cond3 i = 1#1) (h4 : ¬ atEnd i = 1#1) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ oP c Xo ∗ xnP c Xn ∗ xP c Xx ∗ tileP c (k0_off2 i) (k0_off2_inb i h3) XA ∗ cellP c) : sProp 𝕄D)
    ⊢ wp frame (wpE (defs₀ (F := F)) 𝒱 (c : Thread nD τ) bd) Set.univ (cc0__mlp_kernel (F := F) i hbM (Memref.isWhole_whole _) arg3 harg3 arg4 harg4 arg5 harg5 arg6 harg6 outM (Memref.isWhole_whole _) xnM (Memref.isWhole_whole _) xM (Memref.isWhole_whole _) cc0_scratch2 oM (Memref.isWhole_whole _) sgM (Memref.isWhole_whole _) cc0_scratch5)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
          ∗ oP c (oM.view.rep (step (xnM.view.read (Elt F) Xn) (arg4.view.read (Elt F) X4) (arg5.view.read (Elt F) X5) (oM.view.read (Elt F) Xo))) ∗ xnP c Xn ∗ (∃ f, flightP c (k0_off2 i) (k0_off2_inb i h3) XA f))) := by
  have l3 : arg3.view.readAt (Elt F) (Rect.unit (s := S1x2048) ![0, 0] S1x2048.size inb_S1x2048_S1x2048_0_0).toLoadRect X3 = arg3.view.read (Elt F) X3 := View.readAt_full _ _ _
  have l4 : arg4.view.readAt (Elt F) (Rect.unit (s := S1x2048x512) ![0, 0, 0] S1x2048x512.size inb_S1x2048x512_S1x2048x512_0_0_0).toLoadRect X4 = arg4.view.read (Elt F) X4 := View.readAt_full _ _ _
  have l5 : arg5.view.readAt (Elt F) (Rect.unit (s := S1x512x2048) ![0, 0, 0] S1x512x2048.size inb_S1x512x2048_S1x512x2048_0_0_0).toLoadRect X5 = arg5.view.read (Elt F) X5 := View.readAt_full _ _ _
  have l6 : arg6.view.readAt (Elt F) (Rect.unit (s := S1x2048) ![0, 0] S1x2048.size inb_S1x2048_S1x2048_0_0).toLoadRect X6 = arg6.view.read (Elt F) X6 := View.readAt_full _ _ _
  have lo : oM.view.readAt (Elt F) (Rect.unit (s := S1056x2048) ![0, 0] S1056x2048.size inb_S1056x2048_S1056x2048_0_0).toLoadRect Xo = oM.view.read (Elt F) Xo := View.readAt_full _ _ _
  have ln : xnM.view.readAt (Elt F) (Rect.unit (s := S1056x2048) ![0, 0] S1056x2048.size inb_S1056x2048_S1056x2048_0_0).toLoadRect Xn = xnM.view.read (Elt F) Xn := View.readAt_full _ _ _
  iintro ⟨H3, H4, H5, H6, Ho, Hn, Hx, Ht, Hc⟩
  unfold cc0__mlp_kernel
  sl_exec
  sl_step
  isplitl [H3]; · iexact H3
  isplitl [H4]; · iexact H4
  isplitl [H5]; · iexact H5
  isplitl [H6]; · iexact H6
  isplitl [Ho]
  · iapply (pointsTo_rep_of_read (c : Thread nD τ) oM _ fullShare (step (xnM.view.read (Elt F) Xn) (arg4.view.read (Elt F) X4) (arg5.view.read (Elt F) X5) (oM.view.read (Elt F) Xo)) ?_) $$ Ho
    exact View.read_writes_full _ _ _ _ _
  isplitl [Hn]; · iexact Hn
  iexists Xx
  iexact Hc

/-- The tile's copy awaited, the tile normed, and one block added to it. -/
theorem await (𝒱 : Variants) (c : Dev nD) (bd : Option 𝒱.V) (i : grid0.Coords) (arg3 : Memref sig .tc .vmem S1x2048 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x2048 .f32) (harg6 : arg6.IsWhole)
    (X3 : BufTy.Contents (Elt F) arg3.view.ty) (X4 : BufTy.Contents (Elt F) arg4.view.ty) (X5 : BufTy.Contents (Elt F) arg5.view.ty) (X6 : BufTy.Contents (Elt F) arg6.view.ty) (Xo : Buf (Elt F) (oM.view.loc (c : Thread nD τ))) (Xn : Buf (Elt F) (xnM.view.loc (c : Thread nD τ))) (Xx : Buf (Elt F) (xM.view.loc (c : Thread nD τ))) (XA : Buf (Elt F) (hbM.view.loc (c : Thread nD τ))) (W : Waits sig Unit)
    (h1 : ¬ k0_cond1 i = 1#1) (h2 : k0_cond2 i = 1#1) (h3 : ¬ k0_cond3 i = 1#1) (h4 : ¬ atEnd i = 1#1) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ oP c Xo ∗ xnP c Xn ∗ flightP c (k0_off1 i) (k0_off1_inb i h2) XA Xx ∗ owes (c : Thread nD τ) 0 W) : sProp 𝕄D)
    ⊢ wp frame (wpE (defs₀ (F := F)) 𝒱 (c : Thread nD τ) bd) Set.univ (cc0__mlp_kernel (F := F) i hbM (Memref.isWhole_whole _) arg3 harg3 arg4 harg4 arg5 harg5 arg6 harg6 outM (Memref.isWhole_whole _) xnM (Memref.isWhole_whole _) xM (Memref.isWhole_whole _) cc0_scratch2 oM (Memref.isWhole_whole _) sgM (Memref.isWhole_whole _) cc0_scratch5)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
          ∗ oP c (oM.view.rep (step (normed ((tile (k0_off1 i) (k0_off1_inb i h2)).view.read (Elt F) XA) (arg3.view.read (Elt F) X3)) (arg4.view.read (Elt F) X4) (arg5.view.read (Elt F) X5) (shapeCast S1056x2048 ((tile (k0_off1 i) (k0_off1_inb i h2)).view.read (Elt F) XA) shapeCasts_S1056x2048_S1056x2048))) ∗ xnP c (xnM.view.rep (normed ((tile (k0_off1 i) (k0_off1_inb i h2)).view.read (Elt F) XA) (arg3.view.read (Elt F) X3))) ∗ (∃ f, xP c f) ∗ tileP c (k0_off1 i) (k0_off1_inb i h2) XA ∗ cellP c ∗ ∃ W, owes (c : Thread nD τ) 0 W)) := by
  have l3 : arg3.view.readAt (Elt F) (Rect.unit (s := S1x2048) ![0, 0] S1x2048.size inb_S1x2048_S1x2048_0_0).toLoadRect X3 = arg3.view.read (Elt F) X3 := View.readAt_full _ _ _
  have l4 : arg4.view.readAt (Elt F) (Rect.unit (s := S1x2048x512) ![0, 0, 0] S1x2048x512.size inb_S1x2048x512_S1x2048x512_0_0_0).toLoadRect X4 = arg4.view.read (Elt F) X4 := View.readAt_full _ _ _
  have l5 : arg5.view.readAt (Elt F) (Rect.unit (s := S1x512x2048) ![0, 0, 0] S1x512x2048.size inb_S1x512x2048_S1x512x2048_0_0_0).toLoadRect X5 = arg5.view.read (Elt F) X5 := View.readAt_full _ _ _
  have l6 : arg6.view.readAt (Elt F) (Rect.unit (s := S1x2048) ![0, 0] S1x2048.size inb_S1x2048_S1x2048_0_0).toLoadRect X6 = arg6.view.read (Elt F) X6 := View.readAt_full _ _ _
  have lo : oM.view.readAt (Elt F) (Rect.unit (s := S1056x2048) ![0, 0] S1056x2048.size inb_S1056x2048_S1056x2048_0_0).toLoadRect Xo = oM.view.read (Elt F) Xo := View.readAt_full _ _ _
  iintro ⟨H3, H4, H5, H6, Ho, Hn, Hf, HO⟩
  unfold cc0__mlp_kernel
  sl_exec
  sl_step
  isplitl [H3]; · iexact H3
  isplitl [H4]; · iexact H4
  isplitl [H5]; · iexact H5
  isplitl [H6]; · iexact H6
  isplitl [Ho]
  · iapply (pointsTo_rep_of_read (c : Thread nD τ) oM _ fullShare (step (normed ((tile (k0_off1 i) (k0_off1_inb i h2)).view.read (Elt F) XA) (arg3.view.read (Elt F) X3)) (arg4.view.read (Elt F) X4) (arg5.view.read (Elt F) X5) (shapeCast S1056x2048 ((tile (k0_off1 i) (k0_off1_inb i h2)).view.read (Elt F) XA) shapeCasts_S1056x2048_S1056x2048)) ?_) $$ Ho
    refine (View.read_writes_full _ _ _ _ _).trans ?_
    unfold await.sl.v31 await.sl.v28 await.sl.v27 await.sl.v26 await.sl.v25 await.sl.v23 await.sl.v22 await.sl.v21 await.sl.v20 await.sl.v19 await.sl.v18 await.sl.v17 await.sl.v16 await.sl.v14 await.sl.Ho_1 await.sl.v61 await.sl.Hn_1 await.sl.v58 await.sl.v55 await.sl.v54 await.sl.v53 await.sl.v52 await.sl.v50 await.sl.v49 await.sl.v48 await.sl.v47 await.sl.v46 await.sl.v45 await.sl.v44 await.sl.v43 await.sl.v42 await.sl.v41 await.sl.v40
    rw [load_of_copied, load_of_stored, load_of_stored]
    rfl
  isplitl [Hn]
  · iapply (pointsTo_rep_of_read (c : Thread nD τ) xnM _ fullShare (normed ((tile (k0_off1 i) (k0_off1_inb i h2)).view.read (Elt F) XA) (arg3.view.read (Elt F) X3)) ?_) $$ Hn
    refine (View.read_writes_full _ _ _ _ _).trans ?_
    unfold await.sl.v58 await.sl.v55 await.sl.v54 await.sl.v53 await.sl.v52 await.sl.v50 await.sl.v49 await.sl.v48 await.sl.v47 await.sl.v46 await.sl.v45 await.sl.v44 await.sl.v43 await.sl.v42 await.sl.v41 await.sl.v40
    rw [load_of_copied]
    rfl
  isplitl [Hf_dst]; · iexists _; iexact Hf_dst
  isplitl [Hf_src]; · iexact Hf_src
  isplitl [Hf]; · iexact Hf
  iexists _; iexact HO

/-- The first tile's copy started and awaited at once, the tile normed, and one block added to it. -/
theorem fresh (𝒱 : Variants) (c : Dev nD) (bd : Option 𝒱.V) (i : grid0.Coords) (arg3 : Memref sig .tc .vmem S1x2048 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x2048 .f32) (harg6 : arg6.IsWhole)
    (X3 : BufTy.Contents (Elt F) arg3.view.ty) (X4 : BufTy.Contents (Elt F) arg4.view.ty) (X5 : BufTy.Contents (Elt F) arg5.view.ty) (X6 : BufTy.Contents (Elt F) arg6.view.ty) (Xo : Buf (Elt F) (oM.view.loc (c : Thread nD τ))) (Xn : Buf (Elt F) (xnM.view.loc (c : Thread nD τ))) (Xx : Buf (Elt F) (xM.view.loc (c : Thread nD τ))) (XA : Buf (Elt F) (hbM.view.loc (c : Thread nD τ))) (W : Waits sig Unit)
    (h1 : k0_cond1 i = 1#1) (h2 : k0_cond2 i = 1#1) (h3 : ¬ k0_cond3 i = 1#1) (h4 : ¬ atEnd i = 1#1) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ oP c Xo ∗ xnP c Xn ∗ xP c Xx ∗ tileP c ![0, 0] inb_S8448x2048_S1056x2048_0_0 XA ∗ cellP c ∗ owes (c : Thread nD τ) 0 W) : sProp 𝕄D)
    ⊢ wp frame (wpE (defs₀ (F := F)) 𝒱 (c : Thread nD τ) bd) Set.univ (cc0__mlp_kernel (F := F) i hbM (Memref.isWhole_whole _) arg3 harg3 arg4 harg4 arg5 harg5 arg6 harg6 outM (Memref.isWhole_whole _) xnM (Memref.isWhole_whole _) xM (Memref.isWhole_whole _) cc0_scratch2 oM (Memref.isWhole_whole _) sgM (Memref.isWhole_whole _) cc0_scratch5)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
          ∗ oP c (oM.view.rep (step (normed ((tile ![0, 0] inb_S8448x2048_S1056x2048_0_0).view.read (Elt F) XA) (arg3.view.read (Elt F) X3)) (arg4.view.read (Elt F) X4) (arg5.view.read (Elt F) X5) (shapeCast S1056x2048 ((tile ![0, 0] inb_S8448x2048_S1056x2048_0_0).view.read (Elt F) XA) shapeCasts_S1056x2048_S1056x2048))) ∗ xnP c (xnM.view.rep (normed ((tile ![0, 0] inb_S8448x2048_S1056x2048_0_0).view.read (Elt F) XA) (arg3.view.read (Elt F) X3))) ∗ (∃ f, xP c f) ∗ tileP c ![0, 0] inb_S8448x2048_S1056x2048_0_0 XA ∗ cellP c ∗ ∃ W, owes (c : Thread nD τ) 0 W)) := by
  have l3 : arg3.view.readAt (Elt F) (Rect.unit (s := S1x2048) ![0, 0] S1x2048.size inb_S1x2048_S1x2048_0_0).toLoadRect X3 = arg3.view.read (Elt F) X3 := View.readAt_full _ _ _
  have l4 : arg4.view.readAt (Elt F) (Rect.unit (s := S1x2048x512) ![0, 0, 0] S1x2048x512.size inb_S1x2048x512_S1x2048x512_0_0_0).toLoadRect X4 = arg4.view.read (Elt F) X4 := View.readAt_full _ _ _
  have l5 : arg5.view.readAt (Elt F) (Rect.unit (s := S1x512x2048) ![0, 0, 0] S1x512x2048.size inb_S1x512x2048_S1x512x2048_0_0_0).toLoadRect X5 = arg5.view.read (Elt F) X5 := View.readAt_full _ _ _
  have l6 : arg6.view.readAt (Elt F) (Rect.unit (s := S1x2048) ![0, 0] S1x2048.size inb_S1x2048_S1x2048_0_0).toLoadRect X6 = arg6.view.read (Elt F) X6 := View.readAt_full _ _ _
  have lo : oM.view.readAt (Elt F) (Rect.unit (s := S1056x2048) ![0, 0] S1056x2048.size inb_S1056x2048_S1056x2048_0_0).toLoadRect Xo = oM.view.read (Elt F) Xo := View.readAt_full _ _ _
  iintro ⟨H3, H4, H5, H6, Ho, Hn, Hx, Ht, Hc, HO⟩
  unfold cc0__mlp_kernel
  sl_exec
  sl_step
  isplitl [H3]; · iexact H3
  isplitl [H4]; · iexact H4
  isplitl [H5]; · iexact H5
  isplitl [H6]; · iexact H6
  isplitl [Ho]
  · iapply (pointsTo_rep_of_read (c : Thread nD τ) oM _ fullShare (step (normed ((tile ![0, 0] inb_S8448x2048_S1056x2048_0_0).view.read (Elt F) XA) (arg3.view.read (Elt F) X3)) (arg4.view.read (Elt F) X4) (arg5.view.read (Elt F) X5) (shapeCast S1056x2048 ((tile ![0, 0] inb_S8448x2048_S1056x2048_0_0).view.read (Elt F) XA) shapeCasts_S1056x2048_S1056x2048)) ?_) $$ Ho
    refine (View.read_writes_full _ _ _ _ _).trans ?_
    unfold fresh.sl.v31 fresh.sl.v28 fresh.sl.v27 fresh.sl.v26 fresh.sl.v25 fresh.sl.v23 fresh.sl.v22 fresh.sl.v21 fresh.sl.v20 fresh.sl.v19 fresh.sl.v18 fresh.sl.v17 fresh.sl.v16 fresh.sl.v14 fresh.sl.Ho_1 fresh.sl.v61 fresh.sl.Hn_1 fresh.sl.v58 fresh.sl.v55 fresh.sl.v54 fresh.sl.v53 fresh.sl.v52 fresh.sl.v50 fresh.sl.v49 fresh.sl.v48 fresh.sl.v47 fresh.sl.v46 fresh.sl.v45 fresh.sl.v44 fresh.sl.v43 fresh.sl.v42 fresh.sl.v41 fresh.sl.v40
    rw [load_of_copied, load_of_stored, load_of_stored]
    rfl
  isplitl [Hn]
  · iapply (pointsTo_rep_of_read (c : Thread nD τ) xnM _ fullShare (normed ((tile ![0, 0] inb_S8448x2048_S1056x2048_0_0).view.read (Elt F) XA) (arg3.view.read (Elt F) X3)) ?_) $$ Hn
    refine (View.read_writes_full _ _ _ _ _).trans ?_
    unfold fresh.sl.v58 fresh.sl.v55 fresh.sl.v54 fresh.sl.v53 fresh.sl.v52 fresh.sl.v50 fresh.sl.v49 fresh.sl.v48 fresh.sl.v47 fresh.sl.v46 fresh.sl.v45 fresh.sl.v44 fresh.sl.v43 fresh.sl.v42 fresh.sl.v41 fresh.sl.v40
    rw [load_of_copied]
    rfl
  isplitl [Hx]; · iexists _; iexact Hx
  isplitl [Ht]; · iexact Ht
  isplitl [Hc]; · iexact Hc
  iexists _; iexact HO

/-- The last block of row tile 0. -/
theorem last0 (𝒱 : Variants) (c : Dev nD) (bd : Option 𝒱.V) (i : grid0.Coords) (arg3 : Memref sig .tc .vmem S1x2048 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x2048 .f32) (harg6 : arg6.IsWhole)
    (X3 : BufTy.Contents (Elt F) arg3.view.ty) (X4 : BufTy.Contents (Elt F) arg4.view.ty) (X5 : BufTy.Contents (Elt F) arg5.view.ty) (X6 : BufTy.Contents (Elt F) arg6.view.ty) (Xo : Buf (Elt F) (oM.view.loc (c : Thread nD τ))) (Xn : Buf (Elt F) (xnM.view.loc (c : Thread nD τ))) (Xf : Buf (Elt F) (outM.view.loc (c : Thread nD τ))) (W : Waits sig Unit) (Xs : Buf (Elt F) (sgM.view.loc (c : Thread nD τ)))
    (h1 : ¬ k0_cond1 i = 1#1) (h2 : ¬ k0_cond2 i = 1#1) (h3 : ¬ k0_cond3 i = 1#1) (h4 : atEnd i = 1#1)
    (t0 : onTile i 0#32 = 1#1) (t1 : ¬ onTile i 1#32 = 1#1) (t2 : ¬ onTile i 2#32 = 1#1) (t3 : ¬ onTile i 3#32 = 1#1) (t4 : ¬ onTile i 4#32 = 1#1) (t5 : ¬ onTile i 5#32 = 1#1) (t6 : ¬ onTile i 6#32 = 1#1) (t7 : ¬ onTile i 7#32 = 1#1) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ oP c Xo ∗ xnP c Xn ∗ sgP c Xs ∗ outCellP c ∗ segP c 0 1040 inb_S8192x2048_S1040x2048_0_0 Xf ∗ owes (c : Thread nD τ) 0 W) : sProp 𝕄D)
    ⊢ wp frame (wpE (defs₀ (F := F)) 𝒱 (c : Thread nD τ) bd) Set.univ (cc0__mlp_kernel (F := F) i hbM (Memref.isWhole_whole _) arg3 harg3 arg4 harg4 arg5 harg5 arg6 harg6 outM (Memref.isWhole_whole _) xnM (Memref.isWhole_whole _) xM (Memref.isWhole_whole _) cc0_scratch2 oM (Memref.isWhole_whole _) sgM (Memref.isWhole_whole _) cc0_scratch5)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
          ∗ oP c (oM.view.rep (step (xnM.view.read (Elt F) Xn) (arg4.view.read (Elt F) X4) (arg5.view.read (Elt F) X5) (oM.view.read (Elt F) Xo))) ∗ xnP c Xn ∗ (∃ g, leaving c 0 16 1040 inb_S8192x2048_S1040x2048_0_0 inb_S1056x2048_S1040x2048_16_0 Xf g ∗ ⌜sgM.view.read (Elt F) g = finished (step (xnM.view.read (Elt F) Xn) (arg4.view.read (Elt F) X4) (arg5.view.read (Elt F) X5) (oM.view.read (Elt F) Xo)) (arg6.view.read (Elt F) X6)⌝) ∗ ∃ W, owes (c : Thread nD τ) 0 W)) := by
  have l3 : arg3.view.readAt (Elt F) (Rect.unit (s := S1x2048) ![0, 0] S1x2048.size inb_S1x2048_S1x2048_0_0).toLoadRect X3 = arg3.view.read (Elt F) X3 := View.readAt_full _ _ _
  have l4 : arg4.view.readAt (Elt F) (Rect.unit (s := S1x2048x512) ![0, 0, 0] S1x2048x512.size inb_S1x2048x512_S1x2048x512_0_0_0).toLoadRect X4 = arg4.view.read (Elt F) X4 := View.readAt_full _ _ _
  have l5 : arg5.view.readAt (Elt F) (Rect.unit (s := S1x512x2048) ![0, 0, 0] S1x512x2048.size inb_S1x512x2048_S1x512x2048_0_0_0).toLoadRect X5 = arg5.view.read (Elt F) X5 := View.readAt_full _ _ _
  have l6 : arg6.view.readAt (Elt F) (Rect.unit (s := S1x2048) ![0, 0] S1x2048.size inb_S1x2048_S1x2048_0_0).toLoadRect X6 = arg6.view.read (Elt F) X6 := View.readAt_full _ _ _
  have lo : oM.view.readAt (Elt F) (Rect.unit (s := S1056x2048) ![0, 0] S1056x2048.size inb_S1056x2048_S1056x2048_0_0).toLoadRect Xo = oM.view.read (Elt F) Xo := View.readAt_full _ _ _
  have ln : xnM.view.readAt (Elt F) (Rect.unit (s := S1056x2048) ![0, 0] S1056x2048.size inb_S1056x2048_S1056x2048_0_0).toLoadRect Xn = xnM.view.read (Elt F) Xn := View.readAt_full _ _ _
  iintro ⟨H3, H4, H5, H6, Ho, Hn, Hs, Hc, Hd, HO⟩
  unfold cc0__mlp_kernel
  sl_exec
  sl_step
  isplitl [H3]; · iexact H3
  isplitl [H4]; · iexact H4
  isplitl [H5]; · iexact H5
  isplitl [H6]; · iexact H6
  isplitl [Ho]
  · iapply (pointsTo_rep_of_read (c : Thread nD τ) oM _ fullShare (step (xnM.view.read (Elt F) Xn) (arg4.view.read (Elt F) X4) (arg5.view.read (Elt F) X5) (oM.view.read (Elt F) Xo)) ?_) $$ Ho
    refine (View.read_writes_full _ _ _ _ _).trans ?_
    unfold last0.sl.v31 last0.sl.v28 last0.sl.v27 last0.sl.v26 last0.sl.v25 last0.sl.v22 last0.sl.v21 last0.sl.v20 last0.sl.v19 last0.sl.v18 last0.sl.v17 last0.sl.v16
    rfl
  isplitl [Hn]; · iexact Hn
  isplitl [Hc Hs]
  · iexists (sgM.view.writes (Elt F) Xs (last0.sl.Hs_1 c arg4 arg5 arg6 X4 X5 X6 Xo Xn))
    isplitl
    · iapply (leaving_of c 0 16 1040 inb_S8192x2048_S1040x2048_0_0 inb_S1056x2048_S1040x2048_16_0 _ _)
      isplitl [Hc]
      · iexact Hc
      · iexact Hs
    · ipureintro
      refine (View.read_writes_full _ _ _ _ _).trans ?_
      unfold last0.sl.v73 last0.sl.v70 last0.sl.v69 last0.sl.v68 last0.sl.v66 last0.sl.v65 last0.sl.v64 last0.sl.v63 last0.sl.v62 last0.sl.v61 last0.sl.v60 last0.sl.v59 last0.sl.v58 last0.sl.v57 last0.sl.v56 last0.sl.Ho_1 last0.sl.v31 last0.sl.v28 last0.sl.v27 last0.sl.v26 last0.sl.v25 last0.sl.v22 last0.sl.v21 last0.sl.v20 last0.sl.v19 last0.sl.v18 last0.sl.v17 last0.sl.v16
      rw [load_of_stored]
      rfl
  iexists _; iexact HO

/-- The last block of row tile 1. -/
theorem last1 (𝒱 : Variants) (c : Dev nD) (bd : Option 𝒱.V) (i : grid0.Coords) (arg3 : Memref sig .tc .vmem S1x2048 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x2048 .f32) (harg6 : arg6.IsWhole)
    (X3 : BufTy.Contents (Elt F) arg3.view.ty) (X4 : BufTy.Contents (Elt F) arg4.view.ty) (X5 : BufTy.Contents (Elt F) arg5.view.ty) (X6 : BufTy.Contents (Elt F) arg6.view.ty) (Xo : Buf (Elt F) (oM.view.loc (c : Thread nD τ))) (Xn : Buf (Elt F) (xnM.view.loc (c : Thread nD τ))) (Xf : Buf (Elt F) (outM.view.loc (c : Thread nD τ))) (W : Waits sig Unit) (Xs : Buf (Elt F) (sgM.view.loc (c : Thread nD τ))) (Xg : Buf (Elt F) (outM.view.loc (c : Thread nD τ)))
    (h1 : ¬ k0_cond1 i = 1#1) (h2 : ¬ k0_cond2 i = 1#1) (h3 : ¬ k0_cond3 i = 1#1) (h4 : atEnd i = 1#1)
    (t0 : ¬ onTile i 0#32 = 1#1) (t1 : onTile i 1#32 = 1#1) (t2 : ¬ onTile i 2#32 = 1#1) (t3 : ¬ onTile i 3#32 = 1#1) (t4 : ¬ onTile i 4#32 = 1#1) (t5 : ¬ onTile i 5#32 = 1#1) (t6 : ¬ onTile i 6#32 = 1#1) (t7 : ¬ onTile i 7#32 = 1#1) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ oP c Xo ∗ xnP c Xn ∗ leaving c 0 16 1040 inb_S8192x2048_S1040x2048_0_0 inb_S1056x2048_S1040x2048_16_0 Xg Xs ∗ segP c 1040 1056 inb_S8192x2048_S1056x2048_1040_0 Xf ∗ owes (c : Thread nD τ) 0 W) : sProp 𝕄D)
    ⊢ wp frame (wpE (defs₀ (F := F)) 𝒱 (c : Thread nD τ) bd) Set.univ (cc0__mlp_kernel (F := F) i hbM (Memref.isWhole_whole _) arg3 harg3 arg4 harg4 arg5 harg5 arg6 harg6 outM (Memref.isWhole_whole _) xnM (Memref.isWhole_whole _) xM (Memref.isWhole_whole _) cc0_scratch2 oM (Memref.isWhole_whole _) sgM (Memref.isWhole_whole _) cc0_scratch5)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
          ∗ oP c (oM.view.rep (step (xnM.view.read (Elt F) Xn) (arg4.view.read (Elt F) X4) (arg5.view.read (Elt F) X5) (oM.view.read (Elt F) Xo))) ∗ xnP c Xn ∗ segP c 0 1040 inb_S8192x2048_S1040x2048_0_0 (placed c 0 16 1040 inb_S8192x2048_S1040x2048_0_0 inb_S1056x2048_S1040x2048_16_0 Xg Xs) ∗ (∃ g, leaving c 1040 0 1056 inb_S8192x2048_S1056x2048_1040_0 inb_S1056x2048_S1056x2048_0_0 Xf g ∗ ⌜sgM.view.read (Elt F) g = finished (step (xnM.view.read (Elt F) Xn) (arg4.view.read (Elt F) X4) (arg5.view.read (Elt F) X5) (oM.view.read (Elt F) Xo)) (arg6.view.read (Elt F) X6)⌝) ∗ ∃ W, owes (c : Thread nD τ) 0 W)) := by
  have l3 : arg3.view.readAt (Elt F) (Rect.unit (s := S1x2048) ![0, 0] S1x2048.size inb_S1x2048_S1x2048_0_0).toLoadRect X3 = arg3.view.read (Elt F) X3 := View.readAt_full _ _ _
  have l4 : arg4.view.readAt (Elt F) (Rect.unit (s := S1x2048x512) ![0, 0, 0] S1x2048x512.size inb_S1x2048x512_S1x2048x512_0_0_0).toLoadRect X4 = arg4.view.read (Elt F) X4 := View.readAt_full _ _ _
  have l5 : arg5.view.readAt (Elt F) (Rect.unit (s := S1x512x2048) ![0, 0, 0] S1x512x2048.size inb_S1x512x2048_S1x512x2048_0_0_0).toLoadRect X5 = arg5.view.read (Elt F) X5 := View.readAt_full _ _ _
  have l6 : arg6.view.readAt (Elt F) (Rect.unit (s := S1x2048) ![0, 0] S1x2048.size inb_S1x2048_S1x2048_0_0).toLoadRect X6 = arg6.view.read (Elt F) X6 := View.readAt_full _ _ _
  have lo : oM.view.readAt (Elt F) (Rect.unit (s := S1056x2048) ![0, 0] S1056x2048.size inb_S1056x2048_S1056x2048_0_0).toLoadRect Xo = oM.view.read (Elt F) Xo := View.readAt_full _ _ _
  have ln : xnM.view.readAt (Elt F) (Rect.unit (s := S1056x2048) ![0, 0] S1056x2048.size inb_S1056x2048_S1056x2048_0_0).toLoadRect Xn = xnM.view.read (Elt F) Xn := View.readAt_full _ _ _
  iintro ⟨H3, H4, H5, H6, Ho, Hn, Hf, Hd, HO⟩
  unfold cc0__mlp_kernel
  sl_exec
  sl_step
  isplitl [H3]; · iexact H3
  isplitl [H4]; · iexact H4
  isplitl [H5]; · iexact H5
  isplitl [H6]; · iexact H6
  isplitl [Ho]
  · iapply (pointsTo_rep_of_read (c : Thread nD τ) oM _ fullShare (step (xnM.view.read (Elt F) Xn) (arg4.view.read (Elt F) X4) (arg5.view.read (Elt F) X5) (oM.view.read (Elt F) Xo)) ?_) $$ Ho
    refine (View.read_writes_full _ _ _ _ _).trans ?_
    unfold last1.sl.v31 last1.sl.v28 last1.sl.v27 last1.sl.v26 last1.sl.v25 last1.sl.v22 last1.sl.v21 last1.sl.v20 last1.sl.v19 last1.sl.v18 last1.sl.v17 last1.sl.v16
    rfl
  isplitl [Hn]; · iexact Hn
  isplitl [Hf_dst]; · iexact Hf_dst
  isplitl [Hf Hf_src]
  · iexists (sgM.view.writes (Elt F) Xs (last1.sl.Hf_src_1 c arg4 arg5 arg6 X4 X5 X6 Xo Xn))
    isplitl
    · iapply (leaving_of c 1040 0 1056 inb_S8192x2048_S1056x2048_1040_0 inb_S1056x2048_S1056x2048_0_0 _ _)
      isplitl [Hf]
      · iexact Hf
      · iexact Hf_src
    · ipureintro
      refine (View.read_writes_full _ _ _ _ _).trans ?_
      unfold last1.sl.v73 last1.sl.v70 last1.sl.v69 last1.sl.v68 last1.sl.v66 last1.sl.v65 last1.sl.v64 last1.sl.v63 last1.sl.v62 last1.sl.v61 last1.sl.v60 last1.sl.v59 last1.sl.v58 last1.sl.v57 last1.sl.v56 last1.sl.Ho_1 last1.sl.v31 last1.sl.v28 last1.sl.v27 last1.sl.v26 last1.sl.v25 last1.sl.v22 last1.sl.v21 last1.sl.v20 last1.sl.v19 last1.sl.v18 last1.sl.v17 last1.sl.v16
      rw [load_of_stored]
      rfl
  iexists _; iexact HO

/-- The last block of row tile 2. -/
theorem last2 (𝒱 : Variants) (c : Dev nD) (bd : Option 𝒱.V) (i : grid0.Coords) (arg3 : Memref sig .tc .vmem S1x2048 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x2048 .f32) (harg6 : arg6.IsWhole)
    (X3 : BufTy.Contents (Elt F) arg3.view.ty) (X4 : BufTy.Contents (Elt F) arg4.view.ty) (X5 : BufTy.Contents (Elt F) arg5.view.ty) (X6 : BufTy.Contents (Elt F) arg6.view.ty) (Xo : Buf (Elt F) (oM.view.loc (c : Thread nD τ))) (Xn : Buf (Elt F) (xnM.view.loc (c : Thread nD τ))) (Xf : Buf (Elt F) (outM.view.loc (c : Thread nD τ))) (W : Waits sig Unit) (Xs : Buf (Elt F) (sgM.view.loc (c : Thread nD τ))) (Xg : Buf (Elt F) (outM.view.loc (c : Thread nD τ)))
    (h1 : ¬ k0_cond1 i = 1#1) (h2 : ¬ k0_cond2 i = 1#1) (h3 : ¬ k0_cond3 i = 1#1) (h4 : atEnd i = 1#1)
    (t0 : ¬ onTile i 0#32 = 1#1) (t1 : ¬ onTile i 1#32 = 1#1) (t2 : onTile i 2#32 = 1#1) (t3 : ¬ onTile i 3#32 = 1#1) (t4 : ¬ onTile i 4#32 = 1#1) (t5 : ¬ onTile i 5#32 = 1#1) (t6 : ¬ onTile i 6#32 = 1#1) (t7 : ¬ onTile i 7#32 = 1#1) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ oP c Xo ∗ xnP c Xn ∗ leaving c 1040 0 1056 inb_S8192x2048_S1056x2048_1040_0 inb_S1056x2048_S1056x2048_0_0 Xg Xs ∗ segP c 2096 1056 inb_S8192x2048_S1056x2048_2096_0 Xf ∗ owes (c : Thread nD τ) 0 W) : sProp 𝕄D)
    ⊢ wp frame (wpE (defs₀ (F := F)) 𝒱 (c : Thread nD τ) bd) Set.univ (cc0__mlp_kernel (F := F) i hbM (Memref.isWhole_whole _) arg3 harg3 arg4 harg4 arg5 harg5 arg6 harg6 outM (Memref.isWhole_whole _) xnM (Memref.isWhole_whole _) xM (Memref.isWhole_whole _) cc0_scratch2 oM (Memref.isWhole_whole _) sgM (Memref.isWhole_whole _) cc0_scratch5)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
          ∗ oP c (oM.view.rep (step (xnM.view.read (Elt F) Xn) (arg4.view.read (Elt F) X4) (arg5.view.read (Elt F) X5) (oM.view.read (Elt F) Xo))) ∗ xnP c Xn ∗ segP c 1040 1056 inb_S8192x2048_S1056x2048_1040_0 (placed c 1040 0 1056 inb_S8192x2048_S1056x2048_1040_0 inb_S1056x2048_S1056x2048_0_0 Xg Xs) ∗ (∃ g, leaving c 2096 0 1056 inb_S8192x2048_S1056x2048_2096_0 inb_S1056x2048_S1056x2048_0_0 Xf g ∗ ⌜sgM.view.read (Elt F) g = finished (step (xnM.view.read (Elt F) Xn) (arg4.view.read (Elt F) X4) (arg5.view.read (Elt F) X5) (oM.view.read (Elt F) Xo)) (arg6.view.read (Elt F) X6)⌝) ∗ ∃ W, owes (c : Thread nD τ) 0 W)) := by
  have l3 : arg3.view.readAt (Elt F) (Rect.unit (s := S1x2048) ![0, 0] S1x2048.size inb_S1x2048_S1x2048_0_0).toLoadRect X3 = arg3.view.read (Elt F) X3 := View.readAt_full _ _ _
  have l4 : arg4.view.readAt (Elt F) (Rect.unit (s := S1x2048x512) ![0, 0, 0] S1x2048x512.size inb_S1x2048x512_S1x2048x512_0_0_0).toLoadRect X4 = arg4.view.read (Elt F) X4 := View.readAt_full _ _ _
  have l5 : arg5.view.readAt (Elt F) (Rect.unit (s := S1x512x2048) ![0, 0, 0] S1x512x2048.size inb_S1x512x2048_S1x512x2048_0_0_0).toLoadRect X5 = arg5.view.read (Elt F) X5 := View.readAt_full _ _ _
  have l6 : arg6.view.readAt (Elt F) (Rect.unit (s := S1x2048) ![0, 0] S1x2048.size inb_S1x2048_S1x2048_0_0).toLoadRect X6 = arg6.view.read (Elt F) X6 := View.readAt_full _ _ _
  have lo : oM.view.readAt (Elt F) (Rect.unit (s := S1056x2048) ![0, 0] S1056x2048.size inb_S1056x2048_S1056x2048_0_0).toLoadRect Xo = oM.view.read (Elt F) Xo := View.readAt_full _ _ _
  have ln : xnM.view.readAt (Elt F) (Rect.unit (s := S1056x2048) ![0, 0] S1056x2048.size inb_S1056x2048_S1056x2048_0_0).toLoadRect Xn = xnM.view.read (Elt F) Xn := View.readAt_full _ _ _
  iintro ⟨H3, H4, H5, H6, Ho, Hn, Hf, Hd, HO⟩
  unfold cc0__mlp_kernel
  sl_exec
  sl_step
  isplitl [H3]; · iexact H3
  isplitl [H4]; · iexact H4
  isplitl [H5]; · iexact H5
  isplitl [H6]; · iexact H6
  isplitl [Ho]
  · iapply (pointsTo_rep_of_read (c : Thread nD τ) oM _ fullShare (step (xnM.view.read (Elt F) Xn) (arg4.view.read (Elt F) X4) (arg5.view.read (Elt F) X5) (oM.view.read (Elt F) Xo)) ?_) $$ Ho
    refine (View.read_writes_full _ _ _ _ _).trans ?_
    unfold last2.sl.v31 last2.sl.v28 last2.sl.v27 last2.sl.v26 last2.sl.v25 last2.sl.v22 last2.sl.v21 last2.sl.v20 last2.sl.v19 last2.sl.v18 last2.sl.v17 last2.sl.v16
    rfl
  isplitl [Hn]; · iexact Hn
  isplitl [Hf_dst]; · iexact Hf_dst
  isplitl [Hf Hf_src]
  · iexists (sgM.view.writes (Elt F) Xs (last2.sl.Hf_src_1 c arg4 arg5 arg6 X4 X5 X6 Xo Xn))
    isplitl
    · iapply (leaving_of c 2096 0 1056 inb_S8192x2048_S1056x2048_2096_0 inb_S1056x2048_S1056x2048_0_0 _ _)
      isplitl [Hf]
      · iexact Hf
      · iexact Hf_src
    · ipureintro
      refine (View.read_writes_full _ _ _ _ _).trans ?_
      unfold last2.sl.v73 last2.sl.v70 last2.sl.v69 last2.sl.v68 last2.sl.v66 last2.sl.v65 last2.sl.v64 last2.sl.v63 last2.sl.v62 last2.sl.v61 last2.sl.v60 last2.sl.v59 last2.sl.v58 last2.sl.v57 last2.sl.v56 last2.sl.Ho_1 last2.sl.v31 last2.sl.v28 last2.sl.v27 last2.sl.v26 last2.sl.v25 last2.sl.v22 last2.sl.v21 last2.sl.v20 last2.sl.v19 last2.sl.v18 last2.sl.v17 last2.sl.v16
      rw [load_of_stored]
      rfl
  iexists _; iexact HO

/-- The last block of row tile 3. -/
theorem last3 (𝒱 : Variants) (c : Dev nD) (bd : Option 𝒱.V) (i : grid0.Coords) (arg3 : Memref sig .tc .vmem S1x2048 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x2048 .f32) (harg6 : arg6.IsWhole)
    (X3 : BufTy.Contents (Elt F) arg3.view.ty) (X4 : BufTy.Contents (Elt F) arg4.view.ty) (X5 : BufTy.Contents (Elt F) arg5.view.ty) (X6 : BufTy.Contents (Elt F) arg6.view.ty) (Xo : Buf (Elt F) (oM.view.loc (c : Thread nD τ))) (Xn : Buf (Elt F) (xnM.view.loc (c : Thread nD τ))) (Xf : Buf (Elt F) (outM.view.loc (c : Thread nD τ))) (W : Waits sig Unit) (Xs : Buf (Elt F) (sgM.view.loc (c : Thread nD τ))) (Xg : Buf (Elt F) (outM.view.loc (c : Thread nD τ)))
    (h1 : ¬ k0_cond1 i = 1#1) (h2 : ¬ k0_cond2 i = 1#1) (h3 : ¬ k0_cond3 i = 1#1) (h4 : atEnd i = 1#1)
    (t0 : ¬ onTile i 0#32 = 1#1) (t1 : ¬ onTile i 1#32 = 1#1) (t2 : ¬ onTile i 2#32 = 1#1) (t3 : onTile i 3#32 = 1#1) (t4 : ¬ onTile i 4#32 = 1#1) (t5 : ¬ onTile i 5#32 = 1#1) (t6 : ¬ onTile i 6#32 = 1#1) (t7 : ¬ onTile i 7#32 = 1#1) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ oP c Xo ∗ xnP c Xn ∗ leaving c 2096 0 1056 inb_S8192x2048_S1056x2048_2096_0 inb_S1056x2048_S1056x2048_0_0 Xg Xs ∗ segP c 3152 944 inb_S8192x2048_S944x2048_3152_0 Xf ∗ owes (c : Thread nD τ) 0 W) : sProp 𝕄D)
    ⊢ wp frame (wpE (defs₀ (F := F)) 𝒱 (c : Thread nD τ) bd) Set.univ (cc0__mlp_kernel (F := F) i hbM (Memref.isWhole_whole _) arg3 harg3 arg4 harg4 arg5 harg5 arg6 harg6 outM (Memref.isWhole_whole _) xnM (Memref.isWhole_whole _) xM (Memref.isWhole_whole _) cc0_scratch2 oM (Memref.isWhole_whole _) sgM (Memref.isWhole_whole _) cc0_scratch5)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
          ∗ oP c (oM.view.rep (step (xnM.view.read (Elt F) Xn) (arg4.view.read (Elt F) X4) (arg5.view.read (Elt F) X5) (oM.view.read (Elt F) Xo))) ∗ xnP c Xn ∗ segP c 2096 1056 inb_S8192x2048_S1056x2048_2096_0 (placed c 2096 0 1056 inb_S8192x2048_S1056x2048_2096_0 inb_S1056x2048_S1056x2048_0_0 Xg Xs) ∗ (∃ g, leaving c 3152 0 944 inb_S8192x2048_S944x2048_3152_0 inb_S1056x2048_S944x2048_0_0 Xf g ∗ ⌜sgM.view.read (Elt F) g = finished (step (xnM.view.read (Elt F) Xn) (arg4.view.read (Elt F) X4) (arg5.view.read (Elt F) X5) (oM.view.read (Elt F) Xo)) (arg6.view.read (Elt F) X6)⌝) ∗ ∃ W, owes (c : Thread nD τ) 0 W)) := by
  have l3 : arg3.view.readAt (Elt F) (Rect.unit (s := S1x2048) ![0, 0] S1x2048.size inb_S1x2048_S1x2048_0_0).toLoadRect X3 = arg3.view.read (Elt F) X3 := View.readAt_full _ _ _
  have l4 : arg4.view.readAt (Elt F) (Rect.unit (s := S1x2048x512) ![0, 0, 0] S1x2048x512.size inb_S1x2048x512_S1x2048x512_0_0_0).toLoadRect X4 = arg4.view.read (Elt F) X4 := View.readAt_full _ _ _
  have l5 : arg5.view.readAt (Elt F) (Rect.unit (s := S1x512x2048) ![0, 0, 0] S1x512x2048.size inb_S1x512x2048_S1x512x2048_0_0_0).toLoadRect X5 = arg5.view.read (Elt F) X5 := View.readAt_full _ _ _
  have l6 : arg6.view.readAt (Elt F) (Rect.unit (s := S1x2048) ![0, 0] S1x2048.size inb_S1x2048_S1x2048_0_0).toLoadRect X6 = arg6.view.read (Elt F) X6 := View.readAt_full _ _ _
  have lo : oM.view.readAt (Elt F) (Rect.unit (s := S1056x2048) ![0, 0] S1056x2048.size inb_S1056x2048_S1056x2048_0_0).toLoadRect Xo = oM.view.read (Elt F) Xo := View.readAt_full _ _ _
  have ln : xnM.view.readAt (Elt F) (Rect.unit (s := S1056x2048) ![0, 0] S1056x2048.size inb_S1056x2048_S1056x2048_0_0).toLoadRect Xn = xnM.view.read (Elt F) Xn := View.readAt_full _ _ _
  iintro ⟨H3, H4, H5, H6, Ho, Hn, Hf, Hd, HO⟩
  unfold cc0__mlp_kernel
  sl_exec
  sl_step
  isplitl [H3]; · iexact H3
  isplitl [H4]; · iexact H4
  isplitl [H5]; · iexact H5
  isplitl [H6]; · iexact H6
  isplitl [Ho]
  · iapply (pointsTo_rep_of_read (c : Thread nD τ) oM _ fullShare (step (xnM.view.read (Elt F) Xn) (arg4.view.read (Elt F) X4) (arg5.view.read (Elt F) X5) (oM.view.read (Elt F) Xo)) ?_) $$ Ho
    refine (View.read_writes_full _ _ _ _ _).trans ?_
    unfold last3.sl.v31 last3.sl.v28 last3.sl.v27 last3.sl.v26 last3.sl.v25 last3.sl.v22 last3.sl.v21 last3.sl.v20 last3.sl.v19 last3.sl.v18 last3.sl.v17 last3.sl.v16
    rfl
  isplitl [Hn]; · iexact Hn
  isplitl [Hf_dst]; · iexact Hf_dst
  isplitl [Hf Hf_src]
  · iexists (sgM.view.writes (Elt F) Xs (last3.sl.Hf_src_1 c arg4 arg5 arg6 X4 X5 X6 Xo Xn))
    isplitl
    · iapply (leaving_of c 3152 0 944 inb_S8192x2048_S944x2048_3152_0 inb_S1056x2048_S944x2048_0_0 _ _)
      isplitl [Hf]
      · iexact Hf
      · iexact Hf_src
    · ipureintro
      refine (View.read_writes_full _ _ _ _ _).trans ?_
      unfold last3.sl.v73 last3.sl.v70 last3.sl.v69 last3.sl.v68 last3.sl.v66 last3.sl.v65 last3.sl.v64 last3.sl.v63 last3.sl.v62 last3.sl.v61 last3.sl.v60 last3.sl.v59 last3.sl.v58 last3.sl.v57 last3.sl.v56 last3.sl.Ho_1 last3.sl.v31 last3.sl.v28 last3.sl.v27 last3.sl.v26 last3.sl.v25 last3.sl.v22 last3.sl.v21 last3.sl.v20 last3.sl.v19 last3.sl.v18 last3.sl.v17 last3.sl.v16
      rw [load_of_stored]
      rfl
  iexists _; iexact HO

/-- The last block of row tile 4. -/
theorem last4 (𝒱 : Variants) (c : Dev nD) (bd : Option 𝒱.V) (i : grid0.Coords) (arg3 : Memref sig .tc .vmem S1x2048 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x2048 .f32) (harg6 : arg6.IsWhole)
    (X3 : BufTy.Contents (Elt F) arg3.view.ty) (X4 : BufTy.Contents (Elt F) arg4.view.ty) (X5 : BufTy.Contents (Elt F) arg5.view.ty) (X6 : BufTy.Contents (Elt F) arg6.view.ty) (Xo : Buf (Elt F) (oM.view.loc (c : Thread nD τ))) (Xn : Buf (Elt F) (xnM.view.loc (c : Thread nD τ))) (Xf : Buf (Elt F) (outM.view.loc (c : Thread nD τ))) (W : Waits sig Unit) (Xs : Buf (Elt F) (sgM.view.loc (c : Thread nD τ))) (Xg : Buf (Elt F) (outM.view.loc (c : Thread nD τ)))
    (h1 : ¬ k0_cond1 i = 1#1) (h2 : ¬ k0_cond2 i = 1#1) (h3 : ¬ k0_cond3 i = 1#1) (h4 : atEnd i = 1#1)
    (t0 : ¬ onTile i 0#32 = 1#1) (t1 : ¬ onTile i 1#32 = 1#1) (t2 : ¬ onTile i 2#32 = 1#1) (t3 : ¬ onTile i 3#32 = 1#1) (t4 : onTile i 4#32 = 1#1) (t5 : ¬ onTile i 5#32 = 1#1) (t6 : ¬ onTile i 6#32 = 1#1) (t7 : ¬ onTile i 7#32 = 1#1) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ oP c Xo ∗ xnP c Xn ∗ leaving c 3152 0 944 inb_S8192x2048_S944x2048_3152_0 inb_S1056x2048_S944x2048_0_0 Xg Xs ∗ segP c 4096 1040 inb_S8192x2048_S1040x2048_4096_0 Xf ∗ owes (c : Thread nD τ) 0 W) : sProp 𝕄D)
    ⊢ wp frame (wpE (defs₀ (F := F)) 𝒱 (c : Thread nD τ) bd) Set.univ (cc0__mlp_kernel (F := F) i hbM (Memref.isWhole_whole _) arg3 harg3 arg4 harg4 arg5 harg5 arg6 harg6 outM (Memref.isWhole_whole _) xnM (Memref.isWhole_whole _) xM (Memref.isWhole_whole _) cc0_scratch2 oM (Memref.isWhole_whole _) sgM (Memref.isWhole_whole _) cc0_scratch5)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
          ∗ oP c (oM.view.rep (step (xnM.view.read (Elt F) Xn) (arg4.view.read (Elt F) X4) (arg5.view.read (Elt F) X5) (oM.view.read (Elt F) Xo))) ∗ xnP c Xn ∗ segP c 3152 944 inb_S8192x2048_S944x2048_3152_0 (placed c 3152 0 944 inb_S8192x2048_S944x2048_3152_0 inb_S1056x2048_S944x2048_0_0 Xg Xs) ∗ (∃ g, leaving c 4096 16 1040 inb_S8192x2048_S1040x2048_4096_0 inb_S1056x2048_S1040x2048_16_0 Xf g ∗ ⌜sgM.view.read (Elt F) g = finished (step (xnM.view.read (Elt F) Xn) (arg4.view.read (Elt F) X4) (arg5.view.read (Elt F) X5) (oM.view.read (Elt F) Xo)) (arg6.view.read (Elt F) X6)⌝) ∗ ∃ W, owes (c : Thread nD τ) 0 W)) := by
  have l3 : arg3.view.readAt (Elt F) (Rect.unit (s := S1x2048) ![0, 0] S1x2048.size inb_S1x2048_S1x2048_0_0).toLoadRect X3 = arg3.view.read (Elt F) X3 := View.readAt_full _ _ _
  have l4 : arg4.view.readAt (Elt F) (Rect.unit (s := S1x2048x512) ![0, 0, 0] S1x2048x512.size inb_S1x2048x512_S1x2048x512_0_0_0).toLoadRect X4 = arg4.view.read (Elt F) X4 := View.readAt_full _ _ _
  have l5 : arg5.view.readAt (Elt F) (Rect.unit (s := S1x512x2048) ![0, 0, 0] S1x512x2048.size inb_S1x512x2048_S1x512x2048_0_0_0).toLoadRect X5 = arg5.view.read (Elt F) X5 := View.readAt_full _ _ _
  have l6 : arg6.view.readAt (Elt F) (Rect.unit (s := S1x2048) ![0, 0] S1x2048.size inb_S1x2048_S1x2048_0_0).toLoadRect X6 = arg6.view.read (Elt F) X6 := View.readAt_full _ _ _
  have lo : oM.view.readAt (Elt F) (Rect.unit (s := S1056x2048) ![0, 0] S1056x2048.size inb_S1056x2048_S1056x2048_0_0).toLoadRect Xo = oM.view.read (Elt F) Xo := View.readAt_full _ _ _
  have ln : xnM.view.readAt (Elt F) (Rect.unit (s := S1056x2048) ![0, 0] S1056x2048.size inb_S1056x2048_S1056x2048_0_0).toLoadRect Xn = xnM.view.read (Elt F) Xn := View.readAt_full _ _ _
  iintro ⟨H3, H4, H5, H6, Ho, Hn, Hf, Hd, HO⟩
  unfold cc0__mlp_kernel
  sl_exec
  sl_step
  isplitl [H3]; · iexact H3
  isplitl [H4]; · iexact H4
  isplitl [H5]; · iexact H5
  isplitl [H6]; · iexact H6
  isplitl [Ho]
  · iapply (pointsTo_rep_of_read (c : Thread nD τ) oM _ fullShare (step (xnM.view.read (Elt F) Xn) (arg4.view.read (Elt F) X4) (arg5.view.read (Elt F) X5) (oM.view.read (Elt F) Xo)) ?_) $$ Ho
    refine (View.read_writes_full _ _ _ _ _).trans ?_
    unfold last4.sl.v31 last4.sl.v28 last4.sl.v27 last4.sl.v26 last4.sl.v25 last4.sl.v22 last4.sl.v21 last4.sl.v20 last4.sl.v19 last4.sl.v18 last4.sl.v17 last4.sl.v16
    rfl
  isplitl [Hn]; · iexact Hn
  isplitl [Hf_dst]; · iexact Hf_dst
  isplitl [Hf Hf_src]
  · iexists (sgM.view.writes (Elt F) Xs (last4.sl.Hf_src_1 c arg4 arg5 arg6 X4 X5 X6 Xo Xn))
    isplitl
    · iapply (leaving_of c 4096 16 1040 inb_S8192x2048_S1040x2048_4096_0 inb_S1056x2048_S1040x2048_16_0 _ _)
      isplitl [Hf]
      · iexact Hf
      · iexact Hf_src
    · ipureintro
      refine (View.read_writes_full _ _ _ _ _).trans ?_
      unfold last4.sl.v73 last4.sl.v70 last4.sl.v69 last4.sl.v68 last4.sl.v66 last4.sl.v65 last4.sl.v64 last4.sl.v63 last4.sl.v62 last4.sl.v61 last4.sl.v60 last4.sl.v59 last4.sl.v58 last4.sl.v57 last4.sl.v56 last4.sl.Ho_1 last4.sl.v31 last4.sl.v28 last4.sl.v27 last4.sl.v26 last4.sl.v25 last4.sl.v22 last4.sl.v21 last4.sl.v20 last4.sl.v19 last4.sl.v18 last4.sl.v17 last4.sl.v16
      rw [load_of_stored]
      rfl
  iexists _; iexact HO

/-- The last block of row tile 5. -/
theorem last5 (𝒱 : Variants) (c : Dev nD) (bd : Option 𝒱.V) (i : grid0.Coords) (arg3 : Memref sig .tc .vmem S1x2048 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x2048 .f32) (harg6 : arg6.IsWhole)
    (X3 : BufTy.Contents (Elt F) arg3.view.ty) (X4 : BufTy.Contents (Elt F) arg4.view.ty) (X5 : BufTy.Contents (Elt F) arg5.view.ty) (X6 : BufTy.Contents (Elt F) arg6.view.ty) (Xo : Buf (Elt F) (oM.view.loc (c : Thread nD τ))) (Xn : Buf (Elt F) (xnM.view.loc (c : Thread nD τ))) (Xf : Buf (Elt F) (outM.view.loc (c : Thread nD τ))) (W : Waits sig Unit) (Xs : Buf (Elt F) (sgM.view.loc (c : Thread nD τ))) (Xg : Buf (Elt F) (outM.view.loc (c : Thread nD τ)))
    (h1 : ¬ k0_cond1 i = 1#1) (h2 : ¬ k0_cond2 i = 1#1) (h3 : ¬ k0_cond3 i = 1#1) (h4 : atEnd i = 1#1)
    (t0 : ¬ onTile i 0#32 = 1#1) (t1 : ¬ onTile i 1#32 = 1#1) (t2 : ¬ onTile i 2#32 = 1#1) (t3 : ¬ onTile i 3#32 = 1#1) (t4 : ¬ onTile i 4#32 = 1#1) (t5 : onTile i 5#32 = 1#1) (t6 : ¬ onTile i 6#32 = 1#1) (t7 : ¬ onTile i 7#32 = 1#1) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ oP c Xo ∗ xnP c Xn ∗ leaving c 4096 16 1040 inb_S8192x2048_S1040x2048_4096_0 inb_S1056x2048_S1040x2048_16_0 Xg Xs ∗ segP c 5136 1056 inb_S8192x2048_S1056x2048_5136_0 Xf ∗ owes (c : Thread nD τ) 0 W) : sProp 𝕄D)
    ⊢ wp frame (wpE (defs₀ (F := F)) 𝒱 (c : Thread nD τ) bd) Set.univ (cc0__mlp_kernel (F := F) i hbM (Memref.isWhole_whole _) arg3 harg3 arg4 harg4 arg5 harg5 arg6 harg6 outM (Memref.isWhole_whole _) xnM (Memref.isWhole_whole _) xM (Memref.isWhole_whole _) cc0_scratch2 oM (Memref.isWhole_whole _) sgM (Memref.isWhole_whole _) cc0_scratch5)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
          ∗ oP c (oM.view.rep (step (xnM.view.read (Elt F) Xn) (arg4.view.read (Elt F) X4) (arg5.view.read (Elt F) X5) (oM.view.read (Elt F) Xo))) ∗ xnP c Xn ∗ segP c 4096 1040 inb_S8192x2048_S1040x2048_4096_0 (placed c 4096 16 1040 inb_S8192x2048_S1040x2048_4096_0 inb_S1056x2048_S1040x2048_16_0 Xg Xs) ∗ (∃ g, leaving c 5136 0 1056 inb_S8192x2048_S1056x2048_5136_0 inb_S1056x2048_S1056x2048_0_0 Xf g ∗ ⌜sgM.view.read (Elt F) g = finished (step (xnM.view.read (Elt F) Xn) (arg4.view.read (Elt F) X4) (arg5.view.read (Elt F) X5) (oM.view.read (Elt F) Xo)) (arg6.view.read (Elt F) X6)⌝) ∗ ∃ W, owes (c : Thread nD τ) 0 W)) := by
  have l3 : arg3.view.readAt (Elt F) (Rect.unit (s := S1x2048) ![0, 0] S1x2048.size inb_S1x2048_S1x2048_0_0).toLoadRect X3 = arg3.view.read (Elt F) X3 := View.readAt_full _ _ _
  have l4 : arg4.view.readAt (Elt F) (Rect.unit (s := S1x2048x512) ![0, 0, 0] S1x2048x512.size inb_S1x2048x512_S1x2048x512_0_0_0).toLoadRect X4 = arg4.view.read (Elt F) X4 := View.readAt_full _ _ _
  have l5 : arg5.view.readAt (Elt F) (Rect.unit (s := S1x512x2048) ![0, 0, 0] S1x512x2048.size inb_S1x512x2048_S1x512x2048_0_0_0).toLoadRect X5 = arg5.view.read (Elt F) X5 := View.readAt_full _ _ _
  have l6 : arg6.view.readAt (Elt F) (Rect.unit (s := S1x2048) ![0, 0] S1x2048.size inb_S1x2048_S1x2048_0_0).toLoadRect X6 = arg6.view.read (Elt F) X6 := View.readAt_full _ _ _
  have lo : oM.view.readAt (Elt F) (Rect.unit (s := S1056x2048) ![0, 0] S1056x2048.size inb_S1056x2048_S1056x2048_0_0).toLoadRect Xo = oM.view.read (Elt F) Xo := View.readAt_full _ _ _
  have ln : xnM.view.readAt (Elt F) (Rect.unit (s := S1056x2048) ![0, 0] S1056x2048.size inb_S1056x2048_S1056x2048_0_0).toLoadRect Xn = xnM.view.read (Elt F) Xn := View.readAt_full _ _ _
  iintro ⟨H3, H4, H5, H6, Ho, Hn, Hf, Hd, HO⟩
  unfold cc0__mlp_kernel
  sl_exec
  sl_step
  isplitl [H3]; · iexact H3
  isplitl [H4]; · iexact H4
  isplitl [H5]; · iexact H5
  isplitl [H6]; · iexact H6
  isplitl [Ho]
  · iapply (pointsTo_rep_of_read (c : Thread nD τ) oM _ fullShare (step (xnM.view.read (Elt F) Xn) (arg4.view.read (Elt F) X4) (arg5.view.read (Elt F) X5) (oM.view.read (Elt F) Xo)) ?_) $$ Ho
    refine (View.read_writes_full _ _ _ _ _).trans ?_
    unfold last5.sl.v31 last5.sl.v28 last5.sl.v27 last5.sl.v26 last5.sl.v25 last5.sl.v22 last5.sl.v21 last5.sl.v20 last5.sl.v19 last5.sl.v18 last5.sl.v17 last5.sl.v16
    rfl
  isplitl [Hn]; · iexact Hn
  isplitl [Hf_dst]; · iexact Hf_dst
  isplitl [Hf Hf_src]
  · iexists (sgM.view.writes (Elt F) Xs (last5.sl.Hf_src_1 c arg4 arg5 arg6 X4 X5 X6 Xo Xn))
    isplitl
    · iapply (leaving_of c 5136 0 1056 inb_S8192x2048_S1056x2048_5136_0 inb_S1056x2048_S1056x2048_0_0 _ _)
      isplitl [Hf]
      · iexact Hf
      · iexact Hf_src
    · ipureintro
      refine (View.read_writes_full _ _ _ _ _).trans ?_
      unfold last5.sl.v73 last5.sl.v70 last5.sl.v69 last5.sl.v68 last5.sl.v66 last5.sl.v65 last5.sl.v64 last5.sl.v63 last5.sl.v62 last5.sl.v61 last5.sl.v60 last5.sl.v59 last5.sl.v58 last5.sl.v57 last5.sl.v56 last5.sl.Ho_1 last5.sl.v31 last5.sl.v28 last5.sl.v27 last5.sl.v26 last5.sl.v25 last5.sl.v22 last5.sl.v21 last5.sl.v20 last5.sl.v19 last5.sl.v18 last5.sl.v17 last5.sl.v16
      rw [load_of_stored]
      rfl
  iexists _; iexact HO

/-- The last block of row tile 6. -/
theorem last6 (𝒱 : Variants) (c : Dev nD) (bd : Option 𝒱.V) (i : grid0.Coords) (arg3 : Memref sig .tc .vmem S1x2048 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x2048 .f32) (harg6 : arg6.IsWhole)
    (X3 : BufTy.Contents (Elt F) arg3.view.ty) (X4 : BufTy.Contents (Elt F) arg4.view.ty) (X5 : BufTy.Contents (Elt F) arg5.view.ty) (X6 : BufTy.Contents (Elt F) arg6.view.ty) (Xo : Buf (Elt F) (oM.view.loc (c : Thread nD τ))) (Xn : Buf (Elt F) (xnM.view.loc (c : Thread nD τ))) (Xf : Buf (Elt F) (outM.view.loc (c : Thread nD τ))) (W : Waits sig Unit) (Xs : Buf (Elt F) (sgM.view.loc (c : Thread nD τ))) (Xg : Buf (Elt F) (outM.view.loc (c : Thread nD τ)))
    (h1 : ¬ k0_cond1 i = 1#1) (h2 : ¬ k0_cond2 i = 1#1) (h3 : ¬ k0_cond3 i = 1#1) (h4 : atEnd i = 1#1)
    (t0 : ¬ onTile i 0#32 = 1#1) (t1 : ¬ onTile i 1#32 = 1#1) (t2 : ¬ onTile i 2#32 = 1#1) (t3 : ¬ onTile i 3#32 = 1#1) (t4 : ¬ onTile i 4#32 = 1#1) (t5 : ¬ onTile i 5#32 = 1#1) (t6 : onTile i 6#32 = 1#1) (t7 : ¬ onTile i 7#32 = 1#1) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ oP c Xo ∗ xnP c Xn ∗ leaving c 5136 0 1056 inb_S8192x2048_S1056x2048_5136_0 inb_S1056x2048_S1056x2048_0_0 Xg Xs ∗ segP c 6192 1056 inb_S8192x2048_S1056x2048_6192_0 Xf ∗ owes (c : Thread nD τ) 0 W) : sProp 𝕄D)
    ⊢ wp frame (wpE (defs₀ (F := F)) 𝒱 (c : Thread nD τ) bd) Set.univ (cc0__mlp_kernel (F := F) i hbM (Memref.isWhole_whole _) arg3 harg3 arg4 harg4 arg5 harg5 arg6 harg6 outM (Memref.isWhole_whole _) xnM (Memref.isWhole_whole _) xM (Memref.isWhole_whole _) cc0_scratch2 oM (Memref.isWhole_whole _) sgM (Memref.isWhole_whole _) cc0_scratch5)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
          ∗ oP c (oM.view.rep (step (xnM.view.read (Elt F) Xn) (arg4.view.read (Elt F) X4) (arg5.view.read (Elt F) X5) (oM.view.read (Elt F) Xo))) ∗ xnP c Xn ∗ segP c 5136 1056 inb_S8192x2048_S1056x2048_5136_0 (placed c 5136 0 1056 inb_S8192x2048_S1056x2048_5136_0 inb_S1056x2048_S1056x2048_0_0 Xg Xs) ∗ (∃ g, leaving c 6192 0 1056 inb_S8192x2048_S1056x2048_6192_0 inb_S1056x2048_S1056x2048_0_0 Xf g ∗ ⌜sgM.view.read (Elt F) g = finished (step (xnM.view.read (Elt F) Xn) (arg4.view.read (Elt F) X4) (arg5.view.read (Elt F) X5) (oM.view.read (Elt F) Xo)) (arg6.view.read (Elt F) X6)⌝) ∗ ∃ W, owes (c : Thread nD τ) 0 W)) := by
  have l3 : arg3.view.readAt (Elt F) (Rect.unit (s := S1x2048) ![0, 0] S1x2048.size inb_S1x2048_S1x2048_0_0).toLoadRect X3 = arg3.view.read (Elt F) X3 := View.readAt_full _ _ _
  have l4 : arg4.view.readAt (Elt F) (Rect.unit (s := S1x2048x512) ![0, 0, 0] S1x2048x512.size inb_S1x2048x512_S1x2048x512_0_0_0).toLoadRect X4 = arg4.view.read (Elt F) X4 := View.readAt_full _ _ _
  have l5 : arg5.view.readAt (Elt F) (Rect.unit (s := S1x512x2048) ![0, 0, 0] S1x512x2048.size inb_S1x512x2048_S1x512x2048_0_0_0).toLoadRect X5 = arg5.view.read (Elt F) X5 := View.readAt_full _ _ _
  have l6 : arg6.view.readAt (Elt F) (Rect.unit (s := S1x2048) ![0, 0] S1x2048.size inb_S1x2048_S1x2048_0_0).toLoadRect X6 = arg6.view.read (Elt F) X6 := View.readAt_full _ _ _
  have lo : oM.view.readAt (Elt F) (Rect.unit (s := S1056x2048) ![0, 0] S1056x2048.size inb_S1056x2048_S1056x2048_0_0).toLoadRect Xo = oM.view.read (Elt F) Xo := View.readAt_full _ _ _
  have ln : xnM.view.readAt (Elt F) (Rect.unit (s := S1056x2048) ![0, 0] S1056x2048.size inb_S1056x2048_S1056x2048_0_0).toLoadRect Xn = xnM.view.read (Elt F) Xn := View.readAt_full _ _ _
  iintro ⟨H3, H4, H5, H6, Ho, Hn, Hf, Hd, HO⟩
  unfold cc0__mlp_kernel
  sl_exec
  sl_step
  isplitl [H3]; · iexact H3
  isplitl [H4]; · iexact H4
  isplitl [H5]; · iexact H5
  isplitl [H6]; · iexact H6
  isplitl [Ho]
  · iapply (pointsTo_rep_of_read (c : Thread nD τ) oM _ fullShare (step (xnM.view.read (Elt F) Xn) (arg4.view.read (Elt F) X4) (arg5.view.read (Elt F) X5) (oM.view.read (Elt F) Xo)) ?_) $$ Ho
    refine (View.read_writes_full _ _ _ _ _).trans ?_
    unfold last6.sl.v31 last6.sl.v28 last6.sl.v27 last6.sl.v26 last6.sl.v25 last6.sl.v22 last6.sl.v21 last6.sl.v20 last6.sl.v19 last6.sl.v18 last6.sl.v17 last6.sl.v16
    rfl
  isplitl [Hn]; · iexact Hn
  isplitl [Hf_dst]; · iexact Hf_dst
  isplitl [Hf Hf_src]
  · iexists (sgM.view.writes (Elt F) Xs (last6.sl.Hf_src_1 c arg4 arg5 arg6 X4 X5 X6 Xo Xn))
    isplitl
    · iapply (leaving_of c 6192 0 1056 inb_S8192x2048_S1056x2048_6192_0 inb_S1056x2048_S1056x2048_0_0 _ _)
      isplitl [Hf]
      · iexact Hf
      · iexact Hf_src
    · ipureintro
      refine (View.read_writes_full _ _ _ _ _).trans ?_
      unfold last6.sl.v73 last6.sl.v70 last6.sl.v69 last6.sl.v68 last6.sl.v66 last6.sl.v65 last6.sl.v64 last6.sl.v63 last6.sl.v62 last6.sl.v61 last6.sl.v60 last6.sl.v59 last6.sl.v58 last6.sl.v57 last6.sl.v56 last6.sl.Ho_1 last6.sl.v31 last6.sl.v28 last6.sl.v27 last6.sl.v26 last6.sl.v25 last6.sl.v22 last6.sl.v21 last6.sl.v20 last6.sl.v19 last6.sl.v18 last6.sl.v17 last6.sl.v16
      rw [load_of_stored]
      rfl
  iexists _; iexact HO

/-- The last block of row tile 7. -/
theorem last7 (𝒱 : Variants) (c : Dev nD) (bd : Option 𝒱.V) (i : grid0.Coords) (arg3 : Memref sig .tc .vmem S1x2048 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x2048 .f32) (harg6 : arg6.IsWhole)
    (X3 : BufTy.Contents (Elt F) arg3.view.ty) (X4 : BufTy.Contents (Elt F) arg4.view.ty) (X5 : BufTy.Contents (Elt F) arg5.view.ty) (X6 : BufTy.Contents (Elt F) arg6.view.ty) (Xo : Buf (Elt F) (oM.view.loc (c : Thread nD τ))) (Xn : Buf (Elt F) (xnM.view.loc (c : Thread nD τ))) (Xf : Buf (Elt F) (outM.view.loc (c : Thread nD τ))) (W : Waits sig Unit) (Xs : Buf (Elt F) (sgM.view.loc (c : Thread nD τ))) (Xg : Buf (Elt F) (outM.view.loc (c : Thread nD τ)))
    (h1 : ¬ k0_cond1 i = 1#1) (h2 : ¬ k0_cond2 i = 1#1) (h3 : ¬ k0_cond3 i = 1#1) (h4 : atEnd i = 1#1)
    (t0 : ¬ onTile i 0#32 = 1#1) (t1 : ¬ onTile i 1#32 = 1#1) (t2 : ¬ onTile i 2#32 = 1#1) (t3 : ¬ onTile i 3#32 = 1#1) (t4 : ¬ onTile i 4#32 = 1#1) (t5 : ¬ onTile i 5#32 = 1#1) (t6 : ¬ onTile i 6#32 = 1#1) (t7 : onTile i 7#32 = 1#1) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ oP c Xo ∗ xnP c Xn ∗ leaving c 6192 0 1056 inb_S8192x2048_S1056x2048_6192_0 inb_S1056x2048_S1056x2048_0_0 Xg Xs ∗ segP c 7248 944 inb_S8192x2048_S944x2048_7248_0 Xf ∗ owes (c : Thread nD τ) 0 W) : sProp 𝕄D)
    ⊢ wp frame (wpE (defs₀ (F := F)) 𝒱 (c : Thread nD τ) bd) Set.univ (cc0__mlp_kernel (F := F) i hbM (Memref.isWhole_whole _) arg3 harg3 arg4 harg4 arg5 harg5 arg6 harg6 outM (Memref.isWhole_whole _) xnM (Memref.isWhole_whole _) xM (Memref.isWhole_whole _) cc0_scratch2 oM (Memref.isWhole_whole _) sgM (Memref.isWhole_whole _) cc0_scratch5)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
          ∗ oP c (oM.view.rep (step (xnM.view.read (Elt F) Xn) (arg4.view.read (Elt F) X4) (arg5.view.read (Elt F) X5) (oM.view.read (Elt F) Xo))) ∗ xnP c Xn ∗ segP c 6192 1056 inb_S8192x2048_S1056x2048_6192_0 (placed c 6192 0 1056 inb_S8192x2048_S1056x2048_6192_0 inb_S1056x2048_S1056x2048_0_0 Xg Xs) ∗ (∃ g, segP c 7248 944 inb_S8192x2048_S944x2048_7248_0 (placed c 7248 0 944 inb_S8192x2048_S944x2048_7248_0 inb_S1056x2048_S944x2048_0_0 Xf g) ∗ sgP c g ∗ ⌜sgM.view.read (Elt F) g = finished (step (xnM.view.read (Elt F) Xn) (arg4.view.read (Elt F) X4) (arg5.view.read (Elt F) X5) (oM.view.read (Elt F) Xo)) (arg6.view.read (Elt F) X6)⌝) ∗ outCellP c ∗ ∃ W, owes (c : Thread nD τ) 0 W)) := by
  have l3 : arg3.view.readAt (Elt F) (Rect.unit (s := S1x2048) ![0, 0] S1x2048.size inb_S1x2048_S1x2048_0_0).toLoadRect X3 = arg3.view.read (Elt F) X3 := View.readAt_full _ _ _
  have l4 : arg4.view.readAt (Elt F) (Rect.unit (s := S1x2048x512) ![0, 0, 0] S1x2048x512.size inb_S1x2048x512_S1x2048x512_0_0_0).toLoadRect X4 = arg4.view.read (Elt F) X4 := View.readAt_full _ _ _
  have l5 : arg5.view.readAt (Elt F) (Rect.unit (s := S1x512x2048) ![0, 0, 0] S1x512x2048.size inb_S1x512x2048_S1x512x2048_0_0_0).toLoadRect X5 = arg5.view.read (Elt F) X5 := View.readAt_full _ _ _
  have l6 : arg6.view.readAt (Elt F) (Rect.unit (s := S1x2048) ![0, 0] S1x2048.size inb_S1x2048_S1x2048_0_0).toLoadRect X6 = arg6.view.read (Elt F) X6 := View.readAt_full _ _ _
  have lo : oM.view.readAt (Elt F) (Rect.unit (s := S1056x2048) ![0, 0] S1056x2048.size inb_S1056x2048_S1056x2048_0_0).toLoadRect Xo = oM.view.read (Elt F) Xo := View.readAt_full _ _ _
  have ln : xnM.view.readAt (Elt F) (Rect.unit (s := S1056x2048) ![0, 0] S1056x2048.size inb_S1056x2048_S1056x2048_0_0).toLoadRect Xn = xnM.view.read (Elt F) Xn := View.readAt_full _ _ _
  iintro ⟨H3, H4, H5, H6, Ho, Hn, Hf, Hd, HO⟩
  unfold cc0__mlp_kernel
  sl_exec
  sl_step
  isplitl [H3]; · iexact H3
  isplitl [H4]; · iexact H4
  isplitl [H5]; · iexact H5
  isplitl [H6]; · iexact H6
  isplitl [Ho]
  · iapply (pointsTo_rep_of_read (c : Thread nD τ) oM _ fullShare (step (xnM.view.read (Elt F) Xn) (arg4.view.read (Elt F) X4) (arg5.view.read (Elt F) X5) (oM.view.read (Elt F) Xo)) ?_) $$ Ho
    refine (View.read_writes_full _ _ _ _ _).trans ?_
    unfold last7.sl.v31 last7.sl.v28 last7.sl.v27 last7.sl.v26 last7.sl.v25 last7.sl.v22 last7.sl.v21 last7.sl.v20 last7.sl.v19 last7.sl.v18 last7.sl.v17 last7.sl.v16
    rfl
  isplitl [Hn]; · iexact Hn
  isplitl [Hf_dst]; · iexact Hf_dst
  isplitl [Hd Hf_src]
  · iexists (sgM.view.writes (Elt F) Xs (last7.sl.Hf_src_1 c arg4 arg5 arg6 X4 X5 X6 Xo Xn))
    isplitl [Hd]; · iexact Hd
    isplitl [Hf_src]; · iexact Hf_src
    · ipureintro
      refine (View.read_writes_full _ _ _ _ _).trans ?_
      unfold last7.sl.v73 last7.sl.v70 last7.sl.v69 last7.sl.v68 last7.sl.v66 last7.sl.v65 last7.sl.v64 last7.sl.v63 last7.sl.v62 last7.sl.v61 last7.sl.v60 last7.sl.v59 last7.sl.v58 last7.sl.v57 last7.sl.v56 last7.sl.Ho_1 last7.sl.v31 last7.sl.v28 last7.sl.v27 last7.sl.v26 last7.sl.v25 last7.sl.v22 last7.sl.v21 last7.sl.v20 last7.sl.v19 last7.sl.v18 last7.sl.v17 last7.sl.v16
      rw [load_of_stored]
      rfl
  isplitl [Hf]; · iexact Hf
  iexists _; iexact HO

end Cert.LastIdeal.End

end
-- ==== Proof.EndSeg.lean ====
/- The last layer's feed-forward kernel over the whole grid: the values its points leave, and the result cut into the eight
   row ranges its copies write. -/
module

public import proofs.«01_k».proof.Proof.EndBody
public import Idealize.ShloMosaic.Lib.Pipeline.ValueKit
public import Idealize.ShloMosaic.Lib.Pointwise
public import Idealize.ShloMosaic.Lib.ViewIndex

@[expose] public section

set_option maxRecDepth 16384

noncomputable section

namespace Cert.LastIdeal.End

open Cert.LastIdeal Cert.LastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg BodyObligation)

variable {F : FTy → Type} [FloatOps F]
local notation "𝕄D" => MT nD τ sig Unit (Elt F) ℕ (Pipeline.UD sig nD τ) ℕ

variable (m : (ℓ : Loc nD τ sig) → Buf (Elt F) ℓ) (ρ : Dev nD → PrngReg)

/-! ## The grid: point `t` is block `t % 16` of row tile `t / 16` -/

/-- Row tile `n`. -/
def row (n : ℕ) : Fin 8 := ⟨n % 8, Nat.mod_lt _ (by decide)⟩
/-- Where row tile `n` starts. -/
def rowOff (n : Fin 8) : Fin 2 → ℕ := ![1056 * n.val, 0]
theorem rowOff_inb : ∀ (n : Fin 8) (a), rowOff n a + S1056x2048.size a ≤ S8448x2048.size a := by decide
/-- The tile whose copy is in flight before point `k`. -/
def carried (k : ℕ) : Option (Fin 8) :=
  if k % 16 = 0 ∧ 0 < k ∧ k < 128 then some (row (k / 16)) else if 2 ≤ k % 16 ∧ k / 16 + 1 < 8 then some (row (k / 16 + 1)) else none

theorem cond1_iff : ∀ t : Fin grid0.N, k0_cond1 (grid0.coords t) = 1#1 ↔ t.val = 0 := by decide +kernel
theorem cond2_iff : ∀ t : Fin grid0.N, k0_cond2 (grid0.coords t) = 1#1 ↔ t.val % 16 = 0 := by decide +kernel
theorem cond3_iff : ∀ t : Fin grid0.N, k0_cond3 (grid0.coords t) = 1#1 ↔ t.val % 16 = 1 ∧ t.val / 16 + 1 < 8 := by decide +kernel
theorem off1_eq : ∀ t : Fin grid0.N, k0_off1 (grid0.coords t) = rowOff (row (t.val / 16)) := by decide +kernel
theorem off2_eq : ∀ t : Fin grid0.N, t.val / 16 + 1 < 8 → k0_off2 (grid0.coords t) = rowOff (row (t.val / 16 + 1)) := by decide +kernel
theorem off0_eq : (![0, 0] : Fin 2 → ℕ) = rowOff (row (0 / 16)) := by decide +kernel
theorem carried_first : ∀ t : Fin grid0.N, t.val % 16 = 0 → 0 < t.val → carried t.val = some (row (t.val / 16)) ∧ carried (t.val + 1) = none := by decide +kernel
theorem carried_start : ∀ t : Fin grid0.N, t.val % 16 = 1 → t.val / 16 + 1 < 8 → carried t.val = none ∧ carried (t.val + 1) = some (row (t.val / 16 + 1)) := by decide +kernel
theorem carried_plain : ∀ t : Fin grid0.N, ¬ t.val % 16 = 0 → ¬ (t.val % 16 = 1 ∧ t.val / 16 + 1 < 8) → carried (t.val + 1) = carried t.val := by decide +kernel
theorem row_succ : ∀ t : Fin grid0.N, ¬ (t.val + 1) % 16 = 0 → row ((t.val + 1) / 16) = row (t.val / 16) := by decide +kernel

/-! ## The values -/

/-- Point `16 n + j`. -/
def pt (n : Fin 8) (j : ℕ) : Fin cfg0.N := ⟨(16 * n.val + j) % 128, Nat.mod_lt _ (by decide)⟩
theorem pt_eq : ∀ t : Fin grid0.N, pt (row (t.val / 16)) (t.val % 16) = t := by decide +kernel
/-- Row tile `n` of the residual stream. -/
def xAt (c : Dev nD) (n : Fin 8) : Vec F S1056x2048 .f32 := (tile (rowOff n) (rowOff_inb n)).view.read (Elt F) (V m c main_arg0)
/-- Row tile `n`, normed. -/
def xnAt (c : Dev nD) (n : Fin 8) : FVec F S1056x2048 .bf16 := normed (xAt m c n) (iblk m c 0 (pt n 0))
/-- What block `j` leaves in row tile `n` of the output. -/
def accAt (c : Dev nD) (n : Fin 8) : ℕ → FVec F S1056x2048 .f32
  | 0 => step (xnAt m c n) (iblk m c 1 (pt n 0)) (iblk m c 2 (pt n 0)) (shapeCast S1056x2048 (xAt m c n) shapeCasts_S1056x2048_S1056x2048)
  | j + 1 => step (xnAt m c n) (iblk m c 1 (pt n (j + 1))) (iblk m c 2 (pt n (j + 1))) (accAt c n j)
/-- What point `t` leaves in the output tile. -/
def outAt (c : Dev nD) (t : Fin cfg0.N) : Vec F S1056x2048 .f32 := accAt m c (row (t.val / 16)) (t.val % 16)

/-- Row tile `n`, finished and normed. -/
def tileAt (c : Dev nD) (n : Fin 8) : FVec F S1056x2048 .f32 := finished (accAt m c n 15) (iblk m c 3 (pt n 15))

theorem outAt_first (c : Dev nD) (t : Fin cfg0.N) (h : t.val % 16 = 0) :
    outAt m c t = step (normed (xAt m c (row (t.val / 16))) (iblk m c 0 t)) (iblk m c 1 t) (iblk m c 2 t)
      (shapeCast S1056x2048 (xAt m c (row (t.val / 16))) shapeCasts_S1056x2048_S1056x2048) := by
  have e := pt_eq t
  rw [h] at e
  unfold outAt; rw [h]
  show step (normed _ (iblk m c 0 (pt _ 0))) _ _ _ = _
  rw [e]
theorem outAt_next (c : Dev nD) (t : Fin cfg0.N) (h : ¬ t.val % 16 = 0) :
    outAt m c t = step (xnAt m c (row (t.val / 16))) (iblk m c 1 t) (iblk m c 2 t) (accAt m c (row (t.val / 16)) (t.val % 16 - 1)) := by
  have e := pt_eq t
  obtain ⟨j, hj⟩ : ∃ j, t.val % 16 = j + 1 := ⟨t.val % 16 - 1, by omega⟩
  rw [hj] at e
  unfold outAt
  rw [hj, Nat.add_sub_cancel]
  show step _ (iblk m c 1 (pt _ _)) (iblk m c 2 (pt _ _)) _ = _
  rw [e]

/-! ## The result, cut into row ranges -/

/-- The rows below `d`; the rows from `d` on. -/
def below (d : ℕ) : Finset S8192x2048.Idx := Finset.univ.filter fun i => (i 0).val < d
def above (d : ℕ) : Finset S8192x2048.Idx := Finset.univ.filter fun i => d ≤ (i 0).val

section
variable (d k : ℕ) (h : ∀ a, (![d, 0] : Fin 2 → ℕ) a + (⟨2, ![k, 2048]⟩ : Shape).size a ≤ S8192x2048.size a)
theorem mem_seg (i : S8192x2048.Idx) : i ∈ (seg d k h).view.set ↔ d ≤ (i 0).val ∧ (i 0).val < d + k := by
  constructor
  · intro hi
    obtain ⟨x, rfl⟩ := View.exists_of_mem_set_slice (v := outM.view) hi
    have e : ((outM.view.emb ((Rect.unit (s := S8192x2048) ![d, 0] (⟨2, ![k, 2048]⟩ : Shape).size h).emb x) : S8192x2048.Idx) 0).val = d + (x 0).val :=
      ValueKit.rect_emb_unit_val _ _ _ x 0
    rw [e]
    have : (x 0).val < k := (x 0).isLt
    omega
  · rintro ⟨h1, h2⟩
    refine Finset.mem_map.mpr ⟨ix2 ⟨(i 0).val - d, by omega⟩ (i 1), Finset.mem_univ _, ?_⟩
    funext a
    match a with
    | ⟨0, _⟩ => exact Fin.ext (by show d + 1 * ((i 0).val - d) = (i 0).val; omega)
    | ⟨1, _⟩ => exact Fin.ext (by show 0 + 1 * (i 1).val = (i 1).val; omega)
theorem above_eq : above d = (seg d k h).view.set ∪ above (d + k) := by
  ext i
  rw [Finset.mem_union, mem_seg d k h i]
  simp only [above, Finset.mem_filter, Finset.mem_univ, true_and]
  omega
theorem above_disjoint : Disjoint (seg d k h).view.set (above (d + k)) :=
  Finset.disjoint_left.mpr fun i hi hi' => by
    have h1 := (mem_seg d k h i).mp hi
    simp only [above, Finset.mem_filter, Finset.mem_univ, true_and] at hi'
    omega
theorem below_eq : below (d + k) = below d ∪ (seg d k h).view.set := by
  ext i
  rw [Finset.mem_union, mem_seg d k h i]
  simp only [below, Finset.mem_filter, Finset.mem_univ, true_and]
  omega
theorem below_disjoint : Disjoint (below d) (seg d k h).view.set :=
  Finset.disjoint_left.mpr fun i hi' hi => by
    have h1 := (mem_seg d k h i).mp hi
    simp only [below, Finset.mem_filter, Finset.mem_univ, true_and] at hi'
    omega
end

abbrev belowP (c : Dev nD) (d : ℕ) (f : Buf (Elt F) (outM.view.loc (c : Thread nD τ))) : sProp 𝕄D := outM.view.loc (c : Thread nD τ) ↦[below d]{fullShare} f
abbrev aboveP (c : Dev nD) (d : ℕ) (f : Buf (Elt F) (outM.view.loc (c : Thread nD τ))) : sProp 𝕄D := outM.view.loc (c : Thread nD τ) ↦[above d]{fullShare} f

/-- The next rows cut off; the next rows added. -/
theorem above_split (c : Dev nD) (d k : ℕ) (h : ∀ a, (![d, 0] : Fin 2 → ℕ) a + (⟨2, ![k, 2048]⟩ : Shape).size a ≤ S8192x2048.size a) (f : Buf (Elt F) (outM.view.loc (c : Thread nD τ))) :
    aboveP c d f ⊢ (iprop(segP c d k h f ∗ aboveP c (d + k) f) : sProp 𝕄D) := by
  unfold aboveP
  rw [above_eq d k h]
  exact (pointsTo_union (above_disjoint d k h)).1
theorem below_join (c : Dev nD) (d k : ℕ) (h : ∀ a, (![d, 0] : Fin 2 → ℕ) a + (⟨2, ![k, 2048]⟩ : Shape).size a ≤ S8192x2048.size a) (f : Buf (Elt F) (outM.view.loc (c : Thread nD τ))) :
    iprop(belowP c d f ∗ segP c d k h f) ⊢ (belowP c (d + k) f : sProp 𝕄D) := by
  unfold belowP
  rw [below_eq d k h]
  exact (pointsTo_union (below_disjoint d k h)).2
theorem below_first (c : Dev nD) (k : ℕ) (h : ∀ a, (![0, 0] : Fin 2 → ℕ) a + (⟨2, ![k, 2048]⟩ : Shape).size a ≤ S8192x2048.size a) (f : Buf (Elt F) (outM.view.loc (c : Thread nD τ))) :
    segP c 0 k h f ⊢ (belowP c k f : sProp 𝕄D) := by
  unfold belowP
  rw [show below k = (seg 0 k h).view.set by
    ext i
    rw [mem_seg 0 k h i]
    simp only [below, Finset.mem_filter, Finset.mem_univ, true_and]
    omega]
theorem below_all (c : Dev nD) (f : Buf (Elt F) (outM.view.loc (c : Thread nD τ))) : (belowP c 8192 f : sProp 𝕄D) = (outM.view.loc (c : Thread nD τ) ↦{fullShare} f) := by
  unfold belowP
  rw [show below 8192 = Finset.univ from Finset.filter_true_of_mem fun i _ => (i 0).isLt]
theorem above_all (c : Dev nD) (f : Buf (Elt F) (outM.view.loc (c : Thread nD τ))) : (aboveP c 0 f : sProp 𝕄D) = (outM.view.loc (c : Thread nD τ) ↦{fullShare} f) := by
  unfold aboveP
  rw [show above 0 = Finset.univ from Finset.filter_true_of_mem fun i _ => Nat.zero_le _]

/-! ## What the result holds at the end -/

/-- The row of the padded sequences that row `r` of the result is. -/
def flat (r : ℕ) : ℕ := if r < 4096 then r + 16 else r + 144
/-- The result: row `r` is row `flat r` of the finished tiles. -/
def written (c : Dev nD) : Buf (Elt F) (outM.view.loc (c : Thread nD τ)) := fun i : S8192x2048.Idx =>
  tileAt m c (row (flat (i 0).val / 1056)) (ix2 ⟨flat (i 0).val % 1056, Nat.mod_lt _ (by decide)⟩ (i 1))

/-- What a finished tile's copy leaves in its rows of the result. -/
theorem placed_eq (c : Dev nD) (n : ℕ) (d r k : ℕ) (h : ∀ a, (![d, 0] : Fin 2 → ℕ) a + (⟨2, ![k, 2048]⟩ : Shape).size a ≤ S8192x2048.size a)
    (h' : ∀ a, (![r, 0] : Fin 2 → ℕ) a + (⟨2, ![k, 2048]⟩ : Shape).size a ≤ S1056x2048.size a) (f : Buf (Elt F) (outM.view.loc (c : Thread nD τ)))
    (g : Buf (Elt F) (sgM.view.loc (c : Thread nD τ))) (hg : sgM.view.read (Elt F) g = tileAt m c (row n))
    (hrow : ∀ x, x < k → flat (d + x) = 1056 * n + (r + x)) (hk : r + k ≤ 1056) :
    (segP c d k h (placed c d r k h h' f g) : sProp 𝕄D) = segP c d k h (written m c) := by
  refine pointsTo_congr fun i hi => ?_
  obtain ⟨x, rfl⟩ := View.exists_of_mem_set_slice (v := outM.view) hi
  have hx : (x 0).val < k := (x 0).isLt
  have e0 : ((outM.view.emb ((Rect.unit (s := S8192x2048) ![d, 0] (⟨2, ![k, 2048]⟩ : Shape).size h).emb x) : S8192x2048.Idx) 0).val = d + (x 0).val :=
    ValueKit.rect_emb_unit_val _ _ _ x 0
  have e1 : ((outM.view.emb ((Rect.unit (s := S8192x2048) ![d, 0] (⟨2, ![k, 2048]⟩ : Shape).size h).emb x) : S8192x2048.Idx) 1).val = 0 + (x 1).val :=
    ValueKit.rect_emb_unit_val _ _ _ x 1
  have w : (seg d k h).view.read (Elt F) (placed c d r k h h' f g) x = (part r k h').view.read (Elt F) g x := congrFun (View.read_writes_whole _ _ _) x
  have p : (part r k h').view.read (Elt F) g x = sgM.view.read (Elt F) g ((Rect.unit (s := S1056x2048) ![r, 0] (⟨2, ![k, 2048]⟩ : Shape).size h').emb x) := rfl
  refine (w.trans (p.trans (congrFun hg _))).trans ?_
  unfold written
  have hf := hrow _ hx
  have q1 : (1056 * n + (r + (x 0).val)) / 1056 = n := by omega
  have q2 : (1056 * n + (r + (x 0).val)) % 1056 = r + (x 0).val := by omega
  have key : ∀ (y : S8192x2048.Idx), (y 0).val = d + (x 0).val → (y 1).val = 0 + (x 1).val →
      tileAt m c (row n) ((Rect.unit (s := S1056x2048) ![r, 0] (⟨2, ![k, 2048]⟩ : Shape).size h').emb x)
        = tileAt m c (row (flat (y 0).val / 1056)) (ix2 ⟨flat (y 0).val % 1056, Nat.mod_lt _ (by decide)⟩ (y 1)) := by
    intro y y0 y1
    have z : (row (flat (y 0).val / 1056)) = row n := by rw [y0, hf, q1]
    rw [z]
    congr 1
    funext a
    match a with
    | ⟨0, _⟩ => exact Fin.ext (by show r + 1 * (x 0).val = flat (y 0).val % 1056; rw [y0, hf, q2]; omega)
    | ⟨1, _⟩ => exact Fin.ext (by show 0 + 1 * (x 1).val = (y 1).val; rw [y1]; omega)
  exact key _ e0 e1

end Cert.LastIdeal.End

end
-- ==== Proof.EndRun.lean ====
/- The last layer's feed-forward kernel over the whole grid: what is in flight between points, and the run. -/
module

public import proofs.«01_k».proof.Proof.EndSeg
public import Idealize.ShloMosaic.Lib.Pipeline.FrameValue
public import Idealize.ShloMosaic.Lib.Pipeline.Quiescent

@[expose] public section

set_option maxRecDepth 16384

noncomputable section

namespace Cert.LastIdeal.End

open Cert.LastIdeal Cert.LastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg BodyObligation)

variable {F : FTy → Type} [FloatOps F]
local notation "𝕄D" => MT nD τ sig Unit (Elt F) ℕ (Pipeline.UD sig nD τ) ℕ

variable (m : (ℓ : Loc nD τ sig) → Buf (Elt F) ℓ) (ρ : Dev nD → PrngReg)

/-! ## What is held between points -/

/-- The elements of the residual stream outside the tile at `o`. -/
abbrev restP (c : Dev nD) (o : Fin 2 → ℕ) (h : ∀ a, o a + S1056x2048.size a ≤ S8448x2048.size a) (XA : Buf (Elt F) (hbM.view.loc (c : Thread nD τ))) : sProp 𝕄D :=
  hbM.view.loc (c : Thread nD τ) ↦[Finset.univ \ (tile o h).view.set]{fullShare} XA
/-- The residual stream, whole. -/
abbrev allP (c : Dev nD) (XA : Buf (Elt F) (hbM.view.loc (c : Thread nD τ))) : sProp 𝕄D := hbM.view.loc (c : Thread nD τ) ↦{fullShare} XA

theorem all_split (c : Dev nD) (o : Fin 2 → ℕ) (h : ∀ a, o a + S1056x2048.size a ≤ S8448x2048.size a) (XA : Buf (Elt F) (hbM.view.loc (c : Thread nD τ))) :
    allP c XA ⊣⊢ iprop(tileP c o h XA ∗ restP c o h XA) := pointsTo_split_subset (Finset.subset_univ _)

/-- Nothing in flight: the residual stream whole, the landing tile at anything, the cell at zero. -/
def idle (c : Dev nD) : sProp 𝕄D := iprop(allP c (V m c main_arg0) ∗ (∃ f, xP c f) ∗ cellP c)
/-- Tile `n` in flight, the rest of the residual stream at hand. -/
def flying (c : Dev nD) (n : Fin 8) : sProp 𝕄D :=
  iprop((∃ f, flightP c (rowOff n) (rowOff_inb n) (V m c main_arg0) f) ∗ restP c (rowOff n) (rowOff_inb n) (V m c main_arg0))
def copySt (c : Dev nD) : Option (Fin 8) → sProp 𝕄D
  | none => idle m c
  | some n => flying m c n
/-- The normed tile: named inside a row, at anything between rows. -/
def normSt (c : Dev nD) (k : ℕ) : sProp 𝕄D := if k % 16 = 0 then iprop(∃ f, xnP c f) else xnP c (xnM.view.rep (xnAt m c (row (k / 16))))
/-- The tile being summed: at what the last block left inside a row, at anything between rows. -/
def sumSt (c : Dev nD) (k : ℕ) : sProp 𝕄D := if k % 16 = 0 then iprop(∃ f, oP c f) else oP c (oM.view.rep (accAt m c (row (k / 16)) (k % 16 - 1)))
/-- The result before row tile `n` is copied out: the rows written, those in flight, those still as they were. -/
def outSt (c : Dev nD) : ℕ → sProp 𝕄D
  | 0 => iprop((∃ f, sgP c f) ∗ outCellP c ∗ aboveP c 0 (V m c main_v2))
  | 1 => iprop((∃ g, leaving c 0 16 1040 inb_S8192x2048_S1040x2048_0_0 inb_S1056x2048_S1040x2048_16_0 (V m c main_v2) g ∗ ⌜sgM.view.read (Elt F) g = tileAt m c (row 0)⌝) ∗ aboveP c 1040 (V m c main_v2))
  | 2 => iprop((∃ g, leaving c 1040 0 1056 inb_S8192x2048_S1056x2048_1040_0 inb_S1056x2048_S1056x2048_0_0 (V m c main_v2) g ∗ ⌜sgM.view.read (Elt F) g = tileAt m c (row 1)⌝) ∗ belowP c 1040 (written m c) ∗ aboveP c 2096 (V m c main_v2))
  | 3 => iprop((∃ g, leaving c 2096 0 1056 inb_S8192x2048_S1056x2048_2096_0 inb_S1056x2048_S1056x2048_0_0 (V m c main_v2) g ∗ ⌜sgM.view.read (Elt F) g = tileAt m c (row 2)⌝) ∗ belowP c 2096 (written m c) ∗ aboveP c 3152 (V m c main_v2))
  | 4 => iprop((∃ g, leaving c 3152 0 944 inb_S8192x2048_S944x2048_3152_0 inb_S1056x2048_S944x2048_0_0 (V m c main_v2) g ∗ ⌜sgM.view.read (Elt F) g = tileAt m c (row 3)⌝) ∗ belowP c 3152 (written m c) ∗ aboveP c 4096 (V m c main_v2))
  | 5 => iprop((∃ g, leaving c 4096 16 1040 inb_S8192x2048_S1040x2048_4096_0 inb_S1056x2048_S1040x2048_16_0 (V m c main_v2) g ∗ ⌜sgM.view.read (Elt F) g = tileAt m c (row 4)⌝) ∗ belowP c 4096 (written m c) ∗ aboveP c 5136 (V m c main_v2))
  | 6 => iprop((∃ g, leaving c 5136 0 1056 inb_S8192x2048_S1056x2048_5136_0 inb_S1056x2048_S1056x2048_0_0 (V m c main_v2) g ∗ ⌜sgM.view.read (Elt F) g = tileAt m c (row 5)⌝) ∗ belowP c 5136 (written m c) ∗ aboveP c 6192 (V m c main_v2))
  | 7 => iprop((∃ g, leaving c 6192 0 1056 inb_S8192x2048_S1056x2048_6192_0 inb_S1056x2048_S1056x2048_0_0 (V m c main_v2) g ∗ ⌜sgM.view.read (Elt F) g = tileAt m c (row 6)⌝) ∗ belowP c 6192 (written m c) ∗ aboveP c 7248 (V m c main_v2))
  | 8 => iprop((∃ f, sgP c f) ∗ outCellP c ∗ belowP c 8192 (written m c))
  | _ + 9 => iprop(False)
theorem outSt_0 (c : Dev nD) : outSt m c 0 = iprop((∃ f, sgP c f) ∗ outCellP c ∗ aboveP c 0 (V m c main_v2)) := rfl
theorem outSt_1 (c : Dev nD) : outSt m c 1 = iprop((∃ g, leaving c 0 16 1040 inb_S8192x2048_S1040x2048_0_0 inb_S1056x2048_S1040x2048_16_0 (V m c main_v2) g ∗ ⌜sgM.view.read (Elt F) g = tileAt m c (row 0)⌝) ∗ aboveP c 1040 (V m c main_v2)) := rfl
theorem outSt_2 (c : Dev nD) : outSt m c 2 = iprop((∃ g, leaving c 1040 0 1056 inb_S8192x2048_S1056x2048_1040_0 inb_S1056x2048_S1056x2048_0_0 (V m c main_v2) g ∗ ⌜sgM.view.read (Elt F) g = tileAt m c (row 1)⌝) ∗ belowP c 1040 (written m c) ∗ aboveP c 2096 (V m c main_v2)) := rfl
theorem outSt_3 (c : Dev nD) : outSt m c 3 = iprop((∃ g, leaving c 2096 0 1056 inb_S8192x2048_S1056x2048_2096_0 inb_S1056x2048_S1056x2048_0_0 (V m c main_v2) g ∗ ⌜sgM.view.read (Elt F) g = tileAt m c (row 2)⌝) ∗ belowP c 2096 (written m c) ∗ aboveP c 3152 (V m c main_v2)) := rfl
theorem outSt_4 (c : Dev nD) : outSt m c 4 = iprop((∃ g, leaving c 3152 0 944 inb_S8192x2048_S944x2048_3152_0 inb_S1056x2048_S944x2048_0_0 (V m c main_v2) g ∗ ⌜sgM.view.read (Elt F) g = tileAt m c (row 3)⌝) ∗ belowP c 3152 (written m c) ∗ aboveP c 4096 (V m c main_v2)) := rfl
theorem outSt_5 (c : Dev nD) : outSt m c 5 = iprop((∃ g, leaving c 4096 16 1040 inb_S8192x2048_S1040x2048_4096_0 inb_S1056x2048_S1040x2048_16_0 (V m c main_v2) g ∗ ⌜sgM.view.read (Elt F) g = tileAt m c (row 4)⌝) ∗ belowP c 4096 (written m c) ∗ aboveP c 5136 (V m c main_v2)) := rfl
theorem outSt_6 (c : Dev nD) : outSt m c 6 = iprop((∃ g, leaving c 5136 0 1056 inb_S8192x2048_S1056x2048_5136_0 inb_S1056x2048_S1056x2048_0_0 (V m c main_v2) g ∗ ⌜sgM.view.read (Elt F) g = tileAt m c (row 5)⌝) ∗ belowP c 5136 (written m c) ∗ aboveP c 6192 (V m c main_v2)) := rfl
theorem outSt_7 (c : Dev nD) : outSt m c 7 = iprop((∃ g, leaving c 6192 0 1056 inb_S8192x2048_S1056x2048_6192_0 inb_S1056x2048_S1056x2048_0_0 (V m c main_v2) g ∗ ⌜sgM.view.read (Elt F) g = tileAt m c (row 6)⌝) ∗ belowP c 6192 (written m c) ∗ aboveP c 7248 (V m c main_v2)) := rfl
theorem outSt_8 (c : Dev nD) : outSt m c 8 = iprop((∃ f, sgP c f) ∗ outCellP c ∗ belowP c 8192 (written m c)) := rfl
/-- What is held before point `k`. -/
def held (c : Dev nD) (k : ℕ) : sProp 𝕄D :=
  iprop(normSt m c k ∗ copySt m c (carried k) ∗ sumSt m c k ∗ outSt m c (k / 16) ∗ (∃ r, prngReg c r))

theorem sumSt_first (c : Dev nD) (k : ℕ) (h : k % 16 = 0) : sumSt m c k = iprop(∃ f, oP (F := F) c f) := if_pos h
theorem sumSt_named (c : Dev nD) (k : ℕ) (h : ¬ k % 16 = 0) : sumSt m c k = oP c (oM.view.rep (accAt m c (row (k / 16)) (k % 16 - 1))) := if_neg h
theorem sumSt_succ (c : Dev nD) (t : Fin cfg0.N) : oP c (oM.view.rep (outAt m c t)) ⊢ sumSt m c (t.val + 1) := by
  by_cases h : (t.val + 1) % 16 = 0
  · rw [sumSt_first _ _ _ h]
    iintro H; iexists _; iexact H
  · rw [sumSt_named _ _ _ h, row_succ t h, show (t.val + 1) % 16 - 1 = t.val % 16 by omega]
    exact .rfl
theorem sum_step (c : Dev nD) (t : Fin cfg0.N) (h : ¬ t.val % 16 = 0) {w1 : Vec F S1x2048x512 .f32} {w2 : Vec F S1x512x2048 .f32}
    (h1 : w1 = iblk m c 1 t) (h2 : w2 = iblk m c 2 t) :
    oP c (oM.view.rep (step (xnM.view.read (Elt F) (xnM.view.rep (xnAt m c (row (t.val / 16))))) w1 w2
      (oM.view.read (Elt F) (oM.view.rep (accAt m c (row (t.val / 16)) (t.val % 16 - 1)))))) ⊢ sumSt m c (t.val + 1) := by
  subst h1 h2
  rw [View.read_rep, View.read_rep, ← outAt_next m c t h]
  exact sumSt_succ m c t
theorem outSt_same (c : Dev nD) (t : Fin cfg0.N) (h : ¬ t.val % 16 = 15) : outSt m c ((t.val + 1) / 16) = outSt m c (t.val / 16) := by
  rw [show (t.val + 1) / 16 = t.val / 16 by omega]

theorem normSt_first (c : Dev nD) (k : ℕ) (h : k % 16 = 0) : normSt m c k = iprop(∃ f, xnP (F := F) c f) := if_pos h
theorem normSt_named (c : Dev nD) (k : ℕ) (h : ¬ k % 16 = 0) : normSt m c k = xnP c (xnM.view.rep (xnAt m c (row (k / 16)))) := if_neg h
/-- A named normed tile is a normed tile. -/
theorem normSt_succ (c : Dev nD) (t : Fin cfg0.N) : xnP c (xnM.view.rep (xnAt m c (row (t.val / 16)))) ⊢ normSt m c (t.val + 1) := by
  by_cases h : (t.val + 1) % 16 = 0
  · rw [normSt_first _ _ _ h]
    iintro H; iexists _; iexact H
  · rw [normSt_named _ _ _ h, row_succ t h]

/-! ## The proof data -/

/-- The arrays as the region finds them; after a point each window's buffer at its block; between
    points what `held` says; nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ k := held m c k.val
  q _ := fullShare
  owed _ := 0

theorem A_eq (c : Dev nD) (w : Fin cfg0.W) : (dats m 0 c).A w = V m c (Pipeline.arrRef spec0 w) := rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem before_0 (c : Dev nD) (t : Fin cfg0.N) (d) : (dats m 0 c).before 0 t d = iblk m c 0 t :=
  (Dat.before_in_eq_fetched _ 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  (Dat.before_in_eq_fetched _ 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  (Dat.before_in_eq_fetched _ 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  (Dat.before_in_eq_fetched _ 3 rfl (fun _ => rfl) (fun _ _ _ => rfl) (fun t => by rw [after_3]; unfold Dat.blockOf iblk; rw [A_eq]; try rfl) t d).trans
    (by unfold Dat.fetched Dat.blockOf iblk; rw [A_eq]; try rfl)

def bodyPre (c : Dev nD) (t : Fin cfg0.N) : sProp 𝕄D :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)))
def bodyPost (c : Dev nD) (t : Fin cfg0.N) : sProp 𝕄D :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t))

/-! ## Tiles at equal offsets -/

section
variable (c : Dev nD) {o o' : Fin 2 → ℕ} (e : o = o') (h : ∀ a, o a + S1056x2048.size a ≤ S8448x2048.size a)
  (h' : ∀ a, o' a + S1056x2048.size a ≤ S8448x2048.size a) (XA : Buf (Elt F) (hbM.view.loc (c : Thread nD τ)))
include e
theorem tile_at {XA : hbM.view.ty.Contents (Elt F)} : (tile o h).view.read (Elt F) XA = (tile o' h').view.read (Elt F) XA := by subst e; rfl
theorem flight_at : iprop(∃ f, flightP c o h XA f) ⊢ (iprop(∃ f, flightP c o' h' XA f) : sProp 𝕄D) := by subst e; exact .rfl
theorem flight_back : iprop(∃ f, flightP c o' h' XA f) ⊢ (iprop(∃ f, flightP c o h XA f) : sProp 𝕄D) := by subst e; exact .rfl
theorem rest_at : restP c o h XA ⊢ (restP c o' h' XA : sProp 𝕄D) := by subst e; exact .rfl
theorem rest_back : restP c o' h' XA ⊢ (restP c o h XA : sProp 𝕄D) := by subst e; exact .rfl
end
theorem norm_first (c : Dev nD) (t : Fin cfg0.N) (h : t.val % 16 = 0) {x : Vec F S1056x2048 .f32} {g : Vec F S1x2048 .f32}
    (hx : x = xAt m c (row (t.val / 16))) (hg : g = iblk m c 0 t) : xnP c (xnM.view.rep (normed x g)) ⊢ normSt m c (t.val + 1) := by
  have e := pt_eq t
  rw [h] at e
  subst hx hg
  rw [show normed (xAt m c (row (t.val / 16))) (iblk m c 0 t) = xnAt m c (row (t.val / 16)) by unfold xnAt; rw [e]]
  exact normSt_succ m c t
theorem sum_first (c : Dev nD) (t : Fin cfg0.N) (h : t.val % 16 = 0) {x : Vec F S1056x2048 .f32} {g : Vec F S1x2048 .f32} {w1 : Vec F S1x2048x512 .f32}
    {w2 : Vec F S1x512x2048 .f32} (hx : x = xAt m c (row (t.val / 16))) (hg : g = iblk m c 0 t) (h1 : w1 = iblk m c 1 t) (h2 : w2 = iblk m c 2 t) :
    oP c (oM.view.rep (step (normed x g) w1 w2 (shapeCast S1056x2048 x shapeCasts_S1056x2048_S1056x2048))) ⊢ sumSt m c (t.val + 1) := by
  subst hx hg h1 h2
  rw [← outAt_first m c t h]
  exact sumSt_succ m c t

/-! ## The last block of each row tile -/

theorem atEnd_iff : ∀ t : Fin grid0.N, atEnd (grid0.coords t) = 1#1 ↔ t.val % 16 = 15 := by decide +kernel
theorem onTile_iff : ∀ (t : Fin grid0.N) (n : Fin 8), onTile (grid0.coords t) (BitVec.ofNat 32 n.val) = 1#1 ↔ t.val / 16 = n.val := by decide +kernel

/-- Row tile 0 copied out. -/
theorem tile_0 (c : Dev nD) (t : Fin cfg0.N) (ht : t.val = 15) (arg3 : Memref sig .tc .vmem S1x2048 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x2048 .f32) (harg6 : arg6.IsWhole)
    (X3 : BufTy.Contents (Elt F) arg3.view.ty) (X4 : BufTy.Contents (Elt F) arg4.view.ty) (X5 : BufTy.Contents (Elt F) arg5.view.ty) (X6 : BufTy.Contents (Elt F) arg6.view.ty) (Xo : Buf (Elt F) (oM.view.loc (c : Thread nD τ))) (Xn : Buf (Elt F) (xnM.view.loc (c : Thread nD τ))) (W : Waits sig Unit)
    (h6 : finished (step (xnM.view.read (Elt F) Xn) (arg4.view.read (Elt F) X4) (arg5.view.read (Elt F) X5) (oM.view.read (Elt F) Xo)) (arg6.view.read (Elt F) X6) = tileAt m c (row 0)) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ oP c Xo ∗ xnP c Xn ∗ outSt m c 0 ∗ owes (c : Thread nD τ) 0 W) : sProp 𝕄D)
    ⊢ wp frame (wpE (defs₀ (F := F)) Variants.none (c : Thread nD τ) none) Set.univ (cc0__mlp_kernel (F := F) (grid0.coords t) hbM (Memref.isWhole_whole _) arg3 harg3 arg4 harg4 arg5 harg5 arg6 harg6 outM (Memref.isWhole_whole _) xnM (Memref.isWhole_whole _) xM (Memref.isWhole_whole _) cc0_scratch2 oM (Memref.isWhole_whole _) sgM (Memref.isWhole_whole _) cc0_scratch5)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
          ∗ oP c (oM.view.rep (step (xnM.view.read (Elt F) Xn) (arg4.view.read (Elt F) X4) (arg5.view.read (Elt F) X5) (oM.view.read (Elt F) Xo))) ∗ xnP c Xn ∗ outSt m c 1 ∗ ∃ W, owes (c : Thread nD τ) 0 W)) := by
  rw [outSt_0, outSt_1]
  iintro ⟨H3, H4, H5, H6, Ho, Hn, ⟨⟨%gs, Hs⟩, Hc, Ha⟩, HO⟩
  ihave Ha' := (above_split c 0 1040 inb_S8192x2048_S1040x2048_0_0 (V m c main_v2)) $$ Ha
  icases Ha' with ⟨Hd, Ha⟩
  iapply (exec_cut_last _ _ _ (last0 (F := F) Variants.none c none (grid0.coords t) arg3 harg3 arg4 harg4 arg5 harg5 arg6 harg6 X3 X4 X5 X6 Xo Xn (V m c main_v2) W gs
      (fun h => by have := (cond1_iff t).mp h; omega) (fun h => by have := (cond2_iff t).mp h; omega) (fun h => by have := (cond3_iff t).mp h; omega) ((atEnd_iff t).mpr (by omega))
      ((onTile_iff t 0).mpr (by show t.val / 16 = 0; omega)) (fun h => by have e : t.val / 16 = 1 := (onTile_iff t 1).mp h; omega) (fun h => by have e : t.val / 16 = 2 := (onTile_iff t 2).mp h; omega) (fun h => by have e : t.val / 16 = 3 := (onTile_iff t 3).mp h; omega) (fun h => by have e : t.val / 16 = 4 := (onTile_iff t 4).mp h; omega) (fun h => by have e : t.val / 16 = 5 := (onTile_iff t 5).mp h; omega) (fun h => by have e : t.val / 16 = 6 := (onTile_iff t 6).mp h; omega) (fun h => by have e : t.val / 16 = 7 := (onTile_iff t 7).mp h; omega))) $$ [H3 H4 H5 H6 Ho Hn Hs Hc Hd HO]
  · isplitl [H3]; · iexact H3
    isplitl [H4]; · iexact H4
    isplitl [H5]; · iexact H5
    isplitl [H6]; · iexact H6
    isplitl [Ho]; · iexact Ho
    isplitl [Hn]; · iexact Hn
    isplitl [Hs]; · iexact Hs
    isplitl [Hc]; · iexact Hc
    isplitl [Hd]; · iexact Hd
    iexact HO
  iintro %r ⟨H3, H4, H5, H6, Ho, Hn, ⟨%g, Hf, %hg⟩, HO⟩
  isplitl [H3]; · iexact H3
  isplitl [H4]; · iexact H4
  isplitl [H5]; · iexact H5
  isplitl [H6]; · iexact H6
  isplitl [Ho]; · iexact Ho
  isplitl [Hn]; · iexact Hn
  isplitl [Hf Ha]
  · isplitl [Hf]
    · iexists g
      isplitl [Hf]; · iexact Hf
      ipureintro; exact hg.trans h6
    iexact Ha
  iexact HO

/-- Row tile 1 copied out. -/
theorem tile_1 (c : Dev nD) (t : Fin cfg0.N) (ht : t.val = 31) (arg3 : Memref sig .tc .vmem S1x2048 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x2048 .f32) (harg6 : arg6.IsWhole)
    (X3 : BufTy.Contents (Elt F) arg3.view.ty) (X4 : BufTy.Contents (Elt F) arg4.view.ty) (X5 : BufTy.Contents (Elt F) arg5.view.ty) (X6 : BufTy.Contents (Elt F) arg6.view.ty) (Xo : Buf (Elt F) (oM.view.loc (c : Thread nD τ))) (Xn : Buf (Elt F) (xnM.view.loc (c : Thread nD τ))) (W : Waits sig Unit)
    (h6 : finished (step (xnM.view.read (Elt F) Xn) (arg4.view.read (Elt F) X4) (arg5.view.read (Elt F) X5) (oM.view.read (Elt F) Xo)) (arg6.view.read (Elt F) X6) = tileAt m c (row 1)) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ oP c Xo ∗ xnP c Xn ∗ outSt m c 1 ∗ owes (c : Thread nD τ) 0 W) : sProp 𝕄D)
    ⊢ wp frame (wpE (defs₀ (F := F)) Variants.none (c : Thread nD τ) none) Set.univ (cc0__mlp_kernel (F := F) (grid0.coords t) hbM (Memref.isWhole_whole _) arg3 harg3 arg4 harg4 arg5 harg5 arg6 harg6 outM (Memref.isWhole_whole _) xnM (Memref.isWhole_whole _) xM (Memref.isWhole_whole _) cc0_scratch2 oM (Memref.isWhole_whole _) sgM (Memref.isWhole_whole _) cc0_scratch5)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
          ∗ oP c (oM.view.rep (step (xnM.view.read (Elt F) Xn) (arg4.view.read (Elt F) X4) (arg5.view.read (Elt F) X5) (oM.view.read (Elt F) Xo))) ∗ xnP c Xn ∗ outSt m c 2 ∗ ∃ W, owes (c : Thread nD τ) 0 W)) := by
  rw [outSt_1, outSt_2]
  iintro ⟨H3, H4, H5, H6, Ho, Hn, ⟨⟨%gs, Hf, %hgs⟩, Ha⟩, HO⟩
  ihave Ha' := (above_split c 1040 1056 inb_S8192x2048_S1056x2048_1040_0 (V m c main_v2)) $$ Ha
  icases Ha' with ⟨Hd, Ha⟩
  iapply (exec_cut_last _ _ _ (last1 (F := F) Variants.none c none (grid0.coords t) arg3 harg3 arg4 harg4 arg5 harg5 arg6 harg6 X3 X4 X5 X6 Xo Xn (V m c main_v2) W gs (V m c main_v2)
      (fun h => by have := (cond1_iff t).mp h; omega) (fun h => by have := (cond2_iff t).mp h; omega) (fun h => by have := (cond3_iff t).mp h; omega) ((atEnd_iff t).mpr (by omega))
      (fun h => by have e : t.val / 16 = 0 := (onTile_iff t 0).mp h; omega) ((onTile_iff t 1).mpr (by show t.val / 16 = 1; omega)) (fun h => by have e : t.val / 16 = 2 := (onTile_iff t 2).mp h; omega) (fun h => by have e : t.val / 16 = 3 := (onTile_iff t 3).mp h; omega) (fun h => by have e : t.val / 16 = 4 := (onTile_iff t 4).mp h; omega) (fun h => by have e : t.val / 16 = 5 := (onTile_iff t 5).mp h; omega) (fun h => by have e : t.val / 16 = 6 := (onTile_iff t 6).mp h; omega) (fun h => by have e : t.val / 16 = 7 := (onTile_iff t 7).mp h; omega))) $$ [H3 H4 H5 H6 Ho Hn Hf Hd HO]
  · isplitl [H3]; · iexact H3
    isplitl [H4]; · iexact H4
    isplitl [H5]; · iexact H5
    isplitl [H6]; · iexact H6
    isplitl [Ho]; · iexact Ho
    isplitl [Hn]; · iexact Hn
    isplitl [Hf]; · iexact Hf
    isplitl [Hd]; · iexact Hd
    iexact HO
  iintro %r ⟨H3, H4, H5, H6, Ho, Hn, Hp, ⟨%g, Hf, %hg⟩, HO⟩
  ihave Hp' := (Entails.of_eq (placed_eq m c 0 0 16 1040 inb_S8192x2048_S1040x2048_0_0 inb_S1056x2048_S1040x2048_16_0 (V m c main_v2) gs (hgs) (fun x hx => by unfold flat; split <;> omega) (by omega))) $$ Hp
  ihave Hb' := (below_first c 1040 inb_S8192x2048_S1040x2048_0_0 (written m c)) $$ Hp'
  isplitl [H3]; · iexact H3
  isplitl [H4]; · iexact H4
  isplitl [H5]; · iexact H5
  isplitl [H6]; · iexact H6
  isplitl [Ho]; · iexact Ho
  isplitl [Hn]; · iexact Hn
  isplitl [Hf Hb' Ha]
  · isplitl [Hf]
    · iexists g
      isplitl [Hf]; · iexact Hf
      ipureintro; exact hg.trans h6
    isplitl [Hb']; · iexact Hb'
    iexact Ha
  iexact HO

/-- Row tile 2 copied out. -/
theorem tile_2 (c : Dev nD) (t : Fin cfg0.N) (ht : t.val = 47) (arg3 : Memref sig .tc .vmem S1x2048 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x2048 .f32) (harg6 : arg6.IsWhole)
    (X3 : BufTy.Contents (Elt F) arg3.view.ty) (X4 : BufTy.Contents (Elt F) arg4.view.ty) (X5 : BufTy.Contents (Elt F) arg5.view.ty) (X6 : BufTy.Contents (Elt F) arg6.view.ty) (Xo : Buf (Elt F) (oM.view.loc (c : Thread nD τ))) (Xn : Buf (Elt F) (xnM.view.loc (c : Thread nD τ))) (W : Waits sig Unit)
    (h6 : finished (step (xnM.view.read (Elt F) Xn) (arg4.view.read (Elt F) X4) (arg5.view.read (Elt F) X5) (oM.view.read (Elt F) Xo)) (arg6.view.read (Elt F) X6) = tileAt m c (row 2)) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ oP c Xo ∗ xnP c Xn ∗ outSt m c 2 ∗ owes (c : Thread nD τ) 0 W) : sProp 𝕄D)
    ⊢ wp frame (wpE (defs₀ (F := F)) Variants.none (c : Thread nD τ) none) Set.univ (cc0__mlp_kernel (F := F) (grid0.coords t) hbM (Memref.isWhole_whole _) arg3 harg3 arg4 harg4 arg5 harg5 arg6 harg6 outM (Memref.isWhole_whole _) xnM (Memref.isWhole_whole _) xM (Memref.isWhole_whole _) cc0_scratch2 oM (Memref.isWhole_whole _) sgM (Memref.isWhole_whole _) cc0_scratch5)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
          ∗ oP c (oM.view.rep (step (xnM.view.read (Elt F) Xn) (arg4.view.read (Elt F) X4) (arg5.view.read (Elt F) X5) (oM.view.read (Elt F) Xo))) ∗ xnP c Xn ∗ outSt m c 3 ∗ ∃ W, owes (c : Thread nD τ) 0 W)) := by
  rw [outSt_2, outSt_3]
  iintro ⟨H3, H4, H5, H6, Ho, Hn, ⟨⟨%gs, Hf, %hgs⟩, Hb, Ha⟩, HO⟩
  ihave Ha' := (above_split c 2096 1056 inb_S8192x2048_S1056x2048_2096_0 (V m c main_v2)) $$ Ha
  icases Ha' with ⟨Hd, Ha⟩
  iapply (exec_cut_last _ _ _ (last2 (F := F) Variants.none c none (grid0.coords t) arg3 harg3 arg4 harg4 arg5 harg5 arg6 harg6 X3 X4 X5 X6 Xo Xn (V m c main_v2) W gs (V m c main_v2)
      (fun h => by have := (cond1_iff t).mp h; omega) (fun h => by have := (cond2_iff t).mp h; omega) (fun h => by have := (cond3_iff t).mp h; omega) ((atEnd_iff t).mpr (by omega))
      (fun h => by have e : t.val / 16 = 0 := (onTile_iff t 0).mp h; omega) (fun h => by have e : t.val / 16 = 1 := (onTile_iff t 1).mp h; omega) ((onTile_iff t 2).mpr (by show t.val / 16 = 2; omega)) (fun h => by have e : t.val / 16 = 3 := (onTile_iff t 3).mp h; omega) (fun h => by have e : t.val / 16 = 4 := (onTile_iff t 4).mp h; omega) (fun h => by have e : t.val / 16 = 5 := (onTile_iff t 5).mp h; omega) (fun h => by have e : t.val / 16 = 6 := (onTile_iff t 6).mp h; omega) (fun h => by have e : t.val / 16 = 7 := (onTile_iff t 7).mp h; omega))) $$ [H3 H4 H5 H6 Ho Hn Hf Hd HO]
  · isplitl [H3]; · iexact H3
    isplitl [H4]; · iexact H4
    isplitl [H5]; · iexact H5
    isplitl [H6]; · iexact H6
    isplitl [Ho]; · iexact Ho
    isplitl [Hn]; · iexact Hn
    isplitl [Hf]; · iexact Hf
    isplitl [Hd]; · iexact Hd
    iexact HO
  iintro %r ⟨H3, H4, H5, H6, Ho, Hn, Hp, ⟨%g, Hf, %hg⟩, HO⟩
  ihave Hp' := (Entails.of_eq (placed_eq m c 1 1040 0 1056 inb_S8192x2048_S1056x2048_1040_0 inb_S1056x2048_S1056x2048_0_0 (V m c main_v2) gs (hgs) (fun x hx => by unfold flat; split <;> omega) (by omega))) $$ Hp
  ihave Hb' := (below_join c 1040 1056 inb_S8192x2048_S1056x2048_1040_0 (written m c)) $$ [Hb Hp']
  · isplitl [Hb]; · iexact Hb
    iexact Hp'
  isplitl [H3]; · iexact H3
  isplitl [H4]; · iexact H4
  isplitl [H5]; · iexact H5
  isplitl [H6]; · iexact H6
  isplitl [Ho]; · iexact Ho
  isplitl [Hn]; · iexact Hn
  isplitl [Hf Hb' Ha]
  · isplitl [Hf]
    · iexists g
      isplitl [Hf]; · iexact Hf
      ipureintro; exact hg.trans h6
    isplitl [Hb']; · iexact Hb'
    iexact Ha
  iexact HO

/-- Row tile 3 copied out. -/
theorem tile_3 (c : Dev nD) (t : Fin cfg0.N) (ht : t.val = 63) (arg3 : Memref sig .tc .vmem S1x2048 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x2048 .f32) (harg6 : arg6.IsWhole)
    (X3 : BufTy.Contents (Elt F) arg3.view.ty) (X4 : BufTy.Contents (Elt F) arg4.view.ty) (X5 : BufTy.Contents (Elt F) arg5.view.ty) (X6 : BufTy.Contents (Elt F) arg6.view.ty) (Xo : Buf (Elt F) (oM.view.loc (c : Thread nD τ))) (Xn : Buf (Elt F) (xnM.view.loc (c : Thread nD τ))) (W : Waits sig Unit)
    (h6 : finished (step (xnM.view.read (Elt F) Xn) (arg4.view.read (Elt F) X4) (arg5.view.read (Elt F) X5) (oM.view.read (Elt F) Xo)) (arg6.view.read (Elt F) X6) = tileAt m c (row 3)) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ oP c Xo ∗ xnP c Xn ∗ outSt m c 3 ∗ owes (c : Thread nD τ) 0 W) : sProp 𝕄D)
    ⊢ wp frame (wpE (defs₀ (F := F)) Variants.none (c : Thread nD τ) none) Set.univ (cc0__mlp_kernel (F := F) (grid0.coords t) hbM (Memref.isWhole_whole _) arg3 harg3 arg4 harg4 arg5 harg5 arg6 harg6 outM (Memref.isWhole_whole _) xnM (Memref.isWhole_whole _) xM (Memref.isWhole_whole _) cc0_scratch2 oM (Memref.isWhole_whole _) sgM (Memref.isWhole_whole _) cc0_scratch5)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
          ∗ oP c (oM.view.rep (step (xnM.view.read (Elt F) Xn) (arg4.view.read (Elt F) X4) (arg5.view.read (Elt F) X5) (oM.view.read (Elt F) Xo))) ∗ xnP c Xn ∗ outSt m c 4 ∗ ∃ W, owes (c : Thread nD τ) 0 W)) := by
  rw [outSt_3, outSt_4]
  iintro ⟨H3, H4, H5, H6, Ho, Hn, ⟨⟨%gs, Hf, %hgs⟩, Hb, Ha⟩, HO⟩
  ihave Ha' := (above_split c 3152 944 inb_S8192x2048_S944x2048_3152_0 (V m c main_v2)) $$ Ha
  icases Ha' with ⟨Hd, Ha⟩
  iapply (exec_cut_last _ _ _ (last3 (F := F) Variants.none c none (grid0.coords t) arg3 harg3 arg4 harg4 arg5 harg5 arg6 harg6 X3 X4 X5 X6 Xo Xn (V m c main_v2) W gs (V m c main_v2)
      (fun h => by have := (cond1_iff t).mp h; omega) (fun h => by have := (cond2_iff t).mp h; omega) (fun h => by have := (cond3_iff t).mp h; omega) ((atEnd_iff t).mpr (by omega))
      (fun h => by have e : t.val / 16 = 0 := (onTile_iff t 0).mp h; omega) (fun h => by have e : t.val / 16 = 1 := (onTile_iff t 1).mp h; omega) (fun h => by have e : t.val / 16 = 2 := (onTile_iff t 2).mp h; omega) ((onTile_iff t 3).mpr (by show t.val / 16 = 3; omega)) (fun h => by have e : t.val / 16 = 4 := (onTile_iff t 4).mp h; omega) (fun h => by have e : t.val / 16 = 5 := (onTile_iff t 5).mp h; omega) (fun h => by have e : t.val / 16 = 6 := (onTile_iff t 6).mp h; omega) (fun h => by have e : t.val / 16 = 7 := (onTile_iff t 7).mp h; omega))) $$ [H3 H4 H5 H6 Ho Hn Hf Hd HO]
  · isplitl [H3]; · iexact H3
    isplitl [H4]; · iexact H4
    isplitl [H5]; · iexact H5
    isplitl [H6]; · iexact H6
    isplitl [Ho]; · iexact Ho
    isplitl [Hn]; · iexact Hn
    isplitl [Hf]; · iexact Hf
    isplitl [Hd]; · iexact Hd
    iexact HO
  iintro %r ⟨H3, H4, H5, H6, Ho, Hn, Hp, ⟨%g, Hf, %hg⟩, HO⟩
  ihave Hp' := (Entails.of_eq (placed_eq m c 2 2096 0 1056 inb_S8192x2048_S1056x2048_2096_0 inb_S1056x2048_S1056x2048_0_0 (V m c main_v2) gs (hgs) (fun x hx => by unfold flat; split <;> omega) (by omega))) $$ Hp
  ihave Hb' := (below_join c 2096 1056 inb_S8192x2048_S1056x2048_2096_0 (written m c)) $$ [Hb Hp']
  · isplitl [Hb]; · iexact Hb
    iexact Hp'
  isplitl [H3]; · iexact H3
  isplitl [H4]; · iexact H4
  isplitl [H5]; · iexact H5
  isplitl [H6]; · iexact H6
  isplitl [Ho]; · iexact Ho
  isplitl [Hn]; · iexact Hn
  isplitl [Hf Hb' Ha]
  · isplitl [Hf]
    · iexists g
      isplitl [Hf]; · iexact Hf
      ipureintro; exact hg.trans h6
    isplitl [Hb']; · iexact Hb'
    iexact Ha
  iexact HO

/-- Row tile 4 copied out. -/
theorem tile_4 (c : Dev nD) (t : Fin cfg0.N) (ht : t.val = 79) (arg3 : Memref sig .tc .vmem S1x2048 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x2048 .f32) (harg6 : arg6.IsWhole)
    (X3 : BufTy.Contents (Elt F) arg3.view.ty) (X4 : BufTy.Contents (Elt F) arg4.view.ty) (X5 : BufTy.Contents (Elt F) arg5.view.ty) (X6 : BufTy.Contents (Elt F) arg6.view.ty) (Xo : Buf (Elt F) (oM.view.loc (c : Thread nD τ))) (Xn : Buf (Elt F) (xnM.view.loc (c : Thread nD τ))) (W : Waits sig Unit)
    (h6 : finished (step (xnM.view.read (Elt F) Xn) (arg4.view.read (Elt F) X4) (arg5.view.read (Elt F) X5) (oM.view.read (Elt F) Xo)) (arg6.view.read (Elt F) X6) = tileAt m c (row 4)) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ oP c Xo ∗ xnP c Xn ∗ outSt m c 4 ∗ owes (c : Thread nD τ) 0 W) : sProp 𝕄D)
    ⊢ wp frame (wpE (defs₀ (F := F)) Variants.none (c : Thread nD τ) none) Set.univ (cc0__mlp_kernel (F := F) (grid0.coords t) hbM (Memref.isWhole_whole _) arg3 harg3 arg4 harg4 arg5 harg5 arg6 harg6 outM (Memref.isWhole_whole _) xnM (Memref.isWhole_whole _) xM (Memref.isWhole_whole _) cc0_scratch2 oM (Memref.isWhole_whole _) sgM (Memref.isWhole_whole _) cc0_scratch5)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
          ∗ oP c (oM.view.rep (step (xnM.view.read (Elt F) Xn) (arg4.view.read (Elt F) X4) (arg5.view.read (Elt F) X5) (oM.view.read (Elt F) Xo))) ∗ xnP c Xn ∗ outSt m c 5 ∗ ∃ W, owes (c : Thread nD τ) 0 W)) := by
  rw [outSt_4, outSt_5]
  iintro ⟨H3, H4, H5, H6, Ho, Hn, ⟨⟨%gs, Hf, %hgs⟩, Hb, Ha⟩, HO⟩
  ihave Ha' := (above_split c 4096 1040 inb_S8192x2048_S1040x2048_4096_0 (V m c main_v2)) $$ Ha
  icases Ha' with ⟨Hd, Ha⟩
  iapply (exec_cut_last _ _ _ (last4 (F := F) Variants.none c none (grid0.coords t) arg3 harg3 arg4 harg4 arg5 harg5 arg6 harg6 X3 X4 X5 X6 Xo Xn (V m c main_v2) W gs (V m c main_v2)
      (fun h => by have := (cond1_iff t).mp h; omega) (fun h => by have := (cond2_iff t).mp h; omega) (fun h => by have := (cond3_iff t).mp h; omega) ((atEnd_iff t).mpr (by omega))
      (fun h => by have e : t.val / 16 = 0 := (onTile_iff t 0).mp h; omega) (fun h => by have e : t.val / 16 = 1 := (onTile_iff t 1).mp h; omega) (fun h => by have e : t.val / 16 = 2 := (onTile_iff t 2).mp h; omega) (fun h => by have e : t.val / 16 = 3 := (onTile_iff t 3).mp h; omega) ((onTile_iff t 4).mpr (by show t.val / 16 = 4; omega)) (fun h => by have e : t.val / 16 = 5 := (onTile_iff t 5).mp h; omega) (fun h => by have e : t.val / 16 = 6 := (onTile_iff t 6).mp h; omega) (fun h => by have e : t.val / 16 = 7 := (onTile_iff t 7).mp h; omega))) $$ [H3 H4 H5 H6 Ho Hn Hf Hd HO]
  · isplitl [H3]; · iexact H3
    isplitl [H4]; · iexact H4
    isplitl [H5]; · iexact H5
    isplitl [H6]; · iexact H6
    isplitl [Ho]; · iexact Ho
    isplitl [Hn]; · iexact Hn
    isplitl [Hf]; · iexact Hf
    isplitl [Hd]; · iexact Hd
    iexact HO
  iintro %r ⟨H3, H4, H5, H6, Ho, Hn, Hp, ⟨%g, Hf, %hg⟩, HO⟩
  ihave Hp' := (Entails.of_eq (placed_eq m c 3 3152 0 944 inb_S8192x2048_S944x2048_3152_0 inb_S1056x2048_S944x2048_0_0 (V m c main_v2) gs (hgs) (fun x hx => by unfold flat; split <;> omega) (by omega))) $$ Hp
  ihave Hb' := (below_join c 3152 944 inb_S8192x2048_S944x2048_3152_0 (written m c)) $$ [Hb Hp']
  · isplitl [Hb]; · iexact Hb
    iexact Hp'
  isplitl [H3]; · iexact H3
  isplitl [H4]; · iexact H4
  isplitl [H5]; · iexact H5
  isplitl [H6]; · iexact H6
  isplitl [Ho]; · iexact Ho
  isplitl [Hn]; · iexact Hn
  isplitl [Hf Hb' Ha]
  · isplitl [Hf]
    · iexists g
      isplitl [Hf]; · iexact Hf
      ipureintro; exact hg.trans h6
    isplitl [Hb']; · iexact Hb'
    iexact Ha
  iexact HO

/-- Row tile 5 copied out. -/
theorem tile_5 (c : Dev nD) (t : Fin cfg0.N) (ht : t.val = 95) (arg3 : Memref sig .tc .vmem S1x2048 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x2048 .f32) (harg6 : arg6.IsWhole)
    (X3 : BufTy.Contents (Elt F) arg3.view.ty) (X4 : BufTy.Contents (Elt F) arg4.view.ty) (X5 : BufTy.Contents (Elt F) arg5.view.ty) (X6 : BufTy.Contents (Elt F) arg6.view.ty) (Xo : Buf (Elt F) (oM.view.loc (c : Thread nD τ))) (Xn : Buf (Elt F) (xnM.view.loc (c : Thread nD τ))) (W : Waits sig Unit)
    (h6 : finished (step (xnM.view.read (Elt F) Xn) (arg4.view.read (Elt F) X4) (arg5.view.read (Elt F) X5) (oM.view.read (Elt F) Xo)) (arg6.view.read (Elt F) X6) = tileAt m c (row 5)) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ oP c Xo ∗ xnP c Xn ∗ outSt m c 5 ∗ owes (c : Thread nD τ) 0 W) : sProp 𝕄D)
    ⊢ wp frame (wpE (defs₀ (F := F)) Variants.none (c : Thread nD τ) none) Set.univ (cc0__mlp_kernel (F := F) (grid0.coords t) hbM (Memref.isWhole_whole _) arg3 harg3 arg4 harg4 arg5 harg5 arg6 harg6 outM (Memref.isWhole_whole _) xnM (Memref.isWhole_whole _) xM (Memref.isWhole_whole _) cc0_scratch2 oM (Memref.isWhole_whole _) sgM (Memref.isWhole_whole _) cc0_scratch5)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
          ∗ oP c (oM.view.rep (step (xnM.view.read (Elt F) Xn) (arg4.view.read (Elt F) X4) (arg5.view.read (Elt F) X5) (oM.view.read (Elt F) Xo))) ∗ xnP c Xn ∗ outSt m c 6 ∗ ∃ W, owes (c : Thread nD τ) 0 W)) := by
  rw [outSt_5, outSt_6]
  iintro ⟨H3, H4, H5, H6, Ho, Hn, ⟨⟨%gs, Hf, %hgs⟩, Hb, Ha⟩, HO⟩
  ihave Ha' := (above_split c 5136 1056 inb_S8192x2048_S1056x2048_5136_0 (V m c main_v2)) $$ Ha
  icases Ha' with ⟨Hd, Ha⟩
  iapply (exec_cut_last _ _ _ (last5 (F := F) Variants.none c none (grid0.coords t) arg3 harg3 arg4 harg4 arg5 harg5 arg6 harg6 X3 X4 X5 X6 Xo Xn (V m c main_v2) W gs (V m c main_v2)
      (fun h => by have := (cond1_iff t).mp h; omega) (fun h => by have := (cond2_iff t).mp h; omega) (fun h => by have := (cond3_iff t).mp h; omega) ((atEnd_iff t).mpr (by omega))
      (fun h => by have e : t.val / 16 = 0 := (onTile_iff t 0).mp h; omega) (fun h => by have e : t.val / 16 = 1 := (onTile_iff t 1).mp h; omega) (fun h => by have e : t.val / 16 = 2 := (onTile_iff t 2).mp h; omega) (fun h => by have e : t.val / 16 = 3 := (onTile_iff t 3).mp h; omega) (fun h => by have e : t.val / 16 = 4 := (onTile_iff t 4).mp h; omega) ((onTile_iff t 5).mpr (by show t.val / 16 = 5; omega)) (fun h => by have e : t.val / 16 = 6 := (onTile_iff t 6).mp h; omega) (fun h => by have e : t.val / 16 = 7 := (onTile_iff t 7).mp h; omega))) $$ [H3 H4 H5 H6 Ho Hn Hf Hd HO]
  · isplitl [H3]; · iexact H3
    isplitl [H4]; · iexact H4
    isplitl [H5]; · iexact H5
    isplitl [H6]; · iexact H6
    isplitl [Ho]; · iexact Ho
    isplitl [Hn]; · iexact Hn
    isplitl [Hf]; · iexact Hf
    isplitl [Hd]; · iexact Hd
    iexact HO
  iintro %r ⟨H3, H4, H5, H6, Ho, Hn, Hp, ⟨%g, Hf, %hg⟩, HO⟩
  ihave Hp' := (Entails.of_eq (placed_eq m c 4 4096 16 1040 inb_S8192x2048_S1040x2048_4096_0 inb_S1056x2048_S1040x2048_16_0 (V m c main_v2) gs (hgs) (fun x hx => by unfold flat; split <;> omega) (by omega))) $$ Hp
  ihave Hb' := (below_join c 4096 1040 inb_S8192x2048_S1040x2048_4096_0 (written m c)) $$ [Hb Hp']
  · isplitl [Hb]; · iexact Hb
    iexact Hp'
  isplitl [H3]; · iexact H3
  isplitl [H4]; · iexact H4
  isplitl [H5]; · iexact H5
  isplitl [H6]; · iexact H6
  isplitl [Ho]; · iexact Ho
  isplitl [Hn]; · iexact Hn
  isplitl [Hf Hb' Ha]
  · isplitl [Hf]
    · iexists g
      isplitl [Hf]; · iexact Hf
      ipureintro; exact hg.trans h6
    isplitl [Hb']; · iexact Hb'
    iexact Ha
  iexact HO

/-- Row tile 6 copied out. -/
theorem tile_6 (c : Dev nD) (t : Fin cfg0.N) (ht : t.val = 111) (arg3 : Memref sig .tc .vmem S1x2048 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x2048 .f32) (harg6 : arg6.IsWhole)
    (X3 : BufTy.Contents (Elt F) arg3.view.ty) (X4 : BufTy.Contents (Elt F) arg4.view.ty) (X5 : BufTy.Contents (Elt F) arg5.view.ty) (X6 : BufTy.Contents (Elt F) arg6.view.ty) (Xo : Buf (Elt F) (oM.view.loc (c : Thread nD τ))) (Xn : Buf (Elt F) (xnM.view.loc (c : Thread nD τ))) (W : Waits sig Unit)
    (h6 : finished (step (xnM.view.read (Elt F) Xn) (arg4.view.read (Elt F) X4) (arg5.view.read (Elt F) X5) (oM.view.read (Elt F) Xo)) (arg6.view.read (Elt F) X6) = tileAt m c (row 6)) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ oP c Xo ∗ xnP c Xn ∗ outSt m c 6 ∗ owes (c : Thread nD τ) 0 W) : sProp 𝕄D)
    ⊢ wp frame (wpE (defs₀ (F := F)) Variants.none (c : Thread nD τ) none) Set.univ (cc0__mlp_kernel (F := F) (grid0.coords t) hbM (Memref.isWhole_whole _) arg3 harg3 arg4 harg4 arg5 harg5 arg6 harg6 outM (Memref.isWhole_whole _) xnM (Memref.isWhole_whole _) xM (Memref.isWhole_whole _) cc0_scratch2 oM (Memref.isWhole_whole _) sgM (Memref.isWhole_whole _) cc0_scratch5)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
          ∗ oP c (oM.view.rep (step (xnM.view.read (Elt F) Xn) (arg4.view.read (Elt F) X4) (arg5.view.read (Elt F) X5) (oM.view.read (Elt F) Xo))) ∗ xnP c Xn ∗ outSt m c 7 ∗ ∃ W, owes (c : Thread nD τ) 0 W)) := by
  rw [outSt_6, outSt_7]
  iintro ⟨H3, H4, H5, H6, Ho, Hn, ⟨⟨%gs, Hf, %hgs⟩, Hb, Ha⟩, HO⟩
  ihave Ha' := (above_split c 6192 1056 inb_S8192x2048_S1056x2048_6192_0 (V m c main_v2)) $$ Ha
  icases Ha' with ⟨Hd, Ha⟩
  iapply (exec_cut_last _ _ _ (last6 (F := F) Variants.none c none (grid0.coords t) arg3 harg3 arg4 harg4 arg5 harg5 arg6 harg6 X3 X4 X5 X6 Xo Xn (V m c main_v2) W gs (V m c main_v2)
      (fun h => by have := (cond1_iff t).mp h; omega) (fun h => by have := (cond2_iff t).mp h; omega) (fun h => by have := (cond3_iff t).mp h; omega) ((atEnd_iff t).mpr (by omega))
      (fun h => by have e : t.val / 16 = 0 := (onTile_iff t 0).mp h; omega) (fun h => by have e : t.val / 16 = 1 := (onTile_iff t 1).mp h; omega) (fun h => by have e : t.val / 16 = 2 := (onTile_iff t 2).mp h; omega) (fun h => by have e : t.val / 16 = 3 := (onTile_iff t 3).mp h; omega) (fun h => by have e : t.val / 16 = 4 := (onTile_iff t 4).mp h; omega) (fun h => by have e : t.val / 16 = 5 := (onTile_iff t 5).mp h; omega) ((onTile_iff t 6).mpr (by show t.val / 16 = 6; omega)) (fun h => by have e : t.val / 16 = 7 := (onTile_iff t 7).mp h; omega))) $$ [H3 H4 H5 H6 Ho Hn Hf Hd HO]
  · isplitl [H3]; · iexact H3
    isplitl [H4]; · iexact H4
    isplitl [H5]; · iexact H5
    isplitl [H6]; · iexact H6
    isplitl [Ho]; · iexact Ho
    isplitl [Hn]; · iexact Hn
    isplitl [Hf]; · iexact Hf
    isplitl [Hd]; · iexact Hd
    iexact HO
  iintro %r ⟨H3, H4, H5, H6, Ho, Hn, Hp, ⟨%g, Hf, %hg⟩, HO⟩
  ihave Hp' := (Entails.of_eq (placed_eq m c 5 5136 0 1056 inb_S8192x2048_S1056x2048_5136_0 inb_S1056x2048_S1056x2048_0_0 (V m c main_v2) gs (hgs) (fun x hx => by unfold flat; split <;> omega) (by omega))) $$ Hp
  ihave Hb' := (below_join c 5136 1056 inb_S8192x2048_S1056x2048_5136_0 (written m c)) $$ [Hb Hp']
  · isplitl [Hb]; · iexact Hb
    iexact Hp'
  isplitl [H3]; · iexact H3
  isplitl [H4]; · iexact H4
  isplitl [H5]; · iexact H5
  isplitl [H6]; · iexact H6
  isplitl [Ho]; · iexact Ho
  isplitl [Hn]; · iexact Hn
  isplitl [Hf Hb' Ha]
  · isplitl [Hf]
    · iexists g
      isplitl [Hf]; · iexact Hf
      ipureintro; exact hg.trans h6
    isplitl [Hb']; · iexact Hb'
    iexact Ha
  iexact HO

/-- Row tile 7 copied out. -/
theorem tile_7 (c : Dev nD) (t : Fin cfg0.N) (ht : t.val = 127) (arg3 : Memref sig .tc .vmem S1x2048 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x2048 .f32) (harg6 : arg6.IsWhole)
    (X3 : BufTy.Contents (Elt F) arg3.view.ty) (X4 : BufTy.Contents (Elt F) arg4.view.ty) (X5 : BufTy.Contents (Elt F) arg5.view.ty) (X6 : BufTy.Contents (Elt F) arg6.view.ty) (Xo : Buf (Elt F) (oM.view.loc (c : Thread nD τ))) (Xn : Buf (Elt F) (xnM.view.loc (c : Thread nD τ))) (W : Waits sig Unit)
    (h6 : finished (step (xnM.view.read (Elt F) Xn) (arg4.view.read (Elt F) X4) (arg5.view.read (Elt F) X5) (oM.view.read (Elt F) Xo)) (arg6.view.read (Elt F) X6) = tileAt m c (row 7)) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ oP c Xo ∗ xnP c Xn ∗ outSt m c 7 ∗ owes (c : Thread nD τ) 0 W) : sProp 𝕄D)
    ⊢ wp frame (wpE (defs₀ (F := F)) Variants.none (c : Thread nD τ) none) Set.univ (cc0__mlp_kernel (F := F) (grid0.coords t) hbM (Memref.isWhole_whole _) arg3 harg3 arg4 harg4 arg5 harg5 arg6 harg6 outM (Memref.isWhole_whole _) xnM (Memref.isWhole_whole _) xM (Memref.isWhole_whole _) cc0_scratch2 oM (Memref.isWhole_whole _) sgM (Memref.isWhole_whole _) cc0_scratch5)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
          ∗ oP c (oM.view.rep (step (xnM.view.read (Elt F) Xn) (arg4.view.read (Elt F) X4) (arg5.view.read (Elt F) X5) (oM.view.read (Elt F) Xo))) ∗ xnP c Xn ∗ outSt m c 8 ∗ ∃ W, owes (c : Thread nD τ) 0 W)) := by
  rw [outSt_7, outSt_8]
  iintro ⟨H3, H4, H5, H6, Ho, Hn, ⟨⟨%gs, Hf, %hgs⟩, Hb, Ha⟩, HO⟩
  ihave Ha' := (above_split c 7248 944 inb_S8192x2048_S944x2048_7248_0 (V m c main_v2)) $$ Ha
  icases Ha' with ⟨Hd, -⟩
  iapply (exec_cut_last _ _ _ (last7 (F := F) Variants.none c none (grid0.coords t) arg3 harg3 arg4 harg4 arg5 harg5 arg6 harg6 X3 X4 X5 X6 Xo Xn (V m c main_v2) W gs (V m c main_v2)
      (fun h => by have := (cond1_iff t).mp h; omega) (fun h => by have := (cond2_iff t).mp h; omega) (fun h => by have := (cond3_iff t).mp h; omega) ((atEnd_iff t).mpr (by omega))
      (fun h => by have e : t.val / 16 = 0 := (onTile_iff t 0).mp h; omega) (fun h => by have e : t.val / 16 = 1 := (onTile_iff t 1).mp h; omega) (fun h => by have e : t.val / 16 = 2 := (onTile_iff t 2).mp h; omega) (fun h => by have e : t.val / 16 = 3 := (onTile_iff t 3).mp h; omega) (fun h => by have e : t.val / 16 = 4 := (onTile_iff t 4).mp h; omega) (fun h => by have e : t.val / 16 = 5 := (onTile_iff t 5).mp h; omega) (fun h => by have e : t.val / 16 = 6 := (onTile_iff t 6).mp h; omega) ((onTile_iff t 7).mpr (by show t.val / 16 = 7; omega)))) $$ [H3 H4 H5 H6 Ho Hn Hf Hd HO]
  · isplitl [H3]; · iexact H3
    isplitl [H4]; · iexact H4
    isplitl [H5]; · iexact H5
    isplitl [H6]; · iexact H6
    isplitl [Ho]; · iexact Ho
    isplitl [Hn]; · iexact Hn
    isplitl [Hf]; · iexact Hf
    isplitl [Hd]; · iexact Hd
    iexact HO
  iintro %r ⟨H3, H4, H5, H6, Ho, Hn, Hp, ⟨%g, Hd, Hs, %hg⟩, Hc, HO⟩
  ihave Hp' := (Entails.of_eq (placed_eq m c 6 6192 0 1056 inb_S8192x2048_S1056x2048_6192_0 inb_S1056x2048_S1056x2048_0_0 (V m c main_v2) gs (hgs) (fun x hx => by unfold flat; split <;> omega) (by omega))) $$ Hp
  ihave Hb' := (below_join c 6192 1056 inb_S8192x2048_S1056x2048_6192_0 (written m c)) $$ [Hb Hp']
  · isplitl [Hb]; · iexact Hb
    iexact Hp'
  ihave Hd' := (Entails.of_eq (placed_eq m c 7 7248 0 944 inb_S8192x2048_S944x2048_7248_0 inb_S1056x2048_S944x2048_0_0 (V m c main_v2) g (hg.trans h6) (fun x hx => by unfold flat; split <;> omega) (by omega))) $$ Hd
  ihave He := (below_join c 7248 944 inb_S8192x2048_S944x2048_7248_0 (written m c)) $$ [Hb' Hd']
  · isplitl [Hb']; · iexact Hb'
    iexact Hd'
  isplitl [H3]; · iexact H3
  isplitl [H4]; · iexact H4
  isplitl [H5]; · iexact H5
  isplitl [H6]; · iexact H6
  isplitl [Ho]; · iexact Ho
  isplitl [Hn]; · iexact Hn
  isplitl [Hs Hc He]
  · isplitl [Hs]; · iexists g; iexact Hs
    isplitl [Hc]; · iexact Hc
    iexact He
  iexact HO

/-- Any row tile copied out. -/
theorem tile_any (c : Dev nD) (t : Fin cfg0.N) (hj : t.val % 16 = 15) (arg3 : Memref sig .tc .vmem S1x2048 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x2048 .f32) (harg6 : arg6.IsWhole)
    (X3 : BufTy.Contents (Elt F) arg3.view.ty) (X4 : BufTy.Contents (Elt F) arg4.view.ty) (X5 : BufTy.Contents (Elt F) arg5.view.ty) (X6 : BufTy.Contents (Elt F) arg6.view.ty) (Xo : Buf (Elt F) (oM.view.loc (c : Thread nD τ))) (Xn : Buf (Elt F) (xnM.view.loc (c : Thread nD τ))) (W : Waits sig Unit)
    (h6 : finished (step (xnM.view.read (Elt F) Xn) (arg4.view.read (Elt F) X4) (arg5.view.read (Elt F) X5) (oM.view.read (Elt F) Xo)) (arg6.view.read (Elt F) X6) = tileAt m c (row (t.val / 16))) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ oP c Xo ∗ xnP c Xn ∗ outSt m c (t.val / 16) ∗ owes (c : Thread nD τ) 0 W) : sProp 𝕄D)
    ⊢ wp frame (wpE (defs₀ (F := F)) Variants.none (c : Thread nD τ) none) Set.univ (cc0__mlp_kernel (F := F) (grid0.coords t) hbM (Memref.isWhole_whole _) arg3 harg3 arg4 harg4 arg5 harg5 arg6 harg6 outM (Memref.isWhole_whole _) xnM (Memref.isWhole_whole _) xM (Memref.isWhole_whole _) cc0_scratch2 oM (Memref.isWhole_whole _) sgM (Memref.isWhole_whole _) cc0_scratch5)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
          ∗ oP c (oM.view.rep (step (xnM.view.read (Elt F) Xn) (arg4.view.read (Elt F) X4) (arg5.view.read (Elt F) X5) (oM.view.read (Elt F) Xo))) ∗ xnP c Xn ∗ outSt m c (t.val / 16 + 1) ∗ ∃ W, owes (c : Thread nD τ) 0 W)) := by
  have hlt : t.val < 128 := t.isLt
  have hn : t.val / 16 = 0 ∨ t.val / 16 = 1 ∨ t.val / 16 = 2 ∨ t.val / 16 = 3 ∨ t.val / 16 = 4 ∨ t.val / 16 = 5 ∨ t.val / 16 = 6 ∨ t.val / 16 = 7 := by omega
  rcases hn with e | e | e | e | e | e | e | e <;> rw [e] at h6 ⊢
  · exact tile_0 m c t (by omega) _ _ _ _ _ _ _ _ _ _ _ _ _ _ _ h6
  · exact tile_1 m c t (by omega) _ _ _ _ _ _ _ _ _ _ _ _ _ _ _ h6
  · exact tile_2 m c t (by omega) _ _ _ _ _ _ _ _ _ _ _ _ _ _ _ h6
  · exact tile_3 m c t (by omega) _ _ _ _ _ _ _ _ _ _ _ _ _ _ _ h6
  · exact tile_4 m c t (by omega) _ _ _ _ _ _ _ _ _ _ _ _ _ _ _ h6
  · exact tile_5 m c t (by omega) _ _ _ _ _ _ _ _ _ _ _ _ _ _ _ h6
  · exact tile_6 m c t (by omega) _ _ _ _ _ _ _ _ _ _ _ _ _ _ _ h6
  · exact tile_7 m c t (by omega) _ _ _ _ _ _ _ _ _ _ _ _ _ _ _ h6

/-! ## The kernel on a grid point -/

/-- A point with no copy. -/
theorem body_plain (c : Dev nD) (t : Fin cfg0.N) (hj : ¬ t.val % 16 = 0) (hs : ¬ (t.val % 16 = 1 ∧ t.val / 16 + 1 < 8)) (h15 : ¬ t.val % 16 = 15) :
    bodyPre m c t ⊢ wp frame (wpE (defs₀ (F := F)) Variants.none c none) Set.univ (bodyAt0 t) (fun _ => bodyPost m c t) := by
  unfold bodyPre bodyPost bodyAt0 owns
  rw [show (dats m 0 c).Φ t.castSucc = held m c t.val from rfl, show (dats m 0 c).Φ t.succ = held m c (t.val + 1) from rfl,
    show (dats m 0 c).owesAt () t.succ = (dats m 0 c).owesAt () t.castSucc from rfl, after_0, after_1, after_2, after_3]
  simp only [before_0, before_1, before_2, before_3]
  unfold held
  rw [normSt_named _ _ _ hj, sumSt_named _ _ _ hj, carried_plain t hj hs, outSt_same m c t h15]
  iintro ⟨⟨Hn, Hd, Hs, Hu, Hg⟩, Ho, ⟨%d0, %X0, %h0, H0⟩, ⟨%d1, %X1, %h1, H1⟩, ⟨%d2, %X2, %h2, H2⟩, ⟨%d3, %X3, %h3, H3⟩⟩
  iapply (exec_cut_last _ _ _ (plain (F := F) Variants.none c none (grid0.coords t) _ _ _ _ _ _ _ _ X0 X1 X2 X3 _ _ (fun h => hj (by rw [(cond1_iff t).mp h])) (fun h => hj ((cond2_iff t).mp h)) (fun h => hs ((cond3_iff t).mp h)) (fun h => h15 ((atEnd_iff t).mp h)))) $$ [H0 H1 H2 H3 Hs Hn]
  · isplitl [H0]; · iexact H0
    isplitl [H1]; · iexact H1
    isplitl [H2]; · iexact H2
    isplitl [H3]; · iexact H3
    isplitl [Hs]; · iexact Hs
    iexact Hn
  iintro %r ⟨H0, H1, H2, H3, Hs, Hn⟩
  isplitl [Hn Hd Hs Hu Hg]
  · isplitl [Hn]; · iapply (normSt_succ m c t) $$ Hn
    isplitl [Hd]; · iexact Hd
    isplitl [Hs]; · iapply (sum_step m c t hj h1 h2) $$ Hs
    isplitl [Hu]; · iexact Hu
    iexact Hg
  isplitl [Ho]; · iexact Ho
  isplitl [H0]
  · iexists _; isplitr; swap; · iexact H0
    ipureintro; exact h0
  isplitl [H1]
  · iexists _; isplitr; swap; · iexact H1
    ipureintro; exact h1
  isplitl [H2]
  · iexists _; isplitr; swap; · iexact H2
    ipureintro; exact h2
  iexists _; isplitr; swap; · iexact H3
  ipureintro; exact h3

/-- A point that starts the next tile's copy. -/
theorem body_start (c : Dev nD) (t : Fin cfg0.N) (hj : t.val % 16 = 1) (hi : t.val / 16 + 1 < 8) :
    bodyPre m c t ⊢ wp frame (wpE (defs₀ (F := F)) Variants.none c none) Set.univ (bodyAt0 t) (fun _ => bodyPost m c t) := by
  have hj' : ¬ t.val % 16 = 0 := by omega
  have h15 : ¬ t.val % 16 = 15 := by omega
  unfold bodyPre bodyPost bodyAt0 owns
  rw [show (dats m 0 c).Φ t.castSucc = held m c t.val from rfl, show (dats m 0 c).Φ t.succ = held m c (t.val + 1) from rfl,
    show (dats m 0 c).owesAt () t.succ = (dats m 0 c).owesAt () t.castSucc from rfl, after_0, after_1, after_2, after_3]
  simp only [before_0, before_1, before_2, before_3]
  unfold held
  rw [normSt_named _ _ _ hj', sumSt_named _ _ _ hj', (carried_start t hj hi).1, (carried_start t hj hi).2, outSt_same m c t h15]
  unfold copySt idle flying
  iintro ⟨⟨Hn, ⟨Hx, ⟨%fx, Hl⟩, Hc⟩, Hs, Hu, Hg⟩, Ho, ⟨%d0, %X0, %h0, H0⟩, ⟨%d1, %X1, %h1, H1⟩, ⟨%d2, %X2, %h2, H2⟩, ⟨%d3, %X3, %h3, H3⟩⟩
  have hc3 : k0_cond3 (grid0.coords t) = 1#1 := (cond3_iff t).mpr ⟨hj, hi⟩
  ihave Hx' := (all_split c (k0_off2 (grid0.coords t)) (k0_off2_inb _ hc3) (V m c main_arg0)).1 $$ Hx
  icases Hx' with ⟨Ht, Hr⟩
  iapply (exec_cut_last _ _ _ (start (F := F) Variants.none c none (grid0.coords t) _ _ _ _ _ _ _ _ X0 X1 X2 X3 _ _ fx (V m c main_arg0) (fun h => hj' (by rw [(cond1_iff t).mp h])) (fun h => hj' ((cond2_iff t).mp h)) hc3 (fun h => h15 ((atEnd_iff t).mp h)))) $$ [H0 H1 H2 H3 Hs Hn Hl Ht Hc]
  · isplitl [H0]; · iexact H0
    isplitl [H1]; · iexact H1
    isplitl [H2]; · iexact H2
    isplitl [H3]; · iexact H3
    isplitl [Hs]; · iexact Hs
    isplitl [Hn]; · iexact Hn
    isplitl [Hl]; · iexact Hl
    isplitl [Ht]; · iexact Ht
    iexact Hc
  iintro %r ⟨H0, H1, H2, H3, Hs, Hn, Hf⟩
  isplitl [Hn Hf Hr Hs Hu Hg]
  · isplitl [Hn]; · iapply (normSt_succ m c t) $$ Hn
    isplitl [Hf Hr]
    · isplitl [Hf]
      · iapply (flight_at c (off2_eq t hi) _ (rowOff_inb _) _) $$ Hf
      iapply (rest_at c (off2_eq t hi) _ (rowOff_inb _) _) $$ Hr
    isplitl [Hs]; · iapply (sum_step m c t hj' h1 h2) $$ Hs
    isplitl [Hu]; · iexact Hu
    iexact Hg
  isplitl [Ho]; · iexact Ho
  isplitl [H0]
  · iexists _; isplitr; swap; · iexact H0
    ipureintro; exact h0
  isplitl [H1]
  · iexists _; isplitr; swap; · iexact H1
    ipureintro; exact h1
  isplitl [H2]
  · iexists _; isplitr; swap; · iexact H2
    ipureintro; exact h2
  iexists _; isplitr; swap; · iexact H3
  ipureintro; exact h3

/-- The first point of a later row: the tile's copy awaited. -/
theorem body_await (c : Dev nD) (t : Fin cfg0.N) (hj : t.val % 16 = 0) (hp : 0 < t.val) :
    bodyPre m c t ⊢ wp frame (wpE (defs₀ (F := F)) Variants.none c none) Set.univ (bodyAt0 t) (fun _ => bodyPost m c t) := by
  have h15 : ¬ t.val % 16 = 15 := by omega
  unfold bodyPre bodyPost bodyAt0 owns
  rw [show (dats m 0 c).Φ t.castSucc = held m c t.val from rfl, show (dats m 0 c).Φ t.succ = held m c (t.val + 1) from rfl,
    show (dats m 0 c).owesAt () t.succ = (dats m 0 c).owesAt () t.castSucc from rfl, after_0, after_1, after_2, after_3]
  simp only [before_0, before_1, before_2, before_3]
  unfold held
  have hc2 : k0_cond2 (grid0.coords t) = 1#1 := (cond2_iff t).mpr hj
  rw [normSt_first _ _ _ hj, sumSt_first _ _ _ hj, (carried_first t hj hp).1, (carried_first t hj hp).2, outSt_same m c t h15]
  unfold copySt idle flying
  unfold Dat.owesAt Pipeline.owesWithin
  rw [show (dats m 0 c).owed t.castSucc = 0 from rfl]
  iintro ⟨⟨⟨%fn, Hn⟩, ⟨Hf, Hr⟩, ⟨%fo, Hs⟩, Hu, Hg⟩, ⟨%W, %hW, HO⟩, ⟨%d0, %X0, %h0, H0⟩, ⟨%d1, %X1, %h1, H1⟩, ⟨%d2, %X2, %h2, H2⟩, ⟨%d3, %X3, %h3, H3⟩⟩
  ihave Hf' := (flight_back c (off1_eq t) (k0_off1_inb _ hc2) (rowOff_inb _) _) $$ Hf
  icases Hf' with ⟨%fx, Hf⟩
  iapply (exec_cut_last _ _ _ (await (F := F) Variants.none c none (grid0.coords t) _ _ _ _ _ _ _ _ X0 X1 X2 X3 fo fn fx (V m c main_arg0) W (fun h => by have := (cond1_iff t).mp h; omega) hc2 (fun h => by have := (cond3_iff t).mp h; omega) (fun h => h15 ((atEnd_iff t).mp h)))) $$ [H0 H1 H2 H3 Hs Hn Hf HO]
  · isplitl [H0]; · iexact H0
    isplitl [H1]; · iexact H1
    isplitl [H2]; · iexact H2
    isplitl [H3]; · iexact H3
    isplitl [Hs]; · iexact Hs
    isplitl [Hn]; · iexact Hn
    isplitl [Hf]; · iexact Hf
    iexact HO
  iintro %r ⟨H0, H1, H2, H3, Hs, Hn, Hl, Ht, Hc, ⟨%W', HO⟩⟩
  ihave Hr' := (rest_back c (off1_eq t) (k0_off1_inb _ hc2) (rowOff_inb _) _) $$ Hr
  isplitl [Hn Hl Ht Hc Hr' Hs Hu Hg]
  · isplitl [Hn]; · iapply (norm_first m c t hj (tile_at (off1_eq t) _ (rowOff_inb _)) h0) $$ Hn
    isplitl [Hl Ht Hc Hr']
    · isplitl [Ht Hr']
      · iapply (all_split c (k0_off1 (grid0.coords t)) (k0_off1_inb _ hc2) (V m c main_arg0)).2
        isplitl [Ht]; · iexact Ht
        iexact Hr'
      isplitl [Hl]; · iexact Hl
      iexact Hc
    isplitl [Hs]; · iapply (sum_first m c t hj (tile_at (off1_eq t) _ (rowOff_inb _)) h0 h1 h2) $$ Hs
    isplitl [Hu]; · iexact Hu
    iexact Hg
  isplitl [HO]
  · iexists W'; isplitr; · ipureintro; exact fun _ _ => Or.inl trivial
    iexact HO
  isplitl [H0]
  · iexists _; isplitr; swap; · iexact H0
    ipureintro; exact h0
  isplitl [H1]
  · iexists _; isplitr; swap; · iexact H1
    ipureintro; exact h1
  isplitl [H2]
  · iexists _; isplitr; swap; · iexact H2
    ipureintro; exact h2
  iexists _; isplitr; swap; · iexact H3
  ipureintro; exact h3

/-- The first point: the first tile's copy started and awaited. -/
theorem body_fresh (c : Dev nD) (t : Fin cfg0.N) (hp : t.val = 0) :
    bodyPre m c t ⊢ wp frame (wpE (defs₀ (F := F)) Variants.none c none) Set.univ (bodyAt0 t) (fun _ => bodyPost m c t) := by
  have hj : t.val % 16 = 0 := by rw [hp]
  have h15 : ¬ t.val % 16 = 15 := by omega
  have hz : (![0, 0] : Fin 2 → ℕ) = rowOff (row (t.val / 16)) := by rw [hp]; exact off0_eq
  unfold bodyPre bodyPost bodyAt0 owns
  rw [show (dats m 0 c).Φ t.castSucc = held m c t.val from rfl, show (dats m 0 c).Φ t.succ = held m c (t.val + 1) from rfl,
    show (dats m 0 c).owesAt () t.succ = (dats m 0 c).owesAt () t.castSucc from rfl, after_0, after_1, after_2, after_3]
  simp only [before_0, before_1, before_2, before_3]
  unfold held
  rw [normSt_first _ _ _ hj, sumSt_first _ _ _ hj, outSt_same m c t h15, show carried t.val = none by rw [hp]; rfl, show carried (t.val + 1) = none by rw [hp]; rfl]
  unfold copySt idle
  unfold Dat.owesAt Pipeline.owesWithin
  rw [show (dats m 0 c).owed t.castSucc = 0 from rfl]
  iintro ⟨⟨⟨%fn, Hn⟩, ⟨Hx, ⟨%fx, Hl⟩, Hc⟩, ⟨%fo, Hs⟩, Hu, Hg⟩, ⟨%W, %hW, HO⟩, ⟨%d0, %X0, %h0, H0⟩, ⟨%d1, %X1, %h1, H1⟩, ⟨%d2, %X2, %h2, H2⟩, ⟨%d3, %X3, %h3, H3⟩⟩
  ihave Hx' := (all_split c ![0, 0] inb_S8448x2048_S1056x2048_0_0 (V m c main_arg0)).1 $$ Hx
  icases Hx' with ⟨Ht, Hr⟩
  iapply (exec_cut_last _ _ _ (fresh (F := F) Variants.none c none (grid0.coords t) _ _ _ _ _ _ _ _ X0 X1 X2 X3 fo fn fx (V m c main_arg0) W ((cond1_iff t).mpr hp) ((cond2_iff t).mpr hj) (fun h => by have := (cond3_iff t).mp h; omega) (fun h => h15 ((atEnd_iff t).mp h)))) $$ [H0 H1 H2 H3 Hs Hn Hl Ht Hc HO]
  · isplitl [H0]; · iexact H0
    isplitl [H1]; · iexact H1
    isplitl [H2]; · iexact H2
    isplitl [H3]; · iexact H3
    isplitl [Hs]; · iexact Hs
    isplitl [Hn]; · iexact Hn
    isplitl [Hl]; · iexact Hl
    isplitl [Ht]; · iexact Ht
    isplitl [Hc]; · iexact Hc
    iexact HO
  iintro %r ⟨H0, H1, H2, H3, Hs, Hn, Hl, Ht, Hc, ⟨%W', HO⟩⟩
  isplitl [Hn Hl Ht Hc Hr Hs Hu Hg]
  · isplitl [Hn]; · iapply (norm_first m c t hj (tile_at hz _ (rowOff_inb _)) h0) $$ Hn
    isplitl [Hl Ht Hc Hr]
    · isplitl [Ht Hr]
      · iapply (all_split c ![0, 0] inb_S8448x2048_S1056x2048_0_0 (V m c main_arg0)).2
        isplitl [Ht]; · iexact Ht
        iexact Hr
      isplitl [Hl]; · iexact Hl
      iexact Hc
    isplitl [Hs]; · iapply (sum_first m c t hj (tile_at hz _ (rowOff_inb _)) h0 h1 h2) $$ Hs
    isplitl [Hu]; · iexact Hu
    iexact Hg
  isplitl [HO]
  · iexists W'; isplitr; · ipureintro; exact fun _ _ => Or.inl trivial
    iexact HO
  isplitl [H0]
  · iexists _; isplitr; swap; · iexact H0
    ipureintro; exact h0
  isplitl [H1]
  · iexists _; isplitr; swap; · iexact H1
    ipureintro; exact h1
  isplitl [H2]
  · iexists _; isplitr; swap; · iexact H2
    ipureintro; exact h2
  iexists _; isplitr; swap; · iexact H3
  ipureintro; exact h3

/-- The last point of a row: the finished tile's copy started. -/
theorem body_last (c : Dev nD) (t : Fin cfg0.N) (hj : t.val % 16 = 15) :
    bodyPre m c t ⊢ wp frame (wpE (defs₀ (F := F)) Variants.none c none) Set.univ (bodyAt0 t) (fun _ => bodyPost m c t) := by
  have hj' : ¬ t.val % 16 = 0 := by omega
  have hs : ¬ (t.val % 16 = 1 ∧ t.val / 16 + 1 < 8) := by omega
  unfold bodyPre bodyPost bodyAt0 owns
  rw [show (dats m 0 c).Φ t.castSucc = held m c t.val from rfl, show (dats m 0 c).Φ t.succ = held m c (t.val + 1) from rfl,
    show (dats m 0 c).owesAt () t.succ = (dats m 0 c).owesAt () t.castSucc from rfl, after_0, after_1, after_2, after_3]
  simp only [before_0, before_1, before_2, before_3]
  unfold held
  rw [normSt_named _ _ _ hj', sumSt_named _ _ _ hj', carried_plain t hj' hs, show (t.val + 1) / 16 = t.val / 16 + 1 by omega]
  unfold Dat.owesAt Pipeline.owesWithin
  rw [show (dats m 0 c).owed t.castSucc = 0 from rfl]
  iintro ⟨⟨Hn, Hd, Hs, Hu, Hg⟩, ⟨%W, %hW, HO⟩, ⟨%d0, %X0, %h0, H0⟩, ⟨%d1, %X1, %h1, H1⟩, ⟨%d2, %X2, %h2, H2⟩, ⟨%d3, %X3, %h3, H3⟩⟩
  have h6 : finished (step (xnM.view.read (Elt F) (xnM.view.rep (xnAt m c (row (t.val / 16))))) ((st0_1 t).view.read (Elt F) X1) ((st0_2 t).view.read (Elt F) X2)
      (oM.view.read (Elt F) (oM.view.rep (accAt m c (row (t.val / 16)) (t.val % 16 - 1))))) ((st0_3 t).view.read (Elt F) X3) = tileAt m c (row (t.val / 16)) := by
    have e := pt_eq t
    rw [hj] at e
    rw [h1, h2, h3, View.read_rep, View.read_rep, ← outAt_next m c t hj']
    unfold outAt tileAt
    rw [hj, e]
  iapply (exec_cut_last _ _ _ (tile_any m c t hj _ _ _ _ _ _ _ _ X0 X1 X2 X3 _ _ W h6)) $$ [H0 H1 H2 H3 Hs Hn Hu HO]
  · isplitl [H0]; · iexact H0
    isplitl [H1]; · iexact H1
    isplitl [H2]; · iexact H2
    isplitl [H3]; · iexact H3
    isplitl [Hs]; · iexact Hs
    isplitl [Hn]; · iexact Hn
    isplitl [Hu]; · iexact Hu
    iexact HO
  iintro %r ⟨H0, H1, H2, H3, Hs, Hn, Hu, ⟨%W', HO⟩⟩
  isplitl [Hn Hd Hs Hu Hg]
  · isplitl [Hn]; · iapply (normSt_succ m c t) $$ Hn
    isplitl [Hd]; · iexact Hd
    isplitl [Hs]; · iapply (sum_step m c t hj' h1 h2) $$ Hs
    isplitl [Hu]; · iexact Hu
    iexact Hg
  isplitl [HO]
  · iexists W'; isplitr; · ipureintro; exact fun _ _ => Or.inl trivial
    iexact HO
  isplitl [H0]
  · iexists _; isplitr; swap; · iexact H0
    ipureintro; exact h0
  isplitl [H1]
  · iexists _; isplitr; swap; · iexact H1
    ipureintro; exact h1
  isplitl [H2]
  · iexists _; isplitr; swap; · iexact H2
    ipureintro; exact h2
  iexists _; isplitr; swap; · iexact H3
  ipureintro; exact h3

theorem sound_body (c : Dev nD) (t : Fin cfg0.N) :
    bodyPre m c t ⊢ wp frame (wpE (defs₀ (F := F)) Variants.none c none) Set.univ (bodyAt0 t) (fun _ => bodyPost m c t) := by
  by_cases hj : t.val % 16 = 0
  · by_cases hp : t.val = 0
    · exact body_fresh m c t hp
    · exact body_await m c t hj (Nat.pos_of_ne_zero hp)
  · by_cases hs : t.val % 16 = 1 ∧ t.val / 16 + 1 < 8
    · exact body_start m c t hs.1 hs.2
    · by_cases hl : t.val % 16 = 15
      · exact body_last m c t hl
      · exact body_plain m c t hj hs hl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The kernel's own semaphore cells. -/
abbrev ownCell : Fin 2 → SemLoc sig := fun j => (![SemLoc.dma 6, SemLoc.dma 7] : Fin 2 → SemLoc sig) j
theorem ownCell_facts : Pipeline.OwnSemFacts spec0 ownCell := by decide
/-- The residual stream, which no window stages, and the result, which none writes. -/
def unstaged : Finset (Ref sig .tc) := {main_arg0}
def result : Finset (Ref sig .tc) := {main_v2}
theorem unstaged_sub : unstaged ⊆ Pipeline.restRefs sig spec0 := by decide
theorem result_sub : result ⊆ Pipeline.restRefs sig spec0 \ unstaged := by decide
/-- What the result holds at the end. -/
def ended (c : Dev nD) : (b : Ref sig .tc) → Buf (Elt F) ((c : Thread nD τ).loc b) := Function.update (V m c) main_v2 (written m c)

/-- What the run starts from and ends with: the scratch tiles at anything, the cells at zero, the residual stream and the result whole. -/
theorem ends_eq (c : Dev nD) (G : (c : Dev nD) → (b : Ref sig .tc) → Buf (Elt F) ((c : Thread nD τ).loc b)) :
    (Pipeline.ΦDRG ownCell spec0 unstaged result (V m) G c : sProp 𝕄D)
      = iprop(iprop((∃ f, xnP c f) ∗ (∃ f, xP c f) ∗ (∃ f, oP c f) ∗ (∃ f, sgP c f)) ∗ (∃ r, prngReg c r) ∗ iprop(cellP c ∗ outCellP c) ∗ allP c (V m c main_arg0)
          ∗ (outM.view.loc (c : Thread nD τ) ↦{fullShare} G c main_v2)) := by
  rw [Pipeline.ΦDRG_eq, scopedRest0_eq, Pipeline.ownSems0_eq_of_list c ownCell [0, 1] (by decide) (by decide)]
  unfold unstaged result Pipeline.routed
  rw [BI.bigSep_eq_bigSepL_of_eq [main_arg0] (by decide) (by decide), BI.bigSep_eq_bigSepL_of_eq [main_v2] (by decide) (by decide)]
  unfold xnP xP oP sgP
  rw [show (xnM.view.set : Finset _) = Finset.univ from View.set_whole _, show (xM.view.set : Finset _) = Finset.univ from View.set_whole _,
    show (oM.view.set : Finset _) = Finset.univ from View.set_whole _, show (sgM.view.set : Finset _) = Finset.univ from View.set_whole _]
  rfl

theorem held_first (c : Dev nD) : Pipeline.ΦDRG ownCell spec0 unstaged result (V m) (V m) c ⊢ (held m c 0 : sProp 𝕄D) := by
  rw [ends_eq]
  unfold held
  rw [normSt_first _ _ _ rfl, sumSt_first _ _ _ rfl, show carried 0 = none from rfl, show outSt m c (0 / 16) = outSt m c 0 from rfl, outSt_0, above_all]
  unfold copySt idle
  iintro ⟨⟨Hn, Hl, Ho, Hs⟩, Hg, ⟨Hc, Hd⟩, Hx, Hr⟩
  isplitl [Hn]; · iexact Hn
  isplitl [Hx Hl Hc]
  · isplitl [Hx]; · iexact Hx
    isplitl [Hl]; · iexact Hl
    iexact Hc
  isplitl [Ho]; · iexact Ho
  isplitl [Hs Hd Hr]
  · isplitl [Hs]; · iexact Hs
    isplitl [Hd]; · iexact Hd
    iexact Hr
  iexact Hg
theorem held_last (c : Dev nD) : (held m c 128 : sProp 𝕄D) ⊢ Pipeline.ΦDRG ownCell spec0 unstaged result (V m) (ended m) c := by
  rw [ends_eq, show ended m c main_v2 = written m c from Function.update_self _ _ _]
  unfold held
  rw [normSt_first _ _ _ rfl, sumSt_first _ _ _ rfl, show carried 128 = none from rfl, show outSt m c (128 / 16) = outSt m c 8 from rfl, outSt_8, below_all]
  unfold copySt idle
  iintro ⟨Hn, ⟨Hx, Hl, Hc⟩, Ho, ⟨Hs, Hd, Hr⟩, Hg⟩
  isplitl [Hn Hl Ho Hs]
  · isplitl [Hn]; · iexact Hn
    isplitl [Hl]; · iexact Hl
    isplitl [Ho]; · iexact Ho
    iexact Hs
  isplitl [Hg]; · iexact Hg
  isplitl [Hc Hd]
  · isplitl [Hc]; · iexact Hc
    iexact Hd
  isplitl [Hx]; · iexact Hx
  iexact Hr

theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The whole program, from any memory with zero counters, over any float values: it ends, with the result at what the
    copies leave, the other arrays as they were, and every counter at zero. -/
theorem run_main : θ_run defs (onTc (τ := τ) (main (F := F))) (s₀ m ρ)
    (fun r => Pipeline.FramePostRG cfgs (dats m) 0 result (V m) (ended m) r ∧ r.2.sem = fun _ => 0) :=
  Pipeline.θ_run_frame_dmaRG (Q' := _) cfgs (dats m) (0 : Fin 1) launch0 ownCell defs₀ Variants.none ownCell_facts unstaged result unstaged_sub result_sub m ρ main
    (hbody := fun c => (body_obligation m c).loose) (hshare := fun c => (dats m 0 c).share_full fun _ => rfl)
    (howed := fun _ _ => rfl) (V := V m) (hmain := hmainD m Variants.none) (hA := A_eq m) (G := ended m)
    (hin := held_first m) (hout := held_last m)

variable {m} in
/-- The arguments are left as they were. -/
theorem args_kept {r : PUnit × MemSt nD τ sig (Elt F)} (h : Pipeline.FramePostRG cfgs (dats m) 0 result (V m) (ended m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h.toR c).2 main_arg0 (by decide)).trans (V_main_arg0 m c),
    ((h.toR c).2 main_arg1 (by decide)).trans (V_main_arg1 m c),
    ((h.toR c).1 1).trans (((dats m 0 c).arrAt_in 1 rfl _).trans ((A_eq m c 1).trans (V_main_arg2 m c))),
    ((h.toR c).1 2).trans (((dats m 0 c).arrAt_in 2 rfl _).trans ((A_eq m c 2).trans (V_main_arg3 m c))),
    ((h.toR c).2 main_arg4 (by decide)).trans (V_main_arg4 m c)⟩
variable {m} in
/-- The result is left at what the copies wrote. -/
theorem result_at {r : PUnit × MemSt nD τ sig (Elt F)} (h : Pipeline.FramePostRG cfgs (dats m) 0 result (V m) (ended m) r) (c : Dev nD) :
    r.2.mem ((c.tc : Thread nD τ).loc main_v2) = written m c :=
  (h.written c (b := main_v2) (by decide)).trans (Function.update_self _ _ _)

/-- The arguments are left as they were and every counter is zero at the end. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨args_kept h.1, h.2⟩) (run_main m ρ)

end Cert.LastIdeal.End

end
-- ==== Proof.EndRef.lean ====
/- The last layer's feed-forward reference, read at an index. -/
module

public import proofs.«01_k».proof.Proof.Gen.LastReferenceIdeal.Run
public import proofs.«01_k».proof.Proof.FfRef
public import Idealize.ShloMosaic.Lib.Pointwise
public import Idealize.ShloMosaic.Lib.Tactic.CleanTypes

@[expose] public section

set_option maxRecDepth 16384

noncomputable section

namespace Cert.LastReferenceIdeal.End

open Cert.LastReferenceIdeal Cert.LastReferenceIdeal.Gen Cert.LastReferenceIdeal.Value
open Idealize.ShloMosaic Idealize.ShloMosaic.TcCoe Idealize.SL.Sem

open Cert.MlpReferenceIdeal.Ff (unit hid)

/-! ## The reference -/

variable {F : FTy → Type} [FloatOps F]

/-- The normed rows. -/
def normed (x : FVec F S8448x2048 .f32) (g : FVec F S2048 .f32) : FVec F S8448x2048 .f32 :=
  mulf (mulf x (broadcastInDim S8448x2048 ![0, 1] bcast_S8448x1_S8448x2048_0_1 (Host.rsqrt (addf
      (Host.divf (broadcastInDim S8448x1 ![0] bcast_S8448_S8448x1_0 (Host.reduceAdd (mulf x x) (constant S_ .f32 0x00000000#32) reducesTo_S8448x2048_S8448_d1 h_S_))
        (broadcastInDim S8448x1 ![] bcast_S_S8448x1 (constant S_ .f32 0x45000000#32)))
      (broadcastInDim S8448x1 ![] bcast_S_S8448x1 (constant S_ .f32 0x358637BD#32))))))
    (broadcastInDim S8448x2048 ![0, 1] bcast_S1x2048_S8448x2048_0_1 (broadcastInDim S1x2048 ![1] bcast_S2048_S1x2048_1 g))

/-- The positive part of what enters the hidden units. -/
def entering (u : FVec F S8448x2048 .f32) (w1 : FVec F S4x2048x8192 .f32) : FVec F S8448x8192 .f32 :=
  maximumf (Host.dotGeneral dot_S8448x2048_S2048x8192_S8448x8192_1_0_0_1_n_n none u
      (shapeCast S2048x8192 (extractStridedSlice S1x2048x8192 ![3, 0, 0] w1 slices_S4x2048x8192_S1x2048x8192_3_0_0) shapeCasts_S1x2048x8192_S2048x8192))
    (broadcastInDim S8448x8192 ![] bcast_S_S8448x8192 (constant S_ .f32 0x00000000#32))

/-- The residual stream after the layer. -/
def stream (x : FVec F S8448x2048 .f32) (g : FVec F S2048 .f32) (w1 : FVec F S4x2048x8192 .f32) (w2 : FVec F S4x8192x2048 .f32) : FVec F S8448x2048 .f32 :=
  addf x (Host.dotGeneral dot_S8448x8192_S8192x2048_S8448x2048_1_0_0_1_n_n none (mulf (entering (normed x g) w1) (entering (normed x g) w1))
    (shapeCast S8192x2048 (extractStridedSlice S1x8192x2048 ![3, 0, 0] w2 slices_S4x8192x2048_S1x8192x2048_3_0_0) shapeCasts_S1x8192x2048_S8192x2048))

/-- The stream normed and scaled, the meta tokens and the padding left out. -/
def result (x : FVec F S8448x2048 .f32) (g : FVec F S2048 .f32) (w1 : FVec F S4x2048x8192 .f32) (w2 : FVec F S4x8192x2048 .f32) (l : FVec F S2048 .f32) : FVec F S8192x2048 .f32 :=
  shapeCast S8192x2048 (extractStridedSlice S2x4096x2048 ![0, 16, 0] (shapeCast S2x4224x2048 (normed (stream x g w1 w2) l) shapeCasts_S8448x2048_S2x4224x2048)
    slices_S2x4224x2048_S2x4096x2048_0_16_0) shapeCasts_S2x4096x2048_S8192x2048

variable (x : FVec Ideal S8448x2048 .f32) (g : FVec Ideal S2048 .f32) (w1 : FVec Ideal S4x2048x8192 .f32) (w2 : FVec Ideal S4x8192x2048 .f32) (l : FVec Ideal S2048 .f32)

theorem normed_apply (r : Fin 8448) (d : Fin 2048) :
    (normed x g (ix2 r d) : EReal) = unit (fun e => (x (ix2 r e) : EReal)) (fun e => (g (ix1 e) : EReal)) d := by
  pointwise [normed]
  rfl

theorem entering_apply (u : FVec Ideal S8448x2048 .f32) (r : Fin 8448) (f : Fin 8192) :
    (entering u w1 (ix2 r f) : EReal) = max (∑ d : Fin 2048, (u (ix2 r d) : EReal) * (w1 (ix3 3 d f) : EReal)) 0 := by
  pointwise [entering]

/-- An entry of the stream: the residual stream's and the hidden units' contributions. -/
theorem stream_apply (r : Fin 8448) (e : Fin 2048) :
    (stream x g w1 w2 (ix2 r e) : EReal)
      = (x (ix2 r e) : EReal) + ∑ f : Fin 8192, hid (fun e => (x (ix2 r e) : EReal)) (fun e => (g (ix1 e) : EReal)) (fun d => (w1 (ix3 3 d f) : EReal)) * (w2 (ix3 3 f e) : EReal) := by
  refine Eq.trans (b := (x (ix2 r e) : EReal) + ∑ f : Fin 8192, ((entering (normed x g) w1 (ix2 r f) : EReal) * (entering (normed x g) w1 (ix2 r f) : EReal)) * (w2 (ix3 3 f e) : EReal)) (by pointwise [stream]) ?_
  simp only [entering_apply, normed_apply]
  rfl

/-- An entry of the result: token `s` of sequence `b`. -/
theorem result_apply (b : Fin 2) (s : Fin 4096) (e : Fin 2048) :
    (result x g w1 w2 l (ix2 ⟨4096 * b.val + s.val, by omega⟩ e) : EReal)
      = unit (fun e => (stream x g w1 w2 (ix2 ⟨b.val * 4224 + (16 + s.val), by omega⟩ e) : EReal)) (fun e => (l (ix1 e) : EReal)) e := by
  rw [← normed_apply]
  pointwise [result]

/-- The run: the result at `result` of the arguments, the arguments as they were. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37) = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.LastReferenceIdeal.Value.run m ρ

end Cert.LastReferenceIdeal.End

end
-- ==== Proof.EndValue.lean ====
/- The last layer's feed-forward kernel, entry by entry: the residual stream and the sixteen blocks' contributions summed, then normed. -/
module

public import proofs.«01_k».proof.Proof.EndRun
public import proofs.«01_k».proof.Proof.EndRef
public import Idealize.ShloMosaic.Lib.Claim
public import Idealize.ShloMosaic.Lib.Pipeline.ValueKit

@[expose] public section

set_option maxRecDepth 16384

noncomputable section

namespace Cert.LastIdeal.End

open Cert.LastIdeal Cert.LastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MlpReferenceIdeal.Ff (hid)

/-! ## One point's values -/

theorem normed_apply (x : Vec Ideal S1056x2048 .f32) (g : Vec Ideal S1x2048 .f32) (r : Fin 1056) (d : Fin 2048) :
    (normed x g (ix2 r d) : EReal) = Cert.MlpReferenceIdeal.Ff.unit (fun e => (x (ix2 r e) : EReal)) (fun e => (g (ix2 0 e) : EReal)) d := by
  pointwise [normed, scaled, unit]
  rfl

theorem finished_apply (x : Vec Ideal S1056x2048 .f32) (g : Vec Ideal S1x2048 .f32) (r : Fin 1056) (d : Fin 2048) :
    (finished x g (ix2 r d) : EReal) = Cert.MlpReferenceIdeal.Ff.unit (fun e => (x (ix2 r e) : EReal)) (fun e => (g (ix2 0 e) : EReal)) d := by
  pointwise [finished, scaled, unit]
  rfl

theorem hidden_apply (xn : FVec Ideal S1056x2048 .bf16) (w1 : Vec Ideal S1x2048x512 .f32) (r : Fin 1056) (f : Fin 512) :
    (hidden xn w1 (ix2 r f) : EReal) = max (∑ d : Fin 2048, (xn (ix2 r d) : EReal) * (w1 (ix3 0 d f) : EReal)) 0
      * max (∑ d : Fin 2048, (xn (ix2 r d) : EReal) * (w1 (ix3 0 d f) : EReal)) 0 := by
  pointwise [hidden]

theorem step_apply (xn : FVec Ideal S1056x2048 .bf16) (w1 : Vec Ideal S1x2048x512 .f32) (w2 : Vec Ideal S1x512x2048 .f32) (o : Vec Ideal S1056x2048 .f32)
    (r : Fin 1056) (e : Fin 2048) :
    (step xn w1 w2 o (ix2 r e) : EReal) = (o (ix2 r e) : EReal) + ∑ f : Fin 512, (hidden xn w1 (ix2 r f) : EReal) * (w2 (ix3 0 f e) : EReal) := by
  pointwise [step]

/-! ## The blocks, cut from the arguments -/

/-- The windows' index maps. -/
theorem idx : ∀ t : Fin cfg0.N, win0_0.index t = ![0, 0] ∧ win0_1.index t = ![3, 0, t.val % 16]
    ∧ win0_2.index t = ![3, t.val % 16, 0] ∧ win0_3.index t = ![0, 0] :=
  (by decide +kernel : ∀ t : Fin grid0.N, _)

variable (m : (ℓ : Loc nD τ sig) → Buf (Elt Ideal) ℓ) (c : Dev nD)
  (x : FVec Ideal S8448x2048 .f32) (g : FVec Ideal S2048 .f32) (w1 : FVec Ideal S4x2048x8192 .f32) (w2 : FVec Ideal S4x8192x2048 .f32) (l : FVec Ideal S2048 .f32)
  (hx : m ((c.tc : Thread nD τ).loc main_arg0) = x) (hg : m ((c.tc : Thread nD τ).loc main_arg1) = g)
  (hw1 : m ((c.tc : Thread nD τ).loc main_arg2) = w1) (hw2 : m ((c.tc : Thread nD τ).loc main_arg3) = w2) (hl : m ((c.tc : Thread nD τ).loc main_arg4) = l)

theorem v0_eq (hg : m ((c.tc : Thread nD τ).loc main_arg1) = g) : V m c main_v0 = shapeCast S1x2048 g shapeCasts_S2048_S1x2048 := by
  subst hg; entry_read; rfl

theorem gain_apply (hg : m ((c.tc : Thread nD τ).loc main_arg1) = g) (t : Fin cfg0.N) (d : Fin 2048) :
    (iblk m c 0 t (ix2 0 d) : EReal) = (g (ix1 d) : EReal) := by
  have e : ∀ X : Vec Ideal S1x2048 .f32, X ((win0_0.blk t).view.emb (ix2 0 d)) = X (ix2 0 d) := fun X => by blk_ext [idx t]
  blk_simp [iblk, idx t]
  rw [v0_eq m c g hg]
  refine (e _).trans ?_
  pointwise []

theorem v1_eq (hl : m ((c.tc : Thread nD τ).loc main_arg4) = l) : V m c main_v1 = shapeCast S1x2048 l shapeCasts_S2048_S1x2048 := by
  subst hl; entry_read; rfl

theorem last_gain_apply (hl : m ((c.tc : Thread nD τ).loc main_arg4) = l) (t : Fin cfg0.N) (d : Fin 2048) :
    (iblk m c 3 t (ix2 0 d) : EReal) = (l (ix1 d) : EReal) := by
  have e : ∀ X : Vec Ideal S1x2048 .f32, X ((win0_3.blk t).view.emb (ix2 0 d)) = X (ix2 0 d) := fun X => by blk_ext [idx t]
  blk_simp [iblk, idx t]
  rw [v1_eq m c l hl]
  refine (e _).trans ?_
  pointwise []

theorem up_apply (hw1 : m ((c.tc : Thread nD τ).loc main_arg2) = w1) (t : Fin cfg0.N) (d : Fin 2048) (f : Fin 512) :
    (iblk m c 1 t (ix3 0 d f) : EReal) = (w1 (ix3 3 d ⟨512 * (t.val % 16) + f.val, by omega⟩) : EReal) := by
  have e : ∀ X : Vec Ideal S4x2048x8192 .f32, X ((win0_1.blk t).view.emb (ix3 0 d f)) = X (ix3 3 d ⟨512 * (t.val % 16) + f.val, by omega⟩) := fun X => by
    blk_ext [idx t]
  blk_simp [iblk, idx t]
  rw [show V m c main_arg2 = w1 from (V_main_arg2 m c).trans hw1]
  exact e _

theorem down_apply (hw2 : m ((c.tc : Thread nD τ).loc main_arg3) = w2) (t : Fin cfg0.N) (f : Fin 512) (d : Fin 2048) :
    (iblk m c 2 t (ix3 0 f d) : EReal) = (w2 (ix3 3 ⟨512 * (t.val % 16) + f.val, by omega⟩ d) : EReal) := by
  have e : ∀ X : Vec Ideal S4x8192x2048 .f32, X ((win0_2.blk t).view.emb (ix3 0 f d)) = X (ix3 3 ⟨512 * (t.val % 16) + f.val, by omega⟩ d) := fun X => by
    blk_ext [idx t]
  blk_simp [iblk, idx t]
  rw [show V m c main_arg3 = w2 from (V_main_arg3 m c).trans hw2]
  exact e _

theorem rows_apply (hx : m ((c.tc : Thread nD τ).loc main_arg0) = x) (n : Fin 8) (r : Fin 1056) (d : Fin 2048) :
    (xAt m c n (ix2 r d) : EReal) = (x (ix2 ⟨1056 * n.val + r.val, by omega⟩ d) : EReal) := by
  have e : ∀ X : Vec Ideal S8448x2048 .f32, X ((tile (rowOff n) (rowOff_inb n)).view.emb (ix2 r d)) = X (ix2 ⟨1056 * n.val + r.val, by omega⟩ d) := fun X => by
    congr 1
    funext a
    match a with
    | ⟨0, _⟩ => exact Fin.ext (by show 1056 * n.val + 1 * r.val = 1056 * n.val + r.val; omega)
    | ⟨1, _⟩ => exact Fin.ext (by show 0 + 1 * d.val = d.val; omega)
  unfold xAt
  rw [show V m c main_arg0 = x from (V_main_arg0 m c).trans hx]
  exact e _

/-! ## The accumulated tile -/

/-- Hidden unit `f`'s contribution to entry (`r`, `e`). -/
def term (r : Fin 8448) (e : Fin 2048) (f : Fin 8192) : EReal :=
  hid (fun e => (x (ix2 r e) : EReal)) (fun e => (g (ix1 e) : EReal)) (fun d => (w1 (ix3 3 d f) : EReal)) * (w2 (ix3 3 f e) : EReal)
/-- The same, over all naturals. -/
def termN (r : Fin 8448) (e : Fin 2048) (f : ℕ) : EReal := term x g w1 w2 r e ⟨f % 8192, Nat.mod_lt _ (by decide)⟩

include hx hg hw1 hw2

/-- What one block adds. -/
theorem block_sum (n : Fin 8) (j : ℕ) (hj : j < 16) (r : Fin 1056) (e : Fin 2048) :
    (∑ f : Fin 512, (hidden (xnAt m c n) (iblk m c 1 (pt n j)) (ix2 r f) : EReal) * (iblk m c 2 (pt n j) (ix3 0 f e) : EReal))
      = ∑ f ∈ Finset.range 512, termN x g w1 w2 ⟨1056 * n.val + r.val, by omega⟩ e (512 * j + f) := by
  rw [Finset.sum_range]
  refine Finset.sum_congr rfl fun f _ => ?_
  have hp : (pt n j).val % 16 = j := by show (16 * n.val + j) % 128 % 16 = j; omega
  have hm : (512 * j + f.val) % 8192 = 512 * j + f.val := Nat.mod_eq_of_lt (by omega)
  rw [hidden_apply, down_apply m c w2 hw2]
  unfold xnAt termN term hid
  simp only [normed_apply, up_apply m c w1 hw1, gain_apply m c g hg, rows_apply m c x hx, hp, hm]

/-- After block `j`: the residual stream and the first `512 (j + 1)` hidden units' contributions. -/
theorem acc_apply (n : Fin 8) (r : Fin 1056) (e : Fin 2048) (j : ℕ) (hj : j < 16) :
    (accAt m c n j (ix2 r e) : EReal) = (x (ix2 ⟨1056 * n.val + r.val, by omega⟩ e) : EReal)
      + ∑ f ∈ Finset.range (512 * (j + 1)), termN x g w1 w2 ⟨1056 * n.val + r.val, by omega⟩ e f := by
  induction j with
  | zero =>
    show (step (F := Ideal) _ _ _ _ (ix2 r e) : EReal) = _
    rw [step_apply, block_sum m c x g w1 w2 hx hg hw1 hw2 n 0 hj, shapeCast_id, rows_apply m c x hx]
    simp only [Nat.mul_zero, Nat.zero_add, Nat.mul_one]
  | succ j ih =>
    show (step (F := Ideal) _ _ _ (accAt m c n j) (ix2 r e) : EReal) = _
    rw [step_apply, block_sum m c x g w1 w2 hx hg hw1 hw2 n (j + 1) hj, ih (by omega), add_assoc, ← Finset.sum_range_add]
    rfl

/-! ## The result -/

/-- What the last block of a row tile leaves: the reference's stream. -/
theorem acc_entry (n : Fin 8) (r : Fin 1056) (e : Fin 2048) : (accAt m c n 15 (ix2 r e) : EReal)
    = Cert.LastReferenceIdeal.End.stream x g w1 w2 (ix2 ⟨1056 * n.val + r.val, by omega⟩ e) := by
  rw [Cert.LastReferenceIdeal.End.stream_apply]
  have key := acc_apply m c x g w1 w2 hx hg hw1 hw2 n r e 15 (by omega)
  rw [Finset.sum_range] at key
  refine key.trans (congrArg (_ + ·) (Finset.sum_congr rfl fun f _ => ?_))
  unfold termN term
  rw [show (⟨f.val % 8192, Nat.mod_lt _ (by decide)⟩ : Fin 8192) = f from Fin.ext (Nat.mod_eq_of_lt f.isLt)]

include hl

/-- An entry of a finished tile. -/
theorem tile_entry (n : Fin 8) (r : Fin 1056) (e : Fin 2048) : (tileAt m c n (ix2 r e) : EReal)
    = Cert.MlpReferenceIdeal.Ff.unit (fun e => (Cert.LastReferenceIdeal.End.stream x g w1 w2 (ix2 ⟨1056 * n.val + r.val, by omega⟩ e) : EReal)) (fun e => (l (ix1 e) : EReal)) e := by
  unfold tileAt
  rw [finished_apply]
  simp only [acc_entry m c x g w1 w2 hx hg hw1 hw2, last_gain_apply m c l hl]

/-- The result array. -/
theorem written_eq : (written m c : FVec Ideal S8192x2048 .f32) = Cert.LastReferenceIdeal.End.result x g w1 w2 l := by
  funext i
  obtain ⟨q, e, rfl⟩ : ∃ (q : Fin 8192) (e : Fin 2048), i = ix2 q e := ⟨i 0, i 1, eq_ix2 i⟩
  obtain ⟨b, s, rfl⟩ : ∃ (b : Fin 2) (s : Fin 4096), q = ⟨4096 * b.val + s.val, by omega⟩ :=
    ⟨⟨q.val / 4096, by omega⟩, ⟨q.val % 4096, by omega⟩, Fin.ext (by show q.val = 4096 * (q.val / 4096) + q.val % 4096; omega)⟩
  have hf : flat (4096 * b.val + s.val) = b.val * 4224 + (16 + s.val) := by unfold flat; split <;> omega
  refine (tile_entry m c x g w1 w2 l hx hg hw1 hw2 hl (row (flat (4096 * b.val + s.val) / 1056)) ⟨flat (4096 * b.val + s.val) % 1056, Nat.mod_lt _ (by decide)⟩ e).trans ?_
  refine Eq.trans ?_ (Cert.LastReferenceIdeal.End.result_apply x g w1 w2 l b s e).symm
  have hr : (⟨1056 * (row (flat (4096 * b.val + s.val) / 1056)).val + flat (4096 * b.val + s.val) % 1056, by omega⟩ : Fin 8448) = ⟨b.val * 4224 + (16 + s.val), by omega⟩ :=
    Fin.ext (by show 1056 * (flat (4096 * b.val + s.val) / 1056 % 8) + flat (4096 * b.val + s.val) % 1056 = b.val * 4224 + (16 + s.val); rw [hf]; omega)
  rw [hr]

omit hx hg hw1 hw2 hl
variable (ρ : Dev nD → PrngReg)

/-- The run: the result at the reference's, the arguments as they were. -/
theorem run : θ_run defs (onTc (τ := τ) (main (F := Ideal))) ⟨m, fun _ => 0, ρ⟩ fun r => ∀ c : Dev nD,
      r.2.mem ((c.tc : Thread nD τ).loc main_v2) = Cert.LastReferenceIdeal.End.result (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(result_at h.1 c).trans (written_eq m c _ _ _ _ _ rfl rfl rfl rfl rfl), args_kept h.1 c⟩) (run_main m ρ)

end Cert.LastIdeal.End

end
-- ==== Proof.Attended.lean ====
/- An attention layer's output added to the residual stream: kernel and reference, entry by entry. -/
module

public import proofs.«01_k».proof.Proof.Gen.AttendedIdeal.Value
public import proofs.«01_k».proof.Proof.Gen.AttendedReferenceIdeal.Run
public import proofs.«01_k».proof.Proof.FfRef
public import Idealize.ShloMosaic.Lib.Claim
public import Idealize.ShloMosaic.Lib.Pointwise
public import Idealize.ShloMosaic.Lib.Pipeline.ValueKit
public import Idealize.ShloMosaic.Lib.Tactic.CleanTypes

@[expose] public section

set_option maxRecDepth 16384

noncomputable section

namespace Cert.AttendedReferenceIdeal.Part

open Cert.AttendedReferenceIdeal Cert.AttendedReferenceIdeal.Gen
open Idealize.ShloMosaic Idealize.ShloMosaic.TcCoe Idealize.SL.Sem

variable {F : FTy → Type} [FloatOps F]

/-- The residual stream with the product added. -/
def result (y : FVec F S8448x2048 .f32) (w : FVec F S2x2048x2048 .f32) (h : FVec F S8448x2048 .f32) : FVec F S8448x2048 .f32 :=
  addf h (Host.dotGeneral dot_S8448x2048_S2048x2048_S8448x2048_1_0_0_1_n_n none y
    (shapeCast S2048x2048 (extractStridedSlice S1x2048x2048 ![1, 0, 0] w slices_S2x2048x2048_S1x2048x2048_1_0_0) shapeCasts_S1x2048x2048_S2048x2048))

theorem result_apply (y : FVec Ideal S8448x2048 .f32) (w : FVec Ideal S2x2048x2048 .f32) (h : FVec Ideal S8448x2048 .f32) (r : Fin 8448) (e : Fin 2048) :
    (result y w h (ix2 r e) : EReal) = (h (ix2 r e) : EReal) + ∑ k : Fin 2048, (y (ix2 r k) : EReal) * (w (ix3 1 k e) : EReal) := by
  pointwise [result]

/-- The run: the result at `result` of the arguments, the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v3) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.AttendedReferenceIdeal.Value.run m ρ

end Cert.AttendedReferenceIdeal.Part

namespace Cert.AttendedIdeal.Part

open Cert.AttendedIdeal Cert.AttendedIdeal.Gen
open Idealize.ShloMosaic Idealize.ShloMosaic.TcCoe Idealize.ShloMosaic.Tactic Idealize.SL.Sem
open Cert.AttendedReferenceIdeal.Part (result)

/-- What one block of rows leaves. -/
theorem block_apply (y : Vec Ideal S768x2048 .bf16) (w : Vec Ideal S1x2048x2048 .bf16) (h : Vec Ideal S768x2048 .f32) (r : Fin 768) (e : Fin 2048) :
    (out0_3 (F := Ideal) y w h (ix2 r e) : EReal) = (h (ix2 r e) : EReal) + ∑ k : Fin 2048, (y (ix2 r k) : EReal) * (w (ix3 0 k e) : EReal) := by
  have z2 : (![0, 0] : Fin 2 → Nat) = fun _ => 0 := funext fun a => by fin_cases a <;> rfl
  have z3 : (![0, 0, 0] : Fin 3 → Nat) = fun _ => 0 := funext fun a => by fin_cases a <;> rfl
  have e : out0_3 (F := Ideal) y w h = k0_pay1 h y w := by
    unfold out0_3
    rw [View.canon_unit_zero (S := S768x2048) z2, View.ld_unit_zero (S := S768x2048) z2, View.ld_unit_zero (S := S768x2048) z2, View.ld_unit_zero (S := S1x2048x2048) z3]
  rw [e]
  pointwise [k0_pay1]

variable (m : (ℓ : Loc nD τ sig) → Buf (Elt Ideal) ℓ) (c : Dev nD)
  (y : FVec Ideal S8448x2048 .f32) (w : FVec Ideal S2x2048x2048 .f32) (h : FVec Ideal S8448x2048 .f32)
  (hy : m ((c.tc : Thread nD τ).loc main_arg0) = y) (hw : m ((c.tc : Thread nD τ).loc main_arg1) = w) (hh : m ((c.tc : Thread nD τ).loc main_arg2) = h)

/-- The windows' index maps. -/
theorem idx : ∀ t : Fin cfg0.N, win0_0.index t = ![t.val, 0] ∧ win0_1.index t = ![1, 0, 0] ∧ win0_2.index t = ![t.val, 0] ∧ win0_3.index t = ![t.val, 0] :=
  (by decide +kernel : ∀ t : Fin grid0.N, _)

theorem v0_eq (hy : m ((c.tc : Thread nD τ).loc main_arg0) = y) : V m c main_v0 = truncf .bf16 y bitsLt_bf16_f32 := by
  subst hy; entry_read; rfl
theorem v1_eq (hw : m ((c.tc : Thread nD τ).loc main_arg1) = w) : V m c main_v1 = truncf .bf16 w bitsLt_bf16_f32 := by
  subst hw; entry_read; rfl

theorem left_apply (hy : m ((c.tc : Thread nD τ).loc main_arg0) = y) (t : Fin cfg0.N) (r : Fin 768) (k : Fin 2048) :
    (iblk m c 0 t (ix2 r k) : EReal) = (y (ix2 ⟨768 * t.val + r.val, by have : t.val < 11 := t.isLt; omega⟩ k) : EReal) := by
  have e : ∀ X : Vec Ideal S8448x2048 .bf16, X ((win0_0.blk t).view.emb (ix2 r k)) = X (ix2 ⟨768 * t.val + r.val, by have : t.val < 11 := t.isLt; omega⟩ k) := fun X => by
    blk_ext [idx t]
  blk_simp [iblk, idx t]
  rw [v0_eq m c y hy]
  refine (e _).trans ?_
  pointwise []

theorem weight_apply (hw : m ((c.tc : Thread nD τ).loc main_arg1) = w) (t : Fin cfg0.N) (k : Fin 2048) (e : Fin 2048) :
    (iblk m c 1 t (ix3 0 k e) : EReal) = (w (ix3 1 k e) : EReal) := by
  have e : ∀ X : Vec Ideal S2x2048x2048 .bf16, X ((win0_1.blk t).view.emb (ix3 0 k e)) = X (ix3 1 k e) := fun X => by blk_ext [idx t]
  blk_simp [iblk, idx t]
  rw [v1_eq m c w hw]
  refine (e _).trans ?_
  pointwise []

theorem stream_apply (hh : m ((c.tc : Thread nD τ).loc main_arg2) = h) (t : Fin cfg0.N) (r : Fin 768) (e : Fin 2048) :
    (iblk m c 2 t (ix2 r e) : EReal) = (h (ix2 ⟨768 * t.val + r.val, by have : t.val < 11 := t.isLt; omega⟩ e) : EReal) := by
  have e : ∀ X : Vec Ideal S8448x2048 .f32, X ((win0_2.blk t).view.emb (ix2 r e)) = X (ix2 ⟨768 * t.val + r.val, by have : t.val < 11 := t.isLt; omega⟩ e) := fun X => by
    blk_ext [idx t]
  blk_simp [iblk, idx t]
  rw [show V m c main_arg2 = h from (V_main_arg2 m c).trans hh]
  exact e _

include hy hw hh

/-- An entry of the result array. -/
theorem final_entry (i : S8448x2048.Idx) : ((dats m 0 c).arrAt 3 cfg0.N i : EReal) = result y w h i := by
  refine (dats m 0 c).arrAt_forall_of_covers 3 (fun (i : S8448x2048.Idx) (v : EReal) => v = result y w h i) (by decide +kernel) (fun t hf x => ?_) i
  have e : ∀ (X : Vec Ideal S8448x2048 .f32) (r : Fin 768) (d : Fin 2048),
      X ((win0_3.blk t).view.emb (ix2 r d)) = X (ix2 ⟨768 * t.val + r.val, by have : t.val < 11 := t.isLt; omega⟩ d) := fun X r d => by
    blk_ext [idx t]
  blk_simp
  rw [after0_3]
  obtain ⟨r, d, rfl⟩ : ∃ (r : Fin 768) (d : Fin 2048), x = ix2 r d := ⟨x 0, x 1, eq_ix2 x⟩
  refine Eq.trans ?_ (e _ r d).symm
  refine Eq.trans ?_ (Cert.AttendedReferenceIdeal.Part.result_apply y w h _ d).symm
  refine (block_apply _ _ _ r d).trans ?_
  simp only [left_apply m c y hy, weight_apply m c w hw, stream_apply m c h hh]

omit hy hw hh
variable (ρ : Dev nD → PrngReg)

/-- The run: the result at the reference's, the arguments as they were. -/
theorem run : θ_run defs (onTc (τ := τ) (main (F := Ideal))) ⟨m, fun _ => 0, ρ⟩ fun r => ∀ c : Dev nD,
      r.2.mem ((c.tc : Thread nD τ).loc main_v2) = result (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (funext fun i => final_entry m c _ _ _ rfl rfl rfl i), (h c).2⟩) (Cert.AttendedIdeal.Value.run_blocks m ρ)

end Cert.AttendedIdeal.Part

end
-- ==== Proof.Exit.lean ====
/- A recurrent layer's output added to the residual stream: kernel and reference, entry by entry. -/
module

public import proofs.«01_k».proof.Proof.Gen.ExitIdeal.Value
public import proofs.«01_k».proof.Proof.Gen.ExitReferenceIdeal.Run
public import proofs.«01_k».proof.Proof.FfRef
public import Idealize.ShloMosaic.Lib.Claim
public import Idealize.ShloMosaic.Lib.Pointwise
public import Idealize.ShloMosaic.Lib.Pipeline.ValueKit
public import Idealize.ShloMosaic.Lib.Tactic.CleanTypes

@[expose] public section

set_option maxRecDepth 16384

noncomputable section

namespace Cert.ExitReferenceIdeal.Part

open Cert.ExitReferenceIdeal Cert.ExitReferenceIdeal.Gen
open Idealize.ShloMosaic Idealize.ShloMosaic.TcCoe Idealize.SL.Sem

variable {F : FTy → Type} [FloatOps F]

/-- The residual stream with the product added. -/
def result (y : FVec F S8448x2560 .f32) (w : FVec F S2x2560x2048 .f32) (h : FVec F S8448x2048 .f32) : FVec F S8448x2048 .f32 :=
  addf h (Host.dotGeneral dot_S8448x2560_S2560x2048_S8448x2048_1_0_0_1_n_n none y
    (shapeCast S2560x2048 (extractStridedSlice S1x2560x2048 ![1, 0, 0] w slices_S2x2560x2048_S1x2560x2048_1_0_0) shapeCasts_S1x2560x2048_S2560x2048))

theorem result_apply (y : FVec Ideal S8448x2560 .f32) (w : FVec Ideal S2x2560x2048 .f32) (h : FVec Ideal S8448x2048 .f32) (r : Fin 8448) (e : Fin 2048) :
    (result y w h (ix2 r e) : EReal) = (h (ix2 r e) : EReal) + ∑ k : Fin 2560, (y (ix2 r k) : EReal) * (w (ix3 1 k e) : EReal) := by
  pointwise [result]

/-- The run: the result at `result` of the arguments, the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v3) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ExitReferenceIdeal.Value.run m ρ

end Cert.ExitReferenceIdeal.Part

namespace Cert.ExitIdeal.Part

open Cert.ExitIdeal Cert.ExitIdeal.Gen
open Idealize.ShloMosaic Idealize.ShloMosaic.TcCoe Idealize.ShloMosaic.Tactic Idealize.SL.Sem
open Cert.ExitReferenceIdeal.Part (result)

/-- What one block of rows leaves. -/
theorem block_apply (y : Vec Ideal S768x2560 .bf16) (w : Vec Ideal S1x2560x2048 .bf16) (h : Vec Ideal S768x2048 .f32) (r : Fin 768) (e : Fin 2048) :
    (out0_3 (F := Ideal) y w h (ix2 r e) : EReal) = (h (ix2 r e) : EReal) + ∑ k : Fin 2560, (y (ix2 r k) : EReal) * (w (ix3 0 k e) : EReal) := by
  have z2 : (![0, 0] : Fin 2 → Nat) = fun _ => 0 := funext fun a => by fin_cases a <;> rfl
  have z3 : (![0, 0, 0] : Fin 3 → Nat) = fun _ => 0 := funext fun a => by fin_cases a <;> rfl
  have e : out0_3 (F := Ideal) y w h = k0_pay1 h y w := by
    unfold out0_3
    rw [View.canon_unit_zero (S := S768x2048) z2, View.ld_unit_zero (S := S768x2048) z2, View.ld_unit_zero (S := S768x2560) z2, View.ld_unit_zero (S := S1x2560x2048) z3]
  rw [e]
  pointwise [k0_pay1]

variable (m : (ℓ : Loc nD τ sig) → Buf (Elt Ideal) ℓ) (c : Dev nD)
  (y : FVec Ideal S8448x2560 .f32) (w : FVec Ideal S2x2560x2048 .f32) (h : FVec Ideal S8448x2048 .f32)
  (hy : m ((c.tc : Thread nD τ).loc main_arg0) = y) (hw : m ((c.tc : Thread nD τ).loc main_arg1) = w) (hh : m ((c.tc : Thread nD τ).loc main_arg2) = h)

/-- The windows' index maps. -/
theorem idx : ∀ t : Fin cfg0.N, win0_0.index t = ![t.val, 0] ∧ win0_1.index t = ![1, 0, 0] ∧ win0_2.index t = ![t.val, 0] ∧ win0_3.index t = ![t.val, 0] :=
  (by decide +kernel : ∀ t : Fin grid0.N, _)

theorem v0_eq (hy : m ((c.tc : Thread nD τ).loc main_arg0) = y) : V m c main_v0 = truncf .bf16 y bitsLt_bf16_f32 := by
  subst hy; entry_read; rfl
theorem v1_eq (hw : m ((c.tc : Thread nD τ).loc main_arg1) = w) : V m c main_v1 = truncf .bf16 w bitsLt_bf16_f32 := by
  subst hw; entry_read; rfl

theorem left_apply (hy : m ((c.tc : Thread nD τ).loc main_arg0) = y) (t : Fin cfg0.N) (r : Fin 768) (k : Fin 2560) :
    (iblk m c 0 t (ix2 r k) : EReal) = (y (ix2 ⟨768 * t.val + r.val, by have : t.val < 11 := t.isLt; omega⟩ k) : EReal) := by
  have e : ∀ X : Vec Ideal S8448x2560 .bf16, X ((win0_0.blk t).view.emb (ix2 r k)) = X (ix2 ⟨768 * t.val + r.val, by have : t.val < 11 := t.isLt; omega⟩ k) := fun X => by
    blk_ext [idx t]
  blk_simp [iblk, idx t]
  rw [v0_eq m c y hy]
  refine (e _).trans ?_
  pointwise []

theorem weight_apply (hw : m ((c.tc : Thread nD τ).loc main_arg1) = w) (t : Fin cfg0.N) (k : Fin 2560) (e : Fin 2048) :
    (iblk m c 1 t (ix3 0 k e) : EReal) = (w (ix3 1 k e) : EReal) := by
  have e : ∀ X : Vec Ideal S2x2560x2048 .bf16, X ((win0_1.blk t).view.emb (ix3 0 k e)) = X (ix3 1 k e) := fun X => by blk_ext [idx t]
  blk_simp [iblk, idx t]
  rw [v1_eq m c w hw]
  refine (e _).trans ?_
  pointwise []

theorem stream_apply (hh : m ((c.tc : Thread nD τ).loc main_arg2) = h) (t : Fin cfg0.N) (r : Fin 768) (e : Fin 2048) :
    (iblk m c 2 t (ix2 r e) : EReal) = (h (ix2 ⟨768 * t.val + r.val, by have : t.val < 11 := t.isLt; omega⟩ e) : EReal) := by
  have e : ∀ X : Vec Ideal S8448x2048 .f32, X ((win0_2.blk t).view.emb (ix2 r e)) = X (ix2 ⟨768 * t.val + r.val, by have : t.val < 11 := t.isLt; omega⟩ e) := fun X => by
    blk_ext [idx t]
  blk_simp [iblk, idx t]
  rw [show V m c main_arg2 = h from (V_main_arg2 m c).trans hh]
  exact e _

include hy hw hh

/-- An entry of the result array. -/
theorem final_entry (i : S8448x2048.Idx) : ((dats m 0 c).arrAt 3 cfg0.N i : EReal) = result y w h i := by
  refine (dats m 0 c).arrAt_forall_of_covers 3 (fun (i : S8448x2048.Idx) (v : EReal) => v = result y w h i) (by decide +kernel) (fun t hf x => ?_) i
  have e : ∀ (X : Vec Ideal S8448x2048 .f32) (r : Fin 768) (d : Fin 2048),
      X ((win0_3.blk t).view.emb (ix2 r d)) = X (ix2 ⟨768 * t.val + r.val, by have : t.val < 11 := t.isLt; omega⟩ d) := fun X r d => by
    blk_ext [idx t]
  blk_simp
  rw [after0_3]
  obtain ⟨r, d, rfl⟩ : ∃ (r : Fin 768) (d : Fin 2048), x = ix2 r d := ⟨x 0, x 1, eq_ix2 x⟩
  refine Eq.trans ?_ (e _ r d).symm
  refine Eq.trans ?_ (Cert.ExitReferenceIdeal.Part.result_apply y w h _ d).symm
  refine (block_apply _ _ _ r d).trans ?_
  simp only [left_apply m c y hy, weight_apply m c w hw, stream_apply m c h hh]

omit hy hw hh
variable (ρ : Dev nD → PrngReg)

/-- The run: the result at the reference's, the arguments as they were. -/
theorem run : θ_run defs (onTc (τ := τ) (main (F := Ideal))) ⟨m, fun _ => 0, ρ⟩ fun r => ∀ c : Dev nD,
      r.2.mem ((c.tc : Thread nD τ).loc main_v2) = result (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (funext fun i => final_entry m c _ _ _ rfl rfl rfl i), (h c).2⟩) (Cert.ExitIdeal.Value.run_blocks m ρ)

end Cert.ExitIdeal.Part

end
-- ==== Proof.Entry.lean ====
/- What enters a recurrent layer's convolution: kernel and reference, entry by entry. -/
module

public import proofs.«01_k».proof.Proof.Gen.EntryIdeal.Value
public import proofs.«01_k».proof.Proof.Gen.EntryReferenceIdeal.Run
public import proofs.«01_k».proof.Proof.FfRef
public import Idealize.ShloMosaic.Lib.Claim
public import Idealize.ShloMosaic.Lib.Pointwise
public import Idealize.ShloMosaic.Lib.Pipeline.ValueKit
public import Idealize.ShloMosaic.Lib.Tactic.CleanTypes

@[expose] public section

set_option maxRecDepth 16384

noncomputable section

namespace Cert.EntryReferenceIdeal.Part

open Cert.EntryReferenceIdeal Cert.EntryReferenceIdeal.Gen
open Idealize.ShloMosaic Idealize.ShloMosaic.TcCoe Idealize.SL.Sem
open Cert.MlpReferenceIdeal.Ff (unit)

variable {F : FTy → Type} [FloatOps F]

/-- The normed rows. -/
def normed (x : FVec F S8448x2048 .f32) (g : FVec F S2048 .f32) : FVec F S8448x2048 .f32 :=
  mulf (mulf x (broadcastInDim S8448x2048 ![0, 1] bcast_S8448x1_S8448x2048_0_1 (Host.rsqrt (addf
      (Host.divf (broadcastInDim S8448x1 ![0] bcast_S8448_S8448x1_0 (Host.reduceAdd (mulf x x) (constant S_ .f32 0x00000000#32) reducesTo_S8448x2048_S8448_d1 h_S_))
        (broadcastInDim S8448x1 ![] bcast_S_S8448x1 (constant S_ .f32 0x45000000#32)))
      (broadcastInDim S8448x1 ![] bcast_S_S8448x1 (constant S_ .f32 0x358637BD#32))))))
    (broadcastInDim S8448x2048 ![0, 1] bcast_S1x2048_S8448x2048_0_1 (broadcastInDim S1x2048 ![1] bcast_S2048_S1x2048_1 g))

/-- The second half of the projection. -/
def half (u : FVec F S8448x2048 .f32) (w : FVec F S2x2048x5120 .f32) : FVec F S8448x2560 .f32 :=
  extractStridedSlice S8448x2560 ![0, 2560] (Host.dotGeneral dot_S8448x2048_S2048x5120_S8448x5120_1_0_0_1_n_n none u
    (shapeCast S2048x5120 (extractStridedSlice S1x2048x5120 ![1, 0, 0] w slices_S2x2048x5120_S1x2048x5120_1_0_0) shapeCasts_S1x2048x5120_S2048x5120)) slices_S8448x5120_S8448x2560_0_2560

def result (x : FVec F S8448x2048 .f32) (g : FVec F S2048 .f32) (w : FVec F S2x2048x5120 .f32) : FVec F S8448x2560 .f32 := half (normed x g) w

variable (x : FVec Ideal S8448x2048 .f32) (g : FVec Ideal S2048 .f32) (w : FVec Ideal S2x2048x5120 .f32)

theorem normed_apply (r : Fin 8448) (d : Fin 2048) :
    (normed x g (ix2 r d) : EReal) = unit (fun e => (x (ix2 r e) : EReal)) (fun e => (g (ix1 e) : EReal)) d := by
  pointwise [normed]
  rfl

/-- An entry of the projection. -/
def entry (r : Fin 8448) (f : Fin 2560) : EReal :=
  ∑ d : Fin 2048, unit (fun e => (x (ix2 r e) : EReal)) (fun e => (g (ix1 e) : EReal)) d * (w (ix3 1 d ⟨2560 + f.val, by omega⟩) : EReal)

theorem half_apply (r : Fin 8448) (f : Fin 2560) : (half (normed x g) w (ix2 r f) : EReal) = entry x g w r f := by
  refine Eq.trans (b := ∑ d : Fin 2048, (normed x g (ix2 r d) : EReal) * (w (ix3 1 d ⟨2560 + f.val, by omega⟩) : EReal)) (by pointwise [half]) ?_
  simp only [normed_apply]
  rfl

theorem result_apply (r : Fin 8448) (f : Fin 2560) : (result x g w (ix2 r f) : EReal) = entry x g w r f := half_apply x g w r f

/-- The run: the result at `result` of the arguments, the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.EntryReferenceIdeal.Value.run m ρ

end Cert.EntryReferenceIdeal.Part

namespace Cert.EntryIdeal.Part

open Cert.EntryIdeal Cert.EntryIdeal.Gen
open Idealize.ShloMosaic Idealize.ShloMosaic.TcCoe Idealize.ShloMosaic.Tactic Idealize.SL.Sem
open Cert.MlpReferenceIdeal.Ff (unit)
open Cert.EntryReferenceIdeal.Part (result entry)

/-- One block's rows, normed. -/
def normed {F : FTy → Type} [FloatOps F] (x : Vec F S768x2048 .f32) (g : Vec F S1x2048 .f32) : FVec F S768x2048 .bf16 :=
  truncf .bf16 (mulf (mulf x (broadcastTo S768x2048
      (rsqrt (addf (divf (shapeCast S768x1 (multiReduction .add [1] S768 (mulf x x) 0x00000000#32 reduces_S768x2048_S768 (.inl rfl) rfl) shapeCasts_S768_S768x1)
          (broadcast S768x1 (Scalar.ofBits .f32 0x45000000#32))) (broadcast S768x1 (Scalar.ofBits .f32 0x358637BD#32))))
      broadcasts_S768x1_S768x2048)) (broadcastTo S768x2048 (shapeCast S1x2048 g shapeCasts_S1x2048_S1x2048) broadcasts_S1x2048_S768x2048)) bitsLt_bf16_f32
/-- One block's rows, projected. -/
def projected {F : FTy → Type} [FloatOps F] (u : FVec F S768x2048 .bf16) (w : Vec F S1x2048x2560 .bf16) : FVec F S768x2560 .f32 :=
  matmul dot_S768x2048_S2048x2560_S768x2560_1_0_0_1_n_n none u (shapeCast S2048x2560 w shapeCasts_S1x2048x2560_S2048x2560) (constant S768x2560 .f32 0x00000000#32)

theorem normed_apply (x : Vec Ideal S768x2048 .f32) (g : Vec Ideal S1x2048 .f32) (r : Fin 768) (d : Fin 2048) :
    (normed x g (ix2 r d) : EReal) = unit (fun e => (x (ix2 r e) : EReal)) (fun e => (g (ix2 0 e) : EReal)) d := by
  pointwise [normed]
  rfl
theorem projected_apply (u : FVec Ideal S768x2048 .bf16) (w : Vec Ideal S1x2048x2560 .bf16) (r : Fin 768) (f : Fin 2560) :
    (projected u w (ix2 r f) : EReal) = ∑ d : Fin 2048, (u (ix2 r d) : EReal) * (w (ix3 0 d f) : EReal) := by
  pointwise [projected]

/-- What one block of rows leaves. -/
theorem block_apply (x : Vec Ideal S768x2048 .f32) (g : Vec Ideal S1x2048 .f32) (w : Vec Ideal S1x2048x2560 .bf16) (r : Fin 768) (f : Fin 2560) :
    (out0_3 (F := Ideal) x g w (ix2 r f) : EReal) = ∑ d : Fin 2048, unit (fun e => (x (ix2 r e) : EReal)) (fun e => (g (ix2 0 e) : EReal)) d * (w (ix3 0 d f) : EReal) := by
  have z2 : (![0, 0] : Fin 2 → Nat) = fun _ => 0 := funext fun a => by fin_cases a <;> rfl
  have z3 : (![0, 0, 0] : Fin 3 → Nat) = fun _ => 0 := funext fun a => by fin_cases a <;> rfl
  have e : out0_3 (F := Ideal) x g w = projected (normed x g) w := by
    unfold out0_3
    rw [View.canon_unit_zero (S := S768x2560) z2, View.ld_unit_zero (S := S768x2048) z2, View.ld_unit_zero (S := S1x2048) z2, View.ld_unit_zero (S := S1x2048x2560) z3]
    rfl
  rw [e, projected_apply]
  simp only [normed_apply]

variable (m : (ℓ : Loc nD τ sig) → Buf (Elt Ideal) ℓ) (c : Dev nD)
  (x : FVec Ideal S8448x2048 .f32) (g : FVec Ideal S2048 .f32) (w : FVec Ideal S2x2048x5120 .f32)
  (hx : m ((c.tc : Thread nD τ).loc main_arg0) = x) (hg : m ((c.tc : Thread nD τ).loc main_arg1) = g) (hw : m ((c.tc : Thread nD τ).loc main_arg2) = w)

/-- The windows' index maps. -/
theorem idx : ∀ t : Fin cfg0.N, win0_0.index t = ![t.val, 0] ∧ win0_1.index t = ![0, 0] ∧ win0_2.index t = ![1, 0, 1] ∧ win0_3.index t = ![t.val, 0] :=
  (by decide +kernel : ∀ t : Fin grid0.N, _)

theorem v0_eq (hw : m ((c.tc : Thread nD τ).loc main_arg2) = w) : V m c main_v0 = truncf .bf16 w bitsLt_bf16_f32 := by
  subst hw; entry_read; rfl
theorem v1_eq (hg : m ((c.tc : Thread nD τ).loc main_arg1) = g) : V m c main_v1 = shapeCast S1x2048 g shapeCasts_S2048_S1x2048 := by
  subst hg; entry_read; rfl

theorem rows_apply (hx : m ((c.tc : Thread nD τ).loc main_arg0) = x) (t : Fin cfg0.N) (r : Fin 768) (d : Fin 2048) :
    (iblk m c 0 t (ix2 r d) : EReal) = (x (ix2 ⟨768 * t.val + r.val, by have : t.val < 11 := t.isLt; omega⟩ d) : EReal) := by
  have e : ∀ X : Vec Ideal S8448x2048 .f32, X ((win0_0.blk t).view.emb (ix2 r d)) = X (ix2 ⟨768 * t.val + r.val, by have : t.val < 11 := t.isLt; omega⟩ d) := fun X => by
    blk_ext [idx t]
  blk_simp [iblk, idx t]
  rw [show V m c main_arg0 = x from (V_main_arg0 m c).trans hx]
  exact e _

theorem gain_apply (hg : m ((c.tc : Thread nD τ).loc main_arg1) = g) (t : Fin cfg0.N) (d : Fin 2048) :
    (iblk m c 1 t (ix2 0 d) : EReal) = (g (ix1 d) : EReal) := by
  have e : ∀ X : Vec Ideal S1x2048 .f32, X ((win0_1.blk t).view.emb (ix2 0 d)) = X (ix2 0 d) := fun X => by blk_ext [idx t]
  blk_simp [iblk, idx t]
  rw [v1_eq m c g hg]
  refine (e _).trans ?_
  pointwise []

theorem weight_apply (hw : m ((c.tc : Thread nD τ).loc main_arg2) = w) (t : Fin cfg0.N) (d : Fin 2048) (f : Fin 2560) :
    (iblk m c 2 t (ix3 0 d f) : EReal) = (w (ix3 1 d ⟨2560 + f.val, by omega⟩) : EReal) := by
  have e : ∀ X : Vec Ideal S2x2048x5120 .bf16, X ((win0_2.blk t).view.emb (ix3 0 d f)) = X (ix3 1 d ⟨2560 + f.val, by omega⟩) := fun X => by
    blk_ext [idx t]
  blk_simp [iblk, idx t]
  rw [v0_eq m c w hw]
  refine (e _).trans ?_
  pointwise []

include hx hg hw

/-- An entry of the result array. -/
theorem final_entry (i : S8448x2560.Idx) : ((dats m 0 c).arrAt 3 cfg0.N i : EReal) = result x g w i := by
  refine (dats m 0 c).arrAt_forall_of_covers 3 (fun (i : S8448x2560.Idx) (v : EReal) => v = result x g w i) (by decide +kernel) (fun t hf y => ?_) i
  have e : ∀ (X : Vec Ideal S8448x2560 .f32) (r : Fin 768) (f : Fin 2560),
      X ((win0_3.blk t).view.emb (ix2 r f)) = X (ix2 ⟨768 * t.val + r.val, by have : t.val < 11 := t.isLt; omega⟩ f) := fun X r f => by
    blk_ext [idx t]
  blk_simp
  rw [after0_3]
  obtain ⟨r, f, rfl⟩ : ∃ (r : Fin 768) (f : Fin 2560), y = ix2 r f := ⟨y 0, y 1, eq_ix2 y⟩
  refine Eq.trans ?_ (e _ r f).symm
  refine Eq.trans ?_ (Cert.EntryReferenceIdeal.Part.result_apply x g w _ f).symm
  refine (block_apply _ _ _ r f).trans ?_
  unfold entry
  simp only [rows_apply m c x hx, gain_apply m c g hg, weight_apply m c w hw]

omit hx hg hw
variable (ρ : Dev nD → PrngReg)

/-- The run: the result at the reference's, the arguments as they were. -/
theorem run : θ_run defs (onTc (τ := τ) (main (F := Ideal))) ⟨m, fun _ => 0, ρ⟩ fun r => ∀ c : Dev nD,
      r.2.mem ((c.tc : Thread nD τ).loc main_v2) = result (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (funext fun i => final_entry m c _ _ _ rfl rfl rfl i), (h c).2⟩) (Cert.EntryIdeal.Value.run_blocks m ρ)

end Cert.EntryIdeal.Part

end
-- ==== Proof.Gate.lean ====
/- A recurrent layer's gate: kernel and reference, entry by entry. -/
module

public import proofs.«01_k».proof.Proof.Gen.GateIdeal.Value
public import proofs.«01_k».proof.Proof.Gen.GateReferenceIdeal.Run
public import proofs.«01_k».proof.Proof.FfRef
public import Idealize.ShloMosaic.Lib.Claim
public import Idealize.ShloMosaic.Lib.Pointwise
public import Idealize.ShloMosaic.Lib.Pipeline.ValueKit
public import Idealize.ShloMosaic.Lib.Tactic.CleanTypes

@[expose] public section

set_option maxRecDepth 16384

noncomputable section

namespace Cert.GateReferenceIdeal.Part

open Cert.GateReferenceIdeal Cert.GateReferenceIdeal.Gen
open Idealize.ShloMosaic Idealize.ShloMosaic.TcCoe Idealize.SL.Sem
open Cert.MlpReferenceIdeal.Ff (unit)

/-- The gate of one projected value. -/
def gelu (p : EReal) : EReal :=
  p * (Ideal.ofBits FTy.f32 0x3F000000#32 * (1
    + Ideal.tanh (Ideal.ofBits FTy.f32 0x3F4C422A#32 * (p + Ideal.ofBits FTy.f32 0x3D372713#32 * (p * (p * p))))))

variable {F : FTy → Type} [FloatOps F]

/-- The normed rows. -/
def normed (x : FVec F S8448x2048 .f32) (g : FVec F S2048 .f32) : FVec F S8448x2048 .f32 :=
  mulf (mulf x (broadcastInDim S8448x2048 ![0, 1] bcast_S8448x1_S8448x2048_0_1 (Host.rsqrt (addf
      (Host.divf (broadcastInDim S8448x1 ![0] bcast_S8448_S8448x1_0 (Host.reduceAdd (mulf x x) (constant S_ .f32 0x00000000#32) reducesTo_S8448x2048_S8448_d1 h_S_))
        (broadcastInDim S8448x1 ![] bcast_S_S8448x1 (constant S_ .f32 0x45000000#32)))
      (broadcastInDim S8448x1 ![] bcast_S_S8448x1 (constant S_ .f32 0x358637BD#32))))))
    (broadcastInDim S8448x2048 ![0, 1] bcast_S1x2048_S8448x2048_0_1 (broadcastInDim S1x2048 ![1] bcast_S2048_S1x2048_1 g))

/-- The first half of the projection. -/
def half (u : FVec F S8448x2048 .f32) (w : FVec F S2x2048x5120 .f32) : FVec F S8448x2560 .f32 :=
  extractStridedSlice S8448x2560 ![0, 0] (Host.dotGeneral dot_S8448x2048_S2048x5120_S8448x5120_1_0_0_1_n_n none u
    (shapeCast S2048x5120 (extractStridedSlice S1x2048x5120 ![1, 0, 0] w slices_S2x2048x5120_S1x2048x5120_1_0_0) shapeCasts_S1x2048x5120_S2048x5120)) slices_S8448x5120_S8448x2560_0_0

/-- The gate of an array of projected values. -/
def gated (p : FVec F S8448x2560 .f32) : FVec F S8448x2560 .bf16 :=
  truncf .bf16 (mulf p (mulf (broadcastInDim S8448x2560 ![] bcast_S_S8448x2560 (constant S_ .f32 0x3F000000#32))
    (addf (broadcastInDim S8448x2560 ![] bcast_S_S8448x2560 (constant S_ .f32 0x3F800000#32))
      (Host.tanh (mulf (broadcastInDim S8448x2560 ![] bcast_S_S8448x2560 (constant S_ .f32 0x3F4C422A#32))
        (addf p (mulf (broadcastInDim S8448x2560 ![] bcast_S_S8448x2560 (constant S_ .f32 0x3D372713#32)) (mulf (mulf p p) p)))))))) bitsLt_bf16_f32

def result (x : FVec F S8448x2048 .f32) (g : FVec F S2048 .f32) (w : FVec F S2x2048x5120 .f32) : FVec F S8448x2560 .bf16 := gated (half (normed x g) w)

variable (x : FVec Ideal S8448x2048 .f32) (g : FVec Ideal S2048 .f32) (w : FVec Ideal S2x2048x5120 .f32)

theorem normed_apply (r : Fin 8448) (d : Fin 2048) :
    (normed x g (ix2 r d) : EReal) = unit (fun e => (x (ix2 r e) : EReal)) (fun e => (g (ix1 e) : EReal)) d := by
  pointwise [normed]
  rfl

/-- An entry of the projection. -/
def entry (r : Fin 8448) (f : Fin 2560) : EReal :=
  ∑ d : Fin 2048, unit (fun e => (x (ix2 r e) : EReal)) (fun e => (g (ix1 e) : EReal)) d * (w (ix3 1 d ⟨f.val, by omega⟩) : EReal)

theorem half_apply (r : Fin 8448) (f : Fin 2560) : (half (normed x g) w (ix2 r f) : EReal) = entry x g w r f := by
  refine Eq.trans (b := ∑ d : Fin 2048, (normed x g (ix2 r d) : EReal) * (w (ix3 1 d ⟨f.val, by omega⟩) : EReal)) (by pointwise [half]) ?_
  simp only [normed_apply]
  rfl

theorem gated_apply (p : FVec Ideal S8448x2560 .f32) (r : Fin 8448) (f : Fin 2560) : (gated p (ix2 r f) : EReal) = gelu (p (ix2 r f) : EReal) := by
  pointwise [gated]
  unfold gelu
  rw [mul_assoc (p (ix2 r f) : EReal) _ _]

theorem result_apply (r : Fin 8448) (f : Fin 2560) : (result x g w (ix2 r f) : EReal) = gelu (entry x g w r f) := by
  unfold result
  rw [gated_apply, half_apply]

/-- The run: the result at `result` of the arguments, the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.GateReferenceIdeal.Value.run m ρ

end Cert.GateReferenceIdeal.Part

namespace Cert.GateIdeal.Part

open Cert.GateIdeal Cert.GateIdeal.Gen
open Idealize.ShloMosaic Idealize.ShloMosaic.TcCoe Idealize.ShloMosaic.Tactic Idealize.SL.Sem
open Cert.MlpReferenceIdeal.Ff (unit)
open Cert.GateReferenceIdeal.Part (result entry gelu)

/-- One block's rows, normed. -/
def normed {F : FTy → Type} [FloatOps F] (x : Vec F S768x2048 .f32) (g : Vec F S1x2048 .f32) : FVec F S768x2048 .bf16 :=
  truncf .bf16 (mulf (mulf x (broadcastTo S768x2048
      (rsqrt (addf (divf (shapeCast S768x1 (multiReduction .add [1] S768 (mulf x x) 0x00000000#32 reduces_S768x2048_S768 (.inl rfl) rfl) shapeCasts_S768_S768x1)
          (broadcast S768x1 (Scalar.ofBits .f32 0x45000000#32))) (broadcast S768x1 (Scalar.ofBits .f32 0x358637BD#32))))
      broadcasts_S768x1_S768x2048)) (broadcastTo S768x2048 (shapeCast S1x2048 g shapeCasts_S1x2048_S1x2048) broadcasts_S1x2048_S768x2048)) bitsLt_bf16_f32
/-- One block's rows, projected. -/
def projected {F : FTy → Type} [FloatOps F] (u : FVec F S768x2048 .bf16) (w : Vec F S1x2048x2560 .bf16) : FVec F S768x2560 .f32 :=
  matmul dot_S768x2048_S2048x2560_S768x2560_1_0_0_1_n_n none u (shapeCast S2048x2560 w shapeCasts_S1x2048x2560_S2048x2560) (constant S768x2560 .f32 0x00000000#32)
/-- One block's gate. -/
def gated {F : FTy → Type} [FloatOps F] (p : FVec F S768x2560 .f32) : FVec F S768x2560 .bf16 :=
  truncf .bf16 (mulf p (mulf (broadcast S768x2560 (Scalar.ofBits .f32 0x3F000000#32)) (addf (broadcast S768x2560 (Scalar.ofBits .f32 0x3F800000#32))
    (tanh (mulf (broadcast S768x2560 (Scalar.ofBits .f32 0x3F4C422A#32)) (addf p (mulf (broadcast S768x2560 (Scalar.ofBits .f32 0x3D372713#32)) (mulf p (mulf p p))))))))) bitsLt_bf16_f32

theorem gated_apply (p : FVec Ideal S768x2560 .f32) (r : Fin 768) (f : Fin 2560) : (gated p (ix2 r f) : EReal) = gelu (p (ix2 r f) : EReal) := by
  pointwise [gated]
  rfl

theorem normed_apply (x : Vec Ideal S768x2048 .f32) (g : Vec Ideal S1x2048 .f32) (r : Fin 768) (d : Fin 2048) :
    (normed x g (ix2 r d) : EReal) = unit (fun e => (x (ix2 r e) : EReal)) (fun e => (g (ix2 0 e) : EReal)) d := by
  pointwise [normed]
  rfl
theorem projected_apply (u : FVec Ideal S768x2048 .bf16) (w : Vec Ideal S1x2048x2560 .bf16) (r : Fin 768) (f : Fin 2560) :
    (projected u w (ix2 r f) : EReal) = ∑ d : Fin 2048, (u (ix2 r d) : EReal) * (w (ix3 0 d f) : EReal) := by
  pointwise [projected]

/-- What one block of rows leaves. -/
theorem block_apply (x : Vec Ideal S768x2048 .f32) (g : Vec Ideal S1x2048 .f32) (w : Vec Ideal S1x2048x2560 .bf16) (r : Fin 768) (f : Fin 2560) :
    (out0_3 (F := Ideal) x g w (ix2 r f) : EReal) = gelu (∑ d : Fin 2048, unit (fun e => (x (ix2 r e) : EReal)) (fun e => (g (ix2 0 e) : EReal)) d * (w (ix3 0 d f) : EReal)) := by
  have z2 : (![0, 0] : Fin 2 → Nat) = fun _ => 0 := funext fun a => by fin_cases a <;> rfl
  have z3 : (![0, 0, 0] : Fin 3 → Nat) = fun _ => 0 := funext fun a => by fin_cases a <;> rfl
  have e : out0_3 (F := Ideal) x g w = gated (projected (normed x g) w) := by
    unfold out0_3
    rw [View.canon_unit_zero (S := S768x2560) z2, View.ld_unit_zero (S := S768x2048) z2, View.ld_unit_zero (S := S1x2048) z2, View.ld_unit_zero (S := S1x2048x2560) z3]
    rfl
  rw [e, gated_apply, projected_apply]
  simp only [normed_apply]

variable (m : (ℓ : Loc nD τ sig) → Buf (Elt Ideal) ℓ) (c : Dev nD)
  (x : FVec Ideal S8448x2048 .f32) (g : FVec Ideal S2048 .f32) (w : FVec Ideal S2x2048x5120 .f32)
  (hx : m ((c.tc : Thread nD τ).loc main_arg0) = x) (hg : m ((c.tc : Thread nD τ).loc main_arg1) = g) (hw : m ((c.tc : Thread nD τ).loc main_arg2) = w)

/-- The windows' index maps. -/
theorem idx : ∀ t : Fin cfg0.N, win0_0.index t = ![t.val, 0] ∧ win0_1.index t = ![0, 0] ∧ win0_2.index t = ![1, 0, 0] ∧ win0_3.index t = ![t.val, 0] :=
  (by decide +kernel : ∀ t : Fin grid0.N, _)

theorem v0_eq (hw : m ((c.tc : Thread nD τ).loc main_arg2) = w) : V m c main_v0 = truncf .bf16 w bitsLt_bf16_f32 := by
  subst hw; entry_read; rfl
theorem v1_eq (hg : m ((c.tc : Thread nD τ).loc main_arg1) = g) : V m c main_v1 = shapeCast S1x2048 g shapeCasts_S2048_S1x2048 := by
  subst hg; entry_read; rfl

theorem rows_apply (hx : m ((c.tc : Thread nD τ).loc main_arg0) = x) (t : Fin cfg0.N) (r : Fin 768) (d : Fin 2048) :
    (iblk m c 0 t (ix2 r d) : EReal) = (x (ix2 ⟨768 * t.val + r.val, by have : t.val < 11 := t.isLt; omega⟩ d) : EReal) := by
  have e : ∀ X : Vec Ideal S8448x2048 .f32, X ((win0_0.blk t).view.emb (ix2 r d)) = X (ix2 ⟨768 * t.val + r.val, by have : t.val < 11 := t.isLt; omega⟩ d) := fun X => by
    blk_ext [idx t]
  blk_simp [iblk, idx t]
  rw [show V m c main_arg0 = x from (V_main_arg0 m c).trans hx]
  exact e _

theorem gain_apply (hg : m ((c.tc : Thread nD τ).loc main_arg1) = g) (t : Fin cfg0.N) (d : Fin 2048) :
    (iblk m c 1 t (ix2 0 d) : EReal) = (g (ix1 d) : EReal) := by
  have e : ∀ X : Vec Ideal S1x2048 .f32, X ((win0_1.blk t).view.emb (ix2 0 d)) = X (ix2 0 d) := fun X => by blk_ext [idx t]
  blk_simp [iblk, idx t]
  rw [v1_eq m c g hg]
  refine (e _).trans ?_
  pointwise []

theorem weight_apply (hw : m ((c.tc : Thread nD τ).loc main_arg2) = w) (t : Fin cfg0.N) (d : Fin 2048) (f : Fin 2560) :
    (iblk m c 2 t (ix3 0 d f) : EReal) = (w (ix3 1 d ⟨f.val, by omega⟩) : EReal) := by
  have e : ∀ X : Vec Ideal S2x2048x5120 .bf16, X ((win0_2.blk t).view.emb (ix3 0 d f)) = X (ix3 1 d ⟨f.val, by omega⟩) := fun X => by
    blk_ext [idx t]
  blk_simp [iblk, idx t]
  rw [v0_eq m c w hw]
  refine (e _).trans ?_
  pointwise []

include hx hg hw

/-- An entry of the result array. -/
theorem final_entry (i : S8448x2560.Idx) : ((dats m 0 c).arrAt 3 cfg0.N i : EReal) = result x g w i := by
  refine (dats m 0 c).arrAt_forall_of_covers 3 (fun (i : S8448x2560.Idx) (v : EReal) => v = result x g w i) (by decide +kernel) (fun t hf y => ?_) i
  have e : ∀ (X : Vec Ideal S8448x2560 .bf16) (r : Fin 768) (f : Fin 2560),
      X ((win0_3.blk t).view.emb (ix2 r f)) = X (ix2 ⟨768 * t.val + r.val, by have : t.val < 11 := t.isLt; omega⟩ f) := fun X r f => by
    blk_ext [idx t]
  blk_simp
  rw [after0_3]
  obtain ⟨r, f, rfl⟩ : ∃ (r : Fin 768) (f : Fin 2560), y = ix2 r f := ⟨y 0, y 1, eq_ix2 y⟩
  refine Eq.trans ?_ (e _ r f).symm
  refine Eq.trans ?_ (Cert.GateReferenceIdeal.Part.result_apply x g w _ f).symm
  refine (block_apply _ _ _ r f).trans ?_
  unfold entry
  simp only [rows_apply m c x hx, gain_apply m c g hg, weight_apply m c w hw]

omit hx hg hw
variable (ρ : Dev nD → PrngReg)

/-- The run: the result at the reference's, the arguments as they were. -/
theorem run : θ_run defs (onTc (τ := τ) (main (F := Ideal))) ⟨m, fun _ => 0, ρ⟩ fun r => ∀ c : Dev nD,
      r.2.mem ((c.tc : Thread nD τ).loc main_v2) = result (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (funext fun i => final_entry m c _ _ _ rfl rfl rfl i), (h c).2⟩) (Cert.GateIdeal.Value.run_blocks m ρ)

end Cert.GateIdeal.Part

end
-- ==== Proof.lean ====
/- The claim: each program's run with its arguments unchanged, and the idealised kernel as the printed one. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_inputs
public import proofs.«01_k».proof.Proof.Gen.Mlp
public import proofs.«01_k».proof.Proof.Gen.MlpIdeal
public import proofs.«01_k».proof.Proof.Gen.MlpIdeal.Frame
public import proofs.«01_k».proof.Proof.Gen.MlpReferenceIdeal
public import proofs.«01_k».proof.Proof.Gen.MlpReferenceIdeal.Run
public import proofs.«01_k».proof.Proof.Gen.Last
public import proofs.«01_k».proof.Proof.Gen.LastIdeal
public import proofs.«01_k».proof.Proof.Gen.LastIdeal.Frame
public import proofs.«01_k».proof.Proof.Gen.LastReferenceIdeal
public import proofs.«01_k».proof.Proof.Gen.LastReferenceIdeal.Run
public import proofs.«01_k».proof.Proof.Gen.Gate
public import proofs.«01_k».proof.Proof.Gen.GateIdeal
public import proofs.«01_k».proof.Proof.Gen.GateIdeal.Frame
public import proofs.«01_k».proof.Proof.Gen.GateReferenceIdeal
public import proofs.«01_k».proof.Proof.Gen.GateReferenceIdeal.Run
public import proofs.«01_k».proof.Proof.Gen.Entry
public import proofs.«01_k».proof.Proof.Gen.EntryIdeal
public import proofs.«01_k».proof.Proof.Gen.EntryIdeal.Frame
public import proofs.«01_k».proof.Proof.Gen.EntryReferenceIdeal
public import proofs.«01_k».proof.Proof.Gen.EntryReferenceIdeal.Run
public import proofs.«01_k».proof.Proof.Gen.Exit
public import proofs.«01_k».proof.Proof.Gen.ExitIdeal
public import proofs.«01_k».proof.Proof.Gen.ExitIdeal.Frame
public import proofs.«01_k».proof.Proof.Gen.ExitReferenceIdeal
public import proofs.«01_k».proof.Proof.Gen.ExitReferenceIdeal.Run
public import proofs.«01_k».proof.Proof.Gen.Attended
public import proofs.«01_k».proof.Proof.Gen.AttendedIdeal
public import proofs.«01_k».proof.Proof.Gen.AttendedIdeal.Frame
public import proofs.«01_k».proof.Proof.Gen.AttendedReferenceIdeal
public import proofs.«01_k».proof.Proof.Gen.AttendedReferenceIdeal.Run
public import proofs.«01_k».proof.Proof.Gen.KeyValue
public import proofs.«01_k».proof.Proof.Gen.KeyValueIdeal
public import proofs.«01_k».proof.Proof.Gen.KeyValueIdeal.Frame
public import proofs.«01_k».proof.Proof.Gen.KeyValueReferenceIdeal
public import proofs.«01_k».proof.Proof.Gen.KeyValueReferenceIdeal.Run
public import proofs.«01_k».proof.Proof.Gen.Query
public import proofs.«01_k».proof.Proof.Gen.QueryIdeal
public import proofs.«01_k».proof.Proof.Gen.QueryIdeal.Frame
public import proofs.«01_k».proof.Proof.Gen.QueryReferenceIdeal
public import proofs.«01_k».proof.Proof.Gen.QueryReferenceIdeal.Run
public import proofs.«01_k».proof.Proof.KeyValue
public import proofs.«01_k».proof.Proof.Query
public import proofs.«01_k».proof.Proof.Value
public import proofs.«01_k».proof.Proof.Finite
public import proofs.«01_k».proof.Proof.FfValue
public import proofs.«01_k».proof.Proof.EndValue
public import proofs.«01_k».proof.Proof.Attended
public import proofs.«01_k».proof.Proof.Exit
public import proofs.«01_k».proof.Proof.Entry
public import proofs.«01_k».proof.Proof.Gate

@[expose] public section

noncomputable section

namespace Cert.Proof

open Idealize.ShloMosaic Idealize.SL.Sem Cert.Kernel

/-- The two printings have one body, -/
theorem bodies_eq : Cert.Kernel.defs₀ (F := Bits) = Cert.KernelIdeal.defs₀ := by
  unfold defs₀ Cert.KernelIdeal.defs₀
  refine congrArg Defs.onTc ?_
  funext l a
  match l, a with
  | 0, (t, s) => rfl

/-- and so one table of definitions. -/
theorem tables_eq : Cert.Kernel.defs (F := Bits) = Cert.KernelIdeal.defs := by
  unfold defs Cert.KernelIdeal.defs
  rw [bodies_eq]
  rfl

/-- The kernel as it was printed, at words: the run at any float values, taken there. -/
theorem frame_kernel : Cert.quiescent_Kernel := fun m ρ _ => by
  rw [tables_eq]
  exact (θ_run Cert.KernelIdeal.defs _ _).mono (fun _ h => h) (Cert.KernelIdeal.Attn.frame_all (F := Bits) m ρ)

theorem frame_ideal : Cert.quiescent_KernelIdeal := fun m ρ _ => Cert.KernelIdeal.Attn.frame_all (F := Ideal) m ρ

/-- The reference's run over any float values, its counters zero because it declares none. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ideal_pre : Cert.quiescent_KernelIdeal_pre_finite_inputs := fun m ρ _ => Cert.KernelIdeal.Attn.frame_all (F := Ideal) m ρ

theorem frame_reference_pre : Cert.quiescent_ReferenceIdeal_pre_finite_inputs := fun m ρ _ => frame_reference m ρ trivial

/-! ## The value -/

section
open Cert.ReferenceIdeal.Attn

/-- For real arguments the reference's result is the kernel's, entry by entry. -/
theorem value_eq (m : (ℓ : Loc Cert.KernelIdeal.nD Cert.KernelIdeal.τ Cert.KernelIdeal.sig) → Buf (Elt Ideal) ℓ)
    (hpre : Cert.Pre_KernelIdeal_finite_inputs m) (c : Dev Cert.KernelIdeal.nD)
    (q k : FVec Ideal Cert.ReferenceIdeal.S2x4112x8x2x128 .f32) (v : FVec Ideal Cert.ReferenceIdeal.S2x4112x8x256 .f32) (l : FVec Ideal Cert.ReferenceIdeal.S4x128 .f32) (g : FVec Ideal Cert.ReferenceIdeal.S256 .f32)
    (hq : m ((c.tc : Thread Cert.KernelIdeal.nD Cert.KernelIdeal.τ).loc Cert.KernelIdeal.main_arg0) = q)
    (hk : m ((c.tc : Thread Cert.KernelIdeal.nD Cert.KernelIdeal.τ).loc Cert.KernelIdeal.main_arg1) = k)
    (hv : m ((c.tc : Thread Cert.KernelIdeal.nD Cert.KernelIdeal.τ).loc Cert.KernelIdeal.main_arg2) = v)
    (hl : m ((c.tc : Thread Cert.KernelIdeal.nD Cert.KernelIdeal.τ).loc Cert.KernelIdeal.main_arg3) = l)
    (hg : m ((c.tc : Thread Cert.KernelIdeal.nD Cert.KernelIdeal.τ).loc Cert.KernelIdeal.main_arg4) = g) :
    result q k v l g = Cert.KernelIdeal.Attn.out m c := by
  have hp := hpre c
  rw [hq, hk, hv, hl, hg] at hp
  obtain ⟨rq, rk, rv, rl⟩ := Cert.Pre_finite_inputs.Attn.reals q k v l g hp
  choose qr hqr using rq
  choose kr hkr using rk
  choose vr hvr using rv
  choose lr hlr using rl
  funext i
  obtain ⟨b, n, e, rfl⟩ : ∃ (b : Fin 2) (n : Fin 4112) (e : Fin 2048), i = ix3 b n e := ⟨i 0, i 1, i 2, eq_ix3 i⟩
  obtain ⟨h, d, rfl⟩ : ∃ (h : Fin 8) (d : Fin 256), e = ⟨256 * h.val + d.val, by omega⟩ :=
    ⟨⟨e.val / 256, by omega⟩, ⟨e.val % 256, by omega⟩, Fin.ext (by show e.val = 256 * (e.val / 256) + e.val % 256; omega)⟩
  refine (result_real q k v l g (fun b t h c x => qr (ix5 b t h c x)) (fun b t h c x => kr (ix5 b t h c x)) (fun b t h x => vr (ix4 b t h x))
    (fun r x => lr (ix2 r x)) (fun b t h c x => hqr _) (fun b t h c x => hkr _) (fun b t h x => hvr _) (fun r x => hlr _) b n h d).trans ?_
  exact (Cert.KernelIdeal.Attn.out_real m c q k v l g (fun b t h c x => qr (ix5 b t h c x)) (fun b t h c x => kr (ix5 b t h c x))
    (fun b t h x => vr (ix4 b t h x)) (fun r x => lr (ix2 r x)) hq hk hv hl hg (fun b t h c x => hqr _) (fun b t h c x => hkr _)
    (fun b t h x => hvr _) (fun r x => hlr _) b n h d).symm

end

/-- The idealized kernel and the reference end with the same result. -/
theorem algebraic : Cert.algebraic_KernelIdeal_ReferenceIdeal_pre_finite_inputs := by
  intro m ρ m' ρ' hpre hagree
  refine ⟨fun c => Cert.KernelIdeal.Attn.out m c, Cert.KernelIdeal.Attn.run m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3, h4⟩ := hagree c
  rw [Cert.ReferenceIdeal.Attn.res_eq]
  exact value_eq m hpre c _ _ _ _ _ h0.symm h1.symm h2.symm h3.symm h4.symm

/-! ## The feed-forward part -/

/-- The two printings of the feed-forward kernel have one body, -/
theorem ff_bodies_eq : Cert.Mlp.defs₀ (F := Bits) = Cert.MlpIdeal.defs₀ := by
  unfold Cert.Mlp.defs₀ Cert.MlpIdeal.defs₀
  refine congrArg Defs.onTc ?_
  funext l a
  match l, a with
  | 0, (t, s) => rfl

/-- and so one table of definitions. -/
theorem ff_tables_eq : Cert.Mlp.defs (F := Bits) = Cert.MlpIdeal.defs := by
  unfold Cert.Mlp.defs Cert.MlpIdeal.defs
  rw [ff_bodies_eq]
  rfl

theorem ff_frame_kernel : Cert.quiescent_Mlp := fun m ρ _ => by
  rw [ff_tables_eq]
  exact (θ_run Cert.MlpIdeal.defs _ _).mono (fun _ h => h) (Cert.MlpIdeal.Ff.frame_all (F := Bits) m ρ)

theorem ff_frame_ideal : Cert.quiescent_MlpIdeal := fun m ρ _ => Cert.MlpIdeal.Ff.frame_all (F := Ideal) m ρ

theorem ff_frame_reference : Cert.quiescent_MlpReferenceIdeal := fun m ρ _ =>
  (θ_run Cert.MlpReferenceIdeal.defs _ _).mono (fun r h => ⟨fun c => (h c).2, sem_eq_zero_of_no_sems (by decide) r.2⟩)
    (Cert.MlpReferenceIdeal.Ff.run (F := Ideal) m ρ)

/-- The idealized feed-forward kernel and its reference end with the same result, whatever the arguments. -/
theorem ff_algebraic : Cert.algebraic_MlpIdeal_MlpReferenceIdeal := by
  intro m ρ m' ρ' _ hagree
  refine ⟨_, Cert.MlpIdeal.Ff.run m ρ, ?_⟩
  refine (θ_run Cert.MlpReferenceIdeal.defs _ _).mono (fun _ h c => ⟨(h c).1.trans ?_, (h c).2⟩) (Cert.MlpReferenceIdeal.Ff.run (F := Ideal) m' ρ')
  obtain ⟨h0, h1, h2, h3⟩ := hagree c
  rw [h0, h1, h2, h3]

/-! ## The last layer's feed-forward part -/

/-- The two printings of the last layer's kernel have one body, -/
theorem last_bodies_eq : Cert.Last.defs₀ (F := Bits) = Cert.LastIdeal.defs₀ := by
  unfold Cert.Last.defs₀ Cert.LastIdeal.defs₀
  refine congrArg Defs.onTc ?_
  funext l a
  match l, a with
  | 0, (t, s) => rfl

/-- and so one table of definitions. -/
theorem last_tables_eq : Cert.Last.defs (F := Bits) = Cert.LastIdeal.defs := by
  unfold Cert.Last.defs Cert.LastIdeal.defs
  rw [last_bodies_eq]
  rfl

theorem last_frame_kernel : Cert.quiescent_Last := fun m ρ _ => by
  rw [last_tables_eq]
  exact (θ_run Cert.LastIdeal.defs _ _).mono (fun _ h => h) (Cert.LastIdeal.End.frame_all (F := Bits) m ρ)

theorem last_frame_ideal : Cert.quiescent_LastIdeal := fun m ρ _ => Cert.LastIdeal.End.frame_all (F := Ideal) m ρ

theorem last_frame_reference : Cert.quiescent_LastReferenceIdeal := fun m ρ _ =>
  (θ_run Cert.LastReferenceIdeal.defs _ _).mono (fun r h => ⟨fun c => (h c).2, sem_eq_zero_of_no_sems (by decide) r.2⟩)
    (Cert.LastReferenceIdeal.End.run (F := Ideal) m ρ)

/-- The idealized kernel of the last layer and its reference end with the same result, whatever the arguments. -/
theorem last_algebraic : Cert.algebraic_LastIdeal_LastReferenceIdeal := by
  intro m ρ m' ρ' _ hagree
  refine ⟨_, Cert.LastIdeal.End.run m ρ, ?_⟩
  refine (θ_run Cert.LastReferenceIdeal.defs _ _).mono (fun _ h c => ⟨(h c).1.trans ?_, (h c).2⟩) (Cert.LastReferenceIdeal.End.run (F := Ideal) m' ρ')
  obtain ⟨h0, h1, h2, h3, h4⟩ := hagree c
  rw [h0, h1, h2, h3, h4]

/-! ## The calls with one product, and the projections with the rotation -/

/-- The two printings of the gate of a recurrent layer have one body, -/
theorem gate_bodies_eq : Cert.Gate.defs₀ (F := Bits) = Cert.GateIdeal.defs₀ := by
  unfold Cert.Gate.defs₀ Cert.GateIdeal.defs₀
  refine congrArg Defs.onTc ?_
  funext l a
  match l, a with
  | 0, (t, s) => rfl

/-- and so one table of definitions. -/
theorem gate_tables_eq : Cert.Gate.defs (F := Bits) = Cert.GateIdeal.defs := by
  unfold Cert.Gate.defs Cert.GateIdeal.defs
  rw [gate_bodies_eq]
  rfl

theorem gate_frame_kernel : Cert.quiescent_Gate := fun m ρ _ => by
  rw [gate_tables_eq]
  exact (θ_run Cert.GateIdeal.defs _ _).mono (fun _ h => h) (Cert.GateIdeal.Gen.frame (F := Bits) m ρ)

theorem gate_frame_ideal : Cert.quiescent_GateIdeal := fun m ρ _ => Cert.GateIdeal.Gen.frame (F := Ideal) m ρ

theorem gate_frame_reference : Cert.quiescent_GateReferenceIdeal := fun m ρ _ =>
  (θ_run Cert.GateReferenceIdeal.defs _ _).mono (fun r h => ⟨fun c => (h c).2, sem_eq_zero_of_no_sems (by decide) r.2⟩)
    (Cert.GateReferenceIdeal.Part.run (F := Ideal) m ρ)

/-- The idealized kernel and its reference end with the same result, whatever the arguments. -/
theorem gate_algebraic : Cert.algebraic_GateIdeal_GateReferenceIdeal := by
  intro m ρ m' ρ' _ hagree
  refine ⟨_, Cert.GateIdeal.Part.run m ρ, ?_⟩
  refine (θ_run Cert.GateReferenceIdeal.defs _ _).mono (fun _ h c => ⟨(h c).1.trans ?_, (h c).2⟩) (Cert.GateReferenceIdeal.Part.run (F := Ideal) m' ρ')
  obtain ⟨h0, h1, h2⟩ := hagree c
  rw [h0, h1, h2]

/-- The two printings of what enters a recurrent layer's convolution have one body, -/
theorem entry_bodies_eq : Cert.Entry.defs₀ (F := Bits) = Cert.EntryIdeal.defs₀ := by
  unfold Cert.Entry.defs₀ Cert.EntryIdeal.defs₀
  refine congrArg Defs.onTc ?_
  funext l a
  match l, a with
  | 0, (t, s) => rfl

/-- and so one table of definitions. -/
theorem entry_tables_eq : Cert.Entry.defs (F := Bits) = Cert.EntryIdeal.defs := by
  unfold Cert.Entry.defs Cert.EntryIdeal.defs
  rw [entry_bodies_eq]
  rfl

theorem entry_frame_kernel : Cert.quiescent_Entry := fun m ρ _ => by
  rw [entry_tables_eq]
  exact (θ_run Cert.EntryIdeal.defs _ _).mono (fun _ h => h) (Cert.EntryIdeal.Gen.frame (F := Bits) m ρ)

theorem entry_frame_ideal : Cert.quiescent_EntryIdeal := fun m ρ _ => Cert.EntryIdeal.Gen.frame (F := Ideal) m ρ

theorem entry_frame_reference : Cert.quiescent_EntryReferenceIdeal := fun m ρ _ =>
  (θ_run Cert.EntryReferenceIdeal.defs _ _).mono (fun r h => ⟨fun c => (h c).2, sem_eq_zero_of_no_sems (by decide) r.2⟩)
    (Cert.EntryReferenceIdeal.Part.run (F := Ideal) m ρ)

/-- The idealized kernel and its reference end with the same result, whatever the arguments. -/
theorem entry_algebraic : Cert.algebraic_EntryIdeal_EntryReferenceIdeal := by
  intro m ρ m' ρ' _ hagree
  refine ⟨_, Cert.EntryIdeal.Part.run m ρ, ?_⟩
  refine (θ_run Cert.EntryReferenceIdeal.defs _ _).mono (fun _ h c => ⟨(h c).1.trans ?_, (h c).2⟩) (Cert.EntryReferenceIdeal.Part.run (F := Ideal) m' ρ')
  obtain ⟨h0, h1, h2⟩ := hagree c
  rw [h0, h1, h2]

/-- The two printings of a recurrent layer's output added to the residual stream have one body, -/
theorem exit_bodies_eq : Cert.Exit.defs₀ (F := Bits) = Cert.ExitIdeal.defs₀ := by
  unfold Cert.Exit.defs₀ Cert.ExitIdeal.defs₀
  refine congrArg Defs.onTc ?_
  funext l a
  match l, a with
  | 0, (t, s) => rfl

/-- and so one table of definitions. -/
theorem exit_tables_eq : Cert.Exit.defs (F := Bits) = Cert.ExitIdeal.defs := by
  unfold Cert.Exit.defs Cert.ExitIdeal.defs
  rw [exit_bodies_eq]
  rfl

theorem exit_frame_kernel : Cert.quiescent_Exit := fun m ρ _ => by
  rw [exit_tables_eq]
  exact (θ_run Cert.ExitIdeal.defs _ _).mono (fun _ h => h) (Cert.ExitIdeal.Gen.frame (F := Bits) m ρ)

theorem exit_frame_ideal : Cert.quiescent_ExitIdeal := fun m ρ _ => Cert.ExitIdeal.Gen.frame (F := Ideal) m ρ

theorem exit_frame_reference : Cert.quiescent_ExitReferenceIdeal := fun m ρ _ =>
  (θ_run Cert.ExitReferenceIdeal.defs _ _).mono (fun r h => ⟨fun c => (h c).2, sem_eq_zero_of_no_sems (by decide) r.2⟩)
    (Cert.ExitReferenceIdeal.Part.run (F := Ideal) m ρ)

/-- The idealized kernel and its reference end with the same result, whatever the arguments. -/
theorem exit_algebraic : Cert.algebraic_ExitIdeal_ExitReferenceIdeal := by
  intro m ρ m' ρ' _ hagree
  refine ⟨_, Cert.ExitIdeal.Part.run m ρ, ?_⟩
  refine (θ_run Cert.ExitReferenceIdeal.defs _ _).mono (fun _ h c => ⟨(h c).1.trans ?_, (h c).2⟩) (Cert.ExitReferenceIdeal.Part.run (F := Ideal) m' ρ')
  obtain ⟨h0, h1, h2⟩ := hagree c
  rw [h0, h1, h2]

/-- The two printings of an attention layer's output added to the residual stream have one body, -/
theorem attended_bodies_eq : Cert.Attended.defs₀ (F := Bits) = Cert.AttendedIdeal.defs₀ := by
  unfold Cert.Attended.defs₀ Cert.AttendedIdeal.defs₀
  refine congrArg Defs.onTc ?_
  funext l a
  match l, a with
  | 0, (t, s) => rfl

/-- and so one table of definitions. -/
theorem attended_tables_eq : Cert.Attended.defs (F := Bits) = Cert.AttendedIdeal.defs := by
  unfold Cert.Attended.defs Cert.AttendedIdeal.defs
  rw [attended_bodies_eq]
  rfl

theorem attended_frame_kernel : Cert.quiescent_Attended := fun m ρ _ => by
  rw [attended_tables_eq]
  exact (θ_run Cert.AttendedIdeal.defs _ _).mono (fun _ h => h) (Cert.AttendedIdeal.Gen.frame (F := Bits) m ρ)

theorem attended_frame_ideal : Cert.quiescent_AttendedIdeal := fun m ρ _ => Cert.AttendedIdeal.Gen.frame (F := Ideal) m ρ

theorem attended_frame_reference : Cert.quiescent_AttendedReferenceIdeal := fun m ρ _ =>
  (θ_run Cert.AttendedReferenceIdeal.defs _ _).mono (fun r h => ⟨fun c => (h c).2, sem_eq_zero_of_no_sems (by decide) r.2⟩)
    (Cert.AttendedReferenceIdeal.Part.run (F := Ideal) m ρ)

/-- The idealized kernel and its reference end with the same result, whatever the arguments. -/
theorem attended_algebraic : Cert.algebraic_AttendedIdeal_AttendedReferenceIdeal := by
  intro m ρ m' ρ' _ hagree
  refine ⟨_, Cert.AttendedIdeal.Part.run m ρ, ?_⟩
  refine (θ_run Cert.AttendedReferenceIdeal.defs _ _).mono (fun _ h c => ⟨(h c).1.trans ?_, (h c).2⟩) (Cert.AttendedReferenceIdeal.Part.run (F := Ideal) m' ρ')
  obtain ⟨h0, h1, h2⟩ := hagree c
  rw [h0, h1, h2]

/-- The two printings of the keys and values of the attention layers have one body, -/
theorem key_value_bodies_eq : Cert.KeyValue.defs₀ (F := Bits) = Cert.KeyValueIdeal.defs₀ := by
  unfold Cert.KeyValue.defs₀ Cert.KeyValueIdeal.defs₀
  refine congrArg Defs.onTc ?_
  funext l a
  match l, a with
  | 0, (t, s) => rfl

/-- and so one table of definitions. -/
theorem key_value_tables_eq : Cert.KeyValue.defs (F := Bits) = Cert.KeyValueIdeal.defs := by
  unfold Cert.KeyValue.defs Cert.KeyValueIdeal.defs
  rw [key_value_bodies_eq]
  rfl

theorem key_value_frame_kernel : Cert.quiescent_KeyValue := fun m ρ _ => by
  rw [key_value_tables_eq]
  exact (θ_run Cert.KeyValueIdeal.defs _ _).mono (fun _ h => h) (Cert.KeyValueIdeal.Gen.frame (F := Bits) m ρ)

theorem key_value_frame_ideal : Cert.quiescent_KeyValueIdeal := fun m ρ _ => Cert.KeyValueIdeal.Gen.frame (F := Ideal) m ρ

theorem key_value_frame_reference : Cert.quiescent_KeyValueReferenceIdeal := fun m ρ _ =>
  (θ_run Cert.KeyValueReferenceIdeal.defs _ _).mono (fun r h => ⟨fun c => ⟨(h c).2.2.1, (h c).2.2.2⟩, sem_eq_zero_of_no_sems (by decide) r.2⟩)
    (Cert.KeyValueReferenceIdeal.Part.run (F := Ideal) m ρ)

/-- The idealized kernel and its reference end with the same results, whatever the arguments. -/
theorem key_value_algebraic : Cert.algebraic_KeyValueIdeal_KeyValueReferenceIdeal := by
  intro m ρ m' ρ' _ hagree
  refine ⟨_, _, Cert.KeyValueIdeal.Part.run m ρ, ?_⟩
  refine (θ_run Cert.KeyValueReferenceIdeal.defs _ _).mono (fun _ h c => ⟨(h c).1.trans ?_, (h c).2.1.trans ?_, (h c).2.2⟩) (Cert.KeyValueReferenceIdeal.Part.run (F := Ideal) m' ρ')
  · obtain ⟨h0, h1, h2⟩ := hagree c
    rw [h0, h1, h2]
  · obtain ⟨h0, h1, h2⟩ := hagree c
    rw [h0, h1, h2]

/-- The two printings of an attention layer's queries have one body, -/
theorem query_bodies_eq : Cert.Query.defs₀ (F := Bits) = Cert.QueryIdeal.defs₀ := by
  unfold Cert.Query.defs₀ Cert.QueryIdeal.defs₀
  refine congrArg Defs.onTc ?_
  funext l a
  match l, a with
  | 0, (t, s) => rfl

/-- and so one table of definitions. -/
theorem query_tables_eq : Cert.Query.defs (F := Bits) = Cert.QueryIdeal.defs := by
  unfold Cert.Query.defs Cert.QueryIdeal.defs
  rw [query_bodies_eq]
  rfl

theorem query_frame_kernel : Cert.quiescent_Query := fun m ρ _ => by
  rw [query_tables_eq]
  exact (θ_run Cert.QueryIdeal.defs _ _).mono (fun _ h => h) (Cert.QueryIdeal.Gen.frame (F := Bits) m ρ)

theorem query_frame_ideal : Cert.quiescent_QueryIdeal := fun m ρ _ => Cert.QueryIdeal.Gen.frame (F := Ideal) m ρ

theorem query_frame_reference : Cert.quiescent_QueryReferenceIdeal := fun m ρ _ =>
  (θ_run Cert.QueryReferenceIdeal.defs _ _).mono (fun r h => ⟨fun c => (h c).2, sem_eq_zero_of_no_sems (by decide) r.2⟩)
    (Cert.QueryReferenceIdeal.Part.run (F := Ideal) m ρ)

/-- The idealized kernel and its reference end with the same result, whatever the arguments. -/
theorem query_algebraic : Cert.algebraic_QueryIdeal_QueryReferenceIdeal := by
  intro m ρ m' ρ' _ hagree
  refine ⟨_, Cert.QueryIdeal.Part.run m ρ, ?_⟩
  refine (θ_run Cert.QueryReferenceIdeal.defs _ _).mono (fun _ h c => ⟨(h c).1.trans ?_, (h c).2⟩) (Cert.QueryReferenceIdeal.Part.run (F := Ideal) m' ρ')
  obtain ⟨h0, h1, h2⟩ := hagree c
  rw [h0, h1, h2]

theorem claim : Cert.Claim := ⟨Cert.Kernel.Gen.facts, Cert.KernelIdeal.Gen.facts, Cert.ReferenceIdeal.Gen.facts, Cert.Mlp.Gen.facts, Cert.MlpIdeal.Gen.facts,
  Cert.MlpReferenceIdeal.Gen.facts, Cert.Last.Gen.facts, Cert.LastIdeal.Gen.facts, Cert.LastReferenceIdeal.Gen.facts,
  Cert.Gate.Gen.facts, Cert.GateIdeal.Gen.facts, Cert.GateReferenceIdeal.Gen.facts, Cert.Entry.Gen.facts, Cert.EntryIdeal.Gen.facts, Cert.EntryReferenceIdeal.Gen.facts, Cert.Exit.Gen.facts, Cert.ExitIdeal.Gen.facts, Cert.ExitReferenceIdeal.Gen.facts, Cert.Attended.Gen.facts, Cert.AttendedIdeal.Gen.facts, Cert.AttendedReferenceIdeal.Gen.facts, Cert.KeyValue.Gen.facts, Cert.KeyValueIdeal.Gen.facts, Cert.KeyValueReferenceIdeal.Gen.facts, Cert.Query.Gen.facts, Cert.QueryIdeal.Gen.facts, Cert.QueryReferenceIdeal.Gen.facts,
  Cert.Pre_finite_inputs.Gen.facts,
  frame_kernel, frame_ideal, frame_ideal_pre, frame_reference, frame_reference_pre, ff_frame_kernel, ff_frame_ideal, ff_frame_reference,
  last_frame_kernel, last_frame_ideal, last_frame_reference,
  gate_frame_kernel, gate_frame_ideal, gate_frame_reference, entry_frame_kernel, entry_frame_ideal, entry_frame_reference, exit_frame_kernel, exit_frame_ideal, exit_frame_reference, attended_frame_kernel, attended_frame_ideal, attended_frame_reference, key_value_frame_kernel, key_value_frame_ideal, key_value_frame_reference, query_frame_kernel, query_frame_ideal, query_frame_reference,
  trivial, algebraic, trivial, ff_algebraic, trivial, last_algebraic,
  trivial, gate_algebraic, trivial, entry_algebraic, trivial, exit_algebraic, trivial, attended_algebraic, trivial, key_value_algebraic, trivial, query_algebraic⟩

end Cert.Proof

end
